-- ==== Defs.lean ====
def Pre_ScActBwd (m : (ℓ : Loc Cert.ScActBwd.nD Cert.ScActBwd.τ Cert.ScActBwd.sig) → Buf (Elt Bits) ℓ) : Prop :=
  True

def Pre_ScActBwdIdeal (m : (ℓ : Loc Cert.ScActBwdIdeal.nD Cert.ScActBwdIdeal.τ Cert.ScActBwdIdeal.sig) → Buf (Elt Ideal) ℓ) : Prop :=
  True

def Pre_ScActBwdRefIdeal (m : (ℓ : Loc Cert.ScActBwdRefIdeal.nD Cert.ScActBwdRefIdeal.τ Cert.ScActBwdRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_SsdOutDx (m : (ℓ : Loc Cert.SsdOutDx.nD Cert.SsdOutDx.τ Cert.SsdOutDx.sig) → Buf (Elt Bits) ℓ) : Prop :=
  True

def Pre_SsdOutDxIdeal (m : (ℓ : Loc Cert.SsdOutDxIdeal.nD Cert.SsdOutDxIdeal.τ Cert.SsdOutDxIdeal.sig) → Buf (Elt Ideal) ℓ) : Prop :=
  True

def Pre_SsdOutDxRefIdeal (m : (ℓ : Loc Cert.SsdOutDxRefIdeal.nD Cert.SsdOutDxRefIdeal.τ Cert.SsdOutDxRefIdeal.sig) → Buf (Elt Ideal) ℓ) : Prop :=
  True

def Pre_SsdOutDw (m : (ℓ : Loc Cert.SsdOutDw.nD Cert.SsdOutDw.τ Cert.SsdOutDw.sig) → Buf (Elt Bits) ℓ) : Prop :=
  True

def Pre_SsdOutDwIdeal (m : (ℓ : Loc Cert.SsdOutDwIdeal.nD Cert.SsdOutDwIdeal.τ Cert.SsdOutDwIdeal.sig) → Buf (Elt Ideal) ℓ) : Prop :=
  True

def Pre_SsdOutDwRefIdeal (m : (ℓ : Loc Cert.SsdOutDwRefIdeal.nD Cert.SsdOutDwRefIdeal.τ Cert.SsdOutDwRefIdeal.sig) → Buf (Elt Ideal) ℓ) : Prop :=
  True

def Pre_SsdInDw (m : (ℓ : Loc Cert.SsdInDw.nD Cert.SsdInDw.τ Cert.SsdInDw.sig) → Buf (Elt Bits) ℓ) : Prop :=
  True

def Pre_SsdInDwIdeal (m : (ℓ : Loc Cert.SsdInDwIdeal.nD Cert.SsdInDwIdeal.τ Cert.SsdInDwIdeal.sig) → Buf (Elt Ideal) ℓ) : Prop :=
  True

def Pre_SsdInDwRefIdeal (m : (ℓ : Loc Cert.SsdInDwRefIdeal.nD Cert.SsdInDwRefIdeal.τ Cert.SsdInDwRefIdeal.sig) → Buf (Elt Ideal) ℓ) : Prop :=
  True

def Pre_SsdInDx (m : (ℓ : Loc Cert.SsdInDx.nD Cert.SsdInDx.τ Cert.SsdInDx.sig) → Buf (Elt Bits) ℓ) : Prop :=
  True

def Pre_SsdInDxIdeal (m : (ℓ : Loc Cert.SsdInDxIdeal.nD Cert.SsdInDxIdeal.τ Cert.SsdInDxIdeal.sig) → Buf (Elt Ideal) ℓ) : Prop :=
  True

def Pre_SsdInDxRefIdeal (m : (ℓ : Loc Cert.SsdInDxRefIdeal.nD Cert.SsdInDxRefIdeal.τ Cert.SsdInDxRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScOut (m : (ℓ : Loc Cert.ScOut.nD Cert.ScOut.τ Cert.ScOut.sig) → Buf (Elt Bits) ℓ) : Prop :=
  True

def Pre_ScOutIdeal (m : (ℓ : Loc Cert.ScOutIdeal.nD Cert.ScOutIdeal.τ Cert.ScOutIdeal.sig) → Buf (Elt Ideal) ℓ) : Prop :=
  True

def Pre_ScOutRefIdeal (m : (ℓ : Loc Cert.ScOutRefIdeal.nD Cert.ScOutRefIdeal.τ Cert.ScOutRefIdeal.sig) → Buf (Elt Ideal) ℓ) : Prop :=
  True

def Pre_ScOutDx (m : (ℓ : Loc Cert.ScOutDx.nD Cert.ScOutDx.τ Cert.ScOutDx.sig) → Buf (Elt Bits) ℓ) : Prop :=
  True

def Pre_ScOutDxIdeal (m : (ℓ : Loc Cert.ScOutDxIdeal.nD Cert.ScOutDxIdeal.τ Cert.ScOutDxIdeal.sig) → Buf (Elt Ideal) ℓ) : Prop :=
  True

def Pre_ScOutDxRefIdeal (m : (ℓ : Loc Cert.ScOutDxRefIdeal.nD Cert.ScOutDxRefIdeal.τ Cert.ScOutDxRefIdeal.sig) → Buf (Elt Ideal) ℓ) : Prop :=
  True

def Pre_ScOutDw (m : (ℓ : Loc Cert.ScOutDw.nD Cert.ScOutDw.τ Cert.ScOutDw.sig) → Buf (Elt Bits) ℓ) : Prop :=
  True

def Pre_ScOutDwIdeal (m : (ℓ : Loc Cert.ScOutDwIdeal.nD Cert.ScOutDwIdeal.τ Cert.ScOutDwIdeal.sig) → Buf (Elt Ideal) ℓ) : Prop :=
  True

def Pre_ScOutDwRefIdeal (m : (ℓ : Loc Cert.ScOutDwRefIdeal.nD Cert.ScOutDwRefIdeal.τ Cert.ScOutDwRefIdeal.sig) → Buf (Elt Ideal) ℓ) : Prop :=
  True

def Pre_ScInDw (m : (ℓ : Loc Cert.ScInDw.nD Cert.ScInDw.τ Cert.ScInDw.sig) → Buf (Elt Bits) ℓ) : Prop :=
  True

def Pre_ScInDwIdeal (m : (ℓ : Loc Cert.ScInDwIdeal.nD Cert.ScInDwIdeal.τ Cert.ScInDwIdeal.sig) → Buf (Elt Ideal) ℓ) : Prop :=
  True

def Pre_ScInDwRefIdeal (m : (ℓ : Loc Cert.ScInDwRefIdeal.nD Cert.ScInDwRefIdeal.τ Cert.ScInDwRefIdeal.sig) → Buf (Elt Ideal) ℓ) : Prop :=
  True

def Pre_ScInDx (m : (ℓ : Loc Cert.ScInDx.nD Cert.ScInDx.τ Cert.ScInDx.sig) → Buf (Elt Bits) ℓ) : Prop :=
  True

def Pre_ScInDxIdeal (m : (ℓ : Loc Cert.ScInDxIdeal.nD Cert.ScInDxIdeal.τ Cert.ScInDxIdeal.sig) → Buf (Elt Ideal) ℓ) : Prop :=
  True

def Pre_ScInDxRefIdeal (m : (ℓ : Loc Cert.ScInDxRefIdeal.nD Cert.ScInDxRefIdeal.τ Cert.ScInDxRefIdeal.sig) → Buf (Elt Ideal) ℓ) : Prop :=
  True

def Pre_SsdCoreBwd (m : (ℓ : Loc Cert.SsdCoreBwd.nD Cert.SsdCoreBwd.τ Cert.SsdCoreBwd.sig) → Buf (Elt Bits) ℓ) : Prop :=
  True

def Pre_SsdCoreBwdIdeal (m : (ℓ : Loc Cert.SsdCoreBwdIdeal.nD Cert.SsdCoreBwdIdeal.τ Cert.SsdCoreBwdIdeal.sig) → Buf (Elt Ideal) ℓ) : Prop :=
  True

def Pre_SsdCoreBwdIdeal_finite [hPre_finite : Cert.Pre_finite.Facts] (m : (ℓ : Loc Cert.SsdCoreBwdIdeal.nD Cert.SsdCoreBwdIdeal.τ Cert.SsdCoreBwdIdeal.sig) → Buf (Elt Ideal) ℓ) : Prop :=
  ∀ c : Dev Cert.SsdCoreBwdIdeal.nD,
    (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.2.1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.2.2.1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.2.2.2.1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.2.2.2.2.1 = (fun _ => 1#1)
    ∧ (Cert.Pre_finite.fn (F := Ideal) (m ((c.tc : Thread Cert.SsdCoreBwdIdeal.nD Cert.SsdCoreBwdIdeal.τ).loc Cert.SsdCoreBwdIdeal.main_arg0)) (m ((c.tc : Thread Cert.SsdCoreBwdIdeal.nD Cert.SsdCoreBwdIdeal.τ).loc Cert.SsdCoreBwdIdeal.main_arg1)) (m ((c.tc : Thread Cert.SsdCoreBwdIdeal.nD Cert.SsdCoreBwdIdeal.τ).loc Cert.SsdCoreBwdIdeal.main_arg2)) (m ((c.tc : Thread Cert.SsdCoreBwdIdeal.nD Cert.SsdCoreBwdIdeal.τ).loc Cert.SsdCoreBwdIdeal.main_arg3)) (m ((c.tc : Thread Cert.SsdCoreBwdIdeal.nD Cert.SsdCoreBwdIdeal.τ).loc Cert.SsdCoreBwdIdeal.main_arg4)) (m ((c.tc : Thread Cert.SsdCoreBwdIdeal.nD Cert.SsdCoreBwdIdeal.τ).loc Cert.SsdCoreBwdIdeal.main_arg5)) (m ((c.tc : Thread Cert.SsdCoreBwdIdeal.nD Cert.SsdCoreBwdIdeal.τ).loc Cert.SsdCoreBwdIdeal.main_arg6))).2.2.2.2.2.2 = (fun _ => 1#1)

def Pre_SsdCoreBwdRefIdeal (m : (ℓ : Loc Cert.SsdCoreBwdRefIdeal.nD Cert.SsdCoreBwdRefIdeal.τ Cert.SsdCoreBwdRefIdeal.sig) → Buf (Elt Ideal) ℓ) : Prop :=
  True

def Pre_SsdCoreBwdRefIdeal_finite [hPre_finite : Cert.Pre_finite.Facts] (m : (ℓ : Loc Cert.SsdCoreBwdRefIdeal.nD Cert.SsdCoreBwdRefIdeal.τ Cert.SsdCoreBwdRefIdeal.sig) → Buf (Elt Ideal) ℓ) : Prop :=
  ∀ c : Dev Cert.SsdCoreBwdRefIdeal.nD,
    (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.2.1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.2.2.1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.2.2.2.1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.2.2.2.2.1 = (fun _ => 1#1)
    ∧ (Cert.Pre_finite.fn (F := Ideal) (m ((c.tc : Thread Cert.SsdCoreBwdRefIdeal.nD Cert.SsdCoreBwdRefIdeal.τ).loc Cert.SsdCoreBwdRefIdeal.main_arg0)) (m ((c.tc : Thread Cert.SsdCoreBwdRefIdeal.nD Cert.SsdCoreBwdRefIdeal.τ).loc Cert.SsdCoreBwdRefIdeal.main_arg1)) (m ((c.tc : Thread Cert.SsdCoreBwdRefIdeal.nD Cert.SsdCoreBwdRefIdeal.τ).loc Cert.SsdCoreBwdRefIdeal.main_arg2)) (m ((c.tc : Thread Cert.SsdCoreBwdRefIdeal.nD Cert.SsdCoreBwdRefIdeal.τ).loc Cert.SsdCoreBwdRefIdeal.main_arg3)) (m ((c.tc : Thread Cert.SsdCoreBwdRefIdeal.nD Cert.SsdCoreBwdRefIdeal.τ).loc Cert.SsdCoreBwdRefIdeal.main_arg4)) (m ((c.tc : Thread Cert.SsdCoreBwdRefIdeal.nD Cert.SsdCoreBwdRefIdeal.τ).loc Cert.SsdCoreBwdRefIdeal.main_arg5)) (m ((c.tc : Thread Cert.SsdCoreBwdRefIdeal.nD Cert.SsdCoreBwdRefIdeal.τ).loc Cert.SsdCoreBwdRefIdeal.main_arg6))).2.2.2.2.2.2 = (fun _ => 1#1)

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdIdeal_finite_ffn [hPre_finite_ffn : Cert.Pre_finite_ffn.Facts] (m : (ℓ : Loc Cert.FfnActBwdIdeal.nD Cert.FfnActBwdIdeal.τ Cert.FfnActBwdIdeal.sig) → Buf (Elt Ideal) ℓ) : Prop :=
  ∀ c : Dev Cert.FfnActBwdIdeal.nD,
    (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).1 = (fun _ => 1#1)
    ∧ (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.1 = (fun _ => 1#1)
    ∧ (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.2.1 = (fun _ => 1#1)
    ∧ (Cert.Pre_finite_ffn.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))).2.2.2 = (fun _ => 1#1)

def Pre_FfnActBwdRefIdeal (m : (ℓ : Loc Cert.FfnActBwdRefIdeal.nD Cert.FfnActBwdRefIdeal.τ Cert.FfnActBwdRefIdeal.sig) → Buf (Elt Ideal) ℓ) : Prop :=
  True

def Pre_FfnActBwdRefIdeal_finite_ffn [hPre_finite_ffn : Cert.Pre_finite_ffn.Facts] (m : (ℓ : Loc Cert.FfnActBwdRefIdeal.nD Cert.FfnActBwdRefIdeal.τ Cert.FfnActBwdRefIdeal.sig) → Buf (Elt Ideal) ℓ) : Prop :=
  ∀ c : Dev Cert.FfnActBwdRefIdeal.nD,
    (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).1 = (fun _ => 1#1)
    ∧ (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.1 = (fun _ => 1#1)
    ∧ (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.2.1 = (fun _ => 1#1)
    ∧ (Cert.Pre_finite_ffn.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))).2.2.2 = (fun _ => 1#1)

def Pre_FfnActFwd (m : (ℓ : Loc Cert.FfnActFwd.nD Cert.FfnActFwd.τ Cert.FfnActFwd.sig) → Buf (Elt Bits) ℓ) : Prop :=
  True

def Pre_FfnActFwdIdeal (m : (ℓ : Loc Cert.FfnActFwdIdeal.nD Cert.FfnActFwdIdeal.τ Cert.FfnActFwdIdeal.sig) → Buf (Elt Ideal) ℓ) : Prop :=
  True

def Pre_FfnActFwdRefIdeal (m : (ℓ : Loc Cert.FfnActFwdRefIdeal.nD Cert.FfnActFwdRefIdeal.τ Cert.FfnActFwdRefIdeal.sig) → Buf (Elt Ideal) ℓ) : Prop :=
  True

def Pre_ScActFwd (m : (ℓ : Loc Cert.ScActFwd.nD Cert.ScActFwd.τ Cert.ScActFwd.sig) → Buf (Elt Bits) ℓ) : Prop :=
  True

def Pre_ScActFwdIdeal (m : (ℓ : Loc Cert.ScActFwdIdeal.nD Cert.ScActFwdIdeal.τ Cert.ScActFwdIdeal.sig) → Buf (Elt Ideal) ℓ) : Prop :=
  True

def Pre_ScActFwdRefIdeal (m : (ℓ : Loc Cert.ScActFwdRefIdeal.nD Cert.ScActFwdRefIdeal.τ Cert.ScActFwdRefIdeal.sig) → Buf (Elt Ideal) ℓ) : Prop :=
  True

def Pre_SsdConvFwd (m : (ℓ : Loc Cert.SsdConvFwd.nD Cert.SsdConvFwd.τ Cert.SsdConvFwd.sig) → Buf (Elt Bits) ℓ) : Prop :=
  True

def Pre_SsdConvFwdIdeal (m : (ℓ : Loc Cert.SsdConvFwdIdeal.nD Cert.SsdConvFwdIdeal.τ Cert.SsdConvFwdIdeal.sig) → Buf (Elt Ideal) ℓ) : Prop :=
  True

def Pre_SsdConvFwdRefIdeal (m : (ℓ : Loc Cert.SsdConvFwdRefIdeal.nD Cert.SsdConvFwdRefIdeal.τ Cert.SsdConvFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SsdConvBwd (m : (ℓ : Loc Cert.SsdConvBwd.nD Cert.SsdConvBwd.τ Cert.SsdConvBwd.sig) → Buf (Elt Bits) ℓ) : Prop :=
  True

def Pre_SsdConvBwdIdeal (m : (ℓ : Loc Cert.SsdConvBwdIdeal.nD Cert.SsdConvBwdIdeal.τ Cert.SsdConvBwdIdeal.sig) → Buf (Elt Ideal) ℓ) : Prop :=
  True

def Pre_SsdConvBwdIdeal_finite_ct [hPre_finite_ct : Cert.Pre_finite_ct.Facts] (m : (ℓ : Loc Cert.SsdConvBwdIdeal.nD Cert.SsdConvBwdIdeal.τ Cert.SsdConvBwdIdeal.sig) → Buf (Elt Ideal) ℓ) : Prop :=
  ∀ c : Dev Cert.SsdConvBwdIdeal.nD,
    (Cert.Pre_finite_ct.fn (F := Ideal) (m ((c.tc : Thread Cert.SsdConvBwdIdeal.nD Cert.SsdConvBwdIdeal.τ).loc Cert.SsdConvBwdIdeal.main_arg0)) (m ((c.tc : Thread Cert.SsdConvBwdIdeal.nD Cert.SsdConvBwdIdeal.τ).loc Cert.SsdConvBwdIdeal.main_arg1)) (m ((c.tc : Thread Cert.SsdConvBwdIdeal.nD Cert.SsdConvBwdIdeal.τ).loc Cert.SsdConvBwdIdeal.main_arg2)) (m ((c.tc : Thread Cert.SsdConvBwdIdeal.nD Cert.SsdConvBwdIdeal.τ).loc Cert.SsdConvBwdIdeal.main_arg3)) (m ((c.tc : Thread Cert.SsdConvBwdIdeal.nD Cert.SsdConvBwdIdeal.τ).loc Cert.SsdConvBwdIdeal.main_arg4))) = (fun _ => 1#1)

def Pre_SsdConvBwdRefIdeal (m : (ℓ : Loc Cert.SsdConvBwdRefIdeal.nD Cert.SsdConvBwdRefIdeal.τ Cert.SsdConvBwdRefIdeal.sig) → Buf (Elt Ideal) ℓ) : Prop :=
  True

def Pre_SsdConvBwdRefIdeal_finite_ct [hPre_finite_ct : Cert.Pre_finite_ct.Facts] (m : (ℓ : Loc Cert.SsdConvBwdRefIdeal.nD Cert.SsdConvBwdRefIdeal.τ Cert.SsdConvBwdRefIdeal.sig) → Buf (Elt Ideal) ℓ) : Prop :=
  ∀ c : Dev Cert.SsdConvBwdRefIdeal.nD,
    (Cert.Pre_finite_ct.fn (F := Ideal) (m ((c.tc : Thread Cert.SsdConvBwdRefIdeal.nD Cert.SsdConvBwdRefIdeal.τ).loc Cert.SsdConvBwdRefIdeal.main_arg0)) (m ((c.tc : Thread Cert.SsdConvBwdRefIdeal.nD Cert.SsdConvBwdRefIdeal.τ).loc Cert.SsdConvBwdRefIdeal.main_arg1)) (m ((c.tc : Thread Cert.SsdConvBwdRefIdeal.nD Cert.SsdConvBwdRefIdeal.τ).loc Cert.SsdConvBwdRefIdeal.main_arg2)) (m ((c.tc : Thread Cert.SsdConvBwdRefIdeal.nD Cert.SsdConvBwdRefIdeal.τ).loc Cert.SsdConvBwdRefIdeal.main_arg3)) (m ((c.tc : Thread Cert.SsdConvBwdRefIdeal.nD Cert.SsdConvBwdRefIdeal.τ).loc Cert.SsdConvBwdRefIdeal.main_arg4))) = (fun _ => 1#1)

def Pre_SsdPutDdt (m : (ℓ : Loc Cert.SsdPutDdt.nD Cert.SsdPutDdt.τ Cert.SsdPutDdt.sig) → Buf (Elt Bits) ℓ) : Prop :=
  True

def Pre_SsdPutDdtIdeal (m : (ℓ : Loc Cert.SsdPutDdtIdeal.nD Cert.SsdPutDdtIdeal.τ Cert.SsdPutDdtIdeal.sig) → Buf (Elt Ideal) ℓ) : Prop :=
  True

def Pre_SsdPutDdtRefIdeal (m : (ℓ : Loc Cert.SsdPutDdtRefIdeal.nD Cert.SsdPutDdtRefIdeal.τ Cert.SsdPutDdtRefIdeal.sig) → Buf (Elt Ideal) ℓ) : Prop :=
  True

def quiescent_ScActBwd [hScActBwd : Cert.ScActBwd.Facts] : Prop :=
  ∀ (m : (ℓ : Loc Cert.ScActBwd.nD Cert.ScActBwd.τ Cert.ScActBwd.sig) → Buf (Elt Bits) ℓ) (g : Dev Cert.ScActBwd.nD → PrngReg), Pre_ScActBwd m →
    θ_run (Cert.ScActBwd.defs (F := Bits)) (onTc (τ := Cert.ScActBwd.τ) (Cert.ScActBwd.main (F := Bits))) ⟨m, fun _ => 0, g⟩ (fun r => (∀ c : Dev Cert.ScActBwd.nD,
      r.2.mem ((c.tc : Thread Cert.ScActBwd.nD Cert.ScActBwd.τ).loc Cert.ScActBwd.main_arg0) = m ((c.tc : Thread Cert.ScActBwd.nD Cert.ScActBwd.τ).loc Cert.ScActBwd.main_arg0)
      ∧ r.2.mem ((c.tc : Thread Cert.ScActBwd.nD Cert.ScActBwd.τ).loc Cert.ScActBwd.main_arg1) = m ((c.tc : Thread Cert.ScActBwd.nD Cert.ScActBwd.τ).loc Cert.ScActBwd.main_arg1)
      ∧ r.2.mem ((c.tc : Thread Cert.ScActBwd.nD Cert.ScActBwd.τ).loc Cert.ScActBwd.main_arg2) = m ((c.tc : Thread Cert.ScActBwd.nD Cert.ScActBwd.τ).loc Cert.ScActBwd.main_arg2))
      ∧ r.2.sem = fun _ => 0)

def quiescent_ScActBwdIdeal [hScActBwdIdeal : Cert.ScActBwdIdeal.Facts] : Prop :=
  ∀ (m : (ℓ : Loc Cert.ScActBwdIdeal.nD Cert.ScActBwdIdeal.τ Cert.ScActBwdIdeal.sig) → Buf (Elt Ideal) ℓ) (g : Dev Cert.ScActBwdIdeal.nD → PrngReg), Pre_ScActBwdIdeal m →
    θ_run (Cert.ScActBwdIdeal.defs (F := Ideal)) (onTc (τ := Cert.ScActBwdIdeal.τ) (Cert.ScActBwdIdeal.main (F := Ideal))) ⟨m, fun _ => 0, g⟩ (fun r => (∀ c : Dev Cert.ScActBwdIdeal.nD,
      r.2.mem ((c.tc : Thread Cert.ScActBwdIdeal.nD Cert.ScActBwdIdeal.τ).loc Cert.ScActBwdIdeal.main_arg0) = m ((c.tc : Thread Cert.ScActBwdIdeal.nD Cert.ScActBwdIdeal.τ).loc Cert.ScActBwdIdeal.main_arg0)
      ∧ r.2.mem ((c.tc : Thread Cert.ScActBwdIdeal.nD Cert.ScActBwdIdeal.τ).loc Cert.ScActBwdIdeal.main_arg1) = m ((c.tc : Thread Cert.ScActBwdIdeal.nD Cert.ScActBwdIdeal.τ).loc Cert.ScActBwdIdeal.main_arg1)
      ∧ r.2.mem ((c.tc : Thread Cert.ScActBwdIdeal.nD Cert.ScActBwdIdeal.τ).loc Cert.ScActBwdIdeal.main_arg2) = m ((c.tc : Thread Cert.ScActBwdIdeal.nD Cert.ScActBwdIdeal.τ).loc Cert.ScActBwdIdeal.main_arg2))
      ∧ r.2.sem = fun _ => 0)

def quiescent_ScActBwdRefIdeal [hScActBwdRefIdeal : Cert.ScActBwdRefIdeal.Facts] : Prop :=
  ∀ (m : (ℓ : Loc Cert.ScActBwdRefIdeal.nD Cert.ScActBwdRefIdeal.τ Cert.ScActBwdRefIdeal.sig) → Buf (Elt Ideal) ℓ) (g : Dev Cert.ScActBwdRefIdeal.nD → PrngReg), Pre_ScActBwdRefIdeal m →
    θ_run (Cert.ScActBwdRefIdeal.defs (F := Ideal)) (onTc (τ := Cert.ScActBwdRefIdeal.τ) (Cert.ScActBwdRefIdeal.main (F := Ideal))) ⟨m, fun _ => 0, g⟩ (fun r => (∀ c : Dev Cert.ScActBwdRefIdeal.nD,
      r.2.mem ((c.tc : Thread Cert.ScActBwdRefIdeal.nD Cert.ScActBwdRefIdeal.τ).loc Cert.ScActBwdRefIdeal.main_arg0) = m ((c.tc : Thread Cert.ScActBwdRefIdeal.nD Cert.ScActBwdRefIdeal.τ).loc Cert.ScActBwdRefIdeal.main_arg0)
      ∧ r.2.mem ((c.tc : Thread Cert.ScActBwdRefIdeal.nD Cert.ScActBwdRefIdeal.τ).loc Cert.ScActBwdRefIdeal.main_arg1) = m ((c.tc : Thread Cert.ScActBwdRefIdeal.nD Cert.ScActBwdRefIdeal.τ).loc Cert.ScActBwdRefIdeal.main_arg1)
      ∧ r.2.mem ((c.tc : Thread Cert.ScActBwdRefIdeal.nD Cert.ScActBwdRefIdeal.τ).loc Cert.ScActBwdRefIdeal.main_arg2) = m ((c.tc : Thread Cert.ScActBwdRefIdeal.nD Cert.ScActBwdRefIdeal.τ).loc Cert.ScActBwdRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2))
      ∧ r.2.sem = fun _ => 0)

def quiescent_SsdOutDx [hSsdOutDx : Cert.SsdOutDx.Facts] : Prop :=
  ∀ (m : (ℓ : Loc Cert.SsdOutDx.nD Cert.SsdOutDx.τ Cert.SsdOutDx.sig) → Buf (Elt Bits) ℓ) (g : Dev Cert.SsdOutDx.nD → PrngReg), Pre_SsdOutDx m →
    θ_run (Cert.SsdOutDx.defs (F := Bits)) (onTc (τ := Cert.SsdOutDx.τ) (Cert.SsdOutDx.main (F := Bits))) ⟨m, fun _ => 0, g⟩ (fun r => (∀ c : Dev Cert.SsdOutDx.nD,
      r.2.mem ((c.tc : Thread Cert.SsdOutDx.nD Cert.SsdOutDx.τ).loc Cert.SsdOutDx.main_arg0) = m ((c.tc : Thread Cert.SsdOutDx.nD Cert.SsdOutDx.τ).loc Cert.SsdOutDx.main_arg0)
      ∧ r.2.mem ((c.tc : Thread Cert.SsdOutDx.nD Cert.SsdOutDx.τ).loc Cert.SsdOutDx.main_arg1) = m ((c.tc : Thread Cert.SsdOutDx.nD Cert.SsdOutDx.τ).loc Cert.SsdOutDx.main_arg1))
      ∧ r.2.sem = fun _ => 0)

def quiescent_SsdOutDxIdeal [hSsdOutDxIdeal : Cert.SsdOutDxIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg), Pre_SsdOutDxIdeal m →
    θ_run (Cert.SsdOutDxIdeal.defs (F := Ideal)) (onTc (τ := Cert.SsdOutDxIdeal.τ) (Cert.SsdOutDxIdeal.main (F := Ideal))) ⟨m, fun _ => 0, g⟩ (fun r => (∀ c : Dev Cert.SsdOutDxIdeal.nD,
      r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
      ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ r.2.sem = fun _ => 0)

def quiescent_SsdOutDxRefIdeal [hSsdOutDxRefIdeal : Cert.SsdOutDxRefIdeal.Facts] : Prop :=
  ∀ (m : (ℓ : Loc Cert.SsdOutDxRefIdeal.nD Cert.SsdOutDxRefIdeal.τ Cert.SsdOutDxRefIdeal.sig) → Buf (Elt Ideal) ℓ) (g : Dev Cert.SsdOutDxRefIdeal.nD → PrngReg), Pre_SsdOutDxRefIdeal m →
    θ_run (Cert.SsdOutDxRefIdeal.defs (F := Ideal)) (onTc (τ := Cert.SsdOutDxRefIdeal.τ) (Cert.SsdOutDxRefIdeal.main (F := Ideal))) ⟨m, fun _ => 0, g⟩ (fun r => (∀ c : Dev Cert.SsdOutDxRefIdeal.nD,
      r.2.mem ((c.tc : Thread Cert.SsdOutDxRefIdeal.nD Cert.SsdOutDxRefIdeal.τ).loc Cert.SsdOutDxRefIdeal.main_arg0) = m ((c.tc : Thread Cert.SsdOutDxRefIdeal.nD Cert.SsdOutDxRefIdeal.τ).loc Cert.SsdOutDxRefIdeal.main_arg0)
      ∧ r.2.mem ((c.tc : Thread Cert.SsdOutDxRefIdeal.nD Cert.SsdOutDxRefIdeal.τ).loc Cert.SsdOutDxRefIdeal.main_arg1) = m ((c.tc : Thread Cert.SsdOutDxRefIdeal.nD Cert.SsdOutDxRefIdeal.τ).loc Cert.SsdOutDxRefIdeal.main_arg1))
      ∧ r.2.sem = fun _ => 0)

def quiescent_SsdOutDw [hSsdOutDw : Cert.SsdOutDw.Facts] : Prop :=
  ∀ (m : (ℓ : Loc Cert.SsdOutDw.nD Cert.SsdOutDw.τ Cert.SsdOutDw.sig) → Buf (Elt Bits) ℓ) (g : Dev Cert.SsdOutDw.nD → PrngReg), Pre_SsdOutDw m →
    θ_run (Cert.SsdOutDw.defs (F := Bits)) (onTc (τ := Cert.SsdOutDw.τ) (Cert.SsdOutDw.main (F := Bits))) ⟨m, fun _ => 0, g⟩ (fun r => (∀ c : Dev Cert.SsdOutDw.nD,
      r.2.mem ((c.tc : Thread Cert.SsdOutDw.nD Cert.SsdOutDw.τ).loc Cert.SsdOutDw.main_arg0) = m ((c.tc : Thread Cert.SsdOutDw.nD Cert.SsdOutDw.τ).loc Cert.SsdOutDw.main_arg0)
      ∧ r.2.mem ((c.tc : Thread Cert.SsdOutDw.nD Cert.SsdOutDw.τ).loc Cert.SsdOutDw.main_arg1) = m ((c.tc : Thread Cert.SsdOutDw.nD Cert.SsdOutDw.τ).loc Cert.SsdOutDw.main_arg1))
      ∧ r.2.sem = fun _ => 0)

def quiescent_SsdOutDwIdeal [hSsdOutDwIdeal : Cert.SsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg), Pre_SsdOutDwIdeal m →
    θ_run (Cert.SsdOutDwIdeal.defs (F := Ideal)) (onTc (τ := Cert.SsdOutDwIdeal.τ) (Cert.SsdOutDwIdeal.main (F := Ideal))) ⟨m, fun _ => 0, g⟩ (fun r => (∀ c : Dev Cert.SsdOutDwIdeal.nD,
      r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
      ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ r.2.sem = fun _ => 0)

def quiescent_SsdOutDwRefIdeal [hSsdOutDwRefIdeal : Cert.SsdOutDwRefIdeal.Facts] : Prop :=
  ∀ (m : (ℓ : Loc Cert.SsdOutDwRefIdeal.nD Cert.SsdOutDwRefIdeal.τ Cert.SsdOutDwRefIdeal.sig) → Buf (Elt Ideal) ℓ) (g : Dev Cert.SsdOutDwRefIdeal.nD → PrngReg), Pre_SsdOutDwRefIdeal m →
    θ_run (Cert.SsdOutDwRefIdeal.defs (F := Ideal)) (onTc (τ := Cert.SsdOutDwRefIdeal.τ) (Cert.SsdOutDwRefIdeal.main (F := Ideal))) ⟨m, fun _ => 0, g⟩ (fun r => (∀ c : Dev Cert.SsdOutDwRefIdeal.nD,
      r.2.mem ((c.tc : Thread Cert.SsdOutDwRefIdeal.nD Cert.SsdOutDwRefIdeal.τ).loc Cert.SsdOutDwRefIdeal.main_arg0) = m ((c.tc : Thread Cert.SsdOutDwRefIdeal.nD Cert.SsdOutDwRefIdeal.τ).loc Cert.SsdOutDwRefIdeal.main_arg0)
      ∧ r.2.mem ((c.tc : Thread Cert.SsdOutDwRefIdeal.nD Cert.SsdOutDwRefIdeal.τ).loc Cert.SsdOutDwRefIdeal.main_arg1) = m ((c.tc : Thread Cert.SsdOutDwRefIdeal.nD Cert.SsdOutDwRefIdeal.τ).loc Cert.SsdOutDwRefIdeal.main_arg1))
      ∧ r.2.sem = fun _ => 0)

def quiescent_SsdInDw [hSsdInDw : Cert.SsdInDw.Facts] : Prop :=
  ∀ (m : (ℓ : Loc Cert.SsdInDw.nD Cert.SsdInDw.τ Cert.SsdInDw.sig) → Buf (Elt Bits) ℓ) (g : Dev Cert.SsdInDw.nD → PrngReg), Pre_SsdInDw m →
    θ_run (Cert.SsdInDw.defs (F := Bits)) (onTc (τ := Cert.SsdInDw.τ) (Cert.SsdInDw.main (F := Bits))) ⟨m, fun _ => 0, g⟩ (fun r => (∀ c : Dev Cert.SsdInDw.nD,
      r.2.mem ((c.tc : Thread Cert.SsdInDw.nD Cert.SsdInDw.τ).loc Cert.SsdInDw.main_arg0) = m ((c.tc : Thread Cert.SsdInDw.nD Cert.SsdInDw.τ).loc Cert.SsdInDw.main_arg0)
      ∧ r.2.mem ((c.tc : Thread Cert.SsdInDw.nD Cert.SsdInDw.τ).loc Cert.SsdInDw.main_arg1) = m ((c.tc : Thread Cert.SsdInDw.nD Cert.SsdInDw.τ).loc Cert.SsdInDw.main_arg1))
      ∧ r.2.sem = fun _ => 0)

def quiescent_SsdInDwIdeal [hSsdInDwIdeal : Cert.SsdInDwIdeal.Facts] : Prop :=
  ∀ (m : (ℓ : Loc Cert.SsdInDwIdeal.nD Cert.SsdInDwIdeal.τ Cert.SsdInDwIdeal.sig) → Buf (Elt Ideal) ℓ) (g : Dev Cert.SsdInDwIdeal.nD → PrngReg), Pre_SsdInDwIdeal m →
    θ_run (Cert.SsdInDwIdeal.defs (F := Ideal)) (onTc (τ := Cert.SsdInDwIdeal.τ) (Cert.SsdInDwIdeal.main (F := Ideal))) ⟨m, fun _ => 0, g⟩ (fun r => (∀ c : Dev Cert.SsdInDwIdeal.nD,
      r.2.mem ((c.tc : Thread Cert.SsdInDwIdeal.nD Cert.SsdInDwIdeal.τ).loc Cert.SsdInDwIdeal.main_arg0) = m ((c.tc : Thread Cert.SsdInDwIdeal.nD Cert.SsdInDwIdeal.τ).loc Cert.SsdInDwIdeal.main_arg0)
      ∧ r.2.mem ((c.tc : Thread Cert.SsdInDwIdeal.nD Cert.SsdInDwIdeal.τ).loc Cert.SsdInDwIdeal.main_arg1) = m ((c.tc : Thread Cert.SsdInDwIdeal.nD Cert.SsdInDwIdeal.τ).loc Cert.SsdInDwIdeal.main_arg1))
      ∧ r.2.sem = fun _ => 0)

def quiescent_SsdInDwRefIdeal [hSsdInDwRefIdeal : Cert.SsdInDwRefIdeal.Facts] : Prop :=
  ∀ (m : (ℓ : Loc Cert.SsdInDwRefIdeal.nD Cert.SsdInDwRefIdeal.τ Cert.SsdInDwRefIdeal.sig) → Buf (Elt Ideal) ℓ) (g : Dev Cert.SsdInDwRefIdeal.nD → PrngReg), Pre_SsdInDwRefIdeal m →
    θ_run (Cert.SsdInDwRefIdeal.defs (F := Ideal)) (onTc (τ := Cert.SsdInDwRefIdeal.τ) (Cert.SsdInDwRefIdeal.main (F := Ideal))) ⟨m, fun _ => 0, g⟩ (fun r => (∀ c : Dev Cert.SsdInDwRefIdeal.nD,
      r.2.mem ((c.tc : Thread Cert.SsdInDwRefIdeal.nD Cert.SsdInDwRefIdeal.τ).loc Cert.SsdInDwRefIdeal.main_arg0) = m ((c.tc : Thread Cert.SsdInDwRefIdeal.nD Cert.SsdInDwRefIdeal.τ).loc Cert.SsdInDwRefIdeal.main_arg0)
      ∧ r.2.mem ((c.tc : Thread Cert.SsdInDwRefIdeal.nD Cert.SsdInDwRefIdeal.τ).loc Cert.SsdInDwRefIdeal.main_arg1) = m ((c.tc : Thread Cert.SsdInDwRefIdeal.nD Cert.SsdInDwRefIdeal.τ).loc Cert.SsdInDwRefIdeal.main_arg1))
      ∧ r.2.sem = fun _ => 0)

def quiescent_SsdInDx [hSsdInDx : Cert.SsdInDx.Facts] : Prop :=
  ∀ (m : (ℓ : Loc Cert.SsdInDx.nD Cert.SsdInDx.τ Cert.SsdInDx.sig) → Buf (Elt Bits) ℓ) (g : Dev Cert.SsdInDx.nD → PrngReg), Pre_SsdInDx m →
    θ_run (Cert.SsdInDx.defs (F := Bits)) (onTc (τ := Cert.SsdInDx.τ) (Cert.SsdInDx.main (F := Bits))) ⟨m, fun _ => 0, g⟩ (fun r => (∀ c : Dev Cert.SsdInDx.nD,
      r.2.mem ((c.tc : Thread Cert.SsdInDx.nD Cert.SsdInDx.τ).loc Cert.SsdInDx.main_arg0) = m ((c.tc : Thread Cert.SsdInDx.nD Cert.SsdInDx.τ).loc Cert.SsdInDx.main_arg0)
      ∧ r.2.mem ((c.tc : Thread Cert.SsdInDx.nD Cert.SsdInDx.τ).loc Cert.SsdInDx.main_arg1) = m ((c.tc : Thread Cert.SsdInDx.nD Cert.SsdInDx.τ).loc Cert.SsdInDx.main_arg1))
      ∧ r.2.sem = fun _ => 0)

def quiescent_SsdInDxIdeal [hSsdInDxIdeal : Cert.SsdInDxIdeal.Facts] : Prop :=
  ∀ (m : (ℓ : Loc Cert.SsdInDxIdeal.nD Cert.SsdInDxIdeal.τ Cert.SsdInDxIdeal.sig) → Buf (Elt Ideal) ℓ) (g : Dev Cert.SsdInDxIdeal.nD → PrngReg), Pre_SsdInDxIdeal m →
    θ_run (Cert.SsdInDxIdeal.defs (F := Ideal)) (onTc (τ := Cert.SsdInDxIdeal.τ) (Cert.SsdInDxIdeal.main (F := Ideal))) ⟨m, fun _ => 0, g⟩ (fun r => (∀ c : Dev Cert.SsdInDxIdeal.nD,
      r.2.mem ((c.tc : Thread Cert.SsdInDxIdeal.nD Cert.SsdInDxIdeal.τ).loc Cert.SsdInDxIdeal.main_arg0) = m ((c.tc : Thread Cert.SsdInDxIdeal.nD Cert.SsdInDxIdeal.τ).loc Cert.SsdInDxIdeal.main_arg0)
      ∧ r.2.mem ((c.tc : Thread Cert.SsdInDxIdeal.nD Cert.SsdInDxIdeal.τ).loc Cert.SsdInDxIdeal.main_arg1) = m ((c.tc : Thread Cert.SsdInDxIdeal.nD Cert.SsdInDxIdeal.τ).loc Cert.SsdInDxIdeal.main_arg1))
      ∧ r.2.sem = fun _ => 0)

def quiescent_SsdInDxRefIdeal [hSsdInDxRefIdeal : Cert.SsdInDxRefIdeal.Facts] : Prop :=
  ∀ (m : (ℓ : Loc Cert.SsdInDxRefIdeal.nD Cert.SsdInDxRefIdeal.τ Cert.SsdInDxRefIdeal.sig) → Buf (Elt Ideal) ℓ) (g : Dev Cert.SsdInDxRefIdeal.nD → PrngReg), Pre_SsdInDxRefIdeal m →
    θ_run (Cert.SsdInDxRefIdeal.defs (F := Ideal)) (onTc (τ := Cert.SsdInDxRefIdeal.τ) (Cert.SsdInDxRefIdeal.main (F := Ideal))) ⟨m, fun _ => 0, g⟩ (fun r => (∀ c : Dev Cert.SsdInDxRefIdeal.nD,
      r.2.mem ((c.tc : Thread Cert.SsdInDxRefIdeal.nD Cert.SsdInDxRefIdeal.τ).loc Cert.SsdInDxRefIdeal.main_arg0) = m ((c.tc : Thread Cert.SsdInDxRefIdeal.nD Cert.SsdInDxRefIdeal.τ).loc Cert.SsdInDxRefIdeal.main_arg0)
      ∧ r.2.mem ((c.tc : Thread Cert.SsdInDxRefIdeal.nD Cert.SsdInDxRefIdeal.τ).loc Cert.SsdInDxRefIdeal.main_arg1) = m ((c.tc : Thread Cert.SsdInDxRefIdeal.nD Cert.SsdInDxRefIdeal.τ).loc Cert.SsdInDxRefIdeal.main_arg1))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScOut [hScOut : Cert.ScOut.Facts] : Prop :=
  ∀ (m : (ℓ : Loc Cert.ScOut.nD Cert.ScOut.τ Cert.ScOut.sig) → Buf (Elt Bits) ℓ) (g : Dev Cert.ScOut.nD → PrngReg), Pre_ScOut m →
    θ_run (Cert.ScOut.defs (F := Bits)) (onTc (τ := Cert.ScOut.τ) (Cert.ScOut.main (F := Bits))) ⟨m, fun _ => 0, g⟩ (fun r => (∀ c : Dev Cert.ScOut.nD,
      r.2.mem ((c.tc : Thread Cert.ScOut.nD Cert.ScOut.τ).loc Cert.ScOut.main_arg0) = m ((c.tc : Thread Cert.ScOut.nD Cert.ScOut.τ).loc Cert.ScOut.main_arg0)
      ∧ r.2.mem ((c.tc : Thread Cert.ScOut.nD Cert.ScOut.τ).loc Cert.ScOut.main_arg1) = m ((c.tc : Thread Cert.ScOut.nD Cert.ScOut.τ).loc Cert.ScOut.main_arg1)
      ∧ r.2.mem ((c.tc : Thread Cert.ScOut.nD Cert.ScOut.τ).loc Cert.ScOut.main_arg2) = m ((c.tc : Thread Cert.ScOut.nD Cert.ScOut.τ).loc Cert.ScOut.main_arg2))
      ∧ r.2.sem = fun _ => 0)

def quiescent_ScOutIdeal [hScOutIdeal : Cert.ScOutIdeal.Facts] : Prop :=
  ∀ (m : (ℓ : Loc Cert.ScOutIdeal.nD Cert.ScOutIdeal.τ Cert.ScOutIdeal.sig) → Buf (Elt Ideal) ℓ) (g : Dev Cert.ScOutIdeal.nD → PrngReg), Pre_ScOutIdeal m →
    θ_run (Cert.ScOutIdeal.defs (F := Ideal)) (onTc (τ := Cert.ScOutIdeal.τ) (Cert.ScOutIdeal.main (F := Ideal))) ⟨m, fun _ => 0, g⟩ (fun r => (∀ c : Dev Cert.ScOutIdeal.nD,
      r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
      ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1)
      ∧ r.2.mem ((c.tc : Thread Cert.ScOutIdeal.nD Cert.ScOutIdeal.τ).loc Cert.ScOutIdeal.main_arg2) = m ((c.tc : Thread Cert.ScOutIdeal.nD Cert.ScOutIdeal.τ).loc Cert.ScOutIdeal.main_arg2))
      ∧ r.2.sem = fun _ => 0)

def quiescent_ScOutRefIdeal [hScOutRefIdeal : Cert.ScOutRefIdeal.Facts] : Prop :=
  ∀ (m : (ℓ : Loc Cert.ScOutRefIdeal.nD Cert.ScOutRefIdeal.τ Cert.ScOutRefIdeal.sig) → Buf (Elt Ideal) ℓ) (g : Dev Cert.ScOutRefIdeal.nD → PrngReg), Pre_ScOutRefIdeal m →
    θ_run (Cert.ScOutRefIdeal.defs (F := Ideal)) (onTc (τ := Cert.ScOutRefIdeal.τ) (Cert.ScOutRefIdeal.main (F := Ideal))) ⟨m, fun _ => 0, g⟩ (fun r => (∀ c : Dev Cert.ScOutRefIdeal.nD,
      r.2.mem ((c.tc : Thread Cert.ScOutRefIdeal.nD Cert.ScOutRefIdeal.τ).loc Cert.ScOutRefIdeal.main_arg0) = m ((c.tc : Thread Cert.ScOutRefIdeal.nD Cert.ScOutRefIdeal.τ).loc Cert.ScOutRefIdeal.main_arg0)
      ∧ r.2.mem ((c.tc : Thread Cert.ScOutRefIdeal.nD Cert.ScOutRefIdeal.τ).loc Cert.ScOutRefIdeal.main_arg1) = m ((c.tc : Thread Cert.ScOutRefIdeal.nD Cert.ScOutRefIdeal.τ).loc Cert.ScOutRefIdeal.main_arg1)
      ∧ r.2.mem ((c.tc : Thread Cert.ScOutRefIdeal.nD Cert.ScOutRefIdeal.τ).loc Cert.ScOutRefIdeal.main_arg2) = m ((c.tc : Thread Cert.ScOutRefIdeal.nD Cert.ScOutRefIdeal.τ).loc Cert.ScOutRefIdeal.main_arg2))
      ∧ r.2.sem = fun _ => 0)

def quiescent_ScOutDx [hScOutDx : Cert.ScOutDx.Facts] : Prop :=
  ∀ (m : (ℓ : Loc Cert.ScOutDx.nD Cert.ScOutDx.τ Cert.ScOutDx.sig) → Buf (Elt Bits) ℓ) (g : Dev Cert.ScOutDx.nD → PrngReg), Pre_ScOutDx m →
    θ_run (Cert.ScOutDx.defs (F := Bits)) (onTc (τ := Cert.ScOutDx.τ) (Cert.ScOutDx.main (F := Bits))) ⟨m, fun _ => 0, g⟩ (fun r => (∀ c : Dev Cert.ScOutDx.nD,
      r.2.mem ((c.tc : Thread Cert.ScOutDx.nD Cert.ScOutDx.τ).loc Cert.ScOutDx.main_arg0) = m ((c.tc : Thread Cert.ScOutDx.nD Cert.ScOutDx.τ).loc Cert.ScOutDx.main_arg0)
      ∧ r.2.mem ((c.tc : Thread Cert.ScOutDx.nD Cert.ScOutDx.τ).loc Cert.ScOutDx.main_arg1) = m ((c.tc : Thread Cert.ScOutDx.nD Cert.ScOutDx.τ).loc Cert.ScOutDx.main_arg1))
      ∧ r.2.sem = fun _ => 0)

def quiescent_ScOutDxIdeal [hScOutDxIdeal : Cert.ScOutDxIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg), Pre_ScOutDxIdeal m →
    θ_run (Cert.ScOutDxIdeal.defs (F := Ideal)) (onTc (τ := Cert.ScOutDxIdeal.τ) (Cert.ScOutDxIdeal.main (F := Ideal))) ⟨m, fun _ => 0, g⟩ (fun r => (∀ c : Dev Cert.ScOutDxIdeal.nD,
      r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
      ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ r.2.sem = fun _ => 0)

def quiescent_ScOutDxRefIdeal [hScOutDxRefIdeal : Cert.ScOutDxRefIdeal.Facts] : Prop :=
  ∀ (m : (ℓ : Loc Cert.ScOutDxRefIdeal.nD Cert.ScOutDxRefIdeal.τ Cert.ScOutDxRefIdeal.sig) → Buf (Elt Ideal) ℓ) (g : Dev Cert.ScOutDxRefIdeal.nD → PrngReg), Pre_ScOutDxRefIdeal m →
    θ_run (Cert.ScOutDxRefIdeal.defs (F := Ideal)) (onTc (τ := Cert.ScOutDxRefIdeal.τ) (Cert.ScOutDxRefIdeal.main (F := Ideal))) ⟨m, fun _ => 0, g⟩ (fun r => (∀ c : Dev Cert.ScOutDxRefIdeal.nD,
      r.2.mem ((c.tc : Thread Cert.ScOutDxRefIdeal.nD Cert.ScOutDxRefIdeal.τ).loc Cert.ScOutDxRefIdeal.main_arg0) = m ((c.tc : Thread Cert.ScOutDxRefIdeal.nD Cert.ScOutDxRefIdeal.τ).loc Cert.ScOutDxRefIdeal.main_arg0)
      ∧ r.2.mem ((c.tc : Thread Cert.ScOutDxRefIdeal.nD Cert.ScOutDxRefIdeal.τ).loc Cert.ScOutDxRefIdeal.main_arg1) = m ((c.tc : Thread Cert.ScOutDxRefIdeal.nD Cert.ScOutDxRefIdeal.τ).loc Cert.ScOutDxRefIdeal.main_arg1))
      ∧ r.2.sem = fun _ => 0)

def quiescent_ScOutDw [hScOutDw : Cert.ScOutDw.Facts] : Prop :=
  ∀ (m : (ℓ : Loc Cert.ScOutDw.nD Cert.ScOutDw.τ Cert.ScOutDw.sig) → Buf (Elt Bits) ℓ) (g : Dev Cert.ScOutDw.nD → PrngReg), Pre_ScOutDw m →
    θ_run (Cert.ScOutDw.defs (F := Bits)) (onTc (τ := Cert.ScOutDw.τ) (Cert.ScOutDw.main (F := Bits))) ⟨m, fun _ => 0, g⟩ (fun r => (∀ c : Dev Cert.ScOutDw.nD,
      r.2.mem ((c.tc : Thread Cert.ScOutDw.nD Cert.ScOutDw.τ).loc Cert.ScOutDw.main_arg0) = m ((c.tc : Thread Cert.ScOutDw.nD Cert.ScOutDw.τ).loc Cert.ScOutDw.main_arg0)
      ∧ r.2.mem ((c.tc : Thread Cert.ScOutDw.nD Cert.ScOutDw.τ).loc Cert.ScOutDw.main_arg1) = m ((c.tc : Thread Cert.ScOutDw.nD Cert.ScOutDw.τ).loc Cert.ScOutDw.main_arg1))
      ∧ r.2.sem = fun _ => 0)

def quiescent_ScOutDwIdeal [hScOutDwIdeal : Cert.ScOutDwIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg), Pre_ScOutDwIdeal m →
    θ_run (Cert.ScOutDwIdeal.defs (F := Ideal)) (onTc (τ := Cert.ScOutDwIdeal.τ) (Cert.ScOutDwIdeal.main (F := Ideal))) ⟨m, fun _ => 0, g⟩ (fun r => (∀ c : Dev Cert.ScOutDwIdeal.nD,
      r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
      ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ r.2.sem = fun _ => 0)

def quiescent_ScOutDwRefIdeal [hScOutDwRefIdeal : Cert.ScOutDwRefIdeal.Facts] : Prop :=
  ∀ (m : (ℓ : Loc Cert.ScOutDwRefIdeal.nD Cert.ScOutDwRefIdeal.τ Cert.ScOutDwRefIdeal.sig) → Buf (Elt Ideal) ℓ) (g : Dev Cert.ScOutDwRefIdeal.nD → PrngReg), Pre_ScOutDwRefIdeal m →
    θ_run (Cert.ScOutDwRefIdeal.defs (F := Ideal)) (onTc (τ := Cert.ScOutDwRefIdeal.τ) (Cert.ScOutDwRefIdeal.main (F := Ideal))) ⟨m, fun _ => 0, g⟩ (fun r => (∀ c : Dev Cert.ScOutDwRefIdeal.nD,
      r.2.mem ((c.tc : Thread Cert.ScOutDwRefIdeal.nD Cert.ScOutDwRefIdeal.τ).loc Cert.ScOutDwRefIdeal.main_arg0) = m ((c.tc : Thread Cert.ScOutDwRefIdeal.nD Cert.ScOutDwRefIdeal.τ).loc Cert.ScOutDwRefIdeal.main_arg0)
      ∧ r.2.mem ((c.tc : Thread Cert.ScOutDwRefIdeal.nD Cert.ScOutDwRefIdeal.τ).loc Cert.ScOutDwRefIdeal.main_arg1) = m ((c.tc : Thread Cert.ScOutDwRefIdeal.nD Cert.ScOutDwRefIdeal.τ).loc Cert.ScOutDwRefIdeal.main_arg1))
      ∧ r.2.sem = fun _ => 0)

def quiescent_ScInDw [hScInDw : Cert.ScInDw.Facts] : Prop :=
  ∀ (m : (ℓ : Loc Cert.ScInDw.nD Cert.ScInDw.τ Cert.ScInDw.sig) → Buf (Elt Bits) ℓ) (g : Dev Cert.ScInDw.nD → PrngReg), Pre_ScInDw m →
    θ_run (Cert.ScInDw.defs (F := Bits)) (onTc (τ := Cert.ScInDw.τ) (Cert.ScInDw.main (F := Bits))) ⟨m, fun _ => 0, g⟩ (fun r => (∀ c : Dev Cert.ScInDw.nD,
      r.2.mem ((c.tc : Thread Cert.ScInDw.nD Cert.ScInDw.τ).loc Cert.ScInDw.main_arg0) = m ((c.tc : Thread Cert.ScInDw.nD Cert.ScInDw.τ).loc Cert.ScInDw.main_arg0)
      ∧ r.2.mem ((c.tc : Thread Cert.ScInDw.nD Cert.ScInDw.τ).loc Cert.ScInDw.main_arg1) = m ((c.tc : Thread Cert.ScInDw.nD Cert.ScInDw.τ).loc Cert.ScInDw.main_arg1))
      ∧ r.2.sem = fun _ => 0)

def quiescent_ScInDwIdeal [hScInDwIdeal : Cert.ScInDwIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg), Pre_ScInDwIdeal m →
    θ_run (Cert.ScInDwIdeal.defs (F := Ideal)) (onTc (τ := Cert.ScInDwIdeal.τ) (Cert.ScInDwIdeal.main (F := Ideal))) ⟨m, fun _ => 0, g⟩ (fun r => (∀ c : Dev Cert.ScInDwIdeal.nD,
      r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
      ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ r.2.sem = fun _ => 0)

def quiescent_ScInDwRefIdeal [hScInDwRefIdeal : Cert.ScInDwRefIdeal.Facts] : Prop :=
  ∀ (m : (ℓ : Loc Cert.ScInDwRefIdeal.nD Cert.ScInDwRefIdeal.τ Cert.ScInDwRefIdeal.sig) → Buf (Elt Ideal) ℓ) (g : Dev Cert.ScInDwRefIdeal.nD → PrngReg), Pre_ScInDwRefIdeal m →
    θ_run (Cert.ScInDwRefIdeal.defs (F := Ideal)) (onTc (τ := Cert.ScInDwRefIdeal.τ) (Cert.ScInDwRefIdeal.main (F := Ideal))) ⟨m, fun _ => 0, g⟩ (fun r => (∀ c : Dev Cert.ScInDwRefIdeal.nD,
      r.2.mem ((c.tc : Thread Cert.ScInDwRefIdeal.nD Cert.ScInDwRefIdeal.τ).loc Cert.ScInDwRefIdeal.main_arg0) = m ((c.tc : Thread Cert.ScInDwRefIdeal.nD Cert.ScInDwRefIdeal.τ).loc Cert.ScInDwRefIdeal.main_arg0)
      ∧ r.2.mem ((c.tc : Thread Cert.ScInDwRefIdeal.nD Cert.ScInDwRefIdeal.τ).loc Cert.ScInDwRefIdeal.main_arg1) = m ((c.tc : Thread Cert.ScInDwRefIdeal.nD Cert.ScInDwRefIdeal.τ).loc Cert.ScInDwRefIdeal.main_arg1))
      ∧ r.2.sem = fun _ => 0)

def quiescent_ScInDx [hScInDx : Cert.ScInDx.Facts] : Prop :=
  ∀ (m : (ℓ : Loc Cert.ScInDx.nD Cert.ScInDx.τ Cert.ScInDx.sig) → Buf (Elt Bits) ℓ) (g : Dev Cert.ScInDx.nD → PrngReg), Pre_ScInDx m →
    θ_run (Cert.ScInDx.defs (F := Bits)) (onTc (τ := Cert.ScInDx.τ) (Cert.ScInDx.main (F := Bits))) ⟨m, fun _ => 0, g⟩ (fun r => (∀ c : Dev Cert.ScInDx.nD,
      r.2.mem ((c.tc : Thread Cert.ScInDx.nD Cert.ScInDx.τ).loc Cert.ScInDx.main_arg0) = m ((c.tc : Thread Cert.ScInDx.nD Cert.ScInDx.τ).loc Cert.ScInDx.main_arg0)
      ∧ r.2.mem ((c.tc : Thread Cert.ScInDx.nD Cert.ScInDx.τ).loc Cert.ScInDx.main_arg1) = m ((c.tc : Thread Cert.ScInDx.nD Cert.ScInDx.τ).loc Cert.ScInDx.main_arg1))
      ∧ r.2.sem = fun _ => 0)

def quiescent_ScInDxIdeal [hScInDxIdeal : Cert.ScInDxIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg), Pre_ScInDxIdeal m →
    θ_run (Cert.ScInDxIdeal.defs (F := Ideal)) (onTc (τ := Cert.ScInDxIdeal.τ) (Cert.ScInDxIdeal.main (F := Ideal))) ⟨m, fun _ => 0, g⟩ (fun r => (∀ c : Dev Cert.ScInDxIdeal.nD,
      r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
      ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1))
      ∧ r.2.sem = fun _ => 0)

def quiescent_ScInDxRefIdeal [hScInDxRefIdeal : Cert.ScInDxRefIdeal.Facts] : Prop :=
  ∀ (m : (ℓ : Loc Cert.ScInDxRefIdeal.nD Cert.ScInDxRefIdeal.τ Cert.ScInDxRefIdeal.sig) → Buf (Elt Ideal) ℓ) (g : Dev Cert.ScInDxRefIdeal.nD → PrngReg), Pre_ScInDxRefIdeal m →
    θ_run (Cert.ScInDxRefIdeal.defs (F := Ideal)) (onTc (τ := Cert.ScInDxRefIdeal.τ) (Cert.ScInDxRefIdeal.main (F := Ideal))) ⟨m, fun _ => 0, g⟩ (fun r => (∀ c : Dev Cert.ScInDxRefIdeal.nD,
      r.2.mem ((c.tc : Thread Cert.ScInDxRefIdeal.nD Cert.ScInDxRefIdeal.τ).loc Cert.ScInDxRefIdeal.main_arg0) = m ((c.tc : Thread Cert.ScInDxRefIdeal.nD Cert.ScInDxRefIdeal.τ).loc Cert.ScInDxRefIdeal.main_arg0)
      ∧ r.2.mem ((c.tc : Thread Cert.ScInDxRefIdeal.nD Cert.ScInDxRefIdeal.τ).loc Cert.ScInDxRefIdeal.main_arg1) = m ((c.tc : Thread Cert.ScInDxRefIdeal.nD Cert.ScInDxRefIdeal.τ).loc Cert.ScInDxRefIdeal.main_arg1))
      ∧ r.2.sem = fun _ => 0)

def quiescent_SsdCoreBwd [hSsdCoreBwd : Cert.SsdCoreBwd.Facts] : Prop :=
  ∀ (m : (ℓ : Loc Cert.SsdCoreBwd.nD Cert.SsdCoreBwd.τ Cert.SsdCoreBwd.sig) → Buf (Elt Bits) ℓ) (g : Dev Cert.SsdCoreBwd.nD → PrngReg), Pre_SsdCoreBwd m →
    θ_run (Cert.SsdCoreBwd.defs (F := Bits)) (onTc (τ := Cert.SsdCoreBwd.τ) (Cert.SsdCoreBwd.main (F := Bits))) ⟨m, fun _ => 0, g⟩ (fun r => (∀ c : Dev Cert.SsdCoreBwd.nD,
      r.2.mem ((c.tc : Thread Cert.SsdCoreBwd.nD Cert.SsdCoreBwd.τ).loc Cert.SsdCoreBwd.main_arg0) = m ((c.tc : Thread Cert.SsdCoreBwd.nD Cert.SsdCoreBwd.τ).loc Cert.SsdCoreBwd.main_arg0)
      ∧ r.2.mem ((c.tc : Thread Cert.SsdCoreBwd.nD Cert.SsdCoreBwd.τ).loc Cert.SsdCoreBwd.main_arg1) = m ((c.tc : Thread Cert.SsdCoreBwd.nD Cert.SsdCoreBwd.τ).loc Cert.SsdCoreBwd.main_arg1)
      ∧ r.2.mem ((c.tc : Thread Cert.SsdCoreBwd.nD Cert.SsdCoreBwd.τ).loc Cert.SsdCoreBwd.main_arg2) = m ((c.tc : Thread Cert.SsdCoreBwd.nD Cert.SsdCoreBwd.τ).loc Cert.SsdCoreBwd.main_arg2)
      ∧ r.2.mem ((c.tc : Thread Cert.SsdCoreBwd.nD Cert.SsdCoreBwd.τ).loc Cert.SsdCoreBwd.main_arg3) = m ((c.tc : Thread Cert.SsdCoreBwd.nD Cert.SsdCoreBwd.τ).loc Cert.SsdCoreBwd.main_arg3)
      ∧ r.2.mem ((c.tc : Thread Cert.SsdCoreBwd.nD Cert.SsdCoreBwd.τ).loc Cert.SsdCoreBwd.main_arg4) = m ((c.tc : Thread Cert.SsdCoreBwd.nD Cert.SsdCoreBwd.τ).loc Cert.SsdCoreBwd.main_arg4)
      ∧ r.2.mem ((c.tc : Thread Cert.SsdCoreBwd.nD Cert.SsdCoreBwd.τ).loc Cert.SsdCoreBwd.main_arg5) = m ((c.tc : Thread Cert.SsdCoreBwd.nD Cert.SsdCoreBwd.τ).loc Cert.SsdCoreBwd.main_arg5)
      ∧ r.2.mem ((c.tc : Thread Cert.SsdCoreBwd.nD Cert.SsdCoreBwd.τ).loc Cert.SsdCoreBwd.main_arg6) = m ((c.tc : Thread Cert.SsdCoreBwd.nD Cert.SsdCoreBwd.τ).loc Cert.SsdCoreBwd.main_arg6))
      ∧ r.2.sem = fun _ => 0)

def quiescent_SsdCoreBwdIdeal [hSsdCoreBwdIdeal : Cert.SsdCoreBwdIdeal.Facts] : Prop :=
  ∀ (m : (ℓ : Loc Cert.SsdCoreBwdIdeal.nD Cert.SsdCoreBwdIdeal.τ Cert.SsdCoreBwdIdeal.sig) → Buf (Elt Ideal) ℓ) (g : Dev Cert.SsdCoreBwdIdeal.nD → PrngReg), Pre_SsdCoreBwdIdeal m →
    θ_run (Cert.SsdCoreBwdIdeal.defs (F := Ideal)) (onTc (τ := Cert.SsdCoreBwdIdeal.τ) (Cert.SsdCoreBwdIdeal.main (F := Ideal))) ⟨m, fun _ => 0, g⟩ (fun r => (∀ c : Dev Cert.SsdCoreBwdIdeal.nD,
      r.2.mem ((c.tc : Thread Cert.SsdCoreBwdIdeal.nD Cert.SsdCoreBwdIdeal.τ).loc Cert.SsdCoreBwdIdeal.main_arg0) = m ((c.tc : Thread Cert.SsdCoreBwdIdeal.nD Cert.SsdCoreBwdIdeal.τ).loc Cert.SsdCoreBwdIdeal.main_arg0)
      ∧ r.2.mem ((c.tc : Thread Cert.SsdCoreBwdIdeal.nD Cert.SsdCoreBwdIdeal.τ).loc Cert.SsdCoreBwdIdeal.main_arg1) = m ((c.tc : Thread Cert.SsdCoreBwdIdeal.nD Cert.SsdCoreBwdIdeal.τ).loc Cert.SsdCoreBwdIdeal.main_arg1)
      ∧ r.2.mem ((c.tc : Thread Cert.SsdCoreBwdIdeal.nD Cert.SsdCoreBwdIdeal.τ).loc Cert.SsdCoreBwdIdeal.main_arg2) = m ((c.tc : Thread Cert.SsdCoreBwdIdeal.nD Cert.SsdCoreBwdIdeal.τ).loc Cert.SsdCoreBwdIdeal.main_arg2)
      ∧ r.2.mem ((c.tc : Thread Cert.SsdCoreBwdIdeal.nD Cert.SsdCoreBwdIdeal.τ).loc Cert.SsdCoreBwdIdeal.main_arg3) = m ((c.tc : Thread Cert.SsdCoreBwdIdeal.nD Cert.SsdCoreBwdIdeal.τ).loc Cert.SsdCoreBwdIdeal.main_arg3)
      ∧ r.2.mem ((c.tc : Thread Cert.SsdCoreBwdIdeal.nD Cert.SsdCoreBwdIdeal.τ).loc Cert.SsdCoreBwdIdeal.main_arg4) = m ((c.tc : Thread Cert.SsdCoreBwdIdeal.nD Cert.SsdCoreBwdIdeal.τ).loc Cert.SsdCoreBwdIdeal.main_arg4)
      ∧ r.2.mem ((c.tc : Thread Cert.SsdCoreBwdIdeal.nD Cert.SsdCoreBwdIdeal.τ).loc Cert.SsdCoreBwdIdeal.main_arg5) = m ((c.tc : Thread Cert.SsdCoreBwdIdeal.nD Cert.SsdCoreBwdIdeal.τ).loc Cert.SsdCoreBwdIdeal.main_arg5)
      ∧ r.2.mem ((c.tc : Thread Cert.SsdCoreBwdIdeal.nD Cert.SsdCoreBwdIdeal.τ).loc Cert.SsdCoreBwdIdeal.main_arg6) = m ((c.tc : Thread Cert.SsdCoreBwdIdeal.nD Cert.SsdCoreBwdIdeal.τ).loc Cert.SsdCoreBwdIdeal.main_arg6))
      ∧ r.2.sem = fun _ => 0)

def quiescent_SsdCoreBwdIdeal_pre_finite [hSsdCoreBwdIdeal : Cert.SsdCoreBwdIdeal.Facts] [hPre_finite : Cert.Pre_finite.Facts] : Prop :=
  ∀ (m : (ℓ : Loc Cert.SsdCoreBwdIdeal.nD Cert.SsdCoreBwdIdeal.τ Cert.SsdCoreBwdIdeal.sig) → Buf (Elt Ideal) ℓ) (g : Dev Cert.SsdCoreBwdIdeal.nD → PrngReg), Pre_SsdCoreBwdIdeal_finite m →
    θ_run (Cert.SsdCoreBwdIdeal.defs (F := Ideal)) (onTc (τ := Cert.SsdCoreBwdIdeal.τ) (Cert.SsdCoreBwdIdeal.main (F := Ideal))) ⟨m, fun _ => 0, g⟩ (fun r => (∀ c : Dev Cert.SsdCoreBwdIdeal.nD,
      r.2.mem ((c.tc : Thread Cert.SsdCoreBwdIdeal.nD Cert.SsdCoreBwdIdeal.τ).loc Cert.SsdCoreBwdIdeal.main_arg0) = m ((c.tc : Thread Cert.SsdCoreBwdIdeal.nD Cert.SsdCoreBwdIdeal.τ).loc Cert.SsdCoreBwdIdeal.main_arg0)
      ∧ r.2.mem ((c.tc : Thread Cert.SsdCoreBwdIdeal.nD Cert.SsdCoreBwdIdeal.τ).loc Cert.SsdCoreBwdIdeal.main_arg1) = m ((c.tc : Thread Cert.SsdCoreBwdIdeal.nD Cert.SsdCoreBwdIdeal.τ).loc Cert.SsdCoreBwdIdeal.main_arg1)
      ∧ r.2.mem ((c.tc : Thread Cert.SsdCoreBwdIdeal.nD Cert.SsdCoreBwdIdeal.τ).loc Cert.SsdCoreBwdIdeal.main_arg2) = m ((c.tc : Thread Cert.SsdCoreBwdIdeal.nD Cert.SsdCoreBwdIdeal.τ).loc Cert.SsdCoreBwdIdeal.main_arg2)
      ∧ r.2.mem ((c.tc : Thread Cert.SsdCoreBwdIdeal.nD Cert.SsdCoreBwdIdeal.τ).loc Cert.SsdCoreBwdIdeal.main_arg3) = m ((c.tc : Thread Cert.SsdCoreBwdIdeal.nD Cert.SsdCoreBwdIdeal.τ).loc Cert.SsdCoreBwdIdeal.main_arg3)
      ∧ r.2.mem ((c.tc : Thread Cert.SsdCoreBwdIdeal.nD Cert.SsdCoreBwdIdeal.τ).loc Cert.SsdCoreBwdIdeal.main_arg4) = m ((c.tc : Thread Cert.SsdCoreBwdIdeal.nD Cert.SsdCoreBwdIdeal.τ).loc Cert.SsdCoreBwdIdeal.main_arg4)
      ∧ r.2.mem ((c.tc : Thread Cert.SsdCoreBwdIdeal.nD Cert.SsdCoreBwdIdeal.τ).loc Cert.SsdCoreBwdIdeal.main_arg5) = m ((c.tc : Thread Cert.SsdCoreBwdIdeal.nD Cert.SsdCoreBwdIdeal.τ).loc Cert.SsdCoreBwdIdeal.main_arg5)
      ∧ r.2.mem ((c.tc : Thread Cert.SsdCoreBwdIdeal.nD Cert.SsdCoreBwdIdeal.τ).loc Cert.SsdCoreBwdIdeal.main_arg6) = m ((c.tc : Thread Cert.SsdCoreBwdIdeal.nD Cert.SsdCoreBwdIdeal.τ).loc Cert.SsdCoreBwdIdeal.main_arg6))
      ∧ r.2.sem = fun _ => 0)

def quiescent_SsdCoreBwdRefIdeal [hSsdCoreBwdRefIdeal : Cert.SsdCoreBwdRefIdeal.Facts] : Prop :=
  ∀ (m : (ℓ : Loc Cert.SsdCoreBwdRefIdeal.nD Cert.SsdCoreBwdRefIdeal.τ Cert.SsdCoreBwdRefIdeal.sig) → Buf (Elt Ideal) ℓ) (g : Dev Cert.SsdCoreBwdRefIdeal.nD → PrngReg), Pre_SsdCoreBwdRefIdeal m →
    θ_run (Cert.SsdCoreBwdRefIdeal.defs (F := Ideal)) (onTc (τ := Cert.SsdCoreBwdRefIdeal.τ) (Cert.SsdCoreBwdRefIdeal.main (F := Ideal))) ⟨m, fun _ => 0, g⟩ (fun r => (∀ c : Dev Cert.SsdCoreBwdRefIdeal.nD,
      r.2.mem ((c.tc : Thread Cert.SsdCoreBwdRefIdeal.nD Cert.SsdCoreBwdRefIdeal.τ).loc Cert.SsdCoreBwdRefIdeal.main_arg0) = m ((c.tc : Thread Cert.SsdCoreBwdRefIdeal.nD Cert.SsdCoreBwdRefIdeal.τ).loc Cert.SsdCoreBwdRefIdeal.main_arg0)
      ∧ r.2.mem ((c.tc : Thread Cert.SsdCoreBwdRefIdeal.nD Cert.SsdCoreBwdRefIdeal.τ).loc Cert.SsdCoreBwdRefIdeal.main_arg1) = m ((c.tc : Thread Cert.SsdCoreBwdRefIdeal.nD Cert.SsdCoreBwdRefIdeal.τ).loc Cert.SsdCoreBwdRefIdeal.main_arg1)
      ∧ r.2.mem ((c.tc : Thread Cert.SsdCoreBwdRefIdeal.nD Cert.SsdCoreBwdRefIdeal.τ).loc Cert.SsdCoreBwdRefIdeal.main_arg2) = m ((c.tc : Thread Cert.SsdCoreBwdRefIdeal.nD Cert.SsdCoreBwdRefIdeal.τ).loc Cert.SsdCoreBwdRefIdeal.main_arg2)
      ∧ r.2.mem ((c.tc : Thread Cert.SsdCoreBwdRefIdeal.nD Cert.SsdCoreBwdRefIdeal.τ).loc Cert.SsdCoreBwdRefIdeal.main_arg3) = m ((c.tc : Thread Cert.SsdCoreBwdRefIdeal.nD Cert.SsdCoreBwdRefIdeal.τ).loc Cert.SsdCoreBwdRefIdeal.main_arg3)
      ∧ r.2.mem ((c.tc : Thread Cert.SsdCoreBwdRefIdeal.nD Cert.SsdCoreBwdRefIdeal.τ).loc Cert.SsdCoreBwdRefIdeal.main_arg4) = m ((c.tc : Thread Cert.SsdCoreBwdRefIdeal.nD Cert.SsdCoreBwdRefIdeal.τ).loc Cert.SsdCoreBwdRefIdeal.main_arg4)
      ∧ r.2.mem ((c.tc : Thread Cert.SsdCoreBwdRefIdeal.nD Cert.SsdCoreBwdRefIdeal.τ).loc Cert.SsdCoreBwdRefIdeal.main_arg5) = m ((c.tc : Thread Cert.SsdCoreBwdRefIdeal.nD Cert.SsdCoreBwdRefIdeal.τ).loc Cert.SsdCoreBwdRefIdeal.main_arg5)
      ∧ r.2.mem ((c.tc : Thread Cert.SsdCoreBwdRefIdeal.nD Cert.SsdCoreBwdRefIdeal.τ).loc Cert.SsdCoreBwdRefIdeal.main_arg6) = m ((c.tc : Thread Cert.SsdCoreBwdRefIdeal.nD Cert.SsdCoreBwdRefIdeal.τ).loc Cert.SsdCoreBwdRefIdeal.main_arg6))
      ∧ r.2.sem = fun _ => 0)

def quiescent_SsdCoreBwdRefIdeal_pre_finite [hSsdCoreBwdRefIdeal : Cert.SsdCoreBwdRefIdeal.Facts] [hPre_finite : Cert.Pre_finite.Facts] : Prop :=
  ∀ (m : (ℓ : Loc Cert.SsdCoreBwdRefIdeal.nD Cert.SsdCoreBwdRefIdeal.τ Cert.SsdCoreBwdRefIdeal.sig) → Buf (Elt Ideal) ℓ) (g : Dev Cert.SsdCoreBwdRefIdeal.nD → PrngReg), Pre_SsdCoreBwdRefIdeal_finite m →
    θ_run (Cert.SsdCoreBwdRefIdeal.defs (F := Ideal)) (onTc (τ := Cert.SsdCoreBwdRefIdeal.τ) (Cert.SsdCoreBwdRefIdeal.main (F := Ideal))) ⟨m, fun _ => 0, g⟩ (fun r => (∀ c : Dev Cert.SsdCoreBwdRefIdeal.nD,
      r.2.mem ((c.tc : Thread Cert.SsdCoreBwdRefIdeal.nD Cert.SsdCoreBwdRefIdeal.τ).loc Cert.SsdCoreBwdRefIdeal.main_arg0) = m ((c.tc : Thread Cert.SsdCoreBwdRefIdeal.nD Cert.SsdCoreBwdRefIdeal.τ).loc Cert.SsdCoreBwdRefIdeal.main_arg0)
      ∧ r.2.mem ((c.tc : Thread Cert.SsdCoreBwdRefIdeal.nD Cert.SsdCoreBwdRefIdeal.τ).loc Cert.SsdCoreBwdRefIdeal.main_arg1) = m ((c.tc : Thread Cert.SsdCoreBwdRefIdeal.nD Cert.SsdCoreBwdRefIdeal.τ).loc Cert.SsdCoreBwdRefIdeal.main_arg1)
      ∧ r.2.mem ((c.tc : Thread Cert.SsdCoreBwdRefIdeal.nD Cert.SsdCoreBwdRefIdeal.τ).loc Cert.SsdCoreBwdRefIdeal.main_arg2) = m ((c.tc : Thread Cert.SsdCoreBwdRefIdeal.nD Cert.SsdCoreBwdRefIdeal.τ).loc Cert.SsdCoreBwdRefIdeal.main_arg2)
      ∧ r.2.mem ((c.tc : Thread Cert.SsdCoreBwdRefIdeal.nD Cert.SsdCoreBwdRefIdeal.τ).loc Cert.SsdCoreBwdRefIdeal.main_arg3) = m ((c.tc : Thread Cert.SsdCoreBwdRefIdeal.nD Cert.SsdCoreBwdRefIdeal.τ).loc Cert.SsdCoreBwdRefIdeal.main_arg3)
      ∧ r.2.mem ((c.tc : Thread Cert.SsdCoreBwdRefIdeal.nD Cert.SsdCoreBwdRefIdeal.τ).loc Cert.SsdCoreBwdRefIdeal.main_arg4) = m ((c.tc : Thread Cert.SsdCoreBwdRefIdeal.nD Cert.SsdCoreBwdRefIdeal.τ).loc Cert.SsdCoreBwdRefIdeal.main_arg4)
      ∧ r.2.mem ((c.tc : Thread Cert.SsdCoreBwdRefIdeal.nD Cert.SsdCoreBwdRefIdeal.τ).loc Cert.SsdCoreBwdRefIdeal.main_arg5) = m ((c.tc : Thread Cert.SsdCoreBwdRefIdeal.nD Cert.SsdCoreBwdRefIdeal.τ).loc Cert.SsdCoreBwdRefIdeal.main_arg5)
      ∧ r.2.mem ((c.tc : Thread Cert.SsdCoreBwdRefIdeal.nD Cert.SsdCoreBwdRefIdeal.τ).loc Cert.SsdCoreBwdRefIdeal.main_arg6) = m ((c.tc : Thread Cert.SsdCoreBwdRefIdeal.nD Cert.SsdCoreBwdRefIdeal.τ).loc Cert.SsdCoreBwdRefIdeal.main_arg6))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1)
      ∧ r.2.mem ((c.tc : Thread Cert.FfnActBwd.nD Cert.FfnActBwd.τ).loc Cert.FfnActBwd.main_arg2) = m ((c.tc : Thread Cert.FfnActBwd.nD Cert.FfnActBwd.τ).loc Cert.FfnActBwd.main_arg2)
      ∧ r.2.mem ((c.tc : Thread Cert.FfnActBwd.nD Cert.FfnActBwd.τ).loc Cert.FfnActBwd.main_arg3) = m ((c.tc : Thread Cert.FfnActBwd.nD Cert.FfnActBwd.τ).loc Cert.FfnActBwd.main_arg3))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdIdeal_pre_finite_ffn [hFfnActBwdIdeal : Cert.FfnActBwdIdeal.Facts] [hPre_finite_ffn : Cert.Pre_finite_ffn.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal_finite_ffn m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdRefIdeal [hFfnActBwdRefIdeal : Cert.FfnActBwdRefIdeal.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_FfnActBwdRefIdeal_pre_finite_ffn [hFfnActBwdRefIdeal : Cert.FfnActBwdRefIdeal.Facts] [hPre_finite_ffn : Cert.Pre_finite_ffn.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal_finite_ffn m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_FfnActFwd [hFfnActFwd : Cert.FfnActFwd.Facts] : Prop :=
  ∀ (m : (ℓ : Loc Cert.FfnActFwd.nD Cert.FfnActFwd.τ Cert.FfnActFwd.sig) → Buf (Elt Bits) ℓ) (g : Dev Cert.FfnActFwd.nD → PrngReg), Pre_FfnActFwd m →
    θ_run (Cert.FfnActFwd.defs (F := Bits)) (onTc (τ := Cert.FfnActFwd.τ) (Cert.FfnActFwd.main (F := Bits))) ⟨m, fun _ => 0, g⟩ (fun r => (∀ c : Dev Cert.FfnActFwd.nD,
      r.2.mem ((c.tc : Thread Cert.FfnActFwd.nD Cert.FfnActFwd.τ).loc Cert.FfnActFwd.main_arg0) = m ((c.tc : Thread Cert.FfnActFwd.nD Cert.FfnActFwd.τ).loc Cert.FfnActFwd.main_arg0)
      ∧ r.2.mem ((c.tc : Thread Cert.FfnActFwd.nD Cert.FfnActFwd.τ).loc Cert.FfnActFwd.main_arg1) = m ((c.tc : Thread Cert.FfnActFwd.nD Cert.FfnActFwd.τ).loc Cert.FfnActFwd.main_arg1)
      ∧ r.2.mem ((c.tc : Thread Cert.FfnActFwd.nD Cert.FfnActFwd.τ).loc Cert.FfnActFwd.main_arg2) = m ((c.tc : Thread Cert.FfnActFwd.nD Cert.FfnActFwd.τ).loc Cert.FfnActFwd.main_arg2))
      ∧ r.2.sem = fun _ => 0)

def quiescent_FfnActFwdIdeal [hFfnActFwdIdeal : Cert.FfnActFwdIdeal.Facts] : Prop :=
  ∀ (m : (ℓ : Loc Cert.FfnActFwdIdeal.nD Cert.FfnActFwdIdeal.τ Cert.FfnActFwdIdeal.sig) → Buf (Elt Ideal) ℓ) (g : Dev Cert.FfnActFwdIdeal.nD → PrngReg), Pre_FfnActFwdIdeal m →
    θ_run (Cert.FfnActFwdIdeal.defs (F := Ideal)) (onTc (τ := Cert.FfnActFwdIdeal.τ) (Cert.FfnActFwdIdeal.main (F := Ideal))) ⟨m, fun _ => 0, g⟩ (fun r => (∀ c : Dev Cert.FfnActFwdIdeal.nD,
      r.2.mem ((c.tc : Thread Cert.FfnActFwdIdeal.nD Cert.FfnActFwdIdeal.τ).loc Cert.FfnActFwdIdeal.main_arg0) = m ((c.tc : Thread Cert.FfnActFwdIdeal.nD Cert.FfnActFwdIdeal.τ).loc Cert.FfnActFwdIdeal.main_arg0)
      ∧ r.2.mem ((c.tc : Thread Cert.FfnActFwdIdeal.nD Cert.FfnActFwdIdeal.τ).loc Cert.FfnActFwdIdeal.main_arg1) = m ((c.tc : Thread Cert.FfnActFwdIdeal.nD Cert.FfnActFwdIdeal.τ).loc Cert.FfnActFwdIdeal.main_arg1)
      ∧ r.2.mem ((c.tc : Thread Cert.FfnActFwdIdeal.nD Cert.FfnActFwdIdeal.τ).loc Cert.FfnActFwdIdeal.main_arg2) = m ((c.tc : Thread Cert.FfnActFwdIdeal.nD Cert.FfnActFwdIdeal.τ).loc Cert.FfnActFwdIdeal.main_arg2))
      ∧ r.2.sem = fun _ => 0)

def quiescent_FfnActFwdRefIdeal [hFfnActFwdRefIdeal : Cert.FfnActFwdRefIdeal.Facts] : Prop :=
  ∀ (m : (ℓ : Loc Cert.FfnActFwdRefIdeal.nD Cert.FfnActFwdRefIdeal.τ Cert.FfnActFwdRefIdeal.sig) → Buf (Elt Ideal) ℓ) (g : Dev Cert.FfnActFwdRefIdeal.nD → PrngReg), Pre_FfnActFwdRefIdeal m →
    θ_run (Cert.FfnActFwdRefIdeal.defs (F := Ideal)) (onTc (τ := Cert.FfnActFwdRefIdeal.τ) (Cert.FfnActFwdRefIdeal.main (F := Ideal))) ⟨m, fun _ => 0, g⟩ (fun r => (∀ c : Dev Cert.FfnActFwdRefIdeal.nD,
      r.2.mem ((c.tc : Thread Cert.FfnActFwdRefIdeal.nD Cert.FfnActFwdRefIdeal.τ).loc Cert.FfnActFwdRefIdeal.main_arg0) = m ((c.tc : Thread Cert.FfnActFwdRefIdeal.nD Cert.FfnActFwdRefIdeal.τ).loc Cert.FfnActFwdRefIdeal.main_arg0)
      ∧ r.2.mem ((c.tc : Thread Cert.FfnActFwdRefIdeal.nD Cert.FfnActFwdRefIdeal.τ).loc Cert.FfnActFwdRefIdeal.main_arg1) = m ((c.tc : Thread Cert.FfnActFwdRefIdeal.nD Cert.FfnActFwdRefIdeal.τ).loc Cert.FfnActFwdRefIdeal.main_arg1)
      ∧ r.2.mem ((c.tc : Thread Cert.FfnActFwdRefIdeal.nD Cert.FfnActFwdRefIdeal.τ).loc Cert.FfnActFwdRefIdeal.main_arg2) = m ((c.tc : Thread Cert.FfnActFwdRefIdeal.nD Cert.FfnActFwdRefIdeal.τ).loc Cert.FfnActFwdRefIdeal.main_arg2))
      ∧ r.2.sem = fun _ => 0)

def quiescent_ScActFwd [hScActFwd : Cert.ScActFwd.Facts] : Prop :=
  ∀ (m : (ℓ : Loc Cert.ScActFwd.nD Cert.ScActFwd.τ Cert.ScActFwd.sig) → Buf (Elt Bits) ℓ) (g : Dev Cert.ScActFwd.nD → PrngReg), Pre_ScActFwd m →
    θ_run (Cert.ScActFwd.defs (F := Bits)) (onTc (τ := Cert.ScActFwd.τ) (Cert.ScActFwd.main (F := Bits))) ⟨m, fun _ => 0, g⟩ (fun r => (∀ c : Dev Cert.ScActFwd.nD,
      r.2.mem ((c.tc : Thread Cert.ScActFwd.nD Cert.ScActFwd.τ).loc Cert.ScActFwd.main_arg0) = m ((c.tc : Thread Cert.ScActFwd.nD Cert.ScActFwd.τ).loc Cert.ScActFwd.main_arg0)
      ∧ r.2.mem ((c.tc : Thread Cert.ScActFwd.nD Cert.ScActFwd.τ).loc Cert.ScActFwd.main_arg1) = m ((c.tc : Thread Cert.ScActFwd.nD Cert.ScActFwd.τ).loc Cert.ScActFwd.main_arg1))
      ∧ r.2.sem = fun _ => 0)

def quiescent_ScActFwdIdeal [hScActFwdIdeal : Cert.ScActFwdIdeal.Facts] : Prop :=
  ∀ (m : (ℓ : Loc Cert.ScActFwdIdeal.nD Cert.ScActFwdIdeal.τ Cert.ScActFwdIdeal.sig) → Buf (Elt Ideal) ℓ) (g : Dev Cert.ScActFwdIdeal.nD → PrngReg), Pre_ScActFwdIdeal m →
    θ_run (Cert.ScActFwdIdeal.defs (F := Ideal)) (onTc (τ := Cert.ScActFwdIdeal.τ) (Cert.ScActFwdIdeal.main (F := Ideal))) ⟨m, fun _ => 0, g⟩ (fun r => (∀ c : Dev Cert.ScActFwdIdeal.nD,
      r.2.mem ((c.tc : Thread Cert.ScActFwdIdeal.nD Cert.ScActFwdIdeal.τ).loc Cert.ScActFwdIdeal.main_arg0) = m ((c.tc : Thread Cert.ScActFwdIdeal.nD Cert.ScActFwdIdeal.τ).loc Cert.ScActFwdIdeal.main_arg0)
      ∧ r.2.mem ((c.tc : Thread Cert.ScActFwdIdeal.nD Cert.ScActFwdIdeal.τ).loc Cert.ScActFwdIdeal.main_arg1) = m ((c.tc : Thread Cert.ScActFwdIdeal.nD Cert.ScActFwdIdeal.τ).loc Cert.ScActFwdIdeal.main_arg1))
      ∧ r.2.sem = fun _ => 0)

def quiescent_ScActFwdRefIdeal [hScActFwdRefIdeal : Cert.ScActFwdRefIdeal.Facts] : Prop :=
  ∀ (m : (ℓ : Loc Cert.ScActFwdRefIdeal.nD Cert.ScActFwdRefIdeal.τ Cert.ScActFwdRefIdeal.sig) → Buf (Elt Ideal) ℓ) (g : Dev Cert.ScActFwdRefIdeal.nD → PrngReg), Pre_ScActFwdRefIdeal m →
    θ_run (Cert.ScActFwdRefIdeal.defs (F := Ideal)) (onTc (τ := Cert.ScActFwdRefIdeal.τ) (Cert.ScActFwdRefIdeal.main (F := Ideal))) ⟨m, fun _ => 0, g⟩ (fun r => (∀ c : Dev Cert.ScActFwdRefIdeal.nD,
      r.2.mem ((c.tc : Thread Cert.ScActFwdRefIdeal.nD Cert.ScActFwdRefIdeal.τ).loc Cert.ScActFwdRefIdeal.main_arg0) = m ((c.tc : Thread Cert.ScActFwdRefIdeal.nD Cert.ScActFwdRefIdeal.τ).loc Cert.ScActFwdRefIdeal.main_arg0)
      ∧ r.2.mem ((c.tc : Thread Cert.ScActFwdRefIdeal.nD Cert.ScActFwdRefIdeal.τ).loc Cert.ScActFwdRefIdeal.main_arg1) = m ((c.tc : Thread Cert.ScActFwdRefIdeal.nD Cert.ScActFwdRefIdeal.τ).loc Cert.ScActFwdRefIdeal.main_arg1))
      ∧ r.2.sem = fun _ => 0)

def quiescent_SsdConvFwd [hSsdConvFwd : Cert.SsdConvFwd.Facts] : Prop :=
  ∀ (m : (ℓ : Loc Cert.SsdConvFwd.nD Cert.SsdConvFwd.τ Cert.SsdConvFwd.sig) → Buf (Elt Bits) ℓ) (g : Dev Cert.SsdConvFwd.nD → PrngReg), Pre_SsdConvFwd m →
    θ_run (Cert.SsdConvFwd.defs (F := Bits)) (onTc (τ := Cert.SsdConvFwd.τ) (Cert.SsdConvFwd.main (F := Bits))) ⟨m, fun _ => 0, g⟩ (fun r => (∀ c : Dev Cert.SsdConvFwd.nD,
      r.2.mem ((c.tc : Thread Cert.SsdConvFwd.nD Cert.SsdConvFwd.τ).loc Cert.SsdConvFwd.main_arg0) = m ((c.tc : Thread Cert.SsdConvFwd.nD Cert.SsdConvFwd.τ).loc Cert.SsdConvFwd.main_arg0)
      ∧ r.2.mem ((c.tc : Thread Cert.SsdConvFwd.nD Cert.SsdConvFwd.τ).loc Cert.SsdConvFwd.main_arg1) = m ((c.tc : Thread Cert.SsdConvFwd.nD Cert.SsdConvFwd.τ).loc Cert.SsdConvFwd.main_arg1)
      ∧ r.2.mem ((c.tc : Thread Cert.SsdConvFwd.nD Cert.SsdConvFwd.τ).loc Cert.SsdConvFwd.main_arg2) = m ((c.tc : Thread Cert.SsdConvFwd.nD Cert.SsdConvFwd.τ).loc Cert.SsdConvFwd.main_arg2))
      ∧ r.2.sem = fun _ => 0)

def quiescent_SsdConvFwdIdeal [hSsdConvFwdIdeal : Cert.SsdConvFwdIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg), Pre_SsdConvFwdIdeal m →
    θ_run (Cert.SsdConvFwdIdeal.defs (F := Ideal)) (onTc (τ := Cert.SsdConvFwdIdeal.τ) (Cert.SsdConvFwdIdeal.main (F := Ideal))) ⟨m, fun _ => 0, g⟩ (fun r => (∀ c : Dev Cert.SsdConvFwdIdeal.nD,
      r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
      ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
      ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ r.2.sem = fun _ => 0)

def quiescent_SsdConvFwdRefIdeal [hSsdConvFwdRefIdeal : Cert.SsdConvFwdRefIdeal.Facts] : Prop :=
  ∀ (m : (ℓ : Loc Cert.SsdConvFwdRefIdeal.nD Cert.SsdConvFwdRefIdeal.τ Cert.SsdConvFwdRefIdeal.sig) → Buf (Elt Ideal) ℓ) (g : Dev Cert.SsdConvFwdRefIdeal.nD → PrngReg), Pre_SsdConvFwdRefIdeal m →
    θ_run (Cert.SsdConvFwdRefIdeal.defs (F := Ideal)) (onTc (τ := Cert.SsdConvFwdRefIdeal.τ) (Cert.SsdConvFwdRefIdeal.main (F := Ideal))) ⟨m, fun _ => 0, g⟩ (fun r => (∀ c : Dev Cert.SsdConvFwdRefIdeal.nD,
      r.2.mem ((c.tc : Thread Cert.SsdConvFwdRefIdeal.nD Cert.SsdConvFwdRefIdeal.τ).loc Cert.SsdConvFwdRefIdeal.main_arg0) = m ((c.tc : Thread Cert.SsdConvFwdRefIdeal.nD Cert.SsdConvFwdRefIdeal.τ).loc Cert.SsdConvFwdRefIdeal.main_arg0)
      ∧ r.2.mem ((c.tc : Thread Cert.SsdConvFwdRefIdeal.nD Cert.SsdConvFwdRefIdeal.τ).loc Cert.SsdConvFwdRefIdeal.main_arg1) = m ((c.tc : Thread Cert.SsdConvFwdRefIdeal.nD Cert.SsdConvFwdRefIdeal.τ).loc Cert.SsdConvFwdRefIdeal.main_arg1)
      ∧ r.2.mem ((c.tc : Thread Cert.SsdConvFwdRefIdeal.nD Cert.SsdConvFwdRefIdeal.τ).loc Cert.SsdConvFwdRefIdeal.main_arg2) = m ((c.tc : Thread Cert.SsdConvFwdRefIdeal.nD Cert.SsdConvFwdRefIdeal.τ).loc Cert.SsdConvFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SsdConvBwd [hSsdConvBwd : Cert.SsdConvBwd.Facts] : Prop :=
  ∀ (m : (ℓ : Loc Cert.SsdConvBwd.nD Cert.SsdConvBwd.τ Cert.SsdConvBwd.sig) → Buf (Elt Bits) ℓ) (g : Dev Cert.SsdConvBwd.nD → PrngReg), Pre_SsdConvBwd m →
    θ_run (Cert.SsdConvBwd.defs (F := Bits)) (onTc (τ := Cert.SsdConvBwd.τ) (Cert.SsdConvBwd.main (F := Bits))) ⟨m, fun _ => 0, g⟩ (fun r => (∀ c : Dev Cert.SsdConvBwd.nD,
      r.2.mem ((c.tc : Thread Cert.SsdConvBwd.nD Cert.SsdConvBwd.τ).loc Cert.SsdConvBwd.main_arg0) = m ((c.tc : Thread Cert.SsdConvBwd.nD Cert.SsdConvBwd.τ).loc Cert.SsdConvBwd.main_arg0)
      ∧ r.2.mem ((c.tc : Thread Cert.SsdConvBwd.nD Cert.SsdConvBwd.τ).loc Cert.SsdConvBwd.main_arg1) = m ((c.tc : Thread Cert.SsdConvBwd.nD Cert.SsdConvBwd.τ).loc Cert.SsdConvBwd.main_arg1)
      ∧ r.2.mem ((c.tc : Thread Cert.SsdConvBwd.nD Cert.SsdConvBwd.τ).loc Cert.SsdConvBwd.main_arg2) = m ((c.tc : Thread Cert.SsdConvBwd.nD Cert.SsdConvBwd.τ).loc Cert.SsdConvBwd.main_arg2)
      ∧ r.2.mem ((c.tc : Thread Cert.SsdConvBwd.nD Cert.SsdConvBwd.τ).loc Cert.SsdConvBwd.main_arg3) = m ((c.tc : Thread Cert.SsdConvBwd.nD Cert.SsdConvBwd.τ).loc Cert.SsdConvBwd.main_arg3)
      ∧ r.2.mem ((c.tc : Thread Cert.SsdConvBwd.nD Cert.SsdConvBwd.τ).loc Cert.SsdConvBwd.main_arg4) = m ((c.tc : Thread Cert.SsdConvBwd.nD Cert.SsdConvBwd.τ).loc Cert.SsdConvBwd.main_arg4))
      ∧ r.2.sem = fun _ => 0)

def quiescent_SsdConvBwdIdeal [hSsdConvBwdIdeal : Cert.SsdConvBwdIdeal.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg), Pre_SsdConvBwdIdeal m →
    θ_run (Cert.SsdConvBwdIdeal.defs (F := Ideal)) (onTc (τ := Cert.SsdConvBwdIdeal.τ) (Cert.SsdConvBwdIdeal.main (F := Ideal))) ⟨m, fun _ => 0, g⟩ (fun r => (∀ c : Dev Cert.SsdConvBwdIdeal.nD,
      r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
      ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
      ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
      ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3)
      ∧ r.2.mem ((c.tc : Thread Cert.SsdConvBwdIdeal.nD Cert.SsdConvBwdIdeal.τ).loc Cert.SsdConvBwdIdeal.main_arg4) = m ((c.tc : Thread Cert.SsdConvBwdIdeal.nD Cert.SsdConvBwdIdeal.τ).loc Cert.SsdConvBwdIdeal.main_arg4))
      ∧ r.2.sem = fun _ => 0)

def quiescent_SsdConvBwdIdeal_pre_finite_ct [hSsdConvBwdIdeal : Cert.SsdConvBwdIdeal.Facts] [hPre_finite_ct : Cert.Pre_finite_ct.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg), Pre_SsdConvBwdIdeal_finite_ct m →
    θ_run (Cert.SsdConvBwdIdeal.defs (F := Ideal)) (onTc (τ := Cert.SsdConvBwdIdeal.τ) (Cert.SsdConvBwdIdeal.main (F := Ideal))) ⟨m, fun _ => 0, g⟩ (fun r => (∀ c : Dev Cert.SsdConvBwdIdeal.nD,
      r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
      ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
      ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
      ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3)
      ∧ r.2.mem ((c.tc : Thread Cert.SsdConvBwdIdeal.nD Cert.SsdConvBwdIdeal.τ).loc Cert.SsdConvBwdIdeal.main_arg4) = m ((c.tc : Thread Cert.SsdConvBwdIdeal.nD Cert.SsdConvBwdIdeal.τ).loc Cert.SsdConvBwdIdeal.main_arg4))
      ∧ r.2.sem = fun _ => 0)

def quiescent_SsdConvBwdRefIdeal [hSsdConvBwdRefIdeal : Cert.SsdConvBwdRefIdeal.Facts] : Prop :=
  ∀ (m : (ℓ : Loc Cert.SsdConvBwdRefIdeal.nD Cert.SsdConvBwdRefIdeal.τ Cert.SsdConvBwdRefIdeal.sig) → Buf (Elt Ideal) ℓ) (g : Dev Cert.SsdConvBwdRefIdeal.nD → PrngReg), Pre_SsdConvBwdRefIdeal m →
    θ_run (Cert.SsdConvBwdRefIdeal.defs (F := Ideal)) (onTc (τ := Cert.SsdConvBwdRefIdeal.τ) (Cert.SsdConvBwdRefIdeal.main (F := Ideal))) ⟨m, fun _ => 0, g⟩ (fun r => (∀ c : Dev Cert.SsdConvBwdRefIdeal.nD,
      r.2.mem ((c.tc : Thread Cert.SsdConvBwdRefIdeal.nD Cert.SsdConvBwdRefIdeal.τ).loc Cert.SsdConvBwdRefIdeal.main_arg0) = m ((c.tc : Thread Cert.SsdConvBwdRefIdeal.nD Cert.SsdConvBwdRefIdeal.τ).loc Cert.SsdConvBwdRefIdeal.main_arg0)
      ∧ r.2.mem ((c.tc : Thread Cert.SsdConvBwdRefIdeal.nD Cert.SsdConvBwdRefIdeal.τ).loc Cert.SsdConvBwdRefIdeal.main_arg1) = m ((c.tc : Thread Cert.SsdConvBwdRefIdeal.nD Cert.SsdConvBwdRefIdeal.τ).loc Cert.SsdConvBwdRefIdeal.main_arg1)
      ∧ r.2.mem ((c.tc : Thread Cert.SsdConvBwdRefIdeal.nD Cert.SsdConvBwdRefIdeal.τ).loc Cert.SsdConvBwdRefIdeal.main_arg2) = m ((c.tc : Thread Cert.SsdConvBwdRefIdeal.nD Cert.SsdConvBwdRefIdeal.τ).loc Cert.SsdConvBwdRefIdeal.main_arg2)
      ∧ r.2.mem ((c.tc : Thread Cert.SsdConvBwdRefIdeal.nD Cert.SsdConvBwdRefIdeal.τ).loc Cert.SsdConvBwdRefIdeal.main_arg3) = m ((c.tc : Thread Cert.SsdConvBwdRefIdeal.nD Cert.SsdConvBwdRefIdeal.τ).loc Cert.SsdConvBwdRefIdeal.main_arg3)
      ∧ r.2.mem ((c.tc : Thread Cert.SsdConvBwdRefIdeal.nD Cert.SsdConvBwdRefIdeal.τ).loc Cert.SsdConvBwdRefIdeal.main_arg4) = m ((c.tc : Thread Cert.SsdConvBwdRefIdeal.nD Cert.SsdConvBwdRefIdeal.τ).loc Cert.SsdConvBwdRefIdeal.main_arg4))
      ∧ r.2.sem = fun _ => 0)

def quiescent_SsdConvBwdRefIdeal_pre_finite_ct [hSsdConvBwdRefIdeal : Cert.SsdConvBwdRefIdeal.Facts] [hPre_finite_ct : Cert.Pre_finite_ct.Facts] : Prop :=
  ∀ (m : (ℓ : Loc Cert.SsdConvBwdRefIdeal.nD Cert.SsdConvBwdRefIdeal.τ Cert.SsdConvBwdRefIdeal.sig) → Buf (Elt Ideal) ℓ) (g : Dev Cert.SsdConvBwdRefIdeal.nD → PrngReg), Pre_SsdConvBwdRefIdeal_finite_ct m →
    θ_run (Cert.SsdConvBwdRefIdeal.defs (F := Ideal)) (onTc (τ := Cert.SsdConvBwdRefIdeal.τ) (Cert.SsdConvBwdRefIdeal.main (F := Ideal))) ⟨m, fun _ => 0, g⟩ (fun r => (∀ c : Dev Cert.SsdConvBwdRefIdeal.nD,
      r.2.mem ((c.tc : Thread Cert.SsdConvBwdRefIdeal.nD Cert.SsdConvBwdRefIdeal.τ).loc Cert.SsdConvBwdRefIdeal.main_arg0) = m ((c.tc : Thread Cert.SsdConvBwdRefIdeal.nD Cert.SsdConvBwdRefIdeal.τ).loc Cert.SsdConvBwdRefIdeal.main_arg0)
      ∧ r.2.mem ((c.tc : Thread Cert.SsdConvBwdRefIdeal.nD Cert.SsdConvBwdRefIdeal.τ).loc Cert.SsdConvBwdRefIdeal.main_arg1) = m ((c.tc : Thread Cert.SsdConvBwdRefIdeal.nD Cert.SsdConvBwdRefIdeal.τ).loc Cert.SsdConvBwdRefIdeal.main_arg1)
      ∧ r.2.mem ((c.tc : Thread Cert.SsdConvBwdRefIdeal.nD Cert.SsdConvBwdRefIdeal.τ).loc Cert.SsdConvBwdRefIdeal.main_arg2) = m ((c.tc : Thread Cert.SsdConvBwdRefIdeal.nD Cert.SsdConvBwdRefIdeal.τ).loc Cert.SsdConvBwdRefIdeal.main_arg2)
      ∧ r.2.mem ((c.tc : Thread Cert.SsdConvBwdRefIdeal.nD Cert.SsdConvBwdRefIdeal.τ).loc Cert.SsdConvBwdRefIdeal.main_arg3) = m ((c.tc : Thread Cert.SsdConvBwdRefIdeal.nD Cert.SsdConvBwdRefIdeal.τ).loc Cert.SsdConvBwdRefIdeal.main_arg3)
      ∧ r.2.mem ((c.tc : Thread Cert.SsdConvBwdRefIdeal.nD Cert.SsdConvBwdRefIdeal.τ).loc Cert.SsdConvBwdRefIdeal.main_arg4) = m ((c.tc : Thread Cert.SsdConvBwdRefIdeal.nD Cert.SsdConvBwdRefIdeal.τ).loc Cert.SsdConvBwdRefIdeal.main_arg4))
      ∧ r.2.sem = fun _ => 0)

def quiescent_SsdPutDdt [hSsdPutDdt : Cert.SsdPutDdt.Facts] : Prop :=
  ∀ (m : (ℓ : Loc Cert.SsdPutDdt.nD Cert.SsdPutDdt.τ Cert.SsdPutDdt.sig) → Buf (Elt Bits) ℓ) (g : Dev Cert.SsdPutDdt.nD → PrngReg), Pre_SsdPutDdt m →
    θ_run (Cert.SsdPutDdt.defs (F := Bits)) (onTc (τ := Cert.SsdPutDdt.τ) (Cert.SsdPutDdt.main (F := Bits))) ⟨m, fun _ => 0, g⟩ (fun r => (∀ c : Dev Cert.SsdPutDdt.nD,
      r.2.mem ((c.tc : Thread Cert.SsdPutDdt.nD Cert.SsdPutDdt.τ).loc Cert.SsdPutDdt.main_arg0) = m ((c.tc : Thread Cert.SsdPutDdt.nD Cert.SsdPutDdt.τ).loc Cert.SsdPutDdt.main_arg0)
      ∧ r.2.mem ((c.tc : Thread Cert.SsdPutDdt.nD Cert.SsdPutDdt.τ).loc Cert.SsdPutDdt.main_arg1) = m ((c.tc : Thread Cert.SsdPutDdt.nD Cert.SsdPutDdt.τ).loc Cert.SsdPutDdt.main_arg1))
      ∧ r.2.sem = fun _ => 0)

def quiescent_SsdPutDdtIdeal [hSsdPutDdtIdeal : Cert.SsdPutDdtIdeal.Facts] : Prop :=
  ∀ (m : (ℓ : Loc Cert.SsdPutDdtIdeal.nD Cert.SsdPutDdtIdeal.τ Cert.SsdPutDdtIdeal.sig) → Buf (Elt Ideal) ℓ) (g : Dev Cert.SsdPutDdtIdeal.nD → PrngReg), Pre_SsdPutDdtIdeal m →
    θ_run (Cert.SsdPutDdtIdeal.defs (F := Ideal)) (onTc (τ := Cert.SsdPutDdtIdeal.τ) (Cert.SsdPutDdtIdeal.main (F := Ideal))) ⟨m, fun _ => 0, g⟩ (fun r => (∀ c : Dev Cert.SsdPutDdtIdeal.nD,
      r.2.mem ((c.tc : Thread Cert.SsdPutDdtIdeal.nD Cert.SsdPutDdtIdeal.τ).loc Cert.SsdPutDdtIdeal.main_arg0) = m ((c.tc : Thread Cert.SsdPutDdtIdeal.nD Cert.SsdPutDdtIdeal.τ).loc Cert.SsdPutDdtIdeal.main_arg0)
      ∧ r.2.mem ((c.tc : Thread Cert.SsdPutDdtIdeal.nD Cert.SsdPutDdtIdeal.τ).loc Cert.SsdPutDdtIdeal.main_arg1) = m ((c.tc : Thread Cert.SsdPutDdtIdeal.nD Cert.SsdPutDdtIdeal.τ).loc Cert.SsdPutDdtIdeal.main_arg1))
      ∧ r.2.sem = fun _ => 0)

def quiescent_SsdPutDdtRefIdeal [hSsdPutDdtRefIdeal : Cert.SsdPutDdtRefIdeal.Facts] : Prop :=
  ∀ (m : (ℓ : Loc Cert.SsdPutDdtRefIdeal.nD Cert.SsdPutDdtRefIdeal.τ Cert.SsdPutDdtRefIdeal.sig) → Buf (Elt Ideal) ℓ) (g : Dev Cert.SsdPutDdtRefIdeal.nD → PrngReg), Pre_SsdPutDdtRefIdeal m →
    θ_run (Cert.SsdPutDdtRefIdeal.defs (F := Ideal)) (onTc (τ := Cert.SsdPutDdtRefIdeal.τ) (Cert.SsdPutDdtRefIdeal.main (F := Ideal))) ⟨m, fun _ => 0, g⟩ (fun r => (∀ c : Dev Cert.SsdPutDdtRefIdeal.nD,
      r.2.mem ((c.tc : Thread Cert.SsdPutDdtRefIdeal.nD Cert.SsdPutDdtRefIdeal.τ).loc Cert.SsdPutDdtRefIdeal.main_arg0) = m ((c.tc : Thread Cert.SsdPutDdtRefIdeal.nD Cert.SsdPutDdtRefIdeal.τ).loc Cert.SsdPutDdtRefIdeal.main_arg0)
      ∧ r.2.mem ((c.tc : Thread Cert.SsdPutDdtRefIdeal.nD Cert.SsdPutDdtRefIdeal.τ).loc Cert.SsdPutDdtRefIdeal.main_arg1) = m ((c.tc : Thread Cert.SsdPutDdtRefIdeal.nD Cert.SsdPutDdtRefIdeal.τ).loc Cert.SsdPutDdtRefIdeal.main_arg1))
      ∧ r.2.sem = fun _ => 0)

def preserves_ScActBwd_ScActBwdIdeal : Prop :=
  True

def algebraic_ScActBwdIdeal_ScActBwdRefIdeal [hScActBwdIdeal : Cert.ScActBwdIdeal.Facts] [hScActBwdRefIdeal : Cert.ScActBwdRefIdeal.Facts] : Prop :=
  ∀ (m : (ℓ : Loc Cert.ScActBwdIdeal.nD Cert.ScActBwdIdeal.τ Cert.ScActBwdIdeal.sig) → Buf (Elt Ideal) ℓ) (g : Dev Cert.ScActBwdIdeal.nD → PrngReg)
    (m' : (ℓ : Loc Cert.ScActBwdRefIdeal.nD Cert.ScActBwdRefIdeal.τ Cert.ScActBwdRefIdeal.sig) → Buf (Elt Ideal) ℓ) (g' : Dev Cert.ScActBwdRefIdeal.nD → PrngReg), Pre_ScActBwdIdeal m →
    (∀ c : Dev Cert.ScActBwdIdeal.nD,
      m' ((c.tc : Thread Cert.ScActBwdRefIdeal.nD Cert.ScActBwdRefIdeal.τ).loc Cert.ScActBwdRefIdeal.main_arg0) = m ((c.tc : Thread Cert.ScActBwdIdeal.nD Cert.ScActBwdIdeal.τ).loc Cert.ScActBwdIdeal.main_arg0)
      ∧ m' ((c.tc : Thread Cert.ScActBwdRefIdeal.nD Cert.ScActBwdRefIdeal.τ).loc Cert.ScActBwdRefIdeal.main_arg1) = m ((c.tc : Thread Cert.ScActBwdIdeal.nD Cert.ScActBwdIdeal.τ).loc Cert.ScActBwdIdeal.main_arg1)
      ∧ m' ((c.tc : Thread Cert.ScActBwdRefIdeal.nD Cert.ScActBwdRefIdeal.τ).loc Cert.ScActBwdRefIdeal.main_arg2) = m ((c.tc : Thread Cert.ScActBwdIdeal.nD Cert.ScActBwdIdeal.τ).loc Cert.ScActBwdIdeal.main_arg2)) →
    ∃ (v0 : (c : Dev Cert.ScActBwdIdeal.nD) → Buf (Elt Ideal) ((c.tc : Thread Cert.ScActBwdIdeal.nD Cert.ScActBwdIdeal.τ).loc Cert.ScActBwdIdeal.main_v0_0)) (v1 : (c : Dev Cert.ScActBwdIdeal.nD) → Buf (Elt Ideal) ((c.tc : Thread Cert.ScActBwdIdeal.nD Cert.ScActBwdIdeal.τ).loc Cert.ScActBwdIdeal.main_v0_1)),
      θ_run (Cert.ScActBwdIdeal.defs (F := Ideal)) (onTc (τ := Cert.ScActBwdIdeal.τ) (Cert.ScActBwdIdeal.main (F := Ideal))) ⟨m, fun _ => 0, g⟩ (fun r => ∀ c : Dev Cert.ScActBwdIdeal.nD,
          r.2.mem ((c.tc : Thread Cert.ScActBwdIdeal.nD Cert.ScActBwdIdeal.τ).loc Cert.ScActBwdIdeal.main_v0_0) = v0 c
          ∧ r.2.mem ((c.tc : Thread Cert.ScActBwdIdeal.nD Cert.ScActBwdIdeal.τ).loc Cert.ScActBwdIdeal.main_v0_1) = v1 c
          ∧ r.2.mem ((c.tc : Thread Cert.ScActBwdIdeal.nD Cert.ScActBwdIdeal.τ).loc Cert.ScActBwdIdeal.main_arg0) = m ((c.tc : Thread Cert.ScActBwdIdeal.nD Cert.ScActBwdIdeal.τ).loc Cert.ScActBwdIdeal.main_arg0)
          ∧ r.2.mem ((c.tc : Thread Cert.ScActBwdIdeal.nD Cert.ScActBwdIdeal.τ).loc Cert.ScActBwdIdeal.main_arg1) = m ((c.tc : Thread Cert.ScActBwdIdeal.nD Cert.ScActBwdIdeal.τ).loc Cert.ScActBwdIdeal.main_arg1)
          ∧ r.2.mem ((c.tc : Thread Cert.ScActBwdIdeal.nD Cert.ScActBwdIdeal.τ).loc Cert.ScActBwdIdeal.main_arg2) = m ((c.tc : Thread Cert.ScActBwdIdeal.nD Cert.ScActBwdIdeal.τ).loc Cert.ScActBwdIdeal.main_arg2))
      ∧ θ_run (Cert.ScActBwdRefIdeal.defs (F := Ideal)) (onTc (τ := Cert.ScActBwdRefIdeal.τ) (Cert.ScActBwdRefIdeal.main (F := Ideal))) ⟨m', fun _ => 0, g'⟩ (fun r => ∀ c : Dev Cert.ScActBwdRefIdeal.nD,
          r.2.mem ((c.tc : Thread Cert.ScActBwdRefIdeal.nD Cert.ScActBwdRefIdeal.τ).loc Cert.ScActBwdRefIdeal.main_v80) = v0 c
          ∧ r.2.mem ((c.tc : Thread Cert.ScActBwdRefIdeal.nD Cert.ScActBwdRefIdeal.τ).loc Cert.ScActBwdRefIdeal.main_v65) = v1 c
          ∧ r.2.mem ((c.tc : Thread Cert.ScActBwdRefIdeal.nD Cert.ScActBwdRefIdeal.τ).loc Cert.ScActBwdRefIdeal.main_arg0) = m' ((c.tc : Thread Cert.ScActBwdRefIdeal.nD Cert.ScActBwdRefIdeal.τ).loc Cert.ScActBwdRefIdeal.main_arg0)
          ∧ r.2.mem ((c.tc : Thread Cert.ScActBwdRefIdeal.nD Cert.ScActBwdRefIdeal.τ).loc Cert.ScActBwdRefIdeal.main_arg1) = m' ((c.tc : Thread Cert.ScActBwdRefIdeal.nD Cert.ScActBwdRefIdeal.τ).loc Cert.ScActBwdRefIdeal.main_arg1)
          ∧ r.2.mem ((c.tc : Thread Cert.ScActBwdRefIdeal.nD Cert.ScActBwdRefIdeal.τ).loc Cert.ScActBwdRefIdeal.main_arg2) = m' ((c.tc : Thread Cert.ScActBwdRefIdeal.nD Cert.ScActBwdRefIdeal.τ).loc Cert.ScActBwdRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v5) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v6) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v12) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v9) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v0)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v0) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v3) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v0)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v3) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2))

def preserves_SsdOutDx_SsdOutDxIdeal : Prop :=
  True

def algebraic_SsdOutDxIdeal_SsdOutDxRefIdeal [hSsdOutDxIdeal : Cert.SsdOutDxIdeal.Facts] [hSsdOutDxRefIdeal : Cert.SsdOutDxRefIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg)
    (m' : (ℓ : Loc Cert.SsdOutDxRefIdeal.nD Cert.SsdOutDxRefIdeal.τ Cert.SsdOutDxRefIdeal.sig) → Buf (Elt Ideal) ℓ) (g' : Dev Cert.SsdOutDxRefIdeal.nD → PrngReg), Pre_SsdOutDxIdeal m →
    (∀ c : Dev Cert.SsdOutDxIdeal.nD,
      m' ((c.tc : Thread Cert.SsdOutDxRefIdeal.nD Cert.SsdOutDxRefIdeal.τ).loc Cert.SsdOutDxRefIdeal.main_arg0) = m ((c.tc : Thread Cert.SsdOutDxIdeal.nD Cert.SsdOutDxIdeal.τ).loc Cert.SsdOutDxIdeal.main_arg0)
      ∧ m' ((c.tc : Thread Cert.SsdOutDxRefIdeal.nD Cert.SsdOutDxRefIdeal.τ).loc Cert.SsdOutDxRefIdeal.main_arg1) = m ((c.tc : Thread Cert.SsdOutDxIdeal.nD Cert.SsdOutDxIdeal.τ).loc Cert.SsdOutDxIdeal.main_arg1)) →
    ∃ (v0 : (c : Dev Cert.SsdOutDxIdeal.nD) → Buf (Elt Ideal) ((c.tc : Thread Cert.SsdOutDxIdeal.nD Cert.SsdOutDxIdeal.τ).loc Cert.SsdOutDxIdeal.main_v0)),
      θ_run (Cert.SsdOutDxIdeal.defs (F := Ideal)) (onTc (τ := Cert.SsdOutDxIdeal.τ) (Cert.SsdOutDxIdeal.main (F := Ideal))) ⟨m, fun _ => 0, g⟩ (fun r => ∀ c : Dev Cert.SsdOutDxIdeal.nD,
          r.2.mem ((c.tc : Thread Cert.SsdOutDxIdeal.nD Cert.SsdOutDxIdeal.τ).loc Cert.SsdOutDxIdeal.main_v0) = v0 c
          ∧ r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
          ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ θ_run (Cert.SsdOutDxRefIdeal.defs (F := Ideal)) (onTc (τ := Cert.SsdOutDxRefIdeal.τ) (Cert.SsdOutDxRefIdeal.main (F := Ideal))) ⟨m', fun _ => 0, g'⟩ (fun r => ∀ c : Dev Cert.SsdOutDxRefIdeal.nD,
          r.2.mem ((c.tc : Thread Cert.SsdOutDxRefIdeal.nD Cert.SsdOutDxRefIdeal.τ).loc Cert.SsdOutDxRefIdeal.main_v5) = v0 c
          ∧ r.2.mem ((c.tc : Thread Cert.SsdOutDxRefIdeal.nD Cert.SsdOutDxRefIdeal.τ).loc Cert.SsdOutDxRefIdeal.main_arg0) = m' ((c.tc : Thread Cert.SsdOutDxRefIdeal.nD Cert.SsdOutDxRefIdeal.τ).loc Cert.SsdOutDxRefIdeal.main_arg0)
          ∧ r.2.mem ((c.tc : Thread Cert.SsdOutDxRefIdeal.nD Cert.SsdOutDxRefIdeal.τ).loc Cert.SsdOutDxRefIdeal.main_arg1) = m' ((c.tc : Thread Cert.SsdOutDxRefIdeal.nD Cert.SsdOutDxRefIdeal.τ).loc Cert.SsdOutDxRefIdeal.main_arg1))

def preserves_SsdOutDw_SsdOutDwIdeal : Prop :=
  True

def algebraic_SsdOutDwIdeal_SsdOutDwRefIdeal [hSsdOutDwIdeal : Cert.SsdOutDwIdeal.Facts] [hSsdOutDwRefIdeal : Cert.SsdOutDwRefIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg)
    (m' : (ℓ : Loc Cert.SsdOutDwRefIdeal.nD Cert.SsdOutDwRefIdeal.τ Cert.SsdOutDwRefIdeal.sig) → Buf (Elt Ideal) ℓ) (g' : Dev Cert.SsdOutDwRefIdeal.nD → PrngReg), Pre_SsdOutDwIdeal m →
    (∀ c : Dev Cert.SsdOutDwIdeal.nD,
      m' ((c.tc : Thread Cert.SsdOutDwRefIdeal.nD Cert.SsdOutDwRefIdeal.τ).loc Cert.SsdOutDwRefIdeal.main_arg0) = m ((c.tc : Thread Cert.SsdOutDwIdeal.nD Cert.SsdOutDwIdeal.τ).loc Cert.SsdOutDwIdeal.main_arg0)
      ∧ m' ((c.tc : Thread Cert.SsdOutDwRefIdeal.nD Cert.SsdOutDwRefIdeal.τ).loc Cert.SsdOutDwRefIdeal.main_arg1) = m ((c.tc : Thread Cert.SsdOutDwIdeal.nD Cert.SsdOutDwIdeal.τ).loc Cert.SsdOutDwIdeal.main_arg1)) →
    ∃ (v0 : (c : Dev Cert.SsdOutDwIdeal.nD) → Buf (Elt Ideal) ((c.tc : Thread Cert.SsdOutDwIdeal.nD Cert.SsdOutDwIdeal.τ).loc Cert.SsdOutDwIdeal.main_v0)),
      θ_run (Cert.SsdOutDwIdeal.defs (F := Ideal)) (onTc (τ := Cert.SsdOutDwIdeal.τ) (Cert.SsdOutDwIdeal.main (F := Ideal))) ⟨m, fun _ => 0, g⟩ (fun r => ∀ c : Dev Cert.SsdOutDwIdeal.nD,
          r.2.mem ((c.tc : Thread Cert.SsdOutDwIdeal.nD Cert.SsdOutDwIdeal.τ).loc Cert.SsdOutDwIdeal.main_v0) = v0 c
          ∧ r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
          ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ θ_run (Cert.SsdOutDwRefIdeal.defs (F := Ideal)) (onTc (τ := Cert.SsdOutDwRefIdeal.τ) (Cert.SsdOutDwRefIdeal.main (F := Ideal))) ⟨m', fun _ => 0, g'⟩ (fun r => ∀ c : Dev Cert.SsdOutDwRefIdeal.nD,
          r.2.mem ((c.tc : Thread Cert.SsdOutDwRefIdeal.nD Cert.SsdOutDwRefIdeal.τ).loc Cert.SsdOutDwRefIdeal.main_v6) = v0 c
          ∧ r.2.mem ((c.tc : Thread Cert.SsdOutDwRefIdeal.nD Cert.SsdOutDwRefIdeal.τ).loc Cert.SsdOutDwRefIdeal.main_arg0) = m' ((c.tc : Thread Cert.SsdOutDwRefIdeal.nD Cert.SsdOutDwRefIdeal.τ).loc Cert.SsdOutDwRefIdeal.main_arg0)
          ∧ r.2.mem ((c.tc : Thread Cert.SsdOutDwRefIdeal.nD Cert.SsdOutDwRefIdeal.τ).loc Cert.SsdOutDwRefIdeal.main_arg1) = m' ((c.tc : Thread Cert.SsdOutDwRefIdeal.nD Cert.SsdOutDwRefIdeal.τ).loc Cert.SsdOutDwRefIdeal.main_arg1))

def preserves_SsdInDw_SsdInDwIdeal : Prop :=
  True

def algebraic_SsdInDwIdeal_SsdInDwRefIdeal [hSsdInDwIdeal : Cert.SsdInDwIdeal.Facts] [hSsdInDwRefIdeal : Cert.SsdInDwRefIdeal.Facts] : Prop :=
  ∀ (m : (ℓ : Loc Cert.SsdInDwIdeal.nD Cert.SsdInDwIdeal.τ Cert.SsdInDwIdeal.sig) → Buf (Elt Ideal) ℓ) (g : Dev Cert.SsdInDwIdeal.nD → PrngReg)
    (m' : (ℓ : Loc Cert.SsdInDwRefIdeal.nD Cert.SsdInDwRefIdeal.τ Cert.SsdInDwRefIdeal.sig) → Buf (Elt Ideal) ℓ) (g' : Dev Cert.SsdInDwRefIdeal.nD → PrngReg), Pre_SsdInDwIdeal m →
    (∀ c : Dev Cert.SsdInDwIdeal.nD,
      m' ((c.tc : Thread Cert.SsdInDwRefIdeal.nD Cert.SsdInDwRefIdeal.τ).loc Cert.SsdInDwRefIdeal.main_arg0) = m ((c.tc : Thread Cert.SsdInDwIdeal.nD Cert.SsdInDwIdeal.τ).loc Cert.SsdInDwIdeal.main_arg0)
      ∧ m' ((c.tc : Thread Cert.SsdInDwRefIdeal.nD Cert.SsdInDwRefIdeal.τ).loc Cert.SsdInDwRefIdeal.main_arg1) = m ((c.tc : Thread Cert.SsdInDwIdeal.nD Cert.SsdInDwIdeal.τ).loc Cert.SsdInDwIdeal.main_arg1)) →
    ∃ (v0 : (c : Dev Cert.SsdInDwIdeal.nD) → Buf (Elt Ideal) ((c.tc : Thread Cert.SsdInDwIdeal.nD Cert.SsdInDwIdeal.τ).loc Cert.SsdInDwIdeal.main_v0)),
      θ_run (Cert.SsdInDwIdeal.defs (F := Ideal)) (onTc (τ := Cert.SsdInDwIdeal.τ) (Cert.SsdInDwIdeal.main (F := Ideal))) ⟨m, fun _ => 0, g⟩ (fun r => ∀ c : Dev Cert.SsdInDwIdeal.nD,
          r.2.mem ((c.tc : Thread Cert.SsdInDwIdeal.nD Cert.SsdInDwIdeal.τ).loc Cert.SsdInDwIdeal.main_v0) = v0 c
          ∧ r.2.mem ((c.tc : Thread Cert.SsdInDwIdeal.nD Cert.SsdInDwIdeal.τ).loc Cert.SsdInDwIdeal.main_arg0) = m ((c.tc : Thread Cert.SsdInDwIdeal.nD Cert.SsdInDwIdeal.τ).loc Cert.SsdInDwIdeal.main_arg0)
          ∧ r.2.mem ((c.tc : Thread Cert.SsdInDwIdeal.nD Cert.SsdInDwIdeal.τ).loc Cert.SsdInDwIdeal.main_arg1) = m ((c.tc : Thread Cert.SsdInDwIdeal.nD Cert.SsdInDwIdeal.τ).loc Cert.SsdInDwIdeal.main_arg1))
      ∧ θ_run (Cert.SsdInDwRefIdeal.defs (F := Ideal)) (onTc (τ := Cert.SsdInDwRefIdeal.τ) (Cert.SsdInDwRefIdeal.main (F := Ideal))) ⟨m', fun _ => 0, g'⟩ (fun r => ∀ c : Dev Cert.SsdInDwRefIdeal.nD,
          r.2.mem ((c.tc : Thread Cert.SsdInDwRefIdeal.nD Cert.SsdInDwRefIdeal.τ).loc Cert.SsdInDwRefIdeal.main_v6) = v0 c
          ∧ r.2.mem ((c.tc : Thread Cert.SsdInDwRefIdeal.nD Cert.SsdInDwRefIdeal.τ).loc Cert.SsdInDwRefIdeal.main_arg0) = m' ((c.tc : Thread Cert.SsdInDwRefIdeal.nD Cert.SsdInDwRefIdeal.τ).loc Cert.SsdInDwRefIdeal.main_arg0)
          ∧ r.2.mem ((c.tc : Thread Cert.SsdInDwRefIdeal.nD Cert.SsdInDwRefIdeal.τ).loc Cert.SsdInDwRefIdeal.main_arg1) = m' ((c.tc : Thread Cert.SsdInDwRefIdeal.nD Cert.SsdInDwRefIdeal.τ).loc Cert.SsdInDwRefIdeal.main_arg1))

def preserves_SsdInDx_SsdInDxIdeal : Prop :=
  True

def algebraic_SsdInDxIdeal_SsdInDxRefIdeal [hSsdInDxIdeal : Cert.SsdInDxIdeal.Facts] [hSsdInDxRefIdeal : Cert.SsdInDxRefIdeal.Facts] : Prop :=
  ∀ (m : (ℓ : Loc Cert.SsdInDxIdeal.nD Cert.SsdInDxIdeal.τ Cert.SsdInDxIdeal.sig) → Buf (Elt Ideal) ℓ) (g : Dev Cert.SsdInDxIdeal.nD → PrngReg)
    (m' : (ℓ : Loc Cert.SsdInDxRefIdeal.nD Cert.SsdInDxRefIdeal.τ Cert.SsdInDxRefIdeal.sig) → Buf (Elt Ideal) ℓ) (g' : Dev Cert.SsdInDxRefIdeal.nD → PrngReg), Pre_SsdInDxIdeal m →
    (∀ c : Dev Cert.SsdInDxIdeal.nD,
      m' ((c.tc : Thread Cert.SsdInDxRefIdeal.nD Cert.SsdInDxRefIdeal.τ).loc Cert.SsdInDxRefIdeal.main_arg0) = m ((c.tc : Thread Cert.SsdInDxIdeal.nD Cert.SsdInDxIdeal.τ).loc Cert.SsdInDxIdeal.main_arg0)
      ∧ m' ((c.tc : Thread Cert.SsdInDxRefIdeal.nD Cert.SsdInDxRefIdeal.τ).loc Cert.SsdInDxRefIdeal.main_arg1) = m ((c.tc : Thread Cert.SsdInDxIdeal.nD Cert.SsdInDxIdeal.τ).loc Cert.SsdInDxIdeal.main_arg1)) →
    ∃ (v0 : (c : Dev Cert.SsdInDxIdeal.nD) → Buf (Elt Ideal) ((c.tc : Thread Cert.SsdInDxIdeal.nD Cert.SsdInDxIdeal.τ).loc Cert.SsdInDxIdeal.main_v0)),
      θ_run (Cert.SsdInDxIdeal.defs (F := Ideal)) (onTc (τ := Cert.SsdInDxIdeal.τ) (Cert.SsdInDxIdeal.main (F := Ideal))) ⟨m, fun _ => 0, g⟩ (fun r => ∀ c : Dev Cert.SsdInDxIdeal.nD,
          r.2.mem ((c.tc : Thread Cert.SsdInDxIdeal.nD Cert.SsdInDxIdeal.τ).loc Cert.SsdInDxIdeal.main_v0) = v0 c
          ∧ r.2.mem ((c.tc : Thread Cert.SsdInDxIdeal.nD Cert.SsdInDxIdeal.τ).loc Cert.SsdInDxIdeal.main_arg0) = m ((c.tc : Thread Cert.SsdInDxIdeal.nD Cert.SsdInDxIdeal.τ).loc Cert.SsdInDxIdeal.main_arg0)
          ∧ r.2.mem ((c.tc : Thread Cert.SsdInDxIdeal.nD Cert.SsdInDxIdeal.τ).loc Cert.SsdInDxIdeal.main_arg1) = m ((c.tc : Thread Cert.SsdInDxIdeal.nD Cert.SsdInDxIdeal.τ).loc Cert.SsdInDxIdeal.main_arg1))
      ∧ θ_run (Cert.SsdInDxRefIdeal.defs (F := Ideal)) (onTc (τ := Cert.SsdInDxRefIdeal.τ) (Cert.SsdInDxRefIdeal.main (F := Ideal))) ⟨m', fun _ => 0, g'⟩ (fun r => ∀ c : Dev Cert.SsdInDxRefIdeal.nD,
          r.2.mem ((c.tc : Thread Cert.SsdInDxRefIdeal.nD Cert.SsdInDxRefIdeal.τ).loc Cert.SsdInDxRefIdeal.main_v5) = v0 c
          ∧ r.2.mem ((c.tc : Thread Cert.SsdInDxRefIdeal.nD Cert.SsdInDxRefIdeal.τ).loc Cert.SsdInDxRefIdeal.main_arg0) = m' ((c.tc : Thread Cert.SsdInDxRefIdeal.nD Cert.SsdInDxRefIdeal.τ).loc Cert.SsdInDxRefIdeal.main_arg0)
          ∧ r.2.mem ((c.tc : Thread Cert.SsdInDxRefIdeal.nD Cert.SsdInDxRefIdeal.τ).loc Cert.SsdInDxRefIdeal.main_arg1) = m' ((c.tc : Thread Cert.SsdInDxRefIdeal.nD Cert.SsdInDxRefIdeal.τ).loc Cert.SsdInDxRefIdeal.main_arg1))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v0)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v0) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v5) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScOut_ScOutIdeal : Prop :=
  True

def algebraic_ScOutIdeal_ScOutRefIdeal [hScOutIdeal : Cert.ScOutIdeal.Facts] [hScOutRefIdeal : Cert.ScOutRefIdeal.Facts] : Prop :=
  ∀ (m : (ℓ : Loc Cert.ScOutIdeal.nD Cert.ScOutIdeal.τ Cert.ScOutIdeal.sig) → Buf (Elt Ideal) ℓ) (g : Dev Cert.ScOutIdeal.nD → PrngReg)
    (m' : (ℓ : Loc Cert.ScOutRefIdeal.nD Cert.ScOutRefIdeal.τ Cert.ScOutRefIdeal.sig) → Buf (Elt Ideal) ℓ) (g' : Dev Cert.ScOutRefIdeal.nD → PrngReg), Pre_ScOutIdeal m →
    (∀ c : Dev Cert.ScOutIdeal.nD,
      m' ((c.tc : Thread Cert.ScOutRefIdeal.nD Cert.ScOutRefIdeal.τ).loc Cert.ScOutRefIdeal.main_arg0) = m ((c.tc : Thread Cert.ScOutIdeal.nD Cert.ScOutIdeal.τ).loc Cert.ScOutIdeal.main_arg0)
      ∧ m' ((c.tc : Thread Cert.ScOutRefIdeal.nD Cert.ScOutRefIdeal.τ).loc Cert.ScOutRefIdeal.main_arg1) = m ((c.tc : Thread Cert.ScOutIdeal.nD Cert.ScOutIdeal.τ).loc Cert.ScOutIdeal.main_arg1)
      ∧ m' ((c.tc : Thread Cert.ScOutRefIdeal.nD Cert.ScOutRefIdeal.τ).loc Cert.ScOutRefIdeal.main_arg2) = m ((c.tc : Thread Cert.ScOutIdeal.nD Cert.ScOutIdeal.τ).loc Cert.ScOutIdeal.main_arg2)) →
    ∃ (v0 : (c : Dev Cert.ScOutIdeal.nD) → Buf (Elt Ideal) ((c.tc : Thread Cert.ScOutIdeal.nD Cert.ScOutIdeal.τ).loc Cert.ScOutIdeal.main_v0)),
      θ_run (Cert.ScOutIdeal.defs (F := Ideal)) (onTc (τ := Cert.ScOutIdeal.τ) (Cert.ScOutIdeal.main (F := Ideal))) ⟨m, fun _ => 0, g⟩ (fun r => ∀ c : Dev Cert.ScOutIdeal.nD,
          r.2.mem ((c.tc : Thread Cert.ScOutIdeal.nD Cert.ScOutIdeal.τ).loc Cert.ScOutIdeal.main_v0) = v0 c
          ∧ r.2.mem ((c.tc : Thread Cert.ScOutIdeal.nD Cert.ScOutIdeal.τ).loc Cert.ScOutIdeal.main_arg0) = m ((c.tc : Thread Cert.ScOutIdeal.nD Cert.ScOutIdeal.τ).loc Cert.ScOutIdeal.main_arg0)
          ∧ r.2.mem ((c.tc : Thread Cert.ScOutIdeal.nD Cert.ScOutIdeal.τ).loc Cert.ScOutIdeal.main_arg1) = m ((c.tc : Thread Cert.ScOutIdeal.nD Cert.ScOutIdeal.τ).loc Cert.ScOutIdeal.main_arg1)
          ∧ r.2.mem ((c.tc : Thread Cert.ScOutIdeal.nD Cert.ScOutIdeal.τ).loc Cert.ScOutIdeal.main_arg2) = m ((c.tc : Thread Cert.ScOutIdeal.nD Cert.ScOutIdeal.τ).loc Cert.ScOutIdeal.main_arg2))
      ∧ θ_run (Cert.ScOutRefIdeal.defs (F := Ideal)) (onTc (τ := Cert.ScOutRefIdeal.τ) (Cert.ScOutRefIdeal.main (F := Ideal))) ⟨m', fun _ => 0, g'⟩ (fun r => ∀ c : Dev Cert.ScOutRefIdeal.nD,
          r.2.mem ((c.tc : Thread Cert.ScOutRefIdeal.nD Cert.ScOutRefIdeal.τ).loc Cert.ScOutRefIdeal.main_v3) = v0 c
          ∧ r.2.mem ((c.tc : Thread Cert.ScOutRefIdeal.nD Cert.ScOutRefIdeal.τ).loc Cert.ScOutRefIdeal.main_arg0) = m' ((c.tc : Thread Cert.ScOutRefIdeal.nD Cert.ScOutRefIdeal.τ).loc Cert.ScOutRefIdeal.main_arg0)
          ∧ r.2.mem ((c.tc : Thread Cert.ScOutRefIdeal.nD Cert.ScOutRefIdeal.τ).loc Cert.ScOutRefIdeal.main_arg1) = m' ((c.tc : Thread Cert.ScOutRefIdeal.nD Cert.ScOutRefIdeal.τ).loc Cert.ScOutRefIdeal.main_arg1)
          ∧ r.2.mem ((c.tc : Thread Cert.ScOutRefIdeal.nD Cert.ScOutRefIdeal.τ).loc Cert.ScOutRefIdeal.main_arg2) = m' ((c.tc : Thread Cert.ScOutRefIdeal.nD Cert.ScOutRefIdeal.τ).loc Cert.ScOutRefIdeal.main_arg2))

def preserves_ScOutDx_ScOutDxIdeal : Prop :=
  True

def algebraic_ScOutDxIdeal_ScOutDxRefIdeal [hScOutDxIdeal : Cert.ScOutDxIdeal.Facts] [hScOutDxRefIdeal : Cert.ScOutDxRefIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg)
    (m' : (ℓ : Loc Cert.ScOutDxRefIdeal.nD Cert.ScOutDxRefIdeal.τ Cert.ScOutDxRefIdeal.sig) → Buf (Elt Ideal) ℓ) (g' : Dev Cert.ScOutDxRefIdeal.nD → PrngReg), Pre_ScOutDxIdeal m →
    (∀ c : Dev Cert.ScOutDxIdeal.nD,
      m' ((c.tc : Thread Cert.ScOutDxRefIdeal.nD Cert.ScOutDxRefIdeal.τ).loc Cert.ScOutDxRefIdeal.main_arg0) = m ((c.tc : Thread Cert.ScOutDxIdeal.nD Cert.ScOutDxIdeal.τ).loc Cert.ScOutDxIdeal.main_arg0)
      ∧ m' ((c.tc : Thread Cert.ScOutDxRefIdeal.nD Cert.ScOutDxRefIdeal.τ).loc Cert.ScOutDxRefIdeal.main_arg1) = m ((c.tc : Thread Cert.ScOutDxIdeal.nD Cert.ScOutDxIdeal.τ).loc Cert.ScOutDxIdeal.main_arg1)) →
    ∃ (v0 : (c : Dev Cert.ScOutDxIdeal.nD) → Buf (Elt Ideal) ((c.tc : Thread Cert.ScOutDxIdeal.nD Cert.ScOutDxIdeal.τ).loc Cert.ScOutDxIdeal.main_v0)),
      θ_run (Cert.ScOutDxIdeal.defs (F := Ideal)) (onTc (τ := Cert.ScOutDxIdeal.τ) (Cert.ScOutDxIdeal.main (F := Ideal))) ⟨m, fun _ => 0, g⟩ (fun r => ∀ c : Dev Cert.ScOutDxIdeal.nD,
          r.2.mem ((c.tc : Thread Cert.ScOutDxIdeal.nD Cert.ScOutDxIdeal.τ).loc Cert.ScOutDxIdeal.main_v0) = v0 c
          ∧ r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
          ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ θ_run (Cert.ScOutDxRefIdeal.defs (F := Ideal)) (onTc (τ := Cert.ScOutDxRefIdeal.τ) (Cert.ScOutDxRefIdeal.main (F := Ideal))) ⟨m', fun _ => 0, g'⟩ (fun r => ∀ c : Dev Cert.ScOutDxRefIdeal.nD,
          r.2.mem ((c.tc : Thread Cert.ScOutDxRefIdeal.nD Cert.ScOutDxRefIdeal.τ).loc Cert.ScOutDxRefIdeal.main_v5) = v0 c
          ∧ r.2.mem ((c.tc : Thread Cert.ScOutDxRefIdeal.nD Cert.ScOutDxRefIdeal.τ).loc Cert.ScOutDxRefIdeal.main_arg0) = m' ((c.tc : Thread Cert.ScOutDxRefIdeal.nD Cert.ScOutDxRefIdeal.τ).loc Cert.ScOutDxRefIdeal.main_arg0)
          ∧ r.2.mem ((c.tc : Thread Cert.ScOutDxRefIdeal.nD Cert.ScOutDxRefIdeal.τ).loc Cert.ScOutDxRefIdeal.main_arg1) = m' ((c.tc : Thread Cert.ScOutDxRefIdeal.nD Cert.ScOutDxRefIdeal.τ).loc Cert.ScOutDxRefIdeal.main_arg1))

def preserves_ScOutDw_ScOutDwIdeal : Prop :=
  True

def algebraic_ScOutDwIdeal_ScOutDwRefIdeal [hScOutDwIdeal : Cert.ScOutDwIdeal.Facts] [hScOutDwRefIdeal : Cert.ScOutDwRefIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg)
    (m' : (ℓ : Loc Cert.ScOutDwRefIdeal.nD Cert.ScOutDwRefIdeal.τ Cert.ScOutDwRefIdeal.sig) → Buf (Elt Ideal) ℓ) (g' : Dev Cert.ScOutDwRefIdeal.nD → PrngReg), Pre_ScOutDwIdeal m →
    (∀ c : Dev Cert.ScOutDwIdeal.nD,
      m' ((c.tc : Thread Cert.ScOutDwRefIdeal.nD Cert.ScOutDwRefIdeal.τ).loc Cert.ScOutDwRefIdeal.main_arg0) = m ((c.tc : Thread Cert.ScOutDwIdeal.nD Cert.ScOutDwIdeal.τ).loc Cert.ScOutDwIdeal.main_arg0)
      ∧ m' ((c.tc : Thread Cert.ScOutDwRefIdeal.nD Cert.ScOutDwRefIdeal.τ).loc Cert.ScOutDwRefIdeal.main_arg1) = m ((c.tc : Thread Cert.ScOutDwIdeal.nD Cert.ScOutDwIdeal.τ).loc Cert.ScOutDwIdeal.main_arg1)) →
    ∃ (v0 : (c : Dev Cert.ScOutDwIdeal.nD) → Buf (Elt Ideal) ((c.tc : Thread Cert.ScOutDwIdeal.nD Cert.ScOutDwIdeal.τ).loc Cert.ScOutDwIdeal.main_v0)),
      θ_run (Cert.ScOutDwIdeal.defs (F := Ideal)) (onTc (τ := Cert.ScOutDwIdeal.τ) (Cert.ScOutDwIdeal.main (F := Ideal))) ⟨m, fun _ => 0, g⟩ (fun r => ∀ c : Dev Cert.ScOutDwIdeal.nD,
          r.2.mem ((c.tc : Thread Cert.ScOutDwIdeal.nD Cert.ScOutDwIdeal.τ).loc Cert.ScOutDwIdeal.main_v0) = v0 c
          ∧ r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
          ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ θ_run (Cert.ScOutDwRefIdeal.defs (F := Ideal)) (onTc (τ := Cert.ScOutDwRefIdeal.τ) (Cert.ScOutDwRefIdeal.main (F := Ideal))) ⟨m', fun _ => 0, g'⟩ (fun r => ∀ c : Dev Cert.ScOutDwRefIdeal.nD,
          r.2.mem ((c.tc : Thread Cert.ScOutDwRefIdeal.nD Cert.ScOutDwRefIdeal.τ).loc Cert.ScOutDwRefIdeal.main_v6) = v0 c
          ∧ r.2.mem ((c.tc : Thread Cert.ScOutDwRefIdeal.nD Cert.ScOutDwRefIdeal.τ).loc Cert.ScOutDwRefIdeal.main_arg0) = m' ((c.tc : Thread Cert.ScOutDwRefIdeal.nD Cert.ScOutDwRefIdeal.τ).loc Cert.ScOutDwRefIdeal.main_arg0)
          ∧ r.2.mem ((c.tc : Thread Cert.ScOutDwRefIdeal.nD Cert.ScOutDwRefIdeal.τ).loc Cert.ScOutDwRefIdeal.main_arg1) = m' ((c.tc : Thread Cert.ScOutDwRefIdeal.nD Cert.ScOutDwRefIdeal.τ).loc Cert.ScOutDwRefIdeal.main_arg1))

def preserves_ScInDw_ScInDwIdeal : Prop :=
  True

def algebraic_ScInDwIdeal_ScInDwRefIdeal [hScInDwIdeal : Cert.ScInDwIdeal.Facts] [hScInDwRefIdeal : Cert.ScInDwRefIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg)
    (m' : (ℓ : Loc Cert.ScInDwRefIdeal.nD Cert.ScInDwRefIdeal.τ Cert.ScInDwRefIdeal.sig) → Buf (Elt Ideal) ℓ) (g' : Dev Cert.ScInDwRefIdeal.nD → PrngReg), Pre_ScInDwIdeal m →
    (∀ c : Dev Cert.ScInDwIdeal.nD,
      m' ((c.tc : Thread Cert.ScInDwRefIdeal.nD Cert.ScInDwRefIdeal.τ).loc Cert.ScInDwRefIdeal.main_arg0) = m ((c.tc : Thread Cert.ScInDwIdeal.nD Cert.ScInDwIdeal.τ).loc Cert.ScInDwIdeal.main_arg0)
      ∧ m' ((c.tc : Thread Cert.ScInDwRefIdeal.nD Cert.ScInDwRefIdeal.τ).loc Cert.ScInDwRefIdeal.main_arg1) = m ((c.tc : Thread Cert.ScInDwIdeal.nD Cert.ScInDwIdeal.τ).loc Cert.ScInDwIdeal.main_arg1)) →
    ∃ (v0 : (c : Dev Cert.ScInDwIdeal.nD) → Buf (Elt Ideal) ((c.tc : Thread Cert.ScInDwIdeal.nD Cert.ScInDwIdeal.τ).loc Cert.ScInDwIdeal.main_v0)),
      θ_run (Cert.ScInDwIdeal.defs (F := Ideal)) (onTc (τ := Cert.ScInDwIdeal.τ) (Cert.ScInDwIdeal.main (F := Ideal))) ⟨m, fun _ => 0, g⟩ (fun r => ∀ c : Dev Cert.ScInDwIdeal.nD,
          r.2.mem ((c.tc : Thread Cert.ScInDwIdeal.nD Cert.ScInDwIdeal.τ).loc Cert.ScInDwIdeal.main_v0) = v0 c
          ∧ r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
          ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ θ_run (Cert.ScInDwRefIdeal.defs (F := Ideal)) (onTc (τ := Cert.ScInDwRefIdeal.τ) (Cert.ScInDwRefIdeal.main (F := Ideal))) ⟨m', fun _ => 0, g'⟩ (fun r => ∀ c : Dev Cert.ScInDwRefIdeal.nD,
          r.2.mem ((c.tc : Thread Cert.ScInDwRefIdeal.nD Cert.ScInDwRefIdeal.τ).loc Cert.ScInDwRefIdeal.main_v8) = v0 c
          ∧ r.2.mem ((c.tc : Thread Cert.ScInDwRefIdeal.nD Cert.ScInDwRefIdeal.τ).loc Cert.ScInDwRefIdeal.main_arg0) = m' ((c.tc : Thread Cert.ScInDwRefIdeal.nD Cert.ScInDwRefIdeal.τ).loc Cert.ScInDwRefIdeal.main_arg0)
          ∧ r.2.mem ((c.tc : Thread Cert.ScInDwRefIdeal.nD Cert.ScInDwRefIdeal.τ).loc Cert.ScInDwRefIdeal.main_arg1) = m' ((c.tc : Thread Cert.ScInDwRefIdeal.nD Cert.ScInDwRefIdeal.τ).loc Cert.ScInDwRefIdeal.main_arg1))

def preserves_ScInDx_ScInDxIdeal : Prop :=
  True

def algebraic_ScInDxIdeal_ScInDxRefIdeal [hScInDxIdeal : Cert.ScInDxIdeal.Facts] [hScInDxRefIdeal : Cert.ScInDxRefIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg)
    (m' : (ℓ : Loc Cert.ScInDxRefIdeal.nD Cert.ScInDxRefIdeal.τ Cert.ScInDxRefIdeal.sig) → Buf (Elt Ideal) ℓ) (g' : Dev Cert.ScInDxRefIdeal.nD → PrngReg), Pre_ScInDxIdeal m →
    (∀ c : Dev Cert.ScInDxIdeal.nD,
      m' ((c.tc : Thread Cert.ScInDxRefIdeal.nD Cert.ScInDxRefIdeal.τ).loc Cert.ScInDxRefIdeal.main_arg0) = m ((c.tc : Thread Cert.ScInDxIdeal.nD Cert.ScInDxIdeal.τ).loc Cert.ScInDxIdeal.main_arg0)
      ∧ m' ((c.tc : Thread Cert.ScInDxRefIdeal.nD Cert.ScInDxRefIdeal.τ).loc Cert.ScInDxRefIdeal.main_arg1) = m ((c.tc : Thread Cert.ScInDxIdeal.nD Cert.ScInDxIdeal.τ).loc Cert.ScInDxIdeal.main_arg1)) →
    ∃ (v0 : (c : Dev Cert.ScInDxIdeal.nD) → Buf (Elt Ideal) ((c.tc : Thread Cert.ScInDxIdeal.nD Cert.ScInDxIdeal.τ).loc Cert.ScInDxIdeal.main_v0)),
      θ_run (Cert.ScInDxIdeal.defs (F := Ideal)) (onTc (τ := Cert.ScInDxIdeal.τ) (Cert.ScInDxIdeal.main (F := Ideal))) ⟨m, fun _ => 0, g⟩ (fun r => ∀ c : Dev Cert.ScInDxIdeal.nD,
          r.2.mem ((c.tc : Thread Cert.ScInDxIdeal.nD Cert.ScInDxIdeal.τ).loc Cert.ScInDxIdeal.main_v0) = v0 c
          ∧ r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
          ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1))
      ∧ θ_run (Cert.ScInDxRefIdeal.defs (F := Ideal)) (onTc (τ := Cert.ScInDxRefIdeal.τ) (Cert.ScInDxRefIdeal.main (F := Ideal))) ⟨m', fun _ => 0, g'⟩ (fun r => ∀ c : Dev Cert.ScInDxRefIdeal.nD,
          r.2.mem ((c.tc : Thread Cert.ScInDxRefIdeal.nD Cert.ScInDxRefIdeal.τ).loc Cert.ScInDxRefIdeal.main_v7) = v0 c
          ∧ r.2.mem ((c.tc : Thread Cert.ScInDxRefIdeal.nD Cert.ScInDxRefIdeal.τ).loc Cert.ScInDxRefIdeal.main_arg0) = m' ((c.tc : Thread Cert.ScInDxRefIdeal.nD Cert.ScInDxRefIdeal.τ).loc Cert.ScInDxRefIdeal.main_arg0)
          ∧ r.2.mem ((c.tc : Thread Cert.ScInDxRefIdeal.nD Cert.ScInDxRefIdeal.τ).loc Cert.ScInDxRefIdeal.main_arg1) = m' ((c.tc : Thread Cert.ScInDxRefIdeal.nD Cert.ScInDxRefIdeal.τ).loc Cert.ScInDxRefIdeal.main_arg1))

def preserves_SsdCoreBwd_SsdCoreBwdIdeal : Prop :=
  IdealRules.named_const.Statement Cert.SsdCoreBwdIdeal.κ "mask" .f32 0xF149F2CA#32 ⊥

def algebraic_SsdCoreBwdIdeal_SsdCoreBwdRefIdeal_pre_finite [hSsdCoreBwdIdeal : Cert.SsdCoreBwdIdeal.Facts] [hSsdCoreBwdRefIdeal : Cert.SsdCoreBwdRefIdeal.Facts] [hPre_finite : Cert.Pre_finite.Facts] : Prop :=
  ∀ (m : (ℓ : Loc Cert.SsdCoreBwdIdeal.nD Cert.SsdCoreBwdIdeal.τ Cert.SsdCoreBwdIdeal.sig) → Buf (Elt Ideal) ℓ) (g : Dev Cert.SsdCoreBwdIdeal.nD → PrngReg)
    (m' : (ℓ : Loc Cert.SsdCoreBwdRefIdeal.nD Cert.SsdCoreBwdRefIdeal.τ Cert.SsdCoreBwdRefIdeal.sig) → Buf (Elt Ideal) ℓ) (g' : Dev Cert.SsdCoreBwdRefIdeal.nD → PrngReg), Pre_SsdCoreBwdIdeal_finite m →
    (∀ c : Dev Cert.SsdCoreBwdIdeal.nD,
      m' ((c.tc : Thread Cert.SsdCoreBwdRefIdeal.nD Cert.SsdCoreBwdRefIdeal.τ).loc Cert.SsdCoreBwdRefIdeal.main_arg0) = m ((c.tc : Thread Cert.SsdCoreBwdIdeal.nD Cert.SsdCoreBwdIdeal.τ).loc Cert.SsdCoreBwdIdeal.main_arg0)
      ∧ m' ((c.tc : Thread Cert.SsdCoreBwdRefIdeal.nD Cert.SsdCoreBwdRefIdeal.τ).loc Cert.SsdCoreBwdRefIdeal.main_arg1) = m ((c.tc : Thread Cert.SsdCoreBwdIdeal.nD Cert.SsdCoreBwdIdeal.τ).loc Cert.SsdCoreBwdIdeal.main_arg1)
      ∧ m' ((c.tc : Thread Cert.SsdCoreBwdRefIdeal.nD Cert.SsdCoreBwdRefIdeal.τ).loc Cert.SsdCoreBwdRefIdeal.main_arg2) = m ((c.tc : Thread Cert.SsdCoreBwdIdeal.nD Cert.SsdCoreBwdIdeal.τ).loc Cert.SsdCoreBwdIdeal.main_arg2)
      ∧ m' ((c.tc : Thread Cert.SsdCoreBwdRefIdeal.nD Cert.SsdCoreBwdRefIdeal.τ).loc Cert.SsdCoreBwdRefIdeal.main_arg3) = m ((c.tc : Thread Cert.SsdCoreBwdIdeal.nD Cert.SsdCoreBwdIdeal.τ).loc Cert.SsdCoreBwdIdeal.main_arg3)
      ∧ m' ((c.tc : Thread Cert.SsdCoreBwdRefIdeal.nD Cert.SsdCoreBwdRefIdeal.τ).loc Cert.SsdCoreBwdRefIdeal.main_arg4) = m ((c.tc : Thread Cert.SsdCoreBwdIdeal.nD Cert.SsdCoreBwdIdeal.τ).loc Cert.SsdCoreBwdIdeal.main_arg4)
      ∧ m' ((c.tc : Thread Cert.SsdCoreBwdRefIdeal.nD Cert.SsdCoreBwdRefIdeal.τ).loc Cert.SsdCoreBwdRefIdeal.main_arg5) = m ((c.tc : Thread Cert.SsdCoreBwdIdeal.nD Cert.SsdCoreBwdIdeal.τ).loc Cert.SsdCoreBwdIdeal.main_arg5)
      ∧ m' ((c.tc : Thread Cert.SsdCoreBwdRefIdeal.nD Cert.SsdCoreBwdRefIdeal.τ).loc Cert.SsdCoreBwdRefIdeal.main_arg6) = m ((c.tc : Thread Cert.SsdCoreBwdIdeal.nD Cert.SsdCoreBwdIdeal.τ).loc Cert.SsdCoreBwdIdeal.main_arg6)) →
    ∃ (v0 : (c : Dev Cert.SsdCoreBwdIdeal.nD) → Buf (Elt Ideal) ((c.tc : Thread Cert.SsdCoreBwdIdeal.nD Cert.SsdCoreBwdIdeal.τ).loc Cert.SsdCoreBwdIdeal.main_v107_1)) (v1 : (c : Dev Cert.SsdCoreBwdIdeal.nD) → Buf (Elt Ideal) ((c.tc : Thread Cert.SsdCoreBwdIdeal.nD Cert.SsdCoreBwdIdeal.τ).loc Cert.SsdCoreBwdIdeal.main_v107_6)) (v2 : (c : Dev Cert.SsdCoreBwdIdeal.nD) → Buf (Elt Ideal) ((c.tc : Thread Cert.SsdCoreBwdIdeal.nD Cert.SsdCoreBwdIdeal.τ).loc Cert.SsdCoreBwdIdeal.main_v107_7)),
      θ_run (Cert.SsdCoreBwdIdeal.defs (F := Ideal)) (onTc (τ := Cert.SsdCoreBwdIdeal.τ) (Cert.SsdCoreBwdIdeal.main (F := Ideal))) ⟨m, fun _ => 0, g⟩ (fun r => ∀ c : Dev Cert.SsdCoreBwdIdeal.nD,
          r.2.mem ((c.tc : Thread Cert.SsdCoreBwdIdeal.nD Cert.SsdCoreBwdIdeal.τ).loc Cert.SsdCoreBwdIdeal.main_v107_1) = v0 c
          ∧ r.2.mem ((c.tc : Thread Cert.SsdCoreBwdIdeal.nD Cert.SsdCoreBwdIdeal.τ).loc Cert.SsdCoreBwdIdeal.main_v107_6) = v1 c
          ∧ r.2.mem ((c.tc : Thread Cert.SsdCoreBwdIdeal.nD Cert.SsdCoreBwdIdeal.τ).loc Cert.SsdCoreBwdIdeal.main_v107_7) = v2 c
          ∧ r.2.mem ((c.tc : Thread Cert.SsdCoreBwdIdeal.nD Cert.SsdCoreBwdIdeal.τ).loc Cert.SsdCoreBwdIdeal.main_arg0) = m ((c.tc : Thread Cert.SsdCoreBwdIdeal.nD Cert.SsdCoreBwdIdeal.τ).loc Cert.SsdCoreBwdIdeal.main_arg0)
          ∧ r.2.mem ((c.tc : Thread Cert.SsdCoreBwdIdeal.nD Cert.SsdCoreBwdIdeal.τ).loc Cert.SsdCoreBwdIdeal.main_arg1) = m ((c.tc : Thread Cert.SsdCoreBwdIdeal.nD Cert.SsdCoreBwdIdeal.τ).loc Cert.SsdCoreBwdIdeal.main_arg1)
          ∧ r.2.mem ((c.tc : Thread Cert.SsdCoreBwdIdeal.nD Cert.SsdCoreBwdIdeal.τ).loc Cert.SsdCoreBwdIdeal.main_arg2) = m ((c.tc : Thread Cert.SsdCoreBwdIdeal.nD Cert.SsdCoreBwdIdeal.τ).loc Cert.SsdCoreBwdIdeal.main_arg2)
          ∧ r.2.mem ((c.tc : Thread Cert.SsdCoreBwdIdeal.nD Cert.SsdCoreBwdIdeal.τ).loc Cert.SsdCoreBwdIdeal.main_arg3) = m ((c.tc : Thread Cert.SsdCoreBwdIdeal.nD Cert.SsdCoreBwdIdeal.τ).loc Cert.SsdCoreBwdIdeal.main_arg3)
          ∧ r.2.mem ((c.tc : Thread Cert.SsdCoreBwdIdeal.nD Cert.SsdCoreBwdIdeal.τ).loc Cert.SsdCoreBwdIdeal.main_arg4) = m ((c.tc : Thread Cert.SsdCoreBwdIdeal.nD Cert.SsdCoreBwdIdeal.τ).loc Cert.SsdCoreBwdIdeal.main_arg4)
          ∧ r.2.mem ((c.tc : Thread Cert.SsdCoreBwdIdeal.nD Cert.SsdCoreBwdIdeal.τ).loc Cert.SsdCoreBwdIdeal.main_arg5) = m ((c.tc : Thread Cert.SsdCoreBwdIdeal.nD Cert.SsdCoreBwdIdeal.τ).loc Cert.SsdCoreBwdIdeal.main_arg5)
          ∧ r.2.mem ((c.tc : Thread Cert.SsdCoreBwdIdeal.nD Cert.SsdCoreBwdIdeal.τ).loc Cert.SsdCoreBwdIdeal.main_arg6) = m ((c.tc : Thread Cert.SsdCoreBwdIdeal.nD Cert.SsdCoreBwdIdeal.τ).loc Cert.SsdCoreBwdIdeal.main_arg6))
      ∧ θ_run (Cert.SsdCoreBwdRefIdeal.defs (F := Ideal)) (onTc (τ := Cert.SsdCoreBwdRefIdeal.τ) (Cert.SsdCoreBwdRefIdeal.main (F := Ideal))) ⟨m', fun _ => 0, g'⟩ (fun r => ∀ c : Dev Cert.SsdCoreBwdRefIdeal.nD,
          r.2.mem ((c.tc : Thread Cert.SsdCoreBwdRefIdeal.nD Cert.SsdCoreBwdRefIdeal.τ).loc Cert.SsdCoreBwdRefIdeal.main_v116) = v0 c
          ∧ r.2.mem ((c.tc : Thread Cert.SsdCoreBwdRefIdeal.nD Cert.SsdCoreBwdRefIdeal.τ).loc Cert.SsdCoreBwdRefIdeal.main_v120) = v1 c
          ∧ r.2.mem ((c.tc : Thread Cert.SsdCoreBwdRefIdeal.nD Cert.SsdCoreBwdRefIdeal.τ).loc Cert.SsdCoreBwdRefIdeal.main_v124) = v2 c
          ∧ r.2.mem ((c.tc : Thread Cert.SsdCoreBwdRefIdeal.nD Cert.SsdCoreBwdRefIdeal.τ).loc Cert.SsdCoreBwdRefIdeal.main_arg0) = m' ((c.tc : Thread Cert.SsdCoreBwdRefIdeal.nD Cert.SsdCoreBwdRefIdeal.τ).loc Cert.SsdCoreBwdRefIdeal.main_arg0)
          ∧ r.2.mem ((c.tc : Thread Cert.SsdCoreBwdRefIdeal.nD Cert.SsdCoreBwdRefIdeal.τ).loc Cert.SsdCoreBwdRefIdeal.main_arg1) = m' ((c.tc : Thread Cert.SsdCoreBwdRefIdeal.nD Cert.SsdCoreBwdRefIdeal.τ).loc Cert.SsdCoreBwdRefIdeal.main_arg1)
          ∧ r.2.mem ((c.tc : Thread Cert.SsdCoreBwdRefIdeal.nD Cert.SsdCoreBwdRefIdeal.τ).loc Cert.SsdCoreBwdRefIdeal.main_arg2) = m' ((c.tc : Thread Cert.SsdCoreBwdRefIdeal.nD Cert.SsdCoreBwdRefIdeal.τ).loc Cert.SsdCoreBwdRefIdeal.main_arg2)
          ∧ r.2.mem ((c.tc : Thread Cert.SsdCoreBwdRefIdeal.nD Cert.SsdCoreBwdRefIdeal.τ).loc Cert.SsdCoreBwdRefIdeal.main_arg3) = m' ((c.tc : Thread Cert.SsdCoreBwdRefIdeal.nD Cert.SsdCoreBwdRefIdeal.τ).loc Cert.SsdCoreBwdRefIdeal.main_arg3)
          ∧ r.2.mem ((c.tc : Thread Cert.SsdCoreBwdRefIdeal.nD Cert.SsdCoreBwdRefIdeal.τ).loc Cert.SsdCoreBwdRefIdeal.main_arg4) = m' ((c.tc : Thread Cert.SsdCoreBwdRefIdeal.nD Cert.SsdCoreBwdRefIdeal.τ).loc Cert.SsdCoreBwdRefIdeal.main_arg4)
          ∧ r.2.mem ((c.tc : Thread Cert.SsdCoreBwdRefIdeal.nD Cert.SsdCoreBwdRefIdeal.τ).loc Cert.SsdCoreBwdRefIdeal.main_arg5) = m' ((c.tc : Thread Cert.SsdCoreBwdRefIdeal.nD Cert.SsdCoreBwdRefIdeal.τ).loc Cert.SsdCoreBwdRefIdeal.main_arg5)
          ∧ r.2.mem ((c.tc : Thread Cert.SsdCoreBwdRefIdeal.nD Cert.SsdCoreBwdRefIdeal.τ).loc Cert.SsdCoreBwdRefIdeal.main_arg6) = m' ((c.tc : Thread Cert.SsdCoreBwdRefIdeal.nD Cert.SsdCoreBwdRefIdeal.τ).loc Cert.SsdCoreBwdRefIdeal.main_arg6))

def preserves_FfnActBwd_FfnActBwdIdeal : Prop :=
  True

def algebraic_FfnActBwdIdeal_FfnActBwdRefIdeal_pre_finite_ffn [hFfnActBwdIdeal : Cert.FfnActBwdIdeal.Facts] [hFfnActBwdRefIdeal : Cert.FfnActBwdRefIdeal.Facts] [hPre_finite_ffn : Cert.Pre_finite_ffn.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdRefIdeal.nD Cert.FfnActBwdRefIdeal.τ Cert.FfnActBwdRefIdeal.sig) → Buf (Elt Ideal) ℓ) (g' : Dev Cert.FfnActBwdRefIdeal.nD → PrngReg), Pre_FfnActBwdIdeal_finite_ffn m →
    (∀ c : Dev Cert.FfnActBwdIdeal.nD,
      m' ((c.tc : Thread Cert.FfnActBwdRefIdeal.nD Cert.FfnActBwdRefIdeal.τ).loc Cert.FfnActBwdRefIdeal.main_arg0) = m ((c.tc : Thread Cert.FfnActBwdIdeal.nD Cert.FfnActBwdIdeal.τ).loc Cert.FfnActBwdIdeal.main_arg0)
      ∧ m' ((c.tc : Thread Cert.FfnActBwdRefIdeal.nD Cert.FfnActBwdRefIdeal.τ).loc Cert.FfnActBwdRefIdeal.main_arg1) = m ((c.tc : Thread Cert.FfnActBwdIdeal.nD Cert.FfnActBwdIdeal.τ).loc Cert.FfnActBwdIdeal.main_arg1)
      ∧ m' ((c.tc : Thread Cert.FfnActBwdRefIdeal.nD Cert.FfnActBwdRefIdeal.τ).loc Cert.FfnActBwdRefIdeal.main_arg2) = m ((c.tc : Thread Cert.FfnActBwdIdeal.nD Cert.FfnActBwdIdeal.τ).loc Cert.FfnActBwdIdeal.main_arg2)
      ∧ m' ((c.tc : Thread Cert.FfnActBwdRefIdeal.nD Cert.FfnActBwdRefIdeal.τ).loc Cert.FfnActBwdRefIdeal.main_arg3) = m ((c.tc : Thread Cert.FfnActBwdIdeal.nD Cert.FfnActBwdIdeal.τ).loc Cert.FfnActBwdIdeal.main_arg3)) →
    ∃ (v0 : (c : Dev Cert.FfnActBwdIdeal.nD) → Buf (Elt Ideal) ((c.tc : Thread Cert.FfnActBwdIdeal.nD Cert.FfnActBwdIdeal.τ).loc Cert.FfnActBwdIdeal.main_v29_0)) (v1 : (c : Dev Cert.FfnActBwdIdeal.nD) → Buf (Elt Ideal) ((c.tc : Thread Cert.FfnActBwdIdeal.nD Cert.FfnActBwdIdeal.τ).loc Cert.FfnActBwdIdeal.main_v29_1)) (v2 : (c : Dev Cert.FfnActBwdIdeal.nD) → Buf (Elt Ideal) ((c.tc : Thread Cert.FfnActBwdIdeal.nD Cert.FfnActBwdIdeal.τ).loc Cert.FfnActBwdIdeal.main_v29_2)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v29_0) = v0 c
          ∧ r.2.mem ((c.tc : Thread Cert.FfnActBwdIdeal.nD Cert.FfnActBwdIdeal.τ).loc Cert.FfnActBwdIdeal.main_v29_1) = v1 c
          ∧ r.2.mem ((c.tc : Thread Cert.FfnActBwdIdeal.nD Cert.FfnActBwdIdeal.τ).loc Cert.FfnActBwdIdeal.main_v29_2) = v2 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
          ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
          ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ θ_run (Cert.FfnActBwdRefIdeal.defs (F := Ideal)) (onTc (τ := Cert.FfnActBwdRefIdeal.τ) (Cert.FfnActBwdRefIdeal.main (F := Ideal))) ⟨m', fun _ => 0, g'⟩ (fun r => ∀ c : Dev Cert.FfnActBwdRefIdeal.nD,
          r.2.mem ((c.tc : Thread Cert.FfnActBwdRefIdeal.nD Cert.FfnActBwdRefIdeal.τ).loc Cert.FfnActBwdRefIdeal.main_v78) = v0 c
          ∧ r.2.mem ((c.tc : Thread Cert.FfnActBwdRefIdeal.nD Cert.FfnActBwdRefIdeal.τ).loc Cert.FfnActBwdRefIdeal.main_v73) = v1 c
          ∧ r.2.mem ((c.tc : Thread Cert.FfnActBwdRefIdeal.nD Cert.FfnActBwdRefIdeal.τ).loc Cert.FfnActBwdRefIdeal.main_v44) = v2 c
          ∧ r.2.mem ((c.tc : Thread Cert.FfnActBwdRefIdeal.nD Cert.FfnActBwdRefIdeal.τ).loc Cert.FfnActBwdRefIdeal.main_arg0) = m' ((c.tc : Thread Cert.FfnActBwdRefIdeal.nD Cert.FfnActBwdRefIdeal.τ).loc Cert.FfnActBwdRefIdeal.main_arg0)
          ∧ r.2.mem ((c.tc : Thread Cert.FfnActBwdRefIdeal.nD Cert.FfnActBwdRefIdeal.τ).loc Cert.FfnActBwdRefIdeal.main_arg1) = m' ((c.tc : Thread Cert.FfnActBwdRefIdeal.nD Cert.FfnActBwdRefIdeal.τ).loc Cert.FfnActBwdRefIdeal.main_arg1)
          ∧ r.2.mem ((c.tc : Thread Cert.FfnActBwdRefIdeal.nD Cert.FfnActBwdRefIdeal.τ).loc Cert.FfnActBwdRefIdeal.main_arg2) = m' ((c.tc : Thread Cert.FfnActBwdRefIdeal.nD Cert.FfnActBwdRefIdeal.τ).loc Cert.FfnActBwdRefIdeal.main_arg2)
          ∧ r.2.mem ((c.tc : Thread Cert.FfnActBwdRefIdeal.nD Cert.FfnActBwdRefIdeal.τ).loc Cert.FfnActBwdRefIdeal.main_arg3) = m' ((c.tc : Thread Cert.FfnActBwdRefIdeal.nD Cert.FfnActBwdRefIdeal.τ).loc Cert.FfnActBwdRefIdeal.main_arg3))

def preserves_FfnActFwd_FfnActFwdIdeal : Prop :=
  True

def algebraic_FfnActFwdIdeal_FfnActFwdRefIdeal [hFfnActFwdIdeal : Cert.FfnActFwdIdeal.Facts] [hFfnActFwdRefIdeal : Cert.FfnActFwdRefIdeal.Facts] : Prop :=
  ∀ (m : (ℓ : Loc Cert.FfnActFwdIdeal.nD Cert.FfnActFwdIdeal.τ Cert.FfnActFwdIdeal.sig) → Buf (Elt Ideal) ℓ) (g : Dev Cert.FfnActFwdIdeal.nD → PrngReg)
    (m' : (ℓ : Loc Cert.FfnActFwdRefIdeal.nD Cert.FfnActFwdRefIdeal.τ Cert.FfnActFwdRefIdeal.sig) → Buf (Elt Ideal) ℓ) (g' : Dev Cert.FfnActFwdRefIdeal.nD → PrngReg), Pre_FfnActFwdIdeal m →
    (∀ c : Dev Cert.FfnActFwdIdeal.nD,
      m' ((c.tc : Thread Cert.FfnActFwdRefIdeal.nD Cert.FfnActFwdRefIdeal.τ).loc Cert.FfnActFwdRefIdeal.main_arg0) = m ((c.tc : Thread Cert.FfnActFwdIdeal.nD Cert.FfnActFwdIdeal.τ).loc Cert.FfnActFwdIdeal.main_arg0)
      ∧ m' ((c.tc : Thread Cert.FfnActFwdRefIdeal.nD Cert.FfnActFwdRefIdeal.τ).loc Cert.FfnActFwdRefIdeal.main_arg1) = m ((c.tc : Thread Cert.FfnActFwdIdeal.nD Cert.FfnActFwdIdeal.τ).loc Cert.FfnActFwdIdeal.main_arg1)
      ∧ m' ((c.tc : Thread Cert.FfnActFwdRefIdeal.nD Cert.FfnActFwdRefIdeal.τ).loc Cert.FfnActFwdRefIdeal.main_arg2) = m ((c.tc : Thread Cert.FfnActFwdIdeal.nD Cert.FfnActFwdIdeal.τ).loc Cert.FfnActFwdIdeal.main_arg2)) →
    ∃ (v0 : (c : Dev Cert.FfnActFwdIdeal.nD) → Buf (Elt Ideal) ((c.tc : Thread Cert.FfnActFwdIdeal.nD Cert.FfnActFwdIdeal.τ).loc Cert.FfnActFwdIdeal.main_v0_0)) (v1 : (c : Dev Cert.FfnActFwdIdeal.nD) → Buf (Elt Ideal) ((c.tc : Thread Cert.FfnActFwdIdeal.nD Cert.FfnActFwdIdeal.τ).loc Cert.FfnActFwdIdeal.main_v0_1)),
      θ_run (Cert.FfnActFwdIdeal.defs (F := Ideal)) (onTc (τ := Cert.FfnActFwdIdeal.τ) (Cert.FfnActFwdIdeal.main (F := Ideal))) ⟨m, fun _ => 0, g⟩ (fun r => ∀ c : Dev Cert.FfnActFwdIdeal.nD,
          r.2.mem ((c.tc : Thread Cert.FfnActFwdIdeal.nD Cert.FfnActFwdIdeal.τ).loc Cert.FfnActFwdIdeal.main_v0_0) = v0 c
          ∧ r.2.mem ((c.tc : Thread Cert.FfnActFwdIdeal.nD Cert.FfnActFwdIdeal.τ).loc Cert.FfnActFwdIdeal.main_v0_1) = v1 c
          ∧ r.2.mem ((c.tc : Thread Cert.FfnActFwdIdeal.nD Cert.FfnActFwdIdeal.τ).loc Cert.FfnActFwdIdeal.main_arg0) = m ((c.tc : Thread Cert.FfnActFwdIdeal.nD Cert.FfnActFwdIdeal.τ).loc Cert.FfnActFwdIdeal.main_arg0)
          ∧ r.2.mem ((c.tc : Thread Cert.FfnActFwdIdeal.nD Cert.FfnActFwdIdeal.τ).loc Cert.FfnActFwdIdeal.main_arg1) = m ((c.tc : Thread Cert.FfnActFwdIdeal.nD Cert.FfnActFwdIdeal.τ).loc Cert.FfnActFwdIdeal.main_arg1)
          ∧ r.2.mem ((c.tc : Thread Cert.FfnActFwdIdeal.nD Cert.FfnActFwdIdeal.τ).loc Cert.FfnActFwdIdeal.main_arg2) = m ((c.tc : Thread Cert.FfnActFwdIdeal.nD Cert.FfnActFwdIdeal.τ).loc Cert.FfnActFwdIdeal.main_arg2))
      ∧ θ_run (Cert.FfnActFwdRefIdeal.defs (F := Ideal)) (onTc (τ := Cert.FfnActFwdRefIdeal.τ) (Cert.FfnActFwdRefIdeal.main (F := Ideal))) ⟨m', fun _ => 0, g'⟩ (fun r => ∀ c : Dev Cert.FfnActFwdRefIdeal.nD,
          r.2.mem ((c.tc : Thread Cert.FfnActFwdRefIdeal.nD Cert.FfnActFwdRefIdeal.τ).loc Cert.FfnActFwdRefIdeal.main_v34) = v0 c
          ∧ r.2.mem ((c.tc : Thread Cert.FfnActFwdRefIdeal.nD Cert.FfnActFwdRefIdeal.τ).loc Cert.FfnActFwdRefIdeal.main_v35) = v1 c
          ∧ r.2.mem ((c.tc : Thread Cert.FfnActFwdRefIdeal.nD Cert.FfnActFwdRefIdeal.τ).loc Cert.FfnActFwdRefIdeal.main_arg0) = m' ((c.tc : Thread Cert.FfnActFwdRefIdeal.nD Cert.FfnActFwdRefIdeal.τ).loc Cert.FfnActFwdRefIdeal.main_arg0)
          ∧ r.2.mem ((c.tc : Thread Cert.FfnActFwdRefIdeal.nD Cert.FfnActFwdRefIdeal.τ).loc Cert.FfnActFwdRefIdeal.main_arg1) = m' ((c.tc : Thread Cert.FfnActFwdRefIdeal.nD Cert.FfnActFwdRefIdeal.τ).loc Cert.FfnActFwdRefIdeal.main_arg1)
          ∧ r.2.mem ((c.tc : Thread Cert.FfnActFwdRefIdeal.nD Cert.FfnActFwdRefIdeal.τ).loc Cert.FfnActFwdRefIdeal.main_arg2) = m' ((c.tc : Thread Cert.FfnActFwdRefIdeal.nD Cert.FfnActFwdRefIdeal.τ).loc Cert.FfnActFwdRefIdeal.main_arg2))

def preserves_ScActFwd_ScActFwdIdeal : Prop :=
  True

def algebraic_ScActFwdIdeal_ScActFwdRefIdeal [hScActFwdIdeal : Cert.ScActFwdIdeal.Facts] [hScActFwdRefIdeal : Cert.ScActFwdRefIdeal.Facts] : Prop :=
  ∀ (m : (ℓ : Loc Cert.ScActFwdIdeal.nD Cert.ScActFwdIdeal.τ Cert.ScActFwdIdeal.sig) → Buf (Elt Ideal) ℓ) (g : Dev Cert.ScActFwdIdeal.nD → PrngReg)
    (m' : (ℓ : Loc Cert.ScActFwdRefIdeal.nD Cert.ScActFwdRefIdeal.τ Cert.ScActFwdRefIdeal.sig) → Buf (Elt Ideal) ℓ) (g' : Dev Cert.ScActFwdRefIdeal.nD → PrngReg), Pre_ScActFwdIdeal m →
    (∀ c : Dev Cert.ScActFwdIdeal.nD,
      m' ((c.tc : Thread Cert.ScActFwdRefIdeal.nD Cert.ScActFwdRefIdeal.τ).loc Cert.ScActFwdRefIdeal.main_arg0) = m ((c.tc : Thread Cert.ScActFwdIdeal.nD Cert.ScActFwdIdeal.τ).loc Cert.ScActFwdIdeal.main_arg0)
      ∧ m' ((c.tc : Thread Cert.ScActFwdRefIdeal.nD Cert.ScActFwdRefIdeal.τ).loc Cert.ScActFwdRefIdeal.main_arg1) = m ((c.tc : Thread Cert.ScActFwdIdeal.nD Cert.ScActFwdIdeal.τ).loc Cert.ScActFwdIdeal.main_arg1)) →
    ∃ (v0 : (c : Dev Cert.ScActFwdIdeal.nD) → Buf (Elt Ideal) ((c.tc : Thread Cert.ScActFwdIdeal.nD Cert.ScActFwdIdeal.τ).loc Cert.ScActFwdIdeal.main_v0)),
      θ_run (Cert.ScActFwdIdeal.defs (F := Ideal)) (onTc (τ := Cert.ScActFwdIdeal.τ) (Cert.ScActFwdIdeal.main (F := Ideal))) ⟨m, fun _ => 0, g⟩ (fun r => ∀ c : Dev Cert.ScActFwdIdeal.nD,
          r.2.mem ((c.tc : Thread Cert.ScActFwdIdeal.nD Cert.ScActFwdIdeal.τ).loc Cert.ScActFwdIdeal.main_v0) = v0 c
          ∧ r.2.mem ((c.tc : Thread Cert.ScActFwdIdeal.nD Cert.ScActFwdIdeal.τ).loc Cert.ScActFwdIdeal.main_arg0) = m ((c.tc : Thread Cert.ScActFwdIdeal.nD Cert.ScActFwdIdeal.τ).loc Cert.ScActFwdIdeal.main_arg0)
          ∧ r.2.mem ((c.tc : Thread Cert.ScActFwdIdeal.nD Cert.ScActFwdIdeal.τ).loc Cert.ScActFwdIdeal.main_arg1) = m ((c.tc : Thread Cert.ScActFwdIdeal.nD Cert.ScActFwdIdeal.τ).loc Cert.ScActFwdIdeal.main_arg1))
      ∧ θ_run (Cert.ScActFwdRefIdeal.defs (F := Ideal)) (onTc (τ := Cert.ScActFwdRefIdeal.τ) (Cert.ScActFwdRefIdeal.main (F := Ideal))) ⟨m', fun _ => 0, g'⟩ (fun r => ∀ c : Dev Cert.ScActFwdRefIdeal.nD,
          r.2.mem ((c.tc : Thread Cert.ScActFwdRefIdeal.nD Cert.ScActFwdRefIdeal.τ).loc Cert.ScActFwdRefIdeal.main_v33) = v0 c
          ∧ r.2.mem ((c.tc : Thread Cert.ScActFwdRefIdeal.nD Cert.ScActFwdRefIdeal.τ).loc Cert.ScActFwdRefIdeal.main_arg0) = m' ((c.tc : Thread Cert.ScActFwdRefIdeal.nD Cert.ScActFwdRefIdeal.τ).loc Cert.ScActFwdRefIdeal.main_arg0)
          ∧ r.2.mem ((c.tc : Thread Cert.ScActFwdRefIdeal.nD Cert.ScActFwdRefIdeal.τ).loc Cert.ScActFwdRefIdeal.main_arg1) = m' ((c.tc : Thread Cert.ScActFwdRefIdeal.nD Cert.ScActFwdRefIdeal.τ).loc Cert.ScActFwdRefIdeal.main_arg1))

def preserves_SsdConvFwd_SsdConvFwdIdeal : Prop :=
  True

def algebraic_SsdConvFwdIdeal_SsdConvFwdRefIdeal [hSsdConvFwdIdeal : Cert.SsdConvFwdIdeal.Facts] [hSsdConvFwdRefIdeal : Cert.SsdConvFwdRefIdeal.Facts] : Prop :=
  ∀ (m : (ℓ : Loc Cert.SsdConvFwdIdeal.nD Cert.SsdConvFwdIdeal.τ Cert.SsdConvFwdIdeal.sig) → Buf (Elt Ideal) ℓ) (g : Dev Cert.SsdConvFwdIdeal.nD → PrngReg)
    (m' : (ℓ : Loc Cert.SsdConvFwdRefIdeal.nD Cert.SsdConvFwdRefIdeal.τ Cert.SsdConvFwdRefIdeal.sig) → Buf (Elt Ideal) ℓ) (g' : Dev Cert.SsdConvFwdRefIdeal.nD → PrngReg), Pre_SsdConvFwdIdeal m →
    (∀ c : Dev Cert.SsdConvFwdIdeal.nD,
      m' ((c.tc : Thread Cert.SsdConvFwdRefIdeal.nD Cert.SsdConvFwdRefIdeal.τ).loc Cert.SsdConvFwdRefIdeal.main_arg0) = m ((c.tc : Thread Cert.SsdConvFwdIdeal.nD Cert.SsdConvFwdIdeal.τ).loc Cert.SsdConvFwdIdeal.main_arg0)
      ∧ m' ((c.tc : Thread Cert.SsdConvFwdRefIdeal.nD Cert.SsdConvFwdRefIdeal.τ).loc Cert.SsdConvFwdRefIdeal.main_arg1) = m ((c.tc : Thread Cert.SsdConvFwdIdeal.nD Cert.SsdConvFwdIdeal.τ).loc Cert.SsdConvFwdIdeal.main_arg1)
      ∧ m' ((c.tc : Thread Cert.SsdConvFwdRefIdeal.nD Cert.SsdConvFwdRefIdeal.τ).loc Cert.SsdConvFwdRefIdeal.main_arg2) = m ((c.tc : Thread Cert.SsdConvFwdIdeal.nD Cert.SsdConvFwdIdeal.τ).loc Cert.SsdConvFwdIdeal.main_arg2)) →
    ∃ (v0 : (c : Dev Cert.SsdConvFwdIdeal.nD) → Buf (Elt Ideal) ((c.tc : Thread Cert.SsdConvFwdIdeal.nD Cert.SsdConvFwdIdeal.τ).loc Cert.SsdConvFwdIdeal.main_v0_0)) (v1 : (c : Dev Cert.SsdConvFwdIdeal.nD) → Buf (Elt Ideal) ((c.tc : Thread Cert.SsdConvFwdIdeal.nD Cert.SsdConvFwdIdeal.τ).loc Cert.SsdConvFwdIdeal.main_v0_1)),
      θ_run (Cert.SsdConvFwdIdeal.defs (F := Ideal)) (onTc (τ := Cert.SsdConvFwdIdeal.τ) (Cert.SsdConvFwdIdeal.main (F := Ideal))) ⟨m, fun _ => 0, g⟩ (fun r => ∀ c : Dev Cert.SsdConvFwdIdeal.nD,
          r.2.mem ((c.tc : Thread Cert.SsdConvFwdIdeal.nD Cert.SsdConvFwdIdeal.τ).loc Cert.SsdConvFwdIdeal.main_v0_0) = v0 c
          ∧ r.2.mem ((c.tc : Thread Cert.SsdConvFwdIdeal.nD Cert.SsdConvFwdIdeal.τ).loc Cert.SsdConvFwdIdeal.main_v0_1) = v1 c
          ∧ r.2.mem ((c.tc : Thread Cert.SsdConvFwdIdeal.nD Cert.SsdConvFwdIdeal.τ).loc Cert.SsdConvFwdIdeal.main_arg0) = m ((c.tc : Thread Cert.SsdConvFwdIdeal.nD Cert.SsdConvFwdIdeal.τ).loc Cert.SsdConvFwdIdeal.main_arg0)
          ∧ r.2.mem ((c.tc : Thread Cert.SsdConvFwdIdeal.nD Cert.SsdConvFwdIdeal.τ).loc Cert.SsdConvFwdIdeal.main_arg1) = m ((c.tc : Thread Cert.SsdConvFwdIdeal.nD Cert.SsdConvFwdIdeal.τ).loc Cert.SsdConvFwdIdeal.main_arg1)
          ∧ r.2.mem ((c.tc : Thread Cert.SsdConvFwdIdeal.nD Cert.SsdConvFwdIdeal.τ).loc Cert.SsdConvFwdIdeal.main_arg2) = m ((c.tc : Thread Cert.SsdConvFwdIdeal.nD Cert.SsdConvFwdIdeal.τ).loc Cert.SsdConvFwdIdeal.main_arg2))
      ∧ θ_run (Cert.SsdConvFwdRefIdeal.defs (F := Ideal)) (onTc (τ := Cert.SsdConvFwdRefIdeal.τ) (Cert.SsdConvFwdRefIdeal.main (F := Ideal))) ⟨m', fun _ => 0, g'⟩ (fun r => ∀ c : Dev Cert.SsdConvFwdRefIdeal.nD,
          r.2.mem ((c.tc : Thread Cert.SsdConvFwdRefIdeal.nD Cert.SsdConvFwdRefIdeal.τ).loc Cert.SsdConvFwdRefIdeal.main_v36) = v0 c
          ∧ r.2.mem ((c.tc : Thread Cert.SsdConvFwdRefIdeal.nD Cert.SsdConvFwdRefIdeal.τ).loc Cert.SsdConvFwdRefIdeal.main_v37) = v1 c
          ∧ r.2.mem ((c.tc : Thread Cert.SsdConvFwdRefIdeal.nD Cert.SsdConvFwdRefIdeal.τ).loc Cert.SsdConvFwdRefIdeal.main_arg0) = m' ((c.tc : Thread Cert.SsdConvFwdRefIdeal.nD Cert.SsdConvFwdRefIdeal.τ).loc Cert.SsdConvFwdRefIdeal.main_arg0)
          ∧ r.2.mem ((c.tc : Thread Cert.SsdConvFwdRefIdeal.nD Cert.SsdConvFwdRefIdeal.τ).loc Cert.SsdConvFwdRefIdeal.main_arg1) = m' ((c.tc : Thread Cert.SsdConvFwdRefIdeal.nD Cert.SsdConvFwdRefIdeal.τ).loc Cert.SsdConvFwdRefIdeal.main_arg1)
          ∧ r.2.mem ((c.tc : Thread Cert.SsdConvFwdRefIdeal.nD Cert.SsdConvFwdRefIdeal.τ).loc Cert.SsdConvFwdRefIdeal.main_arg2) = m' ((c.tc : Thread Cert.SsdConvFwdRefIdeal.nD Cert.SsdConvFwdRefIdeal.τ).loc Cert.SsdConvFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v58) = v1 c
          ∧ r.2.mem ((c.tc : Thread Cert.NormBwdRefIdeal.nD Cert.NormBwdRefIdeal.τ).loc Cert.NormBwdRefIdeal.main_v57) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v46) = v0 c
          ∧ r.2.mem ((c.tc : Thread Cert.LossHeadRefIdeal.nD Cert.LossHeadRefIdeal.τ).loc Cert.LossHeadRefIdeal.main_v104) = v1 c
          ∧ r.2.mem ((c.tc : Thread Cert.LossHeadRefIdeal.nD Cert.LossHeadRefIdeal.τ).loc Cert.LossHeadRefIdeal.main_v82) = v2 c
          ∧ r.2.mem ((c.tc : Thread Cert.LossHeadRefIdeal.nD Cert.LossHeadRefIdeal.τ).loc Cert.LossHeadRefIdeal.main_v103) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SsdConvBwd_SsdConvBwdIdeal : Prop :=
  True

def algebraic_SsdConvBwdIdeal_SsdConvBwdRefIdeal_pre_finite_ct [hSsdConvBwdIdeal : Cert.SsdConvBwdIdeal.Facts] [hSsdConvBwdRefIdeal : Cert.SsdConvBwdRefIdeal.Facts] [hPre_finite_ct : Cert.Pre_finite_ct.Facts] : Prop :=
  ∀ (m : (ℓ : Loc Cert.SsdConvBwdIdeal.nD Cert.SsdConvBwdIdeal.τ Cert.SsdConvBwdIdeal.sig) → Buf (Elt Ideal) ℓ) (g : Dev Cert.SsdConvBwdIdeal.nD → PrngReg)
    (m' : (ℓ : Loc Cert.SsdConvBwdRefIdeal.nD Cert.SsdConvBwdRefIdeal.τ Cert.SsdConvBwdRefIdeal.sig) → Buf (Elt Ideal) ℓ) (g' : Dev Cert.SsdConvBwdRefIdeal.nD → PrngReg), Pre_SsdConvBwdIdeal_finite_ct m →
    (∀ c : Dev Cert.SsdConvBwdIdeal.nD,
      m' ((c.tc : Thread Cert.SsdConvBwdRefIdeal.nD Cert.SsdConvBwdRefIdeal.τ).loc Cert.SsdConvBwdRefIdeal.main_arg0) = m ((c.tc : Thread Cert.SsdConvBwdIdeal.nD Cert.SsdConvBwdIdeal.τ).loc Cert.SsdConvBwdIdeal.main_arg0)
      ∧ m' ((c.tc : Thread Cert.SsdConvBwdRefIdeal.nD Cert.SsdConvBwdRefIdeal.τ).loc Cert.SsdConvBwdRefIdeal.main_arg1) = m ((c.tc : Thread Cert.SsdConvBwdIdeal.nD Cert.SsdConvBwdIdeal.τ).loc Cert.SsdConvBwdIdeal.main_arg1)
      ∧ m' ((c.tc : Thread Cert.SsdConvBwdRefIdeal.nD Cert.SsdConvBwdRefIdeal.τ).loc Cert.SsdConvBwdRefIdeal.main_arg2) = m ((c.tc : Thread Cert.SsdConvBwdIdeal.nD Cert.SsdConvBwdIdeal.τ).loc Cert.SsdConvBwdIdeal.main_arg2)
      ∧ m' ((c.tc : Thread Cert.SsdConvBwdRefIdeal.nD Cert.SsdConvBwdRefIdeal.τ).loc Cert.SsdConvBwdRefIdeal.main_arg3) = m ((c.tc : Thread Cert.SsdConvBwdIdeal.nD Cert.SsdConvBwdIdeal.τ).loc Cert.SsdConvBwdIdeal.main_arg3)
      ∧ m' ((c.tc : Thread Cert.SsdConvBwdRefIdeal.nD Cert.SsdConvBwdRefIdeal.τ).loc Cert.SsdConvBwdRefIdeal.main_arg4) = m ((c.tc : Thread Cert.SsdConvBwdIdeal.nD Cert.SsdConvBwdIdeal.τ).loc Cert.SsdConvBwdIdeal.main_arg4)) →
    ∃ (v0 : (c : Dev Cert.SsdConvBwdIdeal.nD) → Buf (Elt Ideal) ((c.tc : Thread Cert.SsdConvBwdIdeal.nD Cert.SsdConvBwdIdeal.τ).loc Cert.SsdConvBwdIdeal.main_v36_0)) (v1 : (c : Dev Cert.SsdConvBwdIdeal.nD) → Buf (Elt Ideal) ((c.tc : Thread Cert.SsdConvBwdIdeal.nD Cert.SsdConvBwdIdeal.τ).loc Cert.SsdConvBwdIdeal.main_v36_1)) (v2 : (c : Dev Cert.SsdConvBwdIdeal.nD) → Buf (Elt Ideal) ((c.tc : Thread Cert.SsdConvBwdIdeal.nD Cert.SsdConvBwdIdeal.τ).loc Cert.SsdConvBwdIdeal.main_v36_2)),
      θ_run (Cert.SsdConvBwdIdeal.defs (F := Ideal)) (onTc (τ := Cert.SsdConvBwdIdeal.τ) (Cert.SsdConvBwdIdeal.main (F := Ideal))) ⟨m, fun _ => 0, g⟩ (fun r => ∀ c : Dev Cert.SsdConvBwdIdeal.nD,
          r.2.mem ((c.tc : Thread Cert.SsdConvBwdIdeal.nD Cert.SsdConvBwdIdeal.τ).loc Cert.SsdConvBwdIdeal.main_v36_0) = v0 c
          ∧ r.2.mem ((c.tc : Thread Cert.SsdConvBwdIdeal.nD Cert.SsdConvBwdIdeal.τ).loc Cert.SsdConvBwdIdeal.main_v36_1) = v1 c
          ∧ r.2.mem ((c.tc : Thread Cert.SsdConvBwdIdeal.nD Cert.SsdConvBwdIdeal.τ).loc Cert.SsdConvBwdIdeal.main_v36_2) = v2 c
          ∧ r.2.mem ((c.tc : Thread Cert.SsdConvBwdIdeal.nD Cert.SsdConvBwdIdeal.τ).loc Cert.SsdConvBwdIdeal.main_arg0) = m ((c.tc : Thread Cert.SsdConvBwdIdeal.nD Cert.SsdConvBwdIdeal.τ).loc Cert.SsdConvBwdIdeal.main_arg0)
          ∧ r.2.mem ((c.tc : Thread Cert.SsdConvBwdIdeal.nD Cert.SsdConvBwdIdeal.τ).loc Cert.SsdConvBwdIdeal.main_arg1) = m ((c.tc : Thread Cert.SsdConvBwdIdeal.nD Cert.SsdConvBwdIdeal.τ).loc Cert.SsdConvBwdIdeal.main_arg1)
          ∧ r.2.mem ((c.tc : Thread Cert.SsdConvBwdIdeal.nD Cert.SsdConvBwdIdeal.τ).loc Cert.SsdConvBwdIdeal.main_arg2) = m ((c.tc : Thread Cert.SsdConvBwdIdeal.nD Cert.SsdConvBwdIdeal.τ).loc Cert.SsdConvBwdIdeal.main_arg2)
          ∧ r.2.mem ((c.tc : Thread Cert.SsdConvBwdIdeal.nD Cert.SsdConvBwdIdeal.τ).loc Cert.SsdConvBwdIdeal.main_arg3) = m ((c.tc : Thread Cert.SsdConvBwdIdeal.nD Cert.SsdConvBwdIdeal.τ).loc Cert.SsdConvBwdIdeal.main_arg3)
          ∧ r.2.mem ((c.tc : Thread Cert.SsdConvBwdIdeal.nD Cert.SsdConvBwdIdeal.τ).loc Cert.SsdConvBwdIdeal.main_arg4) = m ((c.tc : Thread Cert.SsdConvBwdIdeal.nD Cert.SsdConvBwdIdeal.τ).loc Cert.SsdConvBwdIdeal.main_arg4))
      ∧ θ_run (Cert.SsdConvBwdRefIdeal.defs (F := Ideal)) (onTc (τ := Cert.SsdConvBwdRefIdeal.τ) (Cert.SsdConvBwdRefIdeal.main (F := Ideal))) ⟨m', fun _ => 0, g'⟩ (fun r => ∀ c : Dev Cert.SsdConvBwdRefIdeal.nD,
          r.2.mem ((c.tc : Thread Cert.SsdConvBwdRefIdeal.nD Cert.SsdConvBwdRefIdeal.τ).loc Cert.SsdConvBwdRefIdeal.main_v90) = v0 c
          ∧ r.2.mem ((c.tc : Thread Cert.SsdConvBwdRefIdeal.nD Cert.SsdConvBwdRefIdeal.τ).loc Cert.SsdConvBwdRefIdeal.main_v82) = v1 c
          ∧ r.2.mem ((c.tc : Thread Cert.SsdConvBwdRefIdeal.nD Cert.SsdConvBwdRefIdeal.τ).loc Cert.SsdConvBwdRefIdeal.main_v42) = v2 c
          ∧ r.2.mem ((c.tc : Thread Cert.SsdConvBwdRefIdeal.nD Cert.SsdConvBwdRefIdeal.τ).loc Cert.SsdConvBwdRefIdeal.main_arg0) = m' ((c.tc : Thread Cert.SsdConvBwdRefIdeal.nD Cert.SsdConvBwdRefIdeal.τ).loc Cert.SsdConvBwdRefIdeal.main_arg0)
          ∧ r.2.mem ((c.tc : Thread Cert.SsdConvBwdRefIdeal.nD Cert.SsdConvBwdRefIdeal.τ).loc Cert.SsdConvBwdRefIdeal.main_arg1) = m' ((c.tc : Thread Cert.SsdConvBwdRefIdeal.nD Cert.SsdConvBwdRefIdeal.τ).loc Cert.SsdConvBwdRefIdeal.main_arg1)
          ∧ r.2.mem ((c.tc : Thread Cert.SsdConvBwdRefIdeal.nD Cert.SsdConvBwdRefIdeal.τ).loc Cert.SsdConvBwdRefIdeal.main_arg2) = m' ((c.tc : Thread Cert.SsdConvBwdRefIdeal.nD Cert.SsdConvBwdRefIdeal.τ).loc Cert.SsdConvBwdRefIdeal.main_arg2)
          ∧ r.2.mem ((c.tc : Thread Cert.SsdConvBwdRefIdeal.nD Cert.SsdConvBwdRefIdeal.τ).loc Cert.SsdConvBwdRefIdeal.main_arg3) = m' ((c.tc : Thread Cert.SsdConvBwdRefIdeal.nD Cert.SsdConvBwdRefIdeal.τ).loc Cert.SsdConvBwdRefIdeal.main_arg3)
          ∧ r.2.mem ((c.tc : Thread Cert.SsdConvBwdRefIdeal.nD Cert.SsdConvBwdRefIdeal.τ).loc Cert.SsdConvBwdRefIdeal.main_arg4) = m' ((c.tc : Thread Cert.SsdConvBwdRefIdeal.nD Cert.SsdConvBwdRefIdeal.τ).loc Cert.SsdConvBwdRefIdeal.main_arg4))

def preserves_SsdPutDdt_SsdPutDdtIdeal : Prop :=
  True

def algebraic_SsdPutDdtIdeal_SsdPutDdtRefIdeal [hSsdPutDdtIdeal : Cert.SsdPutDdtIdeal.Facts] [hSsdPutDdtRefIdeal : Cert.SsdPutDdtRefIdeal.Facts] : Prop :=
  ∀ (m : (ℓ : Loc Cert.SsdPutDdtIdeal.nD Cert.SsdPutDdtIdeal.τ Cert.SsdPutDdtIdeal.sig) → Buf (Elt Ideal) ℓ) (g : Dev Cert.SsdPutDdtIdeal.nD → PrngReg)
    (m' : (ℓ : Loc Cert.SsdPutDdtRefIdeal.nD Cert.SsdPutDdtRefIdeal.τ Cert.SsdPutDdtRefIdeal.sig) → Buf (Elt Ideal) ℓ) (g' : Dev Cert.SsdPutDdtRefIdeal.nD → PrngReg), Pre_SsdPutDdtIdeal m →
    (∀ c : Dev Cert.SsdPutDdtIdeal.nD,
      m' ((c.tc : Thread Cert.SsdPutDdtRefIdeal.nD Cert.SsdPutDdtRefIdeal.τ).loc Cert.SsdPutDdtRefIdeal.main_arg0) = m ((c.tc : Thread Cert.SsdPutDdtIdeal.nD Cert.SsdPutDdtIdeal.τ).loc Cert.SsdPutDdtIdeal.main_arg0)
      ∧ m' ((c.tc : Thread Cert.SsdPutDdtRefIdeal.nD Cert.SsdPutDdtRefIdeal.τ).loc Cert.SsdPutDdtRefIdeal.main_arg1) = m ((c.tc : Thread Cert.SsdPutDdtIdeal.nD Cert.SsdPutDdtIdeal.τ).loc Cert.SsdPutDdtIdeal.main_arg1)) →
    ∃ (v0 : (c : Dev Cert.SsdPutDdtIdeal.nD) → Buf (Elt Ideal) ((c.tc : Thread Cert.SsdPutDdtIdeal.nD Cert.SsdPutDdtIdeal.τ).loc Cert.SsdPutDdtIdeal.main_v0)),
      θ_run (Cert.SsdPutDdtIdeal.defs (F := Ideal)) (onTc (τ := Cert.SsdPutDdtIdeal.τ) (Cert.SsdPutDdtIdeal.main (F := Ideal))) ⟨m, fun _ => 0, g⟩ (fun r => ∀ c : Dev Cert.SsdPutDdtIdeal.nD,
          r.2.mem ((c.tc : Thread Cert.SsdPutDdtIdeal.nD Cert.SsdPutDdtIdeal.τ).loc Cert.SsdPutDdtIdeal.main_v0) = v0 c
          ∧ r.2.mem ((c.tc : Thread Cert.SsdPutDdtIdeal.nD Cert.SsdPutDdtIdeal.τ).loc Cert.SsdPutDdtIdeal.main_arg0) = m ((c.tc : Thread Cert.SsdPutDdtIdeal.nD Cert.SsdPutDdtIdeal.τ).loc Cert.SsdPutDdtIdeal.main_arg0)
          ∧ r.2.mem ((c.tc : Thread Cert.SsdPutDdtIdeal.nD Cert.SsdPutDdtIdeal.τ).loc Cert.SsdPutDdtIdeal.main_arg1) = m ((c.tc : Thread Cert.SsdPutDdtIdeal.nD Cert.SsdPutDdtIdeal.τ).loc Cert.SsdPutDdtIdeal.main_arg1))
      ∧ θ_run (Cert.SsdPutDdtRefIdeal.defs (F := Ideal)) (onTc (τ := Cert.SsdPutDdtRefIdeal.τ) (Cert.SsdPutDdtRefIdeal.main (F := Ideal))) ⟨m', fun _ => 0, g'⟩ (fun r => ∀ c : Dev Cert.SsdPutDdtRefIdeal.nD,
          r.2.mem ((c.tc : Thread Cert.SsdPutDdtRefIdeal.nD Cert.SsdPutDdtRefIdeal.τ).loc Cert.SsdPutDdtRefIdeal.main_v3) = v0 c
          ∧ r.2.mem ((c.tc : Thread Cert.SsdPutDdtRefIdeal.nD Cert.SsdPutDdtRefIdeal.τ).loc Cert.SsdPutDdtRefIdeal.main_arg0) = m' ((c.tc : Thread Cert.SsdPutDdtRefIdeal.nD Cert.SsdPutDdtRefIdeal.τ).loc Cert.SsdPutDdtRefIdeal.main_arg0)
          ∧ r.2.mem ((c.tc : Thread Cert.SsdPutDdtRefIdeal.nD Cert.SsdPutDdtRefIdeal.τ).loc Cert.SsdPutDdtRefIdeal.main_arg1) = m' ((c.tc : Thread Cert.SsdPutDdtRefIdeal.nD Cert.SsdPutDdtRefIdeal.τ).loc Cert.SsdPutDdtRefIdeal.main_arg1))

def Claim : Prop :=
  ∃ (hScActBwd : Cert.ScActBwd.Facts) (hScActBwdIdeal : Cert.ScActBwdIdeal.Facts) (hScActBwdRefIdeal : Cert.ScActBwdRefIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUp : Cert.FfnUp.Facts) (hFfnUpIdeal : Cert.FfnUpIdeal.Facts) (hFfnUpRefIdeal : Cert.FfnUpRefIdeal.Facts) (hFfnUpDw : Cert.FfnUpDw.Facts) (hFfnUpDwIdeal : Cert.FfnUpDwIdeal.Facts) (hFfnUpDwRefIdeal : Cert.FfnUpDwRefIdeal.Facts) (hFfnUpDx : Cert.FfnUpDx.Facts) (hFfnUpDxIdeal : Cert.FfnUpDxIdeal.Facts) (hFfnUpDxRefIdeal : Cert.FfnUpDxRefIdeal.Facts) (hSsdIn : Cert.SsdIn.Facts) (hSsdInIdeal : Cert.SsdInIdeal.Facts) (hSsdInRefIdeal : Cert.SsdInRefIdeal.Facts) (hSsdOut : Cert.SsdOut.Facts) (hSsdOutIdeal : Cert.SsdOutIdeal.Facts) (hSsdOutRefIdeal : Cert.SsdOutRefIdeal.Facts) (hSsdOutDx : Cert.SsdOutDx.Facts) (hSsdOutDxIdeal : Cert.SsdOutDxIdeal.Facts) (hSsdOutDxRefIdeal : Cert.SsdOutDxRefIdeal.Facts) (hSsdOutDw : Cert.SsdOutDw.Facts) (hSsdOutDwIdeal : Cert.SsdOutDwIdeal.Facts) (hSsdOutDwRefIdeal : Cert.SsdOutDwRefIdeal.Facts) (hSsdInDw : Cert.SsdInDw.Facts) (hSsdInDwIdeal : Cert.SsdInDwIdeal.Facts) (hSsdInDwRefIdeal : Cert.SsdInDwRefIdeal.Facts) (hSsdInDx : Cert.SsdInDx.Facts) (hSsdInDxIdeal : Cert.SsdInDxIdeal.Facts) (hSsdInDxRefIdeal : Cert.SsdInDxRefIdeal.Facts) (hScIn : Cert.ScIn.Facts) (hScInIdeal : Cert.ScInIdeal.Facts) (hScInRefIdeal : Cert.ScInRefIdeal.Facts) (hScOut : Cert.ScOut.Facts) (hScOutIdeal : Cert.ScOutIdeal.Facts) (hScOutRefIdeal : Cert.ScOutRefIdeal.Facts) (hScOutDx : Cert.ScOutDx.Facts) (hScOutDxIdeal : Cert.ScOutDxIdeal.Facts) (hScOutDxRefIdeal : Cert.ScOutDxRefIdeal.Facts) (hScOutDw : Cert.ScOutDw.Facts) (hScOutDwIdeal : Cert.ScOutDwIdeal.Facts) (hScOutDwRefIdeal : Cert.ScOutDwRefIdeal.Facts) (hScInDw : Cert.ScInDw.Facts) (hScInDwIdeal : Cert.ScInDwIdeal.Facts) (hScInDwRefIdeal : Cert.ScInDwRefIdeal.Facts) (hScInDx : Cert.ScInDx.Facts) (hScInDxIdeal : Cert.ScInDxIdeal.Facts) (hScInDxRefIdeal : Cert.ScInDxRefIdeal.Facts) (hSsdCoreBwd : Cert.SsdCoreBwd.Facts) (hSsdCoreBwdIdeal : Cert.SsdCoreBwdIdeal.Facts) (hSsdCoreBwdRefIdeal : Cert.SsdCoreBwdRefIdeal.Facts) (hFfnActBwd : Cert.FfnActBwd.Facts) (hFfnActBwdIdeal : Cert.FfnActBwdIdeal.Facts) (hFfnActBwdRefIdeal : Cert.FfnActBwdRefIdeal.Facts) (hFfnActFwd : Cert.FfnActFwd.Facts) (hFfnActFwdIdeal : Cert.FfnActFwdIdeal.Facts) (hFfnActFwdRefIdeal : Cert.FfnActFwdRefIdeal.Facts) (hScActFwd : Cert.ScActFwd.Facts) (hScActFwdIdeal : Cert.ScActFwdIdeal.Facts) (hScActFwdRefIdeal : Cert.ScActFwdRefIdeal.Facts) (hSsdConvFwd : Cert.SsdConvFwd.Facts) (hSsdConvFwdIdeal : Cert.SsdConvFwdIdeal.Facts) (hSsdConvFwdRefIdeal : Cert.SsdConvFwdRefIdeal.Facts) (hNormFwd : Cert.NormFwd.Facts) (hNormFwdIdeal : Cert.NormFwdIdeal.Facts) (hNormFwdRefIdeal : Cert.NormFwdRefIdeal.Facts) (hAdamwSmall : Cert.AdamwSmall.Facts) (hAdamwSmallIdeal : Cert.AdamwSmallIdeal.Facts) (hAdamwSmallRefIdeal : Cert.AdamwSmallRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hSsdConvBwd : Cert.SsdConvBwd.Facts) (hSsdConvBwdIdeal : Cert.SsdConvBwdIdeal.Facts) (hSsdConvBwdRefIdeal : Cert.SsdConvBwdRefIdeal.Facts) (hSsdPutDdt : Cert.SsdPutDdt.Facts) (hSsdPutDdtIdeal : Cert.SsdPutDdtIdeal.Facts) (hSsdPutDdtRefIdeal : Cert.SsdPutDdtRefIdeal.Facts) (hPre_finite : Cert.Pre_finite.Facts) (hPre_finite_ffn : Cert.Pre_finite_ffn.Facts) (hPre_finite_ct : Cert.Pre_finite_ct.Facts),
    quiescent_ScActBwd (hScActBwd := hScActBwd)
    ∧ quiescent_ScActBwdIdeal (hScActBwdIdeal := hScActBwdIdeal)
    ∧ quiescent_ScActBwdRefIdeal (hScActBwdRefIdeal := hScActBwdRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_SsdOutDx (hSsdOutDx := hSsdOutDx)
    ∧ quiescent_SsdOutDxIdeal (hSsdOutDxIdeal := hSsdOutDxIdeal)
    ∧ quiescent_SsdOutDxRefIdeal (hSsdOutDxRefIdeal := hSsdOutDxRefIdeal)
    ∧ quiescent_SsdOutDw (hSsdOutDw := hSsdOutDw)
    ∧ quiescent_SsdOutDwIdeal (hSsdOutDwIdeal := hSsdOutDwIdeal)
    ∧ quiescent_SsdOutDwRefIdeal (hSsdOutDwRefIdeal := hSsdOutDwRefIdeal)
    ∧ quiescent_SsdInDw (hSsdInDw := hSsdInDw)
    ∧ quiescent_SsdInDwIdeal (hSsdInDwIdeal := hSsdInDwIdeal)
    ∧ quiescent_SsdInDwRefIdeal (hSsdInDwRefIdeal := hSsdInDwRefIdeal)
    ∧ quiescent_SsdInDx (hSsdInDx := hSsdInDx)
    ∧ quiescent_SsdInDxIdeal (hSsdInDxIdeal := hSsdInDxIdeal)
    ∧ quiescent_SsdInDxRefIdeal (hSsdInDxRefIdeal := hSsdInDxRefIdeal)
    ∧ quiescent_ScIn (hScIn := hScIn)
    ∧ quiescent_ScInIdeal (hScInIdeal := hScInIdeal)
    ∧ quiescent_ScInRefIdeal (hScInRefIdeal := hScInRefIdeal)
    ∧ quiescent_ScOut (hScOut := hScOut)
    ∧ quiescent_ScOutIdeal (hScOutIdeal := hScOutIdeal)
    ∧ quiescent_ScOutRefIdeal (hScOutRefIdeal := hScOutRefIdeal)
    ∧ quiescent_ScOutDx (hScOutDx := hScOutDx)
    ∧ quiescent_ScOutDxIdeal (hScOutDxIdeal := hScOutDxIdeal)
    ∧ quiescent_ScOutDxRefIdeal (hScOutDxRefIdeal := hScOutDxRefIdeal)
    ∧ quiescent_ScOutDw (hScOutDw := hScOutDw)
    ∧ quiescent_ScOutDwIdeal (hScOutDwIdeal := hScOutDwIdeal)
    ∧ quiescent_ScOutDwRefIdeal (hScOutDwRefIdeal := hScOutDwRefIdeal)
    ∧ quiescent_ScInDw (hScInDw := hScInDw)
    ∧ quiescent_ScInDwIdeal (hScInDwIdeal := hScInDwIdeal)
    ∧ quiescent_ScInDwRefIdeal (hScInDwRefIdeal := hScInDwRefIdeal)
    ∧ quiescent_ScInDx (hScInDx := hScInDx)
    ∧ quiescent_ScInDxIdeal (hScInDxIdeal := hScInDxIdeal)
    ∧ quiescent_ScInDxRefIdeal (hScInDxRefIdeal := hScInDxRefIdeal)
    ∧ quiescent_SsdCoreBwd (hSsdCoreBwd := hSsdCoreBwd)
    ∧ quiescent_SsdCoreBwdIdeal (hSsdCoreBwdIdeal := hSsdCoreBwdIdeal)
    ∧ quiescent_SsdCoreBwdIdeal_pre_finite (hSsdCoreBwdIdeal := hSsdCoreBwdIdeal) (hPre_finite := hPre_finite)
    ∧ quiescent_SsdCoreBwdRefIdeal (hSsdCoreBwdRefIdeal := hSsdCoreBwdRefIdeal)
    ∧ quiescent_SsdCoreBwdRefIdeal_pre_finite (hSsdCoreBwdRefIdeal := hSsdCoreBwdRefIdeal) (hPre_finite := hPre_finite)
    ∧ quiescent_FfnActBwd (hFfnActBwd := hFfnActBwd)
    ∧ quiescent_FfnActBwdIdeal (hFfnActBwdIdeal := hFfnActBwdIdeal)
    ∧ quiescent_FfnActBwdIdeal_pre_finite_ffn (hFfnActBwdIdeal := hFfnActBwdIdeal) (hPre_finite_ffn := hPre_finite_ffn)
    ∧ quiescent_FfnActBwdRefIdeal (hFfnActBwdRefIdeal := hFfnActBwdRefIdeal)
    ∧ quiescent_FfnActBwdRefIdeal_pre_finite_ffn (hFfnActBwdRefIdeal := hFfnActBwdRefIdeal) (hPre_finite_ffn := hPre_finite_ffn)
    ∧ quiescent_FfnActFwd (hFfnActFwd := hFfnActFwd)
    ∧ quiescent_FfnActFwdIdeal (hFfnActFwdIdeal := hFfnActFwdIdeal)
    ∧ quiescent_FfnActFwdRefIdeal (hFfnActFwdRefIdeal := hFfnActFwdRefIdeal)
    ∧ quiescent_ScActFwd (hScActFwd := hScActFwd)
    ∧ quiescent_ScActFwdIdeal (hScActFwdIdeal := hScActFwdIdeal)
    ∧ quiescent_ScActFwdRefIdeal (hScActFwdRefIdeal := hScActFwdRefIdeal)
    ∧ quiescent_SsdConvFwd (hSsdConvFwd := hSsdConvFwd)
    ∧ quiescent_SsdConvFwdIdeal (hSsdConvFwdIdeal := hSsdConvFwdIdeal)
    ∧ quiescent_SsdConvFwdRefIdeal (hSsdConvFwdRefIdeal := hSsdConvFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SsdConvBwd (hSsdConvBwd := hSsdConvBwd)
    ∧ quiescent_SsdConvBwdIdeal (hSsdConvBwdIdeal := hSsdConvBwdIdeal)
    ∧ quiescent_SsdConvBwdIdeal_pre_finite_ct (hSsdConvBwdIdeal := hSsdConvBwdIdeal) (hPre_finite_ct := hPre_finite_ct)
    ∧ quiescent_SsdConvBwdRefIdeal (hSsdConvBwdRefIdeal := hSsdConvBwdRefIdeal)
    ∧ quiescent_SsdConvBwdRefIdeal_pre_finite_ct (hSsdConvBwdRefIdeal := hSsdConvBwdRefIdeal) (hPre_finite_ct := hPre_finite_ct)
    ∧ quiescent_SsdPutDdt (hSsdPutDdt := hSsdPutDdt)
    ∧ quiescent_SsdPutDdtIdeal (hSsdPutDdtIdeal := hSsdPutDdtIdeal)
    ∧ quiescent_SsdPutDdtRefIdeal (hSsdPutDdtRefIdeal := hSsdPutDdtRefIdeal)
    ∧ preserves_ScActBwd_ScActBwdIdeal
    ∧ algebraic_ScActBwdIdeal_ScActBwdRefIdeal (hScActBwdIdeal := hScActBwdIdeal) (hScActBwdRefIdeal := hScActBwdRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_SsdIn_SsdInIdeal
    ∧ algebraic_SsdInIdeal_SsdInRefIdeal (hSsdInIdeal := hSsdInIdeal) (hSsdInRefIdeal := hSsdInRefIdeal)
    ∧ preserves_SsdOut_SsdOutIdeal
    ∧ algebraic_SsdOutIdeal_SsdOutRefIdeal (hSsdOutIdeal := hSsdOutIdeal) (hSsdOutRefIdeal := hSsdOutRefIdeal)
    ∧ preserves_SsdOutDx_SsdOutDxIdeal
    ∧ algebraic_SsdOutDxIdeal_SsdOutDxRefIdeal (hSsdOutDxIdeal := hSsdOutDxIdeal) (hSsdOutDxRefIdeal := hSsdOutDxRefIdeal)
    ∧ preserves_SsdOutDw_SsdOutDwIdeal
    ∧ algebraic_SsdOutDwIdeal_SsdOutDwRefIdeal (hSsdOutDwIdeal := hSsdOutDwIdeal) (hSsdOutDwRefIdeal := hSsdOutDwRefIdeal)
    ∧ preserves_SsdInDw_SsdInDwIdeal
    ∧ algebraic_SsdInDwIdeal_SsdInDwRefIdeal (hSsdInDwIdeal := hSsdInDwIdeal) (hSsdInDwRefIdeal := hSsdInDwRefIdeal)
    ∧ preserves_SsdInDx_SsdInDxIdeal
    ∧ algebraic_SsdInDxIdeal_SsdInDxRefIdeal (hSsdInDxIdeal := hSsdInDxIdeal) (hSsdInDxRefIdeal := hSsdInDxRefIdeal)
    ∧ preserves_ScIn_ScInIdeal
    ∧ algebraic_ScInIdeal_ScInRefIdeal (hScInIdeal := hScInIdeal) (hScInRefIdeal := hScInRefIdeal)
    ∧ preserves_ScOut_ScOutIdeal
    ∧ algebraic_ScOutIdeal_ScOutRefIdeal (hScOutIdeal := hScOutIdeal) (hScOutRefIdeal := hScOutRefIdeal)
    ∧ preserves_ScOutDx_ScOutDxIdeal
    ∧ algebraic_ScOutDxIdeal_ScOutDxRefIdeal (hScOutDxIdeal := hScOutDxIdeal) (hScOutDxRefIdeal := hScOutDxRefIdeal)
    ∧ preserves_ScOutDw_ScOutDwIdeal
    ∧ algebraic_ScOutDwIdeal_ScOutDwRefIdeal (hScOutDwIdeal := hScOutDwIdeal) (hScOutDwRefIdeal := hScOutDwRefIdeal)
    ∧ preserves_ScInDw_ScInDwIdeal
    ∧ algebraic_ScInDwIdeal_ScInDwRefIdeal (hScInDwIdeal := hScInDwIdeal) (hScInDwRefIdeal := hScInDwRefIdeal)
    ∧ preserves_ScInDx_ScInDxIdeal
    ∧ algebraic_ScInDxIdeal_ScInDxRefIdeal (hScInDxIdeal := hScInDxIdeal) (hScInDxRefIdeal := hScInDxRefIdeal)
    ∧ preserves_SsdCoreBwd_SsdCoreBwdIdeal
    ∧ algebraic_SsdCoreBwdIdeal_SsdCoreBwdRefIdeal_pre_finite (hSsdCoreBwdIdeal := hSsdCoreBwdIdeal) (hSsdCoreBwdRefIdeal := hSsdCoreBwdRefIdeal) (hPre_finite := hPre_finite)
    ∧ preserves_FfnActBwd_FfnActBwdIdeal
    ∧ algebraic_FfnActBwdIdeal_FfnActBwdRefIdeal_pre_finite_ffn (hFfnActBwdIdeal := hFfnActBwdIdeal) (hFfnActBwdRefIdeal := hFfnActBwdRefIdeal) (hPre_finite_ffn := hPre_finite_ffn)
    ∧ preserves_FfnActFwd_FfnActFwdIdeal
    ∧ algebraic_FfnActFwdIdeal_FfnActFwdRefIdeal (hFfnActFwdIdeal := hFfnActFwdIdeal) (hFfnActFwdRefIdeal := hFfnActFwdRefIdeal)
    ∧ preserves_ScActFwd_ScActFwdIdeal
    ∧ algebraic_ScActFwdIdeal_ScActFwdRefIdeal (hScActFwdIdeal := hScActFwdIdeal) (hScActFwdRefIdeal := hScActFwdRefIdeal)
    ∧ preserves_SsdConvFwd_SsdConvFwdIdeal
    ∧ algebraic_SsdConvFwdIdeal_SsdConvFwdRefIdeal (hSsdConvFwdIdeal := hSsdConvFwdIdeal) (hSsdConvFwdRefIdeal := hSsdConvFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SsdConvBwd_SsdConvBwdIdeal
    ∧ algebraic_SsdConvBwdIdeal_SsdConvBwdRefIdeal_pre_finite_ct (hSsdConvBwdIdeal := hSsdConvBwdIdeal) (hSsdConvBwdRefIdeal := hSsdConvBwdRefIdeal) (hPre_finite_ct := hPre_finite_ct)
    ∧ preserves_SsdPutDdt_SsdPutDdtIdeal
    ∧ algebraic_SsdPutDdtIdeal_SsdPutDdtRefIdeal (hSsdPutDdtIdeal := hSsdPutDdtIdeal) (hSsdPutDdtRefIdeal := hSsdPutDdtRefIdeal)
-- ==== Pre_finite.lean ====
abbrev S4096x6144 : Shape := ⟨2, ![4096, 6144]⟩
abbrev S4096x10368 : Shape := ⟨2, ![4096, 10368]⟩
abbrev S4096x4096 : Shape := ⟨2, ![4096, 4096]⟩
abbrev S1x128 : Shape := ⟨2, ![1, 128]⟩
abbrev S1x4096 : Shape := ⟨2, ![1, 4096]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S4096x10368 : S_.BroadcastsInDim S4096x10368 (![] : Fin 0 → Fin S4096x10368.rank)
  bcast_S_S4096x4096 : S_.BroadcastsInDim S4096x4096 (![] : Fin 0 → Fin S4096x4096.rank)
  bcast_S_S1x128 : S_.BroadcastsInDim S1x128 (![] : Fin 0 → Fin S1x128.rank)
  bcast_S_S1x4096 : S_.BroadcastsInDim S1x4096 (![] : Fin 0 → Fin S1x4096.rank)

variable [Facts]

def fn_part1 {F : FTy → Type} [FloatOps F] (main_arg6 : FVec F S1x4096 .f32) (main_v3 : IVec S4096x6144 1) (main_v7 : IVec S4096x10368 1) (main_v11 : IVec S4096x4096 1) (main_v14 : IVec S1x128 1) (main_v17 : IVec S1x128 1) (main_v18 : FVec F S1x4096 .f32) : IVec S4096x6144 1 × IVec S4096x10368 1 × IVec S4096x4096 1 × IVec S1x128 1 × IVec S1x128 1 × IVec S1x4096 1 × IVec S1x4096 1 :=
  let main_cst_4 : FVec F S_ .f32 := constant S_ .f32 0x7F800000#32
  let main_v19 : FVec F S1x4096 .f32 := broadcastInDim S1x4096 ![] bcast_S_S1x4096 main_cst_4
  let main_v20 : IVec S1x4096 1 := cmpf .olt main_v18 main_v19
  let main_v21 : FVec F S1x4096 .f32 := Host.absf main_arg6
  let main_cst_5 : FVec F S_ .f32 := constant S_ .f32 0x7F800000#32
  let main_v22 : FVec F S1x4096 .f32 := broadcastInDim S1x4096 ![] bcast_S_S1x4096 main_cst_5
  let main_v23 : IVec S1x4096 1 := cmpf .olt main_v21 main_v22
  (main_v3, main_v7, main_v11, main_v14, main_v17, main_v20, main_v23)

def fn {F : FTy → Type} [FloatOps F] (main_arg0 : FVec F S4096x6144 .bf16) (main_arg1 : FVec F S4096x10368 .bf16) (main_arg2 : FVec F S4096x4096 .bf16) (main_arg3 : FVec F S1x128 .f32) (main_arg4 : FVec F S1x128 .f32) (main_arg5 : FVec F S1x4096 .f32) (main_arg6 : FVec F S1x4096 .f32) : IVec S4096x6144 1 × IVec S4096x10368 1 × IVec S4096x4096 1 × IVec S1x128 1 × IVec S1x128 1 × IVec S1x4096 1 × IVec S1x4096 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S4096x10368 .f32 := (extf .f32 · bitsLt_bf16_f32) main_arg1
  let main_v5 : FVec F S4096x10368 .f32 := Host.absf main_v4
  let main_cst_0 : FVec F S_ .f32 := constant S_ .f32 0x7F800000#32
  let main_v6 : FVec F S4096x10368 .f32 := broadcastInDim S4096x10368 ![] bcast_S_S4096x10368 main_cst_0
  let main_v7 : IVec S4096x10368 1 := cmpf .olt main_v5 main_v6
  let main_v8 : FVec F S4096x4096 .f32 := (extf .f32 · bitsLt_bf16_f32) main_arg2
  let main_v9 : FVec F S4096x4096 .f32 := Host.absf main_v8
  let main_cst_1 : FVec F S_ .f32 := constant S_ .f32 0x7F800000#32
  let main_v10 : FVec F S4096x4096 .f32 := broadcastInDim S4096x4096 ![] bcast_S_S4096x4096 main_cst_1
  let main_v11 : IVec S4096x4096 1 := cmpf .olt main_v9 main_v10
  let main_v12 : FVec F S1x128 .f32 := Host.absf main_arg3
  let main_cst_2 : FVec F S_ .f32 := constant S_ .f32 0x7F800000#32
  let main_v13 : FVec F S1x128 .f32 := broadcastInDim S1x128 ![] bcast_S_S1x128 main_cst_2
  let main_v14 : IVec S1x128 1 := cmpf .olt main_v12 main_v13
  let main_v15 : FVec F S1x128 .f32 := Host.absf main_arg4
  let main_cst_3 : FVec F S_ .f32 := constant S_ .f32 0x7F800000#32
  let main_v16 : FVec F S1x128 .f32 := broadcastInDim S1x128 ![] bcast_S_S1x128 main_cst_3
  let main_v17 : IVec S1x128 1 := cmpf .olt main_v15 main_v16
  let main_v18 : FVec F S1x4096 .f32 := Host.absf main_arg5
  fn_part1 (F := F) main_arg6 main_v3 main_v7 main_v11 main_v14 main_v17 main_v18
-- ==== Pre_finite_ct.lean ====
abbrev S4096x10368 : Shape := ⟨2, ![4096, 10368]⟩
abbrev S4096x4096 : Shape := ⟨2, ![4096, 4096]⟩
abbrev S4x6144 : Shape := ⟨2, ![4, 6144]⟩
abbrev S1x6144 : Shape := ⟨2, ![1, 6144]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)

variable [Facts]

def fn {F : FTy → Type} [FloatOps F] (main_arg0 : FVec F S4096x10368 .bf16) (main_arg1 : FVec F S4096x4096 .bf16) (main_arg2 : FVec F S4x6144 .f32) (main_arg3 : FVec F S1x6144 .f32) (main_arg4 : FVec F S4096x10368 .bf16) : IVec S4096x4096 1 :=
  let main_v0 : FVec F S4096x4096 .f32 := (extf .f32 · bitsLt_bf16_f32) main_arg1
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  main_v3
-- ==== Pre_finite_ffn.lean ====
abbrev S2x4096x5632 : Shape := ⟨3, ![2, 4096, 5632]⟩
abbrev S4096x5632 : Shape := ⟨2, ![4096, 5632]⟩
abbrev S3x2x5632 : Shape := ⟨3, ![3, 2, 5632]⟩
abbrev S2x5632 : Shape := ⟨2, ![2, 5632]⟩
abbrev S_ : Shape := ⟨0, ![]⟩

class Facts : Prop where
  bitsLt_bf16_f32 : FTy.bits .bf16 < FTy.bits .f32
  bcast_S_S2x4096x5632 : S_.BroadcastsInDim S2x4096x5632 (![] : Fin 0 → Fin S2x4096x5632.rank)
  bcast_S_S4096x5632 : S_.BroadcastsInDim S4096x5632 (![] : Fin 0 → Fin S4096x5632.rank)
  bcast_S_S3x2x5632 : S_.BroadcastsInDim S3x2x5632 (![] : Fin 0 → Fin S3x2x5632.rank)
  bcast_S_S2x5632 : S_.BroadcastsInDim S2x5632 (![] : Fin 0 → Fin S2x5632.rank)

variable [Facts]

def fn {F : FTy → Type} [FloatOps F] (main_arg0 : FVec F S2x4096x5632 .bf16) (main_arg1 : FVec F S4096x5632 .bf16) (main_arg2 : FVec F S3x2x5632 .f32) (main_arg3 : FVec F S2x5632 .f32) : IVec S2x4096x5632 1 × IVec S4096x5632 1 × IVec S3x2x5632 1 × IVec S2x5632 1 :=
  let main_v0 : FVec F S2x4096x5632 .f32 := (extf .f32 · bitsLt_bf16_f32) main_arg0
  let main_v1 : FVec F S2x4096x5632 .f32 := Host.absf main_v0
  let main_cst : FVec F S_ .f32 := constant S_ .f32 0x7F800000#32
  let main_v2 : FVec F S2x4096x5632 .f32 := broadcastInDim S2x4096x5632 ![] bcast_S_S2x4096x5632 main_cst
  let main_v3 : IVec S2x4096x5632 1 := cmpf .olt main_v1 main_v2
  let main_v4 : FVec F S4096x5632 .f32 := (extf .f32 · bitsLt_bf16_f32) main_arg1
  let main_v5 : FVec F S4096x5632 .f32 := Host.absf main_v4
  let main_cst_0 : FVec F S_ .f32 := constant S_ .f32 0x7F800000#32
  let main_v6 : FVec F S4096x5632 .f32 := broadcastInDim S4096x5632 ![] bcast_S_S4096x5632 main_cst_0
  let main_v7 : IVec S4096x5632 1 := cmpf .olt main_v5 main_v6
  let main_v8 : FVec F S3x2x5632 .f32 := Host.absf main_arg2
  let main_cst_1 : FVec F S_ .f32 := constant S_ .f32 0x7F800000#32
  let main_v9 : FVec F S3x2x5632 .f32 := broadcastInDim S3x2x5632 ![] bcast_S_S3x2x5632 main_cst_1
  let main_v10 : IVec S3x2x5632 1 := cmpf .olt main_v8 main_v9
  let main_v11 : FVec F S2x5632 .f32 := Host.absf main_arg3
  let main_cst_2 : FVec F S_ .f32 := constant S_ .f32 0x7F800000#32
  let main_v12 : FVec F S2x5632 .f32 := broadcastInDim S2x5632 ![] bcast_S_S2x5632 main_cst_2
  let main_v13 : IVec S2x5632 1 := cmpf .olt main_v11 main_v12
  (main_v3, main_v7, main_v10, main_v13)
-- ==== ScActBwd.lean ====
abbrev S3x4096x2048 : Shape := ⟨3, ![3, 4096, 2048]⟩
abbrev S4096x2048 : Shape := ⟨2, ![4096, 2048]⟩
abbrev S3x2048 : Shape := ⟨2, ![3, 2048]⟩
abbrev S3x512x512 : Shape := ⟨3, ![3, 512, 512]⟩
abbrev S3x16x512 : Shape := ⟨3, ![3, 16, 512]⟩
abbrev S512x512 : Shape := ⟨2, ![512, 512]⟩
abbrev S16x512 : Shape := ⟨2, ![16, 512]⟩
abbrev S3x512 : Shape := ⟨2, ![3, 512]⟩
abbrev S1x16x512 : Shape := ⟨3, ![1, 16, 512]⟩
abbrev S1x512x512 : Shape := ⟨3, ![1, 512, 512]⟩
abbrev S544x512 : Shape := ⟨2, ![544, 512]⟩
abbrev S1x512 : Shape := ⟨2, ![1, 512]⟩
abbrev S512 : Shape := ⟨1, ![512]⟩

abbrev nBuf : Space → Nat
  | .hbm => 5
  | .vmem => 16
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .bf16⟩
  | .hbm, ⟨2, _⟩ => ⟨S3x2048, .f32⟩
  | .hbm, ⟨3, _⟩ => ⟨S3x4096x2048, .bf16⟩
  | .hbm, ⟨4, _⟩ => ⟨S3x2048, .f32⟩
  | .local _ .vmem, ⟨0, _⟩ => ⟨S3x512x512, .bf16⟩
  | .local _ .vmem, ⟨1, _⟩ => ⟨S3x512x512, .bf16⟩
  | .local _ .vmem, ⟨2, _⟩ => ⟨S3x16x512, .bf16⟩
  | .local _ .vmem, ⟨3, _⟩ => ⟨S3x16x512, .bf16⟩
  | .local _ .vmem, ⟨4, _⟩ => ⟨S3x16x512, .bf16⟩
  | .local _ .vmem, ⟨5, _⟩ => ⟨S3x16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S3x512, .f32⟩
  | .local _ .vmem, ⟨11, _⟩ => ⟨S3x512, .f32⟩
  | .local _ .vmem, ⟨12, _⟩ => ⟨S3x512x512, .bf16⟩
  | .local _ .vmem, ⟨13, _⟩ => ⟨S3x512x512, .bf16⟩
  | .local _ .vmem, ⟨14, _⟩ => ⟨S3x512, .f32⟩
  | .local _ .vmem, ⟨15, _⟩ => ⟨S3x512, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ScActBwdRefIdeal.lean ====
abbrev S3x4096x2048 : Shape := ⟨3, ![3, 4096, 2048]⟩
abbrev S4096x2048 : Shape := ⟨2, ![4096, 2048]⟩
abbrev S3x2048 : Shape := ⟨2, ![3, 2048]⟩
abbrev S1x4096x2048 : Shape := ⟨3, ![1, 4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 102
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .bf16⟩
  | .hbm, ⟨2, _⟩ => ⟨S3x2048, .f32⟩
  | .hbm, ⟨3, _⟩ => ⟨S3x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S2x2048, .f32⟩
  | .hbm, ⟨13, _⟩ => ⟨S4098x2048, .f32⟩
  | .hbm, ⟨14, _⟩ => ⟨S_, .f32⟩
  | .hbm, ⟨15, _⟩ => ⟨S2x2048, .f32⟩
  | .hbm, ⟨16, _⟩ => ⟨S4096x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S_, .f32⟩
  | .hbm, ⟨53, _⟩ => ⟨S3x2048, .f32⟩
  | .hbm, ⟨54, _⟩ => ⟨S_, .f32⟩
  | .hbm, ⟨55, _⟩ => ⟨S4098x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S_, .f32⟩
  | .hbm, ⟨69, _⟩ => ⟨S4098x2048, .f32⟩
  | .hbm, ⟨70, _⟩ => ⟨S4098x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S3x2048, .f32⟩
  | .hbm, ⟨82, _⟩ => ⟨S3x2048, .f32⟩
  | .hbm, ⟨83, _⟩ => ⟨S_, .f32⟩
  | .hbm, ⟨84, _⟩ => ⟨S4098x2048, .f32⟩
  | .hbm, ⟨85, _⟩ => ⟨S4098x2048, .f32⟩
  | .hbm, ⟨86, _⟩ => ⟨S2x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S1x4096x2048, .f32⟩
  | .hbm, ⟨91, _⟩ => ⟨S_, .f32⟩
  | .hbm, ⟨92, _⟩ => ⟨S3x4096x2048, .f32⟩
  | .hbm, ⟨93, _⟩ => ⟨S1x4096x2048, .f32⟩
  | .hbm, ⟨94, _⟩ => ⟨S_, .f32⟩
  | .hbm, ⟨95, _⟩ => ⟨S3x4096x2048, .f32⟩
  | .hbm, ⟨96, _⟩ => ⟨S3x4096x2048, .f32⟩
  | .hbm, ⟨97, _⟩ => ⟨S1x4096x2048, .f32⟩
  | .hbm, ⟨98, _⟩ => ⟨S_, .f32⟩
  | .hbm, ⟨99, _⟩ => ⟨S3x4096x2048, .f32⟩
  | .hbm, ⟨100, _⟩ => ⟨S3x4096x2048, .f32⟩
  | .hbm, ⟨101, _⟩ => ⟨S3x4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_16 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDownDx.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDownDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S512x2048 : Shape := ⟨2, ![512, 2048]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x2x5632, .f32⟩
  | .hbm, ⟨8, _⟩ => ⟨S2x4096x5632, .f32⟩
  | .hbm, ⟨9, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== FfnUpDw.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S4096x2048 : Shape := ⟨2, ![4096, 2048]⟩
abbrev S2x4096x5632 : Shape := ⟨3, ![2, 4096, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x2x5632 : Shape := ⟨3, ![4096, 2, 5632]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x2048, .f32⟩
  | .hbm, ⟨7, _⟩ => ⟨S4096x11264, .f32⟩
  | .hbm, ⟨8, _⟩ => ⟨S4096x2x5632, .bf16⟩
  | .hbm, ⟨9, _⟩ => ⟨S4096x11264, .bf16⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S2048x8x1408, .f32⟩
  | .hbm, ⟨14, _⟩ => ⟨S8x2048x1408, .f32⟩
  | .hbm, ⟨15, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== FfnUpDx.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x512x5632 : Shape := ⟨3, ![1, 512, 5632]⟩
abbrev S4x1024x1408 : Shape := ⟨3, ![4, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .bf16⟩
  | .local _ .vmem, ⟨0, _⟩ => ⟨S1x512x5632, .bf16⟩
  | .local _ .vmem, ⟨1, _⟩ => ⟨S1x512x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_23 : BitVec 32 := 0#32
  let v31 : BitVec 1 := Scalar.cmpi .ne v30 c0_i32_23
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxRefIdeal.lean ====
abbrev S2x4096x5632 : Shape := ⟨3, ![2, 4096, 5632]⟩
abbrev S8x2048x1408 : Shape := ⟨3, ![8, 2048, 1408]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩
abbrev S4096x11264 : Shape := ⟨2, ![4096, 11264]⟩
abbrev S4096x2x5632 : Shape := ⟨3, ![4096, 2, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S_, .f32⟩
  | .hbm, ⟨3, _⟩ => ⟨S4096x2048, .f32⟩
  | .hbm, ⟨4, _⟩ => ⟨S2048x8x1408, .bf16⟩
  | .hbm, ⟨5, _⟩ => ⟨S2048x11264, .bf16⟩
  | .hbm, ⟨6, _⟩ => ⟨S2048x11264, .f32⟩
  | .hbm, ⟨7, _⟩ => ⟨S4096x11264, .f32⟩
  | .hbm, ⟨8, _⟩ => ⟨S4096x2x5632, .bf16⟩
  | .hbm, ⟨9, _⟩ => ⟨S4096x11264, .bf16⟩
  | .hbm, ⟨10, _⟩ => ⟨S4096x11264, .f32⟩
  | .hbm, ⟨11, _⟩ => ⟨S4096x2048, .f32⟩
  | .hbm, ⟨12, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SsdIn.lean ====
abbrev S4096x2048 : Shape := ⟨2, ![4096, 2048]⟩
abbrev S2048x10368 : Shape := ⟨2, ![2048, 10368]⟩
abbrev S4096x10368 : Shape := ⟨2, ![4096, 10368]⟩
abbrev S512x2048 : Shape := ⟨2, ![512, 2048]⟩
abbrev S2048x1152 : Shape := ⟨2, ![2048, 1152]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .bf16⟩
  | .local _ .vmem, ⟨0, _⟩ => ⟨S512x2048, .bf16⟩
  | .local _ .vmem, ⟨1, _⟩ => ⟨S512x2048, .bf16⟩
  | .local _ .vmem, ⟨2, _⟩ => ⟨S2048x1152, .bf16⟩
  | .local _ .vmem, ⟨3, _⟩ => ⟨S2048x1152, .bf16⟩
  | .local _ .vmem, ⟨4, _⟩ => ⟨S512x1152, .bf16⟩
  | .local _ .vmem, ⟨5, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInRefIdeal.lean ====
abbrev S4096x2048 : Shape := ⟨2, ![4096, 2048]⟩
abbrev S2048x10368 : Shape := ⟨2, ![2048, 10368]⟩
abbrev S4096x10368 : Shape := ⟨2, ![4096, 10368]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x2048, .f32⟩
  | .hbm, ⟨3, _⟩ => ⟨S2048x10368, .f32⟩
  | .hbm, ⟨4, _⟩ => ⟨S4096x10368, .f32⟩
  | .hbm, ⟨5, _⟩ => ⟨S4096x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsdOut.lean ====
abbrev S4096x4096 : Shape := ⟨2, ![4096, 4096]⟩
abbrev S4096x2048 : Shape := ⟨2, ![4096, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdOutRefIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsdOutDx.lean ====
abbrev S4096x2048 : Shape := ⟨2, ![4096, 2048]⟩
abbrev S4096x4096 : Shape := ⟨2, ![4096, 4096]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDxRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdOutDw.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDwRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsdInDw.lean ====
abbrev S4096x2048 : Shape := ⟨2, ![4096, 2048]⟩
abbrev S4096x10368 : Shape := ⟨2, ![4096, 10368]⟩
abbrev S2048x10368 : Shape := ⟨2, ![2048, 10368]⟩
abbrev S4096x512 : Shape := ⟨2, ![4096, 512]⟩
abbrev S4096x1152 : Shape := ⟨2, ![4096, 1152]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S2048x10368, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S512x1152, .bf16⟩
  | .local _ .vmem, ⟨5, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInDwRefIdeal.lean ====
abbrev S4096x2048 : Shape := ⟨2, ![4096, 2048]⟩
abbrev S4096x10368 : Shape := ⟨2, ![4096, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S_, .f32⟩
  | .hbm, ⟨3, _⟩ => ⟨S2048x10368, .f32⟩
  | .hbm, ⟨4, _⟩ => ⟨S4096x2048, .f32⟩
  | .hbm, ⟨5, _⟩ => ⟨S4096x10368, .f32⟩
  | .hbm, ⟨6, _⟩ => ⟨S4096x10368, .f32⟩
  | .hbm, ⟨7, _⟩ => ⟨S10368x2048, .f32⟩
  | .hbm, ⟨8, _⟩ => ⟨S2048x10368, .f32⟩
  | .hbm, ⟨9, _⟩ => ⟨S2048x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsdInDx.lean ====
abbrev S4096x10368 : Shape := ⟨2, ![4096, 10368]⟩
abbrev S2048x10368 : Shape := ⟨2, ![2048, 10368]⟩
abbrev S4096x2048 : Shape := ⟨2, ![4096, 2048]⟩
abbrev S512x3456 : Shape := ⟨2, ![512, 3456]⟩
abbrev S1024x3456 : Shape := ⟨2, ![1024, 3456]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S4096x2048, .bf16⟩
  | .local _ .vmem, ⟨0, _⟩ => ⟨S512x3456, .bf16⟩
  | .local _ .vmem, ⟨1, _⟩ => ⟨S512x3456, .bf16⟩
  | .local _ .vmem, ⟨2, _⟩ => ⟨S1024x3456, .bf16⟩
  | .local _ .vmem, ⟨3, _⟩ => ⟨S1024x3456, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInDxRefIdeal.lean ====
abbrev S4096x10368 : Shape := ⟨2, ![4096, 10368]⟩
abbrev S2048x10368 : Shape := ⟨2, ![2048, 10368]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S_, .f32⟩
  | .hbm, ⟨3, _⟩ => ⟨S4096x2048, .f32⟩
  | .hbm, ⟨4, _⟩ => ⟨S2048x10368, .f32⟩
  | .hbm, ⟨5, _⟩ => ⟨S4096x10368, .f32⟩
  | .hbm, ⟨6, _⟩ => ⟨S4096x10368, .f32⟩
  | .hbm, ⟨7, _⟩ => ⟨S4096x2048, .f32⟩
  | .hbm, ⟨8, _⟩ => ⟨S4096x2048, .bf16⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScIn.lean ====
abbrev S4096x2048 : Shape := ⟨2, ![4096, 2048]⟩
abbrev S2048x6144 : Shape := ⟨2, ![2048, 6144]⟩
abbrev S3x4096x2048 : Shape := ⟨3, ![3, 4096, 2048]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S3x4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInRefIdeal.lean ====
abbrev S4096x2048 : Shape := ⟨2, ![4096, 2048]⟩
abbrev S2048x6144 : Shape := ⟨2, ![2048, 6144]⟩
abbrev S4096x6144 : Shape := ⟨2, ![4096, 6144]⟩
abbrev S4096x3x2048 : Shape := ⟨3, ![4096, 3, 2048]⟩
abbrev S3x4096x2048 : Shape := ⟨3, ![3, 4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x3x2048, .f32⟩
  | .hbm, ⟨6, _⟩ => ⟨S3x4096x2048, .f32⟩
  | .hbm, ⟨7, _⟩ => ⟨S3x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ScOut.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ScOutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScOutDx.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScOutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ScInDw.lean ====
abbrev S4096x2048 : Shape := ⟨2, ![4096, 2048]⟩
abbrev S3x4096x2048 : Shape := ⟨3, ![3, 4096, 2048]⟩
abbrev S2048x6144 : Shape := ⟨2, ![2048, 6144]⟩
abbrev S4096x512 : Shape := ⟨2, ![4096, 512]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S2048x6144, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDwRefIdeal.lean ====
abbrev S4096x2048 : Shape := ⟨2, ![4096, 2048]⟩
abbrev S3x4096x2048 : Shape := ⟨3, ![3, 4096, 2048]⟩
abbrev S_ : Shape := ⟨0, ![]⟩
abbrev S2048x6144 : Shape := ⟨2, ![2048, 6144]⟩
abbrev S4096x6144 : Shape := ⟨2, ![4096, 6144]⟩
abbrev S4096x3x2048 : Shape := ⟨3, ![4096, 3, 2048]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x3x2048, .bf16⟩
  | .hbm, ⟨7, _⟩ => ⟨S4096x6144, .bf16⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScInDx.lean ====
abbrev S3x4096x2048 : Shape := ⟨3, ![3, 4096, 2048]⟩
abbrev S2048x6144 : Shape := ⟨2, ![2048, 6144]⟩
abbrev S4096x2048 : Shape := ⟨2, ![4096, 2048]⟩
abbrev S1x512x2048 : Shape := ⟨3, ![1, 512, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDxRefIdeal.lean ====
abbrev S3x4096x2048 : Shape := ⟨3, ![3, 4096, 2048]⟩
abbrev S2048x6144 : Shape := ⟨2, ![2048, 6144]⟩
abbrev S_ : Shape := ⟨0, ![]⟩
abbrev S4096x2048 : Shape := ⟨2, ![4096, 2048]⟩
abbrev S4096x6144 : Shape := ⟨2, ![4096, 6144]⟩
abbrev S4096x3x2048 : Shape := ⟨3, ![4096, 3, 2048]⟩

abbrev nBuf : Space → Nat
  | .hbm => 11
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S4096x3x2048, .bf16⟩
  | .hbm, ⟨7, _⟩ => ⟨S4096x6144, .bf16⟩
  | .hbm, ⟨8, _⟩ => ⟨S4096x6144, .f32⟩
  | .hbm, ⟨9, _⟩ => ⟨S4096x2048, .f32⟩
  | .hbm, ⟨10, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SsdCoreBwd.lean ====
abbrev S4096x6144 : Shape := ⟨2, ![4096, 6144]⟩
abbrev S4096x10368 : Shape := ⟨2, ![4096, 10368]⟩
abbrev S4096x4096 : Shape := ⟨2, ![4096, 4096]⟩
abbrev S1x128 : Shape := ⟨2, ![1, 128]⟩
abbrev S1x4096 : Shape := ⟨2, ![1, 4096]⟩
abbrev S4096x1024 : Shape := ⟨2, ![4096, 1024]⟩
abbrev S4096x64 : Shape := ⟨2, ![4096, 64]⟩
abbrev S1x64 : Shape := ⟨2, ![1, 64]⟩
abbrev S64 : Shape := ⟨1, ![64]⟩
abbrev S4096 : Shape := ⟨1, ![4096]⟩
abbrev S_ : Shape := ⟨0, ![]⟩
abbrev S4096x64x64 : Shape := ⟨3, ![4096, 64, 64]⟩
abbrev S4096x64x1 : Shape := ⟨3, ![4096, 64, 1]⟩
abbrev S4096x8x8x64 : Shape := ⟨4, ![4096, 8, 8, 64]⟩
abbrev S4096x8x8 : Shape := ⟨3, ![4096, 8, 8]⟩
abbrev S8x8x4096 : Shape := ⟨3, ![8, 8, 4096]⟩
abbrev S4096x8x128 : Shape := ⟨3, ![4096, 8, 128]⟩
abbrev S8x4096x4096 : Shape := ⟨3, ![8, 4096, 4096]⟩
abbrev S8x1x4096x4096 : Shape := ⟨4, ![8, 1, 4096, 4096]⟩
abbrev S8x8x4096x1 : Shape := ⟨4, ![8, 8, 4096, 1]⟩
abbrev S8x8x1x4096 : Shape := ⟨4, ![8, 8, 1, 4096]⟩
abbrev S8x8x4096x4096 : Shape := ⟨4, ![8, 8, 4096, 4096]⟩
abbrev S8x8x64x4096 : Shape := ⟨4, ![8, 8, 64, 4096]⟩
abbrev S8x8x32 : Shape := ⟨3, ![8, 8, 32]⟩
abbrev S8x8x33 : Shape := ⟨3, ![8, 8, 33]⟩
abbrev S32 : Shape := ⟨1, ![32]⟩
abbrev S32x1 : Shape := ⟨2, ![32, 1]⟩
abbrev S32x4096 : Shape := ⟨2, ![32, 4096]⟩
abbrev S8x8x32x1 : Shape := ⟨4, ![8, 8, 32, 1]⟩
abbrev S8x8x32x4096 : Shape := ⟨4, ![8, 8, 32, 4096]⟩
abbrev S4096x8x8x32 : Shape := ⟨4, ![4096, 8, 8, 32]⟩
abbrev S4096x8x8x32x1 : Shape := ⟨5, ![4096, 8, 8, 32, 1]⟩
abbrev S4096x8x8x1x64 : Shape := ⟨5, ![4096, 8, 8, 1, 64]⟩
abbrev S4096x8x8x32x64 : Shape := ⟨5, ![4096, 8, 8, 32, 64]⟩
abbrev S8x128x8x32x64 : Shape := ⟨5, ![8, 128, 8, 32, 64]⟩
abbrev S8x32x8x64x128 : Shape := ⟨5, ![8, 32, 8, 64, 128]⟩
abbrev S8x32x4x128x128 : Shape := ⟨5, ![8, 32, 4, 128, 128]⟩
abbrev S8x4096x128 : Shape := ⟨3, ![8, 4096, 128]⟩
abbrev S8x8x128 : Shape := ⟨3, ![8, 8, 128]⟩
abbrev S8x8x512 : Shape := ⟨3, ![8, 8, 512]⟩
abbrev S128x512 : Shape := ⟨2, ![128, 512]⟩
abbrev S1x512 : Shape := ⟨2, ![1, 512]⟩
abbrev S128x128 : Shape := ⟨2, ![128, 128]⟩
abbrev S1x1x4x128x128 : Shape := ⟨5, ![1, 1, 4, 128, 128]⟩
abbrev S1x128x128 : Shape := ⟨3, ![1, 128, 128]⟩
abbrev S1x8x128 : Shape := ⟨3, ![1, 8, 128]⟩
abbrev S1x8x512 : Shape := ⟨3, ![1, 8, 512]⟩
abbrev S4x128x128 : Shape := ⟨3, ![4, 128, 128]⟩
abbrev S8x128 : Shape := ⟨2, ![8, 128]⟩
abbrev S8x512 : Shape := ⟨2, ![8, 512]⟩
abbrev S128 : Shape := ⟨1, ![128]⟩
abbrev S128x1 : Shape := ⟨2, ![128, 1]⟩
abbrev S1x1x512 : Shape := ⟨3, ![1, 1, 512]⟩
abbrev S512 : Shape := ⟨1, ![512]⟩
abbrev S1x1 : Shape := ⟨2, ![1, 1]⟩
abbrev S1x1x1x128x128 : Shape := ⟨5, ![1, 1, 1, 128, 128]⟩
abbrev S1 : Shape := ⟨1, ![1]⟩
abbrev S1x1x1 : Shape := ⟨3, ![1, 1, 1]⟩
abbrev S1x128x1 : Shape := ⟨3, ![1, 128, 1]⟩
abbrev S1x1x128 : Shape := ⟨3, ![1, 1, 128]⟩

abbrev nBuf : Space → Nat
  | .hbm => 172
  | .vmem => 39
  | .smem => 0
  | _ => 0

abbrev hbmTy0_0 (i : Nat) : BufTy := match i % 128 with
  | 0 => ⟨S4096x6144, .bf16⟩
  | 1 => ⟨S4096x10368, .bf16⟩
  | 2 => ⟨S4096x4096, .bf16⟩
  | 3 => ⟨S1x128, .f32⟩
  | 4 => ⟨S1x128, .f32⟩
  | 5 => ⟨S1x4096, .f32⟩
  | 6 => ⟨S1x4096, .f32⟩
  | 7 => ⟨S4096x4096, .bf16⟩
  | 8 => ⟨S4096x1024, .bf16⟩
  | 9 => ⟨S4096x1024, .bf16⟩
  | 10 => ⟨S4096x64, .bf16⟩
  | 11 => ⟨S1x64, .f32⟩
  | 12 => ⟨S64, .f32⟩
  | 13 => ⟨S1x64, .f32⟩
  | 14 => ⟨S64, .f32⟩
  | 15 => ⟨S4096, .f32⟩
  | 16 => ⟨S4096x64, .f32⟩
  | 17 => ⟨S1x64, .f32⟩
  | 18 => ⟨S4096x64, .f32⟩
  | 19 => ⟨S4096x64, .f32⟩
  | 20 => ⟨S_, .f32⟩
  | 21 => ⟨S4096x64, .f32⟩
  | 22 => ⟨S4096x64, .f32⟩
  | 23 => ⟨S4096x64, .f32⟩
  | 24 => ⟨S4096x64, .f32⟩
  | 25 => ⟨S4096x64, .i1⟩
  | 26 => ⟨S4096x64, .f32⟩
  | 27 => ⟨S4096x64, .f32⟩
  | 28 => ⟨S4096x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S64, .f32⟩
  | 35 => ⟨S64, .f32⟩
  | 36 => ⟨S4096x4096, .f32⟩
  | 37 => ⟨S4096x64x64, .f32⟩
  | 38 => ⟨S4096x64x1, .f32⟩
  | 39 => ⟨S4096x64x64, .f32⟩
  | 40 => ⟨S4096x64x64, .f32⟩
  | 41 => ⟨S4096x8x8x64, .f32⟩
  | 42 => ⟨S1x64, .f32⟩
  | 43 => ⟨S4096x64, .f32⟩
  | 44 => ⟨S4096x64, .f32⟩
  | 45 => ⟨S4096x8x8, .f32⟩
  | 46 => ⟨S8x8x4096, .f32⟩
  | 47 => ⟨S4096x1024, .f32⟩
  | 48 => ⟨S4096x8x128, .f32⟩
  | 49 => ⟨S4096x1024, .f32⟩
  | 50 => ⟨S4096x8x128, .f32⟩
  | 51 => ⟨S8x4096x4096, .f32⟩
  | 52 => ⟨S8x1x4096x4096, .f32⟩
  | 53 => ⟨S_, .f32⟩
  | 54 => ⟨S_, .f32⟩
  | 55 => ⟨S8x8x4096, .f32⟩
  | 56 => ⟨S8x8x4096x1, .f32⟩
  | 57 => ⟨S8x8x1x4096, .f32⟩
  | 58 => ⟨S8x8x4096x4096, .f32⟩
  | 59 => ⟨S8x8x4096x4096, .f32⟩
  | 60 => ⟨S8x8x4096x4096, .f32⟩
  | 61 => ⟨S_, .i1⟩
  | 62 => ⟨S4096x4096, .i1⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S4096x4096, .i1⟩
  | 69 => ⟨S_, .i1⟩
  | 70 => ⟨S4096x4096, .i1⟩
  | 71 => ⟨S4096x4096, .i1⟩
  | 72 => ⟨S_, .f32⟩
  | 73 => ⟨S_, .f32⟩
  | 74 => ⟨S8x8x4096x4096, .i1⟩
  | 75 => ⟨S8x8x4096x4096, .f32⟩
  | 76 => ⟨S8x8x4096x4096, .f32⟩
  | 77 => ⟨S8x8x4096x4096, .f32⟩
  | 78 => ⟨S8x8x4096x4096, .f32⟩
  | 79 => ⟨S8x8x4096x4096, .f32⟩
  | 80 => ⟨S8x8x64x4096, .f32⟩
  | 81 => ⟨S4096x8x8x64, .f32⟩
  | 82 => ⟨S4096x4096, .f32⟩
  | 83 => ⟨S4096x4096, .f32⟩
  | 84 => ⟨S1x4096, .f32⟩
  | 85 => ⟨S4096x4096, .f32⟩
  | 86 => ⟨S4096x4096, .f32⟩
  | 87 => ⟨S4096x4096, .f32⟩
  | 88 => ⟨S4096x4096, .bf16⟩
  | 89 => ⟨S1x64, .f32⟩
  | 90 => ⟨S64, .f32⟩
  | 91 => ⟨S1x64, .f32⟩
  | 92 => ⟨S64, .f32⟩
  | 93 => ⟨S4096x64, .f32⟩
  | 94 => ⟨S1x64, .f32⟩
  | 95 => ⟨S4096x64, .f32⟩
  | 96 => ⟨S4096x64, .f32⟩
  | 97 => ⟨S_, .f32⟩
  | 98 => ⟨S4096x64, .f32⟩
  | 99 => ⟨S4096x64, .f32⟩
  | 100 => ⟨S4096x64, .f32⟩
  | 101 => ⟨S4096x64, .f32⟩
  | 102 => ⟨S4096x64, .i1⟩
  | 103 => ⟨S4096x64, .f32⟩
  | 104 => ⟨S4096x64, .f32⟩
  | 105 => ⟨S4096x64, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S64, .f32⟩
  | 112 => ⟨S64, .f32⟩
  | 113 => ⟨S4096x4096, .f32⟩
  | 114 => ⟨S4096x64x64, .f32⟩
  | 115 => ⟨S4096x64x1, .f32⟩
  | 116 => ⟨S4096x64x64, .f32⟩
  | 117 => ⟨S4096x64x64, .f32⟩
  | 118 => ⟨S4096x8x8x64, .f32⟩
  | 119 => ⟨S1x64, .f32⟩
  | 120 => ⟨S4096x64, .f32⟩
  | 121 => ⟨S4096x64, .f32⟩
  | 122 => ⟨S4096x8x8, .f32⟩
  | 123 => ⟨S8x8x4096, .f32⟩
  | 124 => ⟨S_, .f32⟩
  | 125 => ⟨S_, .f32⟩
  | 126 => ⟨S8x8x4096, .f32⟩
  | 127 => ⟨S8x8x32, .f32⟩
  | _ => ⟨S4096x6144, .bf16⟩

abbrev hbmTy0_1 (i : Nat) : BufTy := match i % 128 with
  | 0 => ⟨S_, .i32⟩
  | 1 => ⟨S_, .f32⟩
  | 2 => ⟨S8x8x33, .f32⟩
  | 3 => ⟨S8x8x32, .f32⟩
  | 4 => ⟨S4096, .i32⟩
  | 5 => ⟨S1x4096, .i32⟩
  | 6 => ⟨S32, .i32⟩
  | 7 => ⟨S32x1, .i32⟩
  | 8 => ⟨S_, .i32⟩
  | 9 => ⟨S32x1, .i32⟩
  | 10 => ⟨S32x1, .i32⟩
  | 11 => ⟨S32x4096, .i32⟩
  | 12 => ⟨S32x4096, .i32⟩
  | 13 => ⟨S32x4096, .i1⟩
  | 14 => ⟨S8x8x32x1, .f32⟩
  | 15 => ⟨S8x8x1x4096, .f32⟩
  | 16 => ⟨S8x8x32x4096, .f32⟩
  | 17 => ⟨S8x8x32x4096, .f32⟩
  | 18 => ⟨S8x8x32x4096, .f32⟩
  | 19 => ⟨S_, .f32⟩
  | 20 => ⟨S_, .f32⟩
  | 21 => ⟨S8x8x32x4096, .i1⟩
  | 22 => ⟨S8x8x32x4096, .f32⟩
  | 23 => ⟨S8x8x32x4096, .f32⟩
  | 24 => ⟨S8x8x32x4096, .f32⟩
  | 25 => ⟨S4096x8x8x32, .f32⟩
  | 26 => ⟨S4096x8x8x32x1, .f32⟩
  | 27 => ⟨S4096x8x8x1x64, .f32⟩
  | 28 => ⟨S4096x8x8x32x64, .f32⟩
  | 29 => ⟨S4096x8x8x32x64, .f32⟩
  | 30 => ⟨S4096x8x8x32x64, .f32⟩
  | 31 => ⟨S4096x1024, .f32⟩
  | 32 => ⟨S4096x8x128, .f32⟩
  | 33 => ⟨S8x128x8x32x64, .f32⟩
  | 34 => ⟨S8x32x8x64x128, .f32⟩
  | 35 => ⟨S8x32x4x128x128, .f32⟩
  | 36 => ⟨S4096x10368, .bf16⟩
  | 37 => ⟨S4096x4096, .bf16⟩
  | 38 => ⟨S4096x1024, .bf16⟩
  | 39 => ⟨S4096x1024, .bf16⟩
  | 40 => ⟨S8x4096x128, .f32⟩
  | 41 => ⟨S8x8x128, .f32⟩
  | 42 => ⟨S8x8x512, .f32⟩
  | 43 => ⟨S8x8x512, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S1x512, .f32⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S1x128, .f32⟩
  | .local _ .vmem, ⟨18, _⟩ => ⟨S1x512, .f32⟩
  | .local _ .vmem, ⟨19, _⟩ => ⟨S1x512, .f32⟩
  | .local _ .vmem, ⟨20, _⟩ => ⟨S1x1x4x128x128, .f32⟩
  | .local _ .vmem, ⟨21, _⟩ => ⟨S1x1x4x128x128, .f32⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x128, .bf16⟩
  | .local _ .vmem, ⟨27, _⟩ => ⟨S128x128, .bf16⟩
  | .local _ .vmem, ⟨28, _⟩ => ⟨S128x128, .bf16⟩
  | .local _ .vmem, ⟨29, _⟩ => ⟨S128x128, .bf16⟩
  | .local _ .vmem, ⟨30, _⟩ => ⟨S1x128x128, .f32⟩
  | .local _ .vmem, ⟨31, _⟩ => ⟨S1x128x128, .f32⟩
  | .local _ .vmem, ⟨32, _⟩ => ⟨S1x8x128, .f32⟩
  | .local _ .vmem, ⟨33, _⟩ => ⟨S1x8x128, .f32⟩
  | .local _ .vmem, ⟨34, _⟩ => ⟨S1x8x512, .f32⟩
  | .local _ .vmem, ⟨35, _⟩ => ⟨S1x8x512, .f32⟩
  | .local _ .vmem, ⟨36, _⟩ => ⟨S1x8x512, .f32⟩
  | .local _ .vmem, ⟨37, _⟩ => ⟨S1x8x512, .f32⟩
  | .local _ .vmem, ⟨38, _⟩ => ⟨S4x128x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_call0_cst : Ref sig .tc := ⟨.hbm, 53, rfl⟩
abbrev main_call1_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v40 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call4_cst : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_call5_call0_cst : Ref sig .tc := ⟨.hbm, 124, rfl⟩
abbrev main_call5_call0_v0 : Ref sig .tc := ⟨.hbm, 125, rfl⟩
abbrev main_v76 : Ref sig .tc := ⟨.hbm, 126, rfl⟩
abbrev main_v77 : Ref sig .tc := ⟨.hbm, 127, rfl⟩
abbrev main_c_0 : Ref sig .tc := ⟨.hbm, 128, rfl⟩
abbrev main_call6_v0 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_1 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_2 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107_0 : Ref sig .tc := ⟨.hbm, 164, rfl⟩
abbrev main_v107_1 : Ref sig .tc := ⟨.hbm, 165, rfl⟩
abbrev main_v107_2 : Ref sig .tc := ⟨.hbm, 166, rfl⟩
abbrev main_v107_3 : Ref sig .tc := ⟨.hbm, 167, rfl⟩
abbrev main_v107_4 : Ref sig .tc := ⟨.hbm, 168, rfl⟩
abbrev main_v107_5 : Ref sig .tc := ⟨.hbm, 169, rfl⟩
abbrev main_v107_6 : Ref sig .tc := ⟨.hbm, 170, rfl⟩
abbrev main_v107_7 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c32_i32 : BitVec 32 := 32#32
  let v1 : BitVec 32 := Scalar.addi c32_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c40_i32 : BitVec 32 := 40#32
  let v1 : BitVec 32 := Scalar.addi c40_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c80_i32 : BitVec 32 := 80#32
  let c0_i32 : BitVec 32 := 0#32
  ![v0.toNat, c80_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_16 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== SsdCoreBwdIdeal.lean ====
variable {F : FTy → Type} [FloatOps F] [Named F]
def κ : String → Option EReal := fun
  | "mask" => some ⊥
  | _ => none
-- ==== SsdCoreBwdRefIdeal.lean ====
abbrev S4096x6144 : Shape := ⟨2, ![4096, 6144]⟩
abbrev S4096x10368 : Shape := ⟨2, ![4096, 10368]⟩
abbrev S4096x4096 : Shape := ⟨2, ![4096, 4096]⟩
abbrev S1x128 : Shape := ⟨2, ![1, 128]⟩
abbrev S1x4096 : Shape := ⟨2, ![1, 4096]⟩
abbrev S4096x1024 : Shape := ⟨2, ![4096, 1024]⟩
abbrev S4096x64 : Shape := ⟨2, ![4096, 64]⟩
abbrev S4096 : Shape := ⟨1, ![4096]⟩
abbrev S1x64 : Shape := ⟨2, ![1, 64]⟩
abbrev S64 : Shape := ⟨1, ![64]⟩
abbrev S_ : Shape := ⟨0, ![]⟩
abbrev S4096x64x64 : Shape := ⟨3, ![4096, 64, 64]⟩
abbrev S4096x64x1 : Shape := ⟨3, ![4096, 64, 1]⟩
abbrev S4096x8x8x64 : Shape := ⟨4, ![4096, 8, 8, 64]⟩
abbrev S4096x8x8 : Shape := ⟨3, ![4096, 8, 8]⟩
abbrev S8x8x4096 : Shape := ⟨3, ![8, 8, 4096]⟩
abbrev S4096x8x128 : Shape := ⟨3, ![4096, 8, 128]⟩
abbrev S8x4096x4096 : Shape := ⟨3, ![8, 4096, 4096]⟩
abbrev S8x1x4096x4096 : Shape := ⟨4, ![8, 1, 4096, 4096]⟩
abbrev S8x8x4096x1 : Shape := ⟨4, ![8, 8, 4096, 1]⟩
abbrev S8x8x1x4096 : Shape := ⟨4, ![8, 8, 1, 4096]⟩
abbrev S8x8x4096x4096 : Shape := ⟨4, ![8, 8, 4096, 4096]⟩
abbrev S8x8x64x4096 : Shape := ⟨4, ![8, 8, 64, 4096]⟩
abbrev S4096x8x512 : Shape := ⟨3, ![4096, 8, 512]⟩
abbrev S4096x8 : Shape := ⟨2, ![4096, 8]⟩
abbrev S4096x8x1 : Shape := ⟨3, ![4096, 8, 1]⟩
abbrev S8x512 : Shape := ⟨2, ![8, 512]⟩
abbrev S8x1x512 : Shape := ⟨3, ![8, 1, 512]⟩
abbrev S8x7x512 : Shape := ⟨3, ![8, 7, 512]⟩
abbrev S8x8x512 : Shape := ⟨3, ![8, 8, 512]⟩

abbrev nBuf : Space → Nat
  | .hbm => 181
  | .vmem => 0
  | .smem => 0
  | _ => 0

abbrev hbmTy0_0 (i : Nat) : BufTy := match i % 128 with
  | 0 => ⟨S4096x6144, .bf16⟩
  | 1 => ⟨S4096x10368, .bf16⟩
  | 2 => ⟨S4096x4096, .bf16⟩
  | 3 => ⟨S1x128, .f32⟩
  | 4 => ⟨S1x128, .f32⟩
  | 5 => ⟨S1x4096, .f32⟩
  | 6 => ⟨S1x4096, .f32⟩
  | 7 => ⟨S4096x4096, .bf16⟩
  | 8 => ⟨S4096x1024, .bf16⟩
  | 9 => ⟨S4096x1024, .bf16⟩
  | 10 => ⟨S4096x64, .bf16⟩
  | 11 => ⟨S4096, .f32⟩
  | 12 => ⟨S4096, .f32⟩
  | 13 => ⟨S1x64, .f32⟩
  | 14 => ⟨S64, .f32⟩
  | 15 => ⟨S1x64, .f32⟩
  | 16 => ⟨S64, .f32⟩
  | 17 => ⟨S4096x64, .f32⟩
  | 18 => ⟨S1x64, .f32⟩
  | 19 => ⟨S4096x64, .f32⟩
  | 20 => ⟨S4096x64, .f32⟩
  | 21 => ⟨S_, .f32⟩
  | 22 => ⟨S4096x64, .f32⟩
  | 23 => ⟨S4096x64, .f32⟩
  | 24 => ⟨S4096x64, .f32⟩
  | 25 => ⟨S4096x64, .f32⟩
  | 26 => ⟨S4096x64, .i1⟩
  | 27 => ⟨S4096x64, .f32⟩
  | 28 => ⟨S4096x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S4096x64, .f32⟩
  | 35 => ⟨S64, .f32⟩
  | 36 => ⟨S64, .f32⟩
  | 37 => ⟨S4096x4096, .f32⟩
  | 38 => ⟨S4096x64x64, .f32⟩
  | 39 => ⟨S4096x64x1, .f32⟩
  | 40 => ⟨S4096x64x64, .f32⟩
  | 41 => ⟨S4096x64x64, .f32⟩
  | 42 => ⟨S4096x8x8x64, .f32⟩
  | 43 => ⟨S1x64, .f32⟩
  | 44 => ⟨S4096x64, .f32⟩
  | 45 => ⟨S4096x64, .f32⟩
  | 46 => ⟨S4096x8x8, .f32⟩
  | 47 => ⟨S8x8x4096, .f32⟩
  | 48 => ⟨S4096x1024, .f32⟩
  | 49 => ⟨S4096x8x128, .f32⟩
  | 50 => ⟨S4096x1024, .f32⟩
  | 51 => ⟨S4096x8x128, .f32⟩
  | 52 => ⟨S8x4096x4096, .f32⟩
  | 53 => ⟨S8x1x4096x4096, .f32⟩
  | 54 => ⟨S_, .f32⟩
  | 55 => ⟨S_, .f32⟩
  | 56 => ⟨S8x8x4096, .f32⟩
  | 57 => ⟨S8x8x4096x1, .f32⟩
  | 58 => ⟨S8x8x1x4096, .f32⟩
  | 59 => ⟨S8x8x4096x4096, .f32⟩
  | 60 => ⟨S8x8x4096x4096, .f32⟩
  | 61 => ⟨S8x8x4096x4096, .f32⟩
  | 62 => ⟨S_, .i1⟩
  | 63 => ⟨S4096x4096, .i1⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S4096x4096, .i1⟩
  | 70 => ⟨S_, .i1⟩
  | 71 => ⟨S4096x4096, .i1⟩
  | 72 => ⟨S4096x4096, .i1⟩
  | 73 => ⟨S_, .f32⟩
  | 74 => ⟨S_, .f32⟩
  | 75 => ⟨S8x8x4096x4096, .i1⟩
  | 76 => ⟨S8x8x4096x4096, .f32⟩
  | 77 => ⟨S8x8x4096x4096, .f32⟩
  | 78 => ⟨S8x8x4096x4096, .f32⟩
  | 79 => ⟨S8x8x4096x4096, .f32⟩
  | 80 => ⟨S8x8x4096x4096, .f32⟩
  | 81 => ⟨S8x8x64x4096, .f32⟩
  | 82 => ⟨S4096x8x8x64, .f32⟩
  | 83 => ⟨S4096x4096, .f32⟩
  | 84 => ⟨S4096x4096, .f32⟩
  | 85 => ⟨S1x4096, .f32⟩
  | 86 => ⟨S4096x4096, .f32⟩
  | 87 => ⟨S4096x4096, .f32⟩
  | 88 => ⟨S4096x4096, .f32⟩
  | 89 => ⟨S4096x4096, .bf16⟩
  | 90 => ⟨S4096x4096, .f32⟩
  | 91 => ⟨S4096x4096, .f32⟩
  | 92 => ⟨S4096x4096, .f32⟩
  | 93 => ⟨S_, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S4096x8x512, .f32⟩
  | 102 => ⟨S4096x8x512, .f32⟩
  | 103 => ⟨S_, .f32⟩
  | 104 => ⟨S4096x8, .f32⟩
  | 105 => ⟨S4096x8x1, .f32⟩
  | 106 => ⟨S_, .f32⟩
  | 107 => ⟨S4096x8x1, .f32⟩
  | 108 => ⟨S4096x8x1, .f32⟩
  | 109 => ⟨S_, .f32⟩
  | 110 => ⟨S4096x8x1, .f32⟩
  | 111 => ⟨S4096x8x1, .f32⟩
  | 112 => ⟨S4096x8x1, .f32⟩
  | 113 => ⟨S4096x8x1, .f32⟩
  | 114 => ⟨S_, .f32⟩
  | 115 => ⟨S4096x8x1, .f32⟩
  | 116 => ⟨S4096x8x1, .f32⟩
  | 117 => ⟨S4096x8x512, .f32⟩
  | 118 => ⟨S4096x8x512, .f32⟩
  | 119 => ⟨S4096x4096, .f32⟩
  | 120 => ⟨S1x4096, .f32⟩
  | 121 => ⟨S4096x4096, .f32⟩
  | 122 => ⟨S4096x4096, .f32⟩
  | 123 => ⟨S4096x4096, .f32⟩
  | 124 => ⟨S4096x4096, .f32⟩
  | 125 => ⟨S_, .f32⟩
  | 126 => ⟨S4096, .f32⟩
  | 127 => ⟨S1x4096, .f32⟩
  | _ => ⟨S4096x6144, .bf16⟩

abbrev hbmTy0_1 (i : Nat) : BufTy := match i % 128 with
  | 0 => ⟨S4096x4096, .f32⟩
  | 1 => ⟨S4096x4096, .f32⟩
  | 2 => ⟨S_, .f32⟩
  | 3 => ⟨S4096, .f32⟩
  | 4 => ⟨S4096x8x512, .f32⟩
  | 5 => ⟨S4096x8x512, .f32⟩
  | 6 => ⟨S_, .f32⟩
  | 7 => ⟨S4096x8, .f32⟩
  | 8 => ⟨S4096x8x1, .f32⟩
  | 9 => ⟨S4096x8x512, .f32⟩
  | 10 => ⟨S4096x8x512, .f32⟩
  | 11 => ⟨S4096x8x1, .f32⟩
  | 12 => ⟨S_, .f32⟩
  | 13 => ⟨S4096x8x1, .f32⟩
  | 14 => ⟨S4096x8x1, .f32⟩
  | 15 => ⟨S_, .f32⟩
  | 16 => ⟨S4096x8, .f32⟩
  | 17 => ⟨S4096x8x512, .f32⟩
  | 18 => ⟨S4096x8x512, .f32⟩
  | 19 => ⟨S4096x8x512, .f32⟩
  | 20 => ⟨S4096x8x512, .f32⟩
  | 21 => ⟨S4096x8x512, .f32⟩
  | 22 => ⟨S4096x4096, .f32⟩
  | 23 => ⟨S4096x4096, .f32⟩
  | 24 => ⟨S4096x4096, .f32⟩
  | 25 => ⟨S_, .f32⟩
  | 26 => ⟨S4096, .f32⟩
  | 27 => ⟨S1x4096, .f32⟩
  | 28 => ⟨S4096x4096, .f32⟩
  | 29 => ⟨S4096x4096, .f32⟩
  | 30 => ⟨S_, .f32⟩
  | 31 => ⟨S4096, .f32⟩
  | 32 => ⟨S4096x4096, .bf16⟩
  | 33 => ⟨S4096x8x8x64, .f32⟩
  | 34 => ⟨S8x8x64x4096, .f32⟩
  | 35 => ⟨S8x8x64x4096, .f32⟩
  | 36 => ⟨S4096x8x8x64, .f32⟩
  | 37 => ⟨S4096x64x64, .f32⟩
  | 38 => ⟨S4096x64x64, .f32⟩
  | 39 => ⟨S4096x64x64, .f32⟩
  | 40 => ⟨S4096x4096, .f32⟩
  | 41 => ⟨S4096x4096, .bf16⟩
  | 42 => ⟨S4096x4096, .bf16⟩
  | 43 => ⟨S8x512, .f32⟩
  | 44 => ⟨S8x1x512, .f32⟩
  | 45 => ⟨S_, .f32⟩
  | 46 => ⟨S8x7x512, .f32⟩
  | 47 => ⟨S8x8x512, .f32⟩
  | 48 => ⟨S8x512, .f32⟩
  | 49 => ⟨S8x1x512, .f32⟩
  | 50 => ⟨S_, .f32⟩
  | 51 => ⟨S8x7x512, .f32⟩
  | 52 => ⟨S8x8x512, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_call0_cst : Ref sig .tc := ⟨.hbm, 54, rfl⟩
abbrev main_call1_call0_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v41 : Ref sig .tc := ⟨.hbm, 72, rfl⟩
abbrev main_cst : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call4_v0 : Ref sig .tc := ⟨.hbm, 91, rfl⟩
abbrev main_call4_v1 : Ref sig .tc := ⟨.hbm, 92, rfl⟩
abbrev main_call4_cst : Ref sig .tc := ⟨.hbm, 93, rfl⟩
abbrev main_call4_v2 : Ref sig .tc := ⟨.hbm, 94, rfl⟩
abbrev main_call4_v3 : Ref sig .tc := ⟨.hbm, 95, rfl⟩
abbrev main_call4_cst_0 : Ref sig .tc := ⟨.hbm, 96, rfl⟩
abbrev main_call4_v4 : Ref sig .tc := ⟨.hbm, 97, rfl⟩
abbrev main_call4_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_0 : Ref sig .tc := ⟨.hbm, 103, rfl⟩
abbrev main_v60 : Ref sig .tc := ⟨.hbm, 104, rfl⟩
abbrev main_v61 : Ref sig .tc := ⟨.hbm, 105, rfl⟩
abbrev main_cst_1 : Ref sig .tc := ⟨.hbm, 106, rfl⟩
abbrev main_v62 : Ref sig .tc := ⟨.hbm, 107, rfl⟩
abbrev main_v63 : Ref sig .tc := ⟨.hbm, 108, rfl⟩
abbrev main_cst_2 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_3 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_4 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_5 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_6 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_7 : Ref sig .tc := ⟨.hbm, 140, rfl⟩
abbrev main_v90 : Ref sig .tc := ⟨.hbm, 141, rfl⟩
abbrev main_v91 : Ref sig .tc := ⟨.hbm, 142, rfl⟩
abbrev main_cst_8 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_9 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_10 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_11 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_12 : Ref sig .tc := ⟨.hbm, 178, rfl⟩
abbrev main_v123 : Ref sig .tc := ⟨.hbm, 179, rfl⟩
abbrev main_v124 : Ref sig .tc := ⟨.hbm, 180, rfl⟩

abbrev nD : Nat := 1
abbrev τ : Topo := Topo.v7x

variable {F : FTy → Type} [FloatOps F]
-- ==== FfnActBwd.lean ====
abbrev S2x4096x5632 : Shape := ⟨3, ![2, 4096, 5632]⟩
abbrev S4096x5632 : Shape := ⟨2, ![4096, 5632]⟩
abbrev S3x2x5632 : Shape := ⟨3, ![3, 2, 5632]⟩
abbrev S2x5632 : Shape := ⟨2, ![2, 5632]⟩
abbrev S_ : Shape := ⟨0, ![]⟩
abbrev S2x2x5632 : Shape := ⟨3, ![2, 2, 5632]⟩
abbrev S2x4098x5632 : Shape := ⟨3, ![2, 4098, 5632]⟩
abbrev S1x2x5632 : Shape := ⟨3, ![1, 2, 5632]⟩
abbrev S2x1x5632 : Shape := ⟨3, ![2, 1, 5632]⟩
abbrev S2x512x512 : Shape := ⟨3, ![2, 512, 512]⟩
abbrev S2x16x512 : Shape := ⟨3, ![2, 16, 512]⟩
abbrev S512x512 : Shape := ⟨2, ![512, 512]⟩
abbrev S16x512 : Shape := ⟨2, ![16, 512]⟩
abbrev S3x2x512 : Shape := ⟨3, ![3, 2, 512]⟩
abbrev S2x512 : Shape := ⟨2, ![2, 512]⟩
abbrev S1x512x512 : Shape := ⟨3, ![1, 512, 512]⟩
abbrev S1x16x512 : Shape := ⟨3, ![1, 16, 512]⟩
abbrev S528x512 : Shape := ⟨2, ![528, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 38
  | .vmem => 18
  | .smem => 0
  | _ => 0

abbrev bufTy : (tb : Table) → Fin (tcTables nBuf tb) → BufTy
  | .hbm, ⟨0, _⟩ => ⟨S2x4096x5632, .bf16⟩
  | .hbm, ⟨1, _⟩ => ⟨S4096x5632, .bf16⟩
  | .hbm, ⟨2, _⟩ => ⟨S3x2x5632, .f32⟩
  | .hbm, ⟨3, _⟩ => ⟨S2x5632, .f32⟩
  | .hbm, ⟨4, _⟩ => ⟨S2x4096x5632, .f32⟩
  | .hbm, ⟨5, _⟩ => ⟨S_, .f32⟩
  | .hbm, ⟨6, _⟩ => ⟨S2x2x5632, .f32⟩
  | .hbm, ⟨7, _⟩ => ⟨S2x4098x5632, .f32⟩
  | .hbm, ⟨8, _⟩ => ⟨S2x4096x5632, .f32⟩
  | .hbm, ⟨9, _⟩ => ⟨S1x2x5632, .f32⟩
  | .hbm, ⟨10, _⟩ => ⟨S2x5632, .f32⟩
  | .hbm, ⟨11, _⟩ => ⟨S2x1x5632, .f32⟩
  | .hbm, ⟨12, _⟩ => ⟨S2x4096x5632, .f32⟩
  | .hbm, ⟨13, _⟩ => ⟨S2x4096x5632, .f32⟩
  | .hbm, ⟨14, _⟩ => ⟨S_, .f32⟩
  | .hbm, ⟨15, _⟩ => ⟨S2x4096x5632, .f32⟩
  | .hbm, ⟨16, _⟩ => ⟨S2x4096x5632, .f32⟩
  | .hbm, ⟨17, _⟩ => ⟨S2x4096x5632, .f32⟩
  | .hbm, ⟨18, _⟩ => ⟨S1x2x5632, .f32⟩
  | .hbm, ⟨19, _⟩ => ⟨S2x5632, .f32⟩
  | .hbm, ⟨20, _⟩ => ⟨S2x1x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S2x4096x5632, .f32⟩
  | .hbm, ⟨25, _⟩ => ⟨S1x2x5632, .f32⟩
  | .hbm, ⟨26, _⟩ => ⟨S2x5632, .f32⟩
  | .hbm, ⟨27, _⟩ => ⟨S2x1x5632, .f32⟩
  | .hbm, ⟨28, _⟩ => ⟨S2x4096x5632, .f32⟩
  | .hbm, ⟨29, _⟩ => ⟨S2x4096x5632, .f32⟩
  | .hbm, ⟨30, _⟩ => ⟨S2x4096x5632, .f32⟩
  | .hbm, ⟨31, _⟩ => ⟨S2x1x5632, .f32⟩
  | .hbm, ⟨32, _⟩ => ⟨S2x4096x5632, .f32⟩
  | .hbm, ⟨33, _⟩ => ⟨S2x4096x5632, .f32⟩
  | .hbm, ⟨34, _⟩ => ⟨S2x4096x5632, .bf16⟩
  | .hbm, ⟨35, _⟩ => ⟨S2x4096x5632, .bf16⟩
  | .hbm, ⟨36, _⟩ => ⟨S3x2x5632, .f32⟩
  | .hbm, ⟨37, _⟩ => ⟨S2x5632, .f32⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .bf16⟩
  | .local _ .vmem, ⟨4, _⟩ => ⟨S2x16x512, .bf16⟩
  | .local _ .vmem, ⟨5, _⟩ => ⟨S2x16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S3x2x512, .f32⟩
  | .local _ .vmem, ⟨11, _⟩ => ⟨S3x2x512, .f32⟩
  | .local _ .vmem, ⟨12, _⟩ => ⟨S2x512x512, .bf16⟩
  | .local _ .vmem, ⟨13, _⟩ => ⟨S2x512x512, .bf16⟩
  | .local _ .vmem, ⟨14, _⟩ => ⟨S3x2x512, .f32⟩
  | .local _ .vmem, ⟨15, _⟩ => ⟨S3x2x512, .f32⟩
  | .local _ .vmem, ⟨16, _⟩ => ⟨S2x512, .f32⟩
  | .local _ .vmem, ⟨17, _⟩ => ⟨S2x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnActBwdRefIdeal.lean ====
abbrev S2x4096x5632 : Shape := ⟨3, ![2, 4096, 5632]⟩
abbrev S4096x5632 : Shape := ⟨2, ![4096, 5632]⟩
abbrev S3x2x5632 : Shape := ⟨3, ![3, 2, 5632]⟩
abbrev S2x5632 : Shape := ⟨2, ![2, 5632]⟩
abbrev S_ : Shape := ⟨0, ![]⟩
abbrev S2x2x5632 : Shape := ⟨3, ![2, 2, 5632]⟩
abbrev S2x4098x5632 : Shape := ⟨3, ![2, 4098, 5632]⟩
abbrev S1x2x5632 : Shape := ⟨3, ![1, 2, 5632]⟩
abbrev S2x1x5632 : Shape := ⟨3, ![2, 1, 5632]⟩
abbrev S1x4096x5632 : Shape := ⟨3, ![1, 4096, 5632]⟩

abbrev nBuf : Space → Nat
  | .hbm => 115
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4096x5632, .bf16⟩
  | .hbm, ⟨2, _⟩ => ⟨S3x2x5632, .f32⟩
  | .hbm, ⟨3, _⟩ => ⟨S2x5632, .f32⟩
  | .hbm, ⟨4, _⟩ => ⟨S2x4096x5632, .f32⟩
  | .hbm, ⟨5, _⟩ => ⟨S_, .f32⟩
  | .hbm, ⟨6, _⟩ => ⟨S2x2x5632, .f32⟩
  | .hbm, ⟨7, _⟩ => ⟨S2x4098x5632, .f32⟩
  | .hbm, ⟨8, _⟩ => ⟨S_, .f32⟩
  | .hbm, ⟨9, _⟩ => ⟨S2x2x5632, .f32⟩
  | .hbm, ⟨10, _⟩ => ⟨S2x4096x5632, .f32⟩
  | .hbm, ⟨11, _⟩ => ⟨S1x2x5632, .f32⟩
  | .hbm, ⟨12, _⟩ => ⟨S2x5632, .f32⟩
  | .hbm, ⟨13, _⟩ => ⟨S2x1x5632, .f32⟩
  | .hbm, ⟨14, _⟩ => ⟨S2x4096x5632, .f32⟩
  | .hbm, ⟨15, _⟩ => ⟨S2x4096x5632, .f32⟩
  | .hbm, ⟨16, _⟩ => ⟨S_, .f32⟩
  | .hbm, ⟨17, _⟩ => ⟨S2x4096x5632, .f32⟩
  | .hbm, ⟨18, _⟩ => ⟨S2x4096x5632, .f32⟩
  | .hbm, ⟨19, _⟩ => ⟨S2x4096x5632, .f32⟩
  | .hbm, ⟨20, _⟩ => ⟨S1x2x5632, .f32⟩
  | .hbm, ⟨21, _⟩ => ⟨S2x5632, .f32⟩
  | .hbm, ⟨22, _⟩ => ⟨S2x1x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S1x2x5632, .f32⟩
  | .hbm, ⟨28, _⟩ => ⟨S2x5632, .f32⟩
  | .hbm, ⟨29, _⟩ => ⟨S2x1x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x1x5632, .f32⟩
  | .hbm, ⟨34, _⟩ => ⟨S2x4096x5632, .f32⟩
  | .hbm, ⟨35, _⟩ => ⟨S2x4096x5632, .f32⟩
  | .hbm, ⟨36, _⟩ => ⟨S1x4096x5632, .f32⟩
  | .hbm, ⟨37, _⟩ => ⟨S4096x5632, .f32⟩
  | .hbm, ⟨38, _⟩ => ⟨S1x4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S_, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S1x4096x5632, .f32⟩
  | .hbm, ⟨62, _⟩ => ⟨S1x4096x5632, .f32⟩
  | .hbm, ⟨63, _⟩ => ⟨S2x4096x5632, .f32⟩
  | .hbm, ⟨64, _⟩ => ⟨S_, .f32⟩
  | .hbm, ⟨65, _⟩ => ⟨S2x5632, .f32⟩
  | .hbm, ⟨66, _⟩ => ⟨S2x1x5632, .f32⟩
  | .hbm, ⟨67, _⟩ => ⟨S_, .f32⟩
  | .hbm, ⟨68, _⟩ => ⟨S2x5632, .f32⟩
  | .hbm, ⟨69, _⟩ => ⟨S2x4096x5632, .f32⟩
  | .hbm, ⟨70, _⟩ => ⟨S_, .f32⟩
  | .hbm, ⟨71, _⟩ => ⟨S2x5632, .f32⟩
  | .hbm, ⟨72, _⟩ => ⟨S2x1x5632, .f32⟩
  | .hbm, ⟨73, _⟩ => ⟨S2x4096x5632, .f32⟩
  | .hbm, ⟨74, _⟩ => ⟨S2x4096x5632, .f32⟩
  | .hbm, ⟨75, _⟩ => ⟨S_, .f32⟩
  | .hbm, ⟨76, _⟩ => ⟨S2x5632, .f32⟩
  | .hbm, ⟨77, _⟩ => ⟨S1x2x5632, .f32⟩
  | .hbm, ⟨78, _⟩ => ⟨S_, .f32⟩
  | .hbm, ⟨79, _⟩ => ⟨S3x2x5632, .f32⟩
  | .hbm, ⟨80, _⟩ => ⟨S_, .f32⟩
  | .hbm, ⟨81, _⟩ => ⟨S2x4098x5632, .f32⟩
  | .hbm, ⟨82, _⟩ => ⟨S2x4096x5632, .f32⟩
  | .hbm, ⟨83, _⟩ => ⟨S_, .f32⟩
  | .hbm, ⟨84, _⟩ => ⟨S2x5632, .f32⟩
  | .hbm, ⟨85, _⟩ => ⟨S2x1x5632, .f32⟩
  | .hbm, ⟨86, _⟩ => ⟨S2x4096x5632, .f32⟩
  | .hbm, ⟨87, _⟩ => ⟨S2x4096x5632, .f32⟩
  | .hbm, ⟨88, _⟩ => ⟨S_, .f32⟩
  | .hbm, ⟨89, _⟩ => ⟨S2x5632, .f32⟩
  | .hbm, ⟨90, _⟩ => ⟨S1x2x5632, .f32⟩
  | .hbm, ⟨91, _⟩ => ⟨S_, .f32⟩
  | .hbm, ⟨92, _⟩ => ⟨S3x2x5632, .f32⟩
  | .hbm, ⟨93, _⟩ => ⟨S3x2x5632, .f32⟩
  | .hbm, ⟨94, _⟩ => ⟨S_, .f32⟩
  | .hbm, ⟨95, _⟩ => ⟨S2x4098x5632, .f32⟩
  | .hbm, ⟨96, _⟩ => ⟨S2x4098x5632, .f32⟩
  | .hbm, ⟨97, _⟩ => ⟨S2x4096x5632, .f32⟩
  | .hbm, ⟨98, _⟩ => ⟨S_, .f32⟩
  | .hbm, ⟨99, _⟩ => ⟨S2x5632, .f32⟩
  | .hbm, ⟨100, _⟩ => ⟨S2x1x5632, .f32⟩
  | .hbm, ⟨101, _⟩ => ⟨S2x4096x5632, .f32⟩
  | .hbm, ⟨102, _⟩ => ⟨S2x4096x5632, .f32⟩
  | .hbm, ⟨103, _⟩ => ⟨S_, .f32⟩
  | .hbm, ⟨104, _⟩ => ⟨S2x5632, .f32⟩
  | .hbm, ⟨105, _⟩ => ⟨S1x2x5632, .f32⟩
  | .hbm, ⟨106, _⟩ => ⟨S_, .f32⟩
  | .hbm, ⟨107, _⟩ => ⟨S3x2x5632, .f32⟩
  | .hbm, ⟨108, _⟩ => ⟨S3x2x5632, .f32⟩
  | .hbm, ⟨109, _⟩ => ⟨S_, .f32⟩
  | .hbm, ⟨110, _⟩ => ⟨S2x4098x5632, .f32⟩
  | .hbm, ⟨111, _⟩ => ⟨S2x4098x5632, .f32⟩
  | .hbm, ⟨112, _⟩ => ⟨S2x2x5632, .f32⟩
  | .hbm, ⟨113, _⟩ => ⟨S2x4096x5632, .f32⟩
  | .hbm, ⟨114, _⟩ => ⟨S2x4096x5632, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== FfnActFwd.lean ====
abbrev S2x4096x5632 : Shape := ⟨3, ![2, 4096, 5632]⟩
abbrev S3x2x5632 : Shape := ⟨3, ![3, 2, 5632]⟩
abbrev S2x5632 : Shape := ⟨2, ![2, 5632]⟩
abbrev S4096x5632 : Shape := ⟨2, ![4096, 5632]⟩
abbrev S2x512x512 : Shape := ⟨3, ![2, 512, 512]⟩
abbrev S2x16x512 : Shape := ⟨3, ![2, 16, 512]⟩
abbrev S3x2x512 : Shape := ⟨3, ![3, 2, 512]⟩
abbrev S2x512 : Shape := ⟨2, ![2, 512]⟩
abbrev S512x512 : Shape := ⟨2, ![512, 512]⟩
abbrev S1x16x512 : Shape := ⟨3, ![1, 16, 512]⟩
abbrev S16x512 : Shape := ⟨2, ![16, 512]⟩
abbrev S1x512x512 : Shape := ⟨3, ![1, 512, 512]⟩
abbrev S528x512 : Shape := ⟨2, ![528, 512]⟩
abbrev S1x1x512 : Shape := ⟨3, ![1, 1, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S2x4096x5632, .bf16⟩
  | .hbm, ⟨1, _⟩ => ⟨S3x2x5632, .f32⟩
  | .hbm, ⟨2, _⟩ => ⟨S2x5632, .f32⟩
  | .hbm, ⟨3, _⟩ => ⟨S4096x5632, .bf16⟩
  | .hbm, ⟨4, _⟩ => ⟨S2x4096x5632, .bf16⟩
  | .local _ .vmem, ⟨0, _⟩ => ⟨S2x512x512, .bf16⟩
  | .local _ .vmem, ⟨1, _⟩ => ⟨S2x512x512, .bf16⟩
  | .local _ .vmem, ⟨2, _⟩ => ⟨S2x16x512, .bf16⟩
  | .local _ .vmem, ⟨3, _⟩ => ⟨S2x16x512, .bf16⟩
  | .local _ .vmem, ⟨4, _⟩ => ⟨S3x2x512, .f32⟩
  | .local _ .vmem, ⟨5, _⟩ => ⟨S3x2x512, .f32⟩
  | .local _ .vmem, ⟨6, _⟩ => ⟨S2x512, .f32⟩
  | .local _ .vmem, ⟨7, _⟩ => ⟨S2x512, .f32⟩
  | .local _ .vmem, ⟨8, _⟩ => ⟨S512x512, .bf16⟩
  | .local _ .vmem, ⟨9, _⟩ => ⟨S512x512, .bf16⟩
  | .local _ .vmem, ⟨10, _⟩ => ⟨S2x512x512, .bf16⟩
  | .local _ .vmem, ⟨11, _⟩ => ⟨S2x512x512, .bf16⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActFwdRefIdeal.lean ====
abbrev S2x4096x5632 : Shape := ⟨3, ![2, 4096, 5632]⟩
abbrev S3x2x5632 : Shape := ⟨3, ![3, 2, 5632]⟩
abbrev S2x5632 : Shape := ⟨2, ![2, 5632]⟩
abbrev S_ : Shape := ⟨0, ![]⟩
abbrev S2x2x5632 : Shape := ⟨3, ![2, 2, 5632]⟩
abbrev S2x4098x5632 : Shape := ⟨3, ![2, 4098, 5632]⟩
abbrev S1x2x5632 : Shape := ⟨3, ![1, 2, 5632]⟩
abbrev S2x1x5632 : Shape := ⟨3, ![2, 1, 5632]⟩
abbrev S1x4096x5632 : Shape := ⟨3, ![1, 4096, 5632]⟩
abbrev S4096x5632 : Shape := ⟨2, ![4096, 5632]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S3x2x5632, .f32⟩
  | .hbm, ⟨2, _⟩ => ⟨S2x5632, .f32⟩
  | .hbm, ⟨3, _⟩ => ⟨S2x4096x5632, .f32⟩
  | .hbm, ⟨4, _⟩ => ⟨S_, .f32⟩
  | .hbm, ⟨5, _⟩ => ⟨S2x2x5632, .f32⟩
  | .hbm, ⟨6, _⟩ => ⟨S2x4098x5632, .f32⟩
  | .hbm, ⟨7, _⟩ => ⟨S2x4096x5632, .f32⟩
  | .hbm, ⟨8, _⟩ => ⟨S1x2x5632, .f32⟩
  | .hbm, ⟨9, _⟩ => ⟨S2x5632, .f32⟩
  | .hbm, ⟨10, _⟩ => ⟨S2x1x5632, .f32⟩
  | .hbm, ⟨11, _⟩ => ⟨S2x4096x5632, .f32⟩
  | .hbm, ⟨12, _⟩ => ⟨S2x4096x5632, .f32⟩
  | .hbm, ⟨13, _⟩ => ⟨S_, .f32⟩
  | .hbm, ⟨14, _⟩ => ⟨S2x4096x5632, .f32⟩
  | .hbm, ⟨15, _⟩ => ⟨S2x4096x5632, .f32⟩
  | .hbm, ⟨16, _⟩ => ⟨S2x4096x5632, .f32⟩
  | .hbm, ⟨17, _⟩ => ⟨S1x2x5632, .f32⟩
  | .hbm, ⟨18, _⟩ => ⟨S2x5632, .f32⟩
  | .hbm, ⟨19, _⟩ => ⟨S2x1x5632, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S1x2x5632, .f32⟩
  | .hbm, ⟨25, _⟩ => ⟨S2x5632, .f32⟩
  | .hbm, ⟨26, _⟩ => ⟨S2x1x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S2x1x5632, .f32⟩
  | .hbm, ⟨31, _⟩ => ⟨S2x4096x5632, .f32⟩
  | .hbm, ⟨32, _⟩ => ⟨S2x4096x5632, .f32⟩
  | .hbm, ⟨33, _⟩ => ⟨S1x4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S_, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S1x4096x5632, .f32⟩
  | .hbm, ⟨45, _⟩ => ⟨S4096x5632, .f32⟩
  | .hbm, ⟨46, _⟩ => ⟨S4096x5632, .f32⟩
  | .hbm, ⟨47, _⟩ => ⟨S4096x5632, .bf16⟩
  | .hbm, ⟨48, _⟩ => ⟨S2x4096x5632, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== ScActFwd.lean ====
abbrev S3x4096x2048 : Shape := ⟨3, ![3, 4096, 2048]⟩
abbrev S3x2048 : Shape := ⟨2, ![3, 2048]⟩
abbrev S4096x2048 : Shape := ⟨2, ![4096, 2048]⟩
abbrev S3x512x512 : Shape := ⟨3, ![3, 512, 512]⟩
abbrev S3x16x512 : Shape := ⟨3, ![3, 16, 512]⟩
abbrev S3x512 : Shape := ⟨2, ![3, 512]⟩
abbrev S512x512 : Shape := ⟨2, ![512, 512]⟩
abbrev S1x16x512 : Shape := ⟨3, ![1, 16, 512]⟩
abbrev S16x512 : Shape := ⟨2, ![16, 512]⟩
abbrev S1x512x512 : Shape := ⟨3, ![1, 512, 512]⟩
abbrev S528x512 : Shape := ⟨2, ![528, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S3x4096x2048, .bf16⟩
  | .hbm, ⟨1, _⟩ => ⟨S3x2048, .f32⟩
  | .hbm, ⟨2, _⟩ => ⟨S4096x2048, .bf16⟩
  | .local _ .vmem, ⟨0, _⟩ => ⟨S3x512x512, .bf16⟩
  | .local _ .vmem, ⟨1, _⟩ => ⟨S3x512x512, .bf16⟩
  | .local _ .vmem, ⟨2, _⟩ => ⟨S3x16x512, .bf16⟩
  | .local _ .vmem, ⟨3, _⟩ => ⟨S3x16x512, .bf16⟩
  | .local _ .vmem, ⟨4, _⟩ => ⟨S3x512, .f32⟩
  | .local _ .vmem, ⟨5, _⟩ => ⟨S3x512, .f32⟩
  | .local _ .vmem, ⟨6, _⟩ => ⟨S512x512, .bf16⟩
  | .local _ .vmem, ⟨7, _⟩ => ⟨S512x512, .bf16⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScActFwdRefIdeal.lean ====
abbrev S3x4096x2048 : Shape := ⟨3, ![3, 4096, 2048]⟩
abbrev S3x2048 : Shape := ⟨2, ![3, 2048]⟩
abbrev S1x4096x2048 : Shape := ⟨3, ![1, 4096, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S3x2048, .f32⟩
  | .hbm, ⟨2, _⟩ => ⟨S3x4096x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S2x2048, .f32⟩
  | .hbm, ⟨12, _⟩ => ⟨S4098x2048, .f32⟩
  | .hbm, ⟨13, _⟩ => ⟨S4096x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== SsdConvFwd.lean ====
abbrev S4096x10368 : Shape := ⟨2, ![4096, 10368]⟩
abbrev S4x6144 : Shape := ⟨2, ![4, 6144]⟩
abbrev S1x6144 : Shape := ⟨2, ![1, 6144]⟩
abbrev S4096x6144 : Shape := ⟨2, ![4096, 6144]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩

abbrev nBuf : Space → Nat
  | .hbm => 5
  | .vmem => 12
  | .smem => 0
  | _ => 0

abbrev bufTy : (tb : Table) → Fin (tcTables nBuf tb) → BufTy
  | .hbm, ⟨0, _⟩ => ⟨S4096x10368, .bf16⟩
  | .hbm, ⟨1, _⟩ => ⟨S4x6144, .f32⟩
  | .hbm, ⟨2, _⟩ => ⟨S1x6144, .f32⟩
  | .hbm, ⟨3, _⟩ => ⟨S4096x6144, .bf16⟩
  | .hbm, ⟨4, _⟩ => ⟨S4096x6144, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdConvFwdRefIdeal.lean ====
abbrev S4096x10368 : Shape := ⟨2, ![4096, 10368]⟩
abbrev S4x6144 : Shape := ⟨2, ![4, 6144]⟩
abbrev S1x6144 : Shape := ⟨2, ![1, 6144]⟩
abbrev S4096x6144 : Shape := ⟨2, ![4096, 6144]⟩
abbrev S_ : Shape := ⟨0, ![]⟩
abbrev S3x6144 : Shape := ⟨2, ![3, 6144]⟩
abbrev S4099x6144 : Shape := ⟨2, ![4099, 6144]⟩
abbrev S6144 : Shape := ⟨1, ![6144]⟩

abbrev nBuf : Space → Nat
  | .hbm => 51
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S4x6144, .f32⟩
  | .hbm, ⟨2, _⟩ => ⟨S1x6144, .f32⟩
  | .hbm, ⟨3, _⟩ => ⟨S4096x6144, .bf16⟩
  | .hbm, ⟨4, _⟩ => ⟨S4096x6144, .f32⟩
  | .hbm, ⟨5, _⟩ => ⟨S_, .f32⟩
  | .hbm, ⟨6, _⟩ => ⟨S3x6144, .f32⟩
  | .hbm, ⟨7, _⟩ => ⟨S4099x6144, .f32⟩
  | .hbm, ⟨8, _⟩ => ⟨S4096x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S4096x6144, .f32⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S4096x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S_, .f32⟩
  | .hbm, ⟨43, _⟩ => ⟨S4096x6144, .f32⟩
  | .hbm, ⟨44, _⟩ => ⟨S4096x6144, .f32⟩
  | .hbm, ⟨45, _⟩ => ⟨S_, .f32⟩
  | .hbm, ⟨46, _⟩ => ⟨S4096x6144, .f32⟩
  | .hbm, ⟨47, _⟩ => ⟨S4096x6144, .f32⟩
  | .hbm, ⟨48, _⟩ => ⟨S4096x6144, .f32⟩
  | .hbm, ⟨49, _⟩ => ⟨S4096x6144, .bf16⟩
  | .hbm, ⟨50, _⟩ => ⟨S4096x6144, .bf16⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdamwSmall.lean ====
abbrev S856x128 : Shape := ⟨2, ![856, 128]⟩

abbrev nBuf : Space → Nat
  | .hbm => 7
  | .vmem => 7
  | .smem => 0
  | _ => 0

abbrev bufTy : (tb : Table) → Fin (tcTables nBuf tb) → BufTy
  | .hbm, ⟨0, _⟩ => ⟨S856x128, .f32⟩
  | .hbm, ⟨1, _⟩ => ⟨S856x128, .f32⟩
  | .hbm, ⟨2, _⟩ => ⟨S856x128, .f32⟩
  | .hbm, ⟨3, _⟩ => ⟨S856x128, .f32⟩
  | .hbm, ⟨4, _⟩ => ⟨S856x128, .f32⟩
  | .hbm, ⟨5, _⟩ => ⟨S856x128, .f32⟩
  | .hbm, ⟨6, _⟩ => ⟨S856x128, .f32⟩
  | .local _ .vmem, ⟨0, _⟩ => ⟨S856x128, .f32⟩
  | .local _ .vmem, ⟨1, _⟩ => ⟨S856x128, .f32⟩
  | .local _ .vmem, ⟨2, _⟩ => ⟨S856x128, .f32⟩
  | .local _ .vmem, ⟨3, _⟩ => ⟨S856x128, .f32⟩
  | .local _ .vmem, ⟨4, _⟩ => ⟨S856x128, .f32⟩
  | .local _ .vmem, ⟨5, _⟩ => ⟨S856x128, .f32⟩
  | .local _ .vmem, ⟨6, _⟩ => ⟨S856x128, .f32⟩
  | _, _ => ⟨S856x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S856x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S856x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S856x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S856x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S856x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S856x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S856x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamwSmallRefIdeal.lean ====
abbrev S856x128 : Shape := ⟨2, ![856, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S856x128, .f32⟩
  | .hbm, ⟨1, _⟩ => ⟨S856x128, .f32⟩
  | .hbm, ⟨2, _⟩ => ⟨S856x128, .f32⟩
  | .hbm, ⟨3, _⟩ => ⟨S856x128, .f32⟩
  | .hbm, ⟨4, _⟩ => ⟨S_, .f32⟩
  | .hbm, ⟨5, _⟩ => ⟨S856x128, .f32⟩
  | .hbm, ⟨6, _⟩ => ⟨S856x128, .f32⟩
  | .hbm, ⟨7, _⟩ => ⟨S_, .f32⟩
  | .hbm, ⟨8, _⟩ => ⟨S856x128, .f32⟩
  | .hbm, ⟨9, _⟩ => ⟨S856x128, .f32⟩
  | .hbm, ⟨10, _⟩ => ⟨S856x128, .f32⟩
  | .hbm, ⟨11, _⟩ => ⟨S_, .f32⟩
  | .hbm, ⟨12, _⟩ => ⟨S856x128, .f32⟩
  | .hbm, ⟨13, _⟩ => ⟨S856x128, .f32⟩
  | .hbm, ⟨14, _⟩ => ⟨S856x128, .f32⟩
  | .hbm, ⟨15, _⟩ => ⟨S_, .f32⟩
  | .hbm, ⟨16, _⟩ => ⟨S856x128, .f32⟩
  | .hbm, ⟨17, _⟩ => ⟨S856x128, .f32⟩
  | .hbm, ⟨18, _⟩ => ⟨S856x128, .f32⟩
  | .hbm, ⟨19, _⟩ => ⟨S_, .f32⟩
  | .hbm, ⟨20, _⟩ => ⟨S856x128, .f32⟩
  | .hbm, ⟨21, _⟩ => ⟨S856x128, .f32⟩
  | .hbm, ⟨22, _⟩ => ⟨S_, .f32⟩
  | .hbm, ⟨23, _⟩ => ⟨S856x128, .f32⟩
  | .hbm, ⟨24, _⟩ => ⟨S856x128, .f32⟩
  | .hbm, ⟨25, _⟩ => ⟨S856x128, .f32⟩
  | .hbm, ⟨26, _⟩ => ⟨S_, .f32⟩
  | .hbm, ⟨27, _⟩ => ⟨S856x128, .f32⟩
  | .hbm, ⟨28, _⟩ => ⟨S856x128, .f32⟩
  | .hbm, ⟨29, _⟩ => ⟨S856x128, .f32⟩
  | .hbm, ⟨30, _⟩ => ⟨S_, .f32⟩
  | .hbm, ⟨31, _⟩ => ⟨S856x128, .f32⟩
  | .hbm, ⟨32, _⟩ => ⟨S856x128, .f32⟩
  | .hbm, ⟨33, _⟩ => ⟨S856x128, .f32⟩
  | .hbm, ⟨34, _⟩ => ⟨S_, .f32⟩
  | .hbm, ⟨35, _⟩ => ⟨S856x128, .f32⟩
  | .hbm, ⟨36, _⟩ => ⟨S856x128, .f32⟩
  | _, _ => ⟨S856x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x2048 : Shape := ⟨2, ![8, 2048]⟩
abbrev S512x8x2048 : Shape := ⟨3, ![512, 8, 2048]⟩
abbrev S1x8x2048 : Shape := ⟨3, ![1, 8, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S8x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S512x8x2048, .f32⟩
  | .hbm, ⟨61, _⟩ => ⟨S1x8x2048, .f32⟩
  | .hbm, ⟨62, _⟩ => ⟨S512x8x2048, .f32⟩
  | .hbm, ⟨63, _⟩ => ⟨S512x8x2048, .f32⟩
  | .hbm, ⟨64, _⟩ => ⟨S4096x2048, .f32⟩
  | .hbm, ⟨65, _⟩ => ⟨S4096x2048, .bf16⟩
  | .hbm, ⟨66, _⟩ => ⟨S4096x2048, .f32⟩
  | .hbm, ⟨67, _⟩ => ⟨S512x8x2048, .f32⟩
  | .hbm, ⟨68, _⟩ => ⟨S512x8x2048, .f32⟩
  | .hbm, ⟨69, _⟩ => ⟨S_, .f32⟩
  | .hbm, ⟨70, _⟩ => ⟨S8x2048, .f32⟩
  | .hbm, ⟨71, _⟩ => ⟨S1x8x2048, .f32⟩
  | .hbm, ⟨72, _⟩ => ⟨S_, .f32⟩
  | .hbm, ⟨73, _⟩ => ⟨S8x2048, .f32⟩
  | .hbm, ⟨74, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v38 : BitVec 32 := Scalar.extui v34
  let c0_i32_15 : BitVec 32 := 0#32
  let v39 : BitVec 1 := Scalar.cmpi .ne v38 c0_i32_15
  v39

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v40 : BitVec 1 := Scalar.xori v34 v_true
  let v41 : BitVec 32 := Scalar.extui v40
  let c0_i32_16 : BitVec 32 := 0#32
  let v42 : BitVec 1 := Scalar.cmpi .ne v41 c0_i32_16
  v42

def k0_cond3 (i : grid0.Coords) : BitVec 1 :=
  let arg0 : BitVec 32 := BitVec.ofNat 32 (i 0).val
  let c0_i32 : BitVec 32 := 0#32
  let v34 : BitVec 1 := Scalar.cmpi .eq arg0 c0_i32
  let v48 : BitVec 32 := Scalar.extui v34
  let c0_i32_19 : BitVec 32 := 0#32
  let v49 : BitVec 1 := Scalar.cmpi .ne v48 c0_i32_19
  v49

def k0_cond4 (i : grid0.Coords) : BitVec 1 :=
  let arg0 : BitVec 32 := BitVec.ofNat 32 (i 0).val
  let c0_i32 : BitVec 32 := 0#32
  let v34 : BitVec 1 := Scalar.cmpi .eq arg0 c0_i32
  let true_20 : BitVec 1 := 1#1
  let v50 : BitVec 1 := Scalar.xori v34 true_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x2048 : Shape := ⟨2, ![8, 2048]⟩
abbrev S512x8x2048 : Shape := ⟨3, ![512, 8, 2048]⟩
abbrev S1x8x2048 : Shape := ⟨3, ![1, 8, 2048]⟩

abbrev nBuf : Space → Nat
  | .hbm => 142
  | .vmem => 0
  | .smem => 0
  | _ => 0

abbrev hbmTy0_0 (i : Nat) : BufTy := match i % 128 with
  | 0 => ⟨S4096x2048, .f32⟩
  | 1 => ⟨S2048, .f32⟩
  | 2 => ⟨S4096x2048, .f32⟩
  | 3 => ⟨S4096x2048, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x2048, .f32⟩
  | 19 => ⟨S4096x2048, .f32⟩
  | 20 => ⟨S1x2048, .f32⟩
  | 21 => ⟨S4096x2048, .f32⟩
  | 22 => ⟨S4096x2048, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S_, .f32⟩
  | 29 => ⟨S4096, .f32⟩
  | 30 => ⟨S_, .f32⟩
  | 31 => ⟨S4096, .f32⟩
  | 32 => ⟨S4096, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096, .f32⟩
  | 41 => ⟨S_, .f32⟩
  | 42 => ⟨S4096, .f32⟩
  | 43 => ⟨S4096, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S_, .f32⟩
  | 50 => ⟨S4096, .f32⟩
  | 51 => ⟨S4096x1, .f32⟩
  | 52 => ⟨S4096x2048, .f32⟩
  | 53 => ⟨S4096x2048, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096, .f32⟩
  | 60 => ⟨S4096x2048, .f32⟩
  | 61 => ⟨S4096x2048, .f32⟩
  | 62 => ⟨S4096x2048, .f32⟩
  | 63 => ⟨S4096x2048, .f32⟩
  | 64 => ⟨S4096x2048, .f32⟩
  | 65 => ⟨S8x2048, .f32⟩
  | 66 => ⟨S4096x2048, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x2048, .f32⟩
  | 78 => ⟨S4096x2048, .f32⟩
  | 79 => ⟨S512x8x2048, .f32⟩
  | 80 => ⟨S1x8x2048, .f32⟩
  | 81 => ⟨S512x8x2048, .f32⟩
  | 82 => ⟨S512x8x2048, .f32⟩
  | 83 => ⟨S4096x2048, .f32⟩
  | 84 => ⟨S4096x2048, .f32⟩
  | 85 => ⟨S4096x2048, .f32⟩
  | 86 => ⟨S_, .f32⟩
  | 87 => ⟨S4096x2048, .f32⟩
  | 88 => ⟨S4096x2048, .f32⟩
  | 89 => ⟨S_, .f32⟩
  | 90 => ⟨S4096, .f32⟩
  | 91 => ⟨S_, .f32⟩
  | 92 => ⟨S4096, .f32⟩
  | 93 => ⟨S4096, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S4096, .f32⟩
  | 102 => ⟨S_, .f32⟩
  | 103 => ⟨S4096, .f32⟩
  | 104 => ⟨S4096, .f32⟩
  | 105 => ⟨S4096x2048, .f32⟩
  | 106 => ⟨S4096x2048, .f32⟩
  | 107 => ⟨S512x8x2048, .f32⟩
  | 108 => ⟨S512x8x2048, .f32⟩
  | 109 => ⟨S_, .f32⟩
  | 110 => ⟨S8x2048, .f32⟩
  | 111 => ⟨S1x8x2048, .f32⟩
  | 112 => ⟨S_, .f32⟩
  | 113 => ⟨S8x2048, .f32⟩
  | 114 => ⟨S4096x2048, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096x1, .f32⟩
  | 125 => ⟨S4096x2048, .f32⟩
  | 126 => ⟨S4096x2048, .f32⟩
  | 127 => ⟨S1x2048, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S512x8x2048, .f32⟩
  | 5 => ⟨S_, .f32⟩
  | 6 => ⟨S8x2048, .f32⟩
  | 7 => ⟨S_, .f32⟩
  | 8 => ⟨S8x2048, .f32⟩
  | 9 => ⟨S8x2048, .f32⟩
  | 10 => ⟨S_, .f32⟩
  | 11 => ⟨S8x2048, .f32⟩
  | 12 => ⟨S8x2048, .f32⟩
  | 13 => ⟨S4096x2048, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_14 : Ref sig .tc := ⟨.hbm, 67, rfl⟩
abbrev main_v49 : Ref sig .tc := ⟨.hbm, 68, rfl⟩
abbrev main_v50 : Ref sig .tc := ⟨.hbm, 69, rfl⟩
abbrev main_cst_15 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_v69 : Ref sig .tc := ⟨.hbm, 93, rfl⟩
abbrev main_cst_20 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_cst_22 : Ref sig .tc := ⟨.hbm, 98, rfl⟩
abbrev main_cst_23 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_25 : Ref sig .tc := ⟨.hbm, 109, rfl⟩
abbrev main_v80 : Ref sig .tc := ⟨.hbm, 110, rfl⟩
abbrev main_v81 : Ref sig .tc := ⟨.hbm, 111, rfl⟩
abbrev main_cst_26 : Ref sig .tc := ⟨.hbm, 112, rfl⟩
abbrev main_v82 : Ref sig .tc := ⟨.hbm, 113, rfl⟩
abbrev main_v83 : Ref sig .tc := ⟨.hbm, 114, rfl⟩
abbrev main_cst_27 : Ref sig .tc := ⟨.hbm, 115, rfl⟩
abbrev main_v84 : Ref sig .tc := ⟨.hbm, 116, rfl⟩
abbrev main_v85 : Ref sig .tc := ⟨.hbm, 117, rfl⟩
abbrev main_cst_28 : Ref sig .tc := ⟨.hbm, 118, rfl⟩
abbrev main_v86 : Ref sig .tc := ⟨.hbm, 119, rfl⟩
abbrev main_v87 : Ref sig .tc := ⟨.hbm, 120, rfl⟩
abbrev main_cst_29 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_30 : Ref sig .tc := ⟨.hbm, 133, rfl⟩
abbrev main_v99 : Ref sig .tc := ⟨.hbm, 134, rfl⟩
abbrev main_cst_31 : Ref sig .tc := ⟨.hbm, 135, rfl⟩
abbrev main_v100 : Ref sig .tc := ⟨.hbm, 136, rfl⟩
abbrev main_v101 : Ref sig .tc := ⟨.hbm, 137, rfl⟩
abbrev main_cst_32 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]
-- ==== SsdConvBwd.lean ====
abbrev S4096x10368 : Shape := ⟨2, ![4096, 10368]⟩
abbrev S4096x4096 : Shape := ⟨2, ![4096, 4096]⟩
abbrev S4x6144 : Shape := ⟨2, ![4, 6144]⟩
abbrev S1x6144 : Shape := ⟨2, ![1, 6144]⟩
abbrev S4096x6144 : Shape := ⟨2, ![4096, 6144]⟩
abbrev S_ : Shape := ⟨0, ![]⟩
abbrev S3x6144 : Shape := ⟨2, ![3, 6144]⟩
abbrev S4099x6144 : Shape := ⟨2, ![4099, 6144]⟩
abbrev S6144 : Shape := ⟨1, ![6144]⟩
abbrev S4x4096 : Shape := ⟨2, ![4, 4096]⟩
abbrev S1x4096 : Shape := ⟨2, ![1, 4096]⟩
abbrev S512x512 : Shape := ⟨2, ![512, 512]⟩
abbrev S16x512 : Shape := ⟨2, ![16, 512]⟩
abbrev S4x512 : Shape := ⟨2, ![4, 512]⟩
abbrev S1x512 : Shape := ⟨2, ![1, 512]⟩
abbrev S528x512 : Shape := ⟨2, ![528, 512]⟩
abbrev S512 : Shape := ⟨1, ![512]⟩

abbrev nBuf : Space → Nat
  | .hbm => 46
  | .vmem => 18
  | .smem => 0
  | _ => 0

abbrev bufTy : (tb : Table) → Fin (tcTables nBuf tb) → BufTy
  | .hbm, ⟨0, _⟩ => ⟨S4096x10368, .bf16⟩
  | .hbm, ⟨1, _⟩ => ⟨S4096x4096, .bf16⟩
  | .hbm, ⟨2, _⟩ => ⟨S4x6144, .f32⟩
  | .hbm, ⟨3, _⟩ => ⟨S1x6144, .f32⟩
  | .hbm, ⟨4, _⟩ => ⟨S4096x10368, .bf16⟩
  | .hbm, ⟨5, _⟩ => ⟨S4096x6144, .bf16⟩
  | .hbm, ⟨6, _⟩ => ⟨S4096x6144, .f32⟩
  | .hbm, ⟨7, _⟩ => ⟨S_, .f32⟩
  | .hbm, ⟨8, _⟩ => ⟨S3x6144, .f32⟩
  | .hbm, ⟨9, _⟩ => ⟨S4099x6144, .f32⟩
  | .hbm, ⟨10, _⟩ => ⟨S4096x6144, .f32⟩
  | .hbm, ⟨11, _⟩ => ⟨S1x6144, .f32⟩
  | .hbm, ⟨12, _⟩ => ⟨S6144, .f32⟩
  | .hbm, ⟨13, _⟩ => ⟨S1x6144, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | .hbm, ⟨19, _⟩ => ⟨S4096x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S4096x6144, .f32⟩
  | .hbm, ⟨27, _⟩ => ⟨S1x6144, .f32⟩
  | .hbm, ⟨28, _⟩ => ⟨S6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S4096x6144, .f32⟩
  | .hbm, ⟨33, _⟩ => ⟨S4096x6144, .f32⟩
  | .hbm, ⟨34, _⟩ => ⟨S1x6144, .f32⟩
  | .hbm, ⟨35, _⟩ => ⟨S6144, .f32⟩
  | .hbm, ⟨36, _⟩ => ⟨S1x6144, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S4096x6144, .bf16⟩
  | .hbm, ⟨43, _⟩ => ⟨S4096x10368, .bf16⟩
  | .hbm, ⟨44, _⟩ => ⟨S4x4096, .f32⟩
  | .hbm, ⟨45, _⟩ => ⟨S1x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S4x512, .f32⟩
  | .local _ .vmem, ⟨11, _⟩ => ⟨S4x512, .f32⟩
  | .local _ .vmem, ⟨12, _⟩ => ⟨S512x512, .bf16⟩
  | .local _ .vmem, ⟨13, _⟩ => ⟨S512x512, .bf16⟩
  | .local _ .vmem, ⟨14, _⟩ => ⟨S4x512, .f32⟩
  | .local _ .vmem, ⟨15, _⟩ => ⟨S4x512, .f32⟩
  | .local _ .vmem, ⟨16, _⟩ => ⟨S1x512, .f32⟩
  | .local _ .vmem, ⟨17, _⟩ => ⟨S1x512, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SsdConvBwdRefIdeal.lean ====
abbrev S4096x10368 : Shape := ⟨2, ![4096, 10368]⟩
abbrev S4096x4096 : Shape := ⟨2, ![4096, 4096]⟩
abbrev S4x6144 : Shape := ⟨2, ![4, 6144]⟩
abbrev S1x6144 : Shape := ⟨2, ![1, 6144]⟩
abbrev S4x4096 : Shape := ⟨2, ![4, 4096]⟩
abbrev S1x4096 : Shape := ⟨2, ![1, 4096]⟩
abbrev S_ : Shape := ⟨0, ![]⟩
abbrev S3x4096 : Shape := ⟨2, ![3, 4096]⟩
abbrev S4099x4096 : Shape := ⟨2, ![4099, 4096]⟩
abbrev S4096 : Shape := ⟨1, ![4096]⟩
abbrev S4096x2176 : Shape := ⟨2, ![4096, 2176]⟩

abbrev nBuf : Space → Nat
  | .hbm => 131
  | .vmem => 0
  | .smem => 0
  | _ => 0

abbrev hbmTy0_0 (i : Nat) : BufTy := match i % 128 with
  | 0 => ⟨S4096x10368, .bf16⟩
  | 1 => ⟨S4096x4096, .bf16⟩
  | 2 => ⟨S4x6144, .f32⟩
  | 3 => ⟨S1x6144, .f32⟩
  | 4 => ⟨S4096x10368, .bf16⟩
  | 5 => ⟨S4096x4096, .bf16⟩
  | 6 => ⟨S4096x4096, .f32⟩
  | 7 => ⟨S4x4096, .f32⟩
  | 8 => ⟨S1x4096, .f32⟩
  | 9 => ⟨S_, .f32⟩
  | 10 => ⟨S3x4096, .f32⟩
  | 11 => ⟨S4099x4096, .f32⟩
  | 12 => ⟨S_, .f32⟩
  | 13 => ⟨S3x4096, .f32⟩
  | 14 => ⟨S4096x4096, .f32⟩
  | 15 => ⟨S1x4096, .f32⟩
  | 16 => ⟨S4096, .f32⟩
  | 17 => ⟨S1x4096, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S1x4096, .f32⟩
  | 25 => ⟨S4096, .f32⟩
  | 26 => ⟨S1x4096, .f32⟩
  | 27 => ⟨S4096x4096, .f32⟩
  | 28 => ⟨S4096x4096, .f32⟩
  | 29 => ⟨S4096x4096, .f32⟩
  | 30 => ⟨S4096x4096, .f32⟩
  | 31 => ⟨S1x4096, .f32⟩
  | 32 => ⟨S4096, .f32⟩
  | 33 => ⟨S1x4096, .f32⟩
  | 34 => ⟨S4096x4096, .f32⟩
  | 35 => ⟨S4096x4096, .f32⟩
  | 36 => ⟨S4096x4096, .f32⟩
  | 37 => ⟨S4096x4096, .f32⟩
  | 38 => ⟨S1x4096, .f32⟩
  | 39 => ⟨S4096, .f32⟩
  | 40 => ⟨S1x4096, .f32⟩
  | 41 => ⟨S4096x4096, .f32⟩
  | 42 => ⟨S4096x4096, .f32⟩
  | 43 => ⟨S4096x4096, .f32⟩
  | 44 => ⟨S4096x4096, .f32⟩
  | 45 => ⟨S4096x4096, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S4096x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S_, .f32⟩
  | 65 => ⟨S4096, .f32⟩
  | 66 => ⟨S1x4096, .f32⟩
  | 67 => ⟨S4096x4096, .f32⟩
  | 68 => ⟨S_, .f32⟩
  | 69 => ⟨S4096, .f32⟩
  | 70 => ⟨S1x4096, .f32⟩
  | 71 => ⟨S4096x4096, .f32⟩
  | 72 => ⟨S4096x4096, .f32⟩
  | 73 => ⟨S_, .f32⟩
  | 74 => ⟨S4096, .f32⟩
  | 75 => ⟨S1x4096, .f32⟩
  | 76 => ⟨S_, .f32⟩
  | 77 => ⟨S4x4096, .f32⟩
  | 78 => ⟨S_, .f32⟩
  | 79 => ⟨S4099x4096, .f32⟩
  | 80 => ⟨S4096x4096, .f32⟩
  | 81 => ⟨S_, .f32⟩
  | 82 => ⟨S4096, .f32⟩
  | 83 => ⟨S1x4096, .f32⟩
  | 84 => ⟨S4096x4096, .f32⟩
  | 85 => ⟨S4096x4096, .f32⟩
  | 86 => ⟨S_, .f32⟩
  | 87 => ⟨S4096, .f32⟩
  | 88 => ⟨S1x4096, .f32⟩
  | 89 => ⟨S_, .f32⟩
  | 90 => ⟨S4x4096, .f32⟩
  | 91 => ⟨S4x4096, .f32⟩
  | 92 => ⟨S_, .f32⟩
  | 93 => ⟨S4099x4096, .f32⟩
  | 94 => ⟨S4099x4096, .f32⟩
  | 95 => ⟨S4096x4096, .f32⟩
  | 96 => ⟨S_, .f32⟩
  | 97 => ⟨S4096, .f32⟩
  | 98 => ⟨S1x4096, .f32⟩
  | 99 => ⟨S4096x4096, .f32⟩
  | 100 => ⟨S4096x4096, .f32⟩
  | 101 => ⟨S_, .f32⟩
  | 102 => ⟨S4096, .f32⟩
  | 103 => ⟨S1x4096, .f32⟩
  | 104 => ⟨S_, .f32⟩
  | 105 => ⟨S4x4096, .f32⟩
  | 106 => ⟨S4x4096, .f32⟩
  | 107 => ⟨S_, .f32⟩
  | 108 => ⟨S4099x4096, .f32⟩
  | 109 => ⟨S4099x4096, .f32⟩
  | 110 => ⟨S4096x4096, .f32⟩
  | 111 => ⟨S_, .f32⟩
  | 112 => ⟨S4096, .f32⟩
  | 113 => ⟨S1x4096, .f32⟩
  | 114 => ⟨S4096x4096, .f32⟩
  | 115 => ⟨S4096x4096, .f32⟩
  | 116 => ⟨S_, .f32⟩
  | 117 => ⟨S4096, .f32⟩
  | 118 => ⟨S1x4096, .f32⟩
  | 119 => ⟨S_, .f32⟩
  | 120 => ⟨S4x4096, .f32⟩
  | 121 => ⟨S4x4096, .f32⟩
  | 122 => ⟨S_, .f32⟩
  | 123 => ⟨S4099x4096, .f32⟩
  | 124 => ⟨S4099x4096, .f32⟩
  | 125 => ⟨S3x4096, .f32⟩
  | 126 => ⟨S4096x4096, .f32⟩
  | 127 => ⟨S4096x4096, .bf16⟩
  | _ => ⟨S4096x10368, .bf16⟩

abbrev hbmTy0_1 (i : Nat) : BufTy := match i % 128 with
  | 0 => ⟨S4096x4096, .bf16⟩
  | 1 => ⟨S4096x2176, .bf16⟩
  | 2 => ⟨S4096x10368, .bf16⟩
  | _ => ⟨S4096x10368, .bf16⟩

abbrev hbmTy (i : Nat) : BufTy := match i / 128 with
  | 0 => hbmTy0_0 i
  | 1 => hbmTy0_1 i
  | _ => ⟨S4096x10368, .bf16⟩

abbrev bufTy : (tb : Table) → Fin (tcTables nBuf tb) → BufTy
  | .hbm, ⟨i, _⟩ => hbmTy i
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v38_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v38_1 : Ref sig .tc := ⟨.hbm, 57, rfl⟩
abbrev main_v38_0 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩

abbrev nD : Nat := 1
abbrev τ : Topo := Topo.v7x

variable {F : FTy → Type} [FloatOps F]
-- ==== SsdPutDdt.lean ====
abbrev S8x4096x128 : Shape := ⟨3, ![8, 4096, 128]⟩
abbrev S4096x10368 : Shape := ⟨2, ![4096, 10368]⟩
abbrev S8x512x128 : Shape := ⟨3, ![8, 512, 128]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x4096x128, .f32⟩
  | .hbm, ⟨1, _⟩ => ⟨S4096x10368, .bf16⟩
  | .hbm, ⟨2, _⟩ => ⟨S4096x10368, .bf16⟩
  | .local _ .vmem, ⟨0, _⟩ => ⟨S8x512x128, .f32⟩
  | .local _ .vmem, ⟨1, _⟩ => ⟨S8x512x128, .f32⟩
  | .local _ .vmem, ⟨2, _⟩ => ⟨S512x128, .bf16⟩
  | .local _ .vmem, ⟨3, _⟩ => ⟨S512x128, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SsdPutDdtRefIdeal.lean ====
abbrev S8x4096x128 : Shape := ⟨3, ![8, 4096, 128]⟩
abbrev S4096x10368 : Shape := ⟨2, ![4096, 10368]⟩
abbrev S4096x10240 : Shape := ⟨2, ![4096, 10240]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x10368, .bf16⟩
  | .hbm, ⟨2, _⟩ => ⟨S4096x10240, .bf16⟩
  | .hbm, ⟨3, _⟩ => ⟨S_, .f32⟩
  | .hbm, ⟨4, _⟩ => ⟨S4096x128, .f32⟩
  | .hbm, ⟨5, _⟩ => ⟨S4096x128, .bf16⟩
  | .hbm, ⟨6, _⟩ => ⟨S4096x10368, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.FfnDownVal.lean ====
module

public import proofs.«01_k».proof.Proof.Gen.FfnDownIdeal.Value
public import proofs.«01_k».proof.Proof.Gen.FfnDownRefIdeal.Read
public import Idealize.ShloMosaic.Lib.Pipeline.ValueKit
public import Idealize.ShloMosaic.Lib.Pointwise

/-!
The second product of the feed-forward layer, with the residual added: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.FfnDownIdeal.Value

open Cert.FfnDownIdeal Cert.FfnDownIdeal.Gen

variable (m : (ℓ : Loc nD τ sig) → Buf (Elt Ideal) ℓ)

/-- The product, as one array. -/
def prod (a : FVec Ideal S4096x5632 .bf16) (b : FVec Ideal S5632x2048 .bf16) (r : FVec Ideal S4096x2048 .f32) : FVec Ideal S4096x2048 .f32 := fun j =>
  ∑ k : Fin 5632, a (ix2 (j 0) k) * b (ix2 k (j 1)) + r (ix2 (j 0) (j 1))

/-- What one grid point computes from its blocks. -/
theorem block (v0 : Vec Ideal S512x5632 .bf16) (v1 : Vec Ideal S5632x1024 .bf16) (v2 : Vec Ideal S512x1024 .f32) (x : S512x1024.Idx) :
    k0_pay1 v0 v1 v2 x = ∑ k : Fin 5632, v0 (ix2 (x 0) k) * v1 (ix2 k (x 1)) + v2 (ix2 (x 0) (x 1)) := by
  pointwise [k0_pay1]

/-- Which block of each array a grid point works on. -/
theorem idx_val : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- The array the kernel leaves is the product. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (block _ _ _ _).trans (congrArg₂ (· + ·) (Finset.sum_congr rfl fun k _ => congrArg₂ (· * ·) ?_ ?_) ?_)
  · blk_point [iblk, V, idx_val t]
  · blk_point [iblk, V, idx_val t]
  · blk_point [iblk, V, idx_val t]

/-- The reference's array is the product. -/
theorem ref_eq (x0 : FVec Ideal S4096x5632 .bf16) (x1 : FVec Ideal S5632x2048 .bf16) (x2 : FVec Ideal S4096x2048 .f32) :
    Cert.FfnDownRefIdeal.Read.val_main_v3 (F := Ideal) x0 x1 x2 = prod x0 x1 x2 := by
  funext j
  pointwise [Cert.FfnDownRefIdeal.Read.val_main_v3, Cert.FfnDownRefIdeal.Read.val_main_v2, Cert.FfnDownRefIdeal.Read.val_main_v1, Cert.FfnDownRefIdeal.Read.val_main_v0, prod]
  exact add_comm _ _

end Cert.FfnDownIdeal.Value
-- ==== Proof.FfnDownDxVal.lean ====
module

public import proofs.«01_k».proof.Proof.Gen.FfnDownDxIdeal.Value
public import proofs.«01_k».proof.Proof.Gen.FfnDownDxRefIdeal.Read
public import Idealize.ShloMosaic.Lib.Pipeline.ValueKit
public import Idealize.ShloMosaic.Lib.Pointwise

/-!
The gradient of the second feed-forward product with respect to its input: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.FfnDownDxIdeal.Value

open Cert.FfnDownDxIdeal Cert.FfnDownDxIdeal.Gen

variable (m : (ℓ : Loc nD τ sig) → Buf (Elt Ideal) ℓ)

/-- The product, as one array. -/
def prod (a : FVec Ideal S4096x2048 .bf16) (b : FVec Ideal S5632x2048 .bf16) : FVec Ideal S4096x5632 .bf16 := fun j =>
  ∑ k : Fin 2048, a (ix2 (j 0) k) * b (ix2 (j 1) k)

/-- What one grid point computes from its blocks. -/
theorem block (v0 : Vec Ideal S512x2048 .bf16) (v1 : Vec Ideal S1408x2048 .bf16) (x : S512x1408.Idx) :
    k0_pay1 v0 v1 x = ∑ k : Fin 2048, v0 (ix2 (x 0) k) * v1 (ix2 (x 1) k) := by
  pointwise [k0_pay1]

/-- Which block of each array a grid point works on. -/
theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S5632x2048 .bf16) :
    Cert.FfnDownDxRefIdeal.Read.val_main_v5 (F := Ideal) x0 x1 = prod x0 x1 := by
  funext j
  pointwise [Cert.FfnDownDxRefIdeal.Read.val_main_v5, Cert.FfnDownDxRefIdeal.Read.val_main_v4, Cert.FfnDownDxRefIdeal.Read.val_main_v3, Cert.FfnDownDxRefIdeal.Read.val_main_v1, prod]

end Cert.FfnDownDxIdeal.Value
-- ==== Proof.FfnDownDwVal.lean ====
module

public import proofs.«01_k».proof.Proof.Gen.FfnDownDwIdeal.Value
public import proofs.«01_k».proof.Proof.Gen.FfnDownDwRefIdeal.Read
public import Idealize.ShloMosaic.Lib.Pipeline.ValueKit
public import Idealize.ShloMosaic.Lib.Pointwise

/-!
The gradient of the second feed-forward product with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.FfnDownDwIdeal.Value

open Cert.FfnDownDwIdeal Cert.FfnDownDwIdeal.Gen

variable (m : (ℓ : Loc nD τ sig) → Buf (Elt Ideal) ℓ)

/-- The product, as one array. -/
def prod (a : FVec Ideal S4096x5632 .bf16) (b : FVec Ideal S4096x2048 .bf16) : FVec Ideal S5632x2048 .bf16 := fun j =>
  ∑ k : Fin 4096, a (ix2 k (j 0)) * b (ix2 k (j 1))

/-- What one grid point computes from its blocks. -/
theorem block (v0 : Vec Ideal S4096x512 .bf16) (v1 : Vec Ideal S4096x1024 .bf16) (x : S512x1024.Idx) :
    k0_pay1 v0 v1 x = ∑ k : Fin 4096, v0 (ix2 k (x 0)) * v1 (ix2 k (x 1)) := by
  pointwise [k0_pay1]

/-- Which block of each array a grid point works on. -/
theorem idx_val : ∀ t : Fin cfg0.N, win0_0.index t = ![0, t.val % 11] ∧ win0_1.index t = ![0, t.val / 11] ∧ win0_2.index t = ![t.val % 11, t.val / 11] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x5632 .bf16) (x1 : FVec Ideal S4096x2048 .bf16) :
    Cert.FfnDownDwRefIdeal.Read.val_main_v6 (F := Ideal) x0 x1 = prod x0 x1 := by
  funext j
  pointwise [Cert.FfnDownDwRefIdeal.Read.val_main_v6, Cert.FfnDownDwRefIdeal.Read.val_main_v5, Cert.FfnDownDwRefIdeal.Read.val_main_v4, Cert.FfnDownDwRefIdeal.Read.val_main_v3, Cert.FfnDownDwRefIdeal.Read.val_main_v1, prod]
  exact Finset.sum_congr rfl fun k _ => mul_comm _ _

end Cert.FfnDownDwIdeal.Value
-- ==== Proof.FfnUpVal.lean ====
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.Pointwise

/-!
The first product of the feed-forward layer: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.FfnUpIdeal.Value

open Cert.FfnUpIdeal Cert.FfnUpIdeal.Gen

variable (m : (ℓ : Loc nD τ sig) → Buf (Elt Ideal) ℓ)

/-- Which of the eight column blocks of the weight holds column `l` of part `p`. -/
def wblock (p : Fin 2) (l : Fin 5632) : Fin 8 := ⟨(p.val * 5632 + l.val) / 1408, by have := p.isLt; have := l.isLt; omega⟩

/-- Where in that block the column stands. -/
def wcol (p : Fin 2) (l : Fin 5632) : Fin 1408 := ⟨(p.val * 5632 + l.val) % 1408, Nat.mod_lt _ (by decide)⟩

/-- The product, as one array. -/
def prod (a : FVec Ideal S4096x2048 .bf16) (b : FVec Ideal S8x2048x1408 .bf16) : FVec Ideal S2x4096x5632 .bf16 := fun j =>
  ∑ k : Fin 2048, a (ix2 (j 1) k) * b (ix3 (wblock (j 0) (j 2)) k (wcol (j 0) (j 2)))

/-- What one grid point computes from its blocks. -/
theorem block (v0 : Vec Ideal S512x2048 .bf16) (v1 : Vec Ideal S1x2048x1408 .bf16) (x : S1x512x1408.Idx) :
    k0_pay1 v0 v1 x = ∑ k : Fin 2048, v0 (ix2 (x 1) k) * v1 (ix3 0 k (x 2)) := by
  pointwise [k0_pay1]

/-- Which block of each array a grid point works on. -/
theorem idx_val : ∀ t : Fin cfg0.N, win0_0.index t = ![t.val % 8, 0] ∧ win0_1.index t = ![t.val / 8, 0, 0] ∧ win0_2.index t = ![t.val / 8 / 4, t.val % 8, t.val / 8 % 4] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t, wblock, wcol]
  · blk_point [iblk, V, idx_val t, wblock, wcol]

/-- The reference's array is the product. -/
theorem ref_eq (x0 : FVec Ideal S4096x2048 .bf16) (x1 : FVec Ideal S8x2048x1408 .bf16) :
    Cert.FfnUpRefIdeal.Read.val_main_v7 (F := Ideal) x0 x1 = prod x0 x1 := by
  funext j
  pointwise [Cert.FfnUpRefIdeal.Read.val_main_v7, Cert.FfnUpRefIdeal.Read.val_main_v6, Cert.FfnUpRefIdeal.Read.val_main_v5, Cert.FfnUpRefIdeal.Read.val_main_v4, Cert.FfnUpRefIdeal.Read.val_main_v3, Cert.FfnUpRefIdeal.Read.val_main_v2, Cert.FfnUpRefIdeal.Read.val_main_v1, Cert.FfnUpRefIdeal.Read.val_main_v0, prod, wblock, wcol]

end Cert.FfnUpIdeal.Value
-- ==== Proof.FfnUpDwVal.lean ====
module

public import proofs.«01_k».proof.Proof.Gen.FfnUpDwIdeal.Value
public import proofs.«01_k».proof.Proof.Gen.FfnUpDwRefIdeal.Read
public import Idealize.ShloMosaic.Lib.Pipeline.ValueKit
public import Idealize.ShloMosaic.Lib.Pointwise

/-!
The gradient of the first feed-forward product with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.FfnUpDwIdeal.Value

open Cert.FfnUpDwIdeal Cert.FfnUpDwIdeal.Gen

variable (m : (ℓ : Loc nD τ sig) → Buf (Elt Ideal) ℓ)

/-- Which of the two parts holds column `l` of the weight's block `q`. -/
def part (q : Fin 8) (l : Fin 1408) : Fin 2 := ⟨(q.val * 1408 + l.val) / 5632, by have := q.isLt; have := l.isLt; omega⟩

/-- Where in that part the column stands. -/
def pcol (q : Fin 8) (l : Fin 1408) : Fin 5632 := ⟨(q.val * 1408 + l.val) % 5632, Nat.mod_lt _ (by decide)⟩

/-- The product, as one array. -/
def prod (a : FVec Ideal S4096x2048 .bf16) (b : FVec Ideal S2x4096x5632 .bf16) : FVec Ideal S8x2048x1408 .bf16 := fun j =>
  ∑ k : Fin 4096, a (ix2 k (j 1)) * b (ix3 (part (j 0) (j 2)) k (pcol (j 0) (j 2)))

/-- What one grid point computes from its blocks. -/
theorem block (v0 : Vec Ideal S4096x512 .bf16) (v1 : Vec Ideal S1x4096x1408 .bf16) (x : S1x512x1408.Idx) :
    k0_pay1 v0 v1 x = ∑ k : Fin 4096, v0 (ix2 k (x 1)) * v1 (ix3 0 k (x 2)) := by
  pointwise [k0_pay1]

/-- Which block of each array a grid point works on. -/
theorem idx_val : ∀ t : Fin cfg0.N, win0_0.index t = ![0, t.val % 4] ∧ win0_1.index t = ![t.val / 4 / 4, 0, t.val / 4 % 4] ∧ win0_2.index t = ![t.val / 4, t.val % 4, 0] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t, part, pcol]
  · blk_point [iblk, V, idx_val t, part, pcol]

/-- The reference's array is the product. -/
theorem ref_eq (x0 : FVec Ideal S4096x2048 .bf16) (x1 : FVec Ideal S2x4096x5632 .bf16) :
    Cert.FfnUpDwRefIdeal.Read.val_main_v12 (F := Ideal) x0 x1 = prod x0 x1 := by
  funext j
  pointwise [Cert.FfnUpDwRefIdeal.Read.val_main_v12, Cert.FfnUpDwRefIdeal.Read.val_main_v11, Cert.FfnUpDwRefIdeal.Read.val_main_v10, Cert.FfnUpDwRefIdeal.Read.val_main_v9, Cert.FfnUpDwRefIdeal.Read.val_main_v8, Cert.FfnUpDwRefIdeal.Read.val_main_v7, Cert.FfnUpDwRefIdeal.Read.val_main_v6, Cert.FfnUpDwRefIdeal.Read.val_main_v5, Cert.FfnUpDwRefIdeal.Read.val_main_v3, prod, part, pcol]
  exact Finset.sum_congr rfl fun k _ => mul_comm _ _

end Cert.FfnUpDwIdeal.Value
-- ==== Proof.FfnUpDxVal.lean ====
module

public import proofs.«01_k».proof.Proof.Gen.FfnUpDxIdeal.Value
public import proofs.«01_k».proof.Proof.Gen.FfnUpDxRefIdeal.Read
public import Idealize.ShloMosaic.Lib.Pipeline.ReadBack
public import Idealize.ShloMosaic.Lib.Pipeline.ValueKit
public import Idealize.ShloMosaic.Lib.Pointwise

/-!
The gradient of the first feed-forward product with respect to its input. The kernel adds, for each of the two parts, the products with
four column blocks of the weight, and keeps the sum of the parts in a scratch array; the sum is the whole product, and so is the reference's array.
-/

@[expose] public section

set_option maxRecDepth 16384

noncomputable section

open Idealize.ShloMosaic Idealize.ShloMosaic.TcCoe Idealize.SL.Sem
open Idealize.ShloMosaic.Pipeline (Dat)
open scoped BigOperators

namespace Cert.FfnUpDxIdeal.Value

open Cert.FfnUpDxIdeal Cert.FfnUpDxIdeal.Gen

variable (m : (ℓ : Loc nD τ sig) → Buf (Elt Ideal) ℓ)

/-- The part that holds joined column `k`. -/
def part (k : Fin 11264) : Fin 2 := ⟨k.val / 5632, by have := k.isLt; omega⟩

/-- Where in that part the column stands. -/
def pcol (k : Fin 11264) : Fin 5632 := ⟨k.val % 5632, Nat.mod_lt _ (by decide)⟩

/-- The weight's block that holds joined column `k`. -/
def wblock (k : Fin 11264) : Fin 8 := ⟨k.val / 1408, by have := k.isLt; omega⟩

/-- Where in that block the column stands. -/
def wcol (k : Fin 11264) : Fin 1408 := ⟨k.val % 1408, Nat.mod_lt _ (by decide)⟩

/-- The product, as one array. -/
def prod (a : FVec Ideal S2x4096x5632 .bf16) (b : FVec Ideal S8x2048x1408 .bf16) : FVec Ideal S4096x2048 .bf16 := fun j =>
  ∑ k : Fin 11264, a (ix3 (part k) (j 0) (pcol k)) * b (ix3 (wblock k) (j 1) (wcol k))

/-- One of the four column blocks of a part. -/
def qblock (k : Fin 5632) : Fin 4 := ⟨k.val / 1408, by have := k.isLt; omega⟩

/-- Where in that block the column stands. -/
def qcol (k : Fin 5632) : Fin 1408 := ⟨k.val % 1408, Nat.mod_lt _ (by decide)⟩

/-- The product of one part. -/
def dot (v0 : Vec Ideal S1x512x5632 .bf16) (v1 : Vec Ideal S4x1024x1408 .bf16) (x : S512x1024.Idx) : EReal :=
  ∑ k : Fin 5632, v0 (ix3 0 (x 0) k) * v1 (ix3 (qblock k) (x 1) (qcol k))

/-- The four column blocks add up to the part. -/
theorem dot_eq (v0 : Vec Ideal S1x512x5632 .bf16) (v1 : Vec Ideal S4x1024x1408 .bf16) (x : S512x1024.Idx) :
    ∑ k : Fin 1408, v0 (ix3 0 (x 0) ⟨k.val, by omega⟩) * v1 (ix3 0 (x 1) k)
      + ∑ k : Fin 1408, v0 (ix3 0 (x 0) ⟨1408 + k.val, by omega⟩) * v1 (ix3 1 (x 1) k)
      + ∑ k : Fin 1408, v0 (ix3 0 (x 0) ⟨2816 + k.val, by omega⟩) * v1 (ix3 2 (x 1) k)
      + ∑ k : Fin 1408, v0 (ix3 0 (x 0) ⟨4224 + k.val, by omega⟩) * v1 (ix3 3 (x 1) k) = dot v0 v1 x := by
  have h : (∑ s : Fin 4, ∑ k : Fin 1408, v0 (ix3 0 (x 0) ⟨s.val * 1408 + k.val, by omega⟩) * v1 (ix3 s (x 1) k) : EReal) = dot v0 v1 x := by
    refine Fin.sum_mul_add_congr fun s k hl => congrArg₂ (· * ·) (congrArg v0 ?_) (congrArg v1 ?_)
    · rfl
    · have e : qblock ⟨s.val * 1408 + k.val, hl⟩ = s := Fin.ext (by show (s.val * 1408 + k.val) / 1408 = s.val; omega)
      have e' : qcol ⟨s.val * 1408 + k.val, hl⟩ = k := Fin.ext (by show (s.val * 1408 + k.val) % 1408 = k.val; omega)
      rw [e, e']
  rw [← h, Fin.sum_univ_four]
  have z : ∀ k : Fin 1408, (⟨0 * 1408 + k.val, by omega⟩ : Fin 5632) = ⟨k.val, by omega⟩ := fun k => Fin.ext (by show 0 * 1408 + k.val = k.val; omega)
  simp only [Fin.val_zero, Fin.val_one, Fin.val_two, z]
  rfl

theorem part_eq (v0 : Vec Ideal S1x512x5632 .bf16) (v1 : Vec Ideal S4x1024x1408 .bf16) (x : S512x1024.Idx) (a0 a1 a2 a3 : Vec Ideal S1x512x1408 .bf16) (b0 b1 b2 b3 : Vec Ideal S1x1024x1408 .bf16)
    (ha0 : ∀ r k, a0 (ix3 0 r k) = v0 (ix3 0 r ⟨k.val, by omega⟩)) (ha1 : ∀ r k, a1 (ix3 0 r k) = v0 (ix3 0 r ⟨1408 + k.val, by omega⟩))
    (ha2 : ∀ r k, a2 (ix3 0 r k) = v0 (ix3 0 r ⟨2816 + k.val, by omega⟩)) (ha3 : ∀ r k, a3 (ix3 0 r k) = v0 (ix3 0 r ⟨4224 + k.val, by omega⟩))
    (hb0 : ∀ r k, b0 (ix3 0 r k) = v1 (ix3 0 r k)) (hb1 : ∀ r k, b1 (ix3 0 r k) = v1 (ix3 1 r k))
    (hb2 : ∀ r k, b2 (ix3 0 r k) = v1 (ix3 2 r k)) (hb3 : ∀ r k, b3 (ix3 0 r k) = v1 (ix3 3 r k)) :
    k0_pay3 a0 b0 a1 b1 a2 b2 a3 b3 x = dot v0 v1 x := by
  rw [← dot_eq]
  pointwise [k0_pay3]
  refine congrArg₂ (· + ·) (congrArg₂ (· + ·) (congrArg₂ (· + ·) ?_ ?_) ?_) ?_
  · exact Finset.sum_congr rfl fun k _ => congrArg₂ (· * ·) (ha0 _ _) (hb0 _ _)
  · exact Finset.sum_congr rfl fun k _ => congrArg₂ (· * ·) (ha1 _ _) (hb1 _ _)
  · exact Finset.sum_congr rfl fun k _ => congrArg₂ (· * ·) (ha2 _ _) (hb2 _ _)
  · exact Finset.sum_congr rfl fun k _ => congrArg₂ (· * ·) (ha3 _ _) (hb3 _ _)

/-- Which block of each array a grid point works on. -/
theorem idx_val : ∀ t : Fin cfg0.N, win0_0.index t = ![t.val % 2, t.val / 2 % 8, 0] ∧ win0_1.index t = ![t.val % 2, t.val / 16, 0] ∧ win0_2.index t = ![t.val / 2 % 8, t.val / 16] :=
  (by decide +kernel : ∀ t : Fin grid0.N, _)

theorem pay4_at (v0 v5 v11 v17 : Vec Ideal S1x512x1408 .bf16) (v2 v7 v13 v19 : Vec Ideal S1x1024x1408 .bf16) (x : S512x1024.Idx) :
    k0_pay4 v0 v2 v5 v7 v11 v13 v17 v19 x = k0_pay3 v0 v2 v5 v7 v11 v13 v17 v19 x := by
  pointwise [k0_pay4]

theorem pay1_at (u : FVec Ideal S512x1024 .f32) (v : Vec Ideal S512x1024 .f32) (x : S512x1024.Idx) : k0_pay1 u v x = v x + u x := by
  pointwise [k0_pay1]

/-- The first part starts the sum. -/
theorem first (c : Dev nD) (t : Fin cfg0.N) (h : t.val % 2 = 0) (j : S512x1024.Idx) :
    (outsAt0 m c t.val t.isLt).2 j = 0 + dot (iblk m c 0 t) (iblk m c 1 t) j := by
  rw [outsAt0_A m c t h (by omega) (by omega)]; frame_out
  rw [zero_add]
  refine (pay4_at _ _ _ _ _ _ _ _ _).trans (part_eq _ _ _ _ _ _ _ _ _ _ _ ?_ ?_ ?_ ?_ ?_ ?_ ?_ ?_) <;> intro r k <;> pointwise

/-- The second part is added to it. -/
theorem next (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j + dot (iblk m c 0 t) (iblk m c 1 t) j := by
  rw [outsAt0_B m c t h (by omega) (by omega)]; frame_out
  rw [pay1_at, (Memref.isWhole_whole _).read_unread]
  refine congrArg₂ (· + ·) rfl (part_eq _ _ _ _ _ _ _ _ _ _ _ ?_ ?_ ?_ ?_ ?_ ?_ ?_ ?_) <;> intro r k <;> pointwise

/-- The second part stores the sum. -/
theorem last (c : Dev nD) (t : Fin cfg0.N) (h : t.val % 2 = 1) (j : S512x1024.Idx) :
    (outsAt0 m c t.val t.isLt).1 j = (outsAt0 m c t.val t.isLt).2 j := by
  rw [outsAt0_B m c t (by omega) (by omega) h]; frame_out
  rfl

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  refine (last m c t ((flush0_2 t).mp hf) _).trans ?_
  rw [Pipeline.eq_sum_fin_of_reset_step_apply_of_flush (fun n h => (outsAt0 m c n h).2) 2 (fun _ => 0)
    (fun t j => dot (iblk m c 0 t) (iblk m c 1 t) j) (fun t h j => first m c t h j) (fun t h j => next m c t h j)
    t ((flush0_2 t).mp hf) _, zero_add]
  unfold dot
  refine Fin.sum_mul_add_congr fun s k hl => congrArg₂ (· * ·) ?_ ?_
  · blk_point [iblk, V, idx_val t, idx_val ⟨_, Pipeline.run_point_lt_of_flush t ((flush0_2 t).mp hf) s⟩, part, pcol]
  · blk_point [iblk, V, idx_val t, idx_val ⟨_, Pipeline.run_point_lt_of_flush t ((flush0_2 t).mp hf) s⟩, wblock, wcol, qblock, qcol]

/-- The reference's array is the product. -/
theorem ref_eq (x0 : FVec Ideal S2x4096x5632 .bf16) (x1 : FVec Ideal S8x2048x1408 .bf16) :
    Cert.FfnUpDxRefIdeal.Read.val_main_v9 (F := Ideal) x0 x1 = prod x0 x1 := by
  funext j
  pointwise [Cert.FfnUpDxRefIdeal.Read.val_main_v9, Cert.FfnUpDxRefIdeal.Read.val_main_v8, Cert.FfnUpDxRefIdeal.Read.val_main_v7, Cert.FfnUpDxRefIdeal.Read.val_main_v6, Cert.FfnUpDxRefIdeal.Read.val_main_v5, Cert.FfnUpDxRefIdeal.Read.val_main_v3, Cert.FfnUpDxRefIdeal.Read.val_main_v2, Cert.FfnUpDxRefIdeal.Read.val_main_v1, prod, part, pcol, wblock, wcol]

end Cert.FfnUpDxIdeal.Value
-- ==== Proof.SsdInVal.lean ====
module

public import proofs.«01_k».proof.Proof.Gen.SsdInIdeal.Value
public import proofs.«01_k».proof.Proof.Gen.SsdInRefIdeal.Read
public import Idealize.ShloMosaic.Lib.Pipeline.ValueKit
public import Idealize.ShloMosaic.Lib.Pointwise

/-!
The input projection of the state space layer: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.SsdInIdeal.Value

open Cert.SsdInIdeal Cert.SsdInIdeal.Gen

variable (m : (ℓ : Loc nD τ sig) → Buf (Elt Ideal) ℓ)

/-- The product, as one array. -/
def prod (a : FVec Ideal S4096x2048 .bf16) (b : FVec Ideal S2048x10368 .bf16) : FVec Ideal S4096x10368 .bf16 := fun j =>
  ∑ k : Fin 2048, a (ix2 (j 0) k) * b (ix2 k (j 1))

/-- What one grid point computes from its blocks. -/
theorem block (v0 : Vec Ideal S512x2048 .bf16) (v1 : Vec Ideal S2048x1152 .bf16) (x : S512x1152.Idx) :
    k0_pay1 v0 v1 x = ∑ k : Fin 2048, v0 (ix2 (x 0) k) * v1 (ix2 k (x 1)) := by
  pointwise [k0_pay1]

/-- Which block of each array a grid point works on. -/
theorem idx_val : ∀ t : Fin cfg0.N, win0_0.index t = ![t.val % 8, 0] ∧ win0_1.index t = ![0, t.val / 8] ∧ win0_2.index t = ![t.val % 8, t.val / 8] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S2048x10368 .bf16) :
    Cert.SsdInRefIdeal.Read.val_main_v3 (F := Ideal) x0 x1 = prod x0 x1 := by
  funext j
  pointwise [Cert.SsdInRefIdeal.Read.val_main_v3, Cert.SsdInRefIdeal.Read.val_main_v2, Cert.SsdInRefIdeal.Read.val_main_v1, Cert.SsdInRefIdeal.Read.val_main_v0, prod]

end Cert.SsdInIdeal.Value
-- ==== Proof.SsdOutVal.lean ====
module

public import proofs.«01_k».proof.Proof.Gen.SsdOutIdeal.Value
public import proofs.«01_k».proof.Proof.Gen.SsdOutRefIdeal.Read
public import Idealize.ShloMosaic.Lib.Pipeline.ValueKit
public import Idealize.ShloMosaic.Lib.Pointwise

/-!
The output projection of the state space layer, with the residual added: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.SsdOutIdeal.Value

open Cert.SsdOutIdeal Cert.SsdOutIdeal.Gen

variable (m : (ℓ : Loc nD τ sig) → Buf (Elt Ideal) ℓ)

/-- The product, as one array. -/
def prod (a : FVec Ideal S4096x4096 .bf16) (b : FVec Ideal S4096x2048 .bf16) (r : FVec Ideal S4096x2048 .f32) : FVec Ideal S4096x2048 .f32 := fun j =>
  ∑ k : Fin 4096, a (ix2 (j 0) k) * b (ix2 k (j 1)) + r (ix2 (j 0) (j 1))

/-- What one grid point computes from its blocks. -/
theorem block (v0 : Vec Ideal S512x4096 .bf16) (v1 : Vec Ideal S4096x1024 .bf16) (v2 : Vec Ideal S512x1024 .f32) (x : S512x1024.Idx) :
    k0_pay1 v0 v1 v2 x = ∑ k : Fin 4096, v0 (ix2 (x 0) k) * v1 (ix2 k (x 1)) + v2 (ix2 (x 0) (x 1)) := by
  pointwise [k0_pay1]

/-- Which block of each array a grid point works on. -/
theorem idx_val : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- The array the kernel leaves is the product. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (block _ _ _ _).trans (congrArg₂ (· + ·) (Finset.sum_congr rfl fun k _ => congrArg₂ (· * ·) ?_ ?_) ?_)
  · blk_point [iblk, V, idx_val t]
  · blk_point [iblk, V, idx_val t]
  · blk_point [iblk, V, idx_val t]

/-- The reference's array is the product. -/
theorem ref_eq (x0 : FVec Ideal S4096x4096 .bf16) (x1 : FVec Ideal S4096x2048 .bf16) (x2 : FVec Ideal S4096x2048 .f32) :
    Cert.SsdOutRefIdeal.Read.val_main_v3 (F := Ideal) x0 x1 x2 = prod x0 x1 x2 := by
  funext j
  pointwise [Cert.SsdOutRefIdeal.Read.val_main_v3, Cert.SsdOutRefIdeal.Read.val_main_v2, Cert.SsdOutRefIdeal.Read.val_main_v1, Cert.SsdOutRefIdeal.Read.val_main_v0, prod]
  exact add_comm _ _

end Cert.SsdOutIdeal.Value
-- ==== Proof.SsdOutDxVal.lean ====
module

public import proofs.«01_k».proof.Proof.Gen.SsdOutDxIdeal.Value
public import proofs.«01_k».proof.Proof.Gen.SsdOutDxRefIdeal.Read
public import Idealize.ShloMosaic.Lib.Pipeline.ValueKit
public import Idealize.ShloMosaic.Lib.Pointwise

/-!
The gradient of the state space layer's output projection with respect to its input: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.SsdOutDxIdeal.Value

open Cert.SsdOutDxIdeal Cert.SsdOutDxIdeal.Gen

variable (m : (ℓ : Loc nD τ sig) → Buf (Elt Ideal) ℓ)

/-- The product, as one array. -/
def prod (a : FVec Ideal S4096x2048 .bf16) (b : FVec Ideal S4096x2048 .bf16) : FVec Ideal S4096x4096 .bf16 := fun j =>
  ∑ k : Fin 2048, a (ix2 (j 0) k) * b (ix2 (j 1) k)

/-- What one grid point computes from its blocks. -/
theorem block (v0 : Vec Ideal S512x2048 .bf16) (v1 : Vec Ideal S1024x2048 .bf16) (x : S512x1024.Idx) :
    k0_pay1 v0 v1 x = ∑ k : Fin 2048, v0 (ix2 (x 0) k) * v1 (ix2 (x 1) k) := by
  pointwise [k0_pay1]

/-- Which block of each array a grid point works on. -/
theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S4096x2048 .bf16) :
    Cert.SsdOutDxRefIdeal.Read.val_main_v5 (F := Ideal) x0 x1 = prod x0 x1 := by
  funext j
  pointwise [Cert.SsdOutDxRefIdeal.Read.val_main_v5, Cert.SsdOutDxRefIdeal.Read.val_main_v4, Cert.SsdOutDxRefIdeal.Read.val_main_v3, Cert.SsdOutDxRefIdeal.Read.val_main_v1, prod]

end Cert.SsdOutDxIdeal.Value
-- ==== Proof.SsdOutDwVal.lean ====
module

public import proofs.«01_k».proof.Proof.Gen.SsdOutDwIdeal.Value
public import proofs.«01_k».proof.Proof.Gen.SsdOutDwRefIdeal.Read
public import Idealize.ShloMosaic.Lib.Pipeline.ValueKit
public import Idealize.ShloMosaic.Lib.Pointwise

/-!
The gradient of the state space layer's output projection with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.SsdOutDwIdeal.Value

open Cert.SsdOutDwIdeal Cert.SsdOutDwIdeal.Gen

variable (m : (ℓ : Loc nD τ sig) → Buf (Elt Ideal) ℓ)

/-- The product, as one array. -/
def prod (a : FVec Ideal S4096x4096 .bf16) (b : FVec Ideal S4096x2048 .bf16) : FVec Ideal S4096x2048 .bf16 := fun j =>
  ∑ k : Fin 4096, a (ix2 k (j 0)) * b (ix2 k (j 1))

/-- What one grid point computes from its blocks. -/
theorem block (v0 : Vec Ideal S4096x512 .bf16) (v1 : Vec Ideal S4096x1024 .bf16) (x : S512x1024.Idx) :
    k0_pay1 v0 v1 x = ∑ k : Fin 4096, v0 (ix2 k (x 0)) * v1 (ix2 k (x 1)) := by
  pointwise [k0_pay1]

/-- Which block of each array a grid point works on. -/
theorem idx_val : ∀ t : Fin cfg0.N, win0_0.index t = ![0, t.val % 8] ∧ win0_1.index t = ![0, t.val / 8] ∧ win0_2.index t = ![t.val % 8, t.val / 8] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x4096 .bf16) (x1 : FVec Ideal S4096x2048 .bf16) :
    Cert.SsdOutDwRefIdeal.Read.val_main_v6 (F := Ideal) x0 x1 = prod x0 x1 := by
  funext j
  pointwise [Cert.SsdOutDwRefIdeal.Read.val_main_v6, Cert.SsdOutDwRefIdeal.Read.val_main_v5, Cert.SsdOutDwRefIdeal.Read.val_main_v4, Cert.SsdOutDwRefIdeal.Read.val_main_v3, Cert.SsdOutDwRefIdeal.Read.val_main_v1, prod]
  exact Finset.sum_congr rfl fun k _ => mul_comm _ _

end Cert.SsdOutDwIdeal.Value
-- ==== Proof.SsdInDwVal.lean ====
module

public import proofs.«01_k».proof.Proof.Gen.SsdInDwIdeal.Value
public import proofs.«01_k».proof.Proof.Gen.SsdInDwRefIdeal.Read
public import Idealize.ShloMosaic.Lib.Pipeline.ValueKit
public import Idealize.ShloMosaic.Lib.Pointwise

/-!
The gradient of the state space layer's input projection with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.SsdInDwIdeal.Value

open Cert.SsdInDwIdeal Cert.SsdInDwIdeal.Gen

variable (m : (ℓ : Loc nD τ sig) → Buf (Elt Ideal) ℓ)

/-- The product, as one array. -/
def prod (a : FVec Ideal S4096x2048 .bf16) (b : FVec Ideal S4096x10368 .bf16) : FVec Ideal S2048x10368 .bf16 := fun j =>
  ∑ k : Fin 4096, a (ix2 k (j 0)) * b (ix2 k (j 1))

/-- What one grid point computes from its blocks. -/
theorem block (v0 : Vec Ideal S4096x512 .bf16) (v1 : Vec Ideal S4096x1152 .bf16) (x : S512x1152.Idx) :
    k0_pay1 v0 v1 x = ∑ k : Fin 4096, v0 (ix2 k (x 0)) * v1 (ix2 k (x 1)) := by
  pointwise [k0_pay1]

/-- Which block of each array a grid point works on. -/
theorem idx_val : ∀ t : Fin cfg0.N, win0_0.index t = ![0, t.val % 4] ∧ win0_1.index t = ![0, t.val / 4] ∧ win0_2.index t = ![t.val % 4, t.val / 4] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S4096x10368 .bf16) :
    Cert.SsdInDwRefIdeal.Read.val_main_v6 (F := Ideal) x0 x1 = prod x0 x1 := by
  funext j
  pointwise [Cert.SsdInDwRefIdeal.Read.val_main_v6, Cert.SsdInDwRefIdeal.Read.val_main_v5, Cert.SsdInDwRefIdeal.Read.val_main_v4, Cert.SsdInDwRefIdeal.Read.val_main_v3, Cert.SsdInDwRefIdeal.Read.val_main_v1, prod]
  exact Finset.sum_congr rfl fun k _ => mul_comm _ _

end Cert.SsdInDwIdeal.Value
-- ==== Proof.SsdInDxVal.lean ====
module

public import proofs.«01_k».proof.Proof.Gen.SsdInDxIdeal.Value
public import proofs.«01_k».proof.Proof.Gen.SsdInDxRefIdeal.Read
public import Idealize.ShloMosaic.Lib.Pipeline.ReadBack
public import Idealize.ShloMosaic.Lib.Pipeline.ValueKit
public import Idealize.ShloMosaic.Lib.Pointwise

/-!
The gradient of the state space layer's input projection with respect to its input. The kernel adds the
products of three pieces of the contracted axis in a scratch array; the sum is the whole product, and so is the reference's array.
-/

@[expose] public section

set_option maxRecDepth 16384

noncomputable section

open Idealize.ShloMosaic Idealize.ShloMosaic.TcCoe Idealize.SL.Sem
open Idealize.ShloMosaic.Pipeline (Dat)
open scoped BigOperators

namespace Cert.SsdInDxIdeal.Value

open Cert.SsdInDxIdeal Cert.SsdInDxIdeal.Gen

variable (m : (ℓ : Loc nD τ sig) → Buf (Elt Ideal) ℓ)

/-- The product, as one array. -/
def prod (a : FVec Ideal S4096x10368 .bf16) (b : FVec Ideal S2048x10368 .bf16) : FVec Ideal S4096x2048 .bf16 := fun j =>
  ∑ k : Fin 10368, a (ix2 (j 0) k) * b (ix2 (j 1) k)

/-- The product of two blocks. -/
def dot (v0 : Vec Ideal S512x3456 .bf16) (v1 : Vec Ideal S1024x3456 .bf16) (x : S512x1024.Idx) : EReal :=
  ∑ k : Fin 3456, v0 (ix2 (x 0) k) * v1 (ix2 (x 1) k)

theorem block (v0 : Vec Ideal S512x3456 .bf16) (v1 : Vec Ideal S1024x3456 .bf16) (x : S512x1024.Idx) : k0_pay2 v0 v1 x = dot v0 v1 x := by
  pointwise [k0_pay1, k0_pay2, dot]

theorem block_add (v0 : Vec Ideal S512x3456 .bf16) (v1 : Vec Ideal S1024x3456 .bf16) (v : Vec Ideal S512x1024 .f32) (x : S512x1024.Idx) :
    k0_pay3 v0 v1 v x = v x + dot v0 v1 x := by
  pointwise [k0_pay1, k0_pay3, dot]

/-- Which block of each array a grid point works on. -/
theorem idx_val : ∀ t : Fin cfg0.N, win0_0.index t = ![t.val / 3 % 8, t.val % 3] ∧ win0_1.index t = ![t.val / 24, t.val % 3] ∧ win0_2.index t = ![t.val / 3 % 8, t.val / 24] :=
  (by decide +kernel : ∀ t : Fin grid0.N, _)

/-- The first piece of a tile starts the sum. -/
theorem first (c : Dev nD) (t : Fin cfg0.N) (h : t.val % 3 = 0) (j : S512x1024.Idx) :
    (outsAt0 m c t.val t.isLt).2 j = 0 + dot (iblk m c 0 t) (iblk m c 1 t) j := by
  rw [outsAt0_A m c t h (by omega) (by omega)]; frame_out
  rw [zero_add]
  exact block _ _ _

/-- A later piece is added to what is there. -/
theorem next (c : Dev nD) (t : Fin cfg0.N) (h : ¬t.val % 3 = 0) (j : S512x1024.Idx) :
    (outsAt0 m c t.val t.isLt).2 j
      = (outsAt0 m c (t.val - 1) (Nat.lt_of_le_of_lt (Nat.sub_le _ _) t.isLt)).2 j + dot (iblk m c 0 t) (iblk m c 1 t) j := by
  by_cases h2 : t.val % 3 = 2
  · rw [outsAt0_C m c t h (by omega) h2]; frame_out
    rw [block_add, (Memref.isWhole_whole _).read_unread]
  · rw [outsAt0_B m c t h (by omega) h2]; frame_out
    rw [block_add, (Memref.isWhole_whole _).read_unread]

/-- The last piece of a tile stores the sum. -/
theorem last (c : Dev nD) (t : Fin cfg0.N) (h : t.val % 3 = 2) (j : S512x1024.Idx) :
    (outsAt0 m c t.val t.isLt).1 j = (outsAt0 m c t.val t.isLt).2 j := by
  rw [outsAt0_C m c t (by omega) (by omega) h]; frame_out
  rfl

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  refine (last m c t ((flush0_2 t).mp hf) _).trans ?_
  rw [Pipeline.eq_sum_fin_of_reset_step_apply_of_flush (fun n h => (outsAt0 m c n h).2) 3 (fun _ => 0)
    (fun t j => dot (iblk m c 0 t) (iblk m c 1 t) j) (fun t h j => first m c t h j) (fun t h j => next m c t h j)
    t ((flush0_2 t).mp hf) _, zero_add]
  unfold dot
  refine Fin.sum_mul_add_congr fun s k hl => congrArg₂ (· * ·) ?_ ?_
  · blk_point [iblk, V, idx_val t, idx_val ⟨_, Pipeline.run_point_lt_of_flush t ((flush0_2 t).mp hf) s⟩]
  · blk_point [iblk, V, idx_val t, idx_val ⟨_, Pipeline.run_point_lt_of_flush t ((flush0_2 t).mp hf) s⟩]

/-- The reference's array is the product. -/
theorem ref_eq (x0 : FVec Ideal S4096x10368 .bf16) (x1 : FVec Ideal S2048x10368 .bf16) :
    Cert.SsdInDxRefIdeal.Read.val_main_v5 (F := Ideal) x0 x1 = prod x0 x1 := by
  funext j
  pointwise [Cert.SsdInDxRefIdeal.Read.val_main_v5, Cert.SsdInDxRefIdeal.Read.val_main_v4, Cert.SsdInDxRefIdeal.Read.val_main_v3, Cert.SsdInDxRefIdeal.Read.val_main_v1, prod]

end Cert.SsdInDxIdeal.Value
-- ==== Proof.ScInVal.lean ====
module

public import proofs.«01_k».proof.Proof.Gen.ScInIdeal.Value
public import proofs.«01_k».proof.Proof.Gen.ScInRefIdeal.Read
public import Idealize.ShloMosaic.Lib.Pipeline.ValueKit
public import Idealize.ShloMosaic.Lib.Pointwise

/-!
The input projection of the short convolution layer: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.ScInIdeal.Value

open Cert.ScInIdeal Cert.ScInIdeal.Gen

variable (m : (ℓ : Loc nD τ sig) → Buf (Elt Ideal) ℓ)

/-- The column of the weight that column `l` of plane `p` comes from. -/
def wcol (p : Fin 3) (l : Fin 2048) : Fin 6144 := ⟨p.val * 2048 + l.val, by have := p.isLt; have := l.isLt; omega⟩

/-- The product, as one array. -/
def prod (a : FVec Ideal S4096x2048 .bf16) (b : FVec Ideal S2048x6144 .bf16) : FVec Ideal S3x4096x2048 .bf16 := fun j =>
  ∑ k : Fin 2048, a (ix2 (j 1) k) * b (ix2 k (wcol (j 0) (j 2)))

/-- What one grid point computes from its blocks. -/
theorem block (v0 : Vec Ideal S512x2048 .bf16) (v1 : Vec Ideal S2048x1024 .bf16) (x : S1x512x1024.Idx) :
    k0_pay1 v0 v1 x = ∑ k : Fin 2048, v0 (ix2 (x 1) k) * v1 (ix2 k (x 2)) := by
  pointwise [k0_pay1]

/-- Which block of each array a grid point works on. -/
theorem idx_val : ∀ t : Fin cfg0.N, win0_0.index t = ![t.val % 8, 0] ∧ win0_1.index t = ![0, t.val / 8] ∧ win0_2.index t = ![t.val / 8 / 2, t.val % 8, t.val / 8 % 2] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t, wcol]
  · blk_point [iblk, V, idx_val t, wcol]

/-- The reference's array is the product. -/
theorem ref_eq (x0 : FVec Ideal S4096x2048 .bf16) (x1 : FVec Ideal S2048x6144 .bf16) :
    Cert.ScInRefIdeal.Read.val_main_v5 (F := Ideal) x0 x1 = prod x0 x1 := by
  funext j
  pointwise [Cert.ScInRefIdeal.Read.val_main_v5, Cert.ScInRefIdeal.Read.val_main_v4, Cert.ScInRefIdeal.Read.val_main_v3, Cert.ScInRefIdeal.Read.val_main_v2, Cert.ScInRefIdeal.Read.val_main_v1, Cert.ScInRefIdeal.Read.val_main_v0, prod, wcol]

end Cert.ScInIdeal.Value
-- ==== Proof.ScOutVal.lean ====
module

public import proofs.«01_k».proof.Proof.Gen.ScOutIdeal.Value
public import proofs.«01_k».proof.Proof.Gen.ScOutRefIdeal.Read
public import Idealize.ShloMosaic.Lib.Pipeline.ValueKit
public import Idealize.ShloMosaic.Lib.Pointwise

/-!
The output projection of the short convolution layer, with the residual added: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.ScOutIdeal.Value

open Cert.ScOutIdeal Cert.ScOutIdeal.Gen

variable (m : (ℓ : Loc nD τ sig) → Buf (Elt Ideal) ℓ)

/-- The product, as one array. -/
def prod (a : FVec Ideal S4096x2048 .bf16) (b : FVec Ideal S2048x2048 .bf16) (r : FVec Ideal S4096x2048 .f32) : FVec Ideal S4096x2048 .f32 := fun j =>
  ∑ k : Fin 2048, a (ix2 (j 0) k) * b (ix2 k (j 1)) + r (ix2 (j 0) (j 1))

/-- What one grid point computes from its blocks. -/
theorem block (v0 : Vec Ideal S512x2048 .bf16) (v1 : Vec Ideal S2048x1024 .bf16) (v2 : Vec Ideal S512x1024 .f32) (x : S512x1024.Idx) :
    k0_pay1 v0 v1 v2 x = ∑ k : Fin 2048, v0 (ix2 (x 0) k) * v1 (ix2 k (x 1)) + v2 (ix2 (x 0) (x 1)) := by
  pointwise [k0_pay1]

/-- Which block of each array a grid point works on. -/
theorem idx_val : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- The array the kernel leaves is the product. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (block _ _ _ _).trans (congrArg₂ (· + ·) (Finset.sum_congr rfl fun k _ => congrArg₂ (· * ·) ?_ ?_) ?_)
  · blk_point [iblk, V, idx_val t]
  · blk_point [iblk, V, idx_val t]
  · blk_point [iblk, V, idx_val t]

/-- The reference's array is the product. -/
theorem ref_eq (x0 : FVec Ideal S4096x2048 .bf16) (x1 : FVec Ideal S2048x2048 .bf16) (x2 : FVec Ideal S4096x2048 .f32) :
    Cert.ScOutRefIdeal.Read.val_main_v3 (F := Ideal) x0 x1 x2 = prod x0 x1 x2 := by
  funext j
  pointwise [Cert.ScOutRefIdeal.Read.val_main_v3, Cert.ScOutRefIdeal.Read.val_main_v2, Cert.ScOutRefIdeal.Read.val_main_v1, Cert.ScOutRefIdeal.Read.val_main_v0, prod]
  exact add_comm _ _

end Cert.ScOutIdeal.Value
-- ==== Proof.ScOutDxVal.lean ====
module

public import proofs.«01_k».proof.Proof.Gen.ScOutDxIdeal.Value
public import proofs.«01_k».proof.Proof.Gen.ScOutDxRefIdeal.Read
public import Idealize.ShloMosaic.Lib.Pipeline.ValueKit
public import Idealize.ShloMosaic.Lib.Pointwise

/-!
The gradient of the short convolution layer's output projection with respect to its input: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.ScOutDxIdeal.Value

open Cert.ScOutDxIdeal Cert.ScOutDxIdeal.Gen

variable (m : (ℓ : Loc nD τ sig) → Buf (Elt Ideal) ℓ)

/-- The product, as one array. -/
def prod (a : FVec Ideal S4096x2048 .bf16) (b : FVec Ideal S2048x2048 .bf16) : FVec Ideal S4096x2048 .bf16 := fun j =>
  ∑ k : Fin 2048, a (ix2 (j 0) k) * b (ix2 (j 1) k)

/-- What one grid point computes from its blocks. -/
theorem block (v0 : Vec Ideal S512x2048 .bf16) (v1 : Vec Ideal S1024x2048 .bf16) (x : S512x1024.Idx) :
    k0_pay1 v0 v1 x = ∑ k : Fin 2048, v0 (ix2 (x 0) k) * v1 (ix2 (x 1) k) := by
  pointwise [k0_pay1]

/-- Which block of each array a grid point works on. -/
theorem idx_val : ∀ t : Fin cfg0.N, win0_0.index t = ![t.val % 8, 0] ∧ win0_1.index t = ![t.val / 8, 0] ∧ win0_2.index t = ![t.val % 8, t.val / 8] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S2048x2048 .bf16) :
    Cert.ScOutDxRefIdeal.Read.val_main_v5 (F := Ideal) x0 x1 = prod x0 x1 := by
  funext j
  pointwise [Cert.ScOutDxRefIdeal.Read.val_main_v5, Cert.ScOutDxRefIdeal.Read.val_main_v4, Cert.ScOutDxRefIdeal.Read.val_main_v3, Cert.ScOutDxRefIdeal.Read.val_main_v1, prod]

end Cert.ScOutDxIdeal.Value
-- ==== Proof.ScOutDwVal.lean ====
module

public import proofs.«01_k».proof.Proof.Gen.ScOutDwIdeal.Value
public import proofs.«01_k».proof.Proof.Gen.ScOutDwRefIdeal.Read
public import Idealize.ShloMosaic.Lib.Pipeline.ValueKit
public import Idealize.ShloMosaic.Lib.Pointwise

/-!
The gradient of the short convolution layer's output projection with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.ScOutDwIdeal.Value

open Cert.ScOutDwIdeal Cert.ScOutDwIdeal.Gen

variable (m : (ℓ : Loc nD τ sig) → Buf (Elt Ideal) ℓ)

/-- The product, as one array. -/
def prod (a : FVec Ideal S4096x2048 .bf16) (b : FVec Ideal S4096x2048 .bf16) : FVec Ideal S2048x2048 .bf16 := fun j =>
  ∑ k : Fin 4096, a (ix2 k (j 0)) * b (ix2 k (j 1))

/-- What one grid point computes from its blocks. -/
theorem block (v0 : Vec Ideal S4096x512 .bf16) (v1 : Vec Ideal S4096x1024 .bf16) (x : S512x1024.Idx) :
    k0_pay1 v0 v1 x = ∑ k : Fin 4096, v0 (ix2 k (x 0)) * v1 (ix2 k (x 1)) := by
  pointwise [k0_pay1]

/-- Which block of each array a grid point works on. -/
theorem idx_val : ∀ t : Fin cfg0.N, win0_0.index t = ![0, t.val % 4] ∧ win0_1.index t = ![0, t.val / 4] ∧ win0_2.index t = ![t.val % 4, t.val / 4] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t]
  · blk_point [iblk, V, idx_val t]

/-- The reference's array is the product. -/
theorem ref_eq (x0 : FVec Ideal S4096x2048 .bf16) (x1 : FVec Ideal S4096x2048 .bf16) :
    Cert.ScOutDwRefIdeal.Read.val_main_v6 (F := Ideal) x0 x1 = prod x0 x1 := by
  funext j
  pointwise [Cert.ScOutDwRefIdeal.Read.val_main_v6, Cert.ScOutDwRefIdeal.Read.val_main_v5, Cert.ScOutDwRefIdeal.Read.val_main_v4, Cert.ScOutDwRefIdeal.Read.val_main_v3, Cert.ScOutDwRefIdeal.Read.val_main_v1, prod]
  exact Finset.sum_congr rfl fun k _ => mul_comm _ _

end Cert.ScOutDwIdeal.Value
-- ==== Proof.ScInDwVal.lean ====
module

public import proofs.«01_k».proof.Proof.Gen.ScInDwIdeal.Value
public import proofs.«01_k».proof.Proof.Gen.ScInDwRefIdeal.Read
public import Idealize.ShloMosaic.Lib.Pipeline.ValueKit
public import Idealize.ShloMosaic.Lib.Pointwise

/-!
The gradient of the short convolution layer's input projection with respect to its weight: what one tile of the kernel computes,
the whole array the kernel leaves, and the reference's array, which is the same.
-/

@[expose] public section

set_option maxRecDepth 16384

noncomputable section

open Idealize.ShloMosaic Idealize.ShloMosaic.TcCoe Idealize.SL.Sem
open Idealize.ShloMosaic.Pipeline (Dat)
open scoped BigOperators

namespace Cert.ScInDwIdeal.Value

open Cert.ScInDwIdeal Cert.ScInDwIdeal.Gen

variable (m : (ℓ : Loc nD τ sig) → Buf (Elt Ideal) ℓ)

/-- The plane that column `l` of the weight belongs to. -/
def plane (l : Fin 6144) : Fin 3 := ⟨l.val / 2048, by have := l.isLt; omega⟩

/-- Where in that plane the column stands. -/
def pcol (l : Fin 6144) : Fin 2048 := ⟨l.val % 2048, Nat.mod_lt _ (by decide)⟩

/-- The product, as one array. -/
def prod (a : FVec Ideal S4096x2048 .bf16) (b : FVec Ideal S3x4096x2048 .bf16) : FVec Ideal S2048x6144 .bf16 := fun j =>
  ∑ k : Fin 4096, a (ix2 k (j 0)) * b (ix3 (plane (j 1)) k (pcol (j 1)))

/-- What one grid point computes from its blocks. -/
theorem block (v0 : Vec Ideal S4096x512 .bf16) (v1 : Vec Ideal S1x4096x1024 .bf16) (x : S512x1024.Idx) :
    k0_pay1 v0 v1 x = ∑ k : Fin 4096, v0 (ix2 k (x 0)) * v1 (ix3 0 k (x 1)) := by
  pointwise [k0_pay1]

/-- Which block of each array a grid point works on. -/
theorem idx_val : ∀ t : Fin cfg0.N, win0_0.index t = ![0, t.val % 4] ∧ win0_1.index t = ![t.val / 4 / 2, 0, t.val / 4 % 2] ∧ win0_2.index t = ![t.val % 4, t.val / 4] :=
  (by decide +kernel : ∀ t : Fin grid0.N, _)

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr rfl fun k _ => congrArg₂ (· * ·) ?_ ?_)
  · blk_point [iblk, V, idx_val t, plane, pcol]
  · blk_point [iblk, V, idx_val t, plane, pcol]

/-- The reference's array is the product. -/
theorem ref_eq (x0 : FVec Ideal S4096x2048 .bf16) (x1 : FVec Ideal S3x4096x2048 .bf16) :
    Cert.ScInDwRefIdeal.Read.val_main_v8 (F := Ideal) x0 x1 = prod x0 x1 := by
  funext j
  pointwise [Cert.ScInDwRefIdeal.Read.val_main_v8, Cert.ScInDwRefIdeal.Read.val_main_v7, Cert.ScInDwRefIdeal.Read.val_main_v6, Cert.ScInDwRefIdeal.Read.val_main_v5, Cert.ScInDwRefIdeal.Read.val_main_v4, Cert.ScInDwRefIdeal.Read.val_main_v3, Cert.ScInDwRefIdeal.Read.val_main_v1, prod, plane, pcol]
  exact Finset.sum_congr rfl fun k _ => mul_comm _ _

end Cert.ScInDwIdeal.Value
-- ==== Proof.ScInDxVal.lean ====
module

public import proofs.«01_k».proof.Proof.Gen.ScInDxIdeal.Value
public import proofs.«01_k».proof.Proof.Gen.ScInDxRefIdeal.Read
public import Idealize.ShloMosaic.Lib.Pipeline.ReadBack
public import Idealize.ShloMosaic.Lib.Pipeline.ValueKit
public import Idealize.ShloMosaic.Lib.Pointwise

/-!
The gradient of the short convolution layer's input projection with respect to its input. The kernel adds the
products of three pieces of the contracted axis in a scratch array; the sum is the whole product, and so is the reference's array.
-/

@[expose] public section

set_option maxRecDepth 16384

noncomputable section

open Idealize.ShloMosaic Idealize.ShloMosaic.TcCoe Idealize.SL.Sem
open Idealize.ShloMosaic.Pipeline (Dat)
open scoped BigOperators

namespace Cert.ScInDxIdeal.Value

open Cert.ScInDxIdeal Cert.ScInDxIdeal.Gen

variable (m : (ℓ : Loc nD τ sig) → Buf (Elt Ideal) ℓ)

/-- The plane that column `l` of the weight belongs to. -/
def plane (l : Fin 6144) : Fin 3 := ⟨l.val / 2048, by have := l.isLt; omega⟩

/-- Where in that plane the column stands. -/
def pcol (l : Fin 6144) : Fin 2048 := ⟨l.val % 2048, Nat.mod_lt _ (by decide)⟩

/-- The product, as one array. -/
def prod (a : FVec Ideal S3x4096x2048 .bf16) (b : FVec Ideal S2048x6144 .bf16) : FVec Ideal S4096x2048 .bf16 := fun j =>
  ∑ k : Fin 6144, a (ix3 (plane k) (j 0) (pcol k)) * b (ix2 (j 1) k)

/-- The product of two blocks. -/
def dot (v0 : Vec Ideal S1x512x2048 .bf16) (v1 : Vec Ideal S1024x2048 .bf16) (x : S512x1024.Idx) : EReal :=
  ∑ k : Fin 2048, v0 (ix3 0 (x 0) k) * v1 (ix2 (x 1) k)

theorem block (v0 : Vec Ideal S1x512x2048 .bf16) (v1 : Vec Ideal S1024x2048 .bf16) (x : S512x1024.Idx) : k0_pay2 v0 v1 x = dot v0 v1 x := by
  pointwise [k0_pay1, k0_pay2, dot]

theorem block_add (v0 : Vec Ideal S1x512x2048 .bf16) (v1 : Vec Ideal S1024x2048 .bf16) (v : Vec Ideal S512x1024 .f32) (x : S512x1024.Idx) :
    k0_pay3 v0 v1 v x = v x + dot v0 v1 x := by
  pointwise [k0_pay1, k0_pay3, dot]

/-- Which block of each array a grid point works on. -/
theorem idx_val : ∀ t : Fin cfg0.N, win0_0.index t = ![t.val % 3, t.val / 3 % 8, 0] ∧ win0_1.index t = ![t.val / 24, t.val % 3] ∧ win0_2.index t = ![t.val / 3 % 8, t.val / 24] :=
  (by decide +kernel : ∀ t : Fin grid0.N, _)

/-- The first piece of a tile starts the sum. -/
theorem first (c : Dev nD) (t : Fin cfg0.N) (h : t.val % 3 = 0) (j : S512x1024.Idx) :
    (outsAt0 m c t.val t.isLt).2 j = 0 + dot (iblk m c 0 t) (iblk m c 1 t) j := by
  rw [outsAt0_A m c t h (by omega) (by omega)]; frame_out
  rw [zero_add]
  exact block _ _ _

/-- A later piece is added to what is there. -/
theorem next (c : Dev nD) (t : Fin cfg0.N) (h : ¬t.val % 3 = 0) (j : S512x1024.Idx) :
    (outsAt0 m c t.val t.isLt).2 j
      = (outsAt0 m c (t.val - 1) (Nat.lt_of_le_of_lt (Nat.sub_le _ _) t.isLt)).2 j + dot (iblk m c 0 t) (iblk m c 1 t) j := by
  by_cases h2 : t.val % 3 = 2
  · rw [outsAt0_C m c t h (by omega) h2]; frame_out
    rw [block_add, (Memref.isWhole_whole _).read_unread]
  · rw [outsAt0_B m c t h (by omega) h2]; frame_out
    rw [block_add, (Memref.isWhole_whole _).read_unread]

/-- The last piece of a tile stores the sum. -/
theorem last (c : Dev nD) (t : Fin cfg0.N) (h : t.val % 3 = 2) (j : S512x1024.Idx) :
    (outsAt0 m c t.val t.isLt).1 j = (outsAt0 m c t.val t.isLt).2 j := by
  rw [outsAt0_C m c t (by omega) (by omega) h]; frame_out
  rfl

/-- The array the kernel leaves is the product. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  refine (last m c t ((flush0_2 t).mp hf) _).trans ?_
  rw [Pipeline.eq_sum_fin_of_reset_step_apply_of_flush (fun n h => (outsAt0 m c n h).2) 3 (fun _ => 0)
    (fun t j => dot (iblk m c 0 t) (iblk m c 1 t) j) (fun t h j => first m c t h j) (fun t h j => next m c t h j)
    t ((flush0_2 t).mp hf) _, zero_add]
  unfold dot
  refine Fin.sum_mul_add_congr fun s k hl => congrArg₂ (· * ·) ?_ ?_
  · blk_point [iblk, V, idx_val t, idx_val ⟨_, Pipeline.run_point_lt_of_flush t ((flush0_2 t).mp hf) s⟩, plane, pcol]
  · blk_point [iblk, V, idx_val t, idx_val ⟨_, Pipeline.run_point_lt_of_flush t ((flush0_2 t).mp hf) s⟩]

/-- The reference's array is the product. -/
theorem ref_eq (x0 : FVec Ideal S3x4096x2048 .bf16) (x1 : FVec Ideal S2048x6144 .bf16) :
    Cert.ScInDxRefIdeal.Read.val_main_v7 (F := Ideal) x0 x1 = prod x0 x1 := by
  funext j
  pointwise [Cert.ScInDxRefIdeal.Read.val_main_v7, Cert.ScInDxRefIdeal.Read.val_main_v6, Cert.ScInDxRefIdeal.Read.val_main_v5, Cert.ScInDxRefIdeal.Read.val_main_v4, Cert.ScInDxRefIdeal.Read.val_main_v3, Cert.ScInDxRefIdeal.Read.val_main_v1, prod, plane, pcol]

end Cert.ScInDxIdeal.Value
-- ==== Proof.Products.lean ====
module

public import proofs.«01_k».proof.Defs
public import proofs.«01_k».proof.Proof.Gen.FfnDown.Frame
public import proofs.«01_k».proof.Proof.Gen.FfnDownRefIdeal.Run
public import proofs.«01_k».proof.Proof.FfnDownVal
public import proofs.«01_k».proof.Proof.Gen.FfnDownDx.Frame
public import proofs.«01_k».proof.Proof.Gen.FfnDownDxRefIdeal.Run
public import proofs.«01_k».proof.Proof.FfnDownDxVal
public import proofs.«01_k».proof.Proof.Gen.FfnDownDw.Frame
public import proofs.«01_k».proof.Proof.Gen.FfnDownDwRefIdeal.Run
public import proofs.«01_k».proof.Proof.FfnDownDwVal
public import proofs.«01_k».proof.Proof.Gen.FfnUp.Frame
public import proofs.«01_k».proof.Proof.Gen.FfnUpRefIdeal.Run
public import proofs.«01_k».proof.Proof.FfnUpVal
public import proofs.«01_k».proof.Proof.Gen.FfnUpDw.Frame
public import proofs.«01_k».proof.Proof.Gen.FfnUpDwRefIdeal.Run
public import proofs.«01_k».proof.Proof.FfnUpDwVal
public import proofs.«01_k».proof.Proof.Gen.FfnUpDx.Frame
public import proofs.«01_k».proof.Proof.Gen.FfnUpDxRefIdeal.Run
public import proofs.«01_k».proof.Proof.FfnUpDxVal
public import proofs.«01_k».proof.Proof.Gen.SsdIn.Frame
public import proofs.«01_k».proof.Proof.Gen.SsdInRefIdeal.Run
public import proofs.«01_k».proof.Proof.SsdInVal
public import proofs.«01_k».proof.Proof.Gen.SsdOut.Frame
public import proofs.«01_k».proof.Proof.Gen.SsdOutRefIdeal.Run
public import proofs.«01_k».proof.Proof.SsdOutVal
public import proofs.«01_k».proof.Proof.Gen.SsdOutDx.Frame
public import proofs.«01_k».proof.Proof.Gen.SsdOutDxRefIdeal.Run
public import proofs.«01_k».proof.Proof.SsdOutDxVal
public import proofs.«01_k».proof.Proof.Gen.SsdOutDw.Frame
public import proofs.«01_k».proof.Proof.Gen.SsdOutDwRefIdeal.Run
public import proofs.«01_k».proof.Proof.SsdOutDwVal
public import proofs.«01_k».proof.Proof.Gen.SsdInDw.Frame
public import proofs.«01_k».proof.Proof.Gen.SsdInDwRefIdeal.Run
public import proofs.«01_k».proof.Proof.SsdInDwVal
public import proofs.«01_k».proof.Proof.Gen.SsdInDx.Frame
public import proofs.«01_k».proof.Proof.Gen.SsdInDxRefIdeal.Run
public import proofs.«01_k».proof.Proof.SsdInDxVal
public import proofs.«01_k».proof.Proof.Gen.ScIn.Frame
public import proofs.«01_k».proof.Proof.Gen.ScInRefIdeal.Run
public import proofs.«01_k».proof.Proof.ScInVal
public import proofs.«01_k».proof.Proof.Gen.ScOut.Frame
public import proofs.«01_k».proof.Proof.Gen.ScOutRefIdeal.Run
public import proofs.«01_k».proof.Proof.ScOutVal
public import proofs.«01_k».proof.Proof.Gen.ScOutDx.Frame
public import proofs.«01_k».proof.Proof.Gen.ScOutDxRefIdeal.Run
public import proofs.«01_k».proof.Proof.ScOutDxVal
public import proofs.«01_k».proof.Proof.Gen.ScOutDw.Frame
public import proofs.«01_k».proof.Proof.Gen.ScOutDwRefIdeal.Run
public import proofs.«01_k».proof.Proof.ScOutDwVal
public import proofs.«01_k».proof.Proof.Gen.ScInDw.Frame
public import proofs.«01_k».proof.Proof.Gen.ScInDwRefIdeal.Run
public import proofs.«01_k».proof.Proof.ScInDwVal
public import proofs.«01_k».proof.Proof.Gen.ScInDx.Frame
public import proofs.«01_k».proof.Proof.Gen.ScInDxRefIdeal.Run
public import proofs.«01_k».proof.Proof.ScInDxVal
public import Idealize.ShloMosaic.Lib.Claim
public import Idealize.ShloMosaic.Adequacy
public import Idealize.ShloMosaic.Init

/-!
The claims about the eighteen products of the step: each kernel ends with its arguments unchanged and every semaphore at zero,
and leaves the array of its reference.
-/

@[expose] public section

set_option maxRecDepth 16384

noncomputable section

namespace Cert.Products

open Idealize.ShloMosaic Idealize.SL.Sem

theorem FfnDown_ref : Cert.quiescent_FfnDownRefIdeal := fun m ρ _ =>
  (θ_run Cert.FfnDownRefIdeal.defs _ _).mono (fun r h => ⟨fun c => (h c).2, sem_eq_zero_of_no_sems rfl _⟩) (Cert.FfnDownRefIdeal.Value.run m ρ)

theorem FfnDown_value : Cert.algebraic_FfnDownIdeal_FfnDownRefIdeal := by
  pair_intro
  · run_from Cert.FfnDownIdeal.Gen.run_main m g
  · run_from Cert.FfnDownRefIdeal.Value.run m' g'
    exact ((Cert.FfnDownRefIdeal.Read.val_main_v3_eq _ _ _).trans (Cert.FfnDownIdeal.Value.ref_eq _ _ _)).trans (Cert.FfnDownIdeal.Value.final m c).symm

theorem FfnDownDx_ref : Cert.quiescent_FfnDownDxRefIdeal := fun m ρ _ =>
  (θ_run Cert.FfnDownDxRefIdeal.defs _ _).mono (fun r h => ⟨fun c => (h c).2, sem_eq_zero_of_no_sems rfl _⟩) (Cert.FfnDownDxRefIdeal.Value.run m ρ)

theorem FfnDownDx_value : Cert.algebraic_FfnDownDxIdeal_FfnDownDxRefIdeal := by
  pair_intro
  · run_from Cert.FfnDownDxIdeal.Gen.run_main m g
  · run_from Cert.FfnDownDxRefIdeal.Value.run m' g'
    exact ((Cert.FfnDownDxRefIdeal.Read.val_main_v5_eq _ _).trans (Cert.FfnDownDxIdeal.Value.ref_eq _ _)).trans (Cert.FfnDownDxIdeal.Value.final m c).symm

theorem FfnDownDw_ref : Cert.quiescent_FfnDownDwRefIdeal := fun m ρ _ =>
  (θ_run Cert.FfnDownDwRefIdeal.defs _ _).mono (fun r h => ⟨fun c => (h c).2, sem_eq_zero_of_no_sems rfl _⟩) (Cert.FfnDownDwRefIdeal.Value.run m ρ)

theorem FfnDownDw_value : Cert.algebraic_FfnDownDwIdeal_FfnDownDwRefIdeal := by
  pair_intro
  · run_from Cert.FfnDownDwIdeal.Gen.run_main m g
  · run_from Cert.FfnDownDwRefIdeal.Value.run m' g'
    exact ((Cert.FfnDownDwRefIdeal.Read.val_main_v6_eq _ _).trans (Cert.FfnDownDwIdeal.Value.ref_eq _ _)).trans (Cert.FfnDownDwIdeal.Value.final m c).symm

theorem FfnUp_ref : Cert.quiescent_FfnUpRefIdeal := fun m ρ _ =>
  (θ_run Cert.FfnUpRefIdeal.defs _ _).mono (fun r h => ⟨fun c => (h c).2, sem_eq_zero_of_no_sems rfl _⟩) (Cert.FfnUpRefIdeal.Value.run m ρ)

theorem FfnUp_value : Cert.algebraic_FfnUpIdeal_FfnUpRefIdeal := by
  pair_intro
  · run_from Cert.FfnUpIdeal.Gen.run_main m g
  · run_from Cert.FfnUpRefIdeal.Value.run m' g'
    exact ((Cert.FfnUpRefIdeal.Read.val_main_v7_eq _ _).trans (Cert.FfnUpIdeal.Value.ref_eq _ _)).trans (Cert.FfnUpIdeal.Value.final m c).symm

theorem FfnUpDw_ref : Cert.quiescent_FfnUpDwRefIdeal := fun m ρ _ =>
  (θ_run Cert.FfnUpDwRefIdeal.defs _ _).mono (fun r h => ⟨fun c => (h c).2, sem_eq_zero_of_no_sems rfl _⟩) (Cert.FfnUpDwRefIdeal.Value.run m ρ)

theorem FfnUpDw_value : Cert.algebraic_FfnUpDwIdeal_FfnUpDwRefIdeal := by
  pair_intro
  · run_from Cert.FfnUpDwIdeal.Gen.run_main m g
  · run_from Cert.FfnUpDwRefIdeal.Value.run m' g'
    exact ((Cert.FfnUpDwRefIdeal.Read.val_main_v12_eq _ _).trans (Cert.FfnUpDwIdeal.Value.ref_eq _ _)).trans (Cert.FfnUpDwIdeal.Value.final m c).symm

theorem FfnUpDx_ref : Cert.quiescent_FfnUpDxRefIdeal := fun m ρ _ =>
  (θ_run Cert.FfnUpDxRefIdeal.defs _ _).mono (fun r h => ⟨fun c => (h c).2, sem_eq_zero_of_no_sems rfl _⟩) (Cert.FfnUpDxRefIdeal.Value.run m ρ)

theorem FfnUpDx_value : Cert.algebraic_FfnUpDxIdeal_FfnUpDxRefIdeal := by
  pair_intro
  · run_from Cert.FfnUpDxIdeal.Gen.run_main m g
  · run_from Cert.FfnUpDxRefIdeal.Value.run m' g'
    exact ((Cert.FfnUpDxRefIdeal.Read.val_main_v9_eq _ _).trans (Cert.FfnUpDxIdeal.Value.ref_eq _ _)).trans (Cert.FfnUpDxIdeal.Value.final m c).symm

theorem SsdIn_ref : Cert.quiescent_SsdInRefIdeal := fun m ρ _ =>
  (θ_run Cert.SsdInRefIdeal.defs _ _).mono (fun r h => ⟨fun c => (h c).2, sem_eq_zero_of_no_sems rfl _⟩) (Cert.SsdInRefIdeal.Value.run m ρ)

theorem SsdIn_value : Cert.algebraic_SsdInIdeal_SsdInRefIdeal := by
  pair_intro
  · run_from Cert.SsdInIdeal.Gen.run_main m g
  · run_from Cert.SsdInRefIdeal.Value.run m' g'
    exact ((Cert.SsdInRefIdeal.Read.val_main_v3_eq _ _).trans (Cert.SsdInIdeal.Value.ref_eq _ _)).trans (Cert.SsdInIdeal.Value.final m c).symm

theorem SsdOut_ref : Cert.quiescent_SsdOutRefIdeal := fun m ρ _ =>
  (θ_run Cert.SsdOutRefIdeal.defs _ _).mono (fun r h => ⟨fun c => (h c).2, sem_eq_zero_of_no_sems rfl _⟩) (Cert.SsdOutRefIdeal.Value.run m ρ)

theorem SsdOut_value : Cert.algebraic_SsdOutIdeal_SsdOutRefIdeal := by
  pair_intro
  · run_from Cert.SsdOutIdeal.Gen.run_main m g
  · run_from Cert.SsdOutRefIdeal.Value.run m' g'
    exact ((Cert.SsdOutRefIdeal.Read.val_main_v3_eq _ _ _).trans (Cert.SsdOutIdeal.Value.ref_eq _ _ _)).trans (Cert.SsdOutIdeal.Value.final m c).symm

theorem SsdOutDx_ref : Cert.quiescent_SsdOutDxRefIdeal := fun m ρ _ =>
  (θ_run Cert.SsdOutDxRefIdeal.defs _ _).mono (fun r h => ⟨fun c => (h c).2, sem_eq_zero_of_no_sems rfl _⟩) (Cert.SsdOutDxRefIdeal.Value.run m ρ)

theorem SsdOutDx_value : Cert.algebraic_SsdOutDxIdeal_SsdOutDxRefIdeal := by
  pair_intro
  · run_from Cert.SsdOutDxIdeal.Gen.run_main m g
  · run_from Cert.SsdOutDxRefIdeal.Value.run m' g'
    exact ((Cert.SsdOutDxRefIdeal.Read.val_main_v5_eq _ _).trans (Cert.SsdOutDxIdeal.Value.ref_eq _ _)).trans (Cert.SsdOutDxIdeal.Value.final m c).symm

theorem SsdOutDw_ref : Cert.quiescent_SsdOutDwRefIdeal := fun m ρ _ =>
  (θ_run Cert.SsdOutDwRefIdeal.defs _ _).mono (fun r h => ⟨fun c => (h c).2, sem_eq_zero_of_no_sems rfl _⟩) (Cert.SsdOutDwRefIdeal.Value.run m ρ)

theorem SsdOutDw_value : Cert.algebraic_SsdOutDwIdeal_SsdOutDwRefIdeal := by
  pair_intro
  · run_from Cert.SsdOutDwIdeal.Gen.run_main m g
  · run_from Cert.SsdOutDwRefIdeal.Value.run m' g'
    exact ((Cert.SsdOutDwRefIdeal.Read.val_main_v6_eq _ _).trans (Cert.SsdOutDwIdeal.Value.ref_eq _ _)).trans (Cert.SsdOutDwIdeal.Value.final m c).symm

theorem SsdInDw_ref : Cert.quiescent_SsdInDwRefIdeal := fun m ρ _ =>
  (θ_run Cert.SsdInDwRefIdeal.defs _ _).mono (fun r h => ⟨fun c => (h c).2, sem_eq_zero_of_no_sems rfl _⟩) (Cert.SsdInDwRefIdeal.Value.run m ρ)

theorem SsdInDw_value : Cert.algebraic_SsdInDwIdeal_SsdInDwRefIdeal := by
  pair_intro
  · run_from Cert.SsdInDwIdeal.Gen.run_main m g
  · run_from Cert.SsdInDwRefIdeal.Value.run m' g'
    exact ((Cert.SsdInDwRefIdeal.Read.val_main_v6_eq _ _).trans (Cert.SsdInDwIdeal.Value.ref_eq _ _)).trans (Cert.SsdInDwIdeal.Value.final m c).symm

theorem SsdInDx_ref : Cert.quiescent_SsdInDxRefIdeal := fun m ρ _ =>
  (θ_run Cert.SsdInDxRefIdeal.defs _ _).mono (fun r h => ⟨fun c => (h c).2, sem_eq_zero_of_no_sems rfl _⟩) (Cert.SsdInDxRefIdeal.Value.run m ρ)

theorem SsdInDx_value : Cert.algebraic_SsdInDxIdeal_SsdInDxRefIdeal := by
  pair_intro
  · run_from Cert.SsdInDxIdeal.Gen.run_main m g
  · run_from Cert.SsdInDxRefIdeal.Value.run m' g'
    exact ((Cert.SsdInDxRefIdeal.Read.val_main_v5_eq _ _).trans (Cert.SsdInDxIdeal.Value.ref_eq _ _)).trans (Cert.SsdInDxIdeal.Value.final m c).symm

theorem ScIn_ref : Cert.quiescent_ScInRefIdeal := fun m ρ _ =>
  (θ_run Cert.ScInRefIdeal.defs _ _).mono (fun r h => ⟨fun c => (h c).2, sem_eq_zero_of_no_sems rfl _⟩) (Cert.ScInRefIdeal.Value.run m ρ)

theorem ScIn_value : Cert.algebraic_ScInIdeal_ScInRefIdeal := by
  pair_intro
  · run_from Cert.ScInIdeal.Gen.run_main m g
  · run_from Cert.ScInRefIdeal.Value.run m' g'
    exact ((Cert.ScInRefIdeal.Read.val_main_v5_eq _ _).trans (Cert.ScInIdeal.Value.ref_eq _ _)).trans (Cert.ScInIdeal.Value.final m c).symm

theorem ScOut_ref : Cert.quiescent_ScOutRefIdeal := fun m ρ _ =>
  (θ_run Cert.ScOutRefIdeal.defs _ _).mono (fun r h => ⟨fun c => (h c).2, sem_eq_zero_of_no_sems rfl _⟩) (Cert.ScOutRefIdeal.Value.run m ρ)

theorem ScOut_value : Cert.algebraic_ScOutIdeal_ScOutRefIdeal := by
  pair_intro
  · run_from Cert.ScOutIdeal.Gen.run_main m g
  · run_from Cert.ScOutRefIdeal.Value.run m' g'
    exact ((Cert.ScOutRefIdeal.Read.val_main_v3_eq _ _ _).trans (Cert.ScOutIdeal.Value.ref_eq _ _ _)).trans (Cert.ScOutIdeal.Value.final m c).symm

theorem ScOutDx_ref : Cert.quiescent_ScOutDxRefIdeal := fun m ρ _ =>
  (θ_run Cert.ScOutDxRefIdeal.defs _ _).mono (fun r h => ⟨fun c => (h c).2, sem_eq_zero_of_no_sems rfl _⟩) (Cert.ScOutDxRefIdeal.Value.run m ρ)

theorem ScOutDx_value : Cert.algebraic_ScOutDxIdeal_ScOutDxRefIdeal := by
  pair_intro
  · run_from Cert.ScOutDxIdeal.Gen.run_main m g
  · run_from Cert.ScOutDxRefIdeal.Value.run m' g'
    exact ((Cert.ScOutDxRefIdeal.Read.val_main_v5_eq _ _).trans (Cert.ScOutDxIdeal.Value.ref_eq _ _)).trans (Cert.ScOutDxIdeal.Value.final m c).symm

theorem ScOutDw_ref : Cert.quiescent_ScOutDwRefIdeal := fun m ρ _ =>
  (θ_run Cert.ScOutDwRefIdeal.defs _ _).mono (fun r h => ⟨fun c => (h c).2, sem_eq_zero_of_no_sems rfl _⟩) (Cert.ScOutDwRefIdeal.Value.run m ρ)

theorem ScOutDw_value : Cert.algebraic_ScOutDwIdeal_ScOutDwRefIdeal := by
  pair_intro
  · run_from Cert.ScOutDwIdeal.Gen.run_main m g
  · run_from Cert.ScOutDwRefIdeal.Value.run m' g'
    exact ((Cert.ScOutDwRefIdeal.Read.val_main_v6_eq _ _).trans (Cert.ScOutDwIdeal.Value.ref_eq _ _)).trans (Cert.ScOutDwIdeal.Value.final m c).symm

theorem ScInDw_ref : Cert.quiescent_ScInDwRefIdeal := fun m ρ _ =>
  (θ_run Cert.ScInDwRefIdeal.defs _ _).mono (fun r h => ⟨fun c => (h c).2, sem_eq_zero_of_no_sems rfl _⟩) (Cert.ScInDwRefIdeal.Value.run m ρ)

theorem ScInDw_value : Cert.algebraic_ScInDwIdeal_ScInDwRefIdeal := by
  pair_intro
  · run_from Cert.ScInDwIdeal.Gen.run_main m g
  · run_from Cert.ScInDwRefIdeal.Value.run m' g'
    exact ((Cert.ScInDwRefIdeal.Read.val_main_v8_eq _ _).trans (Cert.ScInDwIdeal.Value.ref_eq _ _)).trans (Cert.ScInDwIdeal.Value.final m c).symm

theorem ScInDx_ref : Cert.quiescent_ScInDxRefIdeal := fun m ρ _ =>
  (θ_run Cert.ScInDxRefIdeal.defs _ _).mono (fun r h => ⟨fun c => (h c).2, sem_eq_zero_of_no_sems rfl _⟩) (Cert.ScInDxRefIdeal.Value.run m ρ)

theorem ScInDx_value : Cert.algebraic_ScInDxIdeal_ScInDxRefIdeal := by
  pair_intro
  · run_from Cert.ScInDxIdeal.Gen.run_main m g
  · run_from Cert.ScInDxRefIdeal.Value.run m' g'
    exact ((Cert.ScInDxRefIdeal.Read.val_main_v7_eq _ _).trans (Cert.ScInDxIdeal.Value.ref_eq _ _)).trans (Cert.ScInDxIdeal.Value.final m c).symm

end Cert.Products

end
-- ==== Proof.ScSpec.lean ====
module
public import Idealize.ShloMosaic.Lib.Pointwise

/-!
The gradient of the gated short convolution, written for one channel as functions of the token.

The forward lines are `q = cg * h`, `cq n = q (n-2) * w 0 + q (n-1) * w 1 + q n * w 2` (tokens before the first are zero) and
`a = bg * cq`. Below, a column of 4096 values is read through `tok`: position `n + 16` is token `n`, and everything before token 0 or
after token 4095 is zero.
-/

@[expose] public section

noncomputable section

open scoped BigOperators

namespace Cert.ShortConv

/-- Token `n - 16` of a column of 4096 values, and zero outside. -/
def tok (f : Fin 4096 → EReal) (n : ℕ) : EReal := if h : 16 ≤ n ∧ n < 4112 then f ⟨n - 16, by omega⟩ else 0

theorem tok_mul (f g : Fin 4096 → EReal) (n : ℕ) : tok f n * tok g n = tok (fun a => f a * g a) n := by
  unfold tok; split <;> simp

theorem tok_in (f : Fin 4096 → EReal) (n : ℕ) (h : n < 4096) : tok f (n + 16) = f ⟨n, h⟩ := by
  unfold tok; rw [dif_pos (by omega)]; congr 1

/-- The gated input of the convolution. -/
def q (cg h : Fin 4096 → EReal) (n : ℕ) : EReal := tok cg n * tok h n

/-- The causal convolution of width 3. -/
def cq (cg h : Fin 4096 → EReal) (w : Fin 3 → EReal) (n : ℕ) : EReal :=
  q cg h (n - 2) * w 0 + q cg h (n - 1) * w 1 + q cg h n * w 2

/-- The cotangent of the convolution's result. -/
def dcq (da bg : Fin 4096 → EReal) (n : ℕ) : EReal := tok da n * tok bg n

/-- The cotangent of the convolution's input: the convolution run backwards in time. -/
def dq (da bg : Fin 4096 → EReal) (w : Fin 3 → EReal) (n : ℕ) : EReal :=
  dcq da bg (n + 2) * w 0 + dcq da bg (n + 1) * w 1 + dcq da bg n * w 2

/-- The gradient with respect to plane `p` of the projection (`bg`, `cg`, `h`) at token `n`. -/
def dp (bg cg h da : Fin 4096 → EReal) (w : Fin 3 → EReal) (p : Fin 3) (n : Fin 4096) : EReal :=
  if p.val = 0 then da n * cq cg h w (n.val + 16)
  else if p.val = 1 then dq da bg w (n.val + 16) * h n
  else dq da bg w (n.val + 16) * cg n

/-- The gradient with respect to tap `k`: token `n` of `dcq` against token `n - (2 - k)` of `q`. -/
def dw (bg cg h da : Fin 4096 → EReal) (k : Fin 3) : EReal :=
  ∑ n : Fin 4096, dcq da bg (n.val + 16) * q cg h (n.val + 16 - (2 - k.val))

end Cert.ShortConv

end
-- ==== Proof.ScBlock.lean ====
module
public import proofs.«01_k».proof.Proof.ScSpec
public import proofs.«01_k».proof.Proof.Gen.ScActBwdIdeal.Value
public import Idealize.ShloMosaic.Lib.Pipeline.ValueKit
public import Idealize.ShloMosaic.Lib.Pointwise

/-!
What one grid point of the short convolution's backward kernel computes, read at an index: the extended
tiles (16 rows before, 512 rows, 16 rows after), the convolutions of them, and the three planes it stores.
-/

@[expose] public section

set_option maxRecDepth 16384

noncomputable section

open Idealize.ShloMosaic Idealize.ShloMosaic.TcCoe Idealize.SL.Sem
open Idealize.ShloMosaic.Pipeline (Dat)
open scoped BigOperators

namespace Cert.ScActBwdIdeal.Value

open Cert.ScActBwdIdeal Cert.ScActBwdIdeal.Gen Cert.ShortConv

variable (m : (ℓ : Loc nD τ sig) → Buf (Elt Ideal) ℓ)

/-- The blocks of every window at grid point `t`: the token tile is `t % 8`, the channel tile `t / 8`. -/
theorem idx_val : ∀ t : Fin cfg0.N, win0_0.index t = ![0, t.val % 8, t.val / 8]
    ∧ win0_1.index t = ![0, t.val % 8 * 32 - 1, t.val / 8]
    ∧ win0_2.index t = ![0, min ((t.val % 8 + 1) * 32) 255, t.val / 8]
    ∧ win0_3.index t = ![t.val % 8, t.val / 8]
    ∧ win0_4.index t = ![min ((t.val % 8 + 1) * 32) 255, t.val / 8]
    ∧ win0_5.index t = ![0, t.val / 8]
    ∧ win0_6.index t = ![0, t.val % 8, t.val / 8]
    ∧ win0_7.index t = ![0, t.val / 8]
    ∧ (grid0.coords t 1).val = t.val % 8 :=
  (by decide +kernel : ∀ t : Fin grid0.N, _)

theorem coord1 (t : Fin cfg0.N) : (grid0.coords t 1).val = t.val % 8 := (idx_val t).2.2.2.2.2.2.2.2

theorem tN (t : Fin cfg0.N) : t.val < 32 := lt_of_lt_of_eq t.isLt N_0

theorem i1_lt (i : grid0.Coords) : (i 1).val < 8 := (i 1).isLt

/-- Lane `l` of grid point `t`, as a channel of the array. -/
def chan (t : Fin cfg0.N) (l : Fin 512) : Fin 2048 := ⟨t.val / 8 * 512 + l.val, by have := tN t; omega⟩

/-- Plane `p` of the projection, one channel. -/
abbrev col (c : Dev nD) (p : Fin 3) (ch : Fin 2048) : Fin 4096 → EReal := fun n => m ((c : Thread nD τ).loc main_arg0) (ix3 p n ch)
/-- The cotangent of the result, one channel. -/
abbrev colD (c : Dev nD) (ch : Fin 2048) : Fin 4096 → EReal := fun n => m ((c : Thread nD τ).loc main_arg1) (ix2 n ch)
/-- The three taps of one channel. -/
abbrev taps (c : Dev nD) (ch : Fin 2048) : Fin 3 → EReal := fun k => m ((c : Thread nD τ).loc main_arg2) (ix2 k ch)

theorem sel_eq (k n : ℕ) (hk : k < 8) (hn : n < 8) (a b : EReal) :
    Scalar.select (Scalar.cmpi CmpIPredicate.eq (BitVec.ofNat 32 k) (BitVec.ofNat 32 n)) a b = if k = n then a else b := by
  have : (BitVec.ofNat 32 k == BitVec.ofNat 32 n) = decide (k = n) := by
    interval_cases k <;> interval_cases n <;> decide
  by_cases h : k = n <;> simp [Scalar.select, Scalar.cmpi, IntOp.cmpi, this, h]

theorem pay4_apply (i : grid0.Coords) (x : Vec Ideal S1x16x512 .bf16) (y : Vec Ideal S1x512x512 .bf16) (z : Vec Ideal S1x16x512 .bf16)
    (e : Fin 544) (l : Fin 512) :
    k0_pay4 (F := Ideal) i x y z (ix2 e l)
      = if h : e.val < 16 then (if (i 1).val = 0 then (0 : EReal) else x (ix3 0 ⟨e.val, h⟩ l))
        else if h : e.val - 16 < 512 then y (ix3 0 ⟨e.val - 16, h⟩ l)
        else (if (i 1).val = 7 then (0 : EReal) else z (ix3 0 ⟨e.val - 16 - 512, by omega⟩ l)) := by
  have hi := i1_lt i
  pointwise [k0_pay4]
  split
  · exact sel_eq _ 0 hi (by omega) _ _
  · split
    · rfl
    · exact sel_eq _ 7 hi (by omega) _ _

/-- The extended tile of plane 0. -/
def bgE (c : Dev nD) (t : Fin cfg0.N) : FVec Ideal S544x512 .f32 :=
  k0_pay4 (F := Ideal) (grid0.coords t)
    (View.ld (iblk m c 1 t) (Rect.unit ![0, 0, 0] ![1, 16, 512] inb_S3x16x512_S1x16x512_0_0_0))
    (View.ld (iblk m c 0 t) (Rect.unit ![0, 0, 0] ![1, 512, 512] inb_S3x512x512_S1x512x512_0_0_0))
    (View.ld (iblk m c 2 t) (Rect.unit ![0, 0, 0] ![1, 16, 512] inb_S3x16x512_S1x16x512_0_0_0))

theorem bgE_apply (c : Dev nD) (t : Fin cfg0.N) (e : Fin 544) (l : Fin 512) :
    bgE m c t (ix2 e l) = tok (col m c 0 (chan t l)) (t.val % 8 * 512 + e.val) := by
  have ht := tN t
  unfold tok bgE
  rw [pay4_apply, coord1]
  pointwise
  blk_point [iblk, V, idx_val t, chan, col, colD, taps]
  all_goals (exfalso; omega)

theorem pay5_apply (i : grid0.Coords) (x : Vec Ideal S1x16x512 .bf16) (y : Vec Ideal S1x512x512 .bf16) (z : Vec Ideal S1x16x512 .bf16)
    (e : Fin 544) (l : Fin 512) :
    k0_pay5 (F := Ideal) i x y z (ix2 e l)
      = if h : e.val < 16 then (if (i 1).val = 0 then (0 : EReal) else x (ix3 0 ⟨e.val, h⟩ l))
        else if h : e.val - 16 < 512 then y (ix3 0 ⟨e.val - 16, h⟩ l)
        else (if (i 1).val = 7 then (0 : EReal) else z (ix3 0 ⟨e.val - 16 - 512, by omega⟩ l)) := by
  have hi := i1_lt i
  pointwise [k0_pay5]
  split
  · exact sel_eq _ 0 hi (by omega) _ _
  · split
    · rfl
    · exact sel_eq _ 7 hi (by omega) _ _

/-- The extended tile of plane 1. -/
def cgE (c : Dev nD) (t : Fin cfg0.N) : FVec Ideal S544x512 .f32 :=
  k0_pay5 (F := Ideal) (grid0.coords t)
    (View.ld (iblk m c 1 t) (Rect.unit ![1, 0, 0] ![1, 16, 512] inb_S3x16x512_S1x16x512_1_0_0))
    (View.ld (iblk m c 0 t) (Rect.unit ![1, 0, 0] ![1, 512, 512] inb_S3x512x512_S1x512x512_1_0_0))
    (View.ld (iblk m c 2 t) (Rect.unit ![1, 0, 0] ![1, 16, 512] inb_S3x16x512_S1x16x512_1_0_0))

theorem cgE_apply (c : Dev nD) (t : Fin cfg0.N) (e : Fin 544) (l : Fin 512) :
    cgE m c t (ix2 e l) = tok (col m c 1 (chan t l)) (t.val % 8 * 512 + e.val) := by
  have ht := tN t
  unfold tok cgE
  rw [pay5_apply, coord1]
  pointwise
  blk_point [iblk, V, idx_val t, chan, col, colD, taps]
  all_goals (exfalso; omega)

theorem pay6_apply (i : grid0.Coords) (x : Vec Ideal S1x16x512 .bf16) (y : Vec Ideal S1x512x512 .bf16) (z : Vec Ideal S1x16x512 .bf16)
    (e : Fin 544) (l : Fin 512) :
    k0_pay6 (F := Ideal) (Scalar.cmpi CmpIPredicate.eq (BitVec.ofNat 32 (i 1).val) 0#32) (Scalar.cmpi CmpIPredicate.eq (BitVec.ofNat 32 (i 1).val) 7#32) x y z (ix2 e l)
      = if h : e.val < 16 then (if (i 1).val = 0 then (0 : EReal) else x (ix3 0 ⟨e.val, h⟩ l))
        else if h : e.val - 16 < 512 then y (ix3 0 ⟨e.val - 16, h⟩ l)
        else (if (i 1).val = 7 then (0 : EReal) else z (ix3 0 ⟨e.val - 16 - 512, by omega⟩ l)) := by
  have hi := i1_lt i
  pointwise [k0_pay6]
  split
  · exact sel_eq _ 0 hi (by omega) _ _
  · split
    · rfl
    · exact sel_eq _ 7 hi (by omega) _ _

/-- The extended tile of plane 2. -/
def hhE (c : Dev nD) (t : Fin cfg0.N) : FVec Ideal S544x512 .f32 :=
  k0_pay6 (F := Ideal) (Scalar.cmpi CmpIPredicate.eq (BitVec.ofNat 32 (grid0.coords t 1).val) 0#32) (Scalar.cmpi CmpIPredicate.eq (BitVec.ofNat 32 (grid0.coords t 1).val) 7#32)
    (View.ld (iblk m c 1 t) (Rect.unit ![2, 0, 0] ![1, 16, 512] inb_S3x16x512_S1x16x512_2_0_0))
    (View.ld (iblk m c 0 t) (Rect.unit ![2, 0, 0] ![1, 512, 512] inb_S3x512x512_S1x512x512_2_0_0))
    (View.ld (iblk m c 2 t) (Rect.unit ![2, 0, 0] ![1, 16, 512] inb_S3x16x512_S1x16x512_2_0_0))

theorem hhE_apply (c : Dev nD) (t : Fin cfg0.N) (e : Fin 544) (l : Fin 512) :
    hhE m c t (ix2 e l) = tok (col m c 2 (chan t l)) (t.val % 8 * 512 + e.val) := by
  have ht := tN t
  unfold tok hhE
  rw [pay6_apply, coord1]
  pointwise
  blk_point [iblk, V, idx_val t, chan, col, colD, taps]
  all_goals (exfalso; omega)

theorem pay8_apply (v0 v1 : BitVec 1) (v29 : FVec Ideal S544x512 .f32) (v30 : Vec Ideal S1x16x512 .bf16) (v32 : Vec Ideal S1x512x512 .bf16)
    (v34 : Vec Ideal S1x16x512 .bf16) (w0 w1 w2 : Vec Ideal S1x512 .f32) (e : Fin 544) (l : Fin 512) :
    k0_pay8 v0 v1 v29 v30 v32 v34 w0 w1 w2 (ix2 e l)
      = k0_pay7 v0 v1 v29 v30 v32 v34 (ix2 ⟨(e.val + 544 - 2) % 544, by omega⟩ l) * w0 (ix2 0 l)
        + k0_pay7 v0 v1 v29 v30 v32 v34 (ix2 ⟨(e.val + 544 - 1) % 544, by omega⟩ l) * w1 (ix2 0 l)
        + k0_pay7 v0 v1 v29 v30 v32 v34 (ix2 e l) * w2 (ix2 0 l) := by
  pointwise [k0_pay8]

theorem pay14_apply (v15 : FVec Ideal S544x512 .f32) (v62 : FVec Ideal S16x512 .f32) (v63 : FVec Ideal S512x512 .f32) (v66 : FVec Ideal S16x512 .f32) (w0 w1 w2 : Vec Ideal S1x512 .f32)
    (r l : Fin 512) :
    k0_pay14 v15 v62 v63 v66 w0 w1 w2 (ix2 r l)
      = k0_pay13 v15 v62 v63 v66 (ix2 ⟨(16 + r.val + 544 - 542) % 544, by omega⟩ l) * w0 (ix2 0 l)
        + k0_pay13 v15 v62 v63 v66 (ix2 ⟨(16 + r.val + 544 - 543) % 544, by omega⟩ l) * w1 (ix2 0 l)
        + k0_pay13 v15 v62 v63 v66 (ix2 ⟨16 + r.val, by omega⟩ l) * w2 (ix2 0 l) := by
  pointwise [k0_pay14]

theorem pay15_apply (v57 : FVec Ideal S544x512 .f32) (v62 : FVec Ideal S16x512 .f32) (v63 : FVec Ideal S512x512 .f32) (v66 : FVec Ideal S16x512 .f32) (r l : Fin 512) :
    k0_pay15 v57 v62 v63 v66 (ix3 0 r l)
      = k0_pay12 v62 v63 v66 (ix2 ⟨16 + r.val, by omega⟩ l) * v57 (ix2 ⟨16 + r.val, by omega⟩ l) := by
  pointwise [k0_pay15]

theorem pay16_apply (v15 v43 : FVec Ideal S544x512 .f32) (v62 : FVec Ideal S16x512 .f32) (v63 : FVec Ideal S512x512 .f32) (v66 : FVec Ideal S16x512 .f32) (w0 w1 w2 : Vec Ideal S1x512 .f32)
    (r l : Fin 512) :
    k0_pay16 v15 v43 v62 v63 v66 w0 w1 w2 (ix3 0 r l)
      = k0_pay14 v15 v62 v63 v66 w0 w1 w2 (ix2 r l) * v43 (ix2 ⟨16 + r.val, by omega⟩ l) := by
  pointwise [k0_pay16]

theorem pay17_apply (v15 v29 : FVec Ideal S544x512 .f32) (v62 : FVec Ideal S16x512 .f32) (v63 : FVec Ideal S512x512 .f32) (v66 : FVec Ideal S16x512 .f32) (w0 w1 w2 : Vec Ideal S1x512 .f32)
    (r l : Fin 512) :
    k0_pay17 v15 v29 v62 v63 v66 w0 w1 w2 (ix3 0 r l)
      = k0_pay14 v15 v62 v63 v66 w0 w1 w2 (ix2 r l) * v29 (ix2 ⟨16 + r.val, by omega⟩ l) := by
  pointwise [k0_pay17]

/-- The extended tile of `q = cg * h`. -/
def qE (c : Dev nD) (t : Fin cfg0.N) : FVec Ideal S544x512 .f32 :=
  (k0_pay7 (F := Ideal) (Scalar.cmpi CmpIPredicate.eq (BitVec.ofNat 32 (grid0.coords t 1).val) 0#32) (Scalar.cmpi CmpIPredicate.eq (BitVec.ofNat 32 (grid0.coords t 1).val) 7#32) (cgE m c t)
      (View.ld (iblk m c 1 t) (Rect.unit ![2, 0, 0] ![1, 16, 512] inb_S3x16x512_S1x16x512_2_0_0))
      (View.ld (iblk m c 0 t) (Rect.unit ![2, 0, 0] ![1, 512, 512] inb_S3x512x512_S1x512x512_2_0_0))
      (View.ld (iblk m c 2 t) (Rect.unit ![2, 0, 0] ![1, 16, 512] inb_S3x16x512_S1x16x512_2_0_0)))

theorem qE_apply (c : Dev nD) (t : Fin cfg0.N) (e : Fin 544) (l : Fin 512) :
    qE m c t (ix2 e l) = q (col m c 1 (chan t l)) (col m c 2 (chan t l)) (t.val % 8 * 512 + e.val) :=
  congrArg₂ (· * ·) (cgE_apply m c t e l) (hhE_apply m c t e l)

/-- The extended tile of the cotangent: the rows before the tile are not needed, and are zero. -/
def daE (c : Dev nD) (t : Fin cfg0.N) : FVec Ideal S544x512 .f32 := k0_pay12 (F := Ideal) k0_pay9 (k0_pay10 (iblk m c 3 t)) (k0_pay11 (Scalar.cmpi CmpIPredicate.eq (BitVec.ofNat 32 (grid0.coords t 1).val) 7#32) (iblk m c 4 t))

theorem daE_apply (c : Dev nD) (t : Fin cfg0.N) (e : Fin 544) (l : Fin 512) (he : 16 ≤ e.val) :
    daE m c t (ix2 e l) = tok (colD m c (chan t l)) (t.val % 8 * 512 + e.val) := by
  have ht := tN t
  have h8 : k0_pay11 (F := Ideal) (Scalar.cmpi CmpIPredicate.eq (BitVec.ofNat 32 (grid0.coords t 1).val) 7#32) (iblk m c 4 t)
      = fun j => if t.val % 8 = 7 then (0 : EReal) else iblk m c 4 t j := by
    funext j
    unfold k0_pay11
    rw [coord1]
    pointwise
    exact sel_eq _ 7 (by omega) (by omega) _ _
  unfold tok daE
  rw [h8]
  pointwise [k0_pay12, k0_pay10]
  rw [dif_neg (by omega)]
  blk_point [iblk, V, idx_val t, chan, col, colD, taps]
  all_goals (exfalso; omega)

/-- The extended tile of `dcq = da * bg`. -/
def dcE (c : Dev nD) (t : Fin cfg0.N) : FVec Ideal S544x512 .f32 := k0_pay13 (F := Ideal) (bgE m c t) k0_pay9 (k0_pay10 (iblk m c 3 t)) (k0_pay11 (Scalar.cmpi CmpIPredicate.eq (BitVec.ofNat 32 (grid0.coords t 1).val) 7#32) (iblk m c 4 t))

theorem dcE_apply (c : Dev nD) (t : Fin cfg0.N) (e : Fin 544) (l : Fin 512) (he : 16 ≤ e.val) :
    dcE m c t (ix2 e l) = dcq (colD m c (chan t l)) (col m c 0 (chan t l)) (t.val % 8 * 512 + e.val) :=
  congrArg₂ (· * ·) (daE_apply m c t e l he) (bgE_apply m c t e l)

theorem tap0_apply (c : Dev nD) (t : Fin cfg0.N) (l : Fin 512) :
    View.ld (iblk m c 5 t) (Rect.unit ![0, 0] ![1, 512] inb_S3x512_S1x512_0_0) (ix2 0 l) = taps m c (chan t l) 0 := by
  have ht := tN t
  pointwise
  blk_point [iblk, V, idx_val t, chan, col, colD, taps]

theorem tap1_apply (c : Dev nD) (t : Fin cfg0.N) (l : Fin 512) :
    View.ld (iblk m c 5 t) (Rect.unit ![1, 0] ![1, 512] inb_S3x512_S1x512_1_0) (ix2 0 l) = taps m c (chan t l) 1 := by
  have ht := tN t
  pointwise
  blk_point [iblk, V, idx_val t, chan, col, colD, taps]

theorem tap2_apply (c : Dev nD) (t : Fin cfg0.N) (l : Fin 512) :
    View.ld (iblk m c 5 t) (Rect.unit ![2, 0] ![1, 512] inb_S3x512_S1x512_2_0) (ix2 0 l) = taps m c (chan t l) 2 := by
  have ht := tN t
  pointwise
  blk_point [iblk, V, idx_val t, chan, col, colD, taps]

/-- The convolution of the extended tile. -/
def cqE (c : Dev nD) (t : Fin cfg0.N) : FVec Ideal S544x512 .f32 :=
  (k0_pay8 (F := Ideal) (Scalar.cmpi CmpIPredicate.eq (BitVec.ofNat 32 (grid0.coords t 1).val) 0#32) (Scalar.cmpi CmpIPredicate.eq (BitVec.ofNat 32 (grid0.coords t 1).val) 7#32) (cgE m c t)
      (View.ld (iblk m c 1 t) (Rect.unit ![2, 0, 0] ![1, 16, 512] inb_S3x16x512_S1x16x512_2_0_0))
      (View.ld (iblk m c 0 t) (Rect.unit ![2, 0, 0] ![1, 512, 512] inb_S3x512x512_S1x512x512_2_0_0))
      (View.ld (iblk m c 2 t) (Rect.unit ![2, 0, 0] ![1, 16, 512] inb_S3x16x512_S1x16x512_2_0_0))
      (View.ld (iblk m c 5 t) (Rect.unit ![0, 0] ![1, 512] inb_S3x512_S1x512_0_0))
      (View.ld (iblk m c 5 t) (Rect.unit ![1, 0] ![1, 512] inb_S3x512_S1x512_1_0))
      (View.ld (iblk m c 5 t) (Rect.unit ![2, 0] ![1, 512] inb_S3x512_S1x512_2_0)))

theorem cqE_apply (c : Dev nD) (t : Fin cfg0.N) (e : Fin 544) (l : Fin 512) (he : 16 ≤ e.val) :
    cqE m c t (ix2 e l) = cq (col m c 1 (chan t l)) (col m c 2 (chan t l)) (taps m c (chan t l)) (t.val % 8 * 512 + e.val) := by
  have h2 : (e.val + 544 - 2) % 544 = e.val - 2 := by omega
  have h1 : (e.val + 544 - 1) % 544 = e.val - 1 := by omega
  have e2 : t.val % 8 * 512 + (e.val - 2) = t.val % 8 * 512 + e.val - 2 := by omega
  have e1 : t.val % 8 * 512 + (e.val - 1) = t.val % 8 * 512 + e.val - 1 := by omega
  unfold cqE
  rw [pay8_apply, tap0_apply, tap1_apply, tap2_apply]
  have := qE_apply m c t
  unfold qE at this
  rw [this, this, this]
  simp only [h2, h1, e2, e1, cq]

/-- The backward convolution of the tile. -/
def dqE (c : Dev nD) (t : Fin cfg0.N) : FVec Ideal S512x512 .f32 :=
  k0_pay14 (F := Ideal) (bgE m c t) k0_pay9 (k0_pay10 (iblk m c 3 t)) (k0_pay11 (Scalar.cmpi CmpIPredicate.eq (BitVec.ofNat 32 (grid0.coords t 1).val) 7#32) (iblk m c 4 t))
      (View.ld (iblk m c 5 t) (Rect.unit ![0, 0] ![1, 512] inb_S3x512_S1x512_0_0))
      (View.ld (iblk m c 5 t) (Rect.unit ![1, 0] ![1, 512] inb_S3x512_S1x512_1_0))
      (View.ld (iblk m c 5 t) (Rect.unit ![2, 0] ![1, 512] inb_S3x512_S1x512_2_0))

theorem dqE_apply (c : Dev nD) (t : Fin cfg0.N) (r l : Fin 512) :
    dqE m c t (ix2 r l) = dq (colD m c (chan t l)) (col m c 0 (chan t l)) (taps m c (chan t l)) (t.val % 8 * 512 + r.val + 16) := by
  have h2 : (16 + r.val + 544 - 542) % 544 = r.val + 18 := by omega
  have h1 : (16 + r.val + 544 - 543) % 544 = r.val + 17 := by omega
  have e2 : t.val % 8 * 512 + (r.val + 18) = t.val % 8 * 512 + r.val + 16 + 2 := by omega
  have e1 : t.val % 8 * 512 + (r.val + 17) = t.val % 8 * 512 + r.val + 16 + 1 := by omega
  have e0 : t.val % 8 * 512 + (16 + r.val) = t.val % 8 * 512 + r.val + 16 := by omega
  unfold dqE
  rw [pay14_apply, tap0_apply, tap1_apply, tap2_apply]
  have := dcE_apply m c t
  unfold dcE at this
  rw [this _ _ (by simp only [h2]; omega), this _ _ (by simp only [h1]; omega), this _ _ (by simp only; omega)]
  simp only [h2, h1, e2, e1, e0, dq]

/-- Token `r` of grid point `t`. -/
def row (t : Fin cfg0.N) (r : Fin 512) : Fin 4096 := ⟨t.val % 8 * 512 + r.val, by omega⟩

theorem centre (t : Fin cfg0.N) (r : Fin 512) (f : Fin 4096 → EReal) :
    tok f (t.val % 8 * 512 + (16 + r.val)) = f (row t r) := by
  rw [show t.val % 8 * 512 + (16 + r.val) = (row t r).val + 16 by simp only [row]; omega, tok_in _ _ (row t r).isLt]

theorem plane0 (c : Dev nD) (t : Fin cfg0.N) (r l : Fin 512) :
    k0_pay15 (F := Ideal) (cqE m c t) k0_pay9 (k0_pay10 (iblk m c 3 t)) (k0_pay11 (Scalar.cmpi CmpIPredicate.eq (BitVec.ofNat 32 (grid0.coords t 1).val) 7#32) (iblk m c 4 t)) (ix3 0 r l)
      = dp (col m c 0 (chan t l)) (col m c 1 (chan t l)) (col m c 2 (chan t l)) (colD m c (chan t l)) (taps m c (chan t l)) 0 (row t r) := by
  rw [pay15_apply]
  have := daE_apply m c t
  unfold daE at this
  rw [this _ _ (by simp only; omega), cqE_apply _ _ _ _ _ (by simp only; omega), centre]
  simp only [dp, row, show t.val % 8 * 512 + (16 + r.val) = t.val % 8 * 512 + r.val + 16 by omega]
  rfl

theorem plane1 (c : Dev nD) (t : Fin cfg0.N) (r l : Fin 512) :
    k0_pay16 (F := Ideal) (bgE m c t) (hhE m c t) k0_pay9 (k0_pay10 (iblk m c 3 t)) (k0_pay11 (Scalar.cmpi CmpIPredicate.eq (BitVec.ofNat 32 (grid0.coords t 1).val) 7#32) (iblk m c 4 t))
      (View.ld (iblk m c 5 t) (Rect.unit ![0, 0] ![1, 512] inb_S3x512_S1x512_0_0))
      (View.ld (iblk m c 5 t) (Rect.unit ![1, 0] ![1, 512] inb_S3x512_S1x512_1_0))
      (View.ld (iblk m c 5 t) (Rect.unit ![2, 0] ![1, 512] inb_S3x512_S1x512_2_0)) (ix3 0 r l)
      = dp (col m c 0 (chan t l)) (col m c 1 (chan t l)) (col m c 2 (chan t l)) (colD m c (chan t l)) (taps m c (chan t l)) 1 (row t r) := by
  rw [pay16_apply]
  have := dqE_apply m c t
  unfold dqE at this
  rw [this, hhE_apply, centre]
  rfl

theorem plane2 (c : Dev nD) (t : Fin cfg0.N) (r l : Fin 512) :
    k0_pay17 (F := Ideal) (bgE m c t) (cgE m c t) k0_pay9 (k0_pay10 (iblk m c 3 t)) (k0_pay11 (Scalar.cmpi CmpIPredicate.eq (BitVec.ofNat 32 (grid0.coords t 1).val) 7#32) (iblk m c 4 t))
      (View.ld (iblk m c 5 t) (Rect.unit ![0, 0] ![1, 512] inb_S3x512_S1x512_0_0))
      (View.ld (iblk m c 5 t) (Rect.unit ![1, 0] ![1, 512] inb_S3x512_S1x512_1_0))
      (View.ld (iblk m c 5 t) (Rect.unit ![2, 0] ![1, 512] inb_S3x512_S1x512_2_0)) (ix3 0 r l)
      = dp (col m c 0 (chan t l)) (col m c 1 (chan t l)) (col m c 2 (chan t l)) (colD m c (chan t l)) (taps m c (chan t l)) 2 (row t r) := by
  rw [pay17_apply]
  have := dqE_apply m c t
  unfold dqE at this
  rw [this, cgE_apply, centre]
  rfl

end Cert.ScActBwdIdeal.Value

end
-- ==== Proof.ScArrays.lean ====
module
public import Idealize.ShloMosaic.Lib.Pipeline.ReadBack
public import proofs.«01_k».proof.Proof.ScBlock
public import Idealize.ShloMosaic.Lib.Pipeline.ValueKit
public import Idealize.ShloMosaic.Lib.Pointwise

/-!
The two arrays the short convolution's backward kernel leaves: the gradient of the three planes, stored tile
by tile, and the gradient of the taps, accumulated over the token tiles of one channel tile.
-/

@[expose] public section

set_option maxRecDepth 16384

noncomputable section

open Idealize.ShloMosaic Idealize.ShloMosaic.TcCoe Idealize.SL.Sem
open Idealize.ShloMosaic.Pipeline (Dat)
open scoped BigOperators

namespace Cert.ScActBwdIdeal.Value

open Cert.ScActBwdIdeal Cert.ScActBwdIdeal.Gen Cert.ShortConv

variable (m : (ℓ : Loc nD τ sig) → Buf (Elt Ideal) ℓ)

/-- The gradient of the three planes, as one array. -/
def planes (c : Dev nD) : FVec Ideal S3x4096x2048 .bf16 := fun j =>
  dp (col m c 0 (j 2)) (col m c 1 (j 2)) (col m c 2 (j 2)) (colD m c (j 2)) (taps m c (j 2)) (j 0) (j 1)

theorem planes_at (c : Dev nD) (t : Fin cfg0.N) (p : Fin 3) (r l : Fin 512) (j : S3x4096x2048.Idx)
    (h0 : (j 0).val = p.val) (h1 : (j 1).val = t.val % 8 * 512 + r.val) (h2 : (j 2).val = t.val / 8 * 512 + l.val) :
    planes m c j = dp (col m c 0 (chan t l)) (col m c 1 (chan t l)) (col m c 2 (chan t l)) (colD m c (chan t l)) (taps m c (chan t l)) p (row t r) := by
  have e0 : j 0 = p := Fin.ext h0
  have e1 : j 1 = row t r := Fin.ext h1
  have e2 : j 2 = chan t l := Fin.ext h2
  unfold planes
  rw [e0, e1, e2]

theorem split1 (x : S1x512x512.Idx) : ∃ r l : Fin 512, x = ix3 0 r l :=
  ⟨x 1, x 2, (eq_ix3 x).trans (by rw [show x 0 = (0 : Fin 1) from Subsingleton.elim (α := Fin 1) _ _])⟩

theorem planes_A (c : Dev nD) (t : Fin cfg0.N) (h0 : t.val % 8 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0)
      (iblk m c 0 t) (iblk m c 1 t) (iblk m c 2 t) (iblk m c 3 t) (iblk m c 4 t) (iblk m c 5 t)) y
      = planes m c (((cfg0.win 6).blk t).view.emb y) := by
  have ht := tN t
  frame_out
  clear h0
  canon_tiles x h
  · obtain ⟨r, l, rfl⟩ := split1 x
    simp only [ix3_0, ix3_1, ix3_2] at h0 h1 h2
    refine (plane2 m c t r l).trans (planes_at m c t 2 r l _ ?_ ?_ ?_).symm
    all_goals (blk_simp [idx_val t] <;> first | exact h0 | omega)
  · obtain ⟨r, l, rfl⟩ := split1 x
    simp only [ix3_0, ix3_1, ix3_2] at h0 h1 h2
    refine (plane1 m c t r l).trans (planes_at m c t 1 r l _ ?_ ?_ ?_).symm
    all_goals (blk_simp [idx_val t] <;> first | exact h0 | omega)
  · obtain ⟨r, l, rfl⟩ := split1 x
    simp only [ix3_0, ix3_1, ix3_2] at h0 h1 h2
    refine (plane0 m c t r l).trans (planes_at m c t 0 r l _ ?_ ?_ ?_).symm
    all_goals (blk_simp [idx_val t] <;> first | exact h0 | omega)

theorem planes_B (c : Dev nD) (t : Fin cfg0.N) (h0 : ¬t.val % 8 = 0) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2) y
      = planes m c (((cfg0.win 6).blk t).view.emb y) := by
  have ht := tN t
  frame_out
  clear h0
  canon_tiles x h
  · obtain ⟨r, l, rfl⟩ := split1 x
    simp only [ix3_0, ix3_1, ix3_2] at h0 h1 h2
    refine (plane2 m c t r l).trans (planes_at m c t 2 r l _ ?_ ?_ ?_).symm
    all_goals (blk_simp [idx_val t] <;> first | exact h0 | omega)
  · obtain ⟨r, l, rfl⟩ := split1 x
    simp only [ix3_0, ix3_1, ix3_2] at h0 h1 h2
    refine (plane1 m c t r l).trans (planes_at m c t 1 r l _ ?_ ?_ ?_).symm
    all_goals (blk_simp [idx_val t] <;> first | exact h0 | omega)
  · obtain ⟨r, l, rfl⟩ := split1 x
    simp only [ix3_0, ix3_1, ix3_2] at h0 h1 h2
    refine (plane0 m c t r l).trans (planes_at m c t 0 r l _ ?_ ?_ ?_).symm
    all_goals (blk_simp [idx_val t] <;> first | exact h0 | omega)

/-- The planes' array after the run. -/
theorem final_planes (c : Dev nD) : (dats m 0 c).arrAt 6 (cfgs 0).N = planes m c := by
  refine (dats m 0 c).arrAt_eq_of_covers 6 _ (by decide +kernel) fun t hf y => ?_
  blk_simp; rw [after0_6]
  by_cases h : t.val % 8 = 0
  · rw [outsAt0_A m c t h]; dsimp only; exact planes_A m c t h y
  · rw [outsAt0_B m c t h]; dsimp only; exact planes_B m c t h y

/-- What token tile `t` adds to the gradient of tap `k`. -/
def tapPart (c : Dev nD) (t : Fin cfg0.N) (k : Fin 3) (l : Fin 512) : EReal :=
  ∑ r : Fin 512, dcq (colD m c (chan t l)) (col m c 0 (chan t l)) (t.val % 8 * 512 + r.val + 16)
    * q (col m c 1 (chan t l)) (col m c 2 (chan t l)) (t.val % 8 * 512 + r.val + 16 - (2 - k.val))

/-- The tile of `dcq`. -/
def dcC (c : Dev nD) (t : Fin cfg0.N) : FVec Ideal S512x512 .f32 := k0_pay19 (F := Ideal) (bgE m c t) k0_pay9 (k0_pay10 (iblk m c 3 t)) (k0_pay11 (Scalar.cmpi CmpIPredicate.eq (BitVec.ofNat 32 (grid0.coords t 1).val) 7#32) (iblk m c 4 t))

theorem pay19_apply (v15 : FVec Ideal S544x512 .f32) (v62 : FVec Ideal S16x512 .f32) (v63 : FVec Ideal S512x512 .f32) (v66 : FVec Ideal S16x512 .f32) (r l : Fin 512) :
    k0_pay19 v15 v62 v63 v66 (ix2 r l) = k0_pay13 v15 v62 v63 v66 (ix2 ⟨16 + r.val, by omega⟩ l) := by
  pointwise [k0_pay19]

theorem dcC_apply (c : Dev nD) (t : Fin cfg0.N) (r l : Fin 512) :
    dcC m c t (ix2 r l) = dcq (colD m c (chan t l)) (col m c 0 (chan t l)) (t.val % 8 * 512 + r.val + 16) := by
  have := dcE_apply m c t
  unfold dcE at this
  unfold dcC
  rw [pay19_apply, this _ _ (by simp only; omega)]
  simp only [show t.val % 8 * 512 + (16 + r.val) = t.val % 8 * 512 + r.val + 16 by omega]

theorem pay1_apply (v44 : FVec Ideal S544x512 .f32) (v103 : FVec Ideal S512x512 .f32) (acc : Vec Ideal S1x512 .f32) (l : Fin 512) :
    k0_pay1 v44 v103 2#32 acc (ix2 0 l) = acc (ix2 0 l) + ∑ x : Fin 512, v103 (ix2 x l) * v44 (ix2 ⟨(16 + x.val + 544 - 2) % 544, by omega⟩ l) := by
  pointwise [k0_pay1]

theorem pay2_apply (v44 : FVec Ideal S544x512 .f32) (v103 : FVec Ideal S512x512 .f32) (acc : Vec Ideal S1x512 .f32) (l : Fin 512) :
    k0_pay2 v44 v103 acc (ix2 0 l) = acc (ix2 0 l) + ∑ x : Fin 512, v103 (ix2 x l) * v44 (ix2 ⟨(16 + x.val + 544 - 1) % 544, by omega⟩ l) := by
  pointwise [k0_pay2]

theorem pay3_apply (v44 : FVec Ideal S544x512 .f32) (v103 : FVec Ideal S512x512 .f32) (acc : Vec Ideal S1x512 .f32) (l : Fin 512) :
    k0_pay3 v44 v103 acc (ix2 0 l) = acc (ix2 0 l) + ∑ x : Fin 512, v103 (ix2 x l) * v44 (ix2 ⟨16 + x.val, by omega⟩ l) := by
  pointwise [k0_pay3]

theorem tap_step0 (c : Dev nD) (t : Fin cfg0.N) (acc : Vec Ideal S1x512 .f32) (l : Fin 512) :
    k0_pay1 (qE m c t) (dcC m c t) 2#32 acc (ix2 0 l) = acc (ix2 0 l) + tapPart m c t 0 l := by
  rw [pay1_apply]
  refine congrArg _ (Finset.sum_congr rfl fun x _ => ?_)
  rw [dcC_apply, qE_apply]
  simp only [show t.val % 8 * 512 + (16 + x.val + 544 - 2) % 544 = t.val % 8 * 512 + x.val + 16 - 2 by omega]
  rfl

theorem tap_step1 (c : Dev nD) (t : Fin cfg0.N) (acc : Vec Ideal S1x512 .f32) (l : Fin 512) :
    k0_pay2 (qE m c t) (dcC m c t) acc (ix2 0 l) = acc (ix2 0 l) + tapPart m c t 1 l := by
  rw [pay2_apply]
  refine congrArg _ (Finset.sum_congr rfl fun x _ => ?_)
  rw [dcC_apply, qE_apply]
  simp only [show t.val % 8 * 512 + (16 + x.val + 544 - 1) % 544 = t.val % 8 * 512 + x.val + 16 - 1 by omega]
  rfl

theorem tap_step2 (c : Dev nD) (t : Fin cfg0.N) (acc : Vec Ideal S1x512 .f32) (l : Fin 512) :
    k0_pay3 (qE m c t) (dcC m c t) acc (ix2 0 l) = acc (ix2 0 l) + tapPart m c t 2 l := by
  rw [pay3_apply]
  refine congrArg _ (Finset.sum_congr rfl fun x _ => ?_)
  rw [dcC_apply, qE_apply]
  simp only [show t.val % 8 * 512 + (16 + x.val) = t.val % 8 * 512 + x.val + 16 by omega]
  rfl

theorem split_row (x : S1x512.Idx) : ∃ l : Fin 512, x = ix2 0 l :=
  ⟨x 1, (eq_ix2 x).trans (by rw [show x 0 = (0 : Fin 1) from Subsingleton.elim (α := Fin 1) _ _])⟩

theorem split_taps (j : S3x512.Idx) (k : Fin 3) (l : Fin 512) (h0 : (j 0).val = k.val) (h1 : (j 1).val = l.val) : j = ix2 k l :=
  (eq_ix2 j).trans (by rw [show j 0 = k from Fin.ext h0, show j 1 = l from Fin.ext h1])

theorem pay18_apply (j : S3x512.Idx) : k0_pay18 (F := Ideal) j = 0 := by pointwise [k0_pay18]

/-- Stores before the ones that cover an index do not matter there. -/
theorem canon_covered {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_covered L' y L ⟨q, hq', hyq⟩

theorem tap_first (c : Dev nD) (t : Fin cfg0.N) (h : t.val % 8 = 0) (j : S3x512.Idx) :
    (outsAt0 m c t.val t.isLt).2 j = (0 : EReal) + tapPart m c t (j 0) (j 1) := by
  rw [outsAt0_A m c t h]; frame_out
  clear h
  refine (canon_covered [_] j [_, _, _] ?_).trans ?_
  · exact View.cover_of_tiledL _ ![1, 512] (by sl_kernel_rfl) j
  canon_tiles x h
  · obtain ⟨l, rfl⟩ := split_row x
    obtain rfl := split_taps j 2 l h0 h1
    refine (tap_step2 m c t _ l).trans (congrArg (· + tapPart m c t 2 l) ?_)
    rw [View.readCov_skip _ _ _ _ _ (by decide), View.readCov_skip _ _ _ _ _ (by decide), View.readCov_fill _ _ _ _ _ (by decide)]
    exact pay18_apply _
  · obtain ⟨l, rfl⟩ := split_row x
    obtain rfl := split_taps j 1 l h0 h1
    refine (tap_step1 m c t _ l).trans (congrArg (· + tapPart m c t 1 l) ?_)
    rw [View.readCov_skip _ _ _ _ _ (by decide), View.readCov_fill _ _ _ _ _ (by decide)]
    exact pay18_apply _
  · obtain ⟨l, rfl⟩ := split_row x
    obtain rfl := split_taps j 0 l h0 h1
    refine (tap_step0 m c t _ l).trans (congrArg (· + tapPart m c t 0 l) ?_)
    rw [View.readCov_fill _ _ _ _ _ (by decide)]
    exact pay18_apply _

theorem tap_next (c : Dev nD) (t : Fin cfg0.N) (h : ¬t.val % 8 = 0) (j : S3x512.Idx) :
    (outsAt0 m c t.val t.isLt).2 j
      = (outsAt0 m c (t.val - 1) (Nat.lt_of_le_of_lt (Nat.sub_le _ _) t.isLt)).2 j + tapPart m c t (j 0) (j 1) := by
  rw [outsAt0_B m c t h]; frame_out
  clear h
  canon_tiles x h
  · obtain ⟨l, rfl⟩ := split_row x
    obtain rfl := split_taps j 2 l h0 h1
    refine (tap_step2 m c t _ l).trans (congrArg (· + tapPart m c t 2 l) ?_)
    pointwise
  · obtain ⟨l, rfl⟩ := split_row x
    obtain rfl := split_taps j 1 l h0 h1
    refine (tap_step1 m c t _ l).trans (congrArg (· + tapPart m c t 1 l) ?_)
    pointwise
  · obtain ⟨l, rfl⟩ := split_row x
    obtain rfl := split_taps j 0 l h0 h1
    refine (tap_step0 m c t _ l).trans (congrArg (· + tapPart m c t 0 l) ?_)
    pointwise

/-- The gradient of the taps, as one array. -/
def tapGrad (c : Dev nD) : FVec Ideal S3x2048 .f32 := fun j =>
  dw (col m c 0 (j 1)) (col m c 1 (j 1)) (col m c 2 (j 1)) (colD m c (j 1)) (j 0)

/-- The taps' array after the run: the eight token tiles of a channel tile add up to all tokens. -/
theorem final_taps (c : Dev nD) : (dats m 0 c).arrAt 7 (cfgs 0).N = tapGrad m c := by
  refine (dats m 0 c).arrAt_eq_of_covers 7 _ (by decide +kernel) fun t hf y => ?_
  blk_simp
  rw [after0_7, Pipeline.eq_sum_fin_of_reset_step_apply_of_flush (fun n h => (outsAt0 m c n h).2) 8 (fun _ => 0)
    (fun t j => tapPart m c t (j 0) (j 1)) (fun t h j => tap_first m c t h j) (fun t h j => tap_next m c t h j)
    t ((flush0_7 t).mp hf) _, zero_add]
  unfold tapPart
  refine Fin.sum_mul_add_congr fun s k hl => ?_
  blk_point [idx_val t, idx_val ⟨_, Pipeline.run_point_lt_of_flush t ((flush0_7 t).mp hf) s⟩, tapGrad, col, colD, chan, tN]
  all_goals (show (8 * (t.val / 8) + s.val) % 8 * 512 + k.val + 16 = s.val * 512 + k.val + 16; omega)

end Cert.ScActBwdIdeal.Value

end
-- ==== Proof.ScRef.lean ====
module

public import proofs.«01_k».proof.Proof.Gen.ScActBwdRefIdeal.Read
public import proofs.«01_k».proof.Proof.ScSpec
public import Idealize.ShloMosaic.Lib.Pipeline.ValueKit

/-!
What the reference of the gated short convolution computes: its two results, read at an index, are the gradients that ScSpec.lean writes.
-/

@[expose] public section

noncomputable section

open scoped BigOperators

namespace Cert.ScActBwdRefIdeal.Value

open Cert.ScActBwdRefIdeal Cert.ScActBwdRefIdeal.Gen Cert.ScActBwdRefIdeal.Read Cert.ShortConv Idealize.ShloMosaic Idealize.ShloMosaic.TcCoe

variable (x0 : FVec Ideal S3x4096x2048 .bf16) (x1 : FVec Ideal S4096x2048 .bf16) (x2 : FVec Ideal S3x2048 .f32)

/-- Column `ch` of plane `p` of the projection. -/
def plane (p : Fin 3) (ch : Fin 2048) : Fin 4096 → EReal := fun n => x0 (ix3 p n ch)

/-- Column `ch` of the cotangent. -/
def cot (ch : Fin 2048) : Fin 4096 → EReal := fun n => x1 (ix2 n ch)

theorem v7_at (n : Fin 4096) (ch : Fin 2048) : val_main_v7 (F := Ideal) x0 (ix2 n ch) = plane x0 1 ch n * plane x0 2 ch n := by
  pointwise [val_main_v7, val_main_v4, val_main_v3, val_main_v6, val_main_v5, val_main_v0, plane]

theorem v35_at (n : Fin 4096) (ch : Fin 2048) : val_main_v35 (F := Ideal) x0 x1 (ix2 n ch) = dcq (cot x1 ch) (plane x0 0 ch) (n.val + 16) := by
  rw [dcq, tok_in _ _ n.isLt, tok_in _ _ n.isLt, mul_comm]
  pointwise [val_main_v35, val_main_v2, val_main_v1, val_main_v0, val_main_v34, plane, cot]

theorem v9_at (n : Fin 4098) (ch : Fin 2048) : val_main_v9 (F := Ideal) x0 (ix2 n ch) = q (plane x0 1 ch) (plane x0 2 ch) (n.val + 14) := by
  pointwise [val_main_v9, val_main_v8, val_main_cst, val_main_v7, val_main_v4, val_main_v3, val_main_v6, val_main_v5, val_main_v0, q, tok, plane]
  by_cases h : n.val < 2
  · rw [dif_pos h, dif_neg (by omega), zero_mul]
  · have e : (⟨n.val - 2, by omega⟩ : Fin 4096) = ⟨n.val + 14 - 16, by omega⟩ := Fin.ext (by show n.val - 2 = n.val + 14 - 16; omega)
    rw [dif_neg h, dif_pos (by omega), dif_pos (by omega), e]

theorem v32_at (n : Fin 4096) (ch : Fin 2048) : val_main_v32 (F := Ideal) x0 x2 (ix2 n ch)
    = cq (plane x0 1 ch) (plane x0 2 ch) (fun k => x2 (ix2 k ch)) (n.val + 16) := by
  pointwise [val_main_v32, val_main_v25, val_main_v18, val_main_v16, val_main_v24, val_main_v31, val_main_v17, val_main_cst_1, val_main_v15, val_main_v14, val_main_v13, val_main_v12, val_main_v23, val_main_v22, val_main_v21, val_main_v20, val_main_v30, val_main_v29, val_main_v28, val_main_v27,
    val_main_v11, val_main_v19, val_main_v26]
  rw [v9_at, v9_at, v9_at, cq]
  simp only [show 1 + n.val + 14 = n.val + 16 - 1 by omega, show 2 + n.val + 14 = n.val + 16 by omega, show n.val + 14 = n.val + 16 - 2 by omega]

theorem v69_at (n : Fin 4096) (ch : Fin 2048) : val_main_v69 (F := Ideal) x0 x1 x2 (ix2 n ch)
    = dq (cot x1 ch) (plane x0 0 ch) (fun k => x2 (ix2 k ch)) (n.val + 16) := by
  pointwise [val_main_v69, val_main_v67, val_main_v56, val_main_v66, val_main_v55, val_main_v45, val_main_v61, val_main_v50, val_main_v41,
   val_main_v60, val_main_v14, val_main_v13, val_main_v12, val_main_v49, val_main_v22, val_main_v21, val_main_v20, val_main_v40, val_main_v29, val_main_v28, val_main_v27, val_main_cst_5, val_main_cst_9, val_main_cst_13]
  rw [dq, v35_at]
  have e1 : (if h : 1 ≤ 2 + n.val ∧ 2 + n.val - 1 < 4096 then val_main_v35 (F := Ideal) x0 x1 (ix2 ⟨2 + n.val - 1, h.2⟩ ch) * x2 (ix2 1 ch) else 0)
      = dcq (cot x1 ch) (plane x0 0 ch) (n.val + 16 + 1) * x2 (ix2 1 ch) := by
    split
    · rw [v35_at]; simp only [show 2 + n.val - 1 + 16 = n.val + 16 + 1 by omega]
    · rw [dcq, tok, dif_neg (by omega), zero_mul, zero_mul]
  have e2 : (if h : 2 + n.val < 4096 then val_main_v35 (F := Ideal) x0 x1 (ix2 ⟨2 + n.val, h⟩ ch) * x2 (ix2 0 ch) else 0)
      = dcq (cot x1 ch) (plane x0 0 ch) (n.val + 16 + 2) * x2 (ix2 0 ch) := by
    split
    · rw [v35_at]; simp only [show 2 + n.val + 16 = n.val + 16 + 2 by omega]
    · rw [dcq, tok, dif_neg (by omega), zero_mul, zero_mul]
  exact (congrArg₂ (· + ·) (congrArg (_ + ·) e1) e2).trans (by rw [add_comm (_ * _) (_ * _), add_comm (_ + _) (_ * _), ← add_assoc])

theorem v80_at (p : Fin 3) (n : Fin 4096) (ch : Fin 2048) : val_main_v80 (F := Ideal) x0 x1 x2 (ix3 p n ch)
    = dp (plane x0 0 ch) (plane x0 1 ch) (plane x0 2 ch) (cot x1 ch) (fun k => x2 (ix2 k ch)) p n := by
  pointwise [val_main_v80, val_main_v79, val_main_v78, val_main_v77, val_main_v76, val_main_v75, val_main_v74, val_main_v73, val_main_v72, val_main_v70, val_main_v71, val_main_v36, val_main_cst_14, val_main_cst_15, val_main_cst_16]
  have hv4 : val_main_v4 (F := Ideal) x0 (ix2 n ch) = plane x0 1 ch n := by pointwise [val_main_v4, val_main_v3, val_main_v0, plane]
  have hv6 : val_main_v6 (F := Ideal) x0 (ix2 n ch) = plane x0 2 ch n := by pointwise [val_main_v6, val_main_v5, val_main_v0, plane]
  have hv34 : val_main_v34 (F := Ideal) x1 (ix2 n ch) = cot x1 ch n := by pointwise [val_main_v34, cot]
  rw [hv4, hv6, hv34, v69_at, v32_at, dp]
  fin_vals p with hp <;> simp [hp, mul_comm]

theorem v65_at (k : Fin 3) (ch : Fin 2048) : val_main_v65 (F := Ideal) x0 x1 (ix2 k ch)
    = dw (plane x0 0 ch) (plane x0 1 ch) (plane x0 2 ch) (cot x1 ch) k := by
  pointwise [val_main_v65, val_main_v64, val_main_v54, val_main_v53, val_main_v44, val_main_v63, val_main_v62, val_main_v52, val_main_v51, val_main_v43, val_main_v42, val_main_cst_4, val_main_cst_8, val_main_cst_12, val_main_v38, val_main_v39, val_main_v47, val_main_v48, val_main_v58, val_main_v59, val_main_v37, val_main_v46, val_main_v57, val_main_v26, val_main_v19, val_main_v11, val_main_cst_2, val_main_cst_6, val_main_cst_10,val_main_cst_3, val_main_cst_7, val_main_cst_11]
  simp only [Fin.sum_univ_one, Fin.sum_const, v9_at, v35_at]
  unfold dw
  fin_vals k with hk
  all_goals (simp [hk]; refine Finset.sum_congr rfl fun x _ => ?_; exact (mul_comm _ _).trans (by congr 2 <;> omega))

end Cert.ScActBwdRefIdeal.Value

end
-- ==== Proof.ScEq.lean ====
module

public import proofs.«01_k».proof.Proof.ScArrays
public import proofs.«01_k».proof.Proof.ScRef

/-!
The equation: the arrays the backward kernel of the gated short convolution leaves are the reference's two results.
-/

@[expose] public section

noncomputable section

namespace Cert.ScActBwdIdeal.Value

open Cert.ScActBwdIdeal Cert.ScActBwdIdeal.Gen Idealize.ShloMosaic Idealize.ShloMosaic.TcCoe Idealize.SL.Sem

variable (m : (ℓ : Loc nD τ sig) → Buf (Elt Ideal) ℓ)

theorem planes_eq (c : Dev nD) : (dats m 0 c).arrAt 6 (cfgs 0).N
    = Cert.ScActBwdRefIdeal.Read.val_main_v80 (F := Ideal) (m ((c : Thread nD τ).loc main_arg0)) (m ((c : Thread nD τ).loc main_arg1))
        (m ((c : Thread nD τ).loc main_arg2)) := by
  rw [final_planes]
  funext j
  rw [eq_ix3 j]
  exact (Cert.ScActBwdRefIdeal.Value.v80_at _ _ _ _ _ _).symm

theorem taps_eq (c : Dev nD) : (dats m 0 c).arrAt 7 (cfgs 0).N
    = Cert.ScActBwdRefIdeal.Read.val_main_v65 (F := Ideal) (m ((c : Thread nD τ).loc main_arg0)) (m ((c : Thread nD τ).loc main_arg1)) := by
  rw [final_taps]
  funext j
  rw [eq_ix2 j]
  exact (Cert.ScActBwdRefIdeal.Value.v65_at _ _ _ _).symm

end Cert.ScActBwdIdeal.Value

end
-- ==== Proof.SsdMath.lean ====
/- The mathematics of the gradient of the state-space recurrence, over the reals: how a decayed sum over all later
   positions splits into the chunk that a position lies in and the state that the later chunks leave. -/
module

public import Idealize.ShloMosaic.PureOps.Ideal

@[expose] public section

noncomputable section

namespace Cert.Ssd

open Finset

/-- The logistic function. -/
def sig (z : ℝ) : ℝ := 1 / (1 + Real.exp (-z))

/-- The logistic function as the kernel computes it, through the hyperbolic tangent. -/
theorem sig_eq_tanh (z : ℝ) : 1 / 2 * Real.tanh (1 / 2 * z) + 1 / 2 = sig z := by
  have h : Real.exp (-z) = (Real.exp (-(1 / 2 * z))) * (Real.exp (-(1 / 2 * z))) := by
    rw [← Real.exp_add]; congr 1; ring
  have hp := Real.exp_pos (1 / 2 * z)
  have hn := Real.exp_pos (-(1 / 2 * z))
  have h1 : Real.exp (1 / 2 * z) * Real.exp (-(1 / 2 * z)) = 1 := by
    rw [← Real.exp_add]; simp
  rw [sig, Real.tanh_eq_sinh_div_cosh, Real.sinh_eq, Real.cosh_eq, h]
  generalize Real.exp (1 / 2 * z) = p at *
  generalize Real.exp (-(1 / 2 * z)) = n at *
  have hp' : p + n ≠ 0 := by positivity
  have hn' : 1 + n * n ≠ 0 := by positivity
  field_simp
  linear_combination (2 * n) * h1

/-- The gate `z · sigmoid(z)`. -/
def silu (z : ℝ) : ℝ := z * sig z

/-- The constant added to the mean of the squares. -/
def eps : ℝ := 10995116 / 2 ^ 40

theorem eps_pos : 0 < eps := by unfold eps; norm_num

/-- The mean of the squares of a row of 512. -/
def meanSq (v : ℕ → ℝ) : ℝ := (∑ k ∈ range 512, v k * v k) / 512

theorem meanSq_nonneg (v : ℕ → ℝ) : 0 ≤ meanSq v :=
  div_nonneg (sum_nonneg fun _ _ => mul_self_nonneg _) (by norm_num)

/-- The reciprocal root of the mean of the squares. -/
def inv (v : ℕ → ℝ) : ℝ := (Real.sqrt (meanSq v + eps))⁻¹

theorem inv_mul_self (v : ℕ → ℝ) : inv v * inv v = (meanSq v + eps)⁻¹ := by
  have h : 0 ≤ meanSq v + eps := add_nonneg (meanSq_nonneg v) eps_pos.le
  rw [inv, ← mul_inv, Real.mul_self_sqrt h]

/-- The gated row. -/
def gate (y z : ℕ → ℝ) (j : ℕ) : ℝ := y j * silu (z j)

/-- The gated row, normalised. -/
def hat (y z : ℕ → ℝ) (j : ℕ) : ℝ := gate y z j * inv (gate y z)

/-- The gradient of the recurrence's output, from the gradient `d` of the normalised row and its weight `w`. -/
def dy (y z d w : ℕ → ℝ) (j : ℕ) : ℝ :=
  inv (gate y z) * (d j * w j - hat y z j * ((∑ k ∈ range 512, d k * w k * hat y z k) / 512)) * silu (z j)

/-- The softplus of the step size. -/
def sp (x : ℝ) : ℝ := max x 0 + Real.log (1 + Real.exp (-|x|))

/-- The sum of the first `t` terms. -/
def pre (a : ℕ → ℝ) (t : ℕ) : ℝ := ∑ u ∈ range t, a u

/-- The running sum inside chunk `c` up to and with its position `l`. -/
def lc (a : ℕ → ℝ) (c l : ℕ) : ℝ := ∑ i ∈ range (l + 1), a (128 * c + i)

theorem lc_eq (a : ℕ → ℝ) (c l : ℕ) : lc a c l = pre a (128 * c + l + 1) - pre a (128 * c) := by
  rw [lc, pre, pre, add_assoc, sum_range_add a (128 * c) (l + 1), add_sub_cancel_left]

/-- The state that the chunks after chunk `c` leave: what they give back, decayed to the end of chunk `c`. -/
def st (a w : ℕ → ℝ) (c : ℕ) : ℝ :=
  ∑ t ∈ Ico (128 * (c + 1)) 4096, Real.exp (pre a (t + 1) - pre a (128 * (c + 1))) * w t

theorem st_last (a w : ℕ → ℝ) : st a w 31 = 0 := by simp [st]

/-- A sum over the positions of one chunk. -/
theorem sum_chunk (f : ℕ → ℝ) (c : ℕ) :
    ∑ t ∈ Ico (128 * c) (128 * (c + 1)), f t = ∑ l ∈ range 128, f (128 * c + l) := by
  rw [sum_Ico_eq_sum_range]; congr 2; omega

/-- One chunk's step of the state. -/
theorem st_step (a w : ℕ → ℝ) (c : ℕ) (hc : c + 1 < 32) :
    st a w c = st a w (c + 1) * Real.exp (lc a (c + 1) 127)
      + ∑ l ∈ range 128, Real.exp (lc a (c + 1) l) * w (128 * (c + 1) + l) := by
  rw [st, ← sum_Ico_consecutive _ (show 128 * (c + 1) ≤ 128 * (c + 1 + 1) by omega) (by omega), sum_chunk, add_comm]
  congr 1
  · rw [st, sum_mul]
    refine sum_congr rfl fun t _ => ?_
    rw [lc_eq, mul_right_comm, ← Real.exp_add]
    congr 2
    rw [show 128 * (c + 1) + 127 + 1 = 128 * (c + 1 + 1) by omega]; ring
  · refine sum_congr rfl fun l _ => ?_
    rw [lc_eq]

/-- The gradient at position `128 c + l` as a sum over all later positions is the part inside the chunk and the part
    through the state that the later chunks leave. -/
theorem dxd_eq (a dyv K B : ℕ → ℝ) (C : ℕ → ℕ → ℝ) (c l : ℕ) (hc : c < 32) (hl : l < 128)
    (hK : ∀ t, K t = ∑ n ∈ range 128, B n * C t n) :
    ∑ t ∈ range 4096, dyv t * (K t * (if 128 * c + l ≤ t then Real.exp (pre a (t + 1) - pre a (128 * c + l + 1)) else 0))
      = ∑ l' ∈ range 128, K (128 * c + l') * (if l ≤ l' then Real.exp (lc a c l' - lc a c l) else 0) * dyv (128 * c + l')
        + Real.exp (lc a c 127 - lc a c l) * ∑ n ∈ range 128, B n * st a (fun t => dyv t * C t n) c := by
  rw [range_eq_Ico, ← sum_Ico_consecutive _ (Nat.zero_le (128 * c)) (by omega),
    ← sum_Ico_consecutive _ (show 128 * c ≤ 128 * (c + 1) by omega) (by omega), sum_chunk,
    sum_eq_zero (s := Ico 0 (128 * c)), zero_add]
  · congr 1
    · refine sum_congr rfl fun l' _ => ?_
      rw [lc_eq, lc_eq]
      by_cases h : l ≤ l'
      · rw [if_pos (by omega), if_pos h, sub_sub_sub_cancel_right]; ring
      · rw [if_neg (by omega), if_neg h]; ring
    · simp only [st, mul_sum, ← range_eq_Ico]
      rw [sum_comm]
      refine sum_congr rfl fun t ht => ?_
      rw [mem_Ico] at ht
      rw [if_pos (by omega), hK, sum_mul, mul_sum]
      refine sum_congr rfl fun n _ => ?_
      have e : Real.exp (pre a (t + 1) - pre a (128 * c + l + 1)) = Real.exp (lc a c 127 - lc a c l)
          * Real.exp (pre a (t + 1) - pre a (128 * (c + 1))) := by
        rw [← Real.exp_add, lc_eq, lc_eq, show 128 * c + 127 + 1 = 128 * (c + 1) by omega]; congr 1; ring
      rw [e]; ring
  · intro t ht
    rw [mem_Ico] at ht
    rw [if_neg (by omega)]; ring

end Cert.Ssd

end

end
-- ==== Proof.SsdLift.lean ====
module
public import proofs.«01_k».proof.Proof.Gen.SsdCoreBwdIdeal.Skeleton
public import proofs.«01_k».proof.Proof.SsdMath
public import Idealize.ShloMosaic.Lib.Pipeline.ValueKit
public import Idealize.ShloMosaic.Lib.Pointwise

/-!
Arrays of real numbers inside the extended reals. `up f` is the array with entry `f i j` at `(i, j)`, `msk p` the mask that
is set where `p i j` holds. Every operation of the recurrence's backward kernel takes such arrays to such an array.
-/

@[expose] public section

set_option maxRecDepth 16384

noncomputable section

open Idealize.ShloMosaic Idealize.ShloMosaic.TcCoe Idealize.SL.Sem
open scoped BigOperators

namespace Cert.SsdCoreBwdIdeal.Lift

open Cert.SsdCoreBwdIdeal Cert.SsdCoreBwdIdeal.Gen Cert.Ssd

/-- A real array of two axes. -/
def up {a b : ℕ} {φ : FTy} (f : ℕ → ℕ → ℝ) : FVec Ideal ⟨2, ![a, b]⟩ φ := fun i => ((f (i 0) (i 1) : ℝ) : EReal)

/-- A real array of one axis. -/
def up1 {a : ℕ} {φ : FTy} (f : ℕ → ℝ) : FVec Ideal ⟨1, ![a]⟩ φ := fun i => ((f (i 0) : ℝ) : EReal)

/-- A mask of two axes. -/
def msk {a b : ℕ} (p : ℕ → ℕ → Bool) : IVec ⟨2, ![a, b]⟩ 1 := fun i => BitVec.ofBool (p (i 0) (i 1))

theorem coe_sum (n : ℕ) (f : ℕ → ℝ) : (∑ k : Fin n, ((f k : ℝ) : EReal)) = ((∑ k ∈ Finset.range n, f k : ℝ) : EReal) := by
  rw [← Finset.sum_range fun k => ((f k : ℝ) : EReal)]
  induction n with
  | zero => simp
  | succ n ih => rw [Finset.sum_range_succ, Finset.sum_range_succ, ih, EReal.coe_add]

section
variable {a b : ℕ} {φ : FTy}

@[simp] theorem mulf_up (f g : ℕ → ℕ → ℝ) : mulf (up f : FVec Ideal ⟨2, ![a, b]⟩ φ) (up g) = up fun i j => f i j * g i j := by
  funext i; exact (EReal.coe_mul _ _).symm
@[simp] theorem addf_up (f g : ℕ → ℕ → ℝ) : addf (up f : FVec Ideal ⟨2, ![a, b]⟩ φ) (up g) = up fun i j => f i j + g i j := by
  funext i; exact (EReal.coe_add _ _).symm
@[simp] theorem subf_up (f g : ℕ → ℕ → ℝ) : subf (up f : FVec Ideal ⟨2, ![a, b]⟩ φ) (up g) = up fun i j => f i j - g i j := by
  funext i; exact (EReal.coe_sub _ _).symm
@[simp] theorem exp_up (f : ℕ → ℕ → ℝ) : exp (up f : FVec Ideal ⟨2, ![a, b]⟩ φ) = up fun i j => Real.exp (f i j) := by
  funext i; exact Ideal.exp_coe _
@[simp] theorem tanh_up (f : ℕ → ℕ → ℝ) : tanh (up f : FVec Ideal ⟨2, ![a, b]⟩ φ) = up fun i j => Real.tanh (f i j) := by
  funext i; exact Ideal.tanh_coe _
@[simp] theorem maximumf_up (f g : ℕ → ℕ → ℝ) :
    maximumf (up f : FVec Ideal ⟨2, ![a, b]⟩ φ) (up g) = up fun i j => max (f i j) (g i j) := by
  funext i; exact (EReal.coe_strictMono.monotone.map_max).symm
@[simp] theorem absf_up (f : ℕ → ℕ → ℝ) : absf (up f : FVec Ideal ⟨2, ![a, b]⟩ φ) = up fun i j => |f i j| := by
  funext i; exact (EReal.coe_strictMono.monotone.map_max).symm
@[simp] theorem select_up (p : ℕ → ℕ → Bool) (f g : ℕ → ℕ → ℝ) :
    select (msk p : IVec ⟨2, ![a, b]⟩ 1) (up f : FVec Ideal ⟨2, ![a, b]⟩ φ) (up g) = up fun i j => if p i j then f i j else g i j := by
  funext i
  show Scalar.select (BitVec.ofBool (p (i 0) (i 1))) _ _ = _
  cases h : p (i 0) (i 1) <;> simp [Scalar.select, up, h]
@[simp] theorem zero_up : (broadcast ⟨2, ![a, b]⟩ (Scalar.ofBits (F := Ideal) .f32 0x00000000#32)) = up fun _ _ => 0 := by
  funext i; exact Ideal.ofBits_zero_f32
@[simp] theorem one_up : (broadcast ⟨2, ![a, b]⟩ (Scalar.ofBits (F := Ideal) .f32 0x3F800000#32)) = up fun _ _ => 1 := by
  funext i
  show Ideal.ofBits .f32 0x3F800000#32 = ((1 : ℝ) : EReal)
  simp [Ideal.ofBits, Ideal.ieee, -EReal.coe_one]
  rw [← EReal.coe_mul]; norm_num
@[simp] theorem half_up : (broadcast ⟨2, ![a, b]⟩ (Scalar.ofBits (F := Ideal) .f32 0x3F000000#32)) = up fun _ _ => 1 / 2 := by
  funext i
  show Ideal.ofBits .f32 0x3F000000#32 = ((1 / 2 : ℝ) : EReal)
  simp [Ideal.ofBits, Ideal.ieee]
  rw [← EReal.coe_mul]; norm_num
@[simp] theorem n512_up : (broadcast ⟨2, ![a, b]⟩ (Scalar.ofBits (F := Ideal) .f32 0x44000000#32)) = up fun _ _ => 512 := by
  funext i
  show Ideal.ofBits .f32 0x44000000#32 = ((512 : ℝ) : EReal)
  simp [Ideal.ofBits, Ideal.ieee]
  rw [← EReal.coe_mul]; norm_num
@[simp] theorem eps_up : (broadcast ⟨2, ![a, b]⟩ (Scalar.ofBits (F := Ideal) .f32 0x3727C5AC#32)) = up fun _ _ => eps := by
  funext i
  show Ideal.ofBits .f32 0x3727C5AC#32 = ((eps : ℝ) : EReal)
  simp [Ideal.ofBits, Ideal.ieee, eps]
  rw [← EReal.coe_mul]; norm_num
@[simp] theorem extf_up (f : ℕ → ℕ → ℝ) (h : FTy.bits .bf16 < FTy.bits .f32) :
    extf .f32 (up f : FVec Ideal ⟨2, ![a, b]⟩ .bf16) h = up f := rfl
@[simp] theorem truncf_up (f : ℕ → ℕ → ℝ) (h : FTy.bits .bf16 < FTy.bits .f32) :
    truncf .bf16 (up f : FVec Ideal ⟨2, ![a, b]⟩ .f32) h = up f := rfl
theorem divf_up (f : ℕ → ℕ → ℝ) (r : ℝ) (hr : r ≠ 0) :
    divf (up f : FVec Ideal ⟨2, ![a, b]⟩ φ) (up fun _ _ => r) = up fun i j => f i j / r := by
  funext i
  show Ideal.div _ _ = _
  rw [show (up (a := a) (b := b) (φ := φ) (fun _ _ => r) i : EReal) = (r : EReal) from rfl, Ideal.div_coe hr]
  show ((_ : ℝ) : EReal) * ((1 / r : ℝ) : EReal) = _
  rw [← EReal.coe_mul]; congr 1; ring
@[simp] theorem div512_up (f : ℕ → ℕ → ℝ) :
    divf (up f : FVec Ideal ⟨2, ![a, b]⟩ φ) (up fun _ _ => 512) = up fun i j => f i j / 512 := divf_up f 512 (by norm_num)
theorem log_up (f : ℕ → ℕ → ℝ) (h : ∀ i j, 0 < f i j) : log (up f : FVec Ideal ⟨2, ![a, b]⟩ φ) = up fun i j => Real.log (f i j) := by
  funext i
  show Ideal.log ((f (i 0) (i 1) : ℝ) : EReal) = _
  rw [Ideal.log_coe]; simp [up, h]
theorem rsqrt_up (f : ℕ → ℕ → ℝ) (h : ∀ i j, 0 < f i j) :
    rsqrt (up f : FVec Ideal ⟨2, ![a, b]⟩ φ) = up fun i j => (Real.sqrt (f i j))⁻¹ := by
  funext i
  show Ideal.rsqrt ((f (i 0) (i 1) : ℝ) : EReal) = _
  rw [Ideal.rsqrt_coe]; simp [up, h, (h _ _).le, (h _ _).ne']
/-- The exponential of an array masked by −∞ is zero off the mask. -/
@[simp] theorem exp_mask_up (p : ℕ → ℕ → Bool) (f : ℕ → ℕ → ℝ) :
    exp (select (msk p : IVec ⟨2, ![a, b]⟩ 1) (up f : FVec Ideal ⟨2, ![a, b]⟩ φ) (broadcast ⟨2, ![a, b]⟩ (⊥ : EReal)))
      = up fun i j => if p i j then Real.exp (f i j) else 0 := by
  funext i
  show Ideal.exp (Scalar.select (BitVec.ofBool (p (i 0) (i 1))) _ _) = _
  cases h : p (i 0) (i 1) <;> simp [Scalar.select, up, h, broadcast]
end

@[simp] theorem mask_named : Named.named (F := Ideal) (φ := .f32) κ "mask" 0xF149F2CA#32 = (⊥ : EReal) := by
  simp [Named.named, κ]

/-! Shapes. -/

@[simp] theorem cast_up {a b : ℕ} {φ : FTy} (f : ℕ → ℕ → ℝ) (h) :
    shapeCast ⟨2, ![a, b]⟩ (up f : FVec Ideal ⟨2, ![a, b]⟩ φ) h = up f := shapeCast_self _ _
@[simp] theorem cast_msk {a b : ℕ} (p : ℕ → ℕ → Bool) (h) :
    shapeCast ⟨2, ![a, b]⟩ (msk p : IVec ⟨2, ![a, b]⟩ 1) h = msk p := shapeCast_self _ _

@[simp] theorem col_up (f : ℕ → ℝ) :
    shapeCast S128x1 (up1 f : FVec Ideal S128 .f32) shapeCasts_S128_S128x1 = up fun i _ => f i := by
  funext i; idx_vars i; pointwise [up, up1]
@[simp] theorem row_up (f : ℕ → ℝ) :
    shapeCast S1x128 (up1 f : FVec Ideal S128 .f32) shapeCasts_S128_S1x128 = up fun _ j => f j := by
  funext i; idx_vars i; pointwise [up, up1]
@[simp] theorem row512_up (f : ℕ → ℝ) :
    shapeCast S1x512 (up1 f : FVec Ideal S512 .f32) shapeCasts_S512_S1x512 = up fun _ j => f j := by
  funext i; idx_vars i; pointwise [up, up1]

@[simp] theorem bc_row_up (f : ℕ → ℕ → ℝ) :
    broadcastTo S128x128 (up f : FVec Ideal S1x128 .f32) broadcasts_S1x128_S128x128 = up fun _ j => f 0 j := by
  funext i; idx_vars i; pointwise [up]
@[simp] theorem bc_row_msk (p : ℕ → ℕ → Bool) :
    broadcastTo S128x128 (msk p : IVec S1x128 1) broadcasts_S1x128_S128x128 = msk fun _ j => p 0 j := by
  funext i; idx_vars i; pointwise [msk]
@[simp] theorem bc_col_up (f : ℕ → ℕ → ℝ) :
    broadcastTo S128x128 (up f : FVec Ideal S128x1 .f32) broadcasts_S128x1_S128x128 = up fun i _ => f i 0 := by
  funext i; idx_vars i; pointwise [up]
@[simp] theorem bc_col_msk (p : ℕ → ℕ → Bool) :
    broadcastTo S128x128 (msk p : IVec S128x1 1) broadcasts_S128x1_S128x128 = msk fun i _ => p i 0 := by
  funext i; idx_vars i; pointwise [msk]
@[simp] theorem bc_row512_up (f : ℕ → ℕ → ℝ) :
    broadcastTo S128x512 (up f : FVec Ideal S1x512 .f32) broadcasts_S1x512_S128x512 = up fun _ j => f 0 j := by
  funext i; idx_vars i; pointwise [up]
@[simp] theorem bc_col512_up (f : ℕ → ℕ → ℝ) :
    broadcastTo S128x512 (up f : FVec Ideal S128x1 .f32) broadcasts_S128x1_S128x512 = up fun i _ => f i 0 := by
  funext i; idx_vars i; pointwise [up]
@[simp] theorem bc_one_up (f : ℕ → ℕ → ℝ) :
    broadcastTo S128x1 (up f : FVec Ideal S1x1 .f32) broadcasts_S1x1_S128x1 = up fun _ _ => f 0 0 := by
  funext i; idx_vars i; pointwise [up]

@[simp] theorem cut_last (f : ℕ → ℕ → ℝ) :
    extractStridedSlice S1x1 (no_index ![127, 0]) (up f : FVec Ideal S128x1 .f32) slices_S128x1_o127_0_S1x1 = up fun i j => f (127 + i) j := by
  funext i; idx_vars i; pointwise [up]
@[simp] theorem cut0 (f : ℕ → ℕ → ℝ) :
    extractStridedSlice S128x128 (no_index ![0, 0]) (up f : FVec Ideal S128x512 .f32) slices_S128x512_o0_0_S128x128 = up fun i j => f i (0 + j) := by
  funext i; idx_vars i; pointwise [up]
@[simp] theorem cut1 (f : ℕ → ℕ → ℝ) :
    extractStridedSlice S128x128 (no_index ![0, 128]) (up f : FVec Ideal S128x512 .f32) slices_S128x512_o0_128_S128x128 = up fun i j => f i (128 + j) := by
  funext i; idx_vars i; pointwise [up]
@[simp] theorem cut2 (f : ℕ → ℕ → ℝ) :
    extractStridedSlice S128x128 (no_index ![0, 256]) (up f : FVec Ideal S128x512 .f32) slices_S128x512_o0_256_S128x128 = up fun i j => f i (256 + j) := by
  funext i; idx_vars i; pointwise [up]
@[simp] theorem cut3 (f : ℕ → ℕ → ℝ) :
    extractStridedSlice S128x128 (no_index ![0, 384]) (up f : FVec Ideal S128x512 .f32) slices_S128x512_o0_384_S128x128 = up fun i j => f i (384 + j) := by
  funext i; idx_vars i; pointwise [up]
@[simp] theorem cutr0 (f : ℕ → ℕ → ℝ) :
    extractStridedSlice S1x128 (no_index ![0, 0]) (up f : FVec Ideal S1x512 .f32) slices_S1x512_o0_0_S1x128 = up fun i j => f i (0 + j) := by
  funext i; idx_vars i; pointwise [up]
@[simp] theorem cutr1 (f : ℕ → ℕ → ℝ) :
    extractStridedSlice S1x128 (no_index ![0, 128]) (up f : FVec Ideal S1x512 .f32) slices_S1x512_o0_128_S1x128 = up fun i j => f i (128 + j) := by
  funext i; idx_vars i; pointwise [up]
@[simp] theorem cutr2 (f : ℕ → ℕ → ℝ) :
    extractStridedSlice S1x128 (no_index ![0, 256]) (up f : FVec Ideal S1x512 .f32) slices_S1x512_o0_256_S1x128 = up fun i j => f i (256 + j) := by
  funext i; idx_vars i; pointwise [up]
@[simp] theorem cutr3 (f : ℕ → ℕ → ℝ) :
    extractStridedSlice S1x128 (no_index ![0, 384]) (up f : FVec Ideal S1x512 .f32) slices_S1x512_o0_384_S1x128 = up fun i j => f i (384 + j) := by
  funext i; idx_vars i; pointwise [up]
@[simp] theorem transpose_up (f : ℕ → ℕ → ℝ) :
    transpose S128x128 (no_index [1, 0]) (up f : FVec Ideal S128x128 .f32) transposes_S128x128_p1_0_S128x128 = up fun i j => f j i := by
  funext i; idx_vars i; pointwise [up]

/-! Sums and products. -/

@[simp] theorem rows_up (f : ℕ → ℕ → ℝ) (hφ : FKind.Formats .f32) (hacc : 0x00000000#32 = 0x00000000#32) :
    multiReduction (F := Ideal) .add (no_index [1]) S128 (up f : FVec Ideal S128x128 .f32) 0x00000000#32 reduces_S128x128_S128 hφ hacc
      = up1 fun i => ∑ k ∈ Finset.range 128, f i k := by
  funext i; idx_vars i; pointwise [up, up1]; exact coe_sum 128 _
@[simp] theorem cols_up (f : ℕ → ℕ → ℝ) (hφ : FKind.Formats .f32) (hacc : 0x00000000#32 = 0x00000000#32) :
    multiReduction (F := Ideal) .add (no_index [0]) S128 (up f : FVec Ideal S128x128 .f32) 0x00000000#32 reduces_S128x128_S128_2 hφ hacc
      = up1 fun j => ∑ k ∈ Finset.range 128, f k j := by
  funext i; idx_vars i; pointwise [up, up1]; exact coe_sum 128 (fun k => f k _)
@[simp] theorem rows512_up (f : ℕ → ℕ → ℝ) (hφ : FKind.Formats .f32) (hacc : 0x00000000#32 = 0x00000000#32) :
    multiReduction (F := Ideal) .add (no_index [1]) S128 (up f : FVec Ideal S128x512 .f32) 0x00000000#32 reduces_S128x512_S128 hφ hacc
      = up1 fun i => ∑ k ∈ Finset.range 512, f i k := by
  funext i; idx_vars i; pointwise [up, up1]; exact coe_sum 512 _
@[simp] theorem cols512_up (f : ℕ → ℕ → ℝ) (hφ : FKind.Formats .f32) (hacc : 0x00000000#32 = 0x00000000#32) :
    multiReduction (F := Ideal) .add (no_index [0]) S512 (up f : FVec Ideal S128x512 .f32) 0x00000000#32 reduces_S128x512_S512 hφ hacc
      = up1 fun j => ∑ k ∈ Finset.range 128, f k j := by
  funext i; idx_vars i; pointwise [up, up1]; exact coe_sum 128 (fun k => f k _)

theorem coe_dot (n : ℕ) (f g : ℕ → ℝ) :
    (∑ k : Fin n, ((f k : ℝ) : EReal) * ((g k : ℝ) : EReal)) = ((∑ k ∈ Finset.range n, f k * g k : ℝ) : EReal) := by
  rw [← coe_sum]; exact Finset.sum_congr rfl fun k _ => (EReal.coe_mul _ _).symm

@[simp] theorem dot10_up (f g : ℕ → ℕ → ℝ) :
    matmul dot_S128x128_S128x128_S128x128_1_0_0_1_n_n none (up f : FVec Ideal S128x128 .bf16) (up g : FVec Ideal S128x128 .bf16)
      (constant S128x128 .f32 0x00000000#32) = (up fun i j => ∑ k ∈ Finset.range 128, f i k * g k j : FVec Ideal S128x128 .f32) := by
  funext i; idx_vars i; pointwise [up]; exact coe_dot 128 (fun k => f _ k) (fun k => g k _)
@[simp] theorem dot11_up (f g : ℕ → ℕ → ℝ) :
    matmul dot_S128x128_S128x128_S128x128_1_1_0_0_n_n none (up f : FVec Ideal S128x128 .bf16) (up g : FVec Ideal S128x128 .bf16)
      (constant S128x128 .f32 0x00000000#32) = (up fun i j => ∑ k ∈ Finset.range 128, f i k * g j k : FVec Ideal S128x128 .f32) := by
  funext i; idx_vars i; pointwise [up]; exact coe_dot 128 (fun k => f _ k) (fun k => g _ k)
@[simp] theorem dot00_up (f g : ℕ → ℕ → ℝ) :
    matmul dot_S128x128_S128x128_S128x128_0_0_1_1_n_n none (up f : FVec Ideal S128x128 .bf16) (up g : FVec Ideal S128x128 .bf16)
      (constant S128x128 .f32 0x00000000#32) = (up fun i j => ∑ k ∈ Finset.range 128, f k i * g k j : FVec Ideal S128x128 .f32) := by
  funext i; idx_vars i; pointwise [up]; exact coe_dot 128 (fun k => f k _) (fun k => g k _)

/-! The masks of the kernel. -/

/-- A coordinate as a word, compared to a word: equality of the numbers. -/
theorem eq_word (i h : ℕ) (hi : i < 128) (hh : h < 128) :
    IntOp.cmpi .eq (BitVec.ofNat 32 i) (BitVec.ofNat 32 h) = BitVec.ofBool (decide (i = h)) := by
  have : (BitVec.ofNat 32 i == BitVec.ofNat 32 h) = decide (i = h) := by
    rw [Bool.eq_iff_iff]; simp [← BitVec.toNat_inj, BitVec.toNat_ofNat]; omega
  simp [IntOp.cmpi, this]
theorem toInt_small (i : ℕ) (hi : i < 129) : (BitVec.ofNat 32 i).toInt = i := by
  rw [BitVec.toInt_eq_toNat_of_lt (by simp [BitVec.toNat_ofNat]; omega), BitVec.toNat_ofNat]; omega
theorem sge_word (i h : ℕ) (hi : i < 128) (hh : h < 128) :
    IntOp.cmpi .sge (BitVec.ofNat 32 i) (BitVec.ofNat 32 h) = BitVec.ofBool (decide (h ≤ i)) := by
  simp [IntOp.cmpi, BitVec.sle, toInt_small i (by omega), toInt_small h (by omega)]
theorem slt_word (i h : ℕ) (hi : i < 128) (hh : h < 128) :
    IntOp.cmpi .slt (BitVec.ofNat 32 i) (BitVec.ofNat 32 h) = BitVec.ofBool (decide (i < h)) := by
  simp [IntOp.cmpi, BitVec.slt, toInt_small i (by omega), toInt_small h (by omega)]

theorem lane_eq (h : ℕ) (hh : h < 128) :
    cmpi .eq (iota .tc S128x128 32 (no_index [1]) iota_S128x128_d1_w32) (broadcast S128x128 (BitVec.ofNat 32 h)) = msk fun _ j => decide (j = h) := by
  funext i; idx_vars i; pointwise [msk]; exact eq_word _ _ (by omega) hh
theorem sub_eq' (h : ℕ) (hh : h < 128) :
    cmpi .eq (iota .tc S128x128 32 (no_index [0]) iota_S128x128_d0_w32) (broadcast S128x128 (BitVec.ofNat 32 h)) = msk fun i _ => decide (i = h) := by
  funext i; idx_vars i; pointwise [msk]; exact eq_word _ _ (by omega) hh

@[simp] theorem low_eq : (k0_pay27 : IVec S128x128 1) = msk fun i j => decide (j ≤ i) := by
  unfold k0_pay27; funext i; idx_vars i; pointwise [msk]
  exact sge_word _ _ (by omega) (by omega)
@[simp] theorem high_eq : (k0_pay28 : IVec S128x128 1) = msk fun i j => decide (i ≤ j) := by
  unfold k0_pay28; funext i; idx_vars i; pointwise [msk]
  exact sge_word _ _ (by omega) (by omega)
@[simp] theorem half_eq : (k0_pay30 : IVec S1x128 1) = msk fun _ j => decide (j < 64) := by
  unfold k0_pay30; funext i; idx_vars i; pointwise [msk]
  exact slt_word _ 64 (by omega) (by omega)
@[simp] theorem halfRows_eq : (k0_pay31 : IVec S128x1 1) = msk fun i _ => decide (i < 64) := by
  unfold k0_pay31; funext i; idx_vars i; pointwise [msk]
  exact slt_word _ 64 (by omega) (by omega)

end Cert.SsdCoreBwdIdeal.Lift
-- ==== Proof.SsdPieces.lean ====
module
public import proofs.«01_k».proof.Proof.Gen.SsdCoreBwdIdeal.Value
public import proofs.«01_k».proof.Proof.SsdLift
public import Idealize.ShloMosaic.Lib.Pipeline.ReadBack
public import Idealize.ShloMosaic.Lib.WritesUnit

/-!
The recurrence's backward kernel stores a carried state four rows of blocks at a time, and adds to one row of two of its
results: what such stores leave, when the values are real numbers.
-/

@[expose] public section

set_option maxRecDepth 16384

noncomputable section

open Idealize.ShloMosaic Idealize.ShloMosaic.TcCoe Idealize.SL.Sem
open scoped BigOperators

namespace Cert.SsdCoreBwdIdeal.Value

open Cert.SsdCoreBwdIdeal Cert.SsdCoreBwdIdeal.Gen Cert.SsdCoreBwdIdeal.Lift

/-- A real array of three axes. -/
def up3 {a b d : ℕ} {φ : FTy} (f : ℕ → ℕ → ℕ → ℝ) : FVec Ideal ⟨3, ![a, b, d]⟩ φ := fun i => ((f (i 0) (i 1) (i 2) : ℝ) : EReal)

/-- Eight rows, of which only the first is not zero. -/
def row8 (f : ℕ → ℝ) : FVec Ideal S1x8x512 .f32 := up3 fun _ r j => if r = 0 then f j else 0

theorem zero3 : shapeCast S4x128x128 (broadcast S4x128x128 (Scalar.ofBits (F := Ideal) .f32 0x00000000#32)) shapeCasts_S4x128x128_S4x128x128
    = (up3 fun _ _ _ => 0 : FVec Ideal S4x128x128 .f32) := by
  rw [shapeCast_self]; funext i; exact Ideal.ofBits_zero_f32

theorem zero8 : shapeCast S1x8x512 (broadcast S8x512 (Scalar.ofBits (F := Ideal) .f32 0x00000000#32)) shapeCasts_S8x512_S1x8x512 = row8 fun _ => 0 := by
  funext i
  have : row8 (fun _ => 0) i = 0 := by simp [row8, up3]
  rw [this]; exact Ideal.ofBits_zero_f32

/-! Reading a part. -/

theorem st_cut0 (S : ℕ → ℕ → ℕ → ℝ) (h) : shapeCast (α := EReal) S128x128 (View.ld (Val := Elt Ideal) (e' := .f32) (up3 S : FVec Ideal S4x128x128 .f32)
    (Rect.unit (s := S4x128x128) (no_index ![0, 0, 0]) (no_index S1x128x128.size) inb_S4x128x128_S1x128x128_0_0_0)) h = (up fun j n => S 0 j n : FVec Ideal S128x128 .f32) := by
  funext i; idx_vars i; pointwise [up, up3]
theorem st_cut1 (S : ℕ → ℕ → ℕ → ℝ) (h) : shapeCast (α := EReal) S128x128 (View.ld (Val := Elt Ideal) (e' := .f32) (up3 S : FVec Ideal S4x128x128 .f32)
    (Rect.unit (s := S4x128x128) (no_index ![1, 0, 0]) (no_index S1x128x128.size) inb_S4x128x128_S1x128x128_1_0_0)) h = (up fun j n => S 1 j n : FVec Ideal S128x128 .f32) := by
  funext i; idx_vars i; pointwise [up, up3]
theorem st_cut2 (S : ℕ → ℕ → ℕ → ℝ) (h) : shapeCast (α := EReal) S128x128 (View.ld (Val := Elt Ideal) (e' := .f32) (up3 S : FVec Ideal S4x128x128 .f32)
    (Rect.unit (s := S4x128x128) (no_index ![2, 0, 0]) (no_index S1x128x128.size) inb_S4x128x128_S1x128x128_2_0_0)) h = (up fun j n => S 2 j n : FVec Ideal S128x128 .f32) := by
  funext i; idx_vars i; pointwise [up, up3]
theorem st_cut3 (S : ℕ → ℕ → ℕ → ℝ) (h) : shapeCast (α := EReal) S128x128 (View.ld (Val := Elt Ideal) (e' := .f32) (up3 S : FVec Ideal S4x128x128 .f32)
    (Rect.unit (s := S4x128x128) (no_index ![3, 0, 0]) (no_index S1x128x128.size) inb_S4x128x128_S1x128x128_3_0_0)) h = (up fun j n => S 3 j n : FVec Ideal S128x128 .f32) := by
  funext i; idx_vars i; pointwise [up, up3]

theorem row_cut (f : ℕ → ℝ) (h) : shapeCast (α := EReal) S1x512 (View.ld (Val := Elt Ideal) (e' := .f32) (row8 f)
    (Rect.unit (s := S1x8x512) (no_index ![0, 0, 0]) (no_index S1x1x512.size) inb_S1x8x512_S1x1x512_0_0_0)) h = (up fun _ j => f j : FVec Ideal S1x512 .f32) := by
  funext i; idx_vars i; pointwise [up, row8, up3]
theorem row_cut0 (f : ℕ → ℝ) (h) : shapeCast (α := EReal) S1x128 (View.ld (Val := Elt Ideal) (e' := .f32) (row8 f)
    (Rect.unit (s := S1x8x512) (no_index ![0, 0, 0]) (no_index S1x1x128.size) inb_S1x8x512_S1x1x128_0_0_0)) h = (up fun _ j => f j : FVec Ideal S1x128 .f32) := by
  funext i; idx_vars i; pointwise [up, row8, up3]
theorem row_cut1 (f : ℕ → ℝ) (h) : shapeCast (α := EReal) S1x128 (View.ld (Val := Elt Ideal) (e' := .f32) (row8 f)
    (Rect.unit (s := S1x8x512) (no_index ![0, 0, 128]) (no_index S1x1x128.size) inb_S1x8x512_S1x1x128_0_0_128)) h = (up fun _ j => f (128 + j) : FVec Ideal S1x128 .f32) := by
  funext i; idx_vars i; pointwise [up, row8, up3]
theorem row_cut2 (f : ℕ → ℝ) (h) : shapeCast (α := EReal) S1x128 (View.ld (Val := Elt Ideal) (e' := .f32) (row8 f)
    (Rect.unit (s := S1x8x512) (no_index ![0, 0, 256]) (no_index S1x1x128.size) inb_S1x8x512_S1x1x128_0_0_256)) h = (up fun _ j => f (256 + j) : FVec Ideal S1x128 .f32) := by
  funext i; idx_vars i; pointwise [up, row8, up3]
theorem row_cut3 (f : ℕ → ℝ) (h) : shapeCast (α := EReal) S1x128 (View.ld (Val := Elt Ideal) (e' := .f32) (row8 f)
    (Rect.unit (s := S1x8x512) (no_index ![0, 0, 384]) (no_index S1x1x128.size) inb_S1x8x512_S1x1x128_0_0_384)) h = (up fun _ j => f (384 + j) : FVec Ideal S1x128 .f32) := by
  funext i; idx_vars i; pointwise [up, row8, up3]

/-! Storing a part. -/

theorem cast_st (f : ℕ → ℕ → ℝ) (h) : shapeCast (α := EReal) S1x128x128 (up f : FVec Ideal S128x128 .f32) h = (up3 fun _ => f : FVec Ideal S1x128x128 .f32) := by
  funext i; idx_vars i; pointwise [up, up3]
theorem cast_row512 (f : ℕ → ℕ → ℝ) (h) : shapeCast (α := EReal) S1x1x512 (up f : FVec Ideal S1x512 .f32) h = (up3 fun _ => f : FVec Ideal S1x1x512 .f32) := by
  funext i; idx_vars i; pointwise [up, up3]
theorem cast_row128 (f : ℕ → ℕ → ℝ) (h) : shapeCast (α := EReal) S1x1x128 (up f : FVec Ideal S1x128 .f32) h = (up3 fun _ => f : FVec Ideal S1x1x128 .f32) := by
  funext i; idx_vars i; pointwise [up, up3]

theorem canon_unit {s : Shape} {off size : Fin s.rank → ℕ} (inb : ∀ a, off a + size a ≤ s.size a)
    (w : (Rect.unit off size inb).shape.Idx → Elt Ideal .f32) (L : List (View.Piece (Elt Ideal) s .f32)) (y : s.Idx) :
    View.canon ((⟨Rect.unit off size inb, w⟩ : View.Piece (Elt Ideal) s .f32) :: L) y
      = if h : ∀ a, off a ≤ (y a).val ∧ (y a).val < off a + size a then w (Rect.unitLocal (s := s) (off := off) (size := size) y h)
        else View.canon L y := by
  by_cases h : ∀ a, off a ≤ (y a).val ∧ (y a).val < off a + size a
  · rw [dif_pos h]
    have hy : (Rect.unit off size inb).emb (Rect.unitLocal (s := s) (off := off) (size := size) y h) = y := funext fun a => Fin.ext (by
      show off a + 1 * (Rect.unitLocal (s := s) (off := off) (size := size) y h a).val = (y a).val
      have := h a
      rw [Rect.unitLocal_val]; omega)
    exact (congrArg (View.canon _) hy.symm).trans (View.canon_cons_emb (Rect.unit off size inb) w L _)
  · rw [dif_neg h]
    exact View.canon_cons_of_not_mem _ L (fun hm => h ((Rect.mem_set_unit (inb := inb)).mp hm))

/-- The carried state after its four stores. -/
theorem state_of (f : ℕ → ℕ → ℕ → ℝ) {p3 p2 p1 p0 : FVec Ideal S128x128 .f32} (c3 c2 c1 c0) (L : List (View.Piece (Elt Ideal) S4x128x128 .f32))
    (h3 : p3 = up (f 3)) (h2 : p2 = up (f 2)) (h1 : p1 = up (f 1)) (h0 : p0 = up (f 0)) :
    View.canon ((⟨Rect.unit ![3, 0, 0] S1x128x128.size inb_S4x128x128_S1x128x128_3_0_0, shapeCast S1x128x128 p3 c3⟩ : View.Piece (Elt Ideal) S4x128x128 .f32)
      :: ⟨Rect.unit ![2, 0, 0] S1x128x128.size inb_S4x128x128_S1x128x128_2_0_0, shapeCast S1x128x128 p2 c2⟩
      :: ⟨Rect.unit ![1, 0, 0] S1x128x128.size inb_S4x128x128_S1x128x128_1_0_0, shapeCast S1x128x128 p1 c1⟩
      :: ⟨Rect.unit ![0, 0, 0] S1x128x128.size inb_S4x128x128_S1x128x128_0_0_0, shapeCast S1x128x128 p0 c0⟩ :: L)
      = (up3 f : FVec Ideal S4x128x128 .f32) := by
  subst h3; subst h2; subst h1; subst h0
  rw [cast_st, cast_st, cast_st, cast_st]
  funext y
  have hy0 : (y 0).val < 4 := (y 0).isLt
  have hy1 : (y 1).val < 128 := (y 1).isLt
  have hy2 : (y 2).val < 128 := (y 2).isLt
  rw [canon_unit, canon_unit, canon_unit, canon_unit]
  have key : ∀ q : ℕ, (∀ a : Fin 3, (![q, 0, 0] : Fin 3 → ℕ) a ≤ (y a).val ∧ (y a).val < (![q, 0, 0] : Fin 3 → ℕ) a + S1x128x128.size a) ↔ (y 0).val = q := by
    intro q
    rw [Fin.forall_fin_succ, Fin.forall_fin_succ, Fin.forall_fin_one]
    show (q ≤ (y 0).val ∧ (y 0).val < q + 1) ∧ (0 ≤ (y 1).val ∧ (y 1).val < 0 + 128) ∧ (0 ≤ (y 2).val ∧ (y 2).val < 0 + 128) ↔ _
    omega
  by_cases e3 : (y 0).val = 3
  · rw [dif_pos ((key 3).mpr e3)]; simp [up3, e3, Rect.unitLocal_val]
  rw [dif_neg (fun h => e3 ((key 3).mp h))]
  by_cases e2 : (y 0).val = 2
  · rw [dif_pos ((key 2).mpr e2)]; simp [up3, e2, Rect.unitLocal_val]
  rw [dif_neg (fun h => e2 ((key 2).mp h))]
  by_cases e1 : (y 0).val = 1
  · rw [dif_pos ((key 1).mpr e1)]; simp [up3, e1, Rect.unitLocal_val]
  rw [dif_neg (fun h => e1 ((key 1).mp h))]
  have e0 : (y 0).val = 0 := by omega
  rw [dif_pos ((key 0).mpr e0)]; simp [up3, e0, Rect.unitLocal_val]

theorem in_row (y : S1x8x512.Idx) (o n : ℕ) : (∀ a : Fin 3, (![0, 0, o] : Fin 3 → ℕ) a ≤ (y a).val ∧ (y a).val < (![0, 0, o] : Fin 3 → ℕ) a + (![1, 1, n] : Fin 3 → ℕ) a)
    ↔ (y 1).val = 0 ∧ o ≤ (y 2).val ∧ (y 2).val < o + n := by
  have hy0 : (y 0).val < 1 := (y 0).isLt
  rw [Fin.forall_fin_succ, Fin.forall_fin_succ, Fin.forall_fin_one]
  show (0 ≤ (y 0).val ∧ (y 0).val < 0 + 1) ∧ (0 ≤ (y 1).val ∧ (y 1).val < 0 + 1) ∧ (o ≤ (y 2).val ∧ (y 2).val < o + n) ↔ _
  omega

/-- One row stored over a fill by zeros. -/
theorem row_A (f : ℕ → ℝ) {p : FVec Ideal S1x512 .f32} {z : FVec Ideal S1x8x512 .f32} (c) (L : List (View.Piece (Elt Ideal) S1x8x512 .f32))
    (h : p = up fun _ j => f j) (hz : z = row8 fun _ => 0) :
    View.canon ((⟨Rect.unit ![0, 0, 0] S1x1x512.size inb_S1x8x512_S1x1x512_0_0_0, shapeCast S1x1x512 p c⟩ : View.Piece (Elt Ideal) S1x8x512 .f32)
      :: ⟨Rect.unit ![0, 0, 0] S1x8x512.size inb_S1x8x512_S1x8x512_0_0_0, z⟩ :: L) = row8 f := by
  subst h; subst hz
  rw [cast_row512]
  funext y
  have hy2 : (y 2).val < 512 := (y 2).isLt
  rw [canon_unit, View.canon_cons_unit_lit' _ _ _ (by decide)]
  by_cases e : (y 1).val = 0
  · rw [dif_pos ((in_row y 0 512).mpr ⟨e, by omega⟩)]; simp [row8, up3, e, Rect.unitLocal_val]
  · rw [dif_neg fun h => e ((in_row y 0 512).mp h).1]; simp [row8, up3, e]

/-- One row stored over what the point before left. -/
theorem row_B (f f0 : ℕ → ℝ) {p : FVec Ideal S1x512 .f32} (c) {sg : RefSig} {κ : Kind} {sp : Space} (v : View sg κ sp S1x8x512 .f32) (g : v.ty.Contents (Elt Ideal))
    (hg : v.read (Elt Ideal) g = row8 f0) (h : p = up fun _ j => f j) :
    v.read (Elt Ideal) (v.writes (Elt Ideal) g [(⟨Rect.unit ![0, 0, 0] S1x1x512.size inb_S1x8x512_S1x1x512_0_0_0, shapeCast S1x1x512 p c⟩ : View.Piece (Elt Ideal) S1x8x512 .f32)])
      = row8 f := by
  subst h
  rw [cast_row512]
  funext y
  have hy2 : (y 2).val < 512 := (y 2).isLt
  rw [View.read_writes_cons_unit (heq := rfl), View.writes_nil, hg]
  by_cases e : (y 1).val = 0
  · rw [dif_pos ((in_row y 0 512).mpr ⟨e, by omega⟩)]; simp [row8, up3, e, Rect.unitLocal_val]
  · rw [dif_neg fun h => e ((in_row y 0 512).mp h).1]; simp [row8, up3, e]

/-- One row stored in four parts over a fill by zeros. -/
theorem rows_A (f : ℕ → ℝ) {p3 p2 p1 p0 : FVec Ideal S1x128 .f32} {z : FVec Ideal S1x8x512 .f32} (c3 c2 c1 c0) (L : List (View.Piece (Elt Ideal) S1x8x512 .f32))
    (h3 : p3 = up fun _ j => f (384 + j)) (h2 : p2 = up fun _ j => f (256 + j)) (h1 : p1 = up fun _ j => f (128 + j)) (h0 : p0 = up fun _ j => f j)
    (hz : z = row8 fun _ => 0) :
    View.canon ((⟨Rect.unit ![0, 0, 384] S1x1x128.size inb_S1x8x512_S1x1x128_0_0_384, shapeCast S1x1x128 p3 c3⟩ : View.Piece (Elt Ideal) S1x8x512 .f32)
      :: ⟨Rect.unit ![0, 0, 256] S1x1x128.size inb_S1x8x512_S1x1x128_0_0_256, shapeCast S1x1x128 p2 c2⟩
      :: ⟨Rect.unit ![0, 0, 128] S1x1x128.size inb_S1x8x512_S1x1x128_0_0_128, shapeCast S1x1x128 p1 c1⟩
      :: ⟨Rect.unit ![0, 0, 0] S1x1x128.size inb_S1x8x512_S1x1x128_0_0_0, shapeCast S1x1x128 p0 c0⟩
      :: ⟨Rect.unit ![0, 0, 0] S1x8x512.size inb_S1x8x512_S1x8x512_0_0_0, z⟩ :: L) = row8 f := by
  subst h3; subst h2; subst h1; subst h0; subst hz
  rw [cast_row128, cast_row128, cast_row128, cast_row128]
  funext y
  have hy2 : (y 2).val < 512 := (y 2).isLt
  rw [canon_unit, canon_unit, canon_unit, canon_unit, View.canon_cons_unit_lit' _ _ _ (by decide)]
  by_cases e : (y 1).val = 0
  · by_cases e3 : 384 ≤ (y 2).val
    · rw [dif_pos ((in_row y 384 128).mpr ⟨e, by omega⟩)]; simp [row8, up3, e, Rect.unitLocal_val, e3]
    rw [dif_neg fun h => e3 ((in_row y 384 128).mp h).2.1]
    by_cases e2 : 256 ≤ (y 2).val
    · rw [dif_pos ((in_row y 256 128).mpr ⟨e, by omega⟩)]; simp [row8, up3, e, Rect.unitLocal_val, e2]
    rw [dif_neg fun h => e2 ((in_row y 256 128).mp h).2.1]
    by_cases e1 : 128 ≤ (y 2).val
    · rw [dif_pos ((in_row y 128 128).mpr ⟨e, by omega⟩)]; simp [row8, up3, e, Rect.unitLocal_val, e1]
    rw [dif_neg fun h => e1 ((in_row y 128 128).mp h).2.1]
    rw [dif_pos ((in_row y 0 128).mpr ⟨e, by omega⟩)]; simp [row8, up3, e, Rect.unitLocal_val]
  · rw [dif_neg fun h => e ((in_row y 384 128).mp h).1, dif_neg fun h => e ((in_row y 256 128).mp h).1,
      dif_neg fun h => e ((in_row y 128 128).mp h).1, dif_neg fun h => e ((in_row y 0 128).mp h).1]
    simp [row8, up3, e]

/-- One row stored in four parts over what the point before left. -/
theorem rows_B (f f0 : ℕ → ℝ) {p3 p2 p1 p0 : FVec Ideal S1x128 .f32} (c3 c2 c1 c0)
    {sg : RefSig} {κ : Kind} {sp : Space} (v : View sg κ sp S1x8x512 .f32) (g : v.ty.Contents (Elt Ideal)) (hg : v.read (Elt Ideal) g = row8 f0)
    (h3 : p3 = up fun _ j => f (384 + j)) (h2 : p2 = up fun _ j => f (256 + j)) (h1 : p1 = up fun _ j => f (128 + j)) (h0 : p0 = up fun _ j => f j) :
    v.read (Elt Ideal) (v.writes (Elt Ideal) g
      [(⟨Rect.unit ![0, 0, 384] S1x1x128.size inb_S1x8x512_S1x1x128_0_0_384, shapeCast S1x1x128 p3 c3⟩ : View.Piece (Elt Ideal) S1x8x512 .f32),
      ⟨Rect.unit ![0, 0, 256] S1x1x128.size inb_S1x8x512_S1x1x128_0_0_256, shapeCast S1x1x128 p2 c2⟩,
      ⟨Rect.unit ![0, 0, 128] S1x1x128.size inb_S1x8x512_S1x1x128_0_0_128, shapeCast S1x1x128 p1 c1⟩,
      ⟨Rect.unit ![0, 0, 0] S1x1x128.size inb_S1x8x512_S1x1x128_0_0_0, shapeCast S1x1x128 p0 c0⟩]) = row8 f := by
  subst h3; subst h2; subst h1; subst h0
  rw [cast_row128, cast_row128, cast_row128, cast_row128]
  funext y
  have hy2 : (y 2).val < 512 := (y 2).isLt
  rw [View.read_writes_cons_unit (heq := rfl), View.read_writes_cons_unit (heq := rfl), View.read_writes_cons_unit (heq := rfl),
    View.read_writes_cons_unit (heq := rfl), View.writes_nil, hg]
  by_cases e : (y 1).val = 0
  · by_cases e3 : 384 ≤ (y 2).val
    · rw [dif_pos ((in_row y 384 128).mpr ⟨e, by omega⟩)]; simp [row8, up3, e, Rect.unitLocal_val, e3]
    rw [dif_neg fun h => e3 ((in_row y 384 128).mp h).2.1]
    by_cases e2 : 256 ≤ (y 2).val
    · rw [dif_pos ((in_row y 256 128).mpr ⟨e, by omega⟩)]; simp [row8, up3, e, Rect.unitLocal_val, e2]
    rw [dif_neg fun h => e2 ((in_row y 256 128).mp h).2.1]
    by_cases e1 : 128 ≤ (y 2).val
    · rw [dif_pos ((in_row y 128 128).mpr ⟨e, by omega⟩)]; simp [row8, up3, e, Rect.unitLocal_val, e1]
    rw [dif_neg fun h => e1 ((in_row y 128 128).mp h).2.1]
    rw [dif_pos ((in_row y 0 128).mpr ⟨e, by omega⟩)]; simp [row8, up3, e, Rect.unitLocal_val]
  · rw [dif_neg fun h => e ((in_row y 384 128).mp h).1, dif_neg fun h => e ((in_row y 256 128).mp h).1,
      dif_neg fun h => e ((in_row y 128 128).mp h).1, dif_neg fun h => e ((in_row y 0 128).mp h).1]
    simp [row8, up3, e]

end Cert.SsdCoreBwdIdeal.Value
-- ==== Proof.SsdSpec.lean ====
module
public import proofs.«01_k».proof.Proof.SsdMath

/-!
What one grid point of the recurrence's backward kernel computes, over the real numbers. `i`, `k` are places of a chunk of 128,
`h` a head, `J` a lane of the 512 lanes of a group of eight heads.
-/

@[expose] public section

noncomputable section

open scoped BigOperators
open Finset

namespace Cert.Ssd

/-- The head a lane of group `g` belongs to. -/
def head (g J : ℕ) : ℕ := g * 8 + J / 64

/-- A sum up to place `i`, as the kernel takes it: a product with a triangle of ones. -/
def csum (f : ℕ → ℝ) (i : ℕ) : ℝ := ∑ k ∈ range 128, (if k ≤ i then 1 else 0) * f k

theorem csum_eq (f : ℕ → ℝ) (i : ℕ) (hi : i < 128) : csum f i = ∑ k ∈ range (i + 1), f k := by
  unfold csum
  simp only [ite_mul, one_mul, zero_mul]
  rw [← sum_filter]
  refine sum_congr ?_ fun _ _ => rfl
  ext k; simp only [mem_filter, mem_range]; omega

/-- The blocks one grid point reads. -/
structure Blk where
  /-- the group of heads -/
  g : ℕ
  /-- the forward result -/
  Y : ℕ → ℕ → ℝ
  /-- the gate -/
  Z : ℕ → ℕ → ℝ
  /-- the cotangent -/
  D : ℕ → ℕ → ℝ
  /-- the values -/
  X : ℕ → ℕ → ℝ
  /-- the keys -/
  B : ℕ → ℕ → ℝ
  /-- the queries -/
  C : ℕ → ℕ → ℝ
  /-- the step sizes before the softplus -/
  T : ℕ → ℕ → ℝ
  /-- the weight of the norm -/
  W : ℕ → ℝ
  /-- the bias of the step sizes -/
  b : ℕ → ℝ
  /-- the logarithm of the decay -/
  al : ℕ → ℝ
  /-- the weight of the skip connection -/
  dx : ℕ → ℝ

namespace Blk
variable (k : Blk)

/-- The step size of a head. -/
def dt (i h : ℕ) : ℝ := sp (k.T i h + k.b h)
/-- The logarithm of a head's decay in one step. -/
def a (i h : ℕ) : ℝ := k.dt i h * (0 - Real.exp (k.al h))
/-- Its sum up to place `i`. -/
def cs (i h : ℕ) : ℝ := csum (fun l => k.a l h) i
/-- The gradient of the recurrence's result. -/
def dyv (i J : ℕ) : ℝ := dy (k.Y i) (k.Z i) (k.D i) k.W J
/-- The gradient of the step-sized value, from the gradient `S` of the state after the chunk. -/
def dxd (S : ℕ → ℕ → ℕ → ℝ) (i J : ℕ) : ℝ :=
  (∑ l ∈ range 128, (∑ n ∈ range 128, k.B i n * k.C l n) * (if i ≤ l then Real.exp (k.cs l (head k.g J) - k.cs i (head k.g J)) else 0) * k.dyv l J)
    + Real.exp (k.cs 127 (head k.g J) - k.cs i (head k.g J)) * ∑ n ∈ range 128, k.B i n * S (J / 128) (J % 128) n
/-- The gradient of the value. -/
def dxs (S : ℕ → ℕ → ℕ → ℝ) (i J : ℕ) : ℝ := k.dxd S i J * k.dt i (head k.g J) + k.dx J * k.dyv i J
/-- The gradient of the state before the chunk. -/
def next (S : ℕ → ℕ → ℕ → ℝ) (q j n : ℕ) : ℝ :=
  S q j n * Real.exp (k.cs 127 (head k.g (128 * q + j)))
    + ∑ l ∈ range 128, Real.exp (k.cs l (head k.g (128 * q + j))) * k.dyv l (128 * q + j) * k.C l n
/-- The chunk's part of the gradient of the norm's weight. -/
def dnw (J : ℕ) : ℝ := ∑ l ∈ range 128, k.D l J * hat (k.Y l) (k.Z l) J
/-- The chunk's part of the gradient of the skip connection's weight. -/
def ddexp (J : ℕ) : ℝ := ∑ l ∈ range 128, k.dyv l J * k.X l J
end Blk

end Cert.Ssd
-- ==== Proof.SsdPoint.lean ====
module
public import proofs.«01_k».proof.Proof.Gen.SsdCoreBwdIdeal.Value
public import proofs.«01_k».proof.Proof.SsdPieces
public import proofs.«01_k».proof.Proof.SsdSpec

/-!
What the recurrence's backward kernel leaves at one grid point, when its blocks hold real numbers.
-/

@[expose] public section

set_option maxRecDepth 16384

noncomputable section

open Idealize.ShloMosaic Idealize.ShloMosaic.TcCoe Idealize.SL.Sem
open Idealize.ShloMosaic.Pipeline (Dat)
open scoped BigOperators

namespace Cert.SsdCoreBwdIdeal.Value

open Cert.SsdCoreBwdIdeal Cert.SsdCoreBwdIdeal.Gen Cert.Ssd Cert.SsdCoreBwdIdeal.Lift

variable (m : (ℓ : Loc nD τ sig) → Buf (Elt Ideal) ℓ)

/-- The blocks of grid point `t` hold the real numbers `k`. -/
structure Holds (c : Dev nD) (t : Fin cfg0.N) (k : Blk) : Prop where
  hg : (grid0.coords t 0).val = k.g
  g8 : k.g < 8
  h0 : iblk m c 0 t = (up k.D : FVec Ideal S128x512 .bf16)
  h1 : iblk m c 1 t = (up k.Y : FVec Ideal S128x512 .bf16)
  h2 : X0_2 m c t = (up k.Z : FVec Ideal S128x512 .bf16)
  h3 : iblk m c 3 t = (up fun _ j => k.W j : FVec Ideal S1x512 .f32)
  h4 : iblk m c 4 t = (up k.X : FVec Ideal S128x512 .bf16)
  h5 : iblk m c 5 t = (up k.B : FVec Ideal S128x128 .bf16)
  h6 : iblk m c 6 t = (up k.C : FVec Ideal S128x128 .bf16)
  h7 : iblk m c 7 t = (up k.T : FVec Ideal S128x128 .bf16)
  h8 : iblk m c 8 t = (up fun _ j => k.b j : FVec Ideal S1x128 .f32)
  h9 : iblk m c 9 t = (up fun _ j => k.al j : FVec Ideal S1x128 .f32)
  h10 : iblk m c 10 t = (up fun _ j => k.dx j : FVec Ideal S1x512 .f32)

theorem up_congr {a b : ℕ} {φ : FTy} {f g : ℕ → ℕ → ℝ} (h : ∀ i < a, ∀ j < b, f i j = g i j) :
    (up f : FVec Ideal ⟨2, ![a, b]⟩ φ) = up g := by
  funext x
  exact congrArg _ (h _ (x 0).isLt _ (x 1).isLt)

theorem add_word (a b : ℕ) : Scalar.addi (BitVec.ofNat 32 a) (BitVec.ofNat 32 b) = BitVec.ofNat 32 (a + b) := (BitVec.ofNat_add a b).symm
theorem mul_word (a b : ℕ) : Scalar.muli (BitVec.ofNat 32 a) (BitVec.ofNat 32 b) = BitVec.ofNat 32 (a * b) := (BitVec.ofNat_mul a b).symm

theorem log_one_exp_up {a b : ℕ} {φ : FTy} (f : ℕ → ℕ → ℝ) :
    log (up (fun i j => 1 + Real.exp (f i j)) : FVec Ideal ⟨2, ![a, b]⟩ φ) = up fun i j => Real.log (1 + Real.exp (f i j)) :=
  log_up _ fun i j => by positivity

theorem rsqrt_mean_up {a b : ℕ} {φ : FTy} (g : ℕ → ℕ → ℝ) :
    rsqrt (up (fun i _ => (∑ k ∈ Finset.range 512, g i k * g i k) / 512 + eps) : FVec Ideal ⟨2, ![a, b]⟩ φ) = up fun i _ => inv (g i) :=
  rsqrt_up _ fun i _ => add_pos_of_nonneg_of_pos (meanSq_nonneg _) eps_pos

theorem tri_up : sitofp .f32 (extui 32 (msk (fun i j => decide (j ≤ i)) : IVec S128x128 1) natLt_1_32)
    = (up fun i j => if j ≤ i then 1 else 0 : FVec Ideal S128x128 .f32) := by
  funext i
  show ((((BitVec.ofBool (decide ((i 1).val ≤ (i 0).val))).setWidth 32).toInt : ℝ) : EReal) = (((if (i 1).val ≤ (i 0).val then 1 else 0) : ℝ) : EReal)
  by_cases h : (i 1).val ≤ (i 0).val <;> simp [h]

theorem low_msk : cmpi .sge (iota .tc S128x128 32 (no_index [0]) iota_S128x128_d0_w32) (iota .tc S128x128 32 (no_index [1]) iota_S128x128_d1_w32)
    = msk fun i j => decide (j ≤ i) := low_eq
theorem high_msk : cmpi .sge (iota .tc S128x128 32 (no_index [1]) iota_S128x128_d1_w32) (iota .tc S128x128 32 (no_index [0]) iota_S128x128_d0_w32)
    = msk fun i j => decide (i ≤ j) := high_eq
theorem half_msk : cmpi .slt (iota .tc S1x128 32 (no_index [1]) iota_S1x128_d1_w32) (broadcast S1x128 64#32) = msk fun _ j => decide (j < 64) := half_eq
theorem halfRows_msk : cmpi .slt (iota .tc S128x1 32 (no_index [0]) iota_S128x1_d0_w32) (broadcast S128x1 64#32) = msk fun i _ => decide (i < 64) := halfRows_eq

theorem sig_fold (z : ℝ) : 1 / 2 * Real.tanh (1 / 2 * z) + 1 / 2 = Cert.Ssd.sig z := sig_eq_tanh z
theorem silu_fold (z : ℝ) : z * Cert.Ssd.sig z = silu z := rfl
theorem sp_fold (x : ℝ) : max x 0 + Real.log (1 + Real.exp (0 - |x|)) = sp x := by rw [zero_sub]; rfl
theorem csum_fold (f : ℕ → ℝ) (i : ℕ) : ∑ k ∈ Finset.range 128, (if k ≤ i then 1 else 0) * f k = csum f i := rfl
theorem pick {n h : ℕ} (hh : h < n) (f : ℕ → ℝ) : (∑ k ∈ Finset.range n, if k = h then f k else 0) = f h := by
  rw [Finset.sum_ite_eq' , if_pos (Finset.mem_range.mpr hh)]

section
variable {a b : ℕ}
theorem zero_up' : (broadcast ⟨2, ![a, b]⟩ (FloatOps.ofBits (F := Ideal) .f32 0x00000000#32)) = (up fun _ _ => 0 : FVec Ideal ⟨2, ![a, b]⟩ .f32) := zero_up
theorem one_up' : (broadcast ⟨2, ![a, b]⟩ (FloatOps.ofBits (F := Ideal) .f32 0x3F800000#32)) = (up fun _ _ => 1 : FVec Ideal ⟨2, ![a, b]⟩ .f32) := one_up
theorem half_up' : (broadcast ⟨2, ![a, b]⟩ (FloatOps.ofBits (F := Ideal) .f32 0x3F000000#32)) = (up fun _ _ => 1 / 2 : FVec Ideal ⟨2, ![a, b]⟩ .f32) := half_up
theorem n512_up' : (broadcast ⟨2, ![a, b]⟩ (FloatOps.ofBits (F := Ideal) .f32 0x44000000#32)) = (up fun _ _ => 512 : FVec Ideal ⟨2, ![a, b]⟩ .f32) := n512_up
theorem eps_up' : (broadcast ⟨2, ![a, b]⟩ (FloatOps.ofBits (F := Ideal) .f32 0x3727C5AC#32)) = (up fun _ _ => eps : FVec Ideal ⟨2, ![a, b]⟩ .f32) := eps_up
end

/-- Four blocks of 128 lanes side by side. -/
theorem cat_of (f : ℕ → ℕ → ℝ) {a0 a1 a2 a3 : FVec Ideal S128x128 .f32} (h)
    (h0 : a0 = up fun i j => f i j) (h1 : a1 = up fun i j => f i (128 + j)) (h2 : a2 = up fun i j => f i (256 + j)) (h3 : a3 = up fun i j => f i (384 + j)) :
    concatenate S128x512 1 [⟨S128x128, a0⟩, ⟨S128x128, a1⟩, ⟨S128x128, a2⟩, ⟨S128x128, a3⟩] h = (up f : FVec Ideal S128x512 .f32) := by
  subst h0; subst h1; subst h2; subst h3
  funext i; idx_vars i; pointwise [up]
  by_cases g0 : i1.val < 128
  · simp [g0]
  by_cases g1 : i1.val < 256
  · simp [g0, show i1.val - 128 < 128 by omega, show 128 + (i1.val - 128) = i1.val by omega]
  by_cases g2 : i1.val < 384
  · simp [g0, show ¬i1.val - 128 < 128 by omega, show i1.val - 128 - 128 < 128 by omega, show 256 + (i1.val - 128 - 128) = i1.val by omega]
  · simp [g0, show ¬i1.val - 128 < 128 by omega, show ¬i1.val - 128 - 128 < 128 by omega, show 384 + (i1.val - 128 - 128 - 128) = i1.val by omega]

/-- A lane of a pair of heads: which head it belongs to. -/
theorem head_lo (g q j : ℕ) (hj : j < 64) : head g (128 * q + j) = g * 8 + 2 * q := by unfold head; omega
theorem head_hi (g q j : ℕ) (hj : ¬j < 64) (h : j < 128) : head g (128 * q + j) = g * 8 + 2 * q + 1 := by unfold head; omega

/-- One block of 128 lanes of the gradient of the value, as the kernel computes it. -/
def dxsq (k : Blk) (S : ℕ → ℕ → ℕ → ℝ) (q i j : ℕ) : ℝ :=
  (((if j < 64 then ∑ l ∈ Finset.range 128, ((∑ n ∈ Finset.range 128, k.B i n * k.C l n) *
        if i ≤ l then Real.exp (k.cs l (k.g * 8 + 2 * q) - k.cs i (k.g * 8 + 2 * q)) else 0) * k.dyv l (128 * q + j)
      else ∑ l ∈ Finset.range 128, ((∑ n ∈ Finset.range 128, k.B i n * k.C l n) *
        if i ≤ l then Real.exp (k.cs l (k.g * 8 + 2 * q + 1) - k.cs i (k.g * 8 + 2 * q + 1)) else 0) * k.dyv l (128 * q + j))
    + (if j < 64 then Real.exp (k.cs 127 (k.g * 8 + 2 * q) - k.cs i (k.g * 8 + 2 * q))
        else Real.exp (k.cs 127 (k.g * 8 + 2 * q + 1) - k.cs i (k.g * 8 + 2 * q + 1))) * ∑ n ∈ Finset.range 128, k.B i n * S q j n)
    * (if j < 64 then k.dt i (k.g * 8 + 2 * q) else k.dt i (k.g * 8 + 2 * q + 1))) + k.dx (128 * q + j) * k.dyv i (128 * q + j)

theorem dxsq_eq (k : Blk) (S : ℕ → ℕ → ℕ → ℝ) (q i j : ℕ) (hj : j < 128) : dxsq k S q i j = k.dxs S i (128 * q + j) := by
  have e1 : (128 * q + j) / 128 = q := by omega
  have e2 : (128 * q + j) % 128 = j := by omega
  by_cases h : j < 64
  · simp only [dxsq, Blk.dxs, Blk.dxd, head_lo _ _ _ h, if_pos h, e1, e2]
  · simp only [dxsq, Blk.dxs, Blk.dxd, head_hi _ _ _ h hj, if_neg h, e1, e2]

theorem zero3' : shapeCast S4x128x128 (broadcast S4x128x128 (FloatOps.ofBits (F := Ideal) .f32 0x00000000#32)) shapeCasts_S4x128x128_S4x128x128
    = (up3 fun _ _ _ => 0 : FVec Ideal S4x128x128 .f32) := zero3
theorem zero8' : shapeCast S1x8x512 (broadcast S8x512 (FloatOps.ofBits (F := Ideal) .f32 0x00000000#32)) shapeCasts_S8x512_S1x8x512 = row8 fun _ => 0 := zero8
theorem zero8u (h) : shapeCast S1x8x512 (up (fun _ _ => 0) : FVec Ideal S8x512 .f32) h = row8 fun _ => 0 := by
  funext i; idx_vars i; pointwise [up, row8, up3]; simp

/-- One quarter of the state's gradient before the chunk, as the kernel computes it. -/
def nextq (k : Blk) (S : ℕ → ℕ → ℕ → ℝ) (q j n : ℕ) : ℝ :=
  S q j n * (if j < 64 then Real.exp (k.cs 127 (k.g * 8 + 2 * q)) else Real.exp (k.cs 127 (k.g * 8 + 2 * q + 1)))
    + ∑ l ∈ Finset.range 128, (if j < 64 then Real.exp (k.cs l (k.g * 8 + 2 * q)) else Real.exp (k.cs l (k.g * 8 + 2 * q + 1))) * k.dyv l (128 * q + j) * k.C l n

theorem nextq_eq (k : Blk) (S : ℕ → ℕ → ℕ → ℝ) (q j n : ℕ) (hj : j < 128) : nextq k S q j n = k.next S q j n := by
  by_cases h : j < 64
  · simp only [nextq, Blk.next, head_lo _ _ _ h, if_pos h]
  · simp only [nextq, Blk.next, head_hi _ _ _ h hj, if_neg h]

theorem dxs_point_B (c : Dev nD) (t : Fin cfg0.N) (h : ¬t.val % 32 = 0) (k : Blk) (hk : Holds m c t k) (S : ℕ → ℕ → ℕ → ℝ)
    (hS : (outsAt0 m c (t.val - 1) (Nat.lt_of_le_of_lt (Nat.sub_le _ _) t.isLt)).2.2.2.2.2.2.2.2 = (up3 S : FVec Ideal S4x128x128 .f32)) :
    (outsAt0 m c t.val t.isLt).2.1 = (up (k.dxs S) : FVec Ideal S128x512 .bf16) := by
  have g8 := hk.g8
  rw [outsAt0_B m c t h]; frame_out
  refine (congrArg (fun x => truncf FTy.bf16 x (by decide)) (cat_of (k.dxs (S)) _ ?_ ?_ ?_ ?_)).trans (truncf_up _ _)
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, hS, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun i _ j hj => (show _ = dxsq k S 0 i j from by simp only [dxsq, Nat.mul_zero, Nat.zero_add, mul_zero, Finset.sum_const_zero, add_zero]; rfl).trans ((dxsq_eq k S 0 i j hj).trans (by simp))
  · exact up_congr fun i _ j hj => (show _ = dxsq k S 1 i j from by rfl).trans (dxsq_eq k S 1 i j hj)
  · exact up_congr fun i _ j hj => (show _ = dxsq k S 2 i j from by rfl).trans (dxsq_eq k S 2 i j hj)
  · exact up_congr fun i _ j hj => (show _ = dxsq k S 3 i j from by rfl).trans (dxsq_eq k S 3 i j hj)

theorem dxs_point_A (c : Dev nD) (t : Fin cfg0.N) (h : t.val % 32 = 0) (k : Blk) (hk : Holds m c t k) :
    (outsAt0 m c t.val t.isLt).2.1 = (up (k.dxs (fun _ _ _ => 0)) : FVec Ideal S128x512 .bf16) := by
  have g8 := hk.g8
  rw [outsAt0_A m c t h]; frame_out
  refine (congrArg (fun x => truncf FTy.bf16 x (by decide)) (cat_of (k.dxs (fun _ _ _ => 0)) _ ?_ ?_ ?_ ?_)).trans (truncf_up _ _)
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, zero3', add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun i _ j hj => (show _ = dxsq k (fun _ _ _ => 0) 0 i j from by simp only [dxsq, Nat.mul_zero, Nat.zero_add, mul_zero, Finset.sum_const_zero, add_zero]; rfl).trans ((dxsq_eq k (fun _ _ _ => 0) 0 i j hj).trans (by simp))
  · exact up_congr fun i _ j hj => (show _ = dxsq k (fun _ _ _ => 0) 1 i j from by simp only [dxsq, Nat.mul_zero, Nat.zero_add, mul_zero, Finset.sum_const_zero, add_zero]; rfl).trans (dxsq_eq k (fun _ _ _ => 0) 1 i j hj)
  · exact up_congr fun i _ j hj => (show _ = dxsq k (fun _ _ _ => 0) 2 i j from by simp only [dxsq, Nat.mul_zero, Nat.zero_add, mul_zero, Finset.sum_const_zero, add_zero]; rfl).trans (dxsq_eq k (fun _ _ _ => 0) 2 i j hj)
  · exact up_congr fun i _ j hj => (show _ = dxsq k (fun _ _ _ => 0) 3 i j from by simp only [dxsq, Nat.mul_zero, Nat.zero_add, mul_zero, Finset.sum_const_zero, add_zero]; rfl).trans (dxsq_eq k (fun _ _ _ => 0) 3 i j hj)

theorem next_point_B (c : Dev nD) (t : Fin cfg0.N) (h : ¬t.val % 32 = 0) (k : Blk) (hk : Holds m c t k) (S : ℕ → ℕ → ℕ → ℝ)
    (hS : (outsAt0 m c (t.val - 1) (Nat.lt_of_le_of_lt (Nat.sub_le _ _) t.isLt)).2.2.2.2.2.2.2.2 = (up3 S : FVec Ideal S4x128x128 .f32)) :
    (outsAt0 m c t.val t.isLt).2.2.2.2.2.2.2.2 = (up3 (k.next S) : FVec Ideal S4x128x128 .f32) := by
  have g8 := hk.g8
  rw [outsAt0_B m c t h]; frame_out
  refine state_of (k.next S) _ _ _ _ _ ?_ ?_ ?_ ?_
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, hS, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun j hj n _ => (show _ = nextq k S 3 j n from by rfl).trans (nextq_eq k S 3 j n hj)
  · exact up_congr fun j hj n _ => (show _ = nextq k S 2 j n from by rfl).trans (nextq_eq k S 2 j n hj)
  · exact up_congr fun j hj n _ => (show _ = nextq k S 1 j n from by rfl).trans (nextq_eq k S 1 j n hj)
  · exact up_congr fun j hj n _ => (show _ = nextq k S 0 j n from by simp only [nextq, Nat.mul_zero, Nat.zero_add, zero_mul, zero_add]; rfl).trans (nextq_eq k S 0 j n hj)

theorem next_point_A (c : Dev nD) (t : Fin cfg0.N) (h : t.val % 32 = 0) (k : Blk) (hk : Holds m c t k) :
    (outsAt0 m c t.val t.isLt).2.2.2.2.2.2.2.2 = (up3 (k.next (fun _ _ _ => 0)) : FVec Ideal S4x128x128 .f32) := by
  have g8 := hk.g8
  rw [outsAt0_A m c t h]; frame_out
  refine state_of (k.next (fun _ _ _ => 0)) _ _ _ _ _ ?_ ?_ ?_ ?_
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, zero3', add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun j hj n _ => (show _ = nextq k (fun _ _ _ => 0) 3 j n from by simp only [nextq, zero_mul, zero_add]; rfl).trans (nextq_eq k (fun _ _ _ => 0) 3 j n hj)
  · exact up_congr fun j hj n _ => (show _ = nextq k (fun _ _ _ => 0) 2 j n from by simp only [nextq, zero_mul, zero_add]; rfl).trans (nextq_eq k (fun _ _ _ => 0) 2 j n hj)
  · exact up_congr fun j hj n _ => (show _ = nextq k (fun _ _ _ => 0) 1 j n from by simp only [nextq, zero_mul, zero_add]; rfl).trans (nextq_eq k (fun _ _ _ => 0) 1 j n hj)
  · exact up_congr fun j hj n _ => (show _ = nextq k (fun _ _ _ => 0) 0 j n from by simp only [nextq, Nat.mul_zero, Nat.zero_add, zero_mul, zero_add]; rfl).trans (nextq_eq k (fun _ _ _ => 0) 0 j n hj)

theorem dnw_point_B (c : Dev nD) (t : Fin cfg0.N) (h : ¬t.val % 32 = 0) (k : Blk) (hk : Holds m c t k) (f : ℕ → ℝ)
    (hf : (outsAt0 m c (t.val - 1) (Nat.lt_of_le_of_lt (Nat.sub_le _ _) t.isLt)).2.2.2.2.2.2.1 = row8 f) :
    (outsAt0 m c t.val t.isLt).2.2.2.2.2.2.1 = row8 (fun J => f J + k.dnw J) := by
  have g8 := hk.g8
  rw [outsAt0_B m c t h]; frame_out
  refine row_B (fun J => f J + k.dnw J) f _ _ _ ((Memref.IsWhole.read_unread _ _).trans hf) ?_
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, hf, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun _ _ j _ => rfl

theorem ddexp_point_B (c : Dev nD) (t : Fin cfg0.N) (h : ¬t.val % 32 = 0) (k : Blk) (hk : Holds m c t k) (f : ℕ → ℝ)
    (hf : (outsAt0 m c (t.val - 1) (Nat.lt_of_le_of_lt (Nat.sub_le _ _) t.isLt)).2.2.2.2.2.2.2.1 = row8 f) :
    (outsAt0 m c t.val t.isLt).2.2.2.2.2.2.2.1 = row8 (fun J => f J + k.ddexp J) := by
  have g8 := hk.g8
  rw [outsAt0_B m c t h]; frame_out
  refine rows_B (fun J => f J + k.ddexp J) f _ _ _ _ _ _ ((Memref.IsWhole.read_unread _ _).trans hf) ?_ ?_ ?_ ?_
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, hf, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun _ _ j _ => rfl
  · exact up_congr fun _ _ j _ => rfl
  · exact up_congr fun _ _ j _ => rfl
  · exact up_congr fun _ _ j _ => rfl

theorem dnw_point_A (c : Dev nD) (t : Fin cfg0.N) (h : t.val % 32 = 0) (k : Blk) (hk : Holds m c t k) :
    (outsAt0 m c t.val t.isLt).2.2.2.2.2.2.1 = row8 k.dnw := by
  have g8 := hk.g8
  rw [outsAt0_A m c t h]; frame_out
  refine row_A k.dnw _ _ ?_ zero8'
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, zero8u, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun _ _ j _ => rfl

theorem ddexp_point_A (c : Dev nD) (t : Fin cfg0.N) (h : t.val % 32 = 0) (k : Blk) (hk : Holds m c t k) :
    (outsAt0 m c t.val t.isLt).2.2.2.2.2.2.2.1 = row8 k.ddexp := by
  have g8 := hk.g8
  rw [outsAt0_A m c t h]; frame_out
  refine rows_A k.ddexp _ _ _ _ _ ?_ ?_ ?_ ?_ zero8'
  all_goals
    try simp (disch := decide) only [View.ld_unit_lit', Memref.IsWhole.read_unread, View.readAt_eq_ld, read_unread_whole, ↓View.readCov_skip, ↓View.readCov_fill]
    simp (disch := omega) only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, hk.hg, hk.h0, hk.h1, hk.h2, hk.h3, hk.h4, hk.h5, hk.h6, hk.h7, hk.h8, hk.h9, hk.h10, zero8u, add_word, mul_word,
      mulf_up, addf_up, subf_up, exp_up, tanh_up, maximumf_up, absf_up, select_up, zero_up', one_up', half_up', n512_up', eps_up', extf_up, truncf_up,
      div512_up, exp_mask_up, mask_named, cast_up, cast_msk, col_up, row_up, row512_up, bc_row_up, bc_row_msk, bc_col_up, bc_col_msk,
      bc_row512_up, bc_col512_up, bc_one_up, cut_last, cut0, cut1, cut2, cut3, cutr0, cutr1, cutr2, cutr3, transpose_up, rows_up, cols_up, rows512_up,
      cols512_up, dot10_up, dot11_up, dot00_up, lane_eq, sub_eq', low_msk, high_msk, half_msk, halfRows_msk, tri_up, log_one_exp_up, rsqrt_mean_up,
      sig_fold, silu_fold, sp_fold, sub_self, mul_zero, zero_mul, Finset.sum_const_zero, add_zero, csum_fold, pick, decide_eq_true_eq, zero_add,
      st_cut0, st_cut1, st_cut2, st_cut3, row_cut, row_cut0, row_cut1, row_cut2, row_cut3]
  · exact up_congr fun _ _ j _ => rfl
  · exact up_congr fun _ _ j _ => rfl
  · exact up_congr fun _ _ j _ => rfl
  · exact up_congr fun _ _ j _ => rfl

end Cert.SsdCoreBwdIdeal.Value
-- ==== Proof.SsdGlobal.lean ====
module
public import proofs.«01_k».proof.Proof.SsdSpec

/-!
The gradient of the recurrence through the gated norm over the whole sequence, on the real numbers. `t`, `s` are places of the
sequence, `g` one of eight groups of eight heads, `h` a head of 64 lanes, `J` a lane of all 4096.
-/

@[expose] public section

noncomputable section

open scoped BigOperators
open Finset

namespace Cert.Ssd

/-- The seven arguments. -/
structure Ins where
  /-- values, keys and queries side by side -/
  A0 : ℕ → ℕ → ℝ
  /-- the gate and, from lane 10240, the step sizes -/
  A1 : ℕ → ℕ → ℝ
  /-- the cotangent -/
  A2 : ℕ → ℕ → ℝ
  /-- the bias of the step sizes -/
  A3 : ℕ → ℕ → ℝ
  /-- the logarithm of the decay -/
  A4 : ℕ → ℕ → ℝ
  /-- the weight of the skip connection -/
  A5 : ℕ → ℕ → ℝ
  /-- the weight of the norm -/
  A6 : ℕ → ℕ → ℝ

namespace Ins
variable (I : Ins)

/-- A key. -/
def key (t g n : ℕ) : ℝ := I.A0 t (4096 + (128 * g + n))
/-- A query. -/
def qry (t g n : ℕ) : ℝ := I.A0 t (5120 + (128 * g + n))
/-- The step size of a head. -/
def dt (t h : ℕ) : ℝ := sp (I.A1 t (10240 + h) + I.A3 0 h)
/-- The logarithm of a head's decay in one step. -/
def a (h t : ℕ) : ℝ := I.dt t h * (0 - Real.exp (I.A4 0 h))
/-- The product of the query at `t` and the key at `s`. -/
def qk (g t s : ℕ) : ℝ := ∑ n ∈ range 128, I.qry t g n * I.key s g n
/-- How much of place `s` is left at `t`. -/
def dec (h t s : ℕ) : ℝ := if s ≤ t then Real.exp (pre (I.a h) (t + 1) - pre (I.a h) (s + 1)) else 0
/-- The recurrence's result, with the skip connection. -/
def y (t J : ℕ) : ℝ :=
  (∑ s ∈ range 4096, (I.A0 s J * I.dt s (J / 64)) * (I.qk (J / 512) t s * I.dec (J / 64) t s)) + I.A0 t J * I.A5 0 J
/-- The forward result of one group. -/
def yg (t g j : ℕ) : ℝ := I.y t (512 * g + j)
/-- The gate of one group. -/
def zg (t g j : ℕ) : ℝ := I.A1 t (512 * g + j)
/-- The gradient of the recurrence's result. -/
def dyt (t J : ℕ) : ℝ :=
  dy (I.yg t (J / 512)) (I.zg t (J / 512)) (fun j => I.A2 t (512 * (J / 512) + j)) (fun j => I.A6 0 (512 * (J / 512) + j)) (J % 512)
/-- The gradient of the values. -/
def dxs (t J : ℕ) : ℝ :=
  (∑ l ∈ range 4096, I.dyt l J * (I.qk (J / 512) l t * I.dec (J / 64) l t)) * I.dt t (J / 64) + I.dyt t J * I.A5 0 J
/-- The gradient of the norm's weight. -/
def dnw (J : ℕ) : ℝ := ∑ t ∈ range 4096, I.A2 t J * hat (I.yg t (J / 512)) (I.zg t (J / 512)) (J % 512)
/-- The gradient of the skip connection's weight. -/
def ddexp (J : ℕ) : ℝ := ∑ t ∈ range 4096, I.dyt t J * I.A0 t J
end Ins

end Cert.Ssd
-- ==== Proof.SsdRef.lean ====
module
public import proofs.«01_k».proof.Proof.Gen.SsdCoreBwdRefIdeal.Read
public import proofs.«01_k».proof.Proof.SsdLift
public import proofs.«01_k».proof.Proof.SsdGlobal

/-!
The reference's forward half, read as arrays of real numbers: the step sizes, the decays and the recurrence's result.
-/

@[expose] public section

set_option maxRecDepth 16384

noncomputable section

open Idealize.ShloMosaic Idealize.ShloMosaic.TcCoe Idealize.SL.Sem
open scoped BigOperators
open Finset

namespace Cert.SsdCoreBwdRefIdeal.Reals

open Cert.SsdCoreBwdRefIdeal Cert.SsdCoreBwdRefIdeal.Gen Cert.SsdCoreBwdRefIdeal.Read Cert.Ssd
open Cert.SsdCoreBwdIdeal.Lift (up up1)

/-! Single operations on real numbers. -/

theorem add_r (x y : ℝ) : FloatOps.addf (F := Ideal) (φ := .f32) (x : EReal) (y : EReal) = ((x + y : ℝ) : EReal) := (EReal.coe_add _ _).symm
theorem sub_r (x y : ℝ) : FloatOps.subf (F := Ideal) (φ := .f32) (x : EReal) (y : EReal) = ((x - y : ℝ) : EReal) := (EReal.coe_sub _ _).symm
theorem mul_r (x y : ℝ) : FloatOps.mulf (F := Ideal) (φ := .f32) (x : EReal) (y : EReal) = ((x * y : ℝ) : EReal) := (EReal.coe_mul _ _).symm
theorem max_r (x y : ℝ) : FloatOps.maximumf (F := Ideal) (φ := .f32) (x : EReal) (y : EReal) = ((max x y : ℝ) : EReal) :=
  (EReal.coe_strictMono.monotone.map_max).symm
theorem neg_r (x : ℝ) : FloatOps.hostNegf (F := Ideal) (φ := .f32) (x : EReal) = ((-x : ℝ) : EReal) := (EReal.coe_neg _).symm
theorem abs_r (x : ℝ) : FloatOps.hostAbsf (F := Ideal) (φ := .f32) (x : EReal) = ((|x| : ℝ) : EReal) :=
  (EReal.coe_strictMono.monotone.map_max).symm
theorem exp_r (x : ℝ) : FloatOps.hostUnary (F := Ideal) (φ := .f32) .exp (x : EReal) = ((Real.exp x : ℝ) : EReal) := Ideal.exp_coe _
theorem log1p_r (x : ℝ) (h : 0 ≤ x) : FloatOps.hostUnary (F := Ideal) (φ := .f32) .log1p (x : EReal) = ((Real.log (1 + x) : ℝ) : EReal) := by
  show Ideal.log (1 + (x : EReal)) = _
  rw [← EReal.coe_one, ← EReal.coe_add, Ideal.log_coe]; simp; linarith
theorem rsqrt_r (x : ℝ) (h : 0 < x) : FloatOps.hostUnary (F := Ideal) (φ := .f32) .rsqrt (x : EReal) = (((Real.sqrt x)⁻¹ : ℝ) : EReal) := by
  show Ideal.rsqrt (x : EReal) = _
  rw [Ideal.rsqrt_coe]; simp [h.le, h.ne']
theorem div_r (x y : ℝ) (h : y ≠ 0) : FloatOps.hostDivf (F := Ideal) (φ := .f32) (x : EReal) (y : EReal) = ((x / y : ℝ) : EReal) := by
  show Ideal.div _ _ = _
  rw [Ideal.div_coe h, ← EReal.coe_mul]; congr 1; ring
theorem zero_r : FloatOps.ofBits (F := Ideal) .f32 0x00000000#32 = ((0 : ℝ) : EReal) := Ideal.ofBits_zero_f32
theorem une_r (x : ℝ) : FloatOps.cmpf (F := Ideal) (φ := .f32) .une (x : EReal) (x : EReal) = 0#1 := by
  show BitVec.ofBool (decide _) = _
  simp
theorem ext_r (x : ℝ) : FloatOps.extf (F := Ideal) (φ := .bf16) .f32 bitsLt_bf16_f32 (x : EReal) = (x : EReal) := rfl
theorem trunc_r (x : ℝ) : FloatOps.truncf (F := Ideal) (φ := .f32) .bf16 bitsLt_bf16_f32 (x : EReal) = (x : EReal) := rfl

variable (I : Ins)

/-- The arguments as arrays. -/
abbrev x0 : FVec Ideal S4096x6144 .bf16 := up I.A0
abbrev x1 : FVec Ideal S4096x10368 .bf16 := up I.A1
abbrev x2 : FVec Ideal S4096x4096 .bf16 := up I.A2
abbrev x3 : FVec Ideal S1x128 .f32 := up I.A3
abbrev x4 : FVec Ideal S1x128 .f32 := up I.A4
abbrev x5 : FVec Ideal S1x4096 .f32 := up I.A5
abbrev x6 : FVec Ideal S1x4096 .f32 := up I.A6

theorem up_at {a b : ℕ} {φ : FTy} (f : ℕ → ℕ → ℝ) (i : Shape.Idx ⟨2, ![a, b]⟩) :
    (up f : FVec Ideal ⟨2, ![a, b]⟩ φ) i = ((f (i 0) (i 1) : ℝ) : EReal) := rfl

theorem sum_r (n : ℕ) (F : Fin n → EReal) (f : ℕ → ℝ) (h : ∀ k : Fin n, F k = ((f k : ℝ) : EReal)) :
    ∑ k : Fin n, F k = ((∑ k ∈ range n, f k : ℝ) : EReal) :=
  (sum_congr rfl fun k _ => h k).trans (Cert.SsdCoreBwdIdeal.Lift.coe_sum n f)

/-! The step sizes and the decays. -/

theorem v13 (i : S4096x64.Idx) : val_main_v13 (F := Ideal) (x1 I) (x3 I) i = ((I.A1 (i 0) (10240 + i 1) + I.A3 0 (i 1) : ℝ) : EReal) := by
  idx_vars i
  simp only [val_main_v13_apply, val_main_v10_apply, val_main_v3_apply, val_main_v12_apply, val_main_v11_apply, val_main_v7_apply,
    val_main_v6_apply, up_at, ext_r, add_r]
  simp only [ix2, Nat.mod_eq_of_lt i1.isLt]

theorem v14 (i : S4096x64.Idx) : val_main_v14 (F := Ideal) (x1 I) (x3 I) i = ((I.dt (i 0) (i 1) : ℝ) : EReal) := by
  simp only [val_main_v14_apply, val_main_call0_v4_apply, val_main_call0_v11_apply, val_main_call0_v1_apply, val_main_call0_v10_apply,
    val_main_call0_v9_apply, val_main_call0_v8_apply, val_main_call0_v7_apply, val_main_call0_v3_apply, val_main_call0_v2_apply,
    val_main_call0_v0_apply, val_main_call0_cst_apply, v13, zero_r, sub_r, une_r, max_r, abs_r, neg_r, exp_r]
  rw [log1p_r _ (Real.exp_pos _).le, add_r]
  simp only [Scalar.select, sub_zero]
  rfl

theorem v27 (i : S8x8x4096.Idx) :
    val_main_v27 (F := Ideal) (x1 I) (x3 I) (x4 I) i = ((I.a (8 * i 0 + i 1) (i 2) : ℝ) : EReal) := by
  idx_vars i
  simp only [val_main_v27_apply, val_main_v26_apply, val_main_v25_apply, v14, val_main_v24_apply, val_main_v23_apply, val_main_v16_apply, val_main_v15_apply,
    val_main_v9_apply, val_main_v8_apply, up_at, exp_r, neg_r, mul_r]
  simp only [ix3]
  refine congrArg (fun r : ℝ => (r : EReal)) ?_
  rw [show ((i2.val * 8 + i0.val) * 8 + i1.val) / 64 = i2 by omega, show ((i2.val * 8 + i0.val) * 8 + i1.val) % 64 = 8 * i0 + i1 by omega,
    show (8 * i0.val + i1.val) % 64 = 8 * i0 + i1 by omega, ← zero_sub]
  rfl

theorem v22 (i : S4096x8x8x64.Idx) :
    val_main_v22 (F := Ideal) (x0 I) (x1 I) (x3 I) i
      = ((I.A0 (i 0) (512 * i 1 + 64 * i 2 + i 3) * I.dt (i 0) (8 * i 1 + i 2) : ℝ) : EReal) := by
  idx_vars i
  obtain ⟨i0, h0⟩ := i0
  obtain ⟨i1, h1⟩ := i1
  obtain ⟨i2, h2⟩ := i2
  obtain ⟨i3, h3⟩ := i3
  simp only [val_main_v22_apply, val_main_v21_apply, val_main_v20_apply, val_main_v19_apply, val_main_v18_apply, val_main_v17_apply, val_main_v0_apply,
    v14, up_at, ext_r, mul_r]
  simp only [ix4]
  refine congrArg (fun r : ℝ => (r : EReal)) ?_
  exact congrArg₂ (· * ·) (congrArg₂ I.A0 (by omega) (by omega)) (congrArg₂ I.dt (by omega) (by omega))

theorem v32 (i : S8x4096x4096.Idx) :
    val_main_v32 (F := Ideal) (x0 I) i = ((I.qk (i 0) (i 1) (i 2) : ℝ) : EReal) := by
  idx_vars i
  obtain ⟨i0, h0⟩ := i0
  obtain ⟨i1, h1⟩ := i1
  obtain ⟨i2, h2⟩ := i2
  rw [val_main_v32_apply]
  refine sum_r 128 _ _ fun n => ?_
  obtain ⟨n, hn⟩ := n
  simp only [val_main_v29_apply, val_main_v31_apply, val_main_v28_apply, val_main_v30_apply, val_main_v1_apply, val_main_v2_apply, up_at, ext_r]
  simp only [ix3]
  refine (EReal.coe_mul _ _).symm.trans (congrArg (fun r : ℝ => (r : EReal)) ?_)
  exact congrArg₂ (· * ·) (congrArg₂ I.A0 (by omega) (by omega)) (congrArg₂ I.A0 (by omega) (by omega))

/-! The running sum of the decays. -/

theorem foldl_add (n : ℕ) (F : Fin n → EReal) (v : EReal) : (List.finRange n).foldl (fun r k => r + F k) v = v + ∑ k, F k := by
  rw [← List.sum_ofFn, List.ofFn_eq_map]
  generalize List.finRange n = l
  induction l generalizing v with
  | nil => simp
  | cons k l ih => rw [List.foldl_cons, ih, List.map_cons, List.sum_cons, add_assoc]

/-- The places of a window that lies along the last of three axes. -/
def lastAxis (N : ℕ) : Fin N ≃ (⟨3, ![1, 1, N]⟩ : Shape).Idx where
  toFun k := ix3 0 0 k
  invFun w := w 2
  left_inv _ := rfl
  right_inv w := by
    funext a
    match a with
    | ⟨0, _⟩ => exact Subsingleton.elim (α := Fin 1) _ _
    | ⟨1, _⟩ => exact Subsingleton.elim (α := Fin 1) _ _
    | ⟨2, _⟩ => rfl

theorem window_sum (f : ℕ → ℝ) (M j : ℕ) (hj : j < M + 1) :
    ∑ k ∈ range (M + 1), (if M ≤ j + k then f (j + k - M) else 0) = ∑ k ∈ range (j + 1), f k := by
  rw [← sum_filter]
  refine sum_nbij' (fun k => j + k - M) (fun k => k + M - j) ?_ ?_ ?_ ?_ fun _ _ => rfl
  all_goals intro k hk; simp only [mem_filter, mem_range] at hk ⊢; omega

theorem sum_window_idx (M : ℕ) (G : (⟨3, ![1, 1, M + 1]⟩ : Shape).Idx → EReal) :
    ∑ n, G ((Shape.rowMajor ⟨3, ![1, 1, M + 1]⟩).symm n) = ∑ k : Fin (M + 1), G (ix3 0 0 k) :=
  (Equiv.sum_comp _ G).trans ((lastAxis (M + 1)).sum_comp G).symm

theorem window_last (M : ℕ) (x : FVec Ideal ⟨3, ![8, 8, M + 1]⟩ .f32) (init : FVec Ideal S_ .f32) (h0 : ∀ i, init i = ((0 : ℝ) : EReal))
    (f : ℕ → ℕ → ℕ → ℝ) (hx : ∀ i, x i = ((f (i 0) (i 1) (i 2) : ℝ) : EReal)) (h) (hu) (i0 i1 : Fin 8) (i2 : Fin (M + 1)) :
    (Host.reduceWindowAdd ![1, 1, (M + 1)] ![1, 1, 1] ![0, 0, M] ![0, 0, 0] x init h hu : FVec Ideal ⟨3, ![8, 8, M + 1]⟩ .f32) (ix3 i0 i1 i2)
      = ((∑ k ∈ range (i2 + 1), f i0 i1 k : ℝ) : EReal) := by
  obtain ⟨i0, h0'⟩ := i0
  obtain ⟨i1, h1'⟩ := i1
  obtain ⟨i2, h2'⟩ := i2
  unfold Host.reduceWindowAdd
  change Ideal.hostReduceWindowAdd _ _ _ _ _ _ _ _ = _
  unfold Ideal.hostReduceWindowAdd Host.reduceWindow
  dsimp only
  rw [foldl_add, h0]
  refine (congrArg (((0 : ℝ) : EReal) + ·) ((sum_congr rfl fun n _ => ?_).trans
    (sum_window_idx M fun w => ((if M ≤ i2 + w 2 then f i0 i1 (i2 + w 2 - M) else 0 : ℝ) : EReal)))).trans ?_
  · let w := (Shape.rowMajor ⟨3, ![1, 1, M + 1]⟩).symm n
    have w0 : (w 0 : ℕ) = 0 := Nat.lt_one_iff.1 (w 0).isLt
    have w1 : (w 1 : ℕ) = 0 := Nat.lt_one_iff.1 (w 1).isLt
    split
    · next hin =>
      have h2 := hin 2
      change M ≤ i2 * 1 + w 2 ∧ i2 * 1 + w 2 - M < (M + 1) at h2
      refine Eq.trans ?_ (congrArg (fun r : ℝ => (r : EReal)) (if_pos (show M ≤ i2 + w 2 by omega)).symm)
      rw [hx]
      show ((f (i0 * 1 + w 0 - 0) (i1 * 1 + w 1 - 0) (i2 * 1 + w 2 - M) : ℝ) : EReal) = ((f i0 i1 (i2 + w 2 - M) : ℝ) : EReal)
      rw [w0, w1]
      simp only [Nat.mul_one, Nat.add_zero, Nat.sub_zero]
    · next hin =>
      refine (congrArg (fun r : ℝ => (r : EReal)) (if_neg (show ¬M ≤ i2 + w 2 from fun hle => hin fun a => ?_))).symm
      · have hw : (w 2 : ℕ) < M + 1 := (w 2).isLt
        match a with
        | ⟨0, _⟩ => show 0 ≤ i0 * 1 + (w 0 : ℕ) ∧ i0 * 1 + (w 0 : ℕ) - 0 < 8; omega
        | ⟨1, _⟩ => show 0 ≤ i1 * 1 + (w 1 : ℕ) ∧ i1 * 1 + (w 1 : ℕ) - 0 < 8; omega
        | ⟨2, _⟩ => show M ≤ i2 * 1 + (w 2 : ℕ) ∧ i2 * 1 + (w 2 : ℕ) - M < (M + 1); omega
  · refine (congrArg (((0 : ℝ) : EReal) + ·) (sum_r (M + 1) _ (fun k => if M ≤ i2 + k then f i0 i1 (i2 + k - M) else 0) fun k => rfl)).trans ?_
    rw [window_sum _ _ _ h2', ← EReal.coe_add, zero_add]

theorem v34 (i : S8x8x4096.Idx) :
    val_main_v34 (F := Ideal) (x1 I) (x3 I) (x4 I) i = ((pre (I.a (8 * i 0 + i 1)) (i 2 + 1) : ℝ) : EReal) := by
  idx_vars i
  exact window_last 4095 _ _ (fun _ => by rw [val_main_call1_call0_v0_apply, val_main_call1_call0_cst_apply, zero_r])
    (fun g k t => I.a (8 * g + k) t) (v27 I) _ _ i0 i1 i2

/-! The products of queries and keys with the decay, and the recurrence's result. -/

theorem toInt_4096 (i : ℕ) (hi : i < 4096) : (BitVec.ofNat 32 i).toInt = i := by
  rw [BitVec.toInt_eq_toNat_of_lt (by simp [BitVec.toNat_ofNat]; omega), BitVec.toNat_ofNat]; omega

theorem v41 (i : S4096x4096.Idx) : val_main_v41 (F := Ideal) i = BitVec.ofBool (decide ((i 1 : ℕ) ≤ i 0)) := by
  idx_vars i
  obtain ⟨i0, h0⟩ := i0
  obtain ⟨i1, h1⟩ := i1
  simp only [val_main_v41_apply, val_main_call2_v4_apply, val_main_call2_v2_apply, val_main_call2_v0_apply, val_main_call2_v1_apply,
    val_main_call2_c_apply, val_main_call2_v3_apply, val_main_v40_apply, val_main_c_apply, val_main_call2_v5_apply, val_main_call2_c_0_apply, ix2]
  show Scalar.select (IntOp.cmpi .sge (IntOp.addi (BitVec.ofNat 32 i0) 0#32) (BitVec.ofNat 32 i1)) 1#1 0#1 = _
  simp only [IntOp.cmpi, IntOp.addi, BitVec.add_zero, BitVec.sle, toInt_4096 i0 h0, toInt_4096 i1 h1, Int.ofNat_le]
  by_cases h : i1 ≤ i0 <;> simp [Scalar.select, h]

theorem v43 (i : S8x8x4096x4096.Idx) :
    val_main_v43 (F := Ideal) (x1 I) (x3 I) (x4 I) i = ((I.dec (8 * i 0 + i 1) (i 2) (i 3) : ℝ) : EReal) := by
  idx_vars i
  simp only [val_main_v43_apply, val_main_v42_apply, val_main_call3_v1_apply, v41, val_main_v39_apply, val_main_v37_apply, val_main_v35_apply, val_main_v38_apply,
    val_main_v36_apply, v34, val_main_call3_v2_apply, val_main_call3_v0_apply, val_main_cst_apply, sub_r, ix4]
  unfold Ins.dec
  by_cases h : i3.val ≤ i2.val
  · simp only [h, Scalar.select, decide_true, if_true]
    exact exp_r _
  · simp only [h, Scalar.select, decide_false, if_false]
    show Ideal.exp (Ideal.ofBits .f32 0xFF800000#32) = _
    rw [show Ideal.ofBits .f32 0xFF800000#32 = (⊥ : EReal) by simp [Ideal.ofBits, Ideal.ieee]]
    simp

theorem v45 (i : S8x8x4096x4096.Idx) :
    val_main_v45 (F := Ideal) (x0 I) (x1 I) (x3 I) (x4 I) i = ((I.qk (i 0) (i 2) (i 3) * I.dec (8 * i 0 + i 1) (i 2) (i 3) : ℝ) : EReal) := by
  idx_vars i
  simp only [val_main_v45_apply, val_main_v44_apply, val_main_v33_apply, v32, v43, mul_r, ix4]

theorem v46 (i : S8x8x64x4096.Idx) :
    val_main_v46 (F := Ideal) (x0 I) (x1 I) (x3 I) (x4 I) i
      = ((∑ s ∈ range 4096, (I.A0 s (512 * i 0 + 64 * i 1 + i 2) * I.dt s (8 * i 0 + i 1)) * (I.qk (i 0) (i 3) s * I.dec (8 * i 0 + i 1) (i 3) s) : ℝ) : EReal) := by
  idx_vars i
  rw [val_main_v46_apply]
  refine sum_r 4096 _ _ fun s => ?_
  simp only [v22, v45, ix4]
  exact (EReal.coe_mul _ _).symm

theorem v53 (i : S4096x4096.Idx) :
    val_main_v53 (F := Ideal) (x0 I) (x1 I) (x3 I) (x4 I) (x5 I) i = ((I.y (i 0) (i 1) : ℝ) : EReal) := by
  idx_vars i
  obtain ⟨i0, h0⟩ := i0
  obtain ⟨i1, h1⟩ := i1
  simp only [val_main_v53_apply, val_main_v48_apply, val_main_v47_apply, v46, val_main_v52_apply, val_main_v49_apply, val_main_v0_apply, val_main_v51_apply,
    val_main_v50_apply, val_main_v4_apply, up_at, ext_r, mul_r, add_r, ix2]
  refine congrArg (fun r : ℝ => (r : EReal)) ?_
  rw [show 512 * ((i0 * 4096 + i1) / 512 % 8) + 64 * ((i0 * 4096 + i1) / 64 % 8) + (i0 * 4096 + i1) % 64 = i1 by omega,
    show 8 * ((i0 * 4096 + i1) / 512 % 8) + (i0 * 4096 + i1) / 64 % 8 = i1 / 64 by omega,
    show (i0 * 4096 + i1) / 512 % 8 = i1 / 512 by omega, show (i0 * 4096 + i1) / 4096 = i0 by omega, Nat.mod_eq_of_lt h1]
  rfl

end Cert.SsdCoreBwdRefIdeal.Reals
-- ==== Proof.SsdBack.lean ====
module
public import proofs.«01_k».proof.Proof.SsdRef

/-!
The reference's backward half, read as arrays of real numbers: the gated norm, its gradient, and the three results.
-/

@[expose] public section

set_option maxRecDepth 16384

noncomputable section

open Idealize.ShloMosaic Idealize.ShloMosaic.TcCoe Idealize.SL.Sem
open scoped BigOperators
open Finset

namespace Cert.SsdCoreBwdRefIdeal.Reals

open Cert.SsdCoreBwdRefIdeal Cert.SsdCoreBwdRefIdeal.Gen Cert.SsdCoreBwdRefIdeal.Read Cert.Ssd
open Cert.SsdCoreBwdIdeal.Lift (up up1)

theorem add_b (x y : ℝ) : FloatOps.addf (F := Ideal) (φ := .bf16) (x : EReal) (y : EReal) = ((x + y : ℝ) : EReal) := (EReal.coe_add _ _).symm
theorem one_r : FloatOps.ofBits (F := Ideal) .f32 0x3F800000#32 = ((1 : ℝ) : EReal) := by
  show Ideal.ofBits .f32 0x3F800000#32 = ((1 : ℝ) : EReal)
  simp [Ideal.ofBits, Ideal.ieee, -EReal.coe_one]
  rw [← EReal.coe_mul]; norm_num
theorem n512_r : FloatOps.ofBits (F := Ideal) .f32 0x44000000#32 = ((512 : ℝ) : EReal) := by
  show Ideal.ofBits .f32 0x44000000#32 = ((512 : ℝ) : EReal)
  simp [Ideal.ofBits, Ideal.ieee]
  rw [← EReal.coe_mul]; norm_num
theorem eps_r : FloatOps.ofBits (F := Ideal) .f32 0x3727C5AC#32 = ((eps : ℝ) : EReal) := by
  show Ideal.ofBits .f32 0x3727C5AC#32 = ((eps : ℝ) : EReal)
  simp [Ideal.ofBits, Ideal.ieee, eps]
  rw [← EReal.coe_mul]; norm_num
theorem mhalf_r : FloatOps.ofBits (F := Ideal) .f32 0xBF000000#32 = ((-(1 / 2) : ℝ) : EReal) := by
  show Ideal.ofBits .f32 0xBF000000#32 = ((-(1 / 2) : ℝ) : EReal)
  simp [Ideal.ofBits, Ideal.ieee]
  rw [← EReal.coe_mul]
  norm_num

/-- A sum that starts at a zero constant. -/
theorem sum0_r (n : ℕ) (z : EReal) (F : Fin n → EReal) (f : ℕ → ℝ) (hz : z = ((0 : ℝ) : EReal)) (h : ∀ k : Fin n, F k = ((f k : ℝ) : EReal)) :
    z + ∑ k : Fin n, F k = ((∑ k ∈ range n, f k : ℝ) : EReal) := by
  rw [sum_r n F f h, hz, ← EReal.coe_add, zero_add]

variable (I : Ins)

/-! The gated norm. -/

theorem v56 (i : S4096x4096.Idx) : val_main_v56 (F := Ideal) (x1 I) i = ((silu (I.A1 (i 0) (i 1)) : ℝ) : EReal) := by
  idx_vars i
  simp only [val_main_v56_apply, val_main_call4_v5_apply, val_main_call4_v4_apply, val_main_call4_cst_0_apply, val_main_call4_v3_apply,
    val_main_call4_v2_apply, val_main_call4_cst_apply, val_main_call4_v1_apply, val_main_call4_v0_apply, val_main_v55_apply, val_main_v54_apply,
    up_at, ext_r, neg_r, exp_r, one_r, add_r]
  rw [div_r _ _ (by positivity), mul_r]
  rfl

/-- The gated row of a group. -/
def G (t g : ℕ) : ℕ → ℝ := gate (I.yg t g) (I.zg t g)
/-- The gradient of the normalised row, times its weight. -/
def u (t g j : ℕ) : ℝ := I.A2 t (512 * g + j) * I.A6 0 (512 * g + j)

theorem v58 (i : S4096x8x512.Idx) :
    val_main_v58 (F := Ideal) (x0 I) (x1 I) (x3 I) (x4 I) (x5 I) i = ((G I (i 0) (i 1) (i 2) : ℝ) : EReal) := by
  idx_vars i
  obtain ⟨i0, h0⟩ := i0
  obtain ⟨i1, h1⟩ := i1
  obtain ⟨i2, h2⟩ := i2
  simp only [val_main_v58_apply, val_main_v57_apply, v53, v56, mul_r, ix3]
  rw [show ((i0 * 8 + i1) * 512 + i2) / 4096 = i0 by omega, show ((i0 * 8 + i1) * 512 + i2) % 4096 = 512 * i1 + i2 by omega]
  rfl

theorem v65 (i : S4096x8x1.Idx) :
    val_main_v65 (F := Ideal) (x0 I) (x1 I) (x3 I) (x4 I) (x5 I) i = ((meanSq (G I (i 0) (i 1)) + eps : ℝ) : EReal) := by
  idx_vars i
  simp only [val_main_v65_apply, val_main_v63_apply, val_main_v61_apply, val_main_v60_apply, val_main_v62_apply, val_main_cst_1_apply, val_main_v64_apply,
    val_main_cst_2_apply, n512_r, eps_r]
  rw [sum0_r 512 _ _ (fun k => G I i0 i1 k * G I i0 i1 k) (by rw [val_main_cst_0_apply, zero_r]) fun k => by
    simp only [val_main_v59_apply, v58, mul_r, ix3], div_r _ _ (by norm_num), add_r]
  rfl

theorem pos_v (v : ℕ → ℝ) : 0 < meanSq v + eps := add_pos_of_nonneg_of_pos (meanSq_nonneg v) eps_pos

theorem v66 (i : S4096x8x1.Idx) :
    val_main_v66 (F := Ideal) (x0 I) (x1 I) (x3 I) (x4 I) (x5 I) i = ((inv (G I (i 0) (i 1)) : ℝ) : EReal) := by
  rw [val_main_v66_apply, v65, rsqrt_r _ (pos_v _)]
  rfl

theorem v72 (i : S4096x4096.Idx) :
    val_main_v72 (F := Ideal) (x0 I) (x1 I) (x3 I) (x4 I) (x5 I) i
      = ((hat (I.yg (i 0) ((i 1 : ℕ) / 512)) (I.zg (i 0) ((i 1 : ℕ) / 512)) ((i 1 : ℕ) % 512) : ℝ) : EReal) := by
  idx_vars i
  obtain ⟨i0, h0⟩ := i0
  obtain ⟨i1, h1⟩ := i1
  simp only [val_main_v72_apply, val_main_v71_apply, v58, val_main_v70_apply, v66, mul_r, ix2]
  rw [show (i0 * 4096 + i1) / 4096 = i0 by omega, show (i0 * 4096 + i1) / 512 % 8 = i1 / 512 by omega, show (i0 * 4096 + i1) % 512 = i1 % 512 by omega]
  rfl

/-! The gradient of the norm's weight. -/

theorem v82 (i : S4096.Idx) :
    val_main_v82 (F := Ideal) (x0 I) (x1 I) (x2 I) (x3 I) (x4 I) (x5 I) i = ((I.dnw (i 0) : ℝ) : EReal) := by
  idx_vars i
  obtain ⟨i0, h0⟩ := i0
  rw [val_main_v82_apply]
  refine (sum0_r 1 _ _ (fun _ => I.dnw i0) (by rw [val_main_cst_5_apply, zero_r]) fun k => ?_).trans (by simp [ix1])
  obtain ⟨k, hk⟩ := k
  rw [val_main_v79_apply, val_main_v78_apply]
  refine sum0_r 4096 _ _ (fun t => I.A2 t i0 * hat (I.yg t (i0 / 512)) (I.zg t (i0 / 512)) (i0 % 512)) (by rw [val_main_cst_4_apply, zero_r]) fun t => ?_
  simp only [val_main_v77_apply, v72, val_main_v76_apply, up_at, ext_r, mul_r, ix1]
  rw [show k * 4096 + i0 = i0 by omega, mul_comm]

/-! The gradient of the recurrence's result. -/

theorem v83 (i : S4096x8x512.Idx) : val_main_v83 (F := Ideal) (x2 I) (x6 I) i = ((u I (i 0) (i 1) (i 2) : ℝ) : EReal) := by
  idx_vars i
  obtain ⟨i0, h0⟩ := i0
  obtain ⟨i1, h1⟩ := i1
  obtain ⟨i2, h2⟩ := i2
  simp only [val_main_v83_apply, val_main_v81_apply, val_main_v76_apply, val_main_v80_apply, val_main_v73_apply, val_main_v5_apply, up_at, ext_r, mul_r, ix3]
  rw [show ((i0 * 8 + i1) * 512 + i2) / 4096 = i0 by omega, show ((i0 * 8 + i1) * 512 + i2) % 4096 = 512 * i1 + i2 by omega,
    show (512 * i1 + i2) % 4096 = 512 * i1 + i2 by omega]
  rfl

/-- The gradient of the mean of the squares, over 512. -/
def dm (t g : ℕ) : ℝ := (∑ k ∈ range 512, G I t g k * u I t g k) * (-(1 / 2) * (inv (G I t g) / (meanSq (G I t g) + eps))) / 512

theorem v93 (i : S4096x8x512.Idx) :
    val_main_v93 (F := Ideal) (x0 I) (x1 I) (x2 I) (x3 I) (x4 I) (x5 I) (x6 I) i = ((dm I (i 0) (i 1) : ℝ) : EReal) := by
  idx_vars i
  obtain ⟨i0, h0⟩ := i0
  obtain ⟨i1, h1⟩ := i1
  rw [val_main_v93_apply, val_main_v92_apply]
  refine (sum0_r 1 _ _ (fun _ => dm I i0 i1) (by rw [val_main_cst_8_apply, zero_r]) fun z => ?_).trans (by simp [ix3])
  obtain ⟨z, hz⟩ := z
  simp only [val_main_v91_apply, val_main_v89_apply, val_main_v86_apply, val_main_v85_apply, val_main_v69_apply, val_main_v68_apply, val_main_cst_3_apply,
    val_main_v67_apply, v66, v65, val_main_v90_apply, val_main_cst_7_apply, n512_r, mhalf_r, ix3]
  rw [div_r _ _ (pos_v _).ne', mul_r,
    sum0_r 512 _ _ (fun k => G I i0 i1 k * u I i0 i1 k) (by rw [val_main_cst_6_apply, zero_r]) fun k => by
      simp only [val_main_v84_apply, v58, v83, mul_r, ix3]
      rw [show ((i0 * 8 + i1) * 1 + z) / 8 = i0 by omega, show ((i0 * 8 + i1) * 1 + z) % 8 = i1 by omega], mul_r, div_r _ _ (by norm_num)]
  rfl

theorem grad_row (v w : ℕ → ℝ) (j : ℕ) :
    w j * inv v + v j * ((∑ k ∈ range 512, v k * w k) * (-(1 / 2) * (inv v / (meanSq v + eps))) / 512)
        + (∑ k ∈ range 512, v k * w k) * (-(1 / 2) * (inv v / (meanSq v + eps))) / 512 * v j
      = inv v * (w j - v j * inv v * ((∑ k ∈ range 512, w k * (v k * inv v)) / 512)) := by
  have h1 : inv v / (meanSq v + eps) = inv v * (inv v * inv v) := by rw [inv_mul_self, div_eq_mul_inv]
  have h2 : ∑ k ∈ range 512, w k * (v k * inv v) = (∑ k ∈ range 512, v k * w k) * inv v := by
    rw [sum_mul]; exact sum_congr rfl fun _ _ => by ring
  rw [h1, h2]; ring

theorem v99 (i : S4096x4096.Idx) :
    val_main_v99 (F := Ideal) (x0 I) (x1 I) (x2 I) (x3 I) (x4 I) (x5 I) (x6 I) i = ((I.dyt (i 0) (i 1) : ℝ) : EReal) := by
  idx_vars i
  obtain ⟨i0, h0⟩ := i0
  obtain ⟨i1, h1⟩ := i1
  simp only [val_main_v99_apply, val_main_v98_apply, val_main_v97_apply, val_main_v95_apply, val_main_v96_apply, val_main_v94_apply, val_main_v88_apply,
    val_main_v87_apply, v83, v66, v93, v58, v56, mul_r, add_r, ix2]
  rw [show (i0 * 4096 + i1) / 4096 = i0 by omega, show (i0 * 4096 + i1) / 512 % 8 = i1 / 512 by omega, show (i0 * 4096 + i1) % 512 = i1 % 512 by omega]
  refine congrArg (fun r : ℝ => (r : EReal)) ?_
  unfold dm
  rw [grad_row (G I i0 (i1 / 512)) (u I i0 (i1 / 512)) (i1 % 512)]
  unfold Ins.dyt dy
  congr 1
  unfold Ins.zg
  rw [Nat.div_add_mod]

/-! The gradients of the skip connection's weight and of the values. -/

theorem v105 (i : S4096.Idx) :
    val_main_v105 (F := Ideal) (x0 I) (x1 I) (x2 I) (x3 I) (x4 I) (x5 I) (x6 I) i = ((I.ddexp (i 0) : ℝ) : EReal) := by
  idx_vars i
  obtain ⟨i0, h0⟩ := i0
  rw [val_main_v105_apply]
  refine (sum0_r 1 _ _ (fun _ => I.ddexp i0) (by rw [val_main_cst_10_apply, zero_r]) fun k => ?_).trans (by simp [ix1])
  rw [val_main_v102_apply, val_main_v101_apply]
  refine sum0_r 4096 _ _ (fun t => I.dyt t i0 * I.A0 t i0) (by rw [val_main_cst_9_apply, zero_r]) fun t => ?_
  obtain ⟨k, hk⟩ := k
  simp only [val_main_v100_apply, v99, val_main_v49_apply, val_main_v0_apply, up_at, ext_r, mul_r, ix1]
  rw [show k * 4096 + i0 = i0 by omega, mul_comm]

theorem v109 (i : S8x8x64x4096.Idx) :
    val_main_v109 (F := Ideal) (x0 I) (x1 I) (x2 I) (x3 I) (x4 I) (x5 I) (x6 I) i
      = ((∑ l ∈ range 4096, I.dyt l (512 * i 0 + 64 * i 1 + i 2) * (I.qk (i 0) l (i 3) * I.dec (8 * i 0 + i 1) l (i 3)) : ℝ) : EReal) := by
  idx_vars i
  obtain ⟨i0, h0⟩ := i0
  obtain ⟨i1, h1⟩ := i1
  obtain ⟨i2, h2⟩ := i2
  rw [val_main_v109_apply]
  refine sum_r 4096 _ _ fun l => ?_
  obtain ⟨l, hl⟩ := l
  simp only [val_main_v108_apply, val_main_v107_apply, v99, v45, ix4]
  rw [show (((l * 8 + i0) * 8 + i1) * 64 + i2) / 4096 = l by omega, show (((l * 8 + i0) * 8 + i1) * 64 + i2) % 4096 = 512 * i0 + 64 * i1 + i2 by omega]
  exact (EReal.coe_mul _ _).symm

theorem v116 (i : S4096x4096.Idx) :
    val_main_v116 (F := Ideal) (x0 I) (x1 I) (x2 I) (x3 I) (x4 I) (x5 I) (x6 I) i = ((I.dxs (i 0) (i 1) : ℝ) : EReal) := by
  idx_vars i
  obtain ⟨i0, h0⟩ := i0
  obtain ⟨i1, h1⟩ := i1
  simp only [val_main_v116_apply, val_main_v106_apply, val_main_v104_apply, v99, val_main_v103_apply, val_main_v50_apply, val_main_v4_apply, val_main_v115_apply,
    val_main_v114_apply, val_main_v113_apply, val_main_v111_apply, val_main_v110_apply, v109, val_main_v112_apply, val_main_v19_apply, v14,
    up_at, mul_r, trunc_r, add_b, ix2]
  refine congrArg (fun r : ℝ => (r : EReal)) ?_
  rw [show (i0 * 4096 + i1) / 4096 = i0 by omega, show (i0 * 4096 + i1) / 64 % 64 = i1 / 64 by omega, show (i0 * 4096 + i1) % 64 = i1 % 64 by omega,
    show (i0 * 64 + i1 / 64) * 64 + i1 % 64 = i0 * 4096 + i1 by omega, show (i0 * 4096 + i1) / 512 % 8 = i1 / 512 by omega,
    show (i0 * 4096 + i1) / 64 % 8 = i1 / 64 % 8 by omega, show (i0 * 4096 + i1) / 4096 = i0 by omega, show (i0 * 4096 + i1) % 64 = i1 % 64 by omega,
    show 512 * (i1 / 512) + 64 * (i1 / 64 % 8) + i1 % 64 = i1 by omega, show 8 * (i1 / 512) + i1 / 64 % 8 = i1 / 64 by omega,
    show i1 % 4096 = i1 by omega, add_comm]
  rfl

theorem v120 (i : S8x8x512.Idx) :
    val_main_v120 (F := Ideal) (x0 I) (x1 I) (x2 I) (x3 I) (x4 I) (x5 I) i
      = (((if (i 1 : ℕ) = 0 then I.dnw (512 * i 0 + i 2) else 0 : ℝ)) : EReal) := by
  idx_vars i
  obtain ⟨i0, h0⟩ := i0
  obtain ⟨i1, h1⟩ := i1
  obtain ⟨i2, h2⟩ := i2
  pointwise [val_main_v120, Value.fn_main_v120]
  by_cases h : i1 = 0
  · subst h
    simp only [val_main_v118_apply, val_main_v117_apply, v82, ix3]
    rw [dif_pos (by norm_num), if_pos trivial, show i0 * 512 + i2 = 512 * i0 + i2 by omega]
  · rw [dif_neg (by show ¬ i1 < 1; omega), if_neg h]
    simp only [val_main_v119_apply, val_main_cst_11_apply, zero_r]

theorem v124 (i : S8x8x512.Idx) :
    val_main_v124 (F := Ideal) (x0 I) (x1 I) (x2 I) (x3 I) (x4 I) (x5 I) (x6 I) i
      = (((if (i 1 : ℕ) = 0 then I.ddexp (512 * i 0 + i 2) else 0 : ℝ)) : EReal) := by
  idx_vars i
  obtain ⟨i0, h0⟩ := i0
  obtain ⟨i1, h1⟩ := i1
  obtain ⟨i2, h2⟩ := i2
  pointwise [val_main_v124, Value.fn_main_v124]
  by_cases h : i1 = 0
  · subst h
    simp only [val_main_v122_apply, val_main_v121_apply, v105, ix3]
    rw [dif_pos (by norm_num), if_pos trivial, show i0 * 512 + i2 = 512 * i0 + i2 by omega]
  · rw [dif_neg (by show ¬ i1 < 1; omega), if_neg h]
    simp only [val_main_v123_apply, val_main_cst_12_apply, zero_r]

end Cert.SsdCoreBwdRefIdeal.Reals
-- ==== Proof.SsdHost.lean ====
module
public import proofs.«01_k».proof.Proof.SsdBack
public import proofs.«01_k».proof.Proof.SsdPoint

/-!
The host operations before the kernel's region: the recurrence's result they leave for it is the reference's own, rounded.
Each lemma carries named arrays of the reference through one line of host operations.
-/

@[expose] public section

set_option maxRecDepth 16384

noncomputable section

open Idealize.ShloMosaic Idealize.ShloMosaic.TcCoe Idealize.SL.Sem Idealize.ShloMosaic.StableHlo

namespace Cert.SsdCoreBwdIdeal.Host

open Cert.SsdCoreBwdIdeal Cert.SsdCoreBwdIdeal.Gen
open Cert.SsdCoreBwdRefIdeal.Read (val_main_v0 val_main_v1 val_main_v2 val_main_v4 val_main_v9 val_main_v13 val_main_v14 val_main_v22 val_main_v27
  val_main_v33 val_main_v34 val_main_v39 val_main_v40 val_main_v41 val_main_v42 val_main_v53)

/-- The recurrence's result, rounded. -/
def yb (x0 : FVec Ideal S4096x6144 .bf16) (x1 : FVec Ideal S4096x10368 .bf16) (x3 x4 : FVec Ideal S1x128 .f32) (x5 : FVec Ideal S1x4096 .f32) :
    FVec Ideal S4096x4096 .bf16 :=
  truncf .bf16 (val_main_v53 (F := Ideal) x0 x1 x3 x4 x5 : FVec Ideal S4096x4096 .f32) bitsLt_bf16_f32

theorem after_app (l₁ l₂ : List (HloOp τ sig (Elt Ideal))) (U : Valuation τ sig (Elt Ideal)) : after (l₁ ++ l₂) U = after l₂ (after l₁ U) := by
  induction l₁ generalizing U with
  | nil => rfl
  | cons op l ih => exact ih _

/-- The contents of a TensorCore buffer. -/
abbrev at' (U : Valuation τ sig (Elt Ideal)) (r : Ref sig .tc) := U (Proc.devRef .tc r)

variable (U : Valuation τ sig (Elt Ideal))
  (x0 : FVec Ideal S4096x6144 .bf16) (x1 : FVec Ideal S4096x10368 .bf16) (x3 x4 : FVec Ideal S1x128 .f32) (x5 : FVec Ideal S1x4096 .f32)

set_option maxRecDepth 8192 in
theorem keep_hostOps0_1 (r : Ref sig .tc) (h : r ∉ [main_call0_cst, main_call0_v0, main_call0_v1, main_call0_v2, main_call0_v3, main_call0_v4, main_call0_v5, main_call0_v6, main_call0_v7, main_call0_v8, main_call0_v9, main_call0_v10, main_call0_v11, main_v13]) :
    after hostOps0_1 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_2 (r : Ref sig .tc) (h : r ∉ [main_v14, main_v15, main_v16, main_v17, main_v18, main_v19, main_v20, main_v21, main_v22, main_v23, main_v24, main_v25, main_v26, main_v27, main_v28, main_v29, main_v30, main_v31, main_v32]) :
    after hostOps0_2 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_3 (r : Ref sig .tc) (h : r ∉ [main_call1_call0_cst, main_call1_call0_v0, main_v33]) :
    after hostOps0_3 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_4 (r : Ref sig .tc) (h : r ∉ [main_v34, main_v35, main_v36, main_v37, main_v38, main_c, main_v39]) :
    after hostOps0_4 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_5 (r : Ref sig .tc) (h : r ∉ [main_call2_v0, main_call2_c, main_call2_v1, main_call2_v2, main_call2_v3, main_call2_v4, main_call2_c_0, main_call2_v5, main_v40]) :
    after hostOps0_5 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_6 (r : Ref sig .tc) (h : r ∉ [main_cst]) :
    after hostOps0_6 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxRecDepth 8192 in
theorem keep_hostOps0_7 (r : Ref sig .tc) (h : r ∉ [main_call3_v0, main_call3_v1, main_call3_v2, main_v41]) :
    after hostOps0_7 U (Proc.devRef .tc r) = U (Proc.devRef .tc r) :=
  after_of_writes_sub _ _ (by
    simp only [List.Forall]
    repeat' apply And.intro
    all_goals
      simp only [TRef.binary, TRef.nullary, TRef.ternary, TRef.unary, nullary_writes, unary_writes, binary_writes, ternary_writes, reshape_writes,
        Finset.singleton_subset_iff, List.mem_toFinset]
      exact List.mem_map_of_mem (by decide)) h
set_option maxHeartbeats 2000000 in
theorem seg0_v0 (harg0 : at' U main_arg0 = (x0 : (main_arg0 : Ref sig .tc).ty.Contents (Elt Ideal))) :
    at' (after hostOps0 U) main_v0 = (val_main_v0 x0 : (main_v0 : Ref sig .tc).ty.Contents (Elt Ideal)) := by
  unfold at'
  simp only [hostOps0, TRef.binary, TRef.nullary, TRef.ternary, TRef.unary, TRef.toBuf, TRef.ofBuf, cast_eq]
  after_results_simp
  simp only [at'] at harg0
  simp only [harg0] <;> rfl
set_option maxHeartbeats 2000000 in
theorem seg0_v1 (harg0 : at' U main_arg0 = (x0 : (main_arg0 : Ref sig .tc).ty.Contents (Elt Ideal))) :
    at' (after hostOps0 U) main_v1 = (val_main_v1 x0 : (main_v1 : Ref sig .tc).ty.Contents (Elt Ideal)) := by
  unfold at'
  simp only [hostOps0, TRef.binary, TRef.nullary, TRef.ternary, TRef.unary, TRef.toBuf, TRef.ofBuf, cast_eq]
  after_results_simp
  simp only [at'] at harg0
  simp only [harg0] <;> rfl
set_option maxHeartbeats 2000000 in
theorem seg0_v2 (harg0 : at' U main_arg0 = (x0 : (main_arg0 : Ref sig .tc).ty.Contents (Elt Ideal))) :
    at' (after hostOps0 U) main_v2 = (val_main_v2 x0 : (main_v2 : Ref sig .tc).ty.Contents (Elt Ideal)) := by
  unfold at'
  simp only [hostOps0, TRef.binary, TRef.nullary, TRef.ternary, TRef.unary, TRef.toBuf, TRef.ofBuf, cast_eq]
  after_results_simp
  simp only [at'] at harg0
  simp only [harg0] <;> rfl
set_option maxHeartbeats 2000000 in
theorem seg0_v7 (harg4 : at' U main_arg4 = (x4 : (main_arg4 : Ref sig .tc).ty.Contents (Elt Ideal))) :
    at' (after hostOps0 U) main_v7 = (val_main_v9 x4 : (main_v7 : Ref sig .tc).ty.Contents (Elt Ideal)) := by
  unfold at'
  simp only [hostOps0, TRef.binary, TRef.nullary, TRef.ternary, TRef.unary, TRef.toBuf, TRef.ofBuf, cast_eq]
  after_results_simp
  simp only [at'] at harg4
  simp only [harg4] <;> rfl
set_option maxHeartbeats 2000000 in
theorem seg0_v8 (harg5 : at' U main_arg5 = (x5 : (main_arg5 : Ref sig .tc).ty.Contents (Elt Ideal))) :
    at' (after hostOps0 U) main_v8 = (val_main_v4 x5 : (main_v8 : Ref sig .tc).ty.Contents (Elt Ideal)) := by
  unfold at'
  simp only [hostOps0, TRef.binary, TRef.nullary, TRef.ternary, TRef.unary, TRef.toBuf, TRef.ofBuf, cast_eq]
  after_results_simp
  simp only [at'] at harg5
  simp only [harg5] <;> rfl
set_option maxHeartbeats 2000000 in
theorem seg0_v12 (harg1 : at' U main_arg1 = (x1 : (main_arg1 : Ref sig .tc).ty.Contents (Elt Ideal))) (harg3 : at' U main_arg3 = (x3 : (main_arg3 : Ref sig .tc).ty.Contents (Elt Ideal))) :
    at' (after hostOps0 U) main_v12 = (val_main_v13 x1 x3 : (main_v12 : Ref sig .tc).ty.Contents (Elt Ideal)) := by
  unfold at'
  simp only [hostOps0, TRef.binary, TRef.nullary, TRef.ternary, TRef.unary, TRef.toBuf, TRef.ofBuf, cast_eq]
  after_results_simp
  simp only [at'] at harg1 harg3
  simp only [harg1, harg3] <;> rfl
set_option maxHeartbeats 2000000 in
theorem seg1_v13 (hv12 : at' U main_v12 = (val_main_v13 x1 x3 : (main_v12 : Ref sig .tc).ty.Contents (Elt Ideal))) :
    at' (after hostOps0_1 U) main_v13 = (val_main_v14 x1 x3 : (main_v13 : Ref sig .tc).ty.Contents (Elt Ideal)) := by
  unfold at'
  simp only [hostOps0_1, TRef.binary, TRef.nullary, TRef.ternary, TRef.unary, TRef.toBuf, TRef.ofBuf, cast_eq]
  after_results_simp
  simp only [at'] at hv12
  simp only [hv12] <;> rfl
set_option maxHeartbeats 2000000 in
theorem seg2_v21 (hv0 : at' U main_v0 = (val_main_v0 x0 : (main_v0 : Ref sig .tc).ty.Contents (Elt Ideal))) (hv13 : at' U main_v13 = (val_main_v14 x1 x3 : (main_v13 : Ref sig .tc).ty.Contents (Elt Ideal))) :
    at' (after hostOps0_2 U) main_v21 = (val_main_v22 x0 x1 x3 : (main_v21 : Ref sig .tc).ty.Contents (Elt Ideal)) := by
  unfold at'
  simp only [hostOps0_2, TRef.binary, TRef.nullary, TRef.ternary, TRef.unary, TRef.toBuf, TRef.ofBuf, cast_eq]
  after_results_simp
  simp only [at'] at hv0 hv13
  simp only [hv0, hv13] <;> rfl
set_option maxHeartbeats 2000000 in
theorem seg2_v26 (hv13 : at' U main_v13 = (val_main_v14 x1 x3 : (main_v13 : Ref sig .tc).ty.Contents (Elt Ideal))) (hv7 : at' U main_v7 = (val_main_v9 x4 : (main_v7 : Ref sig .tc).ty.Contents (Elt Ideal))) :
    at' (after hostOps0_2 U) main_v26 = (val_main_v27 x1 x3 x4 : (main_v26 : Ref sig .tc).ty.Contents (Elt Ideal)) := by
  unfold at'
  simp only [hostOps0_2, TRef.binary, TRef.nullary, TRef.ternary, TRef.unary, TRef.toBuf, TRef.ofBuf, cast_eq]
  after_results_simp
  simp only [at'] at hv13 hv7
  simp only [hv13, hv7] <;> rfl
set_option maxHeartbeats 2000000 in
theorem seg2_v32 (hv1 : at' U main_v1 = (val_main_v1 x0 : (main_v1 : Ref sig .tc).ty.Contents (Elt Ideal))) (hv2 : at' U main_v2 = (val_main_v2 x0 : (main_v2 : Ref sig .tc).ty.Contents (Elt Ideal))) :
    at' (after hostOps0_2 U) main_v32 = (val_main_v33 x0 : (main_v32 : Ref sig .tc).ty.Contents (Elt Ideal)) := by
  unfold at'
  simp only [hostOps0_2, TRef.binary, TRef.nullary, TRef.ternary, TRef.unary, TRef.toBuf, TRef.ofBuf, cast_eq]
  after_results_simp
  simp only [at'] at hv1 hv2
  simp only [hv1, hv2] <;> rfl
set_option maxHeartbeats 2000000 in
theorem seg3_v33 (hv26 : at' U main_v26 = (val_main_v27 x1 x3 x4 : (main_v26 : Ref sig .tc).ty.Contents (Elt Ideal))) :
    at' (after hostOps0_3 U) main_v33 = (val_main_v34 x1 x3 x4 : (main_v33 : Ref sig .tc).ty.Contents (Elt Ideal)) := by
  unfold at'
  simp only [hostOps0_3, TRef.binary, TRef.nullary, TRef.ternary, TRef.unary, TRef.toBuf, TRef.ofBuf, cast_eq]
  after_results_simp
  simp only [at'] at hv26
  simp only [hv26] <;> rfl
set_option maxHeartbeats 2000000 in
theorem seg4_v38 (hv33 : at' U main_v33 = (val_main_v34 x1 x3 x4 : (main_v33 : Ref sig .tc).ty.Contents (Elt Ideal))) :
    at' (after hostOps0_4 U) main_v38 = (val_main_v39 x1 x3 x4 : (main_v38 : Ref sig .tc).ty.Contents (Elt Ideal)) := by
  unfold at'
  simp only [hostOps0_4, TRef.binary, TRef.nullary, TRef.ternary, TRef.unary, TRef.toBuf, TRef.ofBuf, cast_eq]
  after_results_simp
  simp only [at'] at hv33
  simp only [hv33] <;> rfl
set_option maxHeartbeats 2000000 in
theorem seg4_v39  :
    at' (after hostOps0_4 U) main_v39 = (val_main_v40 : (main_v39 : Ref sig .tc).ty.Contents (Elt Ideal)) := by
  unfold at'
  simp only [hostOps0_4, TRef.binary, TRef.nullary, TRef.ternary, TRef.unary, TRef.toBuf, TRef.ofBuf, cast_eq]
  after_results_simp
  rfl
set_option maxHeartbeats 2000000 in
theorem seg5_v40 (hv39 : at' U main_v39 = (val_main_v40 : (main_v39 : Ref sig .tc).ty.Contents (Elt Ideal))) :
    at' (after hostOps0_5 U) main_v40 = (val_main_v41 : (main_v40 : Ref sig .tc).ty.Contents (Elt Ideal)) := by
  unfold at'
  simp only [hostOps0_5, TRef.binary, TRef.nullary, TRef.ternary, TRef.unary, TRef.toBuf, TRef.ofBuf, cast_eq]
  after_results_simp
  simp only [at'] at hv39
  simp only [hv39] <;> rfl
set_option maxHeartbeats 2000000 in
theorem seg6_cst  :
    at' (after hostOps0_6 U) main_cst = (constant (F := Ideal) S_ .f32 0xFF800000#32 : (main_cst : Ref sig .tc).ty.Contents (Elt Ideal)) := by
  unfold at'
  simp only [hostOps0_6, TRef.binary, TRef.nullary, TRef.ternary, TRef.unary, TRef.toBuf, TRef.ofBuf, cast_eq]
  after_results_simp

set_option maxHeartbeats 2000000 in
theorem seg7_v41 (hcst : at' U main_cst = (constant (F := Ideal) S_ .f32 0xFF800000#32 : (main_cst : Ref sig .tc).ty.Contents (Elt Ideal))) (hv40 : at' U main_v40 = (val_main_v41 : (main_v40 : Ref sig .tc).ty.Contents (Elt Ideal))) (hv38 : at' U main_v38 = (val_main_v39 x1 x3 x4 : (main_v38 : Ref sig .tc).ty.Contents (Elt Ideal))) :
    at' (after hostOps0_7 U) main_v41 = (val_main_v42 x1 x3 x4 : (main_v41 : Ref sig .tc).ty.Contents (Elt Ideal)) := by
  unfold at'
  simp only [hostOps0_7, TRef.binary, TRef.nullary, TRef.ternary, TRef.unary, TRef.toBuf, TRef.ofBuf, cast_eq]
  after_results_simp
  simp only [at'] at hcst hv40 hv38
  simp only [hcst, hv40, hv38] <;> rfl
set_option maxHeartbeats 2000000 in
theorem seg8_v53 (hv41 : at' U main_v41 = (val_main_v42 x1 x3 x4 : (main_v41 : Ref sig .tc).ty.Contents (Elt Ideal))) (hv32 : at' U main_v32 = (val_main_v33 x0 : (main_v32 : Ref sig .tc).ty.Contents (Elt Ideal))) (hv21 : at' U main_v21 = (val_main_v22 x0 x1 x3 : (main_v21 : Ref sig .tc).ty.Contents (Elt Ideal))) (hv0 : at' U main_v0 = (val_main_v0 x0 : (main_v0 : Ref sig .tc).ty.Contents (Elt Ideal))) (hv8 : at' U main_v8 = (val_main_v4 x5 : (main_v8 : Ref sig .tc).ty.Contents (Elt Ideal))) :
    at' (after hostOps0_8 U) main_v53 = (yb x0 x1 x3 x4 x5 : (main_v53 : Ref sig .tc).ty.Contents (Elt Ideal)) := by
  unfold at'
  simp only [hostOps0_8, TRef.binary, TRef.nullary, TRef.ternary, TRef.unary, TRef.toBuf, TRef.ofBuf, cast_eq]
  after_results_simp
  simp only [at'] at hv41 hv32 hv21 hv0 hv8
  simp only [hv41, hv32, hv21, hv0, hv8] <;> rfl

/-- The host operations after those that compute the recurrence's result leave it alone. -/
theorem keep_tail : after (List.flatten [hostOps0_9, hostOps0_10, hostOps0_11, hostOps0_12, hostOps0_13, hostOps0_14, hostOps0_15, hostOps0_16]) U (Proc.devRef .tc main_v53) = U (Proc.devRef .tc main_v53) :=
  after_of_forall_not_mem (b := Proc.devRef .tc main_v53) _ _ (List.forall_iff_forall_mem.mp (by
    simp only [hostOps0_9, hostOps0_10, hostOps0_11, hostOps0_12, hostOps0_13, hostOps0_14, hostOps0_15, hostOps0_16, List.flatten_cons, List.flatten_nil, List.append_nil, List.cons_append, List.nil_append, List.Forall, nullary_writes, unary_writes,
      binary_writes, ternary_writes, reshape_writes, Finset.mem_singleton]
    repeat' apply And.intro
    all_goals exact devRef_ne_of_ne (by decide)))

/-- The host operations up to the recurrence's result, one line after the other. -/
theorem head_v53 (harg0 : at' U main_arg0 = (x0 : (main_arg0 : Ref sig .tc).ty.Contents (Elt Ideal))) (harg1 : at' U main_arg1 = (x1 : (main_arg1 : Ref sig .tc).ty.Contents (Elt Ideal))) (harg3 : at' U main_arg3 = (x3 : (main_arg3 : Ref sig .tc).ty.Contents (Elt Ideal))) (harg4 : at' U main_arg4 = (x4 : (main_arg4 : Ref sig .tc).ty.Contents (Elt Ideal))) (harg5 : at' U main_arg5 = (x5 : (main_arg5 : Ref sig .tc).ty.Contents (Elt Ideal))) :
    at' (after hostOps0_8 (after hostOps0_7 (after hostOps0_6 (after hostOps0_5 (after hostOps0_4 (after hostOps0_3 (after hostOps0_2
      (after hostOps0_1 (after hostOps0 U))))))))) main_v53
      = (yb x0 x1 x3 x4 x5 : (main_v53 : Ref sig .tc).ty.Contents (Elt Ideal)) := by
  have v0_0 := seg0_v0 U x0 harg0
  have v1_0 := seg0_v1 U x0 harg0
  have v2_0 := seg0_v2 U x0 harg0
  have v7_0 := seg0_v7 U x4 harg4
  have v8_0 := seg0_v8 U x5 harg5
  have v12_0 := seg0_v12 U x1 x3 harg1 harg3
  have v0_1 := (keep_hostOps0_1 (after hostOps0 U) main_v0 (by decide)).trans v0_0
  have v1_1 := (keep_hostOps0_1 (after hostOps0 U) main_v1 (by decide)).trans v1_0
  have v2_1 := (keep_hostOps0_1 (after hostOps0 U) main_v2 (by decide)).trans v2_0
  have v7_1 := (keep_hostOps0_1 (after hostOps0 U) main_v7 (by decide)).trans v7_0
  have v8_1 := (keep_hostOps0_1 (after hostOps0 U) main_v8 (by decide)).trans v8_0
  have v13_1 := seg1_v13 (after hostOps0 U) x1 x3 v12_0
  have v0_2 := (keep_hostOps0_2 (after hostOps0_1 (after hostOps0 U)) main_v0 (by decide)).trans v0_1
  have v8_2 := (keep_hostOps0_2 (after hostOps0_1 (after hostOps0 U)) main_v8 (by decide)).trans v8_1
  have v21_2 := seg2_v21 (after hostOps0_1 (after hostOps0 U)) x0 x1 x3 v0_1 v13_1
  have v26_2 := seg2_v26 (after hostOps0_1 (after hostOps0 U)) x1 x3 x4 v13_1 v7_1
  have v32_2 := seg2_v32 (after hostOps0_1 (after hostOps0 U)) x0 v1_1 v2_1
  have v0_3 := (keep_hostOps0_3 (after hostOps0_2 (after hostOps0_1 (after hostOps0 U))) main_v0 (by decide)).trans v0_2
  have v8_3 := (keep_hostOps0_3 (after hostOps0_2 (after hostOps0_1 (after hostOps0 U))) main_v8 (by decide)).trans v8_2
  have v21_3 := (keep_hostOps0_3 (after hostOps0_2 (after hostOps0_1 (after hostOps0 U))) main_v21 (by decide)).trans v21_2
  have v32_3 := (keep_hostOps0_3 (after hostOps0_2 (after hostOps0_1 (after hostOps0 U))) main_v32 (by decide)).trans v32_2
  have v33_3 := seg3_v33 (after hostOps0_2 (after hostOps0_1 (after hostOps0 U))) x1 x3 x4 v26_2
  have v0_4 := (keep_hostOps0_4 (after hostOps0_3 (after hostOps0_2 (after hostOps0_1 (after hostOps0 U)))) main_v0 (by decide)).trans v0_3
  have v8_4 := (keep_hostOps0_4 (after hostOps0_3 (after hostOps0_2 (after hostOps0_1 (after hostOps0 U)))) main_v8 (by decide)).trans v8_3
  have v21_4 := (keep_hostOps0_4 (after hostOps0_3 (after hostOps0_2 (after hostOps0_1 (after hostOps0 U)))) main_v21 (by decide)).trans v21_3
  have v32_4 := (keep_hostOps0_4 (after hostOps0_3 (after hostOps0_2 (after hostOps0_1 (after hostOps0 U)))) main_v32 (by decide)).trans v32_3
  have v38_4 := seg4_v38 (after hostOps0_3 (after hostOps0_2 (after hostOps0_1 (after hostOps0 U)))) x1 x3 x4 v33_3
  have v39_4 := seg4_v39 (after hostOps0_3 (after hostOps0_2 (after hostOps0_1 (after hostOps0 U))))
  have v0_5 := (keep_hostOps0_5 (after hostOps0_4 (after hostOps0_3 (after hostOps0_2 (after hostOps0_1 (after hostOps0 U))))) main_v0 (by decide)).trans v0_4
  have v8_5 := (keep_hostOps0_5 (after hostOps0_4 (after hostOps0_3 (after hostOps0_2 (after hostOps0_1 (after hostOps0 U))))) main_v8 (by decide)).trans v8_4
  have v21_5 := (keep_hostOps0_5 (after hostOps0_4 (after hostOps0_3 (after hostOps0_2 (after hostOps0_1 (after hostOps0 U))))) main_v21 (by decide)).trans v21_4
  have v32_5 := (keep_hostOps0_5 (after hostOps0_4 (after hostOps0_3 (after hostOps0_2 (after hostOps0_1 (after hostOps0 U))))) main_v32 (by decide)).trans v32_4
  have v38_5 := (keep_hostOps0_5 (after hostOps0_4 (after hostOps0_3 (after hostOps0_2 (after hostOps0_1 (after hostOps0 U))))) main_v38 (by decide)).trans v38_4
  have v40_5 := seg5_v40 (after hostOps0_4 (after hostOps0_3 (after hostOps0_2 (after hostOps0_1 (after hostOps0 U))))) v39_4
  have v0_6 := (keep_hostOps0_6 (after hostOps0_5 (after hostOps0_4 (after hostOps0_3 (after hostOps0_2 (after hostOps0_1 (after hostOps0 U)))))) main_v0 (by decide)).trans v0_5
  have v8_6 := (keep_hostOps0_6 (after hostOps0_5 (after hostOps0_4 (after hostOps0_3 (after hostOps0_2 (after hostOps0_1 (after hostOps0 U)))))) main_v8 (by decide)).trans v8_5
  have v21_6 := (keep_hostOps0_6 (after hostOps0_5 (after hostOps0_4 (after hostOps0_3 (after hostOps0_2 (after hostOps0_1 (after hostOps0 U)))))) main_v21 (by decide)).trans v21_5
  have v32_6 := (keep_hostOps0_6 (after hostOps0_5 (after hostOps0_4 (after hostOps0_3 (after hostOps0_2 (after hostOps0_1 (after hostOps0 U)))))) main_v32 (by decide)).trans v32_5
  have v38_6 := (keep_hostOps0_6 (after hostOps0_5 (after hostOps0_4 (after hostOps0_3 (after hostOps0_2 (after hostOps0_1 (after hostOps0 U)))))) main_v38 (by decide)).trans v38_5
  have v40_6 := (keep_hostOps0_6 (after hostOps0_5 (after hostOps0_4 (after hostOps0_3 (after hostOps0_2 (after hostOps0_1 (after hostOps0 U)))))) main_v40 (by decide)).trans v40_5
  have cst_6 := seg6_cst (after hostOps0_5 (after hostOps0_4 (after hostOps0_3 (after hostOps0_2 (after hostOps0_1 (after hostOps0 U))))))
  have v0_7 := (keep_hostOps0_7 (after hostOps0_6 (after hostOps0_5 (after hostOps0_4 (after hostOps0_3 (after hostOps0_2 (after hostOps0_1 (after hostOps0 U))))))) main_v0 (by decide)).trans v0_6
  have v8_7 := (keep_hostOps0_7 (after hostOps0_6 (after hostOps0_5 (after hostOps0_4 (after hostOps0_3 (after hostOps0_2 (after hostOps0_1 (after hostOps0 U))))))) main_v8 (by decide)).trans v8_6
  have v21_7 := (keep_hostOps0_7 (after hostOps0_6 (after hostOps0_5 (after hostOps0_4 (after hostOps0_3 (after hostOps0_2 (after hostOps0_1 (after hostOps0 U))))))) main_v21 (by decide)).trans v21_6
  have v32_7 := (keep_hostOps0_7 (after hostOps0_6 (after hostOps0_5 (after hostOps0_4 (after hostOps0_3 (after hostOps0_2 (after hostOps0_1 (after hostOps0 U))))))) main_v32 (by decide)).trans v32_6
  have v41_7 := seg7_v41 (after hostOps0_6 (after hostOps0_5 (after hostOps0_4 (after hostOps0_3 (after hostOps0_2 (after hostOps0_1 (after hostOps0 U))))))) x1 x3 x4 cst_6 v40_6 v38_6
  exact seg8_v53 _ x0 x1 x3 x4 x5 v41_7 v32_7 v21_7 v0_7 v8_7

variable (m : (ℓ : Loc nD τ sig) → Buf (Elt Ideal) ℓ) (c : Dev nD)

/-- What the region finds as the recurrence's result: the reference's array of the launched arguments, rounded. -/
theorem V_v53 : V m c main_v53
    = (yb (m ((c : Thread nD τ).loc main_arg0)) (m ((c : Thread nD τ).loc main_arg1)) (m ((c : Thread nD τ).loc main_arg3))
        (m ((c : Thread nD τ).loc main_arg4)) (m ((c : Thread nD τ).loc main_arg5))
      : (main_v53 : Ref sig .tc).ty.Contents (Elt Ideal)) := by
  show after ([hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16].flatten) (fun b => m (c, b)) (Proc.devRef .tc main_v53) = _
  rw [show [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16].flatten = hostOps0 ++ (hostOps0_1 ++ (hostOps0_2 ++ (hostOps0_3 ++ (hostOps0_4 ++
    (hostOps0_5 ++ (hostOps0_6 ++ (hostOps0_7 ++ (hostOps0_8 ++ [hostOps0_9 (F := Ideal), hostOps0_10, hostOps0_11, hostOps0_12, hostOps0_13, hostOps0_14,
    hostOps0_15, hostOps0_16].flatten)))))))) from by simp only [List.flatten_cons]]
  rw [after_app, after_app, after_app, after_app, after_app, after_app, after_app, after_app, after_app, keep_tail]
  exact head_v53 (fun b => m (c, b)) _ _ _ _ _ rfl rfl rfl rfl rfl

end Cert.SsdCoreBwdIdeal.Host
-- ==== Proof.SsdChunk.lean ====
module
public import proofs.«01_k».proof.Proof.SsdGlobal

/-!
The chunks of the recurrence's backward pass: what the kernel computes chunk after chunk, from the last to the first,
is the gradient over the whole sequence.
-/

@[expose] public section

noncomputable section

open scoped BigOperators
open Finset

namespace Cert.Ssd.Ins

open Cert.Ssd

variable (I : Ins)

/-- The blocks of group `g` and chunk `c`. -/
def blk (g c : ℕ) : Blk where
  g := g
  Y i j := I.y (128 * c + i) (512 * g + j)
  Z i j := I.A1 (128 * c + i) (512 * g + j)
  D i j := I.A2 (128 * c + i) (512 * g + j)
  X i j := I.A0 (128 * c + i) (512 * g + j)
  B i n := I.key (128 * c + i) g n
  C i n := I.qry (128 * c + i) g n
  T i h := I.A1 (128 * c + i) (10240 + h)
  W j := I.A6 0 (512 * g + j)
  b h := I.A3 0 h
  al h := I.A4 0 h
  dx j := I.A5 0 (512 * g + j)

/-- The gradient of the state after chunk `c`. -/
def grad (g c q j n : ℕ) : ℝ :=
  st (I.a (head g (128 * q + j))) (fun t => I.dyt t (512 * g + (128 * q + j)) * I.qry t g n) c

theorem blk_cs (g c i h : ℕ) (hi : i < 128) : (I.blk g c).cs i h = lc (I.a h) c i := csum_eq _ i hi

theorem blk_dyv (g c i J : ℕ) (hJ : J < 512) : (I.blk g c).dyv i J = I.dyt (128 * c + i) (512 * g + J) := by
  unfold dyt
  rw [show (512 * g + J) / 512 = g by omega, show (512 * g + J) % 512 = J by omega]
  rfl

/-- One chunk carries the gradient of the state back. -/
theorem blk_next (g c q j n : ℕ) (hc : c + 1 < 32) (hq : q < 4) (hj : j < 128) :
    (I.blk g (c + 1)).next (I.grad g (c + 1)) q j n = I.grad g c q j n := by
  rw [show I.grad g c q j n = _ from rfl, grad, st_step _ _ c hc, Blk.next, blk_cs I g (c + 1) 127 _ (by omega)]
  refine congrArg₂ (· + ·) rfl (sum_congr rfl fun l hl => ?_)
  rw [mem_range] at hl
  rw [blk_cs I g (c + 1) l _ hl, blk_dyv I g (c + 1) l _ (by omega), mul_assoc]
  rfl

/-- One chunk's gradient of the values. -/
theorem blk_dxs (g c i J : ℕ) (hc : c < 32) (hi : i < 128) (hJ : J < 512) :
    (I.blk g c).dxs (I.grad g c) i J = I.dxs (128 * c + i) (512 * g + J) := by
  have hh : (512 * g + J) / 64 = head g J := by unfold head; omega
  unfold dxs Blk.dxs
  rw [blk_dyv I g c i J hJ, show (512 * g + J) / 512 = g by omega, hh]
  refine congrArg₂ (· + ·) (congrArg₂ (· * ·) ?_ rfl) (mul_comm _ _)
  refine Eq.symm ((dxd_eq (I.a (head g J)) (fun l => I.dyt l (512 * g + J)) (fun l => I.qk g l (128 * c + i)) (fun n => I.key (128 * c + i) g n)
    (fun t n => I.qry t g n) c i hc hi fun t => sum_congr rfl fun n _ => mul_comm _ _).trans ?_)
  unfold Blk.dxd
  refine congrArg₂ (· + ·) (sum_congr rfl fun l hl => ?_) (congrArg₂ (· * ·) ?_ (sum_congr rfl fun n _ => congrArg₂ (· * ·) rfl ?_))
  · rw [mem_range] at hl
    rw [blk_dyv I g c l J hJ, blk_cs I g c l _ hl, blk_cs I g c i _ hi]
    refine congrArg₂ (· * ·) (congrArg₂ (· * ·) (sum_congr rfl fun n _ => mul_comm _ _) rfl) rfl
  · rw [blk_cs I g c 127 _ (by omega), blk_cs I g c i _ hi]
    rfl
  · rw [grad, show 128 * (J / 128) + J % 128 = J by omega]

/-- A sum over the sequence, chunk by chunk from the last to the first. -/
theorem sum_back (f : ℕ → ℝ) : ∑ t ∈ range 4096, f t = ∑ s ∈ range 32, ∑ l ∈ range 128, f (128 * (31 - s) + l) := by
  have h : ∀ n, ∑ t ∈ range (128 * n), f t = ∑ s ∈ range n, ∑ l ∈ range 128, f (128 * s + l) := fun n => by
    induction n with
    | zero => rfl
    | succ n ih => rw [Nat.mul_succ, sum_range_add, ih, sum_range_succ (n := n)]
  exact (h 32).trans (sum_range_reflect (fun s => ∑ l ∈ range 128, f (128 * s + l)) 32).symm

theorem sum_dnw (g J : ℕ) (hJ : J < 512) : ∑ s ∈ range 32, (I.blk g (31 - s)).dnw J = I.dnw (512 * g + J) := by
  refine Eq.symm ((sum_back _).trans ?_)
  rw [show (512 * g + J) / 512 = g by omega, show (512 * g + J) % 512 = J by omega]
  rfl

theorem sum_ddexp (g J : ℕ) (hJ : J < 512) : ∑ s ∈ range 32, (I.blk g (31 - s)).ddexp J = I.ddexp (512 * g + J) := by
  refine Eq.symm ((sum_back _).trans (sum_congr rfl fun s _ => sum_congr rfl fun l _ => ?_))
  rw [blk_dyv I g (31 - s) l J hJ]
  rfl

end Cert.Ssd.Ins
-- ==== Proof.SsdHolds.lean ====
module
public import proofs.«01_k».proof.Proof.SsdPoint
public import proofs.«01_k».proof.Proof.SsdHost
public import proofs.«01_k».proof.Proof.SsdChunk

/-!
The blocks that one grid point of the recurrence's backward kernel reads, as real numbers of the arguments.
-/

@[expose] public section

set_option maxRecDepth 16384

noncomputable section

open Idealize.ShloMosaic Idealize.ShloMosaic.TcCoe Idealize.SL.Sem
open Idealize.ShloMosaic.Pipeline (Dat)
open scoped BigOperators

namespace Cert.SsdCoreBwdIdeal.Value

open Cert.SsdCoreBwdIdeal Cert.SsdCoreBwdIdeal.Gen Cert.Ssd Cert.SsdCoreBwdIdeal.Lift

variable (m : (ℓ : Loc nD τ sig) → Buf (Elt Ideal) ℓ)

/-- The seven arguments of core `c` hold the real numbers `I`. -/
structure Args (c : Dev nD) (I : Ins) : Prop where
  a0 : m ((c : Thread nD τ).loc main_arg0) = (up I.A0 : FVec Ideal S4096x6144 .bf16)
  a1 : m ((c : Thread nD τ).loc main_arg1) = (up I.A1 : FVec Ideal S4096x10368 .bf16)
  a2 : m ((c : Thread nD τ).loc main_arg2) = (up I.A2 : FVec Ideal S4096x4096 .bf16)
  a3 : m ((c : Thread nD τ).loc main_arg3) = (up I.A3 : FVec Ideal S1x128 .f32)
  a4 : m ((c : Thread nD τ).loc main_arg4) = (up I.A4 : FVec Ideal S1x128 .f32)
  a5 : m ((c : Thread nD τ).loc main_arg5) = (up I.A5 : FVec Ideal S1x4096 .f32)
  a6 : m ((c : Thread nD τ).loc main_arg6) = (up I.A6 : FVec Ideal S1x4096 .f32)

theorem idx_val : ∀ t : Fin cfg0.N, win0_0.index t = ![31 - t.val % 32, t.val / 32] ∧ win0_1.index t = ![31 - t.val % 32, t.val / 32]
    ∧ win0_2.index t = ![31 - t.val % 32, t.val / 32] ∧ win0_3.index t = ![0, t.val / 32] ∧ win0_4.index t = ![31 - t.val % 32, t.val / 32]
    ∧ win0_5.index t = ![31 - t.val % 32, 32 + t.val / 32] ∧ win0_6.index t = ![31 - t.val % 32, 40 + t.val / 32]
    ∧ win0_7.index t = ![31 - t.val % 32, 80] ∧ win0_8.index t = ![0, 0] ∧ win0_9.index t = ![0, 0] ∧ win0_10.index t = ![0, t.val / 32]
    ∧ win0_13.index t = ![31 - t.val % 32, t.val / 32] ∧ win0_18.index t = ![t.val / 32, 0, 0] ∧ win0_19.index t = ![t.val / 32, 0, 0] :=
  (by decide +kernel : ∀ t : Fin grid0.N, _)

theorem tN (t : Fin cfg0.N) : t.val < 256 := t.isLt.trans_le (by decide)

theorem up_ld {a b : ℕ} {φ : FTy} (f : ℕ → ℕ → ℝ) (i : Shape.Idx ⟨2, ![a, b]⟩) : (up f : FVec Ideal ⟨2, ![a, b]⟩ φ) i = ((f (i 0) (i 1) : ℝ) : EReal) := rfl

/-- The forward result is the reference's, as real numbers. -/
theorem V_y (c : Dev nD) (I : Ins) (h : Args m c I) : V m c main_v53 = (up I.y : FVec Ideal S4096x4096 .bf16) := by
  rw [Host.V_v53, h.a0, h.a1, h.a3, h.a4, h.a5]
  funext i
  exact Cert.SsdCoreBwdRefIdeal.Reals.v53 I i

theorem hold0 (c : Dev nD) (I : Ins) (h : Args m c I) (t : Fin cfg0.N) :
    iblk m c 0 t = (up (I.blk (t.val / 32) (31 - t.val % 32)).D : FVec Ideal S128x512 .bf16) := by
  have ht := tN t
  refine funext fun (j : S128x512.Idx) => ?_
  rw [up_ld]
  have hV : V m c (Pipeline.arrRef spec0 0) = (up I.A2 : FVec Ideal S4096x4096 .bf16) := (V_main_arg2 m c).trans h.a2
  blk_point [iblk, hV, up, idx_val t]
  exact congrArg (fun r : ℝ => (r : EReal)) (congrArg₂ I.A2 (by omega) (by omega))

theorem hold1 (c : Dev nD) (I : Ins) (h : Args m c I) (t : Fin cfg0.N) :
    iblk m c 1 t = (up (I.blk (t.val / 32) (31 - t.val % 32)).Y : FVec Ideal S128x512 .bf16) := by
  have ht := tN t
  refine funext fun (j : S128x512.Idx) => ?_
  rw [up_ld]
  have hV : V m c (Pipeline.arrRef spec0 1) = (up I.y : FVec Ideal S4096x4096 .bf16) := V_y m c I h
  blk_point [iblk, hV, up, idx_val t]
  exact congrArg (fun r : ℝ => (r : EReal)) (congrArg₂ I.y (by omega) (by omega))

theorem hold3 (c : Dev nD) (I : Ins) (h : Args m c I) (t : Fin cfg0.N) :
    iblk m c 3 t = (up fun _ j => (I.blk (t.val / 32) (31 - t.val % 32)).W j : FVec Ideal S1x512 .f32) := by
  have ht := tN t
  refine funext fun (j : S1x512.Idx) => ?_
  rw [up_ld]
  have hV : V m c (Pipeline.arrRef spec0 3) = (up I.A6 : FVec Ideal S1x4096 .f32) := (V_main_arg6 m c).trans h.a6
  blk_point [iblk, hV, up, idx_val t]
  exact congrArg (fun r : ℝ => (r : EReal)) (congrArg₂ I.A6 (by omega) (by omega))

theorem hold4 (c : Dev nD) (I : Ins) (h : Args m c I) (t : Fin cfg0.N) :
    iblk m c 4 t = (up (I.blk (t.val / 32) (31 - t.val % 32)).X : FVec Ideal S128x512 .bf16) := by
  have ht := tN t
  refine funext fun (j : S128x512.Idx) => ?_
  rw [up_ld]
  have hV : V m c (Pipeline.arrRef spec0 4) = (up I.A0 : FVec Ideal S4096x6144 .bf16) := (V_main_arg0 m c).trans h.a0
  blk_point [iblk, hV, up, idx_val t]
  exact congrArg (fun r : ℝ => (r : EReal)) (congrArg₂ I.A0 (by omega) (by omega))

theorem hold5 (c : Dev nD) (I : Ins) (h : Args m c I) (t : Fin cfg0.N) :
    iblk m c 5 t = (up (I.blk (t.val / 32) (31 - t.val % 32)).B : FVec Ideal S128x128 .bf16) := by
  have ht := tN t
  refine funext fun (j : S128x128.Idx) => ?_
  rw [up_ld]
  have hV : V m c (Pipeline.arrRef spec0 5) = (up I.A0 : FVec Ideal S4096x6144 .bf16) := (V_main_arg0 m c).trans h.a0
  blk_point [iblk, hV, up, idx_val t]
  exact congrArg (fun r : ℝ => (r : EReal)) (congrArg₂ I.A0 (by omega) (by omega))

theorem hold6 (c : Dev nD) (I : Ins) (h : Args m c I) (t : Fin cfg0.N) :
    iblk m c 6 t = (up (I.blk (t.val / 32) (31 - t.val % 32)).C : FVec Ideal S128x128 .bf16) := by
  have ht := tN t
  refine funext fun (j : S128x128.Idx) => ?_
  rw [up_ld]
  have hV : V m c (Pipeline.arrRef spec0 6) = (up I.A0 : FVec Ideal S4096x6144 .bf16) := (V_main_arg0 m c).trans h.a0
  blk_point [iblk, hV, up, idx_val t]
  exact congrArg (fun r : ℝ => (r : EReal)) (congrArg₂ I.A0 (by omega) (by omega))

theorem hold7 (c : Dev nD) (I : Ins) (h : Args m c I) (t : Fin cfg0.N) :
    iblk m c 7 t = (up (I.blk (t.val / 32) (31 - t.val % 32)).T : FVec Ideal S128x128 .bf16) := by
  have ht := tN t
  refine funext fun (j : S128x128.Idx) => ?_
  rw [up_ld]
  have hV : V m c (Pipeline.arrRef spec0 7) = (up I.A1 : FVec Ideal S4096x10368 .bf16) := (V_main_arg1 m c).trans h.a1
  blk_point [iblk, hV, up, idx_val t]
  exact congrArg (fun r : ℝ => (r : EReal)) (congrArg₂ I.A1 (by omega) (by omega))

theorem hold8 (c : Dev nD) (I : Ins) (h : Args m c I) (t : Fin cfg0.N) :
    iblk m c 8 t = (up fun _ j => (I.blk (t.val / 32) (31 - t.val % 32)).b j : FVec Ideal S1x128 .f32) := by
  have ht := tN t
  refine funext fun (j : S1x128.Idx) => ?_
  rw [up_ld]
  have hV : V m c (Pipeline.arrRef spec0 8) = (up I.A3 : FVec Ideal S1x128 .f32) := (V_main_arg3 m c).trans h.a3
  blk_point [iblk, hV, up, idx_val t]
  exact congrArg (fun r : ℝ => (r : EReal)) (congrArg₂ I.A3 (by omega) (by omega))

theorem hold9 (c : Dev nD) (I : Ins) (h : Args m c I) (t : Fin cfg0.N) :
    iblk m c 9 t = (up fun _ j => (I.blk (t.val / 32) (31 - t.val % 32)).al j : FVec Ideal S1x128 .f32) := by
  have ht := tN t
  refine funext fun (j : S1x128.Idx) => ?_
  rw [up_ld]
  have hV : V m c (Pipeline.arrRef spec0 9) = (up I.A4 : FVec Ideal S1x128 .f32) := (V_main_arg4 m c).trans h.a4
  blk_point [iblk, hV, up, idx_val t]
  exact congrArg (fun r : ℝ => (r : EReal)) (congrArg₂ I.A4 (by omega) (by omega))

theorem hold10 (c : Dev nD) (I : Ins) (h : Args m c I) (t : Fin cfg0.N) :
    iblk m c 10 t = (up fun _ j => (I.blk (t.val / 32) (31 - t.val % 32)).dx j : FVec Ideal S1x512 .f32) := by
  have ht := tN t
  refine funext fun (j : S1x512.Idx) => ?_
  rw [up_ld]
  have hV : V m c (Pipeline.arrRef spec0 10) = (up I.A5 : FVec Ideal S1x4096 .f32) := (V_main_arg5 m c).trans h.a5
  blk_point [iblk, hV, up, idx_val t]
  exact congrArg (fun r : ℝ => (r : EReal)) (congrArg₂ I.A5 (by omega) (by omega))

/-- The block of the gate, which is stated whole. -/
theorem hold2 (c : Dev nD) (I : Ins) (h : Args m c I) (t : Fin cfg0.N) :
    X0_2 m c t = (up (I.blk (t.val / 32) (31 - t.val % 32)).Z : FVec Ideal S128x512 .bf16) := by
  have ht := tN t
  refine funext fun (j : S128x512.Idx) => ?_
  rw [up_ld]
  have hV : V m c (Pipeline.arrRef spec0 2) = (up I.A1 : FVec Ideal S4096x10368 .bf16) := (V_main_arg1 m c).trans h.a1
  unfold X0_2 Pipeline.Window.fill
  rw [dif_pos (moved0_2 t j)]
  blk_point [iblk, hV, up, idx_val t]
  exact congrArg (fun r : ℝ => (r : EReal)) (congrArg₂ I.A1 (by show _ + (j 0).val = 128 * (31 - t.val % 32) + (j 0).val; omega)
    (by show _ + (j 1).val = 512 * (t.val / 32) + (j 1).val; omega))

/-- The blocks of grid point `t`, as real numbers. -/
theorem holds (c : Dev nD) (I : Ins) (h : Args m c I) (t : Fin cfg0.N) : Holds m c t (I.blk (t.val / 32) (31 - t.val % 32)) where
  hg := by
    have ht := tN t
    have e : (grid0.coords t 0).val = t.val / 32 % 8 := Pipeline.Grid.coords_val t 0 (by decide) rfl
    rw [e]; exact Nat.mod_eq_of_lt (by omega)
  g8 := by have ht := tN t; show t.val / 32 < 8; omega
  h0 := hold0 m c I h t
  h1 := hold1 m c I h t
  h2 := hold2 m c I h t
  h3 := hold3 m c I h t
  h4 := hold4 m c I h t
  h5 := hold5 m c I h t
  h6 := hold6 m c I h t
  h7 := hold7 m c I h t
  h8 := hold8 m c I h t
  h9 := hold9 m c I h t
  h10 := hold10 m c I h t

end Cert.SsdCoreBwdIdeal.Value
-- ==== Proof.SsdArrays.lean ====
module
public import proofs.«01_k».proof.Proof.SsdHolds

/-!
The arrays that the recurrence's backward kernel leaves: the gradients of the values, of the norm's weight and of the
skip connection's weight, over the whole sequence.
-/

@[expose] public section

set_option maxRecDepth 16384

noncomputable section

open Idealize.ShloMosaic Idealize.ShloMosaic.TcCoe Idealize.SL.Sem
open Idealize.ShloMosaic.Pipeline (Dat)
open scoped BigOperators

namespace Cert.SsdCoreBwdIdeal.Value

open Cert.SsdCoreBwdIdeal Cert.SsdCoreBwdIdeal.Gen Cert.Ssd Cert.SsdCoreBwdIdeal.Lift

variable (m : (ℓ : Loc nD τ sig) → Buf (Elt Ideal) ℓ) (c : Dev nD) (I : Ins) (hI : Args m c I)

theorem up3_congr {a b d : ℕ} {φ : FTy} {f g : ℕ → ℕ → ℕ → ℝ} (h : ∀ i < a, ∀ j < b, ∀ n < d, f i j n = g i j n) :
    (up3 f : FVec Ideal ⟨3, ![a, b, d]⟩ φ) = up3 g := by
  funext x
  exact congrArg _ (h _ (x 0).isLt _ (x 1).isLt _ (x 2).isLt)

theorem row8_congr {f g : ℕ → ℝ} (h : ∀ j < 512, f j = g j) : row8 f = row8 g :=
  up3_congr fun _ _ _ _ j hj => by rw [h j hj]

include hI

/-- What the scratch holds after the point of step `k` of a group: the gradient of the state before that chunk. -/
theorem scratch (k : ℕ) : ∀ t : Fin cfg0.N, t.val % 32 = k →
    (outsAt0 m c t.val t.isLt).2.2.2.2.2.2.2.2
      = (up3 ((I.blk (t.val / 32) (31 - k)).next (I.grad (t.val / 32) (31 - k))) : FVec Ideal S4x128x128 .f32) := by
  induction k with
  | zero =>
    intro t ht
    have hk := holds m c I hI t
    rw [ht] at hk
    refine (next_point_A m c t ht _ hk).trans ?_
    rw [show I.grad (t.val / 32) (31 - 0) = fun _ _ _ => 0 from funext fun q => funext fun j => funext fun n => st_last _ _]
  | succ k ih =>
    intro t ht
    have hl := tN t
    have hk := holds m c I hI t
    rw [ht] at hk
    refine next_point_B m c t (by omega) _ hk _ ((ih ⟨t.val - 1, by have := t.isLt; omega⟩ (by show (t.val - 1) % 32 = k; omega)).trans ?_)
    refine up3_congr fun q hq j hj n _ => ?_
    show (I.blk ((t.val - 1) / 32) (31 - k)).next (I.grad ((t.val - 1) / 32) (31 - k)) q j n = _
    rw [show (t.val - 1) / 32 = t.val / 32 by omega, show 31 - k = 31 - (k + 1) + 1 by omega]
    exact I.blk_next _ _ q j n (by omega) hq hj

/-- What a point that is not a group's first finds in the scratch. -/
theorem scratch_before (t : Fin cfg0.N) (h : ¬t.val % 32 = 0) :
    (outsAt0 m c (t.val - 1) (Nat.lt_of_le_of_lt (Nat.sub_le _ _) t.isLt)).2.2.2.2.2.2.2.2
      = (up3 (I.grad (t.val / 32) (31 - t.val % 32)) : FVec Ideal S4x128x128 .f32) := by
  have hl := tN t
  refine (scratch m c I hI (t.val % 32 - 1) ⟨t.val - 1, by have := t.isLt; omega⟩ (by show (t.val - 1) % 32 = _; omega)).trans ?_
  refine up3_congr fun q hq j hj n _ => ?_
  show (I.blk ((t.val - 1) / 32) (31 - (t.val % 32 - 1))).next (I.grad ((t.val - 1) / 32) (31 - (t.val % 32 - 1))) q j n = _
  rw [show (t.val - 1) / 32 = t.val / 32 by omega, show 31 - (t.val % 32 - 1) = 31 - t.val % 32 + 1 by omega]
  exact I.blk_next _ _ q j n (by omega) hq hj

/-- The block of the values' gradient that a point stores. -/
theorem dxs_block (t : Fin cfg0.N) :
    (outsAt0 m c t.val t.isLt).2.1
      = (up (fun i J => I.dxs (128 * (31 - t.val % 32) + i) (512 * (t.val / 32) + J)) : FVec Ideal S128x512 .bf16) := by
  have hl := tN t
  have hk := holds m c I hI t
  by_cases h : t.val % 32 = 0
  · refine (dxs_point_A m c t h _ hk).trans (up_congr fun i hi J hJ => ?_)
    rw [← I.blk_dxs _ _ i J (by omega) hi hJ, h,
      show I.grad (t.val / 32) (31 - 0) = fun _ _ _ => 0 from funext fun q => funext fun j => funext fun n => st_last _ _]
  · refine (dxs_point_B m c t h _ hk _ (scratch_before m c I hI t h)).trans (up_congr fun i hi J hJ => ?_)
    exact I.blk_dxs _ _ i J (by omega) hi hJ

/-- The running sum of the gradient of the norm's weight. -/
theorem dnw_part (k : ℕ) : ∀ t : Fin cfg0.N, t.val % 32 = k →
    (outsAt0 m c t.val t.isLt).2.2.2.2.2.2.1 = row8 fun J => ∑ s ∈ Finset.range (k + 1), (I.blk (t.val / 32) (31 - s)).dnw J := by
  induction k with
  | zero =>
    intro t ht
    have hk := holds m c I hI t
    rw [ht] at hk
    refine (dnw_point_A m c t ht _ hk).trans (row8_congr fun J _ => ?_)
    rw [Finset.sum_range_one]
  | succ k ih =>
    intro t ht
    have hl := tN t
    have hk := holds m c I hI t
    rw [ht] at hk
    refine (dnw_point_B m c t (by omega) _ hk _ (ih ⟨t.val - 1, by have := t.isLt; omega⟩ (by show (t.val - 1) % 32 = k; omega))).trans (row8_congr fun J _ => ?_)
    show (∑ s ∈ Finset.range (k + 1), (I.blk ((t.val - 1) / 32) (31 - s)).dnw J) + _ = _
    rw [show (t.val - 1) / 32 = t.val / 32 by omega, ← Finset.sum_range_succ]

/-- The running sum of the gradient of the skip connection's weight. -/
theorem ddexp_part (k : ℕ) : ∀ t : Fin cfg0.N, t.val % 32 = k →
    (outsAt0 m c t.val t.isLt).2.2.2.2.2.2.2.1 = row8 fun J => ∑ s ∈ Finset.range (k + 1), (I.blk (t.val / 32) (31 - s)).ddexp J := by
  induction k with
  | zero =>
    intro t ht
    have hk := holds m c I hI t
    rw [ht] at hk
    refine (ddexp_point_A m c t ht _ hk).trans (row8_congr fun J _ => ?_)
    rw [Finset.sum_range_one]
  | succ k ih =>
    intro t ht
    have hl := tN t
    have hk := holds m c I hI t
    rw [ht] at hk
    refine (ddexp_point_B m c t (by omega) _ hk _ (ih ⟨t.val - 1, by have := t.isLt; omega⟩ (by show (t.val - 1) % 32 = k; omega))).trans (row8_congr fun J _ => ?_)
    show (∑ s ∈ Finset.range (k + 1), (I.blk ((t.val - 1) / 32) (31 - s)).ddexp J) + _ = _
    rw [show (t.val - 1) / 32 = t.val / 32 by omega, ← Finset.sum_range_succ]

omit hI in
/-- Eight rows to a group, of which the first is the group's part of `f` and the others are zero. -/
def rows (f : ℕ → ℝ) : FVec Ideal S8x8x512 .f32 := fun i => ((if (i 1).val = 0 then f (512 * (i 0).val + (i 2).val) else 0 : ℝ) : EReal)

/-- The array of the values' gradient. -/
theorem final_dxs : (dats m 0 c).arrAt 13 cfg0.N = (up I.dxs : FVec Ideal S4096x4096 .bf16) := by
  refine (dats m 0 c).arrAt_eq_of_covers 13 _ (by decide +kernel) fun t hf y => ?_
  have hl := tN t
  blk_simp
  rw [after0_13, dxs_block m c I hI t]
  blk_point [up, idx_val t]
  exact congrArg (fun r : ℝ => (r : EReal)) (congrArg₂ I.dxs (by omega) (by omega))

/-- The array of the norm's weight's gradient. -/
theorem final_dnw : (dats m 0 c).arrAt 18 cfg0.N = rows I.dnw := by
  refine (dats m 0 c).arrAt_eq_of_covers 18 _ (by decide +kernel) fun t hf y => ?_
  have hl := tN t
  blk_simp
  rw [after0_18, dnw_part m c I hI 31 t ((flush0_18 t).mp hf), row8_congr fun J hJ => I.sum_dnw (t.val / 32) J hJ]
  blk_point [row8, up3, rows, idx_val t]

/-- The array of the skip connection's weight's gradient. -/
theorem final_ddexp : (dats m 0 c).arrAt 19 cfg0.N = rows I.ddexp := by
  refine (dats m 0 c).arrAt_eq_of_covers 19 _ (by decide +kernel) fun t hf y => ?_
  have hl := tN t
  blk_simp
  rw [after0_19, ddexp_part m c I hI 31 t ((flush0_19 t).mp hf), row8_congr fun J hJ => I.sum_ddexp (t.val / 32) J hJ]
  blk_point [row8, up3, rows, idx_val t]

end Cert.SsdCoreBwdIdeal.Value
-- ==== Proof.SsdEq.lean ====
module
public import proofs.«01_k».proof.Defs
public import proofs.«01_k».proof.Proof.SsdArrays
public import proofs.«01_k».proof.Proof.SsdBack
public import proofs.«01_k».proof.Proof.Gen.Pre_finite

/-!
The link between the two programs of the recurrence's gradient. The precondition says that every argument is a real
number, so that the memory at the start holds real arrays; on those the three results of the kernel are the three results
of the reference.
-/

@[expose] public section

set_option maxRecDepth 16384

noncomputable section

open Idealize.ShloMosaic Idealize.ShloMosaic.TcCoe Idealize.SL.Sem

namespace Cert.Ssd

open Cert.SsdCoreBwdIdeal.Lift

/-- A value whose absolute value lies below infinity is a real number. -/
theorem real_of_abs {φ : FTy} (x : Ideal φ)
    (h : FloatOps.cmpf .olt (FloatOps.hostAbsf (F := Ideal) (φ := .f32) x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine (EReal.coe_toReal hlt.1.ne fun hb => ?_).symm
  rw [hb] at hlt
  simp at hlt

/-- The real numbers that an array of two axes holds, zero outside it. -/
def nums {a b : ℕ} {φ : FTy} (A : FVec Ideal ⟨2, ![a, b]⟩ φ) (i j : ℕ) : ℝ :=
  if h : i < a ∧ j < b then EReal.toReal (A (ix2 ⟨i, h.1⟩ ⟨j, h.2⟩)) else 0

theorem eq_up {a b : ℕ} {φ : FTy} (A : FVec Ideal ⟨2, ![a, b]⟩ φ)
    (h : ∀ i, FloatOps.cmpf .olt (FloatOps.hostAbsf (F := Ideal) (φ := .f32) (A i)) (FloatOps.ofBits (F := Ideal) .f32 0x7F800000#32) = 1#1) :
    A = up (nums A) := by
  funext i
  refine (real_of_abs (A i) (h i)).trans ?_
  obtain ⟨x, y, rfl⟩ : ∃ x y, i = ix2 x y := ⟨i 0, i 1, by funext k; fin_cases k <;> rfl⟩
  show _ = ((nums A x y : ℝ) : EReal)
  rw [nums, dif_pos ⟨x.isLt, y.isLt⟩]

end Cert.Ssd

namespace Cert.SsdCoreBwdIdeal.Value

open Cert.SsdCoreBwdIdeal Cert.SsdCoreBwdIdeal.Gen Cert.Ssd Cert.SsdCoreBwdIdeal.Lift

variable (m : (ℓ : Loc nD τ sig) → Buf (Elt Ideal) ℓ) (c : Dev nD)

/-- The real numbers that the seven arguments hold. -/
def ins : Ins where
  A0 := nums (a := 4096) (b := 6144) (φ := .bf16) (m ((c : Thread nD τ).loc main_arg0))
  A1 := nums (a := 4096) (b := 10368) (φ := .bf16) (m ((c : Thread nD τ).loc main_arg1))
  A2 := nums (a := 4096) (b := 4096) (φ := .bf16) (m ((c : Thread nD τ).loc main_arg2))
  A3 := nums (a := 1) (b := 128) (φ := .f32) (m ((c : Thread nD τ).loc main_arg3))
  A4 := nums (a := 1) (b := 128) (φ := .f32) (m ((c : Thread nD τ).loc main_arg4))
  A5 := nums (a := 1) (b := 4096) (φ := .f32) (m ((c : Thread nD τ).loc main_arg5))
  A6 := nums (a := 1) (b := 4096) (φ := .f32) (m ((c : Thread nD τ).loc main_arg6))

theorem args_of_pre (h : Cert.Pre_SsdCoreBwdIdeal_finite m) : Args m c (ins m c) := by
  obtain ⟨h0, h1, h2, h3, h4, h5, h6⟩ := h c
  exact ⟨eq_up (a := 4096) (b := 6144) (φ := .bf16) (m ((c : Thread nD τ).loc main_arg0)) fun i => congrFun h0 i,
    eq_up (a := 4096) (b := 10368) (φ := .bf16) (m ((c : Thread nD τ).loc main_arg1)) fun i => congrFun h1 i,
    eq_up (a := 4096) (b := 4096) (φ := .bf16) (m ((c : Thread nD τ).loc main_arg2)) fun i => congrFun h2 i,
    eq_up (a := 1) (b := 128) (φ := .f32) (m ((c : Thread nD τ).loc main_arg3)) fun i => congrFun h3 i,
    eq_up (a := 1) (b := 128) (φ := .f32) (m ((c : Thread nD τ).loc main_arg4)) fun i => congrFun h4 i,
    eq_up (a := 1) (b := 4096) (φ := .f32) (m ((c : Thread nD τ).loc main_arg5)) fun i => congrFun h5 i,
    eq_up (a := 1) (b := 4096) (φ := .f32) (m ((c : Thread nD τ).loc main_arg6)) fun i => congrFun h6 i⟩

end Cert.SsdCoreBwdIdeal.Value

namespace Cert.SsdCoreBwdRefIdeal.Reals

open Cert.SsdCoreBwdRefIdeal Cert.SsdCoreBwdRefIdeal.Read Cert.Ssd Cert.SsdCoreBwdIdeal.Lift

variable (I : Ins) {a0 : FVec Ideal S4096x6144 .bf16} {a1 : FVec Ideal S4096x10368 .bf16} {a2 : FVec Ideal S4096x4096 .bf16}
  {a3 a4 : FVec Ideal S1x128 .f32} {a5 a6 : FVec Ideal S1x4096 .f32}

theorem dxs_eq (h0 : a0 = x0 I) (h1 : a1 = x1 I) (h2 : a2 = x2 I) (h3 : a3 = x3 I) (h4 : a4 = x4 I) (h5 : a5 = x5 I) (h6 : a6 = x6 I) :
    val_main_v116 (F := Ideal) a0 a1 a2 a3 a4 a5 a6 = (up I.dxs : FVec Ideal S4096x4096 .bf16) := by
  subst h0 h1 h2 h3 h4 h5 h6
  funext i
  exact v116 I i

theorem dnw_eq (h0 : a0 = x0 I) (h1 : a1 = x1 I) (h2 : a2 = x2 I) (h3 : a3 = x3 I) (h4 : a4 = x4 I) (h5 : a5 = x5 I) :
    val_main_v120 (F := Ideal) a0 a1 a2 a3 a4 a5 = Cert.SsdCoreBwdIdeal.Value.rows I.dnw := by
  subst h0 h1 h2 h3 h4 h5
  funext i
  exact v120 I i

theorem ddexp_eq (h0 : a0 = x0 I) (h1 : a1 = x1 I) (h2 : a2 = x2 I) (h3 : a3 = x3 I) (h4 : a4 = x4 I) (h5 : a5 = x5 I) (h6 : a6 = x6 I) :
    val_main_v124 (F := Ideal) a0 a1 a2 a3 a4 a5 a6 = Cert.SsdCoreBwdIdeal.Value.rows I.ddexp := by
  subst h0 h1 h2 h3 h4 h5 h6
  funext i
  exact v124 I i

end Cert.SsdCoreBwdRefIdeal.Reals

end
-- ==== Proof.SsdValue.lean ====
module
public import proofs.«01_k».proof.Proof.SsdEq
public import proofs.«01_k».proof.Proof.Gen.SsdCoreBwdIdeal.Frame
public import proofs.«01_k».proof.Proof.Gen.SsdCoreBwdRefIdeal.Run
public import proofs.«01_k».proof.Proof.Gen.SsdCoreBwdRefIdeal.Read
public import Idealize.ShloMosaic.Lib.Claim

/-!
The value claim of the recurrence's gradient: on real arguments the gradients of the values, of the norm's weight and of
the skip connection's weight are the reference's.
-/

@[expose] public section

set_option maxRecDepth 16384

noncomputable section

namespace Cert.Proof

open Idealize.ShloMosaic Idealize.SL.Sem

theorem SsdCoreBwd_value : Cert.algebraic_SsdCoreBwdIdeal_SsdCoreBwdRefIdeal_pre_finite := by
  intro m g m' g' hpre hagree
  refine ⟨fun c => (Cert.SsdCoreBwdIdeal.Gen.dats m 0 c).arrAt 13 Cert.SsdCoreBwdIdeal.cfg0.N,
    fun c => (Cert.SsdCoreBwdIdeal.Gen.dats m 0 c).arrAt 18 Cert.SsdCoreBwdIdeal.cfg0.N,
    fun c => (Cert.SsdCoreBwdIdeal.Gen.dats m 0 c).arrAt 19 Cert.SsdCoreBwdIdeal.cfg0.N, ?_, ?_⟩
  · refine (θ_run Cert.SsdCoreBwdIdeal.defs _ _).mono (fun r h c => ?_) (Cert.SsdCoreBwdIdeal.Gen.run_main m g)
    exact ⟨Cert.SsdCoreBwdIdeal.Value.post13 m r h c, Cert.SsdCoreBwdIdeal.Value.post18 m r h c,
      Cert.SsdCoreBwdIdeal.Value.post19 m r h c, Cert.SsdCoreBwdIdeal.Value.kept_main_arg0 m r h c,
      Cert.SsdCoreBwdIdeal.Value.kept_main_arg1 m r h c, Cert.SsdCoreBwdIdeal.Value.kept_main_arg2 m r h c,
      Cert.SsdCoreBwdIdeal.Value.kept_main_arg3 m r h c, Cert.SsdCoreBwdIdeal.Value.kept_main_arg4 m r h c,
      Cert.SsdCoreBwdIdeal.Value.kept_main_arg5 m r h c, Cert.SsdCoreBwdIdeal.Value.kept_main_arg6 m r h c⟩
  · refine (θ_run Cert.SsdCoreBwdRefIdeal.defs _ _).mono (fun r h c => ?_) (Cert.SsdCoreBwdRefIdeal.Value.run m' g')
    obtain ⟨a0, a1, a2, a3, a4, a5, a6⟩ := hagree c
    have hI := Cert.SsdCoreBwdIdeal.Value.args_of_pre m c hpre
    refine ⟨((h c).1.trans (Cert.SsdCoreBwdRefIdeal.Read.val_main_v116_eq _)).trans ?_,
      ((h c).2.1.trans (Cert.SsdCoreBwdRefIdeal.Read.val_main_v120_eq _)).trans ?_,
      ((h c).2.2.1.trans (Cert.SsdCoreBwdRefIdeal.Read.val_main_v124_eq _)).trans ?_, (h c).2.2.2⟩
    · exact (Cert.SsdCoreBwdRefIdeal.Reals.dxs_eq _ (a0.trans hI.a0) (a1.trans hI.a1) (a2.trans hI.a2) (a3.trans hI.a3)
        (a4.trans hI.a4) (a5.trans hI.a5) (a6.trans hI.a6)).trans (Cert.SsdCoreBwdIdeal.Value.final_dxs m c _ hI).symm
    · exact (Cert.SsdCoreBwdRefIdeal.Reals.dnw_eq _ (a0.trans hI.a0) (a1.trans hI.a1) (a2.trans hI.a2) (a3.trans hI.a3)
        (a4.trans hI.a4) (a5.trans hI.a5)).trans (Cert.SsdCoreBwdIdeal.Value.final_dnw m c _ hI).symm
    · exact (Cert.SsdCoreBwdRefIdeal.Reals.ddexp_eq _ (a0.trans hI.a0) (a1.trans hI.a1) (a2.trans hI.a2) (a3.trans hI.a3)
        (a4.trans hI.a4) (a5.trans hI.a5) (a6.trans hI.a6)).trans (Cert.SsdCoreBwdIdeal.Value.final_ddexp m c _ hI).symm

/-- The mask's constant stands for minus infinity. -/
theorem SsdCoreBwd_preserves : Cert.preserves_SsdCoreBwd_SsdCoreBwdIdeal :=
  IdealRules.named_const.statement Cert.SsdCoreBwdIdeal.κ "mask" .f32 0xF149F2CA#32 ⊥ rfl

theorem SsdCoreBwd_ref : Cert.quiescent_SsdCoreBwdRefIdeal := fun m ρ _ =>
  (θ_run Cert.SsdCoreBwdRefIdeal.defs _ _).mono (fun r h => ⟨fun c => (h c).2.2.2, sem_eq_zero_of_no_sems rfl _⟩)
    (Cert.SsdCoreBwdRefIdeal.Value.run m ρ)

end Cert.Proof

end
-- ==== Proof.PutValue.lean ====
module
public import proofs.«01_k».proof.Defs
public import proofs.«01_k».proof.Proof.Gen.SsdPutDdtIdeal.Frame
public import proofs.«01_k».proof.Proof.Gen.SsdPutDdtIdeal.Value
public import proofs.«01_k».proof.Proof.Gen.SsdPutDdtRefIdeal.Run
public import proofs.«01_k».proof.Proof.Gen.SsdPutDdtRefIdeal.Read
public import Idealize.ShloMosaic.Lib.Pipeline.ValueKit
public import Idealize.ShloMosaic.Lib.Pointwise
public import Idealize.ShloMosaic.Lib.Claim

/-!
The call that adds up the groups' gradients of the step sizes and puts the sum into the last columns of the projection's gradient: the
array it leaves is the reference's, on every argument.
-/

@[expose] public section

set_option maxRecDepth 16384

noncomputable section

open Idealize.ShloMosaic Idealize.ShloMosaic.TcCoe Idealize.SL.Sem Idealize.ShloMosaic.StableHlo
open scoped BigOperators

namespace Cert.SsdPutDdtIdeal.Value

open Cert.SsdPutDdtIdeal Cert.SsdPutDdtIdeal.Gen

/-- The given array with the sum over the groups in its last 128 columns. -/
def joined (x0 : FVec Ideal S8x4096x128 .f32) (x1 : FVec Ideal S4096x10368 .bf16) : FVec Ideal S4096x10368 .bf16 := fun j =>
  if h : 10240 ≤ (j 1).val then
    ∑ k : Fin 8, x0 (ix3 k ⟨(j 0).val, (j 0).isLt⟩ ⟨(j 1).val - 10240, by have : (j 1).val < 10368 := (j 1).isLt; omega⟩)
  else x1 j

variable (m : (ℓ : Loc nD τ sig) → Buf (Elt Ideal) ℓ)

theorem idx_val : ∀ t : Fin cfg0.N, win0_0.index t = ![0, t.val, 0] ∧ win0_1.index t = ![t.val, 80] := (by decide +kernel : ∀ t : Fin grid0.N, _)

theorem tN (t : Fin cfg0.N) : t.val < 8 := lt_of_lt_of_eq t.isLt N_0

theorem sum_apply (x : Vec Ideal S8x512x128 .f32) (r : Fin 512) (l : Fin 128) : k0_pay1 (F := Ideal) x (ix2 r l) = ∑ k : Fin 8, x (ix3 k r l) := by
  pointwise [k0_pay1]

/-- The gradients of the step sizes the groups have left. -/
def groups (c : Dev nD) : FVec Ideal S8x4096x128 .f32 := m ((c : Thread nD τ).loc main_arg0)

/-- The sum over the groups on one block of tokens. -/
theorem tile_at (c : Dev nD) (t : Fin cfg0.N) (r : Fin 512) (l : Fin 128) : outsAt0 m c t (ix2 r l)
    = ∑ k : Fin 8, groups m c (ix3 k ⟨t.val * 512 + r.val, by have := tN t; omega⟩ l) := by
  have ht := tN t
  unfold outsAt0
  frame_out
  refine (sum_apply _ r l).trans (Finset.sum_congr rfl fun k _ => ?_)
  have hV : V m c (Pipeline.arrRef spec0 0) = m ((c : Thread nD τ).loc main_arg0) := V_main_arg0 m c
  blk_point [iblk, hV, idx_val t, groups]

/-- The array the result starts from is the second argument. -/
theorem V_start (c : Dev nD) : V m c main_v0 = m ((c : Thread nD τ).loc main_arg1) := by
  unfold V
  simp only [hostOps0, TRef.unary, TRef.toBuf, TRef.ofBuf, cast_eq]
  after_results_simp
  rfl

theorem final (c : Dev nD) : (dats m 0 c).arrAt 1 (cfgs 0).N
    = joined (m ((c : Thread nD τ).loc main_arg0)) (m ((c : Thread nD τ).loc main_arg1)) := by
  refine (dats m 0 c).arrAt_eq_of_coversWhere_of_agree 1 _ (fun β => 80 ≤ β (1 : Fin 2)) (by decide +kernel) (fun t hf y => ?_) (fun j hj => ?_)
  · have ht := tN t
    blk_simp
    rw [after0_1]
    have b1 : (y 1).val < 128 := (y 1).isLt
    have e0 : ((win0_1.blk t).view.emb y 0).val = t.val * 512 + (y 0).val := by blk_simp [idx_val t]
    have e1 : ((win0_1.blk t).view.emb y 1).val = 80 * 128 + (y 1).val := by blk_simp [idx_val t]
    refine (congrArg (outsAt0 m c t) (eq_ix2 (n0 := 512) (n1 := 128) _)).trans ((tile_at m c t _ _).trans ?_)
    refine Eq.trans ?_ (dif_pos (show 10240 ≤ ((win0_1.blk t).view.emb y 1).val by omega)).symm
    refine Finset.sum_congr rfl fun k _ => congrArg₂ (fun a b => groups m c (ix3 k a b)) (Fin.ext ?_) (Fin.ext ?_)
    · exact e0.symm
    · show (y 1).val = ((win0_1.blk t).view.emb y 1).val - 10240
      omega
  · blk_simp [Pipeline.Window.cell_apply] at hj
    have hA : (dats m 0 c).A 1 = m ((c : Thread nD τ).loc main_arg1) := (A_eq m c 1).trans (V_start m c)
    rw [hA]
    have out (i : S4096x10368.Idx) (hi : ¬10240 ≤ (i 1).val) : m ((c : Thread nD τ).loc main_arg1) i
        = joined (m ((c : Thread nD τ).loc main_arg0)) (m ((c : Thread nD τ).loc main_arg1)) i := by
      unfold joined
      rw [dif_neg hi]
    exact out j (by omega)

end Cert.SsdPutDdtIdeal.Value

namespace Cert.SsdPutDdtRefIdeal.Value

open Cert.SsdPutDdtRefIdeal Cert.SsdPutDdtRefIdeal.Gen Cert.SsdPutDdtRefIdeal.Read

theorem joined_eq (x0 : FVec Ideal S8x4096x128 .f32) (x1 : FVec Ideal S4096x10368 .bf16) :
    val_main_v3 (F := Ideal) x0 x1 = Cert.SsdPutDdtIdeal.Value.joined x0 x1 := by
  funext j
  obtain ⟨n, l, rfl⟩ : ∃ a b, j = ix2 a b := ⟨j 0, j 1, eq_ix2 j⟩
  show _ = (if h : 10240 ≤ l.val then ∑ k : Fin 8, x0 (ix3 k n ⟨l.val - 10240, by omega⟩) else x1 (ix2 n l))
  pointwise [val_main_v3, val_main_v0, val_main_v2, val_main_v1, val_main_cst]
  by_cases h : l.val < 10240
  · rw [dif_pos h, dif_neg (by omega)]
  · rw [dif_neg h, dif_pos (by omega)]

end Cert.SsdPutDdtRefIdeal.Value

namespace Cert.Proof

/-- The sum over the groups, put into its columns, is the reference's, over the extended reals. -/
theorem SsdPutDdt_value : Cert.algebraic_SsdPutDdtIdeal_SsdPutDdtRefIdeal := by
  pair_intro
  · run_from Cert.SsdPutDdtIdeal.Gen.run_main m g
  · run_from Cert.SsdPutDdtRefIdeal.Value.run m' g'
    obtain ⟨a0, a1⟩ := hagree c
    refine (Cert.SsdPutDdtRefIdeal.Read.val_main_v3_eq _ _).trans ((Cert.SsdPutDdtRefIdeal.Value.joined_eq _ _).trans (Cert.SsdPutDdtIdeal.Value.final m c).symm)

theorem SsdPutDdt_ref : Cert.quiescent_SsdPutDdtRefIdeal := fun m ρ _ =>
  (θ_run Cert.SsdPutDdtRefIdeal.defs _ _).mono (fun r h => ⟨fun c => (h c).2, sem_eq_zero_of_no_sems rfl _⟩)
    (Cert.SsdPutDdtRefIdeal.Value.run m ρ)

end Cert.Proof

end
-- ==== Proof.FfnSpec.lean ====
module
public import Idealize.ShloMosaic.PureOps.Ideal.Laws
public import Idealize.ShloMosaic.Lib.Pointwise
public import Idealize.ShloMosaic.Lib.Pipeline.ReadBack

/-!
The convolution and gate of the feed-forward layer and their gradient, written for one channel as functions of the token.

The forward lines are `g n = u (n-2) * w 0 + u (n-1) * w 1 + u n * w 2 + b` (tokens before the first are zero), the same for `v` with the
second half of the channels, and `a = silu g * v`. The cotangents of `g` and `v` are `dpre 0` and `dpre 1`; the gradients of the input,
of the taps and of the bias of one channel are `du`, `dw` and `db` of them.
-/

@[expose] public section

noncomputable section

open scoped BigOperators
open Idealize.ShloMosaic

namespace Cert.Gate

/-- A column of 4096 values, continued by zeros. -/
def tok (f : Fin 4096 → EReal) (n : ℕ) : EReal := if h : n < 4096 then f ⟨n, h⟩ else 0

theorem tok_in (f : Fin 4096 → EReal) (n : Fin 4096) : tok f n.val = f n := by
  unfold tok; rw [dif_pos n.isLt]

/-- The logistic function. -/
def logi (x : EReal) : EReal := Ideal.logistic x

/-- The logistic function as the kernel computes it, through the hyperbolic tangent. -/
theorem logi_tanh (x : EReal) : ((1 / 2 : ℝ) : EReal) * Ideal.tanh (((1 / 2 : ℝ) : EReal) * x) + ((1 / 2 : ℝ) : EReal) = logi x := by
  have half : (0 : ℝ) < 1 / 2 := by norm_num
  unfold logi
  induction x with
  | bot =>
    rw [EReal.coe_mul_bot_of_pos half, show Ideal.tanh ⊥ = ((-1 : ℝ) : EReal) from rfl, Ideal.logistic_bot, ← EReal.coe_mul, ← EReal.coe_add]
    norm_num
  | top =>
    rw [EReal.coe_mul_top_of_pos half, Ideal.tanh_top, Ideal.logistic_top, mul_one, ← EReal.coe_add]
    norm_num
  | coe r =>
    rw [← EReal.coe_mul, Ideal.tanh_coe, Ideal.logistic_coe, ← EReal.coe_mul, ← EReal.coe_add]
    refine congrArg _ ?_
    have e1 : r = 1 / 2 * r + 1 / 2 * r := by ring
    have e2 : Real.exp (-r) = Real.exp (-(1 / 2 * r)) * Real.exp (-(1 / 2 * r)) := by
      rw [← Real.exp_add]; congr 1; linarith
    rw [Real.tanh_eq_sinh_div_cosh, Real.sinh_eq, Real.cosh_eq, e2, Real.exp_neg]
    have hp := Real.exp_pos (1 / 2 * r)
    generalize Real.exp (1 / 2 * r) = p at *
    field_simp
    ring

/-- The cotangent of `g`, from `g`, `v` and the cotangent `d` of the result. -/
def dgate (g v d : EReal) : EReal := d * v * (logi g * (1 + g * (1 - logi g)))

/-- The cotangent of `v`. -/
def dval (g d : EReal) : EReal := d * (g * logi g)

/-- The cotangents of the convolution's two results: plane 0 is that of `g`, plane 1 that of `v`. -/
def dpre (g v d : Fin 4096 → EReal) (p : Fin 2) (n : Fin 4096) : EReal :=
  if p.val = 0 then dgate (g n) (v n) (d n) else dval (g n) (d n)

theorem dgate_zero (g v : EReal) : dgate g v 0 = 0 := by simp [dgate]

theorem dval_zero (g : EReal) : dval g 0 = 0 := by simp [dval]

/-- The gradient of the convolution's input: the convolution run backwards in time. -/
def du (e : Fin 4096 → EReal) (w : Fin 3 → EReal) (n : Fin 4096) : EReal :=
  tok e (n.val + 2) * w 0 + tok e (n.val + 1) * w 1 + tok e n.val * w 2

/-- The gradient of tap `k`: the input at token `n` against the cotangent `2 - k` tokens later. -/
def dw (e u : Fin 4096 → EReal) (k : Fin 3) : EReal := ∑ n : Fin 4096, tok e (n.val + (2 - k.val)) * u n

/-- The gradient of the bias. -/
def db (e : Fin 4096 → EReal) : EReal := ∑ n : Fin 4096, e n

/-! ## Lemmas for the proofs of the convolutions -/

/-- The word of one half. -/
theorem half_word : FloatOps.ofBits (F := Ideal) .f32 0x3F000000#32 = ((1 / 2 : ℝ) : EReal) := by
  show Ideal.ofBits .f32 0x3F000000#32 = ((1 / 2 : ℝ) : EReal)
  simp [Ideal.ofBits, Ideal.ieee]
  rw [← EReal.coe_mul]; norm_num

/-- The word of one. -/
theorem one_word : FloatOps.ofBits (F := Ideal) .f32 0x3F800000#32 = (1 : EReal) := by
  show Ideal.ofBits .f32 0x3F800000#32 = ((1 : ℝ) : EReal)
  simp [Ideal.ofBits, Ideal.ieee, -EReal.coe_one]
  rw [← EReal.coe_mul]; norm_num

/-- A choice by the equality of two small words. -/
theorem sel_eq (k n : ℕ) (hk : k < 8) (hn : n < 8) (a b : EReal) :
    Scalar.select (Scalar.cmpi CmpIPredicate.eq (BitVec.ofNat 32 k) (BitVec.ofNat 32 n)) a b = if k = n then a else b := by
  have : (BitVec.ofNat 32 k == BitVec.ofNat 32 n) = decide (k = n) := by
    interval_cases k <;> interval_cases n <;> decide
  by_cases h : k = n <;> simp [Scalar.select, Scalar.cmpi, IntOp.cmpi, this, h]

/-- Stores before the ones that cover an index do not matter there. -/
theorem canon_covered {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_covered L' y L ⟨q, hq', hyq⟩

/-- A sum over tokens, shifted: a term that moves past the last token is zero. -/
theorem shift_sum (e u : Fin 4096 → EReal) (s : ℕ) :
    ∑ n : Fin 4096, (if s ≤ n.val then tok u (n.val - s) else 0) * e n = ∑ n : Fin 4096, tok e (n.val + s) * u n := by
  let f : ℕ → EReal := fun x => tok e x * tok u (x - s)
  have hR : ∑ n : Fin 4096, tok e (n.val + s) * u n = ∑ x ∈ Finset.range 4096, f (x + s) := by
    rw [← Fin.sum_univ_eq_sum_range (fun x => f (x + s)) 4096]
    refine Finset.sum_congr rfl fun n _ => ?_
    simp only [f, Nat.add_sub_cancel, tok_in]
  have hL : ∑ n : Fin 4096, (if s ≤ n.val then tok u (n.val - s) else 0) * e n = ∑ x ∈ Finset.range 4096, (if s ≤ x then f x else 0) := by
    rw [← Fin.sum_univ_eq_sum_range (fun x => if s ≤ x then f x else 0) 4096]
    refine Finset.sum_congr rfl fun n _ => ?_
    split
    · simp only [f, tok_in]; exact mul_comm _ _
    · exact zero_mul _
  rw [hL, hR, Finset.range_eq_Ico, Finset.sum_Ico_add' f 0 4096 s, zero_add, ← Finset.sum_filter]
  refine Finset.sum_subset (fun x hx => ?_) fun x hx hn => ?_
  · simp only [Finset.mem_filter, Finset.mem_Ico] at hx ⊢; omega
  · simp only [Finset.mem_filter, Finset.mem_Ico] at hx hn
    show tok e x * _ = 0
    rw [tok, dif_neg (by omega), zero_mul]

/-- Being a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.zero : IsReal 0 := ⟨0, rfl⟩

/-- The two ways of writing the gate's derivative agree on real numbers. -/
theorem dgate_parts {g v d : EReal} (hg : IsReal g) (hv : IsReal v) (hd : IsReal d) :
    d * v * logi g + g * (d * v) * (logi g * (1 - logi g)) = dgate g v d := by
  obtain ⟨g, rfl⟩ := hg
  obtain ⟨v, rfl⟩ := hv
  obtain ⟨d, rfl⟩ := hd
  obtain ⟨s, hs⟩ : IsReal (logi (g : EReal)) := ⟨_, Idealize.ShloMosaic.Ideal.logistic_coe g⟩
  rw [dgate, hs]
  norm_cast
  ring

/-- A value whose absolute value lies below infinity is a real number. -/
theorem isReal_of_abs {φ : FTy} (x : Ideal φ)
    (h : FloatOps.cmpf .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine ⟨EReal.toReal x, (EReal.coe_toReal hlt.1.ne fun hb => ?_).symm⟩
  rw [hb] at hlt
  simp at hlt

end Cert.Gate

end
-- ==== Proof.ConvFwdSpec.lean ====
module
public import Idealize.ShloMosaic.PureOps.Ideal.Laws
public import Idealize.ShloMosaic.Lib.Pointwise
public import proofs.«01_k».proof.Proof.FfnSpec

/-!
The forward pass of the state-space layer's depthwise convolution, one channel at a time: a causal convolution of width four with a
bias, and the silu of what comes out.
-/

@[expose] public section

noncomputable section

namespace Cert.Depthwise

/-- A column of tokens, sixteen places later: before the first token there are zeros. -/
def late (u : Fin 4096 → EReal) (n : ℕ) : EReal := if h : 16 ≤ n ∧ n - 16 < 4096 then u ⟨n - 16, h.2⟩ else 0

/-- The causal convolution of width four, with its bias. -/
def conv (u : Fin 4096 → EReal) (w : Fin 4 → EReal) (b : EReal) (n : ℕ) : EReal :=
  late u (n + 13) * w 0 + late u (n + 14) * w 1 + late u (n + 15) * w 2 + late u (n + 16) * w 3 + b

/-- The value after the gate. -/
def silu (x : EReal) : EReal := x * Cert.Gate.logi x

end Cert.Depthwise

end
-- ==== Proof.ConvBwdSpec.lean ====
module
public import proofs.«01_k».proof.Proof.ConvFwdSpec

/-!
The gradient of the state-space layer's depthwise convolution and its silu, one channel at a time: the cotangent `e` of the convolution's
results, and from it the gradients of the input, of the four taps and of the bias.
-/

@[expose] public section

noncomputable section

open scoped BigOperators
open Cert.Gate

namespace Cert.Depthwise

/-- The cotangent of the silu's argument `p`, from the cotangent `d` of its result. -/
def dsilu (p d : EReal) : EReal := d * (logi p * (1 + p * (1 - logi p)))

theorem dsilu_zero (p : EReal) : dsilu p 0 = 0 := zero_mul _

/-- The derivative of the silu written as the product rule gives it, for a real cotangent and any argument. -/
theorem dsilu_parts {p d : EReal} (hd : IsReal d) : d * logi p + p * d * (logi p * (1 - logi p)) = dsilu p d := by
  obtain ⟨d, rfl⟩ := hd
  have one : (1 : EReal) - 1 = 0 := by rw [← EReal.coe_one, ← EReal.coe_sub, sub_self, EReal.coe_zero]
  unfold dsilu
  induction p with
  | bot =>
    rw [show logi ⊥ = 0 from Idealize.ShloMosaic.Ideal.logistic_bot]
    simp only [mul_zero, zero_mul, add_zero]
  | top =>
    rw [show logi ⊤ = 1 from Idealize.ShloMosaic.Ideal.logistic_top, one]
    simp only [mul_zero, mul_one, add_zero]
  | coe p =>
    obtain ⟨s, hs⟩ : IsReal (logi (p : EReal)) := ⟨_, Idealize.ShloMosaic.Ideal.logistic_coe p⟩
    rw [hs]
    norm_cast
    ring

/-- The cotangent of the convolution's results. -/
def dconv (p d : Fin 4096 → EReal) (n : Fin 4096) : EReal := dsilu (p n) (d n)

/-- The gradient of the convolution's input: the convolution run backwards in time. -/
def dinput (e : Fin 4096 → EReal) (w : Fin 4 → EReal) (n : Fin 4096) : EReal :=
  tok e (n.val + 3) * w 0 + tok e (n.val + 2) * w 1 + tok e (n.val + 1) * w 2 + tok e n.val * w 3

/-- The gradient of tap `k`: the input at token `n` against the cotangent `3 - k` tokens later. -/
def dtap (e u : Fin 4096 → EReal) (k : Fin 4) : EReal := ∑ n : Fin 4096, tok e (n.val + (3 - k.val)) * u n

/-- A column moved by `s` tokens, in the two ways of writing it. -/
theorem late_tok (u : Fin 4096 → EReal) (s : ℕ) (hs : s ≤ 16) (n : Fin 4099) (hn : n.val - s < 4096) :
    late u (n.val + (16 - s)) = if s ≤ n.val then tok u (n.val - s) else 0 := by
  unfold late tok
  by_cases h : s ≤ n.val
  · rw [dif_pos ⟨by omega, by omega⟩, if_pos h, dif_pos hn]
    exact congrArg u (Fin.ext (by simp only; omega))
  · rw [dif_neg (by omega), if_neg h]

end Cert.Depthwise

end
-- ==== Proof.ConvBwdBlock.lean ====
module
public import proofs.«01_k».proof.Proof.ConvBwdSpec
public import proofs.«01_k».proof.Proof.Gen.SsdConvBwdIdeal.Value
public import Idealize.ShloMosaic.Lib.Pipeline.ReadBack
public import Idealize.ShloMosaic.Lib.Pipeline.ValueKit
public import Idealize.ShloMosaic.Lib.Pointwise

/-!
What one grid point of the backward kernel of the state-space layer's convolution computes, read at an index: the tiles it loads, the
cotangent of the convolution's results on 512 tokens and the 16 that follow, and what it adds to the three gradients.
-/

@[expose] public section

set_option maxRecDepth 16384

noncomputable section

open Idealize.ShloMosaic Idealize.ShloMosaic.TcCoe Idealize.SL.Sem
open Idealize.ShloMosaic.Pipeline (Dat)
open scoped BigOperators

namespace Cert.SsdConvBwdIdeal.Value

open Cert.SsdConvBwdIdeal Cert.SsdConvBwdIdeal.Gen Cert.Gate Cert.Depthwise

variable (m : (ℓ : Loc nD τ sig) → Buf (Elt Ideal) ℓ)

/-- The blocks of every window at grid point `t`: the token tile is `t % 8`, the channel tile `t / 8`. -/
theorem idx_val : ∀ t : Fin cfg0.N, win0_0.index t = ![t.val % 8, 8 + t.val / 8]
    ∧ win0_1.index t = ![t.val % 8, t.val / 8]
    ∧ win0_2.index t = ![min ((t.val % 8 + 1) * 32) 255, t.val / 8]
    ∧ win0_3.index t = ![t.val % 8, t.val / 8]
    ∧ win0_4.index t = ![min ((t.val % 8 + 1) * 32) 255, t.val / 8]
    ∧ win0_5.index t = ![0, t.val / 8]
    ∧ win0_6.index t = ![t.val % 8, 8 + t.val / 8]
    ∧ win0_7.index t = ![0, t.val / 8]
    ∧ win0_8.index t = ![0, t.val / 8]
    ∧ (grid0.coords t 1).val = t.val % 8 :=
  (by decide +kernel : ∀ t : Fin grid0.N, _)

theorem coord1 (t : Fin cfg0.N) : (grid0.coords t 1).val = t.val % 8 := (idx_val t).2.2.2.2.2.2.2.2.2

theorem tN (t : Fin cfg0.N) : t.val < 64 := lt_of_lt_of_eq t.isLt N_0

/-- Lane `l` of grid point `t`, as a channel of the values. -/
def chan (t : Fin cfg0.N) (l : Fin 512) : Fin 4096 := ⟨t.val / 8 * 512 + l.val, by have := tN t; omega⟩

/-- Token `r` of grid point `t`. -/
def row (t : Fin cfg0.N) (r : Fin 512) : Fin 4096 := ⟨t.val % 8 * 512 + r.val, by omega⟩

/-- Token `e` of the block that follows grid point `t` (the last one, where nothing follows). -/
def after (t : Fin cfg0.N) (e : Fin 16) : Fin 4096 := ⟨min ((t.val % 8 + 1) * 32) 255 * 16 + e.val, by omega⟩

/-- The convolved part of the input, one channel. -/
abbrev colU (c : Dev nD) (ch : Fin 4096) : Fin 4096 → EReal := fun n => m ((c : Thread nD τ).loc main_arg0) (ix2 n ⟨4096 + ch.val, by omega⟩)
/-- The array of the convolution's results, which the host lines before the call compute. -/
def pre (c : Dev nD) : FVec Ideal S4096x6144 .bf16 := V m c main_v35
/-- The convolution's results, one channel. -/
abbrev colP (c : Dev nD) (ch : Fin 4096) : Fin 4096 → EReal := fun n => pre m c (ix2 n ⟨ch.val, by omega⟩)
/-- The cotangent of the activations, one channel. -/
abbrev colD (c : Dev nD) (ch : Fin 4096) : Fin 4096 → EReal := fun n => m ((c : Thread nD τ).loc main_arg1) (ix2 n ch)
/-- The four taps of one channel. -/
abbrev taps (c : Dev nD) (ch : Fin 4096) : Fin 4 → EReal := fun k => m ((c : Thread nD τ).loc main_arg2) (ix2 k ⟨ch.val, by omega⟩)
/-- The cotangent of the convolution's results, one channel. -/
abbrev colE (c : Dev nD) (ch : Fin 4096) : Fin 4096 → EReal := dconv (colP m c ch) (colD m c ch)

theorem blkU (c : Dev nD) (t : Fin cfg0.N) (r l : Fin 512) : X0_0 m c t (ix2 r l) = colU m c (chan t l) (row t r) := by
  have ht := tN t
  have hV : V m c (Pipeline.arrRef spec0 0) = m ((c : Thread nD τ).loc main_arg0) := V_main_arg0 m c
  unfold X0_0 Pipeline.Window.fill
  rw [dif_pos (moved0_0 t (ix2 r l))]
  blk_point [iblk, hV, idx_val t, chan, row, colU]

theorem blkP (c : Dev nD) (t : Fin cfg0.N) (r l : Fin 512) : iblk m c 1 t (ix2 r l) = colP m c (chan t l) (row t r) := by
  have ht := tN t
  have hV : V m c (Pipeline.arrRef spec0 1) = pre m c := rfl
  blk_point [iblk, hV, idx_val t, chan, row, colP]

theorem blkPn (c : Dev nD) (t : Fin cfg0.N) (r : Fin 16) (l : Fin 512) : iblk m c 2 t (ix2 r l) = colP m c (chan t l) (after t r) := by
  have ht := tN t
  have hV : V m c (Pipeline.arrRef spec0 2) = pre m c := rfl
  blk_point [iblk, hV, idx_val t, chan, after, colP]

theorem blkD (c : Dev nD) (t : Fin cfg0.N) (r l : Fin 512) : iblk m c 3 t (ix2 r l) = colD m c (chan t l) (row t r) := by
  have ht := tN t
  have hV : V m c (Pipeline.arrRef spec0 3) = m ((c : Thread nD τ).loc main_arg1) := V_main_arg1 m c
  blk_point [iblk, hV, idx_val t, chan, row, colD]

theorem blkDn (c : Dev nD) (t : Fin cfg0.N) (r : Fin 16) (l : Fin 512) : iblk m c 4 t (ix2 r l) = colD m c (chan t l) (after t r) := by
  have ht := tN t
  have hV : V m c (Pipeline.arrRef spec0 4) = m ((c : Thread nD τ).loc main_arg1) := V_main_arg1 m c
  blk_point [iblk, hV, idx_val t, chan, after, colD]

theorem blkW (c : Dev nD) (t : Fin cfg0.N) (k : Fin 4) (l : Fin 512) : iblk m c 5 t (ix2 k l) = taps m c (chan t l) k := by
  have ht := tN t
  have hV : V m c (Pipeline.arrRef spec0 5) = m ((c : Thread nD τ).loc main_arg2) := V_main_arg2 m c
  blk_point [iblk, hV, idx_val t, chan, taps]

/-- Row `e` of a tile of 512 rows with the 16 rows of the next one. -/
def ext (x : Vec Ideal S512x512 .bf16) (y : Vec Ideal S16x512 .bf16) (l : Fin 512) (e : Fin 528) : EReal :=
  if h : e.val < 512 then x (ix2 ⟨e.val, h⟩ l) else y (ix2 ⟨e.val - 512, by omega⟩ l)

/-- The same with zeros for the 16 rows that follow the last tile. -/
def extD (i : grid0.Coords) (x : Vec Ideal S512x512 .bf16) (y : Vec Ideal S16x512 .bf16) (l : Fin 512) (e : Fin 528) : EReal :=
  if h : e.val < 512 then x (ix2 ⟨e.val, h⟩ l) else if (i 1).val = 7 then (0 : EReal) else y (ix2 ⟨e.val - 512, by omega⟩ l)

theorem sel_last (k : ℕ) (hk : k < 8) (a b : EReal) :
    Scalar.select (Scalar.cmpi CmpIPredicate.eq (BitVec.ofNat 32 k) 7#32) a b = if k = 7 then a else b := sel_eq k 7 hk (by omega) a b

theorem half_bits : Ideal.ofBits .f32 0x3F000000#32 = ((1 / 2 : ℝ) : EReal) := half_word
theorem one_bits : Ideal.ofBits .f32 0x3F800000#32 = (1 : EReal) := one_word

theorem sel_none (a b : EReal) : Scalar.select 0#1 a b = b := by simp [Scalar.select]

theorem pay6_apply (i : grid0.Coords) (p : Vec Ideal S512x512 .bf16) (pn : Vec Ideal S16x512 .bf16) (d : Vec Ideal S512x512 .bf16) (dn : Vec Ideal S16x512 .bf16)
    (e : Fin 528) (l : Fin 512) : k0_pay6 (F := Ideal) i p pn d dn (ix2 e l) = dsilu (ext p pn l e) (extD i d dn l e) := by
  have hi : (i 1).val < 8 := (i 1).isLt
  unfold dsilu
  rw [← logi_tanh, ← half_word, ← one_word]
  unfold ext extD
  pointwise [k0_pay6]
  simp only [sel_last _ hi, sel_none]

/-- The cotangent of the convolution's results on a tile and the 16 tokens after it. -/
def dE (c : Dev nD) (t : Fin cfg0.N) : FVec Ideal S528x512 .f32 := k0_pay6 (F := Ideal) (grid0.coords t) (iblk m c 1 t) (iblk m c 2 t) (iblk m c 3 t) (iblk m c 4 t)

theorem ext_at (c : Dev nD) (t : Fin cfg0.N) (l : Fin 512) (e : Fin 528) (n : Fin 4096) (h : n.val = t.val % 8 * 512 + e.val) :
    ext (iblk m c 1 t) (iblk m c 2 t) l e = colP m c (chan t l) n := by
  unfold ext
  split
  · rw [show n = row t ⟨e.val, by assumption⟩ from Fin.ext h, ← blkP]
  · rw [show n = after t ⟨e.val - 512, by omega⟩ from Fin.ext (by simp only [after]; omega), ← blkPn]

theorem extD_at (c : Dev nD) (t : Fin cfg0.N) (l : Fin 512) (e : Fin 528) :
    extD (grid0.coords t) (iblk m c 3 t) (iblk m c 4 t) l e = tok (colD m c (chan t l)) (t.val % 8 * 512 + e.val) := by
  unfold extD tok
  rw [coord1]
  split
  · rename_i h
    rw [dif_pos (by omega), blkD]
    rfl
  · split
    · rw [dif_neg (by omega)]
    · rw [dif_pos (by omega), blkDn]
      exact congrArg _ (Fin.ext (by simp only [after]; omega))

/-- The cotangent on the extended tile: zero where no token is left. -/
theorem dE_apply (c : Dev nD) (t : Fin cfg0.N) (e : Fin 528) (l : Fin 512) :
    dE m c t (ix2 e l) = tok (colE m c (chan t l)) (t.val % 8 * 512 + e.val) := by
  unfold dE
  rw [pay6_apply, extD_at]
  by_cases h : t.val % 8 * 512 + e.val < 4096
  · rw [ext_at m c t l e ⟨_, h⟩ rfl, tok, tok, dif_pos h, dif_pos h]
    rfl
  · rw [tok, tok, dif_neg h, dif_neg h, dsilu_zero]

/-! ## The gradient of the input on one tile -/

theorem pay5_apply (d : FVec Ideal S528x512 .f32) (w0 w1 w2 w3 : Vec Ideal S1x512 .f32) (r l : Fin 512) :
    k0_pay5 (F := Ideal) d (k0_pay15 d w0 w1 w2) w3 (ix2 r l)
      = d (ix2 ⟨(r.val + 528 - 525) % 528, by omega⟩ l) * w0 (ix2 0 l)
        + d (ix2 ⟨(r.val + 528 - 526) % 528, by omega⟩ l) * w1 (ix2 0 l)
        + d (ix2 ⟨(r.val + 528 - 527) % 528, by omega⟩ l) * w2 (ix2 0 l)
        + d (ix2 ⟨r.val, by omega⟩ l) * w3 (ix2 0 l) := by
  pointwise [k0_pay5, k0_pay2, k0_pay15, k0_pay10, k0_pay12, k0_pay14]

theorem tap0_apply (c : Dev nD) (t : Fin cfg0.N) (l : Fin 512) :
    View.ld (iblk m c 5 t) (Rect.unit (s := S4x512) ![0, 0] S1x512.size inb_S4x512_S1x512_0_0) (ix2 0 l) = taps m c (chan t l) 0 := by
  rw [← blkW]; pointwise

theorem tap1_apply (c : Dev nD) (t : Fin cfg0.N) (l : Fin 512) :
    View.ld (iblk m c 5 t) (Rect.unit (s := S4x512) ![1, 0] S1x512.size inb_S4x512_S1x512_1_0) (ix2 0 l) = taps m c (chan t l) 1 := by
  rw [← blkW]; pointwise

theorem tap2_apply (c : Dev nD) (t : Fin cfg0.N) (l : Fin 512) :
    View.ld (iblk m c 5 t) (Rect.unit (s := S4x512) ![2, 0] S1x512.size inb_S4x512_S1x512_2_0) (ix2 0 l) = taps m c (chan t l) 2 := by
  rw [← blkW]; pointwise

theorem tap3_apply (c : Dev nD) (t : Fin cfg0.N) (l : Fin 512) :
    View.ld (iblk m c 5 t) (Rect.unit (s := S4x512) ![3, 0] S1x512.size inb_S4x512_S1x512_3_0) (ix2 0 l) = taps m c (chan t l) 3 := by
  rw [← blkW]; pointwise

theorem moved3 (t : Fin cfg0.N) (r : Fin 512) : t.val % 8 * 512 + (r.val + 528 - 525) % 528 = (row t r).val + 3 := by simp only [row]; omega
theorem moved2 (t : Fin cfg0.N) (r : Fin 512) : t.val % 8 * 512 + (r.val + 528 - 526) % 528 = (row t r).val + 2 := by simp only [row]; omega
theorem moved1 (t : Fin cfg0.N) (r : Fin 512) : t.val % 8 * 512 + (r.val + 528 - 527) % 528 = (row t r).val + 1 := by simp only [row]; omega
theorem moved0 (t : Fin cfg0.N) (r : Fin 512) : t.val % 8 * 512 + r.val = (row t r).val := rfl

/-- The input's gradient on one tile. -/
def dxTile (c : Dev nD) (t : Fin cfg0.N) : FVec Ideal S512x512 .bf16 :=
  k0_pay5 (F := Ideal) (dE m c t) (k0_pay15 (dE m c t)
    (View.ld (iblk m c 5 t) (Rect.unit (s := S4x512) ![0, 0] S1x512.size inb_S4x512_S1x512_0_0))
    (View.ld (iblk m c 5 t) (Rect.unit (s := S4x512) ![1, 0] S1x512.size inb_S4x512_S1x512_1_0))
    (View.ld (iblk m c 5 t) (Rect.unit (s := S4x512) ![2, 0] S1x512.size inb_S4x512_S1x512_2_0)))
    (View.ld (iblk m c 5 t) (Rect.unit (s := S4x512) ![3, 0] S1x512.size inb_S4x512_S1x512_3_0))

theorem dxTile_at (c : Dev nD) (t : Fin cfg0.N) (r l : Fin 512) :
    dxTile m c t (ix2 r l) = dinput (colE m c (chan t l)) (taps m c (chan t l)) (row t r) := by
  unfold dxTile
  rw [pay5_apply, tap0_apply, tap1_apply, tap2_apply, tap3_apply, dE_apply, dE_apply, dE_apply, dE_apply]
  simp only [moved3, moved2, moved1, moved0, dinput]

/-! ## What one tile adds to the gradients of the taps and of the bias -/

/-- What one token tile adds to a tap's gradient. -/
def tapPart (c : Dev nD) (t : Fin cfg0.N) (k : Fin 4) (l : Fin 512) : EReal :=
  ∑ r : Fin 512, tok (colE m c (chan t l)) (t.val % 8 * 512 + r.val + (3 - k.val)) * colU m c (chan t l) (row t r)

/-- What one token tile adds to the bias's gradient. -/
def biasPart (c : Dev nD) (t : Fin cfg0.N) (l : Fin 512) : EReal := ∑ r : Fin 512, colE m c (chan t l) (row t r)

theorem sum0_apply (d : FVec Ideal S528x512 .f32) (u : Vec Ideal S512x512 .bf16) (acc : Vec Ideal S1x512 .f32) (l : Fin 512) :
    k0_pay11 (F := Ideal) d (k0_pay9 u) acc (ix2 0 l) = acc (ix2 0 l) + ∑ x : Fin 512, d (ix2 ⟨(x.val + 528 - 525) % 528, by omega⟩ l) * u (ix2 x l) := by
  pointwise [k0_pay11, k0_pay10, k0_pay9]

theorem sum1_apply (d : FVec Ideal S528x512 .f32) (u : Vec Ideal S512x512 .bf16) (acc : Vec Ideal S1x512 .f32) (l : Fin 512) :
    k0_pay13 (F := Ideal) d (k0_pay9 u) acc (ix2 0 l) = acc (ix2 0 l) + ∑ x : Fin 512, d (ix2 ⟨(x.val + 528 - 526) % 528, by omega⟩ l) * u (ix2 x l) := by
  pointwise [k0_pay13, k0_pay12, k0_pay9]

theorem sum2_apply (d : FVec Ideal S528x512 .f32) (u : Vec Ideal S512x512 .bf16) (acc : Vec Ideal S1x512 .f32) (l : Fin 512) :
    k0_pay1 (F := Ideal) (k0_pay16 acc) (k0_pay17 d (k0_pay9 u)) (ix2 0 l)
      = acc (ix2 0 l) + ∑ x : Fin 512, d (ix2 ⟨(x.val + 528 - 527) % 528, by omega⟩ l) * u (ix2 x l) := by
  pointwise [k0_pay1, k0_pay16, k0_pay17, k0_pay14, k0_pay9]

theorem sum3_apply (d : FVec Ideal S528x512 .f32) (u : Vec Ideal S512x512 .bf16) (acc : Vec Ideal S1x512 .f32) (l : Fin 512) :
    k0_pay3 (F := Ideal) d (k0_pay9 u) acc (ix2 0 l) = acc (ix2 0 l) + ∑ x : Fin 512, d (ix2 ⟨x.val, by omega⟩ l) * u (ix2 x l) := by
  pointwise [k0_pay3, k0_pay2, k0_pay9]

theorem bsum_apply (d : FVec Ideal S528x512 .f32) (acc : Vec Ideal S1x512 .f32) (l : Fin 512) :
    k0_pay4 (F := Ideal) d acc (ix2 0 l) = acc (ix2 0 l) + ∑ x : Fin 512, d (ix2 ⟨x.val, by omega⟩ l) := by
  pointwise [k0_pay4, k0_pay2]

theorem tap_step0 (c : Dev nD) (t : Fin cfg0.N) (acc : Vec Ideal S1x512 .f32) (l : Fin 512) :
    k0_pay11 (dE m c t) (k0_pay9 (X0_0 m c t)) acc (ix2 0 l) = acc (ix2 0 l) + tapPart m c t 0 l := by
  rw [sum0_apply]
  refine congrArg _ (Finset.sum_congr rfl fun x _ => ?_)
  rw [blkU, dE_apply]
  simp only [show t.val % 8 * 512 + (x.val + 528 - 525) % 528 = t.val % 8 * 512 + x.val + 3 by omega]
  rfl

theorem tap_step1 (c : Dev nD) (t : Fin cfg0.N) (acc : Vec Ideal S1x512 .f32) (l : Fin 512) :
    k0_pay13 (dE m c t) (k0_pay9 (X0_0 m c t)) acc (ix2 0 l) = acc (ix2 0 l) + tapPart m c t 1 l := by
  rw [sum1_apply]
  refine congrArg _ (Finset.sum_congr rfl fun x _ => ?_)
  rw [blkU, dE_apply]
  simp only [show t.val % 8 * 512 + (x.val + 528 - 526) % 528 = t.val % 8 * 512 + x.val + 2 by omega]
  rfl

theorem tap_step2 (c : Dev nD) (t : Fin cfg0.N) (acc : Vec Ideal S1x512 .f32) (l : Fin 512) :
    k0_pay1 (k0_pay16 acc) (k0_pay17 (dE m c t) (k0_pay9 (X0_0 m c t))) (ix2 0 l) = acc (ix2 0 l) + tapPart m c t 2 l := by
  rw [sum2_apply]
  refine congrArg _ (Finset.sum_congr rfl fun x _ => ?_)
  rw [blkU, dE_apply]
  simp only [show t.val % 8 * 512 + (x.val + 528 - 527) % 528 = t.val % 8 * 512 + x.val + 1 by omega]
  rfl

theorem tap_step3 (c : Dev nD) (t : Fin cfg0.N) (acc : Vec Ideal S1x512 .f32) (l : Fin 512) :
    k0_pay3 (dE m c t) (k0_pay9 (X0_0 m c t)) acc (ix2 0 l) = acc (ix2 0 l) + tapPart m c t 3 l := by
  rw [sum3_apply]
  refine congrArg _ (Finset.sum_congr rfl fun x _ => ?_)
  rw [blkU, dE_apply]
  rfl

theorem bias_step (c : Dev nD) (t : Fin cfg0.N) (acc : Vec Ideal S1x512 .f32) (l : Fin 512) :
    k0_pay4 (dE m c t) acc (ix2 0 l) = acc (ix2 0 l) + biasPart m c t l := by
  rw [bsum_apply]
  refine congrArg _ (Finset.sum_congr rfl fun x _ => ?_)
  rw [dE_apply]
  exact tok_in _ (row t x)

end Cert.SsdConvBwdIdeal.Value

end
-- ==== Proof.ConvBwdArrays.lean ====
module
public import proofs.«01_k».proof.Proof.ConvBwdBlock

/-!
The three arrays the backward kernel of the state-space layer's convolution leaves: the gradient of the input in the columns of the
values, and the gradients of the taps and of the bias, which it accumulates over the token tiles.
-/

@[expose] public section

set_option maxRecDepth 16384

noncomputable section

open Idealize.ShloMosaic Idealize.ShloMosaic.TcCoe Idealize.SL.Sem Idealize.ShloMosaic.StableHlo
open Idealize.ShloMosaic.Pipeline (Dat)
open scoped BigOperators

namespace Cert.SsdConvBwdIdeal.Value

open Cert.SsdConvBwdIdeal Cert.SsdConvBwdIdeal.Gen Cert.Gate Cert.Depthwise

variable (m : (ℓ : Loc nD τ sig) → Buf (Elt Ideal) ℓ)

theorem split_row (x : S1x512.Idx) : ∃ l : Fin 512, x = ix2 0 l :=
  ⟨x 1, (eq_ix2 x).trans (by rw [show x 0 = (0 : Fin 1) from Subsingleton.elim (α := Fin 1) _ _])⟩

theorem split_taps (j : S4x512.Idx) (k : Fin 4) (l : Fin 512) (h0 : (j 0).val = k.val) (h1 : (j 1).val = l.val) : j = ix2 k l :=
  (eq_ix2 j).trans (by rw [show j 0 = k from Fin.ext h0, show j 1 = l from Fin.ext h1])

theorem pay7_apply (j : S4x512.Idx) : k0_pay7 (F := Ideal) j = 0 := by pointwise [k0_pay7]

theorem pay8_apply (j : S1x512.Idx) : k0_pay8 (F := Ideal) j = 0 := by pointwise [k0_pay8]

/-! ## The gradient of the input -/

/-- The first result: the given array, with the gradient of the input in the columns of the values. -/
def inputGrad (c : Dev nD) : FVec Ideal S4096x10368 .bf16 := fun j =>
  if h : 4096 ≤ (j 1).val ∧ (j 1).val < 8192 then
    dinput (colE m c ⟨(j 1).val - 4096, by omega⟩) (taps m c ⟨(j 1).val - 4096, by omega⟩) (j 0)
  else m ((c : Thread nD τ).loc main_arg4) j

theorem tile_A (c : Dev nD) (t : Fin cfg0.N) (h : t.val % 8 = 0) : (outsAt0 m c t.val t.isLt).1 = dxTile m c t := by
  rw [outsAt0_A m c t h]; frame_out
  all_goals rfl

theorem tile_B (c : Dev nD) (t : Fin cfg0.N) (h : ¬t.val % 8 = 0) : (outsAt0 m c t.val t.isLt).1 = dxTile m c t := by
  rw [outsAt0_B m c t h]; frame_out
  all_goals rfl

theorem tile_eq (c : Dev nD) (t : Fin cfg0.N) : (outsAt0 m c t.val t.isLt).1 = dxTile m c t := by
  by_cases h : t.val % 8 = 0
  · exact tile_A m c t h
  · exact tile_B m c t h

theorem dinput_congr (c : Dev nD) {ch ch' : Fin 4096} {n n' : Fin 4096} (hc : ch = ch') (hn : n = n') :
    dinput (colE m c ch) (taps m c ch) n = dinput (colE m c ch') (taps m c ch') n' := by rw [hc, hn]

/-- The array the first result starts from is the last argument. -/
theorem V_start (c : Dev nD) : V m c main_v36_0 = m ((c : Thread nD τ).loc main_arg4) := by
  unfold V
  simp only [hostOps0, TRef.binary, TRef.nullary, TRef.ternary, TRef.unary, TRef.toBuf, TRef.ofBuf, cast_eq]
  after_results_simp
  rfl

theorem final_input (c : Dev nD) : (dats m 0 c).arrAt 6 (cfgs 0).N = inputGrad m c := by
  refine (dats m 0 c).arrAt_eq_of_coversWhere_of_agree 6 _ (fun β => 8 ≤ β (1 : Fin 2) ∧ β (1 : Fin 2) < 16) (by decide +kernel) (fun t hf y => ?_) (fun j hj => ?_)
  · have ht := tN t
    blk_simp
    rw [after0_6, tile_eq]
    have b1 : (y 1).val < 512 := ((cfg0.win 6).xinj (cfg0.grid.coords t) y 1).isLt
    have e0 : ((win0_6.blk t).view.emb y 0).val = t.val % 8 * 512 + (y 0).val := by blk_simp [idx_val t]
    have e1 : ((win0_6.blk t).view.emb y 1).val = (8 + t.val / 8) * 512 + (y 1).val := by blk_simp [idx_val t]
    refine (congrArg (dxTile m c t) (eq_ix2 (n0 := 512) (n1 := 512) ((cfg0.win 6).xinj (cfg0.grid.coords t) y))).trans ((dxTile_at m c t _ _).trans ?_)
    refine Eq.trans ?_ (dif_pos (show 4096 ≤ ((win0_6.blk t).view.emb y 1).val ∧ ((win0_6.blk t).view.emb y 1).val < 8192 by omega)).symm
    refine dinput_congr m c (Fin.ext ?_) (Fin.ext ?_)
    · show t.val / 8 * 512 + (y 1).val = ((win0_6.blk t).view.emb y 1).val - 4096
      omega
    · show t.val % 8 * 512 + (y 0).val = ((win0_6.blk t).view.emb y 0).val
      omega
  · blk_simp [Pipeline.Window.cell_apply] at hj
    have hA : (dats m 0 c).A 6 = m ((c : Thread nD τ).loc main_arg4) := (A_eq m c 6).trans (V_start m c)
    rw [hA]
    have out (i : S4096x10368.Idx) (hi : ¬(4096 ≤ (i 1).val ∧ (i 1).val < 8192)) : m ((c : Thread nD τ).loc main_arg4) i = inputGrad m c i := by
      unfold inputGrad
      rw [dif_neg hi]
    exact out j (by omega)

/-! ## The gradients of the taps and of the bias -/

theorem tap_first (c : Dev nD) (t : Fin cfg0.N) (h : t.val % 8 = 0) (j : S4x512.Idx) :
    (outsAt0 m c t.val t.isLt).2.1 j = (0 : EReal) + tapPart m c t (j 0) (j 1) := by
  rw [outsAt0_A m c t h]; frame_out
  clear h
  refine (canon_covered [_] j [_, _, _, _] ?_).trans ?_
  · exact View.cover_of_tiledL _ ![1, 512] (by sl_kernel_rfl) j
  canon_tiles x h
  · obtain ⟨l, rfl⟩ := split_row x
    obtain rfl := split_taps j 3 l h0 h1
    refine (tap_step3 m c t _ l).trans (congrArg (· + tapPart m c t 3 l) ?_)
    rw [View.readCov_skip _ _ _ _ _ (by decide), View.readCov_skip _ _ _ _ _ (by decide), View.readCov_skip _ _ _ _ _ (by decide), View.readCov_fill _ _ _ _ _ (by decide)]
    exact pay7_apply _
  · obtain ⟨l, rfl⟩ := split_row x
    obtain rfl := split_taps j 2 l h0 h1
    refine (tap_step2 m c t _ l).trans (congrArg (· + tapPart m c t 2 l) ?_)
    rw [View.readCov_skip _ _ _ _ _ (by decide), View.readCov_skip _ _ _ _ _ (by decide), View.readCov_fill _ _ _ _ _ (by decide)]
    exact pay7_apply _
  · obtain ⟨l, rfl⟩ := split_row x
    obtain rfl := split_taps j 1 l h0 h1
    refine (tap_step1 m c t _ l).trans (congrArg (· + tapPart m c t 1 l) ?_)
    rw [View.readCov_skip _ _ _ _ _ (by decide), View.readCov_fill _ _ _ _ _ (by decide)]
    exact pay7_apply _
  · obtain ⟨l, rfl⟩ := split_row x
    obtain rfl := split_taps j 0 l h0 h1
    refine (tap_step0 m c t _ l).trans (congrArg (· + tapPart m c t 0 l) ?_)
    rw [View.readCov_fill _ _ _ _ _ (by decide)]
    exact pay7_apply _

theorem tap_next (c : Dev nD) (t : Fin cfg0.N) (h : ¬t.val % 8 = 0) (j : S4x512.Idx) :
    (outsAt0 m c t.val t.isLt).2.1 j
      = (outsAt0 m c (t.val - 1) (Nat.lt_of_le_of_lt (Nat.sub_le _ _) t.isLt)).2.1 j + tapPart m c t (j 0) (j 1) := by
  rw [outsAt0_B m c t h]; frame_out
  clear h
  canon_tiles x h
  · obtain ⟨l, rfl⟩ := split_row x
    obtain rfl := split_taps j 3 l h0 h1
    refine (tap_step3 m c t _ l).trans (congrArg (· + tapPart m c t 3 l) ?_)
    pointwise
  · obtain ⟨l, rfl⟩ := split_row x
    obtain rfl := split_taps j 2 l h0 h1
    refine (tap_step2 m c t _ l).trans (congrArg (· + tapPart m c t 2 l) ?_)
    pointwise
  · obtain ⟨l, rfl⟩ := split_row x
    obtain rfl := split_taps j 1 l h0 h1
    refine (tap_step1 m c t _ l).trans (congrArg (· + tapPart m c t 1 l) ?_)
    pointwise
  · obtain ⟨l, rfl⟩ := split_row x
    obtain rfl := split_taps j 0 l h0 h1
    refine (tap_step0 m c t _ l).trans (congrArg (· + tapPart m c t 0 l) ?_)
    pointwise

theorem bias_first (c : Dev nD) (t : Fin cfg0.N) (h : t.val % 8 = 0) (j : S1x512.Idx) :
    (outsAt0 m c t.val t.isLt).2.2 j = (0 : EReal) + biasPart m c t (j 1) := by
  obtain ⟨l, rfl⟩ := split_row j
  rw [outsAt0_A m c t h]; frame_out
  exact (bias_step m c t _ l).trans (congrArg (· + biasPart m c t l) (pay8_apply _))

theorem bias_next (c : Dev nD) (t : Fin cfg0.N) (h : ¬t.val % 8 = 0) (j : S1x512.Idx) :
    (outsAt0 m c t.val t.isLt).2.2 j
      = (outsAt0 m c (t.val - 1) (Nat.lt_of_le_of_lt (Nat.sub_le _ _) t.isLt)).2.2 j + biasPart m c t (j 1) := by
  obtain ⟨l, rfl⟩ := split_row j
  rw [outsAt0_B m c t h]; frame_out
  exact bias_step m c t _ l

/-- The gradient of the taps, as one array. -/
def tapGrad (c : Dev nD) : FVec Ideal S4x4096 .f32 := fun j => dtap (colE m c (j 1)) (colU m c (j 1)) (j 0)

/-- The gradient of the bias, as one array. -/
def biasGrad (c : Dev nD) : FVec Ideal S1x4096 .f32 := fun j => db (colE m c (j 1))

theorem congr_col (c : Dev nD) (ch ch' : Fin 4096) (n n' : Fin 4096) (hc : ch = ch') (hn : n = n') : colE m c ch n = colE m c ch' n' := by rw [hc, hn]

theorem congr_parts (c : Dev nD) (k k' : Fin 4) (ch ch' : Fin 4096) (n n' : Fin 4096) (i : ℕ)
    (hk : k = k') (hc : ch = ch') (hn : n = n') (hi : i = n'.val) :
    tok (colE m c ch) (i + (3 - k.val)) * colU m c ch n = tok (colE m c ch') (n'.val + (3 - k'.val)) * colU m c ch' n' := by
  rw [hk, hc, hn, hi]

/-- The taps' array after the run: the eight token tiles of a channel tile add up to all tokens. -/
theorem final_taps (c : Dev nD) : (dats m 0 c).arrAt 7 (cfgs 0).N = tapGrad m c := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0)
    (fun t j => tapPart m c t (j 0) (j 1)) (fun t h j => tap_first m c t h j) (fun t h j => tap_next m c t h j)
    t ((flush0_7 t).mp hf) _, zero_add]
  unfold tapPart
  refine Fin.sum_mul_add_congr fun s k hl => ?_
  refine congr_parts m c _ _ _ _ _ _ _ (Fin.ext ?_) (Fin.ext ?_) (Fin.ext ?_) ?_
  · blk_simp [idx_val t] <;> omega
  · blk_simp [idx_val t]
    show (8 * (t.val / 8) + s.val) / 8 * 512 + (y 1).val = _
    omega
  · show (8 * (t.val / 8) + s.val) % 8 * 512 + k.val = s.val * 512 + k.val
    omega
  · show (8 * (t.val / 8) + s.val) % 8 * 512 + k.val = s.val * 512 + k.val
    omega

/-- The bias's array after the run. -/
theorem final_bias (c : Dev nD) : (dats m 0 c).arrAt 8 (cfgs 0).N = biasGrad m c := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0)
    (fun t j => biasPart m c t (j 1)) (fun t h j => bias_first m c t h j) (fun t h j => bias_next m c t h j)
    t ((flush0_8 t).mp hf) _, zero_add]
  unfold biasPart
  refine Fin.sum_mul_add_congr fun s k hl => ?_
  refine congr_col m c _ _ _ _ (Fin.ext ?_) (Fin.ext ?_)
  · blk_simp [idx_val t]
    show (8 * (t.val / 8) + s.val) / 8 * 512 + (y 1).val = _
    omega
  · show (8 * (t.val / 8) + s.val) % 8 * 512 + k.val = s.val * 512 + k.val
    omega

end Cert.SsdConvBwdIdeal.Value

end
-- ==== Proof.ConvBwdRef.lean ====
module
public import proofs.«01_k».proof.Proof.Gen.SsdConvBwdRefIdeal.Read
public import proofs.«01_k».proof.Proof.ConvBwdSpec
public import Idealize.ShloMosaic.Lib.Pipeline.ValueKit
public import Idealize.ShloMosaic.Lib.Pointwise

/-!
What the reference of the gradient of the state-space layer's convolution computes: its three results, read at an index, are the
gradients that ConvBwdSpec.lean writes, wherever the cotangent is a real number.
-/

@[expose] public section

set_option maxRecDepth 16384

noncomputable section

namespace Cert.SsdConvBwdRefIdeal.Value

open Cert.SsdConvBwdRefIdeal Cert.SsdConvBwdRefIdeal.Gen Cert.SsdConvBwdRefIdeal.Read Cert.Gate Cert.Depthwise Idealize.ShloMosaic Idealize.ShloMosaic.TcCoe

variable (x0 : FVec Ideal S4096x10368 .bf16) (x1 : FVec Ideal S4096x4096 .bf16) (x2 : FVec Ideal S4x6144 .f32) (x3 : FVec Ideal S1x6144 .f32)

/-- The convolved part of the input, one channel. -/
abbrev colU (ch : Fin 4096) : Fin 4096 → EReal := fun n => x0 (ix2 n ⟨4096 + ch.val, by omega⟩)
/-- The four taps of one channel. -/
abbrev taps (ch : Fin 4096) : Fin 4 → EReal := fun k => x2 (ix2 k ⟨ch.val, by omega⟩)
/-- The convolution's results, one channel. -/
abbrev colP (ch : Fin 4096) : Fin 4096 → EReal := fun n => conv (colU x0 ch) (taps x2 ch) (x3 (ix2 0 ⟨ch.val, by omega⟩)) n.val
/-- The cotangent of the convolution's results, one channel. -/
abbrev colE (ch : Fin 4096) : Fin 4096 → EReal := dconv (colP x0 x2 x3 ch) (fun n => x1 (ix2 n ch))

theorem v5_at (n : Fin 4099) (ch : Fin 4096) : val_main_v5 (F := Ideal) x0 (ix2 n ch) = if 3 ≤ n.val then tok (colU x0 ch) (n.val - 3) else 0 := by
  pointwise [val_main_v5, val_main_v4, val_main_cst, val_main_v1, val_main_v0, tok]
  by_cases h : n.val < 3
  · rw [dif_pos h, if_neg (by omega)]
  · rw [dif_neg h]
    refine Eq.trans ?_ (if_pos (by omega)).symm
    rw [dif_pos (by omega)]

theorem v5_late (n : Fin 4099) (ch : Fin 4096) : val_main_v5 (F := Ideal) x0 (ix2 n ch) = late (colU x0 ch) (n.val + 13) := by
  rw [v5_at, ← late_tok _ 3 (by omega) n (by omega)]

/-- The convolution's results. -/
theorem v37_at (n : Fin 4096) (ch : Fin 4096) : val_main_v37 (F := Ideal) x0 x2 x3 (ix2 n ch) = colP x0 x2 x3 ch n := by
  pointwise [val_main_v37, val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16,
    val_main_v15, val_main_v14, val_main_v13, val_main_cst_1, val_main_v12, val_main_v11, val_main_v10, val_main_v9, val_main_v8, val_main_v7, val_main_v3, val_main_v2]
  simp only [v5_late, conv, show 1 + n.val + 13 = n.val + 14 by omega, show 2 + n.val + 13 = n.val + 15 by omega, show 3 + n.val + 13 = n.val + 16 by omega]

theorem v38_at (n : Fin 4096) (ch : Fin 4096) : val_main_v38_2 (F := Ideal) x0 x2 x3 (ix2 n ch) = logi (colP x0 x2 x3 ch n) := by
  rw [← v37_at]
  pointwise [val_main_v38_2, val_main_call0_v4, val_main_call0_v3, val_main_call0_v2, val_main_call0_v1, val_main_call0_v0, val_main_call0_cst, val_main_call0_cst_0]
  rfl

variable (h1 : ∀ i, IsReal (x1 i))

include h1 in
/-- The cotangent of the convolution's results. -/
theorem v40_at (n : Fin 4096) (ch : Fin 4096) : val_main_v40 (F := Ideal) x0 x1 x2 x3 (ix2 n ch) = colE x0 x1 x2 x3 ch n := by
  pointwise [val_main_v40, val_main_call1_v2, val_main_call1_v1, val_main_call1_v0, val_main_v39, val_main_v38_1, val_main_call0_v7, val_main_call0_v6, val_main_call0_cst_1]
  simp only [v37_at, v38_at]
  exact dsilu_parts (h1 _)

include h1 in
/-- The gradient of the bias. -/
theorem v42_at (ch : Fin 4096) : val_main_v42 (F := Ideal) x0 x1 x2 x3 (ix2 0 ch) = db (colE x0 x1 x2 x3 ch) := by
  pointwise [val_main_v42, val_main_v41, val_main_cst_2]
  simp only [v40_at x0 x1 x2 x3 h1]
  rfl

include h1 in
/-- The gradient of the taps. -/
theorem v82_at (k : Fin 4) (ch : Fin 4096) : val_main_v82 (F := Ideal) x0 x1 x2 x3 (ix2 k ch) = dtap (colE x0 x1 x2 x3 ch) (colU x0 ch) k := by
  pointwise [val_main_v82, val_main_v71, val_main_v60, val_main_v50, val_main_v59, val_main_v70, val_main_v81, val_main_v49, val_main_v58, val_main_v69, val_main_v80,
    val_main_v48, val_main_v57, val_main_v68, val_main_v79, val_main_v45, val_main_v54, val_main_v65, val_main_v76, val_main_v44, val_main_v53, val_main_v64, val_main_v75,
    val_main_v43, val_main_v52, val_main_v63, val_main_v74, val_main_v29, val_main_v22, val_main_v15, val_main_v7,
    val_main_cst_3, val_main_cst_4, val_main_cst_5, val_main_cst_6, val_main_cst_7, val_main_cst_8, val_main_cst_9, val_main_cst_10, val_main_cst_11, val_main_cst_12,
    val_main_cst_13, val_main_cst_14, val_main_cst_15, val_main_cst_16, val_main_cst_17]
  simp only [Fin.sum_univ_one, v5_at, v40_at x0 x1 x2 x3 h1]
  unfold dtap
  rw [← shift_sum]
  generalize colE x0 x1 x2 x3 ch = e
  generalize colU x0 ch = u
  fin_vals k with hk
  all_goals simp [hk]
  all_goals
    refine Finset.sum_congr rfl fun x _ => ?_
    first
      | rw [show (2 + x.val : ℕ) - 3 = x.val - 1 by omega]
      | rw [show (1 + x.val : ℕ) - 3 = x.val - 2 by omega]
      | skip
    split_ifs <;> first | rfl | omega

include h1 in
/-- The gradient of the input. -/
theorem v86_at (n : Fin 4096) (ch : Fin 4096) :
    val_main_v86 (F := Ideal) x0 x1 x2 x3 (ix2 n ch) = dinput (colE x0 x1 x2 x3 ch) (taps x2 ch) n := by
  pointwise [val_main_v86, val_main_v84, val_main_v73, val_main_v62, val_main_v51, val_main_v61, val_main_v72, val_main_v83, val_main_v47, val_main_v56, val_main_v67, val_main_v78,
    val_main_v46, val_main_v55, val_main_v66, val_main_v77, val_main_v32, val_main_v31, val_main_v30, val_main_v25, val_main_v24, val_main_v23, val_main_v18, val_main_v17, val_main_v16,
    val_main_v10, val_main_v9, val_main_v8, val_main_v2, val_main_cst_6, val_main_cst_10, val_main_cst_14, val_main_cst_18]
  rw [v40_at x0 x1 x2 x3 h1]
  refine (congrArg₂ (· + ·) (congrArg₂ (· + ·) (congrArg (colE x0 x1 x2 x3 ch n * x2 (ix2 3 ⟨ch.val, by omega⟩) + ·)
    (show _ = tok (colE x0 x1 x2 x3 ch) (n.val + 1) * taps x2 ch 2 from ?_))
    (show _ = tok (colE x0 x1 x2 x3 ch) (n.val + 2) * taps x2 ch 1 from ?_))
    (show _ = tok (colE x0 x1 x2 x3 ch) (n.val + 3) * taps x2 ch 0 from ?_)).trans
    (by rw [dinput, tok_in]; ac_rfl)
  · split
    · rw [v40_at x0 x1 x2 x3 h1, tok, dif_pos (by omega)]
      simp only [show 3 + n.val - 2 = n.val + 1 by omega]
    · rw [tok, dif_neg (by omega), zero_mul]
  · split
    · rw [v40_at x0 x1 x2 x3 h1, tok, dif_pos (by omega)]
      simp only [show 3 + n.val - 1 = n.val + 2 by omega]
    · rw [tok, dif_neg (by omega), zero_mul]
  · split
    · rw [v40_at x0 x1 x2 x3 h1, tok, dif_pos (by omega)]
      simp only [show 3 + n.val = n.val + 3 by omega]
    · rw [tok, dif_neg (by omega), zero_mul]

include h1 in
/-- The first result: the given array with the gradient of the input in the columns of the values. -/
theorem v90_at (x4 : FVec Ideal S4096x10368 .bf16) (n : Fin 4096) (j : Fin 10368) :
    val_main_v90 (F := Ideal) x0 x1 x2 x3 x4 (ix2 n j)
      = if h : 4096 ≤ j.val ∧ j.val < 8192 then dinput (colE x0 x1 x2 x3 ⟨j.val - 4096, by omega⟩) (taps x2 ⟨j.val - 4096, by omega⟩) n else x4 (ix2 n j) := by
  pointwise [val_main_v90, val_main_v87, val_main_v88, val_main_v89]
  by_cases ha : j.val < 4096
  · rw [dif_pos ha, dif_neg (by omega)]
  · rw [dif_neg ha]
    by_cases hb : j.val < 8192
    · rw [dif_pos (by omega), dif_pos ⟨by omega, hb⟩]
      exact v86_at x0 x1 x2 x3 h1 n ⟨j.val - 4096, by omega⟩
    · rw [dif_neg (by omega), dif_neg (by omega)]
      exact congrArg (fun q => x4 (ix2 n q)) (Fin.ext (by simp only; omega))

end Cert.SsdConvBwdRefIdeal.Value

end
-- ==== Proof.ConvFwdArrays.lean ====
module
public import proofs.«01_k».proof.Proof.Gen.SsdConvFwdIdeal.Frame
public import proofs.«01_k».proof.Proof.ConvFwdSpec
public import Idealize.ShloMosaic.Lib.Pipeline.ReadBack
public import Idealize.ShloMosaic.Lib.Pipeline.ValueKit
public import Idealize.ShloMosaic.Lib.Pointwise

/-!
The two arrays the forward kernel of the state-space layer's convolution leaves: the activations and the convolution's results.
-/

@[expose] public section

set_option maxRecDepth 16384

noncomputable section

open Idealize.ShloMosaic Idealize.ShloMosaic.TcCoe Idealize.SL.Sem
open Idealize.ShloMosaic.Pipeline (Dat)

namespace Cert.SsdConvFwdIdeal.Value

open Cert.SsdConvFwdIdeal Cert.SsdConvFwdIdeal.Gen Cert.Depthwise

variable (m : (ℓ : Loc nD τ sig) → Buf (Elt Ideal) ℓ)

/-- The blocks of every window at grid point `t`: the token tile is `t % 8`, the channel tile `t / 8`. -/
theorem idx_val : ∀ t : Fin cfg0.N, win0_0.index t = ![t.val % 8, 8 + t.val / 8]
    ∧ win0_1.index t = ![t.val % 8 * 32 - 1, 8 + t.val / 8]
    ∧ win0_2.index t = ![0, t.val / 8]
    ∧ win0_3.index t = ![0, t.val / 8]
    ∧ win0_4.index t = ![t.val % 8, t.val / 8]
    ∧ win0_5.index t = ![t.val % 8, t.val / 8]
    ∧ (grid0.coords t 1).val = t.val % 8 :=
  (by decide +kernel : ∀ t : Fin grid0.N, _)

theorem coord1 (t : Fin cfg0.N) : (grid0.coords t 1).val = t.val % 8 := (idx_val t).2.2.2.2.2.2

theorem tN (t : Fin cfg0.N) : t.val < 96 := lt_of_lt_of_eq t.isLt N_0

/-- Lane `l` of grid point `t`, as a channel of the convolution. -/
def chan (t : Fin cfg0.N) (l : Fin 512) : Fin 6144 := ⟨t.val / 8 * 512 + l.val, by have := tN t; omega⟩

/-- Token `r` of grid point `t`. -/
def row (t : Fin cfg0.N) (r : Fin 512) : Fin 4096 := ⟨t.val % 8 * 512 + r.val, by omega⟩

/-- Token `e` of the block that precedes grid point `t` (the first one, where nothing precedes). -/
def before (t : Fin cfg0.N) (e : Fin 16) : Fin 4096 := ⟨(t.val % 8 * 32 - 1) * 16 + e.val, by omega⟩

/-- The convolved part of the input, one channel. -/
abbrev colU (c : Dev nD) (ch : Fin 6144) : Fin 4096 → EReal := fun n => m ((c : Thread nD τ).loc main_arg0) (ix2 n ⟨4096 + ch.val, by omega⟩)
/-- The four taps of one channel. -/
abbrev taps (c : Dev nD) (ch : Fin 6144) : Fin 4 → EReal := fun k => m ((c : Thread nD τ).loc main_arg1) (ix2 k ch)
/-- The bias of one channel. -/
abbrev bias (c : Dev nD) (ch : Fin 6144) : EReal := m ((c : Thread nD τ).loc main_arg2) (ix2 0 ch)

theorem blkU (c : Dev nD) (t : Fin cfg0.N) (r l : Fin 512) : X0_0 m c t (ix2 r l) = colU m c (chan t l) (row t r) := by
  have ht := tN t
  have hV : V m c (Pipeline.arrRef spec0 0) = m ((c : Thread nD τ).loc main_arg0) := V_main_arg0 m c
  unfold X0_0 Pipeline.Window.fill
  rw [dif_pos (moved0_0 t (ix2 r l))]
  blk_point [iblk, hV, idx_val t, chan, row, colU]

theorem blkUp (c : Dev nD) (t : Fin cfg0.N) (r : Fin 16) (l : Fin 512) : X0_1 m c t (ix2 r l) = colU m c (chan t l) (before t r) := by
  have ht := tN t
  have hV : V m c (Pipeline.arrRef spec0 1) = m ((c : Thread nD τ).loc main_arg0) := V_main_arg0 m c
  unfold X0_1 Pipeline.Window.fill
  rw [dif_pos (moved0_1 t (ix2 r l))]
  blk_point [iblk, hV, idx_val t, chan, before, colU]

theorem blkW (c : Dev nD) (t : Fin cfg0.N) (k : Fin 4) (l : Fin 512) : iblk m c 2 t (ix2 k l) = taps m c (chan t l) k := by
  have ht := tN t
  have hV : V m c (Pipeline.arrRef spec0 2) = m ((c : Thread nD τ).loc main_arg1) := V_main_arg1 m c
  blk_point [iblk, hV, idx_val t, chan, taps]

theorem blkB (c : Dev nD) (t : Fin cfg0.N) (l : Fin 512) : iblk m c 3 t (ix2 0 l) = bias m c (chan t l) := by
  have ht := tN t
  have hV : V m c (Pipeline.arrRef spec0 3) = m ((c : Thread nD τ).loc main_arg2) := V_main_arg2 m c
  blk_point [iblk, hV, idx_val t, chan, bias]

theorem half_word : Ideal.ofBits .f32 0x3F000000#32 = ((1 / 2 : ℝ) : EReal) := by
  simp [Ideal.ofBits, Ideal.ieee]
  rw [← EReal.coe_mul]; norm_num

theorem sel_first (k : ℕ) (hk : k < 8) (a b : EReal) :
    Scalar.select (Scalar.cmpi CmpIPredicate.eq (BitVec.ofNat 32 k) 0#32) a b = if k = 0 then a else b := by
  have : (BitVec.ofNat 32 k == 0#32) = decide (k = 0) := by
    interval_cases k <;> decide
  by_cases h : k = 0 <;> simp [Scalar.select, Scalar.cmpi, IntOp.cmpi, this, h]

/-- Row `e` of the tile with the sixteen rows before it. -/
def ext (i : grid0.Coords) (y : Vec Ideal S16x512 .bf16) (x : Vec Ideal S512x512 .bf16) (l : Fin 512) (e : ℕ) : EReal :=
  if h : e < 16 then if (i 1).val = 0 then 0 else y (ix2 ⟨e, h⟩ l) else if h : e - 16 < 512 then x (ix2 ⟨e - 16, h⟩ l) else 0

theorem ext_mod (i : grid0.Coords) (y : Vec Ideal S16x512 .bf16) (x : Vec Ideal S512x512 .bf16) (l : Fin 512) (k e : ℕ)
    (h1 : k % 528 = e) (hk : k % 528 < 528) :
    (if h : k % 528 < 16 then if (i 1).val = 0 then (0 : EReal) else y (ix2 ⟨k % 528, h⟩ l) else x (ix2 ⟨k % 528 - 16, by omega⟩ l)) = ext i y x l e := by
  subst h1
  unfold ext
  split
  · rfl
  · rw [dif_pos (by omega)]

theorem ext_last (i : grid0.Coords) (y : Vec Ideal S16x512 .bf16) (x : Vec Ideal S512x512 .bf16) (r l : Fin 512) :
    x (ix2 r l) = ext i y x l (r.val + 16) := by
  unfold ext
  rw [dif_neg (by omega), dif_pos (by omega)]
  exact congrArg (fun q => x (ix2 q l)) (Fin.ext (by simp only; omega))

theorem pay2_apply (i : grid0.Coords) (y : Vec Ideal S16x512 .bf16) (x : Vec Ideal S512x512 .bf16) (w0 w1 w2 w3 b : Vec Ideal S1x512 .f32) (r l : Fin 512) :
    k0_pay2 (F := Ideal) i y x w0 w1 w2 w3 b (ix2 r l)
      = ext i y x l (r.val + 13) * w0 (ix2 0 l) + ext i y x l (r.val + 14) * w1 (ix2 0 l) + ext i y x l (r.val + 15) * w2 (ix2 0 l)
        + ext i y x l (r.val + 16) * w3 (ix2 0 l) + b (ix2 0 l) := by
  have hi : (i 1).val < 8 := (i 1).isLt
  pointwise [k0_pay2]
  simp only [sel_first _ hi]
  rw [← ext_last i y x r l, ← ext_mod i y x l (16 + r.val + 528 - 3) (r.val + 13) (by omega) (by omega),
    ← ext_mod i y x l (16 + r.val + 528 - 2) (r.val + 14) (by omega) (by omega), ← ext_mod i y x l (16 + r.val + 528 - 1) (r.val + 15) (by omega) (by omega)]

/-- The convolution's tile at grid point `t`. -/
def tile (c : Dev nD) (t : Fin cfg0.N) : FVec Ideal S512x512 .f32 :=
  k0_pay2 (F := Ideal) (grid0.coords t) (X0_1 m c t) (X0_0 m c t)
    (View.ld (iblk m c 2 t) (Rect.unit (s := S4x512) ![0, 0] S1x512.size inb_S4x512_S1x512_0_0))
    (View.ld (iblk m c 2 t) (Rect.unit (s := S4x512) ![1, 0] S1x512.size inb_S4x512_S1x512_1_0))
    (View.ld (iblk m c 2 t) (Rect.unit (s := S4x512) ![2, 0] S1x512.size inb_S4x512_S1x512_2_0))
    (View.ld (iblk m c 2 t) (Rect.unit (s := S4x512) ![3, 0] S1x512.size inb_S4x512_S1x512_3_0)) (iblk m c 3 t)

theorem ext_at (c : Dev nD) (t : Fin cfg0.N) (l : Fin 512) (e : ℕ) (he : e < 528) :
    ext (grid0.coords t) (X0_1 m c t) (X0_0 m c t) l e = late (colU m c (chan t l)) (t.val % 8 * 512 + e) := by
  unfold ext late
  rw [coord1]
  split
  · rename_i h
    split
    · rw [dif_neg (by omega)]
    · rw [dif_pos (by omega), show (⟨t.val % 8 * 512 + e - 16, by omega⟩ : Fin 4096) = before t ⟨e, h⟩ from Fin.ext (by simp only [before]; omega), ← blkUp]
  · rw [dif_pos (by omega), dif_pos (by omega),
      show (⟨t.val % 8 * 512 + e - 16, by omega⟩ : Fin 4096) = row t ⟨e - 16, by omega⟩ from Fin.ext (by simp only [row]; omega), ← blkU]

theorem tile_at (c : Dev nD) (t : Fin cfg0.N) (r l : Fin 512) :
    tile m c t (ix2 r l) = conv (colU m c (chan t l)) (taps m c (chan t l)) (bias m c (chan t l)) (row t r).val := by
  unfold tile
  have w0 : View.ld (iblk m c 2 t) (Rect.unit (s := S4x512) ![0, 0] S1x512.size inb_S4x512_S1x512_0_0) (ix2 0 l) = taps m c (chan t l) 0 := by
    rw [← blkW]; pointwise
  have w1 : View.ld (iblk m c 2 t) (Rect.unit (s := S4x512) ![1, 0] S1x512.size inb_S4x512_S1x512_1_0) (ix2 0 l) = taps m c (chan t l) 1 := by
    rw [← blkW]; pointwise
  have w2 : View.ld (iblk m c 2 t) (Rect.unit (s := S4x512) ![2, 0] S1x512.size inb_S4x512_S1x512_2_0) (ix2 0 l) = taps m c (chan t l) 2 := by
    rw [← blkW]; pointwise
  have w3 : View.ld (iblk m c 2 t) (Rect.unit (s := S4x512) ![3, 0] S1x512.size inb_S4x512_S1x512_3_0) (ix2 0 l) = taps m c (chan t l) 3 := by
    rw [← blkW]; pointwise
  rw [pay2_apply, ext_at m c t l _ (by omega), ext_at m c t l _ (by omega), ext_at m c t l _ (by omega), ext_at m c t l _ (by omega), w0, w1, w2, w3, blkB]
  simp only [conv, row, Nat.add_assoc]

theorem gate_apply (v : FVec Ideal S512x512 .f32) (j : S512x512.Idx) :
    k0_pay1 (F := Ideal) v (tanh (mulf (broadcast S512x512 (Scalar.ofBits (F := Ideal) .f32 0x3F000000#32)) v)) j = silu (v j) := by
  rw [silu, ← Cert.Gate.logi_tanh, ← half_word]
  rfl

/-- The convolution's results, as one array. -/
def results (c : Dev nD) : FVec Ideal S4096x6144 .bf16 := fun j => conv (colU m c (j 1)) (taps m c (j 1)) (bias m c (j 1)) (j 0).val

/-- The activations, as one array. -/
def values (c : Dev nD) : FVec Ideal S4096x6144 .bf16 := fun j => silu (results m c j)

theorem results_at (c : Dev nD) (t : Fin cfg0.N) (r l : Fin 512) (j : S4096x6144.Idx)
    (h0 : (j 0).val = t.val % 8 * 512 + r.val) (h1 : (j 1).val = t.val / 8 * 512 + l.val) : results m c j = tile m c t (ix2 r l) := by
  have e0 : j 0 = row t r := Fin.ext h0
  have e1 : j 1 = chan t l := Fin.ext h1
  unfold results
  rw [e0, e1, tile_at]

theorem out_results (c : Dev nD) (t : Fin cfg0.N) : (outsAt0 m c t).2 = (tile m c t : FVec Ideal S512x512 .f32) := by
  unfold outsAt0
  frame_out
  rfl

theorem out_values (c : Dev nD) (t : Fin cfg0.N) :
    (outsAt0 m c t).1 = k0_pay1 (F := Ideal) (tile m c t) (tanh (mulf (broadcast S512x512 (Scalar.ofBits (F := Ideal) .f32 0x3F000000#32)) (tile m c t))) := by
  unfold outsAt0
  frame_out
  rfl

/-- The convolution's results after the run. -/
theorem final_results (c : Dev nD) : (dats m 0 c).arrAt 5 (cfgs 0).N = results m c := by
  refine (dats m 0 c).arrAt_eq_of_covers 5 _ (by decide +kernel) fun t hf y => ?_
  have ht := tN t
  blk_simp; rw [after0_5, out_results]
  obtain ⟨r, l, rfl⟩ : ∃ r l : Fin 512, y = ix2 r l := ⟨y 0, y 1, eq_ix2 y⟩
  refine (results_at m c t r l _ ?_ ?_).symm
  all_goals (blk_simp [idx_val t])

/-- The activations after the run. -/
theorem final_values (c : Dev nD) : (dats m 0 c).arrAt 4 (cfgs 0).N = values m c := by
  refine (dats m 0 c).arrAt_eq_of_covers 4 _ (by decide +kernel) fun t hf y => ?_
  have ht := tN t
  blk_simp; rw [after0_4, out_values]
  obtain ⟨r, l, rfl⟩ : ∃ r l : Fin 512, y = ix2 r l := ⟨y 0, y 1, eq_ix2 y⟩
  refine (gate_apply (tile m c t) (ix2 r l)).trans ?_
  unfold values
  refine congrArg silu (results_at m c t r l _ ?_ ?_).symm
  all_goals (blk_simp [idx_val t])

end Cert.SsdConvFwdIdeal.Value

end
-- ==== Proof.ConvFwdValue.lean ====
module
public import proofs.«01_k».proof.Defs
public import proofs.«01_k».proof.Proof.ConvFwdArrays
public import proofs.«01_k».proof.Proof.Gen.SsdConvFwdIdeal.Frame
public import proofs.«01_k».proof.Proof.Gen.SsdConvFwdIdeal.Value
public import proofs.«01_k».proof.Proof.Gen.SsdConvFwdRefIdeal.Run
public import proofs.«01_k».proof.Proof.Gen.SsdConvFwdRefIdeal.Read
public import Idealize.ShloMosaic.Lib.Claim

/-!
What the reference of the state-space layer's convolution computes, and the value claim: the kernel leaves the same two arrays, on
every argument.
-/

@[expose] public section

set_option maxRecDepth 16384

noncomputable section

namespace Cert.SsdConvFwdRefIdeal.Value

open Cert.SsdConvFwdRefIdeal Cert.SsdConvFwdRefIdeal.Gen Cert.SsdConvFwdRefIdeal.Read Cert.Depthwise Idealize.ShloMosaic Idealize.ShloMosaic.TcCoe

variable (x0 : FVec Ideal S4096x10368 .bf16) (x1 : FVec Ideal S4x6144 .f32) (x2 : FVec Ideal S1x6144 .f32)

/-- The convolved part of the input, one channel. -/
abbrev colU (ch : Fin 6144) : Fin 4096 → EReal := fun n => x0 (ix2 n ⟨4096 + ch.val, by omega⟩)

/-- The convolution's result, one channel. -/
def res (ch : Fin 6144) (n : Fin 4096) : EReal := conv (colU x0 ch) (fun k => x1 (ix2 k ch)) (x2 (ix2 0 ch)) n.val

theorem v3_at (n : Fin 4099) (ch : Fin 6144) : val_main_v3 (F := Ideal) x0 (ix2 n ch) = late (colU x0 ch) (n.val + 13) := by
  pointwise [val_main_v3, val_main_v2, val_main_cst, val_main_v1, val_main_v0, late]
  by_cases h : n.val < 3
  · rw [dif_pos h, dif_neg (by omega)]
  · rw [dif_neg h, dif_pos (by omega)]
    exact congrArg (fun k => x0 (ix2 k _)) (Fin.ext (by simp only; omega))

theorem v34_at (n : Fin 4096) (ch : Fin 6144) : val_main_v34 (F := Ideal) x0 x1 x2 (ix2 n ch) = res x0 x1 x2 ch n := by
  pointwise [val_main_v34, val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_0, val_main_v15,
    val_main_v14, val_main_v13, val_main_v12, val_main_v11, val_main_v10, val_main_v9, val_main_v8, val_main_v7, val_main_v6, val_main_v5, val_main_v4]
  simp only [v3_at, res, conv, show 1 + n.val + 13 = n.val + 14 by omega, show 2 + n.val + 13 = n.val + 15 by omega, show 3 + n.val + 13 = n.val + 16 by omega]

/-- The convolution's results. -/
theorem v37_at (n : Fin 4096) (ch : Fin 6144) : val_main_v37 (F := Ideal) x0 x1 x2 (ix2 n ch) = res x0 x1 x2 ch n := by
  rw [← v34_at]
  rfl

theorem gate_at (n : Fin 4096) (ch : Fin 6144) : val_main_call0_v5 (F := Ideal) x0 x1 x2 (ix2 n ch) = Cert.Gate.logi (val_main_v34 (F := Ideal) x0 x1 x2 (ix2 n ch)) := by
  pointwise [val_main_call0_v5, val_main_call0_v4, val_main_call0_v3, val_main_call0_v2, val_main_call0_v1, val_main_call0_v0, val_main_call0_cst, val_main_call0_cst_0]
  rfl

/-- The activations. -/
theorem v36_at (n : Fin 4096) (ch : Fin 6144) : val_main_v36 (F := Ideal) x0 x1 x2 (ix2 n ch) = silu (res x0 x1 x2 ch n) := by
  pointwise [val_main_v36, val_main_v35]
  rw [gate_at, v34_at, silu]

end Cert.SsdConvFwdRefIdeal.Value

namespace Cert.Proof

open Idealize.ShloMosaic Idealize.ShloMosaic.TcCoe Idealize.SL.Sem Cert.SsdConvFwdIdeal

/-- The equation of the activations. -/
theorem SsdConvFwd_values_eq (m : (ℓ : Loc nD τ sig) → Buf (Elt Idealize.ShloMosaic.Ideal) ℓ) (c : Dev nD) : (Gen.dats m 0 c).arrAt 4 (cfgs 0).N
    = Cert.SsdConvFwdRefIdeal.Read.val_main_v36 (F := Idealize.ShloMosaic.Ideal) (m ((c : Thread nD τ).loc main_arg0)) (m ((c : Thread nD τ).loc main_arg1))
        (m ((c : Thread nD τ).loc main_arg2)) := by
  rw [Value.final_values]
  funext j
  obtain ⟨a, b, rfl⟩ : ∃ a b, j = ix2 a b := ⟨j 0, j 1, eq_ix2 j⟩
  exact (Cert.SsdConvFwdRefIdeal.Value.v36_at _ _ _ _ _).symm

/-- The equation of the convolution's results. -/
theorem SsdConvFwd_results_eq (m : (ℓ : Loc nD τ sig) → Buf (Elt Idealize.ShloMosaic.Ideal) ℓ) (c : Dev nD) : (Gen.dats m 0 c).arrAt 5 (cfgs 0).N
    = Cert.SsdConvFwdRefIdeal.Read.val_main_v37 (F := Idealize.ShloMosaic.Ideal) (m ((c : Thread nD τ).loc main_arg0)) (m ((c : Thread nD τ).loc main_arg1))
        (m ((c : Thread nD τ).loc main_arg2)) := by
  rw [Value.final_results]
  funext j
  obtain ⟨a, b, rfl⟩ : ∃ a b, j = ix2 a b := ⟨j 0, j 1, eq_ix2 j⟩
  exact (Cert.SsdConvFwdRefIdeal.Value.v37_at _ _ _ _ _).symm

/-- The two results of the convolution are the reference's, over the extended reals. -/
theorem SsdConvFwd_value : Cert.algebraic_SsdConvFwdIdeal_SsdConvFwdRefIdeal := by
  pair_intro
  · run_from Cert.SsdConvFwdIdeal.Gen.run_main m g
  · run_from Cert.SsdConvFwdRefIdeal.Value.run m' g'
    · obtain ⟨a0, a1, a2⟩ := hagree c
      refine (Cert.SsdConvFwdRefIdeal.Read.val_main_v36_eq m' c).trans (Eq.trans ?_ (SsdConvFwd_values_eq m c).symm)
      rw [a0, a1, a2]
    · exact (Cert.SsdConvFwdRefIdeal.Read.val_main_v37_eq _ _ _).trans (SsdConvFwd_results_eq m c).symm

theorem SsdConvFwd_ref : Cert.quiescent_SsdConvFwdRefIdeal := fun m ρ _ =>
  (θ_run Cert.SsdConvFwdRefIdeal.defs _ _).mono (fun r h => ⟨fun c => (h c).2.2, sem_eq_zero_of_no_sems rfl _⟩)
    (Cert.SsdConvFwdRefIdeal.Value.run m ρ)

end Cert.Proof

end
-- ==== Proof.ConvBwdValue.lean ====
module
public import proofs.«01_k».proof.Defs
public import proofs.«01_k».proof.Proof.ConvBwdArrays
public import proofs.«01_k».proof.Proof.ConvBwdRef
public import proofs.«01_k».proof.Proof.ConvFwdValue
public import proofs.«01_k».proof.Proof.Gen.Pre_finite_ct
public import proofs.«01_k».proof.Proof.Gen.SsdConvBwdIdeal.Frame
public import proofs.«01_k».proof.Proof.Gen.SsdConvBwdRefIdeal.Run
public import Idealize.ShloMosaic.Lib.Claim

/-!
The value claim of the gradient of the state-space layer's convolution: where the cotangent is real, the kernel leaves the three
arrays of the reference.
-/

@[expose] public section

set_option maxRecDepth 16384

noncomputable section

namespace Cert.SsdConvBwdIdeal.Value

open Cert.SsdConvBwdIdeal Cert.SsdConvBwdIdeal.Gen Cert.Gate Cert.Depthwise Idealize.ShloMosaic Idealize.ShloMosaic.TcCoe Idealize.SL.Sem Idealize.ShloMosaic.StableHlo

variable (m : (ℓ : Loc nD τ sig) → Buf (Elt Idealize.ShloMosaic.Ideal) ℓ)

set_option maxHeartbeats 2000000 in
/-- The convolution's results that the host lines leave for the kernel are those of the forward pass's reference. -/
theorem pre_eq (c : Dev nD) : pre m c
    = Cert.SsdConvFwdRefIdeal.Read.val_main_v37 (F := Idealize.ShloMosaic.Ideal) (m ((c : Thread nD τ).loc main_arg0)) (m ((c : Thread nD τ).loc main_arg2))
        (m ((c : Thread nD τ).loc main_arg3)) := by
  unfold pre V
  simp only [hostOps0, TRef.binary, TRef.nullary, TRef.ternary, TRef.unary, TRef.toBuf, TRef.ofBuf, cast_eq]
  after_results_simp
  rfl

theorem col_eq (c : Dev nD) (ch : Fin 4096) : colE m c ch
    = Cert.SsdConvBwdRefIdeal.Value.colE (m ((c : Thread nD τ).loc main_arg0)) (m ((c : Thread nD τ).loc main_arg1))
        (m ((c : Thread nD τ).loc main_arg2)) (m ((c : Thread nD τ).loc main_arg3)) ch := by
  unfold colE colP
  rw [pre_eq]
  refine congrArg (fun p => dconv p _) (funext fun n => ?_)
  exact Cert.SsdConvFwdRefIdeal.Value.v37_at _ _ _ n ⟨ch.val, by omega⟩

variable (h : Cert.Pre_SsdConvBwdIdeal_finite_ct m) (c : Dev nD)

include h

theorem real1 (i) : IsReal ((m ((c : Thread nD τ).loc main_arg1) : FVec Idealize.ShloMosaic.Ideal S4096x4096 .bf16) i) :=
  isReal_of_abs (φ := .bf16) _ (congrFun (h c) i)

theorem input_eq : (dats m 0 c).arrAt 6 (cfgs 0).N
    = Cert.SsdConvBwdRefIdeal.Read.val_main_v90 (F := Idealize.ShloMosaic.Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [final_input]
  funext j
  obtain ⟨a, b, rfl⟩ : ∃ a b, j = ix2 a b := ⟨j 0, j 1, eq_ix2 j⟩
  refine Eq.trans ?_ (Cert.SsdConvBwdRefIdeal.Value.v90_at _ _ _ _ (real1 m h c) _ _ _).symm
  unfold inputGrad
  simp only [← col_eq m c]
  rfl

theorem taps_eq : (dats m 0 c).arrAt 7 (cfgs 0).N
    = Cert.SsdConvBwdRefIdeal.Read.val_main_v82 (F := Idealize.ShloMosaic.Ideal) (m ((c : Thread nD τ).loc main_arg0)) (m ((c : Thread nD τ).loc main_arg1))
        (m ((c : Thread nD τ).loc main_arg2)) (m ((c : Thread nD τ).loc main_arg3)) := by
  rw [final_taps]
  funext j
  obtain ⟨a, b, rfl⟩ : ∃ a b, j = ix2 a b := ⟨j 0, j 1, eq_ix2 j⟩
  refine Eq.trans ?_ (Cert.SsdConvBwdRefIdeal.Value.v82_at _ _ _ _ (real1 m h c) _ _).symm
  rw [← col_eq m c]
  rfl

theorem bias_eq : (dats m 0 c).arrAt 8 (cfgs 0).N
    = Cert.SsdConvBwdRefIdeal.Read.val_main_v42 (F := Idealize.ShloMosaic.Ideal) (m ((c : Thread nD τ).loc main_arg0)) (m ((c : Thread nD τ).loc main_arg1))
        (m ((c : Thread nD τ).loc main_arg2)) (m ((c : Thread nD τ).loc main_arg3)) := by
  rw [final_bias]
  funext j
  obtain ⟨b, rfl⟩ : ∃ b, j = ix2 0 b := ⟨j 1, (eq_ix2 j).trans (by rw [show j 0 = (0 : Fin 1) from Subsingleton.elim (α := Fin 1) _ _])⟩
  refine Eq.trans ?_ (Cert.SsdConvBwdRefIdeal.Value.v42_at _ _ _ _ (real1 m h c) _).symm
  rw [← col_eq m c]
  rfl

end Cert.SsdConvBwdIdeal.Value

namespace Cert.Proof

open Idealize.ShloMosaic Idealize.SL.Sem

theorem SsdConvBwd_value : Cert.algebraic_SsdConvBwdIdeal_SsdConvBwdRefIdeal_pre_finite_ct := by
  intro m g m' g' hpre hagree
  refine ⟨fun c => (Cert.SsdConvBwdIdeal.Gen.dats m 0 c).arrAt 6 Cert.SsdConvBwdIdeal.cfg0.N,
    fun c => (Cert.SsdConvBwdIdeal.Gen.dats m 0 c).arrAt 7 Cert.SsdConvBwdIdeal.cfg0.N,
    fun c => (Cert.SsdConvBwdIdeal.Gen.dats m 0 c).arrAt 8 Cert.SsdConvBwdIdeal.cfg0.N, ?_, ?_⟩
  · refine (θ_run Cert.SsdConvBwdIdeal.defs _ _).mono (fun r h c => ?_) (Cert.SsdConvBwdIdeal.Gen.run_main m g)
    exact ⟨Cert.SsdConvBwdIdeal.Value.post6 m r h c, Cert.SsdConvBwdIdeal.Value.post7 m r h c,
      Cert.SsdConvBwdIdeal.Value.post8 m r h c, Cert.SsdConvBwdIdeal.Value.kept_main_arg0 m r h c,
      Cert.SsdConvBwdIdeal.Value.kept_main_arg1 m r h c, Cert.SsdConvBwdIdeal.Value.kept_main_arg2 m r h c,
      Cert.SsdConvBwdIdeal.Value.kept_main_arg3 m r h c, Cert.SsdConvBwdIdeal.Value.kept_main_arg4 m r h c⟩
  · refine (θ_run Cert.SsdConvBwdRefIdeal.defs _ _).mono (fun r h c => ?_) (Cert.SsdConvBwdRefIdeal.Value.run m' g')
    obtain ⟨a0, a1, a2, a3, a4⟩ := hagree c
    refine ⟨((h c).1.trans (Cert.SsdConvBwdRefIdeal.Read.val_main_v90_eq _ _)).trans (Eq.trans ?_ (Cert.SsdConvBwdIdeal.Value.input_eq m hpre c).symm),
      ((h c).2.1.trans (Cert.SsdConvBwdRefIdeal.Read.val_main_v82_eq _ _)).trans (Eq.trans ?_ (Cert.SsdConvBwdIdeal.Value.taps_eq m hpre c).symm),
      ((h c).2.2.1.trans (Cert.SsdConvBwdRefIdeal.Read.val_main_v42_eq _ _)).trans (Eq.trans ?_ (Cert.SsdConvBwdIdeal.Value.bias_eq m hpre c).symm), (h c).2.2.2⟩
    · rw [a0, a1, a2, a3, a4]
    all_goals rw [a0, a1, a2, a3]

theorem SsdConvBwd_ref : Cert.quiescent_SsdConvBwdRefIdeal := fun m ρ _ =>
  (θ_run Cert.SsdConvBwdRefIdeal.defs _ _).mono (fun r h => ⟨fun c => (h c).2.2.2, sem_eq_zero_of_no_sems rfl _⟩)
    (Cert.SsdConvBwdRefIdeal.Value.run m ρ)

end Cert.Proof

end
-- ==== Proof.NormBwdMath.lean ====
module
public import Idealize.ShloMosaic.PureOps
public import Idealize.ShloMosaic.Lib.Pointwise

/-!
The gradient of the norm at one row, in the two forms that the kernel and the reference write it, and their equation over the extended
reals. No entry has to be finite: if the mean of the squares is infinite both forms are the residual's gradient, and otherwise the
root of the norm is a positive real number, which may be moved through sums.
-/

@[expose] public section

noncomputable section

open Idealize.ShloMosaic
open scoped BigOperators

namespace Cert.RowNormGrad

/-- The mean of the squares of a row, and the constant under the root. -/
def level (x : Fin 2048 → EReal) : EReal :=
  Ideal.div (∑ k : Fin 2048, x k * x k) (Ideal.ofBits .f32 0x45000000#32) + Ideal.ofBits .f32 0x3727C5AC#32

/-- What a row is multiplied by. -/
def root (x : Fin 2048 → EReal) : EReal := Ideal.rsqrt (level x)

/-- The row's gradient as the kernel writes it: `a` is the cotangent times the weights. -/
def grad (x a : Fin 2048 → EReal) (l : Fin 2048) : EReal :=
  root x * (a l - x l * root x * Ideal.div (∑ k : Fin 2048, a k * (x k * root x)) (Ideal.ofBits .f32 0x45000000#32))

/-- What the reference multiplies the row with: the cotangent of the mean of the squares, for each entry. -/
def back (x a : Fin 2048 → EReal) : EReal :=
  Ideal.div ((∑ k : Fin 2048, x k * a k) * (Ideal.ofBits .f32 0xBF000000#32 * Ideal.div (root x) (level x))) (Ideal.ofBits .f32 0x45000000#32)

theorem n2048 : Ideal.ofBits .f32 0x45000000#32 = ((2048 : ℝ) : EReal) := by
  simp [Ideal.ofBits, Ideal.ieee, -EReal.coe_mul]
  norm_num

theorem neg_half : Ideal.ofBits .f32 0xBF000000#32 = ((-(1 / 2) : ℝ) : EReal) := by
  simp [Ideal.ofBits, Ideal.ieee, -EReal.coe_mul]
  norm_num

theorem eps_pos : ∃ e : ℝ, 0 < e ∧ Ideal.ofBits .f32 0x3727C5AC#32 = (e : EReal) :=
  ⟨10995116 * (2 ^ 40)⁻¹, by positivity, by
    simp [Ideal.ofBits, Ideal.ieee, -EReal.coe_mul]⟩

/-- Dividing by 2048 is multiplying by a real number. -/
theorem div_n (y : EReal) : Ideal.div y (Ideal.ofBits .f32 0x45000000#32) = y * (((2048 : ℝ)⁻¹ : ℝ) : EReal) := by
  rw [n2048]
  unfold Ideal.div
  rw [if_neg (by norm_num)]
  rfl

theorem sq_nonneg (y : EReal) : 0 ≤ y * y := by
  rcases le_total 0 y with h | h
  · exact EReal.mul_nonneg h h
  · have := EReal.mul_nonneg (EReal.neg_nonneg.mpr h) (EReal.neg_nonneg.mpr h)
    rwa [neg_mul, mul_neg, neg_neg] at this

/-- The level is infinite, or a positive real number. -/
theorem level_cases (x : Fin 2048 → EReal) : level x = ⊤ ∨ ∃ z : ℝ, 0 < z ∧ level x = (z : EReal) := by
  obtain ⟨e, he, hE⟩ := eps_pos
  have h0 : 0 ≤ ∑ k : Fin 2048, x k * x k := Finset.sum_nonneg fun k _ => sq_nonneg _
  unfold level
  rw [div_n, hE]
  generalize (∑ k : Fin 2048, x k * x k) = s at h0
  induction s with
  | bot => exact absurd h0 (by simp)
  | top => left; rw [EReal.top_mul_coe_of_pos (by norm_num)]; exact EReal.top_add_coe _
  | coe s =>
    right
    have hs : 0 ≤ s := EReal.coe_nonneg.mp h0
    exact ⟨s * 2048⁻¹ + e, by positivity, by push_cast; rfl⟩

/-- A nonnegative real factor of all terms is a factor of the sum. -/
theorem sum_mul_real {ι : Type*} (s : Finset ι) (f : ι → EReal) (r : ℝ) (hr : 0 ≤ r) : ∑ k ∈ s, f k * (r : EReal) = (∑ k ∈ s, f k) * (r : EReal) := by
  classical
  induction s using Finset.induction_on with
  | empty => simp
  | insert i s hi ih =>
    rw [Finset.sum_insert hi, Finset.sum_insert hi, ih,
      EReal.right_distrib_of_nonneg_of_ne_top (EReal.coe_nonneg.mpr hr) (EReal.coe_ne_top r)]

/-- A real multiple of a number, added to itself. -/
theorem twice (y : EReal) (q : ℝ) (hq : q < 0) : y * (q : EReal) + y * (q : EReal) = y * ((2 * q : ℝ) : EReal) := by
  have h2 : 2 * q < 0 := by linarith
  induction y with
  | bot => rw [EReal.bot_mul_coe_of_neg hq, EReal.bot_mul_coe_of_neg h2]; rfl
  | top => rw [EReal.top_mul_coe_of_neg hq, EReal.top_mul_coe_of_neg h2]; rfl
  | coe y => rw [← EReal.coe_mul, ← EReal.coe_mul, ← EReal.coe_add]; congr 1; ring

/-- The two forms of a row's gradient are equal. -/
theorem grad_eq (x a : Fin 2048 → EReal) (l : Fin 2048) : grad x a l = a l * root x + x l * back x a + back x a * x l := by
  unfold grad back root
  rw [div_n, div_n, neg_half]
  rcases level_cases x with h | ⟨z, hz, h⟩
  · rw [h]
    have hd : Ideal.div 0 ⊤ = 0 := by
      unfold Ideal.div
      rw [if_neg (by simp), zero_mul]
    simp [hd]
  · rw [h]
    obtain ⟨r, hr, hR⟩ : ∃ r : ℝ, 0 < r ∧ Ideal.rsqrt (z : EReal) = (r : EReal) ∧ r * r = z⁻¹ := by
      refine ⟨(Real.sqrt z)⁻¹, by positivity, ?_, ?_⟩
      · rw [Ideal.rsqrt_coe, if_neg hz.not_gt, if_neg hz.ne']
      · rw [← mul_inv, Real.mul_self_sqrt hz.le]
    obtain ⟨hR, hrr⟩ := hR
    rw [hR]
    have hd : Ideal.div (r : EReal) (z : EReal) = ((r * z⁻¹ : ℝ) : EReal) := by
      unfold Ideal.div
      rw [if_neg (by exact_mod_cast hz.ne')]
      rfl
    have hs : ∑ k : Fin 2048, a k * (x k * (r : EReal)) = (∑ k : Fin 2048, x k * a k) * (r : EReal) := by
      rw [← sum_mul_real _ _ r hr.le]
      exact Finset.sum_congr rfl fun k _ => by rw [← mul_assoc, mul_comm (a k)]
    rw [hd, hs]
    generalize (∑ k : Fin 2048, x k * a k) = T
    have e1 : x l * (r : EReal) * (T * (r : EReal) * (((2048 : ℝ)⁻¹ : ℝ) : EReal)) = x l * T * ((r * r * 2048⁻¹ : ℝ) : EReal) := by
      rw [EReal.coe_mul, EReal.coe_mul]; ac_rfl
    have e2 : x l * (T * (((-(1 / 2) : ℝ) : EReal) * ((r * z⁻¹ : ℝ) : EReal)) * (((2048 : ℝ)⁻¹ : ℝ) : EReal))
        = x l * T * ((-(1 / 2) * (r * z⁻¹) * 2048⁻¹ : ℝ) : EReal) := by
      rw [EReal.coe_mul (-(1 / 2) * (r * z⁻¹)), EReal.coe_mul (-(1 / 2)) (r * z⁻¹)]; ac_rfl
    have hq : (-(1 / 2) * (r * z⁻¹) * 2048⁻¹ : ℝ) < 0 := by
      have : 0 < r * z⁻¹ := by positivity
      linarith
    rw [mul_comm _ (x l), e1, e2, sub_eq_add_neg, EReal.left_distrib_of_nonneg_of_ne_top (EReal.coe_nonneg.mpr hr.le) (EReal.coe_ne_top r),
      add_assoc, twice _ _ hq, mul_comm (a l), ← mul_neg, ← EReal.coe_neg]
    congr 1
    rw [mul_left_comm, ← EReal.coe_mul]
    congr 2
    rw [← hrr]
    ring

end Cert.RowNormGrad

end
-- ==== Proof.LossHeadArrays.lean ====
module
public import proofs.«01_k».proof.Proof.NormBwdMath
public import proofs.«01_k».proof.Proof.Gen.LossHeadIdeal.Frame
public import proofs.«01_k».proof.Proof.Gen.LossHeadIdeal.Value
public import Idealize.ShloMosaic.Lib.Pipeline.ReadBack
public import Idealize.ShloMosaic.Lib.Pipeline.ValueKit
public import Idealize.ShloMosaic.Lib.Pointwise

/-!
The four arrays that the loss head leaves. It goes over sixteen tiles of 256 rows. The gradient of the rows is written tile by tile, once in
each format; the gradient of the weights and the terms of the loss are added up over the tiles, in eight rows: row `i` holds the sum over
the tokens that are `i` modulo 8.
-/

@[expose] public section

set_option maxRecDepth 16384

noncomputable section

open Idealize.ShloMosaic Idealize.ShloMosaic.TcCoe Idealize.SL.Sem
open Idealize.ShloMosaic.Pipeline (Dat)
open scoped BigOperators

namespace Cert.LossTerms

open Cert.RowNormGrad

/-- The error of a normed row. -/
def err (x w g : Fin 2048 → EReal) (l : Fin 2048) : EReal := x l * root x * w l - g l

/-- The cotangent of the row: the error divided by the number of features. -/
def back (x w g : Fin 2048 → EReal) (l : Fin 2048) : EReal := err x w g l * Ideal.ofBits .f32 0x3A000000#32

/-- What a token adds to the loss at one feature. -/
def term (x w g : Fin 2048 → EReal) (l : Fin 2048) : EReal := err x w g l * err x w g l * Ideal.ofBits .f32 0x39800000#32

theorem c_back : Ideal.ofBits .f32 0x3A000000#32 = (((2048 : ℝ)⁻¹ : ℝ) : EReal) := by
  simp [Ideal.ofBits, Ideal.ieee, -EReal.coe_mul]
  norm_num

theorem c_term : Ideal.ofBits .f32 0x39800000#32 = (((4096 : ℝ)⁻¹ : ℝ) : EReal) := by
  simp [Ideal.ofBits, Ideal.ieee, -EReal.coe_mul]
  norm_num

theorem c_half : Ideal.ofBits .f32 0x3F000000#32 = ((2⁻¹ : ℝ) : EReal) := by
  simp [Ideal.ofBits, Ideal.ieee, -EReal.coe_mul]
  norm_num

theorem c_one : Ideal.ofBits .f32 0x3F800000#32 = ((1 : ℝ) : EReal) := by
  simp [Ideal.ofBits, Ideal.ieee, -EReal.coe_mul]
  norm_num

theorem c_two : Ideal.ofBits .f32 0x40000000#32 = ((2 : ℝ) : EReal) := by
  simp [Ideal.ofBits, Ideal.ieee, -EReal.coe_mul]
  norm_num

/-- The cotangent of a square in the reference: half of a mean's share, times twice the error. -/
theorem back_eq (y : EReal) :
    Ideal.div (Ideal.ofBits .f32 0x3F000000#32 * Ideal.ofBits .f32 0x3F800000#32) (Ideal.ofBits .f32 0x45000000#32) * (Ideal.ofBits .f32 0x40000000#32 * y)
      = y * Ideal.ofBits .f32 0x3A000000#32 := by
  rw [div_n, c_half, c_one, c_two, c_back, ← mul_assoc, ← EReal.coe_mul, ← EReal.coe_mul, ← EReal.coe_mul, mul_comm]
  congr 2
  norm_num

/-- Half of a sum's share is the sum of the terms. -/
theorem term_eq {ι : Type*} (s : Finset ι) (f : ι → EReal) :
    Ideal.ofBits .f32 0x3F000000#32 * Ideal.div (∑ k ∈ s, f k) (Ideal.ofBits .f32 0x45000000#32) = ∑ k ∈ s, f k * Ideal.ofBits .f32 0x39800000#32 := by
  rw [div_n, c_half, c_term, sum_mul_real _ _ _ (by norm_num), mul_left_comm, ← EReal.coe_mul]
  congr 2
  norm_num

end Cert.LossTerms

namespace Cert.LossHeadIdeal.Value

open Cert.LossHeadIdeal Cert.LossHeadIdeal.Gen Cert.RowNormGrad Cert.LossTerms

variable (m : (ℓ : Loc nD τ sig) → Buf (Elt Ideal) ℓ)

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem tN (t : Fin cfg0.N) : t.val < 16 := lt_of_lt_of_eq t.isLt N_0

/-- Row `r` of grid point `t`. -/
def row (t : Fin cfg0.N) (r : Fin 256) : Fin 4096 := ⟨t.val * 256 + r.val, by have := tN t; omega⟩

/-- One row of the input. -/
abbrev rowX (c : Dev nD) (n : Fin 4096) : Fin 2048 → EReal := fun k => m ((c : Thread nD τ).loc main_arg0) (ix2 n k)
/-- The weights. -/
abbrev wts (c : Dev nD) : Fin 2048 → EReal := fun k => m ((c : Thread nD τ).loc main_arg1) (ix1 k)
/-- One row of the target. -/
abbrev rowG (c : Dev nD) (n : Fin 4096) : Fin 2048 → EReal := fun k => m ((c : Thread nD τ).loc main_arg2) (ix2 n k)

theorem blkX (c : Dev nD) (t : Fin cfg0.N) (r : Fin 256) (k : Fin 2048) : iblk m c 0 t (ix2 r k) = rowX m c (row t r) k := by
  have ht := tN t
  have hV : V m c (Pipeline.arrRef spec0 0) = m ((c : Thread nD τ).loc main_arg0) := V_main_arg0 m c
  blk_point [iblk, hV, idx_val t, row, rowX]

theorem blkG (c : Dev nD) (t : Fin cfg0.N) (r : Fin 256) (k : Fin 2048) : iblk m c 2 t (ix2 r k) = rowG m c (row t r) k := by
  have ht := tN t
  have hV : V m c (Pipeline.arrRef spec0 2) = m ((c : Thread nD τ).loc main_arg2) := V_main_arg2 m c
  blk_point [iblk, hV, idx_val t, row, rowG]

theorem V_wts (c : Dev nD) : (V m c (Pipeline.arrRef spec0 1) : FVec Ideal S1x2048 .f32)
    = shapeCast S1x2048 (m ((c : Thread nD τ).loc main_arg1) : FVec Ideal S2048 .f32) shapeCasts_S2048_S1x2048 := by
  show StableHlo.after (hostOps0 (F := Ideal)) (fun b => m (c, b)) main_v0 = _
  after_results_simp
  rfl

theorem blkW (c : Dev nD) (t : Fin cfg0.N) (k : Fin 2048) : iblk m c 1 t (ix2 0 k) = wts m c k := by
  have ht := tN t
  have hV := V_wts m c
  have e : (shapeCast S1x2048 (m ((c : Thread nD τ).loc main_arg1) : FVec Ideal S2048 .f32) shapeCasts_S2048_S1x2048) (ix2 0 k) = wts m c k := by
    pointwise
  rw [← e]
  blk_point [iblk, hV, idx_val t]

theorem pay7_apply (x : Vec Ideal S256x2048 .f32) (w : Vec Ideal S1x2048 .f32) (g : Vec Ideal S256x2048 .f32) (r : Fin 256) (l : Fin 2048) :
    k0_pay7 (F := Ideal) x w g (ix2 r l) = err (fun k => x (ix2 r k)) (fun k => w (ix2 0 k)) (fun k => g (ix2 r k)) l := by
  pointwise [k0_pay7, k0_pay6, k0_pay5, k0_pay4, err, root, level]

theorem pay9_apply (x : Vec Ideal S256x2048 .f32) (w : Vec Ideal S1x2048 .f32) (g : Vec Ideal S256x2048 .f32) (r : Fin 256) (l : Fin 2048) :
    k0_pay9 (F := Ideal) x w g (ix2 r l)
      = grad (fun k => x (ix2 r k)) (fun k => back (fun k => x (ix2 r k)) (fun k => w (ix2 0 k)) (fun k => g (ix2 r k)) k * w (ix2 0 k)) l := by
  pointwise [k0_pay9, k0_pay8, k0_pay7, k0_pay6, k0_pay5, k0_pay4, grad, Cert.LossTerms.back, err, root, level]

theorem pay10_apply (x : Vec Ideal S256x2048 .f32) (w : Vec Ideal S1x2048 .f32) (g : Vec Ideal S256x2048 .f32) (r : Fin 256) (l : Fin 2048) :
    k0_pay10 (F := Ideal) x w g (ix2 r l)
      = grad (fun k => x (ix2 r k)) (fun k => back (fun k => x (ix2 r k)) (fun k => w (ix2 0 k)) (fun k => g (ix2 r k)) k * w (ix2 0 k)) l :=
  (by pointwise [k0_pay10] : k0_pay10 (F := Ideal) x w g (ix2 r l) = k0_pay9 (F := Ideal) x w g (ix2 r l)).trans (pay9_apply x w g r l)

theorem pay11_apply (x : Vec Ideal S256x2048 .f32) (w : Vec Ideal S1x2048 .f32) (g : Vec Ideal S256x2048 .f32) (i : Fin 8) (l : Fin 2048) :
    k0_pay11 (F := Ideal) x w g (ix2 i l)
      = ∑ s : Fin 32, back (fun k => x (ix2 ⟨s.val * 8 + i.val, by omega⟩ k)) (fun k => w (ix2 0 k)) (fun k => g (ix2 ⟨s.val * 8 + i.val, by omega⟩ k)) l
          * (x (ix2 ⟨s.val * 8 + i.val, by omega⟩ l) * root (fun k => x (ix2 ⟨s.val * 8 + i.val, by omega⟩ k))) := by
  pointwise [k0_pay11, k0_pay8, k0_pay7, k0_pay6, k0_pay5, k0_pay4, Cert.LossTerms.back, err, root, level]

theorem pay2_apply (e : Vec Ideal S256x2048 .f32) (i : Fin 8) (l : Fin 2048) :
    k0_pay2 (F := Ideal) e (ix2 i l)
      = (∑ s : Fin 32, e (ix2 ⟨s.val * 8 + i.val, by omega⟩ l) * e (ix2 ⟨s.val * 8 + i.val, by omega⟩ l)) * Ideal.ofBits .f32 0x39800000#32 := by
  pointwise [k0_pay2]

/-- The gradient of the rows, as one array. -/
def rowGrad (c : Dev nD) : FVec Ideal S4096x2048 .f32 :=
  fun j => grad (rowX m c (j 0)) (fun k => back (rowX m c (j 0)) (wts m c) (rowG m c (j 0)) k * wts m c k) (j 1)

/-- What one token adds to the gradient of the weights. -/
def tokenPart (c : Dev nD) (n : Fin 4096) (l : Fin 2048) : EReal :=
  rowX m c n l * root (rowX m c n) * back (rowX m c n) (wts m c) (rowG m c n) l

/-- What one token adds to the loss. -/
def tokenTerm (c : Dev nD) (n : Fin 4096) (l : Fin 2048) : EReal := term (rowX m c n) (wts m c) (rowG m c n) l

/-- Token `q` among those that are `i` modulo 8. -/
def token (q : Fin 512) (i : Fin 8) : Fin 4096 := ⟨q.val * 8 + i.val, by omega⟩

/-- The gradient of the weights in eight rows, as one array. -/
def weightGrad (c : Dev nD) : FVec Ideal S8x2048 .f32 := fun j => ∑ q : Fin 512, tokenPart m c (token q (j 0)) (j 1)

/-- The terms of the loss in eight rows, as one array. -/
def lossTerms (c : Dev nD) : FVec Ideal S8x2048 .f32 := fun j => ∑ q : Fin 512, tokenTerm m c (token q (j 0)) (j 1)

/-- What one tile adds to the gradient of the weights. -/
def tilePart (c : Dev nD) (t : Fin cfg0.N) (i : Fin 8) (l : Fin 2048) : EReal :=
  ∑ s : Fin 32, tokenPart m c (row t ⟨s.val * 8 + i.val, by omega⟩) l

/-- What one tile adds to the terms of the loss. -/
def tileTerm (c : Dev nD) (t : Fin cfg0.N) (i : Fin 8) (l : Fin 2048) : EReal :=
  ∑ s : Fin 32, tokenTerm m c (row t ⟨s.val * 8 + i.val, by omega⟩) l

theorem tile_apply (c : Dev nD) (t : Fin cfg0.N) (i : Fin 8) (l : Fin 2048) :
    k0_pay11 (F := Ideal) (iblk m c 0 t) (iblk m c 1 t) (iblk m c 2 t) (ix2 i l) = tilePart m c t i l := by
  rw [pay11_apply]
  refine Finset.sum_congr rfl fun s _ => ?_
  simp only [blkX, blkW, blkG]
  exact mul_comm _ _

theorem tile_term_apply (c : Dev nD) (t : Fin cfg0.N) (i : Fin 8) (l : Fin 2048) :
    k0_pay2 (F := Ideal) (k0_pay7 (F := Ideal) (iblk m c 0 t) (iblk m c 1 t) (iblk m c 2 t)) (ix2 i l) = tileTerm m c t i l := by
  rw [pay2_apply, c_term, ← sum_mul_real _ _ _ (by norm_num), ← c_term]
  refine Finset.sum_congr rfl fun s _ => ?_
  rw [pay7_apply]
  simp only [blkX, blkW, blkG]
  rfl

theorem rows_at (c : Dev nD) (t : Fin cfg0.N) (r : Fin 256) (l : Fin 2048) (j : S4096x2048.Idx) (h0 : (j 0).val = t.val * 256 + r.val) (h1 : (j 1).val = l.val) :
    grad (rowX m c (row t r)) (fun k => back (rowX m c (row t r)) (wts m c) (rowG m c (row t r)) k * wts m c k) l = rowGrad m c j := by
  have e0 : j 0 = row t r := Fin.ext h0
  have e1 : j 1 = l := Fin.ext h1
  unfold rowGrad
  rw [e0, e1]

/-- A tile's gradient of the rows is the same at every grid point, in both formats. -/
theorem outs_rows (c : Dev nD) (t : Fin cfg0.N) :
    (outsAt0 m c t.val t.isLt).1 = k0_pay9 (F := Ideal) (iblk m c 0 t) (iblk m c 1 t) (iblk m c 2 t)
    ∧ (outsAt0 m c t.val t.isLt).2.1 = k0_pay10 (F := Ideal) (iblk m c 0 t) (iblk m c 1 t) (iblk m c 2 t) := by
  have ht := tN t
  by_cases h : t.val % 16 = 0
  · rw [outsAt0_A m c t h (by omega)]
    constructor <;> frame_out
    all_goals omega
  · rw [outsAt0_B m c t h (by omega)]
    constructor <;> frame_out
    all_goals omega

/-- The gradient of the rows after the run. -/
theorem final_rows (c : Dev nD) : (dats m 0 c).arrAt 3 (cfgs 0).N = rowGrad m c := by
  refine (dats m 0 c).arrAt_eq_of_covers 3 _ (by decide +kernel) fun t hf y => ?_
  have ht := tN t
  blk_simp; rw [after0_3, (outs_rows m c t).1]
  obtain ⟨r, l, rfl⟩ : ∃ (r : Fin 256) (l : Fin 2048), y = ix2 r l := ⟨y 0, y 1, eq_ix2 y⟩
  refine (pay9_apply _ _ _ r l).trans ?_
  simp only [blkX, blkW, blkG]
  refine rows_at m c t r l _ ?_ ?_
  all_goals (blk_simp [idx_val t])

/-- The same gradient in the other format. -/
theorem final_rows16 (c : Dev nD) : (dats m 0 c).arrAt 4 (cfgs 0).N = (rowGrad m c : S4096x2048.Idx → EReal) := by
  refine (dats m 0 c).arrAt_eq_of_covers 4 _ (by decide +kernel) fun t hf y => ?_
  have ht := tN t
  blk_simp; rw [after0_4, (outs_rows m c t).2]
  obtain ⟨r, l, rfl⟩ : ∃ (r : Fin 256) (l : Fin 2048), y = ix2 r l := ⟨y 0, y 1, eq_ix2 y⟩
  refine (pay10_apply _ _ _ r l).trans ?_
  simp only [blkX, blkW, blkG]
  refine rows_at m c t r l _ ?_ ?_
  all_goals (blk_simp [idx_val t])

theorem weights_first (c : Dev nD) (t : Fin cfg0.N) (h : t.val % 16 = 0) (j : S8x2048.Idx) :
    (outsAt0 m c t.val t.isLt).2.2.1 j = 0 + tilePart m c t (j 0) (j 1) := by
  have ht := tN t
  rw [outsAt0_A m c t h (by omega)]; frame_out
  obtain ⟨i, l, rfl⟩ : ∃ (i : Fin 8) (l : Fin 2048), j = ix2 i l := ⟨j 0, j 1, eq_ix2 j⟩
  rw [zero_add]
  exact tile_apply m c t i l
  all_goals omega

theorem weights_next (c : Dev nD) (t : Fin cfg0.N) (h : ¬t.val % 16 = 0) (j : S8x2048.Idx) :
    (outsAt0 m c t.val t.isLt).2.2.1 j
      = (outsAt0 m c (t.val - 1) (Nat.lt_of_le_of_lt (Nat.sub_le _ _) t.isLt)).2.2.1 j + tilePart m c t (j 0) (j 1) := by
  rw [outsAt0_B m c t h (by omega)]; frame_out
  obtain ⟨i, l, rfl⟩ : ∃ (i : Fin 8) (l : Fin 2048), j = ix2 i l := ⟨j 0, j 1, eq_ix2 j⟩
  refine Eq.trans ?_ (congrArg (_ + ·) (tile_apply m c t i l))
  pointwise [k0_pay1]
  all_goals omega

theorem congr_token (c : Dev nD) (n n' : Fin 4096) (l l' : Fin 2048) (hn : n = n') (hl : l = l') : tokenPart m c n l = tokenPart m c n' l' := by rw [hn, hl]

/-- The gradient of the weights after the run: the sixteen tiles add up to all tokens. -/
theorem final_weights (c : Dev nD) : (dats m 0 c).arrAt 5 (cfgs 0).N = weightGrad m c := by
  refine (dats m 0 c).arrAt_eq_of_covers 5 _ (by decide +kernel) fun t hf y => ?_
  have ht := tN t
  have hl15 := (flush0_5 t).mp hf
  blk_simp
  rw [after0_5, Pipeline.eq_sum_fin_of_reset_step_apply_of_flush (fun n h => (outsAt0 m c n h).2.2.1) 16 (fun _ => 0)
    (fun t j => tilePart m c t (j 0) (j 1)) (fun t h j => weights_first m c t h j) (fun t h j => weights_next m c t h j)
    t hl15 _, zero_add]
  unfold tilePart
  refine Fin.sum_mul_add_congr fun s k hl => ?_
  refine congr_token m c _ _ _ _ (Fin.ext ?_) (Fin.ext ?_)
  · have e : ((win0_5.blk t).view.emb y 0).val = (y 0).val := by blk_simp [idx_val t]
    show (16 * (t.val / 16) + s.val) * 256 + (k.val * 8 + (y 0).val) = (s.val * 32 + k.val) * 8 + ((win0_5.blk t).view.emb y 0).val
    omega
  · blk_simp [idx_val t]

theorem terms_first (c : Dev nD) (t : Fin cfg0.N) (h : t.val % 16 = 0) (j : S8x2048.Idx) :
    (outsAt0 m c t.val t.isLt).2.2.2 j = 0 + tileTerm m c t (j 0) (j 1) := by
  have ht := tN t
  rw [outsAt0_A m c t h (by omega)]; frame_out
  obtain ⟨i, l, rfl⟩ : ∃ (i : Fin 8) (l : Fin 2048), j = ix2 i l := ⟨j 0, j 1, eq_ix2 j⟩
  rw [zero_add]
  exact tile_term_apply m c t i l
  all_goals omega

theorem terms_next (c : Dev nD) (t : Fin cfg0.N) (h : ¬t.val % 16 = 0) (j : S8x2048.Idx) :
    (outsAt0 m c t.val t.isLt).2.2.2 j
      = (outsAt0 m c (t.val - 1) (Nat.lt_of_le_of_lt (Nat.sub_le _ _) t.isLt)).2.2.2 j + tileTerm m c t (j 0) (j 1) := by
  rw [outsAt0_B m c t h (by omega)]; frame_out
  obtain ⟨i, l, rfl⟩ : ∃ (i : Fin 8) (l : Fin 2048), j = ix2 i l := ⟨j 0, j 1, eq_ix2 j⟩
  refine Eq.trans ?_ (congrArg (_ + ·) (tile_term_apply m c t i l))
  pointwise [k0_pay3]
  all_goals omega

theorem congr_term (c : Dev nD) (n n' : Fin 4096) (l l' : Fin 2048) (hn : n = n') (hl : l = l') : tokenTerm m c n l = tokenTerm m c n' l' := by rw [hn, hl]

/-- The terms of the loss after the run: the sixteen tiles add up to all tokens. -/
theorem final_terms (c : Dev nD) : (dats m 0 c).arrAt 6 (cfgs 0).N = lossTerms m c := by
  refine (dats m 0 c).arrAt_eq_of_covers 6 _ (by decide +kernel) fun t hf y => ?_
  have ht := tN t
  have hl15 := (flush0_6 t).mp hf
  blk_simp
  rw [after0_6, Pipeline.eq_sum_fin_of_reset_step_apply_of_flush (fun n h => (outsAt0 m c n h).2.2.2) 16 (fun _ => 0)
    (fun t j => tileTerm m c t (j 0) (j 1)) (fun t h j => terms_first m c t h j) (fun t h j => terms_next m c t h j)
    t hl15 _, zero_add]
  unfold tileTerm
  refine Fin.sum_mul_add_congr fun s k hl => ?_
  refine congr_term m c _ _ _ _ (Fin.ext ?_) (Fin.ext ?_)
  · have e : ((win0_6.blk t).view.emb y 0).val = (y 0).val := by blk_simp [idx_val t]
    show (16 * (t.val / 16) + s.val) * 256 + (k.val * 8 + (y 0).val) = (s.val * 32 + k.val) * 8 + ((win0_6.blk t).view.emb y 0).val
    omega
  · blk_simp [idx_val t]

end Cert.LossHeadIdeal.Value

end
-- ==== Proof.LossHeadValue.lean ====
module
public import proofs.«01_k».proof.Proof.LossHeadArrays
public import proofs.«01_k».proof.Proof.Gen.LossHeadRefIdeal.Read
public import proofs.«01_k».proof.Proof.Gen.LossHeadRefIdeal.Run
public import proofs.«01_k».proof.Defs

/-!
The loss head, against the loss of the reference and its gradients: the gradient of the rows in both formats, the gradient of the weights
and the terms of the loss, both sums over tokens in eight rows.
-/

@[expose] public section

set_option maxRecDepth 16384

noncomputable section

open Idealize.ShloMosaic Idealize.ShloMosaic.TcCoe Idealize.SL.Sem
open scoped BigOperators

namespace Cert.LossHeadRefIdeal.Value

open Cert.LossHeadRefIdeal Cert.LossHeadRefIdeal.Gen Cert.LossHeadRefIdeal.Read Cert.RowNormGrad Cert.LossTerms

variable (x0 : FVec Ideal S4096x2048 .f32) (x1 : FVec Ideal S2048 .f32) (x2 : FVec Ideal S4096x2048 .f32)

/-- The cotangent of a row, times the weights. -/
theorem v32_at (n : Fin 4096) (l : Fin 2048) :
    val_main_v32 (F := Ideal) x0 x1 x2 (ix2 n l)
      = Cert.LossTerms.back (fun k => x0 (ix2 n k)) (fun k => x1 (ix1 k)) (fun k => x2 (ix2 n k)) l * x1 (ix1 l) := by
  unfold Cert.LossTerms.back
  rw [← back_eq]
  pointwise [val_main_v32, val_main_v31, val_main_v30, val_main_v29, val_main_v28, val_main_v27, val_main_cst_10, val_main_v26, val_main_v25, val_main_cst_9, val_main_cst_8, val_main_v24, val_main_cst_7, val_main_v23, val_main_cst_6, val_main_v22, val_main_v21, val_main_cst_5, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, err, root, level]

/-- The gradient of the rows. -/
theorem v46_at (n : Fin 4096) (l : Fin 2048) :
    val_main_v46 (F := Ideal) x0 x1 x2 (ix2 n l)
      = grad (fun k => x0 (ix2 n k)) (fun k => Cert.LossTerms.back (fun k => x0 (ix2 n k)) (fun k => x1 (ix1 k)) (fun k => x2 (ix2 n k)) k * x1 (ix1 k)) l := by
  rw [grad_eq]
  simp only [← v32_at]
  pointwise [val_main_v46, val_main_v45, val_main_v44, val_main_v43, val_main_v42, val_main_v41, val_main_cst_13, val_main_v40, val_main_v39, val_main_cst_12, val_main_v38, val_main_v37, val_main_v36, val_main_v35, val_main_v34, val_main_cst_11, val_main_v33, val_main_v10, val_main_v9, val_main_cst_2, val_main_v8, val_main_v7, val_main_v6, val_main_v5, val_main_cst_1, val_main_v4, val_main_v3, val_main_cst_0, val_main_v2, val_main_v1, val_main_cst, val_main_v0, Cert.RowNormGrad.back, root, level]
  simp only [Fin.sum_univ_one]

theorem v104_at (n : Fin 4096) (l : Fin 2048) : val_main_v104 (F := Ideal) x0 x1 x2 (ix2 n l) = val_main_v46 (F := Ideal) x0 x1 x2 (ix2 n l) := by
  pointwise [val_main_v104]

/-- The cotangent of a row, where the weights are copied. -/
theorem v77_at (n : Fin 4096) (l : Fin 2048) :
    val_main_v77 (F := Ideal) x0 x1 x2 (ix2 n l) = Cert.LossTerms.back (fun k => x0 (ix2 n k)) (fun k => x1 (ix1 k)) (fun k => x2 (ix2 n k)) l := by
  unfold Cert.LossTerms.back
  rw [← back_eq]
  pointwise [val_main_v77, val_main_v76, val_main_v75, val_main_v74, val_main_cst_24, val_main_v73, val_main_v72, val_main_cst_23, val_main_cst_22, val_main_v71, val_main_cst_21, val_main_v70, val_main_cst_20, val_main_v69, val_main_v68, val_main_cst_19, val_main_v67, val_main_cst_18, val_main_v66, val_main_v65, val_main_cst_17, val_main_v64, val_main_v63, val_main_v62, val_main_v61, val_main_v60, val_main_v59, val_main_v58, val_main_v57, val_main_v56, val_main_v55, val_main_v54, val_main_v53, val_main_cst_16, val_main_v52, val_main_v51, val_main_cst_15, val_main_v50, val_main_v49, val_main_cst_14, val_main_v48, val_main_v47, err, root, level]

/-- The gradient of the weights. -/
theorem v82_at (i : Fin 8) (l : Fin 2048) :
    val_main_v82 (F := Ideal) x0 x1 x2 (ix2 i l)
      = ∑ q : Fin 512, x0 (ix2 ⟨q.val * 8 + i.val, by omega⟩ l) * root (fun k => x0 (ix2 ⟨q.val * 8 + i.val, by omega⟩ k))
          * Cert.LossTerms.back (fun k => x0 (ix2 ⟨q.val * 8 + i.val, by omega⟩ k)) (fun k => x1 (ix1 k)) (fun k => x2 (ix2 ⟨q.val * 8 + i.val, by omega⟩ k)) l := by
  simp only [← v77_at]
  pointwise [val_main_v82, val_main_cst_26, val_main_v81, val_main_v80, val_main_cst_25, val_main_v79, val_main_v78, val_main_v58, val_main_v57, val_main_v56, val_main_v55, val_main_v54, val_main_v53, val_main_cst_16, val_main_v52, val_main_v51, val_main_cst_15, val_main_v50, val_main_v49, val_main_cst_14, val_main_v48, root, level]
  simp only [Fin.sum_univ_one]

/-- The terms of the loss. -/
theorem v103_at (i : Fin 8) (l : Fin 2048) :
    val_main_v103 (F := Ideal) x0 x1 x2 (ix2 i l)
      = ∑ q : Fin 512, term (fun k => x0 (ix2 ⟨q.val * 8 + i.val, by omega⟩ k)) (fun k => x1 (ix1 k)) (fun k => x2 (ix2 ⟨q.val * 8 + i.val, by omega⟩ k)) l := by
  unfold term
  rw [← term_eq]
  pointwise [val_main_v103, val_main_v102, val_main_cst_32, val_main_v101, val_main_v100, val_main_cst_31, val_main_v99, val_main_cst_30, val_main_v98, val_main_v97, val_main_v96, val_main_v95, val_main_v94, val_main_v93, val_main_v92, val_main_v91, val_main_v90, val_main_v89, val_main_v88, val_main_cst_29, val_main_v87, val_main_v86, val_main_cst_28, val_main_v85, val_main_v84, val_main_cst_27, val_main_v83, err, root, level]

end Cert.LossHeadRefIdeal.Value

namespace Cert.Proof

open Cert.LossHeadIdeal

variable (m : (ℓ : Loc nD τ sig) → Buf (Elt Idealize.ShloMosaic.Ideal) ℓ) (c : Dev nD)

/-- The equations of the four arrays. -/
theorem LossHead_rows_eq : (Gen.dats m 0 c).arrAt 3 (cfgs 0).N
    = Cert.LossHeadRefIdeal.Read.val_main_v46 (F := Idealize.ShloMosaic.Ideal) (m ((c : Thread nD τ).loc main_arg0)) (m ((c : Thread nD τ).loc main_arg1))
      (m ((c : Thread nD τ).loc main_arg2)) := by
  rw [Value.final_rows]
  funext j
  obtain ⟨a, b, rfl⟩ : ∃ a b, j = ix2 a b := ⟨j 0, j 1, eq_ix2 j⟩
  exact (Cert.LossHeadRefIdeal.Value.v46_at _ _ _ _ _).symm

theorem LossHead_rows16_eq : (Gen.dats m 0 c).arrAt 4 (cfgs 0).N
    = Cert.LossHeadRefIdeal.Read.val_main_v104 (F := Idealize.ShloMosaic.Ideal) (m ((c : Thread nD τ).loc main_arg0)) (m ((c : Thread nD τ).loc main_arg1))
      (m ((c : Thread nD τ).loc main_arg2)) := by
  rw [Value.final_rows16]
  funext j
  obtain ⟨a, b, rfl⟩ : ∃ a b, j = ix2 a b := ⟨j 0, j 1, eq_ix2 j⟩
  exact ((Cert.LossHeadRefIdeal.Value.v104_at _ _ _ _ _).trans (Cert.LossHeadRefIdeal.Value.v46_at _ _ _ _ _)).symm

theorem LossHead_weights_eq : (Gen.dats m 0 c).arrAt 5 (cfgs 0).N
    = Cert.LossHeadRefIdeal.Read.val_main_v82 (F := Idealize.ShloMosaic.Ideal) (m ((c : Thread nD τ).loc main_arg0)) (m ((c : Thread nD τ).loc main_arg1))
      (m ((c : Thread nD τ).loc main_arg2)) := by
  rw [Value.final_weights]
  funext j
  obtain ⟨a, b, rfl⟩ : ∃ a b, j = ix2 a b := ⟨j 0, j 1, eq_ix2 j⟩
  exact (Cert.LossHeadRefIdeal.Value.v82_at _ _ _ _ _).symm

theorem LossHead_terms_eq : (Gen.dats m 0 c).arrAt 6 (cfgs 0).N
    = Cert.LossHeadRefIdeal.Read.val_main_v103 (F := Idealize.ShloMosaic.Ideal) (m ((c : Thread nD τ).loc main_arg0)) (m ((c : Thread nD τ).loc main_arg1))
      (m ((c : Thread nD τ).loc main_arg2)) := by
  rw [Value.final_terms]
  funext j
  obtain ⟨a, b, rfl⟩ : ∃ a b, j = ix2 a b := ⟨j 0, j 1, eq_ix2 j⟩
  exact (Cert.LossHeadRefIdeal.Value.v103_at _ _ _ _ _).symm

/-- The four results of the loss head are the reference's, over the extended reals. -/
theorem LossHead_value : Cert.algebraic_LossHeadIdeal_LossHeadRefIdeal := by
  pair_intro
  · run_from Cert.LossHeadIdeal.Gen.run_main m g
  · run_from Cert.LossHeadRefIdeal.Value.run m' g'
    · obtain ⟨a0, a1, a2⟩ := hagree c
      refine (Cert.LossHeadRefIdeal.Read.val_main_v46_eq m' c).trans (Eq.trans ?_ (LossHead_rows_eq m c).symm)
      rw [a0, a1, a2]
    · obtain ⟨a0, a1, a2⟩ := hagree c
      refine (Cert.LossHeadRefIdeal.Read.val_main_v104_eq m' c).trans (Eq.trans ?_ (LossHead_rows16_eq m c).symm)
      rw [a0, a1, a2]
    · exact (Cert.LossHeadRefIdeal.Read.val_main_v82_eq _ _ _).trans (LossHead_weights_eq m c).symm
    · exact (Cert.LossHeadRefIdeal.Read.val_main_v103_eq _ _ _).trans (LossHead_terms_eq m c).symm

theorem LossHead_ref : Cert.quiescent_LossHeadRefIdeal := fun m ρ _ =>
  (θ_run Cert.LossHeadRefIdeal.defs _ _).mono (fun r h => ⟨fun c => (h c).2.2.2.2, sem_eq_zero_of_no_sems rfl _⟩)
    (Cert.LossHeadRefIdeal.Value.run m ρ)

end Cert.Proof

end
-- ==== Proof.NormBwdArrays.lean ====
module
public import proofs.«01_k».proof.Proof.NormBwdMath
public import proofs.«01_k».proof.Proof.Gen.NormBwdIdeal.Frame
public import proofs.«01_k».proof.Proof.Gen.NormBwdIdeal.Value
public import Idealize.ShloMosaic.Lib.Pipeline.ReadBack
public import Idealize.ShloMosaic.Lib.Pipeline.ValueKit
public import Idealize.ShloMosaic.Lib.Pointwise

/-!
The three arrays that the backward kernel of the norm leaves. It goes over sixteen tiles of 256 rows. The gradient of the rows is written tile by
tile, once in each format; the gradient of the weights is added up over the tiles, in eight rows: row `i` holds the sum over the tokens that
are `i` modulo 8.
-/

@[expose] public section

set_option maxRecDepth 16384

noncomputable section

open Idealize.ShloMosaic Idealize.ShloMosaic.TcCoe Idealize.SL.Sem
open Idealize.ShloMosaic.Pipeline (Dat)
open scoped BigOperators

namespace Cert.NormBwdIdeal.Value

open Cert.NormBwdIdeal Cert.NormBwdIdeal.Gen Cert.RowNormGrad

variable (m : (ℓ : Loc nD τ sig) → Buf (Elt Ideal) ℓ)

theorem idx_val : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

theorem tN (t : Fin cfg0.N) : t.val < 16 := lt_of_lt_of_eq t.isLt N_0

/-- Row `r` of grid point `t`. -/
def row (t : Fin cfg0.N) (r : Fin 256) : Fin 4096 := ⟨t.val * 256 + r.val, by have := tN t; omega⟩

/-- One row of the cotangent. -/
abbrev rowH (c : Dev nD) (n : Fin 4096) : Fin 2048 → EReal := fun k => m ((c : Thread nD τ).loc main_arg0) (ix2 n k)
/-- One row of the input. -/
abbrev rowX (c : Dev nD) (n : Fin 4096) : Fin 2048 → EReal := fun k => m ((c : Thread nD τ).loc main_arg1) (ix2 n k)
/-- The weights. -/
abbrev wts (c : Dev nD) : Fin 2048 → EReal := fun k => m ((c : Thread nD τ).loc main_arg2) (ix1 k)
/-- One row of the gradient along the residual connection. -/
abbrev rowD (c : Dev nD) (n : Fin 4096) : Fin 2048 → EReal := fun k => m ((c : Thread nD τ).loc main_arg3) (ix2 n k)

theorem blkH (c : Dev nD) (t : Fin cfg0.N) (r : Fin 256) (k : Fin 2048) : iblk m c 0 t (ix2 r k) = rowH m c (row t r) k := by
  have ht := tN t
  have hV : V m c (Pipeline.arrRef spec0 0) = m ((c : Thread nD τ).loc main_arg0) := V_main_arg0 m c
  blk_point [iblk, hV, idx_val t, row, rowH]

theorem blkX (c : Dev nD) (t : Fin cfg0.N) (r : Fin 256) (k : Fin 2048) : iblk m c 1 t (ix2 r k) = rowX m c (row t r) k := by
  have ht := tN t
  have hV : V m c (Pipeline.arrRef spec0 1) = m ((c : Thread nD τ).loc main_arg1) := V_main_arg1 m c
  blk_point [iblk, hV, idx_val t, row, rowX]

theorem blkD (c : Dev nD) (t : Fin cfg0.N) (r : Fin 256) (k : Fin 2048) : iblk m c 3 t (ix2 r k) = rowD m c (row t r) k := by
  have ht := tN t
  have hV : V m c (Pipeline.arrRef spec0 3) = m ((c : Thread nD τ).loc main_arg3) := V_main_arg3 m c
  blk_point [iblk, hV, idx_val t, row, rowD]

theorem V_wts (c : Dev nD) : (V m c (Pipeline.arrRef spec0 2) : FVec Ideal S1x2048 .f32)
    = shapeCast S1x2048 (m ((c : Thread nD τ).loc main_arg2) : FVec Ideal S2048 .f32) shapeCasts_S2048_S1x2048 := by
  show StableHlo.after (hostOps0 (F := Ideal)) (fun b => m (c, b)) main_v0 = _
  after_results_simp
  rfl

theorem blkW (c : Dev nD) (t : Fin cfg0.N) (k : Fin 2048) : iblk m c 2 t (ix2 0 k) = wts m c k := by
  have ht := tN t
  have hV := V_wts m c
  have e : (shapeCast S1x2048 (m ((c : Thread nD τ).loc main_arg2) : FVec Ideal S2048 .f32) shapeCasts_S2048_S1x2048) (ix2 0 k) = wts m c k := by
    pointwise
  rw [← e]
  blk_point [iblk, hV, idx_val t]

theorem pay5_apply (x : Vec Ideal S256x2048 .f32) (h : Vec Ideal S256x2048 .bf16) (w : Vec Ideal S1x2048 .f32) (d : Vec Ideal S256x2048 .f32) (r : Fin 256) (l : Fin 2048) :
    k0_pay5 (F := Ideal) x h w d (ix2 r l) = d (ix2 r l) + grad (fun k => x (ix2 r k)) (fun k => h (ix2 r k) * w (ix2 0 k)) l := by
  pointwise [k0_pay5, k0_pay4, k0_pay3, k0_pay2, grad, root, level]

theorem pay6_apply (x : Vec Ideal S256x2048 .f32) (h : Vec Ideal S256x2048 .bf16) (w : Vec Ideal S1x2048 .f32) (d : Vec Ideal S256x2048 .f32) (r : Fin 256) (l : Fin 2048) :
    k0_pay6 (F := Ideal) x h w d (ix2 r l) = d (ix2 r l) + grad (fun k => x (ix2 r k)) (fun k => h (ix2 r k) * w (ix2 0 k)) l :=
  (by pointwise [k0_pay6] : k0_pay6 (F := Ideal) x h w d (ix2 r l) = k0_pay5 (F := Ideal) x h w d (ix2 r l)).trans (pay5_apply x h w d r l)

theorem pay7_apply (x : Vec Ideal S256x2048 .f32) (h : Vec Ideal S256x2048 .bf16) (i : Fin 8) (l : Fin 2048) :
    k0_pay7 (F := Ideal) x h (ix2 i l)
      = ∑ s : Fin 32, h (ix2 ⟨s.val * 8 + i.val, by omega⟩ l) * (x (ix2 ⟨s.val * 8 + i.val, by omega⟩ l) * root (fun k => x (ix2 ⟨s.val * 8 + i.val, by omega⟩ k))) := by
  pointwise [k0_pay7, k0_pay4, k0_pay3, k0_pay2, root, level]

/-- The gradient of the rows, as one array. -/
def rowGrad (c : Dev nD) : FVec Ideal S4096x2048 .f32 := fun j => rowD m c (j 0) (j 1) + grad (rowX m c (j 0)) (fun k => rowH m c (j 0) k * wts m c k) (j 1)

/-- What one token adds to the gradient of the weights. -/
def tokenPart (c : Dev nD) (n : Fin 4096) (l : Fin 2048) : EReal := rowX m c n l * root (rowX m c n) * rowH m c n l

/-- Token `q` among those that are `i` modulo 8. -/
def token (q : Fin 512) (i : Fin 8) : Fin 4096 := ⟨q.val * 8 + i.val, by omega⟩

/-- The gradient of the weights in eight rows, as one array. -/
def weightGrad (c : Dev nD) : FVec Ideal S8x2048 .f32 := fun j => ∑ q : Fin 512, tokenPart m c (token q (j 0)) (j 1)

/-- What one tile adds to it. -/
def tilePart (c : Dev nD) (t : Fin cfg0.N) (i : Fin 8) (l : Fin 2048) : EReal :=
  ∑ s : Fin 32, tokenPart m c (row t ⟨s.val * 8 + i.val, by omega⟩) l

theorem tile_apply (c : Dev nD) (t : Fin cfg0.N) (i : Fin 8) (l : Fin 2048) :
    k0_pay7 (F := Ideal) (iblk m c 1 t) (iblk m c 0 t) (ix2 i l) = tilePart m c t i l := by
  rw [pay7_apply]
  refine Finset.sum_congr rfl fun s _ => ?_
  simp only [blkX, blkH]
  exact mul_comm _ _

theorem rows_at (c : Dev nD) (t : Fin cfg0.N) (r : Fin 256) (l : Fin 2048) (j : S4096x2048.Idx) (h0 : (j 0).val = t.val * 256 + r.val) (h1 : (j 1).val = l.val) :
    rowD m c (row t r) l + grad (rowX m c (row t r)) (fun k => rowH m c (row t r) k * wts m c k) l = rowGrad m c j := by
  have e0 : j 0 = row t r := Fin.ext h0
  have e1 : j 1 = l := Fin.ext h1
  unfold rowGrad
  rw [e0, e1]

/-- A tile's gradient of the rows is the same at every grid point, in both formats. -/
theorem outs_rows (c : Dev nD) (t : Fin cfg0.N) :
    (outsAt0 m c t.val t.isLt).1 = k0_pay5 (F := Ideal) (iblk m c 1 t) (iblk m c 0 t) (iblk m c 2 t) (iblk m c 3 t)
    ∧ (outsAt0 m c t.val t.isLt).2.1 = k0_pay6 (F := Ideal) (iblk m c 1 t) (iblk m c 0 t) (iblk m c 2 t) (iblk m c 3 t) := by
  have ht := tN t
  by_cases h : t.val % 16 = 0
  · rw [outsAt0_A m c t h (by omega)]
    constructor <;> frame_out
  · rw [outsAt0_B m c t h (by omega)]
    constructor <;> frame_out

/-- The gradient of the rows after the run. -/
theorem final_rows (c : Dev nD) : (dats m 0 c).arrAt 4 (cfgs 0).N = rowGrad m c := by
  refine (dats m 0 c).arrAt_eq_of_covers 4 _ (by decide +kernel) fun t hf y => ?_
  have ht := tN t
  blk_simp; rw [after0_4, (outs_rows m c t).1]
  obtain ⟨r, l, rfl⟩ : ∃ (r : Fin 256) (l : Fin 2048), y = ix2 r l := ⟨y 0, y 1, eq_ix2 y⟩
  refine (pay5_apply _ _ _ _ r l).trans ?_
  simp only [blkX, blkW, blkH, blkD]
  refine rows_at m c t r l _ ?_ ?_
  all_goals (blk_simp [idx_val t])

/-- The same gradient in the other format. -/
theorem final_rows16 (c : Dev nD) : (dats m 0 c).arrAt 5 (cfgs 0).N = (rowGrad m c : S4096x2048.Idx → EReal) := by
  refine (dats m 0 c).arrAt_eq_of_covers 5 _ (by decide +kernel) fun t hf y => ?_
  have ht := tN t
  blk_simp; rw [after0_5, (outs_rows m c t).2]
  obtain ⟨r, l, rfl⟩ : ∃ (r : Fin 256) (l : Fin 2048), y = ix2 r l := ⟨y 0, y 1, eq_ix2 y⟩
  refine (pay6_apply _ _ _ _ r l).trans ?_
  simp only [blkX, blkW, blkH, blkD]
  refine rows_at m c t r l _ ?_ ?_
  all_goals (blk_simp [idx_val t])

theorem weights_first (c : Dev nD) (t : Fin cfg0.N) (h : t.val % 16 = 0) (j : S8x2048.Idx) :
    (outsAt0 m c t.val t.isLt).2.2 j = 0 + tilePart m c t (j 0) (j 1) := by
  have ht := tN t
  rw [outsAt0_A m c t h (by omega)]; frame_out
  obtain ⟨i, l, rfl⟩ : ∃ (i : Fin 8) (l : Fin 2048), j = ix2 i l := ⟨j 0, j 1, eq_ix2 j⟩
  rw [zero_add]
  exact tile_apply m c t i l

theorem weights_next (c : Dev nD) (t : Fin cfg0.N) (h : ¬t.val % 16 = 0) (j : S8x2048.Idx) :
    (outsAt0 m c t.val t.isLt).2.2 j
      = (outsAt0 m c (t.val - 1) (Nat.lt_of_le_of_lt (Nat.sub_le _ _) t.isLt)).2.2 j + tilePart m c t (j 0) (j 1) := by
  rw [outsAt0_B m c t h (by omega)]; frame_out
  obtain ⟨i, l, rfl⟩ : ∃ (i : Fin 8) (l : Fin 2048), j = ix2 i l := ⟨j 0, j 1, eq_ix2 j⟩
  refine Eq.trans ?_ (congrArg (_ + ·) (tile_apply m c t i l))
  pointwise [k0_pay1]

theorem congr_token (c : Dev nD) (n n' : Fin 4096) (l l' : Fin 2048) (hn : n = n') (hl : l = l') : tokenPart m c n l = tokenPart m c n' l' := by rw [hn, hl]

/-- The gradient of the weights after the run: the sixteen tiles add up to all tokens. -/
theorem final_weights (c : Dev nD) : (dats m 0 c).arrAt 6 (cfgs 0).N = weightGrad m c := by
  refine (dats m 0 c).arrAt_eq_of_covers 6 _ (by decide +kernel) fun t hf y => ?_
  have ht := tN t
  have hl15 := (flush0_6 t).mp hf
  blk_simp
  rw [after0_6, Pipeline.eq_sum_fin_of_reset_step_apply_of_flush (fun n h => (outsAt0 m c n h).2.2) 16 (fun _ => 0)
    (fun t j => tilePart m c t (j 0) (j 1)) (fun t h j => weights_first m c t h j) (fun t h j => weights_next m c t h j)
    t hl15 _, zero_add]
  unfold tilePart
  refine Fin.sum_mul_add_congr fun s k hl => ?_
  refine congr_token m c _ _ _ _ (Fin.ext ?_) (Fin.ext ?_)
  · have e : ((win0_6.blk t).view.emb y 0).val = (y 0).val := by blk_simp [idx_val t]
    show (16 * (t.val / 16) + s.val) * 256 + (k.val * 8 + (y 0).val) = (s.val * 32 + k.val) * 8 + ((win0_6.blk t).view.emb y 0).val
    omega
  · blk_simp [idx_val t]

end Cert.NormBwdIdeal.Value

end
-- ==== Proof.NormBwdValue.lean ====
module
public import proofs.«01_k».proof.Proof.NormBwdArrays
public import proofs.«01_k».proof.Proof.Gen.NormBwdRefIdeal.Read
public import proofs.«01_k».proof.Proof.Gen.NormBwdRefIdeal.Run
public import proofs.«01_k».proof.Defs

/-!
The backward call of the norm, against the vector-Jacobian product of `rms_norm`: the gradient of the rows in both formats, with the
gradient along the residual connection added, and the gradient of the weights, a sum over tokens in eight rows.
-/

@[expose] public section

set_option maxRecDepth 16384

noncomputable section

open Idealize.ShloMosaic Idealize.ShloMosaic.TcCoe Idealize.SL.Sem
open scoped BigOperators

namespace Cert.NormBwdRefIdeal.Value

open Cert.NormBwdRefIdeal Cert.NormBwdRefIdeal.Gen Cert.NormBwdRefIdeal.Read Cert.RowNormGrad

variable (x0 : FVec Ideal S4096x2048 .bf16) (x1 : FVec Ideal S4096x2048 .f32) (x2 : FVec Ideal S2048 .f32) (x3 : FVec Ideal S4096x2048 .f32)

/-- The gradient of the rows. -/
theorem v34_at (n : Fin 4096) (l : Fin 2048) :
    val_main_v34 (F := Ideal) x0 x1 x2 x3 (ix2 n l)
      = x3 (ix2 n l) + grad (fun k => x1 (ix2 n k)) (fun k => x0 (ix2 n k) * x2 (ix1 k)) l := by
  rw [grad_eq]
  pointwise [val_main_v34, val_main_v33, val_main_v32, val_main_v31, val_main_v30, val_main_v29, val_main_v28, val_main_cst_5, val_main_v27, val_main_v26, val_main_cst_4, val_main_v25, val_main_v24, val_main_v23, val_main_v22, val_main_v21, val_main_cst_3, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, back, root, level]
  simp only [Fin.sum_univ_one]

/-- The gradient of the weights. -/
theorem v57_at (i : Fin 8) (l : Fin 2048) :
    val_main_v57 (F := Ideal) x0 x1 (ix2 i l)
      = ∑ q : Fin 512, x1 (ix2 ⟨q.val * 8 + i.val, by omega⟩ l) * root (fun k => x1 (ix2 ⟨q.val * 8 + i.val, by omega⟩ k)) * x0 (ix2 ⟨q.val * 8 + i.val, by omega⟩ l) := by
  pointwise [val_main_v57, val_main_cst_10, val_main_v56, val_main_v55, val_main_cst_9, val_main_v54, val_main_v53, val_main_v52, val_main_v51, val_main_v50, val_main_v49, val_main_v48, val_main_v47, val_main_v46, val_main_v45, val_main_v44, val_main_v43, val_main_v42, val_main_v41, val_main_cst_8, val_main_v40, val_main_v39, val_main_cst_7, val_main_v38, val_main_v37, val_main_cst_6, val_main_v36, val_main_v35, root, level]
  simp only [Fin.sum_univ_one]

theorem v58_at (n : Fin 4096) (l : Fin 2048) : val_main_v58 (F := Ideal) x0 x1 x2 x3 (ix2 n l) = val_main_v34 (F := Ideal) x0 x1 x2 x3 (ix2 n l) := by
  pointwise [val_main_v58]

end Cert.NormBwdRefIdeal.Value

namespace Cert.Proof

open Cert.NormBwdIdeal

variable (m : (ℓ : Loc nD τ sig) → Buf (Elt Idealize.ShloMosaic.Ideal) ℓ) (c : Dev nD)

/-- The equations of the three arrays. -/
theorem NormBwd_rows_eq : (Gen.dats m 0 c).arrAt 4 (cfgs 0).N
    = Cert.NormBwdRefIdeal.Read.val_main_v34 (F := Idealize.ShloMosaic.Ideal) (m ((c : Thread nD τ).loc main_arg0)) (m ((c : Thread nD τ).loc main_arg1))
      (m ((c : Thread nD τ).loc main_arg2)) (m ((c : Thread nD τ).loc main_arg3)) := by
  rw [Value.final_rows]
  funext j
  obtain ⟨a, b, rfl⟩ : ∃ a b, j = ix2 a b := ⟨j 0, j 1, eq_ix2 j⟩
  exact (Cert.NormBwdRefIdeal.Value.v34_at _ _ _ _ _ _).symm

theorem NormBwd_rows16_eq : (Gen.dats m 0 c).arrAt 5 (cfgs 0).N
    = Cert.NormBwdRefIdeal.Read.val_main_v58 (F := Idealize.ShloMosaic.Ideal) (m ((c : Thread nD τ).loc main_arg0)) (m ((c : Thread nD τ).loc main_arg1))
      (m ((c : Thread nD τ).loc main_arg2)) (m ((c : Thread nD τ).loc main_arg3)) := by
  rw [Value.final_rows16]
  funext j
  obtain ⟨a, b, rfl⟩ : ∃ a b, j = ix2 a b := ⟨j 0, j 1, eq_ix2 j⟩
  exact ((Cert.NormBwdRefIdeal.Value.v58_at _ _ _ _ _ _).trans (Cert.NormBwdRefIdeal.Value.v34_at _ _ _ _ _ _)).symm

theorem NormBwd_weights_eq : (Gen.dats m 0 c).arrAt 6 (cfgs 0).N
    = Cert.NormBwdRefIdeal.Read.val_main_v57 (F := Idealize.ShloMosaic.Ideal) (m ((c : Thread nD τ).loc main_arg0)) (m ((c : Thread nD τ).loc main_arg1)) := by
  rw [Value.final_weights]
  funext j
  obtain ⟨a, b, rfl⟩ : ∃ a b, j = ix2 a b := ⟨j 0, j 1, eq_ix2 j⟩
  exact (Cert.NormBwdRefIdeal.Value.v57_at _ _ _ _).symm

/-- The three gradients of the norm's backward call are the reference's, over the extended reals. -/
theorem NormBwd_value : Cert.algebraic_NormBwdIdeal_NormBwdRefIdeal := by
  pair_intro
  · run_from Cert.NormBwdIdeal.Gen.run_main m g
  · run_from Cert.NormBwdRefIdeal.Value.run m' g'
    · exact (Cert.NormBwdRefIdeal.Read.val_main_v34_eq _ _ _ _).trans (NormBwd_rows_eq m c).symm
    · obtain ⟨a0, a1, a2, a3⟩ := hagree c
      refine (Cert.NormBwdRefIdeal.Read.val_main_v58_eq m' c).trans (Eq.trans ?_ (NormBwd_rows16_eq m c).symm)
      rw [a0, a1, a2, a3]
    · exact (Cert.NormBwdRefIdeal.Read.val_main_v57_eq _ _).trans (NormBwd_weights_eq m c).symm

theorem NormBwd_ref : Cert.quiescent_NormBwdRefIdeal := fun m ρ _ =>
  (θ_run Cert.NormBwdRefIdeal.defs _ _).mono (fun r h => ⟨fun c => (h c).2.2.2, sem_eq_zero_of_no_sems rfl _⟩)
    (Cert.NormBwdRefIdeal.Value.run m ρ)

end Cert.Proof

end
-- ==== Proof.FfnBlock.lean ====
module
public import proofs.«01_k».proof.Proof.FfnSpec
public import proofs.«01_k».proof.Proof.Gen.FfnActBwdIdeal.Value
public import Idealize.ShloMosaic.Lib.Pipeline.ValueKit
public import Idealize.ShloMosaic.Lib.Pointwise

/-!
What one grid point of the backward kernel of the feed-forward layer's convolution and gate computes, read at an index:
the tiles it loads, and the cotangents of the convolution's results on 512 tokens and the 16 that follow.
-/

@[expose] public section

set_option maxRecDepth 16384

noncomputable section

open Idealize.ShloMosaic Idealize.ShloMosaic.TcCoe Idealize.SL.Sem
open Idealize.ShloMosaic.Pipeline (Dat)
open scoped BigOperators

namespace Cert.FfnActBwdIdeal.Value

open Cert.FfnActBwdIdeal Cert.FfnActBwdIdeal.Gen Cert.Gate

variable (m : (ℓ : Loc nD τ sig) → Buf (Elt Ideal) ℓ)

/-- The blocks of every window at grid point `t`: the token tile is `t % 8`, the channel tile `t / 8`. -/
theorem idx_val : ∀ t : Fin cfg0.N, win0_0.index t = ![0, t.val % 8, t.val / 8]
    ∧ win0_1.index t = ![0, t.val % 8, t.val / 8]
    ∧ win0_2.index t = ![0, min ((t.val % 8 + 1) * 32) 255, t.val / 8]
    ∧ win0_3.index t = ![t.val % 8, t.val / 8]
    ∧ win0_4.index t = ![min ((t.val % 8 + 1) * 32) 255, t.val / 8]
    ∧ win0_5.index t = ![0, 0, t.val / 8]
    ∧ win0_6.index t = ![0, t.val % 8, t.val / 8]
    ∧ win0_7.index t = ![0, 0, t.val / 8]
    ∧ win0_8.index t = ![0, t.val / 8]
    ∧ (grid0.coords t 1).val = t.val % 8 :=
  (by decide +kernel : ∀ t : Fin grid0.N, _)

theorem coord1 (t : Fin cfg0.N) : (grid0.coords t 1).val = t.val % 8 := (idx_val t).2.2.2.2.2.2.2.2.2

theorem tN (t : Fin cfg0.N) : t.val < 88 := lt_of_lt_of_eq t.isLt N_0

/-- Lane `l` of grid point `t`, as a channel of the array. -/
def chan (t : Fin cfg0.N) (l : Fin 512) : Fin 5632 := ⟨t.val / 8 * 512 + l.val, by have := tN t; omega⟩

/-- Token `r` of grid point `t`. -/
def row (t : Fin cfg0.N) (r : Fin 512) : Fin 4096 := ⟨t.val % 8 * 512 + r.val, by omega⟩

/-- Token `e` of the block that follows grid point `t` (the last one, where nothing follows). -/
def after (t : Fin cfg0.N) (e : Fin 16) : Fin 4096 := ⟨min ((t.val % 8 + 1) * 32) 255 * 16 + e.val, by omega⟩

/-- Plane `p` of the convolution's input, one channel. -/
abbrev colU (c : Dev nD) (p : Fin 2) (ch : Fin 5632) : Fin 4096 → EReal := fun n => m ((c : Thread nD τ).loc main_arg0) (ix3 p n ch)
/-- The array of the convolution's results, which the host lines before the call compute. -/
def pre (c : Dev nD) : FVec Ideal S2x4096x5632 .bf16 := V m c main_v28
/-- Plane `p` of the convolution's results, one channel. -/
abbrev colP (c : Dev nD) (p : Fin 2) (ch : Fin 5632) : Fin 4096 → EReal := fun n => pre m c (ix3 p n ch)
/-- The cotangent of the result, one channel. -/
abbrev colD (c : Dev nD) (ch : Fin 5632) : Fin 4096 → EReal := fun n => m ((c : Thread nD τ).loc main_arg1) (ix2 n ch)
/-- The three taps of one channel. -/
abbrev taps (c : Dev nD) (p : Fin 2) (ch : Fin 5632) : Fin 3 → EReal := fun k => m ((c : Thread nD τ).loc main_arg2) (ix3 k p ch)
/-- The cotangent of plane `p` of the convolution's results, one channel. -/
abbrev colE (c : Dev nD) (p : Fin 2) (ch : Fin 5632) : Fin 4096 → EReal := dpre (colP m c 0 ch) (colP m c 1 ch) (colD m c ch) p

theorem blkU (c : Dev nD) (t : Fin cfg0.N) (p : Fin 2) (r l : Fin 512) : iblk m c 0 t (ix3 p r l) = colU m c p (chan t l) (row t r) := by
  have ht := tN t
  have hV : V m c (Pipeline.arrRef spec0 0) = m ((c : Thread nD τ).loc main_arg0) := V_main_arg0 m c
  blk_point [iblk, hV, idx_val t, chan, row, colU]

theorem blkP (c : Dev nD) (t : Fin cfg0.N) (p : Fin 2) (r l : Fin 512) : iblk m c 1 t (ix3 p r l) = colP m c p (chan t l) (row t r) := by
  have ht := tN t
  have hV : V m c (Pipeline.arrRef spec0 1) = pre m c := rfl
  blk_point [iblk, hV, idx_val t, chan, row, colP]

theorem blkPn (c : Dev nD) (t : Fin cfg0.N) (p : Fin 2) (r : Fin 16) (l : Fin 512) : iblk m c 2 t (ix3 p r l) = colP m c p (chan t l) (after t r) := by
  have ht := tN t
  have hV : V m c (Pipeline.arrRef spec0 2) = pre m c := rfl
  blk_point [iblk, hV, idx_val t, chan, after, colP]

theorem blkD (c : Dev nD) (t : Fin cfg0.N) (r l : Fin 512) : iblk m c 3 t (ix2 r l) = colD m c (chan t l) (row t r) := by
  have ht := tN t
  have hV : V m c (Pipeline.arrRef spec0 3) = m ((c : Thread nD τ).loc main_arg1) := V_main_arg1 m c
  blk_point [iblk, hV, idx_val t, chan, row, colD]

theorem blkDn (c : Dev nD) (t : Fin cfg0.N) (r : Fin 16) (l : Fin 512) : iblk m c 4 t (ix2 r l) = colD m c (chan t l) (after t r) := by
  have ht := tN t
  have hV : V m c (Pipeline.arrRef spec0 4) = m ((c : Thread nD τ).loc main_arg1) := V_main_arg1 m c
  blk_point [iblk, hV, idx_val t, chan, after, colD]

theorem blkW (c : Dev nD) (t : Fin cfg0.N) (k : Fin 3) (p : Fin 2) (l : Fin 512) : iblk m c 5 t (ix3 k p l) = taps m c p (chan t l) k := by
  have ht := tN t
  have hV : V m c (Pipeline.arrRef spec0 5) = m ((c : Thread nD τ).loc main_arg2) := V_main_arg2 m c
  blk_point [iblk, hV, idx_val t, chan, taps]

theorem pay6_apply (x : Vec Ideal S1x512x512 .bf16) (y : Vec Ideal S1x16x512 .bf16) (e : Fin 528) (l : Fin 512) :
    k0_pay6 (F := Ideal) x y (ix2 e l)
      = if h : e.val < 512 then x (ix3 0 ⟨e.val, h⟩ l) else y (ix3 0 ⟨e.val - 512, by omega⟩ l) := by
  pointwise [k0_pay6]

theorem pay7_apply (x : Vec Ideal S1x512x512 .bf16) (y : Vec Ideal S1x16x512 .bf16) (e : Fin 528) (l : Fin 512) :
    k0_pay7 (F := Ideal) x y (ix2 e l)
      = if h : e.val < 512 then x (ix3 0 ⟨e.val, h⟩ l) else y (ix3 0 ⟨e.val - 512, by omega⟩ l) := by
  pointwise [k0_pay7]

theorem pay8_apply (i : grid0.Coords) (x : Vec Ideal S512x512 .bf16) (y : Vec Ideal S16x512 .bf16) (e : Fin 528) (l : Fin 512) :
    k0_pay8 (F := Ideal) i x y (ix2 e l)
      = if h : e.val < 512 then x (ix2 ⟨e.val, h⟩ l) else if (i 1).val = 7 then (0 : EReal) else y (ix2 ⟨e.val - 512, by omega⟩ l) := by
  have hi : (i 1).val < 8 := (i 1).isLt
  pointwise [k0_pay8]
  split
  · rfl
  · exact sel_eq _ 7 hi (by omega) _ _

theorem pay10_apply (x : Vec Ideal S1x512x512 .bf16) (y : Vec Ideal S1x16x512 .bf16) (e : Fin 528) (l : Fin 512) :
    k0_pay10 (F := Ideal) (k0_pay9 x y) (Scalar.ofBits .f32 0x3F000000#32) (ix2 e l) = logi (k0_pay6 (F := Ideal) x y (ix2 e l)) := by
  rw [← logi_tanh, ← half_word]
  rfl

theorem pay11_apply (x : Vec Ideal S1x512x512 .bf16) (y : Vec Ideal S1x16x512 .bf16) (v d : FVec Ideal S528x512 .f32) (e : Fin 528) (l : Fin 512) :
    k0_pay11 (F := Ideal) (k0_pay6 x y) v d (k0_pay9 x y) (Scalar.ofBits .f32 0x3F000000#32) (ix2 e l)
      = dgate (k0_pay6 (F := Ideal) x y (ix2 e l)) (v (ix2 e l)) (d (ix2 e l)) := by
  rw [dgate, ← pay10_apply, ← one_word]
  rfl

theorem pay12_apply (x : Vec Ideal S1x512x512 .bf16) (y : Vec Ideal S1x16x512 .bf16) (d : FVec Ideal S528x512 .f32) (e : Fin 528) (l : Fin 512) :
    k0_pay12 (F := Ideal) (k0_pay6 x y) d (k0_pay9 x y) (Scalar.ofBits .f32 0x3F000000#32) (ix2 e l)
      = dval (k0_pay6 (F := Ideal) x y (ix2 e l)) (d (ix2 e l)) := by
  rw [dval, ← pay10_apply]
  rfl

/-- The extended tile of plane 0 of the convolution's results. -/
def gE (c : Dev nD) (t : Fin cfg0.N) : FVec Ideal S528x512 .f32 :=
  k0_pay6 (F := Ideal) (View.ld (iblk m c 1 t) (Rect.unit ![0, 0, 0] ![1, 512, 512] inb_S2x512x512_S1x512x512_0_0_0))
    (View.ld (iblk m c 2 t) (Rect.unit ![0, 0, 0] ![1, 16, 512] inb_S2x16x512_S1x16x512_0_0_0))

/-- The extended tile of plane 1 of the convolution's results. -/
def vE (c : Dev nD) (t : Fin cfg0.N) : FVec Ideal S528x512 .f32 :=
  k0_pay7 (F := Ideal) (View.ld (iblk m c 1 t) (Rect.unit ![1, 0, 0] ![1, 512, 512] inb_S2x512x512_S1x512x512_1_0_0))
    (View.ld (iblk m c 2 t) (Rect.unit ![1, 0, 0] ![1, 16, 512] inb_S2x16x512_S1x16x512_1_0_0))

/-- The extended tile of the cotangent. -/
def daE (c : Dev nD) (t : Fin cfg0.N) : FVec Ideal S528x512 .f32 := k0_pay8 (F := Ideal) (grid0.coords t) (iblk m c 3 t) (iblk m c 4 t)

/-- Half the hyperbolic tangent of half of plane 0. -/
def thE (c : Dev nD) (t : Fin cfg0.N) : FVec Ideal S528x512 .f32 :=
  k0_pay9 (F := Ideal) (View.ld (iblk m c 1 t) (Rect.unit ![0, 0, 0] ![1, 512, 512] inb_S2x512x512_S1x512x512_0_0_0))
    (View.ld (iblk m c 2 t) (Rect.unit ![0, 0, 0] ![1, 16, 512] inb_S2x16x512_S1x16x512_0_0_0))

/-- The extended tile of the cotangent of plane 0. -/
def dE0 (c : Dev nD) (t : Fin cfg0.N) : FVec Ideal S528x512 .f32 :=
  k0_pay11 (F := Ideal) (gE m c t) (vE m c t) (daE m c t) (thE m c t) (Scalar.ofBits .f32 0x3F000000#32)

/-- The extended tile of the cotangent of plane 1. -/
def dE1 (c : Dev nD) (t : Fin cfg0.N) : FVec Ideal S528x512 .f32 :=
  k0_pay12 (F := Ideal) (gE m c t) (daE m c t) (thE m c t) (Scalar.ofBits .f32 0x3F000000#32)

theorem gE_apply (c : Dev nD) (t : Fin cfg0.N) (e : Fin 528) (l : Fin 512) (n : Fin 4096) (h : n.val = t.val % 8 * 512 + e.val) :
    gE m c t (ix2 e l) = colP m c 0 (chan t l) n := by
  unfold gE
  rw [pay6_apply]
  split
  · rw [show n = row t ⟨e.val, by assumption⟩ from Fin.ext h, ← blkP]
    pointwise
  · rw [show n = after t ⟨e.val - 512, by omega⟩ from Fin.ext (by simp only [after]; omega), ← blkPn]
    pointwise

theorem vE_apply (c : Dev nD) (t : Fin cfg0.N) (e : Fin 528) (l : Fin 512) (n : Fin 4096) (h : n.val = t.val % 8 * 512 + e.val) :
    vE m c t (ix2 e l) = colP m c 1 (chan t l) n := by
  unfold vE
  rw [pay7_apply]
  split
  · rw [show n = row t ⟨e.val, by assumption⟩ from Fin.ext h, ← blkP]
    pointwise
  · rw [show n = after t ⟨e.val - 512, by omega⟩ from Fin.ext (by simp only [after]; omega), ← blkPn]
    pointwise

theorem daE_apply (c : Dev nD) (t : Fin cfg0.N) (e : Fin 528) (l : Fin 512) :
    daE m c t (ix2 e l) = tok (colD m c (chan t l)) (t.val % 8 * 512 + e.val) := by
  unfold daE tok
  rw [pay8_apply, coord1]
  split
  · rename_i h
    rw [dif_pos (by omega), blkD]
    rfl
  · split
    · rw [dif_neg (by omega)]
    · rw [dif_pos (by omega), blkDn]
      exact congrArg _ (Fin.ext (by simp only [after]; omega))

/-- The cotangent of plane 0 on the extended tile: zero where no token is left. -/
theorem dE0_apply (c : Dev nD) (t : Fin cfg0.N) (e : Fin 528) (l : Fin 512) :
    dE0 m c t (ix2 e l) = tok (colE m c 0 (chan t l)) (t.val % 8 * 512 + e.val) := by
  refine (pay11_apply _ _ (vE m c t) (daE m c t) e l).trans ?_
  rw [daE_apply]
  by_cases h : t.val % 8 * 512 + e.val < 4096
  · have hg := gE_apply m c t e l ⟨_, h⟩ rfl
    unfold gE at hg
    rw [hg, vE_apply m c t e l ⟨_, h⟩ rfl, tok, tok, dif_pos h, dif_pos h]
    rfl
  · rw [tok, tok, dif_neg h, dif_neg h, dgate_zero]

/-- The cotangent of plane 1 on the extended tile: zero where no token is left. -/
theorem dE1_apply (c : Dev nD) (t : Fin cfg0.N) (e : Fin 528) (l : Fin 512) :
    dE1 m c t (ix2 e l) = tok (colE m c 1 (chan t l)) (t.val % 8 * 512 + e.val) := by
  refine (pay12_apply _ _ (daE m c t) e l).trans ?_
  rw [daE_apply]
  by_cases h : t.val % 8 * 512 + e.val < 4096
  · have hg := gE_apply m c t e l ⟨_, h⟩ rfl
    unfold gE at hg
    rw [hg, tok, tok, dif_pos h, dif_pos h]
    rfl
  · rw [tok, tok, dif_neg h, dif_neg h, dval_zero]

end Cert.FfnActBwdIdeal.Value

end
-- ==== Proof.FfnArrays.lean ====
module
public import Idealize.ShloMosaic.Lib.Pipeline.ReadBack
public import proofs.«01_k».proof.Proof.FfnBlock
public import Idealize.ShloMosaic.Lib.Pipeline.ValueKit
public import Idealize.ShloMosaic.Lib.Pointwise

/-!
The three arrays the backward kernel of the feed-forward layer's convolution and gate leaves: the gradient of the input's two planes,
stored tile by tile, and the gradients of the taps and of the bias, accumulated over the token tiles of one channel tile.
-/

@[expose] public section

set_option maxRecDepth 16384

noncomputable section

open Idealize.ShloMosaic Idealize.ShloMosaic.TcCoe Idealize.SL.Sem
open Idealize.ShloMosaic.Pipeline (Dat)
open scoped BigOperators

namespace Cert.FfnActBwdIdeal.Value

open Cert.FfnActBwdIdeal Cert.FfnActBwdIdeal.Gen Cert.Gate

variable (m : (ℓ : Loc nD τ sig) → Buf (Elt Ideal) ℓ)

/-! ## The gradient of the input -/

theorem pay25_apply (g v d h : FVec Ideal S528x512 .f32) (cst : Ideal .f32) (w0 w1 w2 : Vec Ideal S1x1x512 .f32) (r l : Fin 512) :
    k0_pay26 (F := Ideal) (k0_pay25 (k0_pay11 g v d h cst) (k0_pay17 g v d h cst w0) (k0_pay19 g v d h cst) (k0_pay20 w1) w2) (ix3 0 r l)
      = k0_pay11 g v d h cst (ix2 ⟨(r.val + 528 - 526) % 528, by omega⟩ l) * w0 (ix3 0 0 l)
        + k0_pay11 g v d h cst (ix2 ⟨(r.val + 528 - 527) % 528, by omega⟩ l) * w1 (ix3 0 0 l)
        + k0_pay11 g v d h cst (ix2 ⟨r.val, by omega⟩ l) * w2 (ix3 0 0 l) := by
  pointwise [k0_pay26, k0_pay25, k0_pay17, k0_pay16, k0_pay19, k0_pay20, k0_pay22]

theorem pay5_apply (d : FVec Ideal S528x512 .f32) (w0 w1 w2 : Vec Ideal S1x1x512 .f32) (r l : Fin 512) :
    k0_pay5 (F := Ideal) d (k0_pay31 d w0 w1) w2 (ix3 0 r l)
      = d (ix2 ⟨(r.val + 528 - 526) % 528, by omega⟩ l) * w0 (ix3 0 0 l)
        + d (ix2 ⟨(r.val + 528 - 527) % 528, by omega⟩ l) * w1 (ix3 0 0 l)
        + d (ix2 ⟨r.val, by omega⟩ l) * w2 (ix3 0 0 l) := by
  pointwise [k0_pay5, k0_pay31, k0_pay28, k0_pay30, k0_pay2]

theorem tap00_apply (c : Dev nD) (t : Fin cfg0.N) (l : Fin 512) :
    View.ld (iblk m c 5 t) (Rect.unit ![0, 0, 0] ![1, 1, 512] inb_S3x2x512_S1x1x512_0_0_0) (ix3 0 0 l) = taps m c 0 (chan t l) 0 := by
  rw [← blkW]
  pointwise

theorem tap10_apply (c : Dev nD) (t : Fin cfg0.N) (l : Fin 512) :
    View.ld (iblk m c 5 t) (Rect.unit ![1, 0, 0] ![1, 1, 512] inb_S3x2x512_S1x1x512_1_0_0) (ix3 0 0 l) = taps m c 0 (chan t l) 1 := by
  rw [← blkW]
  pointwise

theorem tap20_apply (c : Dev nD) (t : Fin cfg0.N) (l : Fin 512) :
    View.ld (iblk m c 5 t) (Rect.unit ![2, 0, 0] ![1, 1, 512] inb_S3x2x512_S1x1x512_2_0_0) (ix3 0 0 l) = taps m c 0 (chan t l) 2 := by
  rw [← blkW]
  pointwise

theorem tap01_apply (c : Dev nD) (t : Fin cfg0.N) (l : Fin 512) :
    View.ld (iblk m c 5 t) (Rect.unit ![0, 1, 0] ![1, 1, 512] inb_S3x2x512_S1x1x512_0_1_0) (ix3 0 0 l) = taps m c 1 (chan t l) 0 := by
  rw [← blkW]
  pointwise

theorem tap11_apply (c : Dev nD) (t : Fin cfg0.N) (l : Fin 512) :
    View.ld (iblk m c 5 t) (Rect.unit ![1, 1, 0] ![1, 1, 512] inb_S3x2x512_S1x1x512_1_1_0) (ix3 0 0 l) = taps m c 1 (chan t l) 1 := by
  rw [← blkW]
  pointwise

theorem tap21_apply (c : Dev nD) (t : Fin cfg0.N) (l : Fin 512) :
    View.ld (iblk m c 5 t) (Rect.unit ![2, 1, 0] ![1, 1, 512] inb_S3x2x512_S1x1x512_2_1_0) (ix3 0 0 l) = taps m c 1 (chan t l) 2 := by
  rw [← blkW]
  pointwise

theorem shift2 (t : Fin cfg0.N) (r : Fin 512) : t.val % 8 * 512 + (r.val + 528 - 526) % 528 = (row t r).val + 2 := by simp only [row]; omega
theorem shift1 (t : Fin cfg0.N) (r : Fin 512) : t.val % 8 * 512 + (r.val + 528 - 527) % 528 = (row t r).val + 1 := by simp only [row]; omega
theorem shift0 (t : Fin cfg0.N) (r : Fin 512) : t.val % 8 * 512 + r.val = (row t r).val := rfl

theorem plane0 (c : Dev nD) (t : Fin cfg0.N) (r l : Fin 512) :
    k0_pay26 (F := Ideal) (k0_pay25 (k0_pay11 (gE m c t) (vE m c t) (daE m c t) (thE m c t) (Scalar.ofBits .f32 0x3F000000#32))
      (k0_pay17 (gE m c t) (vE m c t) (daE m c t) (thE m c t) (Scalar.ofBits .f32 0x3F000000#32) (View.ld (iblk m c 5 t) (Rect.unit ![0, 0, 0] ![1, 1, 512] inb_S3x2x512_S1x1x512_0_0_0)))
      (k0_pay19 (gE m c t) (vE m c t) (daE m c t) (thE m c t) (Scalar.ofBits .f32 0x3F000000#32))
      (k0_pay20 (View.ld (iblk m c 5 t) (Rect.unit ![1, 0, 0] ![1, 1, 512] inb_S3x2x512_S1x1x512_1_0_0))) (View.ld (iblk m c 5 t) (Rect.unit ![2, 0, 0] ![1, 1, 512] inb_S3x2x512_S1x1x512_2_0_0))) (ix3 0 r l)
      = du (colE m c 0 (chan t l)) (taps m c 0 (chan t l)) (row t r) := by
  rw [pay25_apply, tap00_apply, tap10_apply, tap20_apply]
  have := dE0_apply m c t
  unfold dE0 at this
  rw [this, this, this]
  simp only [shift2, shift1, shift0, du]

theorem plane1 (c : Dev nD) (t : Fin cfg0.N) (r l : Fin 512) :
    k0_pay5 (F := Ideal) (dE1 m c t) (k0_pay31 (dE1 m c t) (View.ld (iblk m c 5 t) (Rect.unit ![0, 1, 0] ![1, 1, 512] inb_S3x2x512_S1x1x512_0_1_0)) (View.ld (iblk m c 5 t) (Rect.unit ![1, 1, 0] ![1, 1, 512] inb_S3x2x512_S1x1x512_1_1_0))) (View.ld (iblk m c 5 t) (Rect.unit ![2, 1, 0] ![1, 1, 512] inb_S3x2x512_S1x1x512_2_1_0)) (ix3 0 r l)
      = du (colE m c 1 (chan t l)) (taps m c 1 (chan t l)) (row t r) := by
  rw [pay5_apply, tap01_apply, tap11_apply, tap21_apply, dE1_apply, dE1_apply, dE1_apply]
  simp only [shift2, shift1, shift0, du]

/-- The gradient of the input, as one array. -/
def planes (c : Dev nD) : FVec Ideal S2x4096x5632 .bf16 := fun j => du (colE m c (j 0) (j 2)) (taps m c (j 0) (j 2)) (j 1)

theorem planes_at (c : Dev nD) (t : Fin cfg0.N) (p : Fin 2) (r l : Fin 512) (j : S2x4096x5632.Idx)
    (h0 : (j 0).val = p.val) (h1 : (j 1).val = t.val % 8 * 512 + r.val) (h2 : (j 2).val = t.val / 8 * 512 + l.val) :
    planes m c j = du (colE m c p (chan t l)) (taps m c p (chan t l)) (row t r) := by
  have e0 : j 0 = p := Fin.ext h0
  have e1 : j 1 = row t r := Fin.ext h1
  have e2 : j 2 = chan t l := Fin.ext h2
  unfold planes
  rw [e0, e1, e2]

theorem split1 (x : S1x512x512.Idx) : ∃ r l : Fin 512, x = ix3 0 r l :=
  ⟨x 1, x 2, (eq_ix3 x).trans (by rw [show x 0 = (0 : Fin 1) from Subsingleton.elim (α := Fin 1) _ _])⟩

theorem planes_A (c : Dev nD) (t : Fin cfg0.N) (h0 : t.val % 8 = 0) (y) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0)
      (iblk m c 0 t) (iblk m c 1 t) (iblk m c 2 t) (iblk m c 3 t) (iblk m c 4 t) (iblk m c 5 t)) y
      = planes m c (((cfg0.win 6).blk t).view.emb y) := by
  have ht := tN t
  frame_out
  clear h0
  canon_tiles x h
  · obtain ⟨r, l, rfl⟩ := split1 x
    simp only [ix3_0, ix3_1, ix3_2] at h0 h1 h2
    refine (plane1 m c t r l).trans (planes_at m c t 1 r l _ ?_ ?_ ?_).symm
    all_goals (blk_simp [idx_val t] <;> first | exact h0 | omega)
  · obtain ⟨r, l, rfl⟩ := split1 x
    simp only [ix3_0, ix3_1, ix3_2] at h0 h1 h2
    refine (plane0 m c t r l).trans (planes_at m c t 0 r l _ ?_ ?_ ?_).symm
    all_goals (blk_simp [idx_val t] <;> first | exact h0 | omega)

theorem planes_B (c : Dev nD) (t : Fin cfg0.N) (h0 : ¬t.val % 8 = 0) (y) :
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)).2.1 (outsAt0 m c (t.val - 1) (Nat.lt_of_le_of_lt (Nat.sub_le _ _) t.isLt)).2.2) y
      = planes m c (((cfg0.win 6).blk t).view.emb y) := by
  have ht := tN t
  frame_out
  clear h0
  canon_tiles x h
  · obtain ⟨r, l, rfl⟩ := split1 x
    simp only [ix3_0, ix3_1, ix3_2] at h0 h1 h2
    refine (plane1 m c t r l).trans (planes_at m c t 1 r l _ ?_ ?_ ?_).symm
    all_goals (blk_simp [idx_val t] <;> first | exact h0 | omega)
  · obtain ⟨r, l, rfl⟩ := split1 x
    simp only [ix3_0, ix3_1, ix3_2] at h0 h1 h2
    refine (plane0 m c t r l).trans (planes_at m c t 0 r l _ ?_ ?_ ?_).symm
    all_goals (blk_simp [idx_val t] <;> first | exact h0 | omega)

/-- The input's gradient after the run. -/
theorem final_planes (c : Dev nD) : (dats m 0 c).arrAt 6 (cfgs 0).N = planes m c := by
  refine (dats m 0 c).arrAt_eq_of_covers 6 _ (by decide +kernel) fun t hf y => ?_
  blk_simp; rw [after0_6]
  by_cases h : t.val % 8 = 0
  · rw [outsAt0_A m c t h]; dsimp only; exact planes_A m c t h y
  · rw [outsAt0_B m c t h]; dsimp only; exact planes_B m c t h y

end Cert.FfnActBwdIdeal.Value

end
-- ==== Proof.FfnTaps.lean ====
module
public import proofs.«01_k».proof.Proof.FfnArrays

/-!
The gradients of the taps and of the bias that the backward kernel of the feed-forward layer accumulates over the token tiles.
-/

@[expose] public section

set_option maxRecDepth 16384

noncomputable section

open Idealize.ShloMosaic Idealize.ShloMosaic.TcCoe Idealize.SL.Sem
open Idealize.ShloMosaic.Pipeline (Dat)
open scoped BigOperators

namespace Cert.FfnActBwdIdeal.Value

open Cert.FfnActBwdIdeal Cert.FfnActBwdIdeal.Gen Cert.Gate

variable (m : (ℓ : Loc nD τ sig) → Buf (Elt Ideal) ℓ)

/-- What one token tile adds to a tap's gradient. -/
def tapPart (c : Dev nD) (t : Fin cfg0.N) (k : Fin 3) (p : Fin 2) (l : Fin 512) : EReal :=
  ∑ r : Fin 512, tok (colE m c p (chan t l)) (t.val % 8 * 512 + r.val + (2 - k.val)) * colU m c p (chan t l) (row t r)

/-- What one token tile adds to the bias's gradient. -/
def biasPart (c : Dev nD) (t : Fin cfg0.N) (p : Fin 2) (l : Fin 512) : EReal :=
  ∑ r : Fin 512, colE m c p (chan t l) (row t r)

theorem tok_row (e : Fin 4096 → EReal) (t : Fin cfg0.N) (r : Fin 512) : tok e (t.val % 8 * 512 + r.val) = e (row t r) := tok_in e (row t r)

theorem plane0_in (c : Dev nD) (t : Fin cfg0.N) (r l : Fin 512) : (View.ld (iblk m c 0 t) (Rect.unit ![0, 0, 0] ![1, 512, 512] inb_S2x512x512_S1x512x512_0_0_0)) (ix3 0 r l) = colU m c 0 (chan t l) (row t r) := by
  rw [← blkU]
  pointwise

theorem plane1_in (c : Dev nD) (t : Fin cfg0.N) (r l : Fin 512) : (View.ld (iblk m c 0 t) (Rect.unit ![1, 0, 0] ![1, 512, 512] inb_S2x512x512_S1x512x512_1_0_0)) (ix3 0 r l) = colU m c 1 (chan t l) (row t r) := by
  rw [← blkU]
  pointwise

theorem sum00_apply (g v d h : FVec Ideal S528x512 .f32) (cst : Ideal .f32) (u : Vec Ideal S1x512x512 .bf16) (acc : Vec Ideal S1x1x512 .f32) (l : Fin 512) :
    k0_pay18 (F := Ideal) g v d h cst u acc (ix3 0 0 l) = acc (ix3 0 0 l) + ∑ x : Fin 512, k0_pay11 g v d h cst (ix2 ⟨(x.val + 528 - 526) % 528, by omega⟩ l) * u (ix3 0 x l) := by
  pointwise [k0_pay18, k0_pay16, k0_pay15]

theorem tap_step00 (c : Dev nD) (t : Fin cfg0.N) (acc : Vec Ideal S1x1x512 .f32) (l : Fin 512) :
    k0_pay18 (gE m c t) (vE m c t) (daE m c t) (thE m c t) (Scalar.ofBits .f32 0x3F000000#32) (View.ld (iblk m c 0 t) (Rect.unit ![0, 0, 0] ![1, 512, 512] inb_S2x512x512_S1x512x512_0_0_0)) acc (ix3 0 0 l)
      = acc (ix3 0 0 l) + tapPart m c t 0 0 l := by
  rw [sum00_apply]
  refine congrArg _ (Finset.sum_congr rfl fun x _ => ?_)
  have := dE0_apply m c t
  unfold dE0 at this
  rw [plane0_in, this]
  simp only [show t.val % 8 * 512 + (x.val + 528 - 526) % 528 = t.val % 8 * 512 + x.val + 2 by omega]
  rfl

theorem sum10_apply (g v d h : FVec Ideal S528x512 .f32) (cst : Ideal .f32) (u : Vec Ideal S1x512x512 .bf16) (acc : Vec Ideal S1x1x512 .f32) (l : Fin 512) :
    k0_pay21 (k0_pay15 u) (k0_pay19 g v d h cst) acc (ix3 0 0 l) = acc (ix3 0 0 l) + ∑ x : Fin 512, k0_pay11 g v d h cst (ix2 ⟨(x.val + 528 - 527) % 528, by omega⟩ l) * u (ix3 0 x l) := by
  pointwise [k0_pay21, k0_pay15, k0_pay19]

theorem tap_step10 (c : Dev nD) (t : Fin cfg0.N) (acc : Vec Ideal S1x1x512 .f32) (l : Fin 512) :
    k0_pay21 (k0_pay15 (View.ld (iblk m c 0 t) (Rect.unit ![0, 0, 0] ![1, 512, 512] inb_S2x512x512_S1x512x512_0_0_0))) (k0_pay19 (gE m c t) (vE m c t) (daE m c t) (thE m c t) (Scalar.ofBits .f32 0x3F000000#32)) acc (ix3 0 0 l)
      = acc (ix3 0 0 l) + tapPart m c t 1 0 l := by
  rw [sum10_apply]
  refine congrArg _ (Finset.sum_congr rfl fun x _ => ?_)
  have := dE0_apply m c t
  unfold dE0 at this
  rw [plane0_in, this]
  simp only [show t.val % 8 * 512 + (x.val + 528 - 527) % 528 = t.val % 8 * 512 + x.val + 1 by omega]
  rfl

theorem sum20_apply (g v d h : FVec Ideal S528x512 .f32) (cst : Ideal .f32) (u : Vec Ideal S1x512x512 .bf16) (acc : Vec Ideal S1x1x512 .f32) (l : Fin 512) :
    k0_pay23 (k0_pay11 g v d h cst) (k0_pay15 u) acc (ix3 0 0 l) = acc (ix3 0 0 l) + ∑ x : Fin 512, k0_pay11 g v d h cst (ix2 ⟨x.val, by omega⟩ l) * u (ix3 0 x l) := by
  pointwise [k0_pay23, k0_pay22, k0_pay15]

theorem tap_step20 (c : Dev nD) (t : Fin cfg0.N) (acc : Vec Ideal S1x1x512 .f32) (l : Fin 512) :
    k0_pay23 (k0_pay11 (gE m c t) (vE m c t) (daE m c t) (thE m c t) (Scalar.ofBits .f32 0x3F000000#32)) (k0_pay15 (View.ld (iblk m c 0 t) (Rect.unit ![0, 0, 0] ![1, 512, 512] inb_S2x512x512_S1x512x512_0_0_0))) acc (ix3 0 0 l)
      = acc (ix3 0 0 l) + tapPart m c t 2 0 l := by
  rw [sum20_apply]
  refine congrArg _ (Finset.sum_congr rfl fun x _ => ?_)
  have := dE0_apply m c t
  unfold dE0 at this
  rw [plane0_in, this]
  rfl

theorem sum01_apply (d : FVec Ideal S528x512 .f32) (u : Vec Ideal S1x512x512 .bf16) (acc : Vec Ideal S1x1x512 .f32) (l : Fin 512) :
    k0_pay29 d u acc (ix3 0 0 l) = acc (ix3 0 0 l) + ∑ x : Fin 512, d (ix2 ⟨(x.val + 528 - 526) % 528, by omega⟩ l) * u (ix3 0 x l) := by
  pointwise [k0_pay29, k0_pay28, k0_pay27]

theorem tap_step01 (c : Dev nD) (t : Fin cfg0.N) (acc : Vec Ideal S1x1x512 .f32) (l : Fin 512) :
    k0_pay29 (dE1 m c t) (View.ld (iblk m c 0 t) (Rect.unit ![1, 0, 0] ![1, 512, 512] inb_S2x512x512_S1x512x512_1_0_0)) acc (ix3 0 0 l)
      = acc (ix3 0 0 l) + tapPart m c t 0 1 l := by
  rw [sum01_apply]
  refine congrArg _ (Finset.sum_congr rfl fun x _ => ?_)
  have := dE1_apply m c t
  rw [plane1_in, this]
  simp only [show t.val % 8 * 512 + (x.val + 528 - 526) % 528 = t.val % 8 * 512 + x.val + 2 by omega]
  rfl

theorem sum11_apply (d : FVec Ideal S528x512 .f32) (u : Vec Ideal S1x512x512 .bf16) (acc : Vec Ideal S1x1x512 .f32) (l : Fin 512) :
    k0_pay1 (F := Ideal) (k0_pay32 d u acc) (ix3 0 0 l) = acc (ix3 0 0 l) + ∑ x : Fin 512, d (ix2 ⟨(x.val + 528 - 527) % 528, by omega⟩ l) * u (ix3 0 x l) := by
  pointwise [k0_pay1, k0_pay32, k0_pay30, k0_pay27]

theorem tap_step11 (c : Dev nD) (t : Fin cfg0.N) (acc : Vec Ideal S1x1x512 .f32) (l : Fin 512) :
    k0_pay1 (k0_pay32 (dE1 m c t) (View.ld (iblk m c 0 t) (Rect.unit ![1, 0, 0] ![1, 512, 512] inb_S2x512x512_S1x512x512_1_0_0)) acc) (ix3 0 0 l)
      = acc (ix3 0 0 l) + tapPart m c t 1 1 l := by
  rw [sum11_apply]
  refine congrArg _ (Finset.sum_congr rfl fun x _ => ?_)
  have := dE1_apply m c t
  rw [plane1_in, this]
  simp only [show t.val % 8 * 512 + (x.val + 528 - 527) % 528 = t.val % 8 * 512 + x.val + 1 by omega]
  rfl

theorem sum21_apply (d : FVec Ideal S528x512 .f32) (u : Vec Ideal S1x512x512 .bf16) (acc : Vec Ideal S1x1x512 .f32) (l : Fin 512) :
    k0_pay3 d (k0_pay27 u) acc (ix3 0 0 l) = acc (ix3 0 0 l) + ∑ x : Fin 512, d (ix2 ⟨x.val, by omega⟩ l) * u (ix3 0 x l) := by
  pointwise [k0_pay3, k0_pay2, k0_pay27]

theorem tap_step21 (c : Dev nD) (t : Fin cfg0.N) (acc : Vec Ideal S1x1x512 .f32) (l : Fin 512) :
    k0_pay3 (dE1 m c t) (k0_pay27 (View.ld (iblk m c 0 t) (Rect.unit ![1, 0, 0] ![1, 512, 512] inb_S2x512x512_S1x512x512_1_0_0))) acc (ix3 0 0 l)
      = acc (ix3 0 0 l) + tapPart m c t 2 1 l := by
  rw [sum21_apply]
  refine congrArg _ (Finset.sum_congr rfl fun x _ => ?_)
  have := dE1_apply m c t
  rw [plane1_in, this]
  rfl

theorem bsum0_apply (d : FVec Ideal S528x512 .f32) (acc : Vec Ideal S1x512 .f32) (l : Fin 512) :
    k0_pay24 d acc (ix2 0 l) = acc (ix2 0 l) + ∑ x : Fin 512, d (ix2 ⟨x.val, by omega⟩ l) := by
  pointwise [k0_pay24, k0_pay22]

theorem bias_step0 (c : Dev nD) (t : Fin cfg0.N) (acc : Vec Ideal S1x512 .f32) (l : Fin 512) :
    k0_pay24 (dE0 m c t) acc (ix2 0 l) = acc (ix2 0 l) + biasPart m c t 0 l := by
  rw [bsum0_apply]
  refine congrArg _ (Finset.sum_congr rfl fun x _ => ?_)
  rw [dE0_apply]
  exact tok_row _ t x

theorem bsum1_apply (d : FVec Ideal S528x512 .f32) (acc : Vec Ideal S1x512 .f32) (l : Fin 512) :
    k0_pay4 d acc (ix2 0 l) = acc (ix2 0 l) + ∑ x : Fin 512, d (ix2 ⟨x.val, by omega⟩ l) := by
  pointwise [k0_pay4, k0_pay2]

theorem bias_step1 (c : Dev nD) (t : Fin cfg0.N) (acc : Vec Ideal S1x512 .f32) (l : Fin 512) :
    k0_pay4 (dE1 m c t) acc (ix2 0 l) = acc (ix2 0 l) + biasPart m c t 1 l := by
  rw [bsum1_apply]
  refine congrArg _ (Finset.sum_congr rfl fun x _ => ?_)
  rw [dE1_apply]
  exact tok_row _ t x

theorem split_11 (x : S1x1x512.Idx) : ∃ l : Fin 512, x = ix3 0 0 l :=
  ⟨x 2, (eq_ix3 x).trans (by rw [show x 0 = (0 : Fin 1) from Subsingleton.elim (α := Fin 1) _ _, show x 1 = (0 : Fin 1) from Subsingleton.elim (α := Fin 1) _ _])⟩

theorem split_taps (j : S3x2x512.Idx) (k : Fin 3) (p : Fin 2) (l : Fin 512) (h0 : (j 0).val = k.val) (h1 : (j 1).val = p.val) (h2 : (j 2).val = l.val) : j = ix3 k p l :=
  (eq_ix3 j).trans (by rw [show j 0 = k from Fin.ext h0, show j 1 = p from Fin.ext h1, show j 2 = l from Fin.ext h2])

theorem split_row (x : S1x512.Idx) : ∃ l : Fin 512, x = ix2 0 l :=
  ⟨x 1, (eq_ix2 x).trans (by rw [show x 0 = (0 : Fin 1) from Subsingleton.elim (α := Fin 1) _ _])⟩

theorem split_bias (j : S2x512.Idx) (p : Fin 2) (l : Fin 512) (h0 : (j 0).val = p.val) (h1 : (j 1).val = l.val) : j = ix2 p l :=
  (eq_ix2 j).trans (by rw [show j 0 = p from Fin.ext h0, show j 1 = l from Fin.ext h1])

theorem pay13_apply (j : S3x2x512.Idx) : k0_pay13 (F := Ideal) j = 0 := by pointwise [k0_pay13]

theorem pay14_apply (j : S2x512.Idx) : k0_pay14 (F := Ideal) j = 0 := by pointwise [k0_pay14]

theorem tap_first (c : Dev nD) (t : Fin cfg0.N) (h : t.val % 8 = 0) (j : S3x2x512.Idx) :
    (outsAt0 m c t.val t.isLt).2.1 j = (0 : EReal) + tapPart m c t (j 0) (j 1) (j 2) := by
  rw [outsAt0_A m c t h]; frame_out
  clear h
  refine (canon_covered [_] j [_, _, _, _, _, _] ?_).trans ?_
  · exact View.cover_of_tiledL _ ![1, 1, 512] (by sl_kernel_rfl) j
  canon_tiles x h
  · obtain ⟨l, rfl⟩ := split_11 x
    obtain rfl := split_taps j 2 1 l h0 h1 h2
    refine (tap_step21 m c t _ l).trans (congrArg (· + tapPart m c t 2 1 l) ?_)
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay13_apply _
  · obtain ⟨l, rfl⟩ := split_11 x
    obtain rfl := split_taps j 1 1 l h0 h1 h2
    refine (tap_step11 m c t _ l).trans (congrArg (· + tapPart m c t 1 1 l) ?_)
    rw [View.readCov_skip _ _ _ _ _ (by decide), View.readCov_skip _ _ _ _ _ (by decide), View.readCov_skip _ _ _ _ _ (by decide), View.readCov_skip _ _ _ _ _ (by decide), View.readCov_fill _ _ _ _ _ (by decide)]
    exact pay13_apply _
  · obtain ⟨l, rfl⟩ := split_11 x
    obtain rfl := split_taps j 0 1 l h0 h1 h2
    refine (tap_step01 m c t _ l).trans (congrArg (· + tapPart m c t 0 1 l) ?_)
    rw [View.readCov_skip _ _ _ _ _ (by decide), View.readCov_skip _ _ _ _ _ (by decide), View.readCov_skip _ _ _ _ _ (by decide), View.readCov_fill _ _ _ _ _ (by decide)]
    exact pay13_apply _
  · obtain ⟨l, rfl⟩ := split_11 x
    obtain rfl := split_taps j 2 0 l h0 h1 h2
    refine (tap_step20 m c t _ l).trans (congrArg (· + tapPart m c t 2 0 l) ?_)
    rw [View.readCov_skip _ _ _ _ _ (by decide), View.readCov_skip _ _ _ _ _ (by decide), View.readCov_fill _ _ _ _ _ (by decide)]
    exact pay13_apply _
  · obtain ⟨l, rfl⟩ := split_11 x
    obtain rfl := split_taps j 1 0 l h0 h1 h2
    refine (tap_step10 m c t _ l).trans (congrArg (· + tapPart m c t 1 0 l) ?_)
    rw [View.readCov_skip _ _ _ _ _ (by decide), View.readCov_fill _ _ _ _ _ (by decide)]
    exact pay13_apply _
  · obtain ⟨l, rfl⟩ := split_11 x
    obtain rfl := split_taps j 0 0 l h0 h1 h2
    refine (tap_step00 m c t _ l).trans (congrArg (· + tapPart m c t 0 0 l) ?_)
    rw [View.readCov_fill _ _ _ _ _ (by decide)]
    exact pay13_apply _

theorem bias_first (c : Dev nD) (t : Fin cfg0.N) (h : t.val % 8 = 0) (j : S2x512.Idx) :
    (outsAt0 m c t.val t.isLt).2.2 j = (0 : EReal) + biasPart m c t (j 0) (j 1) := by
  rw [outsAt0_A m c t h]; frame_out
  clear h
  refine (canon_covered [_] j [_, _] ?_).trans ?_
  · exact View.cover_of_tiledL _ ![1, 512] (by sl_kernel_rfl) j
  canon_tiles x h
  · obtain ⟨l, rfl⟩ := split_row x
    obtain rfl := split_bias j 1 l h0 h1
    refine (bias_step1 m c t _ l).trans (congrArg (· + biasPart m c t 1 l) ?_)
    rw [View.readCov_skip _ _ _ _ _ (by decide), View.readCov_fill _ _ _ _ _ (by decide)]
    exact pay14_apply _
  · obtain ⟨l, rfl⟩ := split_row x
    obtain rfl := split_bias j 0 l h0 h1
    refine (bias_step0 m c t _ l).trans (congrArg (· + biasPart m c t 0 l) ?_)
    rw [View.readCov_fill _ _ _ _ _ (by decide)]
    exact pay14_apply _

theorem tap_next (c : Dev nD) (t : Fin cfg0.N) (h : ¬t.val % 8 = 0) (j : S3x2x512.Idx) :
    (outsAt0 m c t.val t.isLt).2.1 j
      = (outsAt0 m c (t.val - 1) (Nat.lt_of_le_of_lt (Nat.sub_le _ _) t.isLt)).2.1 j + tapPart m c t (j 0) (j 1) (j 2) := by
  rw [outsAt0_B m c t h]; frame_out
  clear h
  canon_tiles x h
  · obtain ⟨l, rfl⟩ := split_11 x
    obtain rfl := split_taps j 2 1 l h0 h1 h2
    refine (tap_step21 m c t _ l).trans (congrArg (· + tapPart m c t 2 1 l) ?_)
    pointwise
  · obtain ⟨l, rfl⟩ := split_11 x
    obtain rfl := split_taps j 1 1 l h0 h1 h2
    refine (tap_step11 m c t _ l).trans (congrArg (· + tapPart m c t 1 1 l) ?_)
    pointwise
  · obtain ⟨l, rfl⟩ := split_11 x
    obtain rfl := split_taps j 0 1 l h0 h1 h2
    refine (tap_step01 m c t _ l).trans (congrArg (· + tapPart m c t 0 1 l) ?_)
    pointwise
  · obtain ⟨l, rfl⟩ := split_11 x
    obtain rfl := split_taps j 2 0 l h0 h1 h2
    refine (tap_step20 m c t _ l).trans (congrArg (· + tapPart m c t 2 0 l) ?_)
    pointwise
  · obtain ⟨l, rfl⟩ := split_11 x
    obtain rfl := split_taps j 1 0 l h0 h1 h2
    refine (tap_step10 m c t _ l).trans (congrArg (· + tapPart m c t 1 0 l) ?_)
    pointwise
  · obtain ⟨l, rfl⟩ := split_11 x
    obtain rfl := split_taps j 0 0 l h0 h1 h2
    refine (tap_step00 m c t _ l).trans (congrArg (· + tapPart m c t 0 0 l) ?_)
    pointwise

theorem bias_next (c : Dev nD) (t : Fin cfg0.N) (h : ¬t.val % 8 = 0) (j : S2x512.Idx) :
    (outsAt0 m c t.val t.isLt).2.2 j
      = (outsAt0 m c (t.val - 1) (Nat.lt_of_le_of_lt (Nat.sub_le _ _) t.isLt)).2.2 j + biasPart m c t (j 0) (j 1) := by
  rw [outsAt0_B m c t h]; frame_out
  clear h
  canon_tiles x h
  · obtain ⟨l, rfl⟩ := split_row x
    obtain rfl := split_bias j 1 l h0 h1
    refine (bias_step1 m c t _ l).trans (congrArg (· + biasPart m c t 1 l) ?_)
    pointwise
  · obtain ⟨l, rfl⟩ := split_row x
    obtain rfl := split_bias j 0 l h0 h1
    refine (bias_step0 m c t _ l).trans (congrArg (· + biasPart m c t 0 l) ?_)
    pointwise

/-- The gradient of the taps, as one array. -/
def tapGrad (c : Dev nD) : FVec Ideal S3x2x5632 .f32 := fun j => dw (colE m c (j 1) (j 2)) (colU m c (j 1) (j 2)) (j 0)

/-- The gradient of the bias, as one array. -/
def biasGrad (c : Dev nD) : FVec Ideal S2x5632 .f32 := fun j => db (colE m c (j 0) (j 1))

theorem congr_col (c : Dev nD) (p p' : Fin 2) (ch ch' : Fin 5632) (n n' : Fin 4096) (hp : p = p') (hc : ch = ch') (hn : n = n') :
    colE m c p ch n = colE m c p' ch' n' := by rw [hp, hc, hn]

theorem congr_parts (c : Dev nD) (k k' : Fin 3) (p p' : Fin 2) (ch ch' : Fin 5632) (n n' : Fin 4096) (i : ℕ)
    (hk : k = k') (hp : p = p') (hc : ch = ch') (hn : n = n') (hi : i = n'.val) :
    tok (colE m c p ch) (i + (2 - k.val)) * colU m c p ch n = tok (colE m c p' ch') (n'.val + (2 - k'.val)) * colU m c p' ch' n' := by
  rw [hk, hp, hc, hn, hi]

/-- The taps' array after the run: the eight token tiles of a channel tile add up to all tokens. -/
theorem final_taps (c : Dev nD) : (dats m 0 c).arrAt 7 (cfgs 0).N = tapGrad m c := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0)
    (fun t j => tapPart m c t (j 0) (j 1) (j 2)) (fun t h j => tap_first m c t h j) (fun t h j => tap_next m c t h j)
    t ((flush0_7 t).mp hf) _, zero_add]
  unfold tapPart
  refine Fin.sum_mul_add_congr fun s k hl => ?_
  refine congr_parts m c _ _ _ _ _ _ _ _ _ (Fin.ext ?_) (Fin.ext ?_) (Fin.ext ?_) (Fin.ext ?_) ?_
  · blk_simp [idx_val t] <;> omega
  · blk_simp [idx_val t] <;> omega
  · blk_simp [idx_val t]
    show (8 * (t.val / 8) + s.val) / 8 * 512 + (y 2).val = _
    omega
  · show (8 * (t.val / 8) + s.val) % 8 * 512 + k.val = s.val * 512 + k.val
    omega
  · show (8 * (t.val / 8) + s.val) % 8 * 512 + k.val = s.val * 512 + k.val
    omega

/-- The bias's array after the run. -/
theorem final_bias (c : Dev nD) : (dats m 0 c).arrAt 8 (cfgs 0).N = biasGrad m c := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0)
    (fun t j => biasPart m c t (j 0) (j 1)) (fun t h j => bias_first m c t h j) (fun t h j => bias_next m c t h j)
    t ((flush0_8 t).mp hf) _, zero_add]
  unfold biasPart
  refine Fin.sum_mul_add_congr fun s k hl => ?_
  refine congr_col m c _ _ _ _ _ _ (Fin.ext ?_) (Fin.ext ?_) (Fin.ext ?_)
  · blk_simp [idx_val t] <;> omega
  · blk_simp [idx_val t]
    show (8 * (t.val / 8) + s.val) / 8 * 512 + (y 1).val = _
    omega
  · show (8 * (t.val / 8) + s.val) % 8 * 512 + k.val = s.val * 512 + k.val
    omega

end Cert.FfnActBwdIdeal.Value

end
-- ==== Proof.FfnHost.lean ====
module
public import proofs.«01_k».proof.Proof.FfnTaps
public import proofs.«01_k».proof.Proof.Gen.FfnActBwdRefIdeal.Read

/-!
The host operations before the backward kernel of the feed-forward layer: the convolution's results they leave for it are the
reference's own, rounded.
-/

@[expose] public section

set_option maxRecDepth 16384

noncomputable section

open Idealize.ShloMosaic Idealize.ShloMosaic.TcCoe Idealize.SL.Sem Idealize.ShloMosaic.StableHlo

namespace Cert.FfnActBwdIdeal.Value

open Cert.FfnActBwdIdeal Cert.FfnActBwdIdeal.Gen

variable (m : (ℓ : Loc nD τ sig) → Buf (Elt Ideal) ℓ)

set_option maxHeartbeats 2000000 in
/-- What the kernel reads as the convolution's results. -/
theorem pre_eq (c : Dev nD) : pre m c
    = (Cert.FfnActBwdRefIdeal.Read.val_main_v28 (F := Ideal) (m ((c : Thread nD τ).loc main_arg0)) (m ((c : Thread nD τ).loc main_arg2))
        (m ((c : Thread nD τ).loc main_arg3)) : FVec Ideal S2x4096x5632 .f32) := by
  unfold pre V
  simp only [hostOps0, TRef.binary, TRef.nullary, TRef.ternary, TRef.unary, TRef.toBuf, TRef.ofBuf, cast_eq]
  after_results_simp
  rfl

end Cert.FfnActBwdIdeal.Value

end
-- ==== Proof.FfnRef.lean ====
module

public import proofs.«01_k».proof.Proof.Gen.FfnActBwdRefIdeal.Read
public import proofs.«01_k».proof.Proof.FfnSpec
public import Idealize.ShloMosaic.Lib.Pipeline.ValueKit
public import Idealize.ShloMosaic.Lib.Pointwise

/-!
What the reference of the feed-forward layer's convolution and gate computes: its three results, read at an index, are the gradients that
FfnSpec.lean writes, wherever the arguments are real numbers.
-/

@[expose] public section

set_option maxRecDepth 16384

noncomputable section

namespace Cert.FfnActBwdRefIdeal.Value

open Cert.FfnActBwdRefIdeal Cert.FfnActBwdRefIdeal.Gen Cert.FfnActBwdRefIdeal.Read Cert.Gate Idealize.ShloMosaic Idealize.ShloMosaic.TcCoe

variable (x0 : FVec Ideal S2x4096x5632 .bf16) (x1 : FVec Ideal S4096x5632 .bf16) (x2 : FVec Ideal S3x2x5632 .f32) (x3 : FVec Ideal S2x5632 .f32)

/-- Plane `p` of the convolution's input, one channel. -/
abbrev colU (p : Fin 2) (ch : Fin 5632) : Fin 4096 → EReal := fun n => x0 (ix3 p n ch)
/-- Plane `p` of the convolution's results, one channel. -/
abbrev colP (p : Fin 2) (ch : Fin 5632) : Fin 4096 → EReal := fun n => val_main_v28 (F := Ideal) x0 x2 x3 (ix3 p n ch)
/-- The cotangent, one channel. -/
abbrev colD (ch : Fin 5632) : Fin 4096 → EReal := fun n => x1 (ix2 n ch)
/-- The cotangent of plane `p` of the convolution's results, one channel. -/
abbrev colE (p : Fin 2) (ch : Fin 5632) : Fin 4096 → EReal := dpre (colP x0 x2 x3 0 ch) (colP x0 x2 x3 1 ch) (colD x1 ch) p
/-- The three taps of one channel. -/
abbrev taps (p : Fin 2) (ch : Fin 5632) : Fin 3 → EReal := fun k => x2 (ix3 k p ch)

theorem v2_at (p : Fin 2) (n : Fin 4098) (ch : Fin 5632) :
    val_main_v2 (F := Ideal) x0 (ix3 p n ch) = if 2 ≤ n.val then tok (colU x0 p ch) (n.val - 2) else 0 := by
  pointwise [val_main_v2, val_main_v1, val_main_cst, val_main_v0, tok]
  by_cases h : n.val < 2
  · rw [dif_pos h, if_neg (by omega)]
  · rw [dif_neg h]
    refine Eq.trans ?_ (if_pos (by omega)).symm
    rw [dif_pos (by omega)]

variable (h0 : ∀ i, IsReal (x0 i)) (h1 : ∀ i, IsReal (x1 i)) (h2 : ∀ i, IsReal (x2 i)) (h3 : ∀ i, IsReal (x3 i))

include h0 in
theorem v2_real (p : Fin 2) (n : Fin 4098) (ch : Fin 5632) : IsReal (val_main_v2 (F := Ideal) x0 (ix3 p n ch)) := by
  rw [v2_at]
  split
  · unfold tok
    split
    · exact h0 _
    · exact IsReal.zero
  · exact IsReal.zero

include h0 h2 h3 in
theorem v28_real (p : Fin 2) (n : Fin 4096) (ch : Fin 5632) : IsReal (val_main_v28 (F := Ideal) x0 x2 x3 (ix3 p n ch)) := by
  pointwise [val_main_v28, val_main_v25, val_main_v18, val_main_v11, val_main_v10, val_main_cst_1, val_main_v9, val_main_v17, val_main_v24, val_main_v27, val_main_v26,
    val_main_v4, val_main_v12, val_main_v19, val_main_v8, val_main_v7, val_main_v6, val_main_v5, val_main_v16, val_main_v15, val_main_v14, val_main_v13,
    val_main_v23, val_main_v22, val_main_v21, val_main_v20]
  exact (((((v2_real x0 h0 _ _ _).mul (h2 _))).add ((v2_real x0 h0 _ _ _).mul (h2 _))).add ((v2_real x0 h0 _ _ _).mul (h2 _))).add (h3 _)

theorem v30_at (n : Fin 4096) (ch : Fin 5632) : val_main_v30 (F := Ideal) x0 x2 x3 (ix2 n ch) = colP x0 x2 x3 0 ch n := by
  pointwise [val_main_v30, val_main_v29]

theorem v32_at (n : Fin 4096) (ch : Fin 5632) : val_main_v32 (F := Ideal) x0 x2 x3 (ix2 n ch) = colP x0 x2 x3 1 ch n := by
  pointwise [val_main_v32, val_main_v31]

theorem v33_at (n : Fin 4096) (ch : Fin 5632) : val_main_v33_2 (F := Ideal) x0 x2 x3 (ix2 n ch) = logi (colP x0 x2 x3 0 ch n) := by
  rw [← v30_at]
  pointwise [val_main_v33_2, val_main_call0_v4, val_main_call0_v3, val_main_call0_v2, val_main_call0_v1, val_main_call0_v0, val_main_call0_cst, val_main_call0_cst_0]
  rfl

include h0 h1 h2 h3 in
theorem v41_at (p : Fin 2) (n : Fin 4096) (ch : Fin 5632) : val_main_v41 (F := Ideal) x0 x1 x2 x3 (ix3 p n ch) = colE x0 x1 x2 x3 p ch n := by
  pointwise [val_main_v41, val_main_v40, val_main_v39, val_main_v38, val_main_call1_v2, val_main_call1_v1, val_main_call1_v0, val_main_v37, val_main_v36, val_main_v35,
    val_main_v33_0, val_main_v33_1, val_main_call0_v7, val_main_call0_v6, val_main_call0_cst_1]
  simp only [v30_at, v32_at, v33_at, dpre]
  by_cases hp : p.val = 0
  · rw [dif_pos (by omega), if_pos hp]
    exact dgate_parts (v28_real x0 x2 x3 h0 h2 h3 0 n ch) (v28_real x0 x2 x3 h0 h2 h3 1 n ch) (h1 _)
  · rw [dif_neg (by omega), if_neg hp]
    exact mul_comm _ _

include h0 h1 h2 h3 in
/-- The gradient of the bias. -/
theorem v44_at (p : Fin 2) (ch : Fin 5632) : val_main_v44 (F := Ideal) x0 x1 x2 x3 (ix2 p ch) = db (colE x0 x1 x2 x3 p ch) := by
  pointwise [val_main_v44, val_main_v43, val_main_v42, val_main_cst_2, val_main_cst_3]
  simp only [Fin.sum_univ_one, v41_at x0 x1 x2 x3 h0 h1 h2 h3]
  rfl

include h0 h1 h2 h3 in
/-- The gradient of the taps. -/
theorem v73_at (k : Fin 3) (p : Fin 2) (ch : Fin 5632) : val_main_v73 (F := Ideal) x0 x1 x2 x3 (ix3 k p ch) = dw (colE x0 x1 x2 x3 p ch) (colU x0 p ch) k := by
  pointwise [val_main_v73, val_main_v62, val_main_v52, val_main_v61, val_main_v72, val_main_v51, val_main_v60, val_main_v71, val_main_v50, val_main_v59, val_main_v70,
    val_main_v47, val_main_v56, val_main_v67, val_main_v46, val_main_v55, val_main_v66, val_main_v45, val_main_v54, val_main_v65, val_main_v19, val_main_v12, val_main_v4,
    val_main_cst_4, val_main_cst_5, val_main_cst_6, val_main_cst_8, val_main_cst_9, val_main_cst_10, val_main_cst_12, val_main_cst_13, val_main_cst_14]
  simp only [Fin.sum_univ_one, v2_at, v41_at x0 x1 x2 x3 h0 h1 h2 h3]
  unfold dw
  rw [← shift_sum]
  generalize colE x0 x1 x2 x3 p ch = e
  generalize colU x0 p ch = u
  fin_vals k with hk
  all_goals simp [hk]
  all_goals (refine Finset.sum_congr rfl fun x _ => ?_; rw [show (1 + x.val : ℕ) - 2 = x.val - 1 by omega]; split_ifs <;> first | rfl | omega)

include h0 h1 h2 h3 in
/-- The gradient of the input. -/
theorem v78_at (p : Fin 2) (n : Fin 4096) (ch : Fin 5632) :
    val_main_v78 (F := Ideal) x0 x1 x2 x3 (ix3 p n ch) = du (colE x0 x1 x2 x3 p ch) (taps x2 p ch) n := by
  pointwise [val_main_v78, val_main_v77, val_main_v75, val_main_v64, val_main_v53, val_main_v63, val_main_v74, val_main_v49, val_main_v58, val_main_v69,
   val_main_v48, val_main_v57, val_main_v68, val_main_v7, val_main_v6, val_main_v5, val_main_v15, val_main_v14, val_main_v13, val_main_v22, val_main_v21, val_main_v20,
   val_main_cst_7, val_main_cst_11, val_main_cst_15]
  rw [v41_at x0 x1 x2 x3 h0 h1 h2 h3]
  refine (congrArg₂ (· + ·) (congrArg (colE x0 x1 x2 x3 p ch n * x2 (ix3 2 p ch) + ·)
    (show _ = tok (colE x0 x1 x2 x3 p ch) (n.val + 1) * x2 (ix3 1 p ch) from ?_))
    (show _ = tok (colE x0 x1 x2 x3 p ch) (n.val + 2) * x2 (ix3 0 p ch) from ?_)).trans
    (by rw [du, tok_in, add_comm (_ * _) (_ * _), add_comm (_ + _) (_ * _), ← add_assoc])
  · split
    · rw [v41_at x0 x1 x2 x3 h0 h1 h2 h3, tok, dif_pos (by omega)]
      simp only [show 2 + n.val - 1 = n.val + 1 by omega]
    · rw [tok, dif_neg (by omega), zero_mul]
  · split
    · rw [v41_at x0 x1 x2 x3 h0 h1 h2 h3, tok, dif_pos (by omega)]
      simp only [show 2 + n.val = n.val + 2 by omega]
    · rw [tok, dif_neg (by omega), zero_mul]

end Cert.FfnActBwdRefIdeal.Value

end
-- ==== Proof.FfnEq.lean ====
module

public import proofs.«01_k».proof.Defs
public import proofs.«01_k».proof.Proof.Gen.Pre_finite_ffn
public import proofs.«01_k».proof.Proof.FfnHost
public import proofs.«01_k».proof.Proof.FfnRef

/-!
The equation: on real arguments the three arrays the backward kernel of the feed-forward layer's convolution and gate leaves are the
reference's three results.
-/

@[expose] public section

noncomputable section

namespace Cert.FfnActBwdIdeal.Value

open Cert.FfnActBwdIdeal Cert.FfnActBwdIdeal.Gen Cert.Gate Idealize.ShloMosaic Idealize.ShloMosaic.TcCoe Idealize.SL.Sem

variable (m : (ℓ : Loc nD τ sig) → Buf (Elt Idealize.ShloMosaic.Ideal) ℓ)

theorem col_eq (c : Dev nD) (p : Fin 2) (ch : Fin 5632) : colE m c p ch
    = Cert.FfnActBwdRefIdeal.Value.colE (m ((c : Thread nD τ).loc main_arg0)) (m ((c : Thread nD τ).loc main_arg1))
        (m ((c : Thread nD τ).loc main_arg2)) (m ((c : Thread nD τ).loc main_arg3)) p ch := by
  unfold colE colP
  rw [pre_eq]

variable (h : Cert.Pre_FfnActBwdIdeal_finite_ffn m) (c : Dev nD)

include h

theorem real0 (i) : IsReal ((m ((c : Thread nD τ).loc main_arg0) : FVec Idealize.ShloMosaic.Ideal S2x4096x5632 .bf16) i) :=
  isReal_of_abs (φ := .bf16) _ (congrFun (h c).1 i)

theorem real1 (i) : IsReal ((m ((c : Thread nD τ).loc main_arg1) : FVec Idealize.ShloMosaic.Ideal S4096x5632 .bf16) i) :=
  isReal_of_abs (φ := .bf16) _ (congrFun (h c).2.1 i)

theorem real2 (i) : IsReal ((m ((c : Thread nD τ).loc main_arg2) : FVec Idealize.ShloMosaic.Ideal S3x2x5632 .f32) i) :=
  isReal_of_abs (φ := .f32) _ (congrFun (h c).2.2.1 i)

theorem real3 (i) : IsReal ((m ((c : Thread nD τ).loc main_arg3) : FVec Idealize.ShloMosaic.Ideal S2x5632 .f32) i) :=
  isReal_of_abs (φ := .f32) _ (congrFun (h c).2.2.2 i)

theorem planes_eq : (dats m 0 c).arrAt 6 (cfgs 0).N
    = Cert.FfnActBwdRefIdeal.Read.val_main_v78 (F := Idealize.ShloMosaic.Ideal) (m ((c : Thread nD τ).loc main_arg0)) (m ((c : Thread nD τ).loc main_arg1))
        (m ((c : Thread nD τ).loc main_arg2)) (m ((c : Thread nD τ).loc main_arg3)) := by
  rw [final_planes]
  funext j
  obtain ⟨a, b, d, rfl⟩ : ∃ a b d, j = ix3 a b d := ⟨j 0, j 1, j 2, eq_ix3 j⟩
  refine Eq.trans ?_ (Cert.FfnActBwdRefIdeal.Value.v78_at _ _ _ _ (real0 m h c) (real1 m h c) (real2 m h c) (real3 m h c) _ _ _).symm
  rw [← col_eq m c]
  rfl

theorem taps_eq : (dats m 0 c).arrAt 7 (cfgs 0).N
    = Cert.FfnActBwdRefIdeal.Read.val_main_v73 (F := Idealize.ShloMosaic.Ideal) (m ((c : Thread nD τ).loc main_arg0)) (m ((c : Thread nD τ).loc main_arg1))
        (m ((c : Thread nD τ).loc main_arg2)) (m ((c : Thread nD τ).loc main_arg3)) := by
  rw [final_taps]
  funext j
  obtain ⟨a, b, d, rfl⟩ : ∃ a b d, j = ix3 a b d := ⟨j 0, j 1, j 2, eq_ix3 j⟩
  refine Eq.trans ?_ (Cert.FfnActBwdRefIdeal.Value.v73_at _ _ _ _ (real0 m h c) (real1 m h c) (real2 m h c) (real3 m h c) _ _ _).symm
  rw [← col_eq m c]
  rfl

theorem bias_eq : (dats m 0 c).arrAt 8 (cfgs 0).N
    = Cert.FfnActBwdRefIdeal.Read.val_main_v44 (F := Idealize.ShloMosaic.Ideal) (m ((c : Thread nD τ).loc main_arg0)) (m ((c : Thread nD τ).loc main_arg1))
        (m ((c : Thread nD τ).loc main_arg2)) (m ((c : Thread nD τ).loc main_arg3)) := by
  rw [final_bias]
  funext j
  obtain ⟨a, b, rfl⟩ : ∃ a b, j = ix2 a b := ⟨j 0, j 1, eq_ix2 j⟩
  refine Eq.trans ?_ (Cert.FfnActBwdRefIdeal.Value.v44_at _ _ _ _ (real0 m h c) (real1 m h c) (real2 m h c) (real3 m h c) _ _).symm
  rw [← col_eq m c]
  rfl

end Cert.FfnActBwdIdeal.Value

end
-- ==== Proof.FfnFwdSpec.lean ====
module
public import proofs.«01_k».proof.Proof.FfnSpec

/-!
The forward pass of the feed-forward layer's convolution and gate, one channel at a time.
-/

@[expose] public section

noncomputable section

namespace Cert.Gate

/-- A column of tokens, sixteen places later: before the first token there are zeros. -/
def past (u : Fin 4096 → EReal) (n : ℕ) : EReal := if 16 ≤ n then tok u (n - 16) else 0

/-- The causal convolution of width three, with its bias. -/
def conv (u : Fin 4096 → EReal) (w : Fin 3 → EReal) (b : EReal) (n : ℕ) : EReal :=
  past u (n + 14) * w 0 + past u (n + 15) * w 1 + past u (n + 16) * w 2 + b

/-- The gated value. -/
def gated (g v : EReal) : EReal := g * logi g * v

end Cert.Gate

end
-- ==== Proof.FfnFwdArrays.lean ====
module
public import proofs.«01_k».proof.Proof.Gen.FfnActFwdIdeal.Frame
public import proofs.«01_k».proof.Proof.FfnFwdSpec
public import Idealize.ShloMosaic.Lib.Pipeline.ReadBack
public import Idealize.ShloMosaic.Lib.Pipeline.ValueKit
public import Idealize.ShloMosaic.Lib.Pointwise

/-!
The two arrays the forward kernel of the feed-forward layer's convolution and gate leaves: the gated values and the convolution's results.
-/

@[expose] public section

set_option maxRecDepth 16384

noncomputable section

open Idealize.ShloMosaic Idealize.ShloMosaic.TcCoe Idealize.SL.Sem
open Idealize.ShloMosaic.Pipeline (Dat)

namespace Cert.FfnActFwdIdeal.Value

open Cert.FfnActFwdIdeal Cert.FfnActFwdIdeal.Gen Cert.Gate

variable (m : (ℓ : Loc nD τ sig) → Buf (Elt Ideal) ℓ)

/-- The blocks of every window at grid point `t`: the token tile is `t % 8`, the channel tile `t / 8`. -/
theorem idx_val : ∀ t : Fin cfg0.N, win0_0.index t = ![0, t.val % 8, t.val / 8]
    ∧ win0_1.index t = ![0, t.val % 8 * 32 - 1, t.val / 8]
    ∧ win0_2.index t = ![0, 0, t.val / 8]
    ∧ win0_3.index t = ![0, t.val / 8]
    ∧ win0_4.index t = ![t.val % 8, t.val / 8]
    ∧ win0_5.index t = ![0, t.val % 8, t.val / 8]
    ∧ (grid0.coords t 1).val = t.val % 8 :=
  (by decide +kernel : ∀ t : Fin grid0.N, _)

theorem coord1 (t : Fin cfg0.N) : (grid0.coords t 1).val = t.val % 8 := (idx_val t).2.2.2.2.2.2

theorem tN (t : Fin cfg0.N) : t.val < 88 := lt_of_lt_of_eq t.isLt N_0

/-- Lane `l` of grid point `t`, as a channel of the array. -/
def chan (t : Fin cfg0.N) (l : Fin 512) : Fin 5632 := ⟨t.val / 8 * 512 + l.val, by have := tN t; omega⟩

/-- Token `r` of grid point `t`. -/
def row (t : Fin cfg0.N) (r : Fin 512) : Fin 4096 := ⟨t.val % 8 * 512 + r.val, by omega⟩

/-- Token `e` of the block that precedes grid point `t` (the first one, where nothing precedes). -/
def before (t : Fin cfg0.N) (e : Fin 16) : Fin 4096 := ⟨(t.val % 8 * 32 - 1) * 16 + e.val, by omega⟩

/-- Plane `p` of the input, one channel. -/
abbrev colU (c : Dev nD) (p : Fin 2) (ch : Fin 5632) : Fin 4096 → EReal := fun n => m ((c : Thread nD τ).loc main_arg0) (ix3 p n ch)
/-- The three taps of one channel. -/
abbrev taps (c : Dev nD) (p : Fin 2) (ch : Fin 5632) : Fin 3 → EReal := fun k => m ((c : Thread nD τ).loc main_arg1) (ix3 k p ch)
/-- The bias of one channel. -/
abbrev bias (c : Dev nD) (p : Fin 2) (ch : Fin 5632) : EReal := m ((c : Thread nD τ).loc main_arg2) (ix2 p ch)

theorem blkU (c : Dev nD) (t : Fin cfg0.N) (p : Fin 2) (r l : Fin 512) : iblk m c 0 t (ix3 p r l) = colU m c p (chan t l) (row t r) := by
  have ht := tN t
  have hV : V m c (Pipeline.arrRef spec0 0) = m ((c : Thread nD τ).loc main_arg0) := V_main_arg0 m c
  blk_point [iblk, hV, idx_val t, chan, row, colU]

theorem blkUp (c : Dev nD) (t : Fin cfg0.N) (p : Fin 2) (r : Fin 16) (l : Fin 512) : iblk m c 1 t (ix3 p r l) = colU m c p (chan t l) (before t r) := by
  have ht := tN t
  have hV : V m c (Pipeline.arrRef spec0 1) = m ((c : Thread nD τ).loc main_arg0) := V_main_arg0 m c
  blk_point [iblk, hV, idx_val t, chan, before, colU]

theorem blkW (c : Dev nD) (t : Fin cfg0.N) (k : Fin 3) (p : Fin 2) (l : Fin 512) : iblk m c 2 t (ix3 k p l) = taps m c p (chan t l) k := by
  have ht := tN t
  have hV : V m c (Pipeline.arrRef spec0 2) = m ((c : Thread nD τ).loc main_arg1) := V_main_arg1 m c
  blk_point [iblk, hV, idx_val t, chan, taps]

theorem blkB (c : Dev nD) (t : Fin cfg0.N) (p : Fin 2) (l : Fin 512) : iblk m c 3 t (ix2 p l) = bias m c p (chan t l) := by
  have ht := tN t
  have hV : V m c (Pipeline.arrRef spec0 3) = m ((c : Thread nD τ).loc main_arg2) := V_main_arg2 m c
  blk_point [iblk, hV, idx_val t, chan, bias]

theorem half_word : FloatOps.ofBits (F := Ideal) .f32 0x3F000000#32 = ((1 / 2 : ℝ) : EReal) := by
  show Ideal.ofBits .f32 0x3F000000#32 = ((1 / 2 : ℝ) : EReal)
  simp [Ideal.ofBits, Ideal.ieee]
  rw [← EReal.coe_mul]; norm_num

theorem sel_first (k : ℕ) (hk : k < 8) (a b : EReal) :
    Scalar.select (Scalar.cmpi CmpIPredicate.eq (BitVec.ofNat 32 k) 0#32) a b = if k = 0 then a else b := by
  have : (BitVec.ofNat 32 k == 0#32) = decide (k = 0) := by
    interval_cases k <;> decide
  by_cases h : k = 0 <;> simp [Scalar.select, Scalar.cmpi, IntOp.cmpi, this, h]

/-- Row `e` of the tile with the sixteen rows before it. -/
def ext (i : grid0.Coords) (y : Vec Ideal S1x16x512 .bf16) (x : Vec Ideal S1x512x512 .bf16) (l : Fin 512) (e : ℕ) : EReal :=
  if h : e < 16 then if (i 1).val = 0 then 0 else y (ix3 0 ⟨e, h⟩ l) else if h : e - 16 < 512 then x (ix3 0 ⟨e - 16, h⟩ l) else 0

theorem pay2_apply (i : grid0.Coords) (y : Vec Ideal S1x16x512 .bf16) (x : Vec Ideal S1x512x512 .bf16) (w0 w1 w2 : Vec Ideal S1x1x512 .f32) (b : Vec Ideal S1x512 .f32)
    (r l : Fin 512) : k0_pay2 (F := Ideal) i y x w0 w1 w2 b (ix2 r l)
      = ext i y x l (r.val + 14) * w0 (ix3 0 0 l) + ext i y x l (r.val + 15) * w1 (ix3 0 0 l) + ext i y x l (r.val + 16) * w2 (ix3 0 0 l) + b (ix2 0 l) := by
  have hi : (i 1).val < 8 := (i 1).isLt
  pointwise [k0_pay2]
  simp only [sel_first _ hi]
  have key : ∀ (k e : ℕ) (h1 : k % 528 = e) (he : e < 528) (hk : k % 528 < 528),
      (if h : k % 528 < 16 then if (i 1).val = 0 then (0 : EReal) else y (ix3 0 ⟨k % 528, h⟩ l) else x (ix3 0 ⟨k % 528 - 16, by omega⟩ l)) = ext i y x l e := by
    intro k e h1 he hk
    subst h1
    unfold ext
    split
    · rfl
    · rw [dif_pos (by omega)]
  have last : x (ix3 0 r l) = ext i y x l (r.val + 16) := by
    unfold ext
    rw [dif_neg (by omega), dif_pos (by omega)]
    exact congrArg (fun q => x (ix3 0 q l)) (Fin.ext (by simp only; omega))
  rw [← last, ← key (16 + r.val + 528 - 2) (r.val + 14) (by omega) (by omega) (by omega), ← key (16 + r.val + 528 - 1) (r.val + 15) (by omega) (by omega) (by omega)]

theorem pay4_eq (i : grid0.Coords) (y : Vec Ideal S1x16x512 .bf16) (x : Vec Ideal S1x512x512 .bf16) (w0 w1 w2 : Vec Ideal S1x1x512 .f32) (b : Vec Ideal S1x512 .f32) :
    k0_pay4 (F := Ideal) (Scalar.cmpi .eq (BitVec.ofNat 32 (i 1).val) 0#32) y x w0 w1 w2 b = k0_pay2 (F := Ideal) i y x w0 w1 w2 b := rfl

theorem pay3_apply (i : grid0.Coords) (y : Vec Ideal S1x16x512 .bf16) (x : Vec Ideal S1x512x512 .bf16) (w0 w1 w2 : Vec Ideal S1x1x512 .f32) (b : Vec Ideal S1x512 .f32)
    (r l : Fin 512) : k0_pay3 (F := Ideal) i y x w0 w1 w2 b (ix3 0 r l) = k0_pay2 (F := Ideal) i y x w0 w1 w2 b (ix2 r l) := by
  pointwise [k0_pay3]

theorem pay5_apply (i : grid0.Coords) (y : Vec Ideal S1x16x512 .bf16) (x : Vec Ideal S1x512x512 .bf16) (w0 w1 w2 : Vec Ideal S1x1x512 .f32) (b : Vec Ideal S1x512 .f32)
    (r l : Fin 512) : k0_pay5 (F := Ideal) (Scalar.cmpi .eq (BitVec.ofNat 32 (i 1).val) 0#32) y x w0 w1 w2 b (ix3 0 r l) = k0_pay2 (F := Ideal) i y x w0 w1 w2 b (ix2 r l) := by
  rw [← pay4_eq]
  pointwise [k0_pay5]

theorem pay1_apply (g v : FVec Ideal S512x512 .f32) (j : S512x512.Idx) : k0_pay1 (F := Ideal) g v (k0_pay6 (F := Ideal)) j = gated (g j) (v j) := by
  rw [gated, ← logi_tanh, ← half_word]
  rfl

/-- The convolution's tile, plane 0. -/
def tile0 (c : Dev nD) (t : Fin cfg0.N) : FVec Ideal S512x512 .f32 :=
  k0_pay2 (F := Ideal) (grid0.coords t) (View.ld (iblk m c 1 t) (Rect.unit ![0, 0, 0] ![1, 16, 512] inb_S2x16x512_S1x16x512_0_0_0))
    (View.ld (iblk m c 0 t) (Rect.unit ![0, 0, 0] ![1, 512, 512] inb_S2x512x512_S1x512x512_0_0_0))
    (View.ld (iblk m c 2 t) (Rect.unit ![0, 0, 0] ![1, 1, 512] inb_S3x2x512_S1x1x512_0_0_0))
    (View.ld (iblk m c 2 t) (Rect.unit ![1, 0, 0] ![1, 1, 512] inb_S3x2x512_S1x1x512_1_0_0))
    (View.ld (iblk m c 2 t) (Rect.unit ![2, 0, 0] ![1, 1, 512] inb_S3x2x512_S1x1x512_2_0_0))
    (View.ld (iblk m c 3 t) (Rect.unit ![0, 0] ![1, 512] inb_S2x512_S1x512_0_0))

theorem ext0_at (c : Dev nD) (t : Fin cfg0.N) (l : Fin 512) (e : ℕ) (he : e < 528) :
    ext (grid0.coords t) (View.ld (iblk m c 1 t) (Rect.unit ![0, 0, 0] ![1, 16, 512] inb_S2x16x512_S1x16x512_0_0_0))
      (View.ld (iblk m c 0 t) (Rect.unit ![0, 0, 0] ![1, 512, 512] inb_S2x512x512_S1x512x512_0_0_0)) l e
      = past (colU m c 0 (chan t l)) (t.val % 8 * 512 + e) := by
  unfold ext past
  rw [coord1]
  split
  · rename_i h
    split
    · rw [if_neg (by omega)]
    · rw [if_pos (by omega), tok, dif_pos (by omega), show (⟨t.val % 8 * 512 + e - 16, by omega⟩ : Fin 4096) = before t ⟨e, h⟩ from Fin.ext (by simp only [before]; omega), ← blkUp]
      pointwise
  · rw [dif_pos (by omega), if_pos (by omega), tok, dif_pos (by omega),
      show (⟨t.val % 8 * 512 + e - 16, by omega⟩ : Fin 4096) = row t ⟨e - 16, by omega⟩ from Fin.ext (by simp only [row]; omega), ← blkU]
    pointwise

theorem tile0_at (c : Dev nD) (t : Fin cfg0.N) (r l : Fin 512) :
    tile0 m c t (ix2 r l) = conv (colU m c 0 (chan t l)) (taps m c 0 (chan t l)) (bias m c 0 (chan t l)) (row t r).val := by
  unfold tile0
  rw [pay2_apply, ext0_at m c t l _ (by omega), ext0_at m c t l _ (by omega), ext0_at m c t l _ (by omega), conv, ← blkW m c t 0 0 l, ← blkW m c t 1 0 l, ← blkW m c t 2 0 l, ← blkB]
  pointwise [row]
  try simp only [add_assoc]

/-- The convolution's tile, plane 1. -/
def tile1 (c : Dev nD) (t : Fin cfg0.N) : FVec Ideal S512x512 .f32 :=
  k0_pay2 (F := Ideal) (grid0.coords t) (View.ld (iblk m c 1 t) (Rect.unit ![1, 0, 0] ![1, 16, 512] inb_S2x16x512_S1x16x512_1_0_0))
    (View.ld (iblk m c 0 t) (Rect.unit ![1, 0, 0] ![1, 512, 512] inb_S2x512x512_S1x512x512_1_0_0))
    (View.ld (iblk m c 2 t) (Rect.unit ![0, 1, 0] ![1, 1, 512] inb_S3x2x512_S1x1x512_0_1_0))
    (View.ld (iblk m c 2 t) (Rect.unit ![1, 1, 0] ![1, 1, 512] inb_S3x2x512_S1x1x512_1_1_0))
    (View.ld (iblk m c 2 t) (Rect.unit ![2, 1, 0] ![1, 1, 512] inb_S3x2x512_S1x1x512_2_1_0))
    (View.ld (iblk m c 3 t) (Rect.unit ![1, 0] ![1, 512] inb_S2x512_S1x512_1_0))

theorem ext1_at (c : Dev nD) (t : Fin cfg0.N) (l : Fin 512) (e : ℕ) (he : e < 528) :
    ext (grid0.coords t) (View.ld (iblk m c 1 t) (Rect.unit ![1, 0, 0] ![1, 16, 512] inb_S2x16x512_S1x16x512_1_0_0))
      (View.ld (iblk m c 0 t) (Rect.unit ![1, 0, 0] ![1, 512, 512] inb_S2x512x512_S1x512x512_1_0_0)) l e
      = past (colU m c 1 (chan t l)) (t.val % 8 * 512 + e) := by
  unfold ext past
  rw [coord1]
  split
  · rename_i h
    split
    · rw [if_neg (by omega)]
    · rw [if_pos (by omega), tok, dif_pos (by omega), show (⟨t.val % 8 * 512 + e - 16, by omega⟩ : Fin 4096) = before t ⟨e, h⟩ from Fin.ext (by simp only [before]; omega), ← blkUp]
      pointwise
  · rw [dif_pos (by omega), if_pos (by omega), tok, dif_pos (by omega),
      show (⟨t.val % 8 * 512 + e - 16, by omega⟩ : Fin 4096) = row t ⟨e - 16, by omega⟩ from Fin.ext (by simp only [row]; omega), ← blkU]
    pointwise

theorem tile1_at (c : Dev nD) (t : Fin cfg0.N) (r l : Fin 512) :
    tile1 m c t (ix2 r l) = conv (colU m c 1 (chan t l)) (taps m c 1 (chan t l)) (bias m c 1 (chan t l)) (row t r).val := by
  unfold tile1
  rw [pay2_apply, ext1_at m c t l _ (by omega), ext1_at m c t l _ (by omega), ext1_at m c t l _ (by omega), conv, ← blkW m c t 0 1 l, ← blkW m c t 1 1 l, ← blkW m c t 2 1 l, ← blkB]
  pointwise [row]
  try simp only [add_assoc]

/-- The convolution's results, as one array. -/
def results (c : Dev nD) : FVec Ideal S2x4096x5632 .bf16 := fun j => conv (colU m c (j 0) (j 2)) (taps m c (j 0) (j 2)) (bias m c (j 0) (j 2)) (j 1).val

/-- The gated values, as one array. -/
def values (c : Dev nD) : FVec Ideal S4096x5632 .bf16 := fun j => gated (results m c (ix3 0 (j 0) (j 1))) (results m c (ix3 1 (j 0) (j 1)))

theorem results_at (c : Dev nD) (t : Fin cfg0.N) (p : Fin 2) (r l : Fin 512) (j : S2x4096x5632.Idx)
    (h0 : (j 0).val = p.val) (h1 : (j 1).val = t.val % 8 * 512 + r.val) (h2 : (j 2).val = t.val / 8 * 512 + l.val) :
    results m c j = conv (colU m c p (chan t l)) (taps m c p (chan t l)) (bias m c p (chan t l)) (row t r).val := by
  have e0 : j 0 = p := Fin.ext h0
  have e1 : j 1 = row t r := Fin.ext h1
  have e2 : j 2 = chan t l := Fin.ext h2
  unfold results
  rw [e0, e1, e2]

theorem values_at (c : Dev nD) (t : Fin cfg0.N) (r l : Fin 512) (j : S4096x5632.Idx)
    (h0 : (j 0).val = t.val % 8 * 512 + r.val) (h1 : (j 1).val = t.val / 8 * 512 + l.val) :
    values m c j = gated (tile0 m c t (ix2 r l)) (tile1 m c t (ix2 r l)) := by
  unfold values
  rw [tile0_at, tile1_at, results_at m c t 0 r l _ rfl h0 h1, results_at m c t 1 r l _ rfl h0 h1]

theorem split1 (x : S1x512x512.Idx) : ∃ r l : Fin 512, x = ix3 0 r l :=
  ⟨x 1, x 2, (eq_ix3 x).trans (by rw [show x 0 = (0 : Fin 1) from Subsingleton.elim (α := Fin 1) _ _])⟩

/-- The convolution's results after the run. -/
theorem final_results (c : Dev nD) : (dats m 0 c).arrAt 5 (cfgs 0).N = results m c := by
  refine (dats m 0 c).arrAt_eq_of_covers 5 _ (by decide +kernel) fun t hf y => ?_
  have ht := tN t
  blk_simp; rw [after0_5]; frame_out
  canon_tiles x h
  · obtain ⟨r, l, rfl⟩ := split1 x
    simp only [ix3_0, ix3_1, ix3_2] at h0 h1 h2
    refine ((pay5_apply _ _ _ _ _ _ _ r l).trans (tile1_at m c t r l)).trans (results_at m c t 1 r l _ ?_ ?_ ?_).symm
    all_goals (blk_simp [idx_val t] <;> first | exact h0 | omega)
  · obtain ⟨r, l, rfl⟩ := split1 x
    simp only [ix3_0, ix3_1, ix3_2] at h0 h1 h2
    refine ((pay3_apply _ _ _ _ _ _ _ r l).trans (tile0_at m c t r l)).trans (results_at m c t 0 r l _ ?_ ?_ ?_).symm
    all_goals (blk_simp [idx_val t] <;> first | exact h0 | omega)

/-- The gated values after the run. -/
theorem final_values (c : Dev nD) : (dats m 0 c).arrAt 4 (cfgs 0).N = values m c := by
  refine (dats m 0 c).arrAt_eq_of_covers 4 _ (by decide +kernel) fun t hf y => ?_
  have ht := tN t
  blk_simp; rw [after0_4]; frame_out
  refine (pay1_apply (tile0 m c t) (tile1 m c t) y).trans ?_
  obtain ⟨r, l, rfl⟩ : ∃ r l : Fin 512, y = ix2 r l := ⟨y 0, y 1, eq_ix2 y⟩
  refine (values_at m c t r l _ ?_ ?_).symm
  all_goals (blk_simp [idx_val t])

end Cert.FfnActFwdIdeal.Value

end
-- ==== Proof.FfnFwdRef.lean ====
module

public import proofs.«01_k».proof.Proof.Gen.FfnActFwdRefIdeal.Read
public import proofs.«01_k».proof.Proof.FfnFwdSpec
public import Idealize.ShloMosaic.Lib.Pipeline.ValueKit
public import Idealize.ShloMosaic.Lib.Pointwise

/-!
What the reference of the forward pass of the feed-forward layer's convolution and gate computes, read at an index.
-/

@[expose] public section

set_option maxRecDepth 16384

noncomputable section

namespace Cert.FfnActFwdRefIdeal.Value

open Cert.FfnActFwdRefIdeal Cert.FfnActFwdRefIdeal.Gen Cert.FfnActFwdRefIdeal.Read Cert.Gate Idealize.ShloMosaic Idealize.ShloMosaic.TcCoe

variable (x0 : FVec Ideal S2x4096x5632 .bf16) (x1 : FVec Ideal S3x2x5632 .f32) (x2 : FVec Ideal S2x5632 .f32)

/-- Plane `p` of the input, one channel. -/
abbrev colU (p : Fin 2) (ch : Fin 5632) : Fin 4096 → EReal := fun n => x0 (ix3 p n ch)

/-- The convolution's result, one channel. -/
def res (p : Fin 2) (ch : Fin 5632) (n : Fin 4096) : EReal := conv (colU x0 p ch) (fun k => x1 (ix3 k p ch)) (x2 (ix2 p ch)) n.val

theorem v2_at (p : Fin 2) (n : Fin 4098) (ch : Fin 5632) :
    val_main_v2 (F := Ideal) x0 (ix3 p n ch) = past (colU x0 p ch) (n.val + 14) := by
  pointwise [val_main_v2, val_main_v1, val_main_cst, val_main_v0, past, tok]
  by_cases h : n.val < 2
  · rw [dif_pos h, if_neg (by omega)]
  · rw [dif_neg h]
    refine Eq.trans ?_ (if_pos (by omega)).symm
    rw [dif_pos (by omega)]
    exact congrArg (fun k => x0 (ix3 p k ch)) (Fin.ext (by simp only; omega))

theorem v27_at (p : Fin 2) (n : Fin 4096) (ch : Fin 5632) : val_main_v27 (F := Ideal) x0 x1 x2 (ix3 p n ch) = res x0 x1 x2 p ch n := by
  pointwise [val_main_v27, val_main_v24, val_main_v17, val_main_v10, val_main_v9, val_main_cst_0, val_main_v8, val_main_v16, val_main_v23, val_main_v26, val_main_v25,
    val_main_v3, val_main_v11, val_main_v18, val_main_v7, val_main_v6, val_main_v5, val_main_v4, val_main_v15, val_main_v14, val_main_v13, val_main_v12,
    val_main_v22, val_main_v21, val_main_v20, val_main_v19]
  simp only [v2_at, res, conv, show 1 + n.val + 14 = n.val + 15 by omega, show 2 + n.val + 14 = n.val + 16 by omega]

/-- The convolution's results. -/
theorem v35_at (p : Fin 2) (n : Fin 4096) (ch : Fin 5632) : val_main_v35 (F := Ideal) x0 x1 x2 (ix3 p n ch) = res x0 x1 x2 p ch n := by
  rw [← v27_at]
  rfl

theorem v29_at (n : Fin 4096) (ch : Fin 5632) : val_main_v29 (F := Ideal) x0 x1 x2 (ix2 n ch) = res x0 x1 x2 0 ch n := by
  rw [← v27_at]
  pointwise [val_main_v29, val_main_v28]

theorem v32_at (n : Fin 4096) (ch : Fin 5632) : val_main_v32 (F := Ideal) x0 x1 x2 (ix2 n ch) = res x0 x1 x2 1 ch n := by
  rw [← v27_at]
  pointwise [val_main_v32, val_main_v31]

theorem gate_at (n : Fin 4096) (ch : Fin 5632) : val_main_call0_v5 (F := Ideal) x0 x1 x2 (ix2 n ch) = logi (val_main_v29 (F := Ideal) x0 x1 x2 (ix2 n ch)) := by
  pointwise [val_main_call0_v5, val_main_call0_v4, val_main_call0_v3, val_main_call0_v2, val_main_call0_v1, val_main_call0_v0, val_main_call0_cst, val_main_call0_cst_0]
  rfl

/-- The gated values. -/
theorem v34_at (n : Fin 4096) (ch : Fin 5632) : val_main_v34 (F := Ideal) x0 x1 x2 (ix2 n ch) = gated (res x0 x1 x2 0 ch n) (res x0 x1 x2 1 ch n) := by
  pointwise [val_main_v34, val_main_v33, val_main_v30]
  rw [gate_at, v29_at, v32_at, gated]

end Cert.FfnActFwdRefIdeal.Value

end
-- ==== Proof.FfnFwdEq.lean ====
module

public import proofs.«01_k».proof.Proof.FfnFwdArrays
public import proofs.«01_k».proof.Proof.FfnFwdRef

/-!
The equation: the two arrays the forward kernel of the feed-forward layer's convolution and gate leaves are the reference's two
results.
-/

@[expose] public section

noncomputable section

namespace Cert.FfnActFwdIdeal.Value

open Cert.FfnActFwdIdeal Cert.FfnActFwdIdeal.Gen Cert.Gate Idealize.ShloMosaic Idealize.ShloMosaic.TcCoe Idealize.SL.Sem

variable (m : (ℓ : Loc nD τ sig) → Buf (Elt Idealize.ShloMosaic.Ideal) ℓ) (c : Dev nD)

theorem values_eq : (dats m 0 c).arrAt 4 (cfgs 0).N
    = Cert.FfnActFwdRefIdeal.Read.val_main_v34 (F := Idealize.ShloMosaic.Ideal) (m ((c : Thread nD τ).loc main_arg0)) (m ((c : Thread nD τ).loc main_arg1))
        (m ((c : Thread nD τ).loc main_arg2)) := by
  rw [final_values]
  funext j
  obtain ⟨a, b, rfl⟩ : ∃ a b, j = ix2 a b := ⟨j 0, j 1, eq_ix2 j⟩
  exact (Cert.FfnActFwdRefIdeal.Value.v34_at _ _ _ _ _).symm

theorem results_eq : (dats m 0 c).arrAt 5 (cfgs 0).N
    = Cert.FfnActFwdRefIdeal.Read.val_main_v35 (F := Idealize.ShloMosaic.Ideal) (m ((c : Thread nD τ).loc main_arg0)) (m ((c : Thread nD τ).loc main_arg1))
        (m ((c : Thread nD τ).loc main_arg2)) := by
  rw [final_results]
  funext j
  obtain ⟨a, b, d, rfl⟩ : ∃ a b d, j = ix3 a b d := ⟨j 0, j 1, j 2, eq_ix3 j⟩
  exact (Cert.FfnActFwdRefIdeal.Value.v35_at _ _ _ _ _ _).symm

end Cert.FfnActFwdIdeal.Value

end
-- ==== Proof.FfnValue.lean ====
module
public import proofs.«01_k».proof.Proof.FfnEq
public import proofs.«01_k».proof.Proof.FfnFwdEq
public import proofs.«01_k».proof.Proof.Gen.FfnActBwdIdeal.Frame
public import proofs.«01_k».proof.Proof.Gen.FfnActBwdIdeal.Value
public import proofs.«01_k».proof.Proof.Gen.FfnActBwdRefIdeal.Run
public import proofs.«01_k».proof.Proof.Gen.FfnActBwdRefIdeal.Read
public import proofs.«01_k».proof.Proof.Gen.FfnActFwdIdeal.Frame
public import proofs.«01_k».proof.Proof.Gen.FfnActFwdIdeal.Value
public import proofs.«01_k».proof.Proof.Gen.FfnActFwdRefIdeal.Run
public import proofs.«01_k».proof.Proof.Gen.FfnActFwdRefIdeal.Read
public import Idealize.ShloMosaic.Lib.Claim

/-!
The value claims of the feed-forward layer's convolution and gate: the backward pass's three results on real arguments, and the
forward pass's two results on every argument.
-/

@[expose] public section

set_option maxRecDepth 16384

noncomputable section

namespace Cert.Proof

open Idealize.ShloMosaic Idealize.SL.Sem

theorem FfnActBwd_value : Cert.algebraic_FfnActBwdIdeal_FfnActBwdRefIdeal_pre_finite_ffn := by
  intro m g m' g' hpre hagree
  refine ⟨fun c => (Cert.FfnActBwdIdeal.Gen.dats m 0 c).arrAt 6 Cert.FfnActBwdIdeal.cfg0.N,
    fun c => (Cert.FfnActBwdIdeal.Gen.dats m 0 c).arrAt 7 Cert.FfnActBwdIdeal.cfg0.N,
    fun c => (Cert.FfnActBwdIdeal.Gen.dats m 0 c).arrAt 8 Cert.FfnActBwdIdeal.cfg0.N, ?_, ?_⟩
  · refine (θ_run Cert.FfnActBwdIdeal.defs _ _).mono (fun r h c => ?_) (Cert.FfnActBwdIdeal.Gen.run_main m g)
    exact ⟨Cert.FfnActBwdIdeal.Value.post6 m r h c, Cert.FfnActBwdIdeal.Value.post7 m r h c,
      Cert.FfnActBwdIdeal.Value.post8 m r h c, Cert.FfnActBwdIdeal.Value.kept_main_arg0 m r h c,
      Cert.FfnActBwdIdeal.Value.kept_main_arg1 m r h c, Cert.FfnActBwdIdeal.Value.kept_main_arg2 m r h c,
      Cert.FfnActBwdIdeal.Value.kept_main_arg3 m r h c⟩
  · refine (θ_run Cert.FfnActBwdRefIdeal.defs _ _).mono (fun r h c => ?_) (Cert.FfnActBwdRefIdeal.Value.run m' g')
    obtain ⟨a0, a1, a2, a3⟩ := hagree c
    refine ⟨((h c).1.trans (Cert.FfnActBwdRefIdeal.Read.val_main_v78_eq _ _)).trans (Eq.trans ?_ (Cert.FfnActBwdIdeal.Value.planes_eq m hpre c).symm),
      ((h c).2.1.trans (Cert.FfnActBwdRefIdeal.Read.val_main_v73_eq _ _)).trans (Eq.trans ?_ (Cert.FfnActBwdIdeal.Value.taps_eq m hpre c).symm),
      ((h c).2.2.1.trans (Cert.FfnActBwdRefIdeal.Read.val_main_v44_eq _ _)).trans (Eq.trans ?_ (Cert.FfnActBwdIdeal.Value.bias_eq m hpre c).symm), (h c).2.2.2⟩
    all_goals rw [a0, a1, a2, a3]

/-- The two results of the forward pass are the reference's, over the extended reals. -/
theorem FfnActFwd_value : Cert.algebraic_FfnActFwdIdeal_FfnActFwdRefIdeal := by
  pair_intro
  · run_from Cert.FfnActFwdIdeal.Gen.run_main m g
  · run_from Cert.FfnActFwdRefIdeal.Value.run m' g'
    · obtain ⟨a0, a1, a2⟩ := hagree c
      refine (Cert.FfnActFwdRefIdeal.Read.val_main_v34_eq m' c).trans (Eq.trans ?_ (Cert.FfnActFwdIdeal.Value.values_eq m c).symm)
      rw [a0, a1, a2]
    · exact (Cert.FfnActFwdRefIdeal.Read.val_main_v35_eq _ _ _).trans (Cert.FfnActFwdIdeal.Value.results_eq m c).symm

theorem FfnActBwd_ref : Cert.quiescent_FfnActBwdRefIdeal := fun m ρ _ =>
  (θ_run Cert.FfnActBwdRefIdeal.defs _ _).mono (fun r h => ⟨fun c => (h c).2.2.2, sem_eq_zero_of_no_sems rfl _⟩)
    (Cert.FfnActBwdRefIdeal.Value.run m ρ)

theorem FfnActFwd_ref : Cert.quiescent_FfnActFwdRefIdeal := fun m ρ _ =>
  (θ_run Cert.FfnActFwdRefIdeal.defs _ _).mono (fun r h => ⟨fun c => (h c).2.2, sem_eq_zero_of_no_sems rfl _⟩)
    (Cert.FfnActFwdRefIdeal.Value.run m ρ)

end Cert.Proof

end
-- ==== Proof.AdamValue.lean ====
module
public import proofs.«01_k».proof.Defs
public import proofs.«01_k».proof.Proof.Gen.AdamwSmallIdeal.Frame
public import proofs.«01_k».proof.Proof.Gen.AdamwSmallIdeal.Value
public import proofs.«01_k».proof.Proof.Gen.AdamwSmallRefIdeal.Run
public import proofs.«01_k».proof.Proof.Gen.AdamwSmallRefIdeal.Read
public import Idealize.ShloMosaic.Lib.Claim
public import Idealize.ShloMosaic.Lib.Pointwise

/-!
The optimiser's step on the packed small parameters: the change of the parameters and the two new moments are the
reference's, over the extended reals.
-/

@[expose] public section

set_option maxRecDepth 16384

noncomputable section

namespace Cert.AdamwSmallIdeal.Value

open Cert.AdamwSmallIdeal Cert.AdamwSmallIdeal.Gen Idealize.ShloMosaic Idealize.ShloMosaic.TcCoe

/-- The new first moment. -/
theorem first_eq (g m : FVec Ideal S856x128 .f32) : G5 (F := Ideal) g m = Cert.AdamwSmallRefIdeal.Read.val_main_v4 (F := Ideal) g m := by
  funext j
  obtain ⟨a, b, rfl⟩ : ∃ a b, j = ix2 a b := ⟨j 0, j 1, eq_ix2 j⟩
  rfl

/-- The new second moment. -/
theorem second_eq (g v : FVec Ideal S856x128 .f32) : G6 (F := Ideal) g v = Cert.AdamwSmallRefIdeal.Read.val_main_v10 (F := Ideal) g v := by
  funext j
  obtain ⟨a, b, rfl⟩ : ∃ a b, j = ix2 a b := ⟨j 0, j 1, eq_ix2 j⟩
  rfl

/-- The change of the parameters. -/
theorem change_eq (w g m v : FVec Ideal S856x128 .f32) : G4 (F := Ideal) w g m v = Cert.AdamwSmallRefIdeal.Read.val_main_v23 (F := Ideal) w g m v := by
  funext j
  obtain ⟨a, b, rfl⟩ : ∃ a b, j = ix2 a b := ⟨j 0, j 1, eq_ix2 j⟩
  rfl

end Cert.AdamwSmallIdeal.Value

namespace Cert.Proof

open Idealize.ShloMosaic Idealize.SL.Sem

/-- The three results of the optimiser's step are the reference's, over the extended reals. -/
theorem AdamwSmall_value : Cert.algebraic_AdamwSmallIdeal_AdamwSmallRefIdeal := by
  intro m g m' g' _ hagree
  refine ⟨fun c => Cert.AdamwSmallIdeal.Value.G4 _ _ _ _, fun c => Cert.AdamwSmallIdeal.Value.G5 _ _,
    fun c => Cert.AdamwSmallIdeal.Value.G6 _ _, Cert.AdamwSmallIdeal.Value.run m g, ?_⟩
  refine (θ_run Cert.AdamwSmallRefIdeal.defs _ _).mono (fun r h c => ?_) (Cert.AdamwSmallRefIdeal.Value.run m' g')
  obtain ⟨a0, a1, a2, a3⟩ := hagree c
  refine ⟨((h c).1.trans (Cert.AdamwSmallRefIdeal.Read.val_main_v23_eq _ _ _ _)).trans (Eq.trans ?_ (Cert.AdamwSmallIdeal.Value.change_eq _ _ _ _).symm),
    ((h c).2.1.trans (Cert.AdamwSmallRefIdeal.Read.val_main_v4_eq _ _)).trans (Eq.trans ?_ (Cert.AdamwSmallIdeal.Value.first_eq _ _).symm),
    ((h c).2.2.1.trans (Cert.AdamwSmallRefIdeal.Read.val_main_v10_eq _ _)).trans (Eq.trans ?_ (Cert.AdamwSmallIdeal.Value.second_eq _ _).symm), (h c).2.2.2⟩
  · rw [a0, a1, a2, a3]
  · rw [a1, a2]
  · rw [a1, a3]

theorem AdamwSmall_ref : Cert.quiescent_AdamwSmallRefIdeal := fun m ρ _ =>
  (θ_run Cert.AdamwSmallRefIdeal.defs _ _).mono (fun r h => ⟨fun c => (h c).2.2.2, sem_eq_zero_of_no_sems rfl _⟩)
    (Cert.AdamwSmallRefIdeal.Value.run m ρ)

end Cert.Proof

end
-- ==== Proof.ScFwdSpec.lean ====
module
public import Idealize.ShloMosaic.PureOps.Ideal.Laws
public import Idealize.ShloMosaic.Lib.Pointwise

/-!
The forward pass of the gated short convolution, one channel at a time: the second and third plane of the input are multiplied, a
causal convolution of width three runs over the product, and the first plane multiplies what comes out.
-/

@[expose] public section

noncomputable section

namespace Cert.ShortForward

/-- A column of tokens, sixteen places later: before the first token there are zeros. -/
def late (u : Fin 4096 → EReal) (n : ℕ) : EReal := if h : 16 ≤ n ∧ n - 16 < 4096 then u ⟨n - 16, h.2⟩ else 0

/-- One result: the product `u * v` convolved with the taps `w`, times the gate `g`. -/
def short (g u v : Fin 4096 → EReal) (w : Fin 3 → EReal) (n : Fin 4096) : EReal :=
  g n * (late u (n.val + 14) * late v (n.val + 14) * w 0 + late u (n.val + 15) * late v (n.val + 15) * w 1
    + late u (n.val + 16) * late v (n.val + 16) * w 2)

end Cert.ShortForward

end
-- ==== Proof.ScFwdArray.lean ====
module
public import proofs.«01_k».proof.Proof.Gen.ScActFwdIdeal.Frame
public import proofs.«01_k».proof.Proof.ScFwdSpec
public import Idealize.ShloMosaic.Lib.Pipeline.ReadBack
public import Idealize.ShloMosaic.Lib.Pipeline.ValueKit
public import Idealize.ShloMosaic.Lib.Pointwise

/-!
The array the forward kernel of the gated short convolution leaves.
-/

@[expose] public section

set_option maxRecDepth 16384

noncomputable section

open Idealize.ShloMosaic Idealize.ShloMosaic.TcCoe Idealize.SL.Sem
open Idealize.ShloMosaic.Pipeline (Dat)

namespace Cert.ScActFwdIdeal.Value

open Cert.ScActFwdIdeal Cert.ScActFwdIdeal.Gen Cert.ShortForward

variable (m : (ℓ : Loc nD τ sig) → Buf (Elt Ideal) ℓ)

/-- The blocks of every window at grid point `t`: the token tile is `t % 8`, the channel tile `t / 8`. -/
theorem idx_val : ∀ t : Fin cfg0.N, win0_0.index t = ![0, t.val % 8, t.val / 8]
    ∧ win0_1.index t = ![0, t.val % 8 * 32 - 1, t.val / 8]
    ∧ win0_2.index t = ![0, t.val / 8]
    ∧ win0_3.index t = ![t.val % 8, t.val / 8]
    ∧ (grid0.coords t 1).val = t.val % 8 :=
  (by decide +kernel : ∀ t : Fin grid0.N, _)

theorem coord1 (t : Fin cfg0.N) : (grid0.coords t 1).val = t.val % 8 := (idx_val t).2.2.2.2

theorem tN (t : Fin cfg0.N) : t.val < 32 := lt_of_lt_of_eq t.isLt N_0

/-- Lane `l` of grid point `t`, as a channel of the array. -/
def chan (t : Fin cfg0.N) (l : Fin 512) : Fin 2048 := ⟨t.val / 8 * 512 + l.val, by have := tN t; omega⟩

/-- Token `r` of grid point `t`. -/
def row (t : Fin cfg0.N) (r : Fin 512) : Fin 4096 := ⟨t.val % 8 * 512 + r.val, by omega⟩

/-- Token `e` of the block that precedes grid point `t` (the first one, where nothing precedes). -/
def before (t : Fin cfg0.N) (e : Fin 16) : Fin 4096 := ⟨(t.val % 8 * 32 - 1) * 16 + e.val, by omega⟩

/-- Plane `p` of the input, one channel. -/
abbrev colU (c : Dev nD) (p : Fin 3) (ch : Fin 2048) : Fin 4096 → EReal := fun n => m ((c : Thread nD τ).loc main_arg0) (ix3 p n ch)
/-- The three taps of one channel. -/
abbrev taps (c : Dev nD) (ch : Fin 2048) : Fin 3 → EReal := fun k => m ((c : Thread nD τ).loc main_arg1) (ix2 k ch)

theorem blkU (c : Dev nD) (t : Fin cfg0.N) (p : Fin 3) (r l : Fin 512) : iblk m c 0 t (ix3 p r l) = colU m c p (chan t l) (row t r) := by
  have ht := tN t
  have hV : V m c (Pipeline.arrRef spec0 0) = m ((c : Thread nD τ).loc main_arg0) := V_main_arg0 m c
  blk_point [iblk, hV, idx_val t, chan, row, colU]

theorem blkUp (c : Dev nD) (t : Fin cfg0.N) (p : Fin 3) (r : Fin 16) (l : Fin 512) : iblk m c 1 t (ix3 p r l) = colU m c p (chan t l) (before t r) := by
  have ht := tN t
  have hV : V m c (Pipeline.arrRef spec0 1) = m ((c : Thread nD τ).loc main_arg0) := V_main_arg0 m c
  blk_point [iblk, hV, idx_val t, chan, before, colU]

theorem blkW (c : Dev nD) (t : Fin cfg0.N) (k : Fin 3) (l : Fin 512) : iblk m c 2 t (ix2 k l) = taps m c (chan t l) k := by
  have ht := tN t
  have hV : V m c (Pipeline.arrRef spec0 2) = m ((c : Thread nD τ).loc main_arg1) := V_main_arg1 m c
  blk_point [iblk, hV, idx_val t, chan, taps]

theorem sel_first (k : ℕ) (hk : k < 8) (a b : EReal) :
    Scalar.select (Scalar.cmpi CmpIPredicate.eq (BitVec.ofNat 32 k) 0#32) a b = if k = 0 then a else b := by
  have : (BitVec.ofNat 32 k == 0#32) = decide (k = 0) := by
    interval_cases k <;> decide
  by_cases h : k = 0 <;> simp [Scalar.select, Scalar.cmpi, IntOp.cmpi, this, h]

/-- Row `e` of the tile with the sixteen rows before it. -/
def ext (i : grid0.Coords) (y : Vec Ideal S1x16x512 .bf16) (x : Vec Ideal S1x512x512 .bf16) (l : Fin 512) (e : ℕ) : EReal :=
  if h : e < 16 then if (i 1).val = 0 then 0 else y (ix3 0 ⟨e, h⟩ l) else if h : e - 16 < 512 then x (ix3 0 ⟨e - 16, h⟩ l) else 0

theorem ext_mod (i : grid0.Coords) (y : Vec Ideal S1x16x512 .bf16) (x : Vec Ideal S1x512x512 .bf16) (l : Fin 512) (k e : ℕ)
    (h1 : k % 528 = e) (hk : k % 528 < 528) :
    (if h : k % 528 < 16 then if (i 1).val = 0 then (0 : EReal) else y (ix3 0 ⟨k % 528, h⟩ l) else x (ix3 0 ⟨k % 528 - 16, by omega⟩ l)) = ext i y x l e := by
  subst h1
  unfold ext
  split
  · rfl
  · rw [dif_pos (by omega)]

theorem ext_last (i : grid0.Coords) (y : Vec Ideal S1x16x512 .bf16) (x : Vec Ideal S1x512x512 .bf16) (r l : Fin 512) :
    x (ix3 0 r l) = ext i y x l (r.val + 16) := by
  unfold ext
  rw [dif_neg (by omega), dif_pos (by omega)]
  exact congrArg (fun q => x (ix3 0 q l)) (Fin.ext (by simp only; omega))

theorem pay2_apply (i : grid0.Coords) (y1 : Vec Ideal S1x16x512 .bf16) (x1 : Vec Ideal S1x512x512 .bf16) (y2 : Vec Ideal S1x16x512 .bf16)
    (x2 : Vec Ideal S1x512x512 .bf16) (w0 w1 w2 : Vec Ideal S1x512 .f32) (r l : Fin 512) :
    k0_pay2 (F := Ideal) i y1 x1 y2 x2 w0 w1 w2 (ix2 r l)
      = ext i y1 x1 l (r.val + 14) * ext i y2 x2 l (r.val + 14) * w0 (ix2 0 l) + ext i y1 x1 l (r.val + 15) * ext i y2 x2 l (r.val + 15) * w1 (ix2 0 l)
        + ext i y1 x1 l (r.val + 16) * ext i y2 x2 l (r.val + 16) * w2 (ix2 0 l) := by
  have hi : (i 1).val < 8 := (i 1).isLt
  pointwise [k0_pay2]
  simp only [sel_first _ hi]
  rw [← ext_last i y1 x1 r l, ← ext_last i y2 x2 r l,
    ← ext_mod i y1 x1 l (16 + r.val + 528 - 2) (r.val + 14) (by omega) (by omega), ← ext_mod i y2 x2 l (16 + r.val + 528 - 2) (r.val + 14) (by omega) (by omega),
    ← ext_mod i y1 x1 l (16 + r.val + 528 - 1) (r.val + 15) (by omega) (by omega), ← ext_mod i y2 x2 l (16 + r.val + 528 - 1) (r.val + 15) (by omega) (by omega)]

theorem pay1_apply (s : FVec Ideal S512x512 .f32) (g : Vec Ideal S1x512x512 .bf16) (r l : Fin 512) :
    k0_pay1 (F := Ideal) s g (ix2 r l) = g (ix3 0 r l) * s (ix2 r l) := by
  pointwise [k0_pay1]

theorem ext_at (c : Dev nD) (t : Fin cfg0.N) (p : Fin 3) (y : Vec Ideal S1x16x512 .bf16) (x : Vec Ideal S1x512x512 .bf16)
    (hy : ∀ (r : Fin 16) (l : Fin 512), y (ix3 0 r l) = iblk m c 1 t (ix3 p r l)) (hx : ∀ r l : Fin 512, x (ix3 0 r l) = iblk m c 0 t (ix3 p r l))
    (l : Fin 512) (e : ℕ) (he : e < 528) : ext (grid0.coords t) y x l e = late (colU m c p (chan t l)) (t.val % 8 * 512 + e) := by
  unfold ext late
  rw [coord1]
  split
  · rename_i h
    split
    · rw [dif_neg (by omega)]
    · rw [dif_pos (by omega), show (⟨t.val % 8 * 512 + e - 16, by omega⟩ : Fin 4096) = before t ⟨e, h⟩ from Fin.ext (by simp only [before]; omega), ← blkUp, hy]
  · rw [dif_pos (by omega), dif_pos (by omega),
      show (⟨t.val % 8 * 512 + e - 16, by omega⟩ : Fin 4096) = row t ⟨e - 16, by omega⟩ from Fin.ext (by simp only [row]; omega), ← blkU, hx]

/-- What the kernel leaves, as one array. -/
def values (c : Dev nD) : FVec Ideal S4096x2048 .bf16 := fun j => short (colU m c 0 (j 1)) (colU m c 1 (j 1)) (colU m c 2 (j 1)) (taps m c (j 1)) (j 0)

theorem values_at (c : Dev nD) (t : Fin cfg0.N) (r l : Fin 512) (j : S4096x2048.Idx)
    (h0 : (j 0).val = t.val % 8 * 512 + r.val) (h1 : (j 1).val = t.val / 8 * 512 + l.val) :
    values m c j = short (colU m c 0 (chan t l)) (colU m c 1 (chan t l)) (colU m c 2 (chan t l)) (taps m c (chan t l)) (row t r) := by
  have e0 : j 0 = row t r := Fin.ext h0
  have e1 : j 1 = chan t l := Fin.ext h1
  unfold values
  rw [e0, e1]

theorem tile_at (c : Dev nD) (t : Fin cfg0.N) (r l : Fin 512) :
    k0_pay1 (F := Ideal) (k0_pay2 (grid0.coords t) (View.ld (iblk m c 1 t) r0_0) (View.ld (iblk m c 0 t) r0_1) (View.ld (iblk m c 1 t) r0_2) (View.ld (iblk m c 0 t) r0_3)
      (View.ld (iblk m c 2 t) r0_4) (View.ld (iblk m c 2 t) r0_5) (View.ld (iblk m c 2 t) r0_6)) (View.ld (iblk m c 0 t) r0_7) (ix2 r l)
      = short (colU m c 0 (chan t l)) (colU m c 1 (chan t l)) (colU m c 2 (chan t l)) (taps m c (chan t l)) (row t r) := by
  have e1 : ∀ e, e < 528 → ext (grid0.coords t) (View.ld (iblk m c 1 t) r0_0) (View.ld (iblk m c 0 t) r0_1) l e = late (colU m c 1 (chan t l)) (t.val % 8 * 512 + e) :=
    ext_at m c t 1 _ _ (fun _ _ => by pointwise) (fun _ _ => by pointwise) l
  have e2 : ∀ e, e < 528 → ext (grid0.coords t) (View.ld (iblk m c 1 t) r0_2) (View.ld (iblk m c 0 t) r0_3) l e = late (colU m c 2 (chan t l)) (t.val % 8 * 512 + e) :=
    ext_at m c t 2 _ _ (fun _ _ => by pointwise) (fun _ _ => by pointwise) l
  have g : View.ld (iblk m c 0 t) r0_7 (ix3 0 r l) = colU m c 0 (chan t l) (row t r) := by
    rw [← blkU]
    pointwise
  have w0 : View.ld (iblk m c 2 t) r0_4 (ix2 0 l) = taps m c (chan t l) 0 := by
    rw [← blkW]
    pointwise
  have w1 : View.ld (iblk m c 2 t) r0_5 (ix2 0 l) = taps m c (chan t l) 1 := by
    rw [← blkW]
    pointwise
  have w2 : View.ld (iblk m c 2 t) r0_6 (ix2 0 l) = taps m c (chan t l) 2 := by
    rw [← blkW]
    pointwise
  rw [pay1_apply, pay2_apply, e1 _ (by omega), e1 _ (by omega), e1 _ (by omega), e2 _ (by omega), e2 _ (by omega), e2 _ (by omega), g, w0, w1, w2]
  simp only [short, row, add_assoc]

/-- The array after the run. -/
theorem final_values (c : Dev nD) : (dats m 0 c).arrAt 3 (cfgs 0).N = values m c := by
  refine (dats m 0 c).arrAt_eq_of_covers 3 _ (by decide +kernel) fun t hf y => ?_
  have ht := tN t
  blk_simp; rw [after0_3]; frame_out
  obtain ⟨r, l, rfl⟩ : ∃ r l : Fin 512, y = ix2 r l := ⟨y 0, y 1, eq_ix2 y⟩
  refine (tile_at m c t r l).trans ?_
  refine (values_at m c t r l _ ?_ ?_).symm
  all_goals (blk_simp [idx_val t])

end Cert.ScActFwdIdeal.Value

end
-- ==== Proof.ScFwdValue.lean ====
module
public import proofs.«01_k».proof.Defs
public import proofs.«01_k».proof.Proof.ScFwdArray
public import proofs.«01_k».proof.Proof.Gen.ScActFwdIdeal.Frame
public import proofs.«01_k».proof.Proof.Gen.ScActFwdIdeal.Value
public import proofs.«01_k».proof.Proof.Gen.ScActFwdRefIdeal.Run
public import proofs.«01_k».proof.Proof.Gen.ScActFwdRefIdeal.Read
public import Idealize.ShloMosaic.Lib.Claim

/-!
What the reference of the gated short convolution's forward pass computes, and the value claim: the kernel leaves the same array,
on every argument.
-/

@[expose] public section

set_option maxRecDepth 16384

noncomputable section

namespace Cert.ScActFwdRefIdeal.Value

open Cert.ScActFwdRefIdeal Cert.ScActFwdRefIdeal.Gen Cert.ScActFwdRefIdeal.Read Cert.ShortForward Idealize.ShloMosaic Idealize.ShloMosaic.TcCoe

variable (x0 : FVec Ideal S3x4096x2048 .bf16) (x1 : FVec Ideal S3x2048 .f32)

/-- Plane `p` of the input, one channel. -/
abbrev colU (p : Fin 3) (ch : Fin 2048) : Fin 4096 → EReal := fun n => x0 (ix3 p n ch)

theorem v7_at (n : Fin 4096) (ch : Fin 2048) : val_main_v7 (F := Ideal) x0 (ix2 n ch) = colU x0 1 ch n * colU x0 2 ch n := by
  pointwise [val_main_v7, val_main_v6, val_main_v5, val_main_v4, val_main_v3, val_main_v0]

theorem v9_at (n : Fin 4098) (ch : Fin 2048) :
    val_main_v9 (F := Ideal) x0 (ix2 n ch) = late (colU x0 1 ch) (n.val + 14) * late (colU x0 2 ch) (n.val + 14) := by
  pointwise [val_main_v9, val_main_v8, val_main_cst, late]
  by_cases h : n.val < 2
  · rw [dif_pos h, dif_neg (by omega), dif_neg (by omega), mul_zero]
  · rw [dif_neg h, v7_at, dif_pos (by omega), dif_pos (by omega)]
    have e : (⟨n.val - 2, by omega⟩ : Fin 4096) = ⟨n.val + 14 - 16, by omega⟩ := Fin.ext (by simp only; omega)
    rw [e]

/-- The reference's result. -/
theorem v33_at (n : Fin 4096) (ch : Fin 2048) :
    val_main_v33 (F := Ideal) x0 x1 (ix2 n ch) = short (colU x0 0 ch) (colU x0 1 ch) (colU x0 2 ch) (fun k => x1 (ix2 k ch)) n := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_0, val_main_v15,
    val_main_v14, val_main_v13, val_main_v12, val_main_v11, val_main_v10, val_main_v2, val_main_v1, val_main_v0]
  simp only [v9_at, short, show 1 + n.val + 14 = n.val + 15 by omega, show 2 + n.val + 14 = n.val + 16 by omega]

end Cert.ScActFwdRefIdeal.Value

namespace Cert.Proof

open Idealize.ShloMosaic Idealize.ShloMosaic.TcCoe Idealize.SL.Sem Cert.ScActFwdIdeal

/-- The equation of the two arrays. -/
theorem ScActFwd_eq (m : (ℓ : Loc nD τ sig) → Buf (Elt Idealize.ShloMosaic.Ideal) ℓ) (c : Dev nD) : (Gen.dats m 0 c).arrAt 3 (cfgs 0).N
    = Cert.ScActFwdRefIdeal.Read.val_main_v33 (F := Idealize.ShloMosaic.Ideal) (m ((c : Thread nD τ).loc main_arg0)) (m ((c : Thread nD τ).loc main_arg1)) := by
  rw [Value.final_values]
  funext j
  obtain ⟨a, b, rfl⟩ : ∃ a b, j = ix2 a b := ⟨j 0, j 1, eq_ix2 j⟩
  exact (Cert.ScActFwdRefIdeal.Value.v33_at _ _ _ _).symm

/-- The result of the forward pass is the reference's, over the extended reals. -/
theorem ScActFwd_value : Cert.algebraic_ScActFwdIdeal_ScActFwdRefIdeal := by
  pair_intro
  · run_from Cert.ScActFwdIdeal.Gen.run_main m g
  · run_from Cert.ScActFwdRefIdeal.Value.run m' g'
    · exact (Cert.ScActFwdRefIdeal.Read.val_main_v33_eq _ _).trans (ScActFwd_eq m c).symm

theorem ScActFwd_ref : Cert.quiescent_ScActFwdRefIdeal := fun m ρ _ =>
  (θ_run Cert.ScActFwdRefIdeal.defs _ _).mono (fun r h => ⟨fun c => (h c).2, sem_eq_zero_of_no_sems rfl _⟩)
    (Cert.ScActFwdRefIdeal.Value.run m ρ)

end Cert.Proof

end
-- ==== Proof.NormValue.lean ====
module
public import proofs.«01_k».proof.Defs
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import Idealize.ShloMosaic.Lib.Pipeline.ReadBack
public import Idealize.ShloMosaic.Lib.Pipeline.ValueKit
public import Idealize.ShloMosaic.Lib.Claim
public import Idealize.ShloMosaic.Lib.Pointwise

/-!
The norm: every row is divided by the root of its mean square and multiplied by the weights. The kernel leaves the reference's array,
on every argument.
-/

@[expose] public section

set_option maxRecDepth 16384

noncomputable section

open Idealize.ShloMosaic Idealize.ShloMosaic.TcCoe Idealize.SL.Sem
open Idealize.ShloMosaic.Pipeline (Dat)

namespace Cert.RowNorm

/-- One row, normed, at one channel. -/
def normed (x w : Fin 2048 → EReal) (l : Fin 2048) : EReal :=
  x l * Ideal.rsqrt (Ideal.div (∑ k : Fin 2048, x k * x k) (Ideal.ofBits .f32 0x45000000#32) + Ideal.ofBits .f32 0x3727C5AC#32) * w l

end Cert.RowNorm

namespace Cert.NormFwdIdeal.Value

open Cert.NormFwdIdeal Cert.NormFwdIdeal.Gen Cert.RowNorm

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

theorem tN (t : Fin cfg0.N) : t.val < 16 := lt_of_lt_of_eq t.isLt N_0

/-- Row `r` of grid point `t`. -/
def row (t : Fin cfg0.N) (r : Fin 256) : Fin 4096 := ⟨t.val * 256 + r.val, by have := tN t; omega⟩

/-- One row of the input. -/
abbrev rowX (c : Dev nD) (n : Fin 4096) : Fin 2048 → EReal := fun k => m ((c : Thread nD τ).loc main_arg0) (ix2 n k)
/-- The weights. -/
abbrev wts (c : Dev nD) : Fin 2048 → EReal := fun k => m ((c : Thread nD τ).loc main_arg1) (ix1 k)

theorem blkX (c : Dev nD) (t : Fin cfg0.N) (r : Fin 256) (k : Fin 2048) : iblk m c 0 t (ix2 r k) = rowX m c (row t r) k := by
  have ht := tN t
  have hV : V m c (Pipeline.arrRef spec0 0) = m ((c : Thread nD τ).loc main_arg0) := V_main_arg0 m c
  blk_point [iblk, hV, idx_val t, row, rowX]

theorem V_wts (c : Dev nD) : (V m c (Pipeline.arrRef spec0 1) : FVec Ideal S1x2048 .f32)
    = shapeCast S1x2048 (m ((c : Thread nD τ).loc main_arg1) : FVec Ideal S2048 .f32) shapeCasts_S2048_S1x2048 := by
  show StableHlo.after (hostOps0 (F := Ideal)) (fun b => m (c, b)) main_v0 = _
  after_results_simp
  rfl

theorem blkW (c : Dev nD) (t : Fin cfg0.N) (k : Fin 2048) : iblk m c 1 t (ix2 0 k) = wts m c k := by
  have ht := tN t
  have hV := V_wts m c
  have e : (shapeCast S1x2048 (m ((c : Thread nD τ).loc main_arg1) : FVec Ideal S2048 .f32) shapeCasts_S2048_S1x2048) (ix2 0 k) = wts m c k := by
    pointwise
  rw [← e]
  blk_point [iblk, hV, idx_val t]

theorem pay1_apply (x : Vec Ideal S256x2048 .f32) (w : Vec Ideal S1x2048 .f32) (r : Fin 256) (l : Fin 2048) :
    k0_pay1 (F := Ideal) x w (ix2 r l) = normed (fun k => x (ix2 r k)) (fun k => w (ix2 0 k)) l := by
  pointwise [k0_pay1, normed]

/-- What the kernel leaves, as one array. -/
def values (c : Dev nD) : FVec Ideal S4096x2048 .bf16 := fun j => normed (rowX m c (j 0)) (wts m c) (j 1)

/-- The array after the run. -/
theorem final_values (c : Dev nD) : (dats m 0 c).arrAt 2 (cfgs 0).N = values m c := by
  refine (dats m 0 c).arrAt_eq_of_covers 2 _ (by decide +kernel) fun t hf y => ?_
  have ht := tN t
  blk_simp; rw [after0_2]; frame_out
  obtain ⟨r, l, rfl⟩ : ∃ (r : Fin 256) (l : Fin 2048), y = ix2 r l := ⟨y 0, y 1, eq_ix2 y⟩
  refine (pay1_apply _ _ r l).trans ?_
  simp only [blkX, blkW]
  have key : ∀ j : S4096x2048.Idx, (j 0).val = t.val * 256 + r.val → (j 1).val = l.val → normed (rowX m c (row t r)) (wts m c) l = values m c j := by
    intro j h0 h1
    have e0 : j 0 = row t r := Fin.ext h0
    have e1 : j 1 = l := Fin.ext h1
    unfold values
    rw [e0, e1]
  refine key _ ?_ ?_
  all_goals (blk_simp [idx_val t])

end Cert.NormFwdIdeal.Value

namespace Cert.NormFwdRefIdeal.Value

open Cert.NormFwdRefIdeal Cert.NormFwdRefIdeal.Gen Cert.NormFwdRefIdeal.Read Cert.RowNorm

variable (x0 : FVec Ideal S4096x2048 .f32) (x1 : FVec Ideal S2048 .f32)

/-- The reference's result. -/
theorem v13_at (n : Fin 4096) (l : Fin 2048) :
    val_main_v13 (F := Ideal) x0 x1 (ix2 n l) = normed (fun k => x0 (ix2 n k)) (fun k => x1 (ix1 k)) l := by
  pointwise [val_main_v13, val_main_v12, val_main_v11, val_main_v10, val_main_v9, val_main_v8, val_main_v7, val_main_v6, val_main_v5, val_main_cst_1,
    val_main_v4, val_main_v3, val_main_cst_0, val_main_v2, val_main_v1, val_main_cst, val_main_v0, normed]

end Cert.NormFwdRefIdeal.Value

namespace Cert.Proof

open Cert.NormFwdIdeal

/-- The equation of the two arrays. -/
theorem NormFwd_eq (m : (ℓ : Loc nD τ sig) → Buf (Elt Idealize.ShloMosaic.Ideal) ℓ) (c : Dev nD) : (Gen.dats m 0 c).arrAt 2 (cfgs 0).N
    = Cert.NormFwdRefIdeal.Read.val_main_v13 (F := Idealize.ShloMosaic.Ideal) (m ((c : Thread nD τ).loc main_arg0)) (m ((c : Thread nD τ).loc main_arg1)) := by
  rw [Value.final_values]
  funext j
  obtain ⟨a, b, rfl⟩ : ∃ a b, j = ix2 a b := ⟨j 0, j 1, eq_ix2 j⟩
  exact (Cert.NormFwdRefIdeal.Value.v13_at _ _ _ _).symm

/-- The result of the norm is the reference's, over the extended reals. -/
theorem NormFwd_value : Cert.algebraic_NormFwdIdeal_NormFwdRefIdeal := by
  pair_intro
  · run_from Cert.NormFwdIdeal.Gen.run_main m g
  · run_from Cert.NormFwdRefIdeal.Value.run m' g'
    · exact (Cert.NormFwdRefIdeal.Read.val_main_v13_eq _ _).trans (NormFwd_eq m c).symm

theorem NormFwd_ref : Cert.quiescent_NormFwdRefIdeal := fun m ρ _ =>
  (θ_run Cert.NormFwdRefIdeal.defs _ _).mono (fun r h => ⟨fun c => (h c).2, sem_eq_zero_of_no_sems rfl _⟩)
    (Cert.NormFwdRefIdeal.Value.run m ρ)

end Cert.Proof

end
-- ==== Proof.lean ====
module

public import proofs.«01_k».proof.Defs
public import proofs.«01_k».proof.Proof.Gen.ScActBwd
public import proofs.«01_k».proof.Proof.Gen.ScActBwd.Skeleton
public import proofs.«01_k».proof.Proof.Gen.ScActBwd.Launch
public import proofs.«01_k».proof.Proof.Gen.ScActBwd.Points
public import proofs.«01_k».proof.Proof.Gen.ScActBwd.Frame
public import proofs.«01_k».proof.Proof.Gen.ScActBwdIdeal
public import proofs.«01_k».proof.Proof.Gen.ScActBwdIdeal.Skeleton
public import proofs.«01_k».proof.Proof.Gen.ScActBwdIdeal.Launch
public import proofs.«01_k».proof.Proof.Gen.ScActBwdIdeal.Points
public import proofs.«01_k».proof.Proof.Gen.ScActBwdIdeal.Frame
public import proofs.«01_k».proof.Proof.Gen.ScActBwdRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownDx
public import proofs.«01_k».proof.Proof.Gen.FfnDownDx.Skeleton
public import proofs.«01_k».proof.Proof.Gen.FfnDownDx.Launch
public import proofs.«01_k».proof.Proof.Gen.FfnDownDx.Points
public import proofs.«01_k».proof.Proof.Gen.FfnDownDx.Frame
public import proofs.«01_k».proof.Proof.Gen.FfnDownDxIdeal
public import proofs.«01_k».proof.Proof.Gen.FfnDownDxIdeal.Skeleton
public import proofs.«01_k».proof.Proof.Gen.FfnDownDxIdeal.Launch
public import proofs.«01_k».proof.Proof.Gen.FfnDownDxIdeal.Points
public import proofs.«01_k».proof.Proof.Gen.FfnDownDxIdeal.Frame
public import proofs.«01_k».proof.Proof.Gen.FfnDownDxRefIdeal
public import proofs.«01_k».proof.Proof.Gen.FfnDownDw
public import proofs.«01_k».proof.Proof.Gen.FfnDownDw.Skeleton
public import proofs.«01_k».proof.Proof.Gen.FfnDownDw.Launch
public import proofs.«01_k».proof.Proof.Gen.FfnDownDw.Points
public import proofs.«01_k».proof.Proof.Gen.FfnDownDw.Frame
public import proofs.«01_k».proof.Proof.Gen.FfnDownDwIdeal
public import proofs.«01_k».proof.Proof.Gen.FfnDownDwIdeal.Skeleton
public import proofs.«01_k».proof.Proof.Gen.FfnDownDwIdeal.Launch
public import proofs.«01_k».proof.Proof.Gen.FfnDownDwIdeal.Points
public import proofs.«01_k».proof.Proof.Gen.FfnDownDwIdeal.Frame
public import proofs.«01_k».proof.Proof.Gen.FfnDownDwRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpDw
public import proofs.«01_k».proof.Proof.Gen.FfnUpDw.Skeleton
public import proofs.«01_k».proof.Proof.Gen.FfnUpDw.Launch
public import proofs.«01_k».proof.Proof.Gen.FfnUpDw.Points
public import proofs.«01_k».proof.Proof.Gen.FfnUpDw.Frame
public import proofs.«01_k».proof.Proof.Gen.FfnUpDwIdeal
public import proofs.«01_k».proof.Proof.Gen.FfnUpDwIdeal.Skeleton
public import proofs.«01_k».proof.Proof.Gen.FfnUpDwIdeal.Launch
public import proofs.«01_k».proof.Proof.Gen.FfnUpDwIdeal.Points
public import proofs.«01_k».proof.Proof.Gen.FfnUpDwIdeal.Frame
public import proofs.«01_k».proof.Proof.Gen.FfnUpDwRefIdeal
public import proofs.«01_k».proof.Proof.Gen.FfnUpDx
public import proofs.«01_k».proof.Proof.Gen.FfnUpDx.Skeleton
public import proofs.«01_k».proof.Proof.Gen.FfnUpDx.Launch
public import proofs.«01_k».proof.Proof.Gen.FfnUpDx.Points
public import proofs.«01_k».proof.Proof.Gen.FfnUpDx.Frame
public import proofs.«01_k».proof.Proof.Gen.FfnUpDxIdeal
public import proofs.«01_k».proof.Proof.Gen.FfnUpDxIdeal.Skeleton
public import proofs.«01_k».proof.Proof.Gen.FfnUpDxIdeal.Launch
public import proofs.«01_k».proof.Proof.Gen.FfnUpDxIdeal.Points
public import proofs.«01_k».proof.Proof.Gen.FfnUpDxIdeal.Frame
public import proofs.«01_k».proof.Proof.Gen.FfnUpDxRefIdeal
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInRefIdeal
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutRefIdeal
public import proofs.«01_k».proof.Proof.Gen.SsdOutDx
public import proofs.«01_k».proof.Proof.Gen.SsdOutDx.Skeleton
public import proofs.«01_k».proof.Proof.Gen.SsdOutDx.Launch
public import proofs.«01_k».proof.Proof.Gen.SsdOutDx.Points
public import proofs.«01_k».proof.Proof.Gen.SsdOutDx.Frame
public import proofs.«01_k».proof.Proof.Gen.SsdOutDxIdeal
public import proofs.«01_k».proof.Proof.Gen.SsdOutDxIdeal.Skeleton
public import proofs.«01_k».proof.Proof.Gen.SsdOutDxIdeal.Launch
public import proofs.«01_k».proof.Proof.Gen.SsdOutDxIdeal.Points
public import proofs.«01_k».proof.Proof.Gen.SsdOutDxIdeal.Frame
public import proofs.«01_k».proof.Proof.Gen.SsdOutDxRefIdeal
public import proofs.«01_k».proof.Proof.Gen.SsdOutDw
public import proofs.«01_k».proof.Proof.Gen.SsdOutDw.Skeleton
public import proofs.«01_k».proof.Proof.Gen.SsdOutDw.Launch
public import proofs.«01_k».proof.Proof.Gen.SsdOutDw.Points
public import proofs.«01_k».proof.Proof.Gen.SsdOutDw.Frame
public import proofs.«01_k».proof.Proof.Gen.SsdOutDwIdeal
public import proofs.«01_k».proof.Proof.Gen.SsdOutDwIdeal.Skeleton
public import proofs.«01_k».proof.Proof.Gen.SsdOutDwIdeal.Launch
public import proofs.«01_k».proof.Proof.Gen.SsdOutDwIdeal.Points
public import proofs.«01_k».proof.Proof.Gen.SsdOutDwIdeal.Frame
public import proofs.«01_k».proof.Proof.Gen.SsdOutDwRefIdeal
public import proofs.«01_k».proof.Proof.Gen.SsdInDw
public import proofs.«01_k».proof.Proof.Gen.SsdInDw.Skeleton
public import proofs.«01_k».proof.Proof.Gen.SsdInDw.Launch
public import proofs.«01_k».proof.Proof.Gen.SsdInDw.Points
public import proofs.«01_k».proof.Proof.Gen.SsdInDw.Frame
public import proofs.«01_k».proof.Proof.Gen.SsdInDwIdeal
public import proofs.«01_k».proof.Proof.Gen.SsdInDwIdeal.Skeleton
public import proofs.«01_k».proof.Proof.Gen.SsdInDwIdeal.Launch
public import proofs.«01_k».proof.Proof.Gen.SsdInDwIdeal.Points
public import proofs.«01_k».proof.Proof.Gen.SsdInDwIdeal.Frame
public import proofs.«01_k».proof.Proof.Gen.SsdInDwRefIdeal
public import proofs.«01_k».proof.Proof.Gen.SsdInDx
public import proofs.«01_k».proof.Proof.Gen.SsdInDx.Skeleton
public import proofs.«01_k».proof.Proof.Gen.SsdInDx.Launch
public import proofs.«01_k».proof.Proof.Gen.SsdInDx.Points
public import proofs.«01_k».proof.Proof.Gen.SsdInDx.Frame
public import proofs.«01_k».proof.Proof.Gen.SsdInDxIdeal
public import proofs.«01_k».proof.Proof.Gen.SsdInDxIdeal.Skeleton
public import proofs.«01_k».proof.Proof.Gen.SsdInDxIdeal.Launch
public import proofs.«01_k».proof.Proof.Gen.SsdInDxIdeal.Points
public import proofs.«01_k».proof.Proof.Gen.SsdInDxIdeal.Frame
public import proofs.«01_k».proof.Proof.Gen.SsdInDxRefIdeal
public import proofs.«01_k».proof.Proof.Gen.ScIn
public import proofs.«01_k».proof.Proof.Gen.ScIn.Skeleton
public import proofs.«01_k».proof.Proof.Gen.ScIn.Launch
public import proofs.«01_k».proof.Proof.Gen.ScIn.Points
public import proofs.«01_k».proof.Proof.Gen.ScIn.Frame
public import proofs.«01_k».proof.Proof.Gen.ScInIdeal
public import proofs.«01_k».proof.Proof.Gen.ScInIdeal.Skeleton
public import proofs.«01_k».proof.Proof.Gen.ScInIdeal.Launch
public import proofs.«01_k».proof.Proof.Gen.ScInIdeal.Points
public import proofs.«01_k».proof.Proof.Gen.ScInIdeal.Frame
public import proofs.«01_k».proof.Proof.Gen.ScInRefIdeal
public import proofs.«01_k».proof.Proof.Gen.ScOut
public import proofs.«01_k».proof.Proof.Gen.ScOut.Skeleton
public import proofs.«01_k».proof.Proof.Gen.ScOut.Launch
public import proofs.«01_k».proof.Proof.Gen.ScOut.Points
public import proofs.«01_k».proof.Proof.Gen.ScOut.Frame
public import proofs.«01_k».proof.Proof.Gen.ScOutIdeal
public import proofs.«01_k».proof.Proof.Gen.ScOutIdeal.Skeleton
public import proofs.«01_k».proof.Proof.Gen.ScOutIdeal.Launch
public import proofs.«01_k».proof.Proof.Gen.ScOutIdeal.Points
public import proofs.«01_k».proof.Proof.Gen.ScOutIdeal.Frame
public import proofs.«01_k».proof.Proof.Gen.ScOutRefIdeal
public import proofs.«01_k».proof.Proof.Gen.ScOutDx
public import proofs.«01_k».proof.Proof.Gen.ScOutDx.Skeleton
public import proofs.«01_k».proof.Proof.Gen.ScOutDx.Launch
public import proofs.«01_k».proof.Proof.Gen.ScOutDx.Points
public import proofs.«01_k».proof.Proof.Gen.ScOutDx.Frame
public import proofs.«01_k».proof.Proof.Gen.ScOutDxIdeal
public import proofs.«01_k».proof.Proof.Gen.ScOutDxIdeal.Skeleton
public import proofs.«01_k».proof.Proof.Gen.ScOutDxIdeal.Launch
public import proofs.«01_k».proof.Proof.Gen.ScOutDxIdeal.Points
public import proofs.«01_k».proof.Proof.Gen.ScOutDxIdeal.Frame
public import proofs.«01_k».proof.Proof.Gen.ScOutDxRefIdeal
public import proofs.«01_k».proof.Proof.Gen.ScOutDw
public import proofs.«01_k».proof.Proof.Gen.ScOutDw.Skeleton
public import proofs.«01_k».proof.Proof.Gen.ScOutDw.Launch
public import proofs.«01_k».proof.Proof.Gen.ScOutDw.Points
public import proofs.«01_k».proof.Proof.Gen.ScOutDw.Frame
public import proofs.«01_k».proof.Proof.Gen.ScOutDwIdeal
public import proofs.«01_k».proof.Proof.Gen.ScOutDwIdeal.Skeleton
public import proofs.«01_k».proof.Proof.Gen.ScOutDwIdeal.Launch
public import proofs.«01_k».proof.Proof.Gen.ScOutDwIdeal.Points
public import proofs.«01_k».proof.Proof.Gen.ScOutDwIdeal.Frame
public import proofs.«01_k».proof.Proof.Gen.ScOutDwRefIdeal
public import proofs.«01_k».proof.Proof.Gen.ScInDw
public import proofs.«01_k».proof.Proof.Gen.ScInDw.Skeleton
public import proofs.«01_k».proof.Proof.Gen.ScInDw.Launch
public import proofs.«01_k».proof.Proof.Gen.ScInDw.Points
public import proofs.«01_k».proof.Proof.Gen.ScInDw.Frame
public import proofs.«01_k».proof.Proof.Gen.ScInDwIdeal
public import proofs.«01_k».proof.Proof.Gen.ScInDwIdeal.Skeleton
public import proofs.«01_k».proof.Proof.Gen.ScInDwIdeal.Launch
public import proofs.«01_k».proof.Proof.Gen.ScInDwIdeal.Points
public import proofs.«01_k».proof.Proof.Gen.ScInDwIdeal.Frame
public import proofs.«01_k».proof.Proof.Gen.ScInDwRefIdeal
public import proofs.«01_k».proof.Proof.Gen.ScInDx
public import proofs.«01_k».proof.Proof.Gen.ScInDx.Skeleton
public import proofs.«01_k».proof.Proof.Gen.ScInDx.Launch
public import proofs.«01_k».proof.Proof.Gen.ScInDx.Points
public import proofs.«01_k».proof.Proof.Gen.ScInDx.Frame
public import proofs.«01_k».proof.Proof.Gen.ScInDxIdeal
public import proofs.«01_k».proof.Proof.Gen.ScInDxIdeal.Skeleton
public import proofs.«01_k».proof.Proof.Gen.ScInDxIdeal.Launch
public import proofs.«01_k».proof.Proof.Gen.ScInDxIdeal.Points
public import proofs.«01_k».proof.Proof.Gen.ScInDxIdeal.Frame
public import proofs.«01_k».proof.Proof.Gen.ScInDxRefIdeal
public import proofs.«01_k».proof.Proof.Gen.SsdCoreBwd
public import proofs.«01_k».proof.Proof.Gen.SsdCoreBwd.Skeleton
public import proofs.«01_k».proof.Proof.Gen.SsdCoreBwd.Launch
public import proofs.«01_k».proof.Proof.Gen.SsdCoreBwd.Points
public import proofs.«01_k».proof.Proof.Gen.SsdCoreBwd.Frame
public import proofs.«01_k».proof.Proof.Gen.SsdCoreBwdIdeal
public import proofs.«01_k».proof.Proof.Gen.SsdCoreBwdIdeal.Skeleton
public import proofs.«01_k».proof.Proof.Gen.SsdCoreBwdIdeal.Launch
public import proofs.«01_k».proof.Proof.Gen.SsdCoreBwdIdeal.Points
public import proofs.«01_k».proof.Proof.Gen.SsdCoreBwdIdeal.Frame
public import proofs.«01_k».proof.Proof.Gen.SsdCoreBwdRefIdeal
public import proofs.«01_k».proof.Proof.Gen.FfnActBwd
public import proofs.«01_k».proof.Proof.Gen.FfnActBwd.Skeleton
public import proofs.«01_k».proof.Proof.Gen.FfnActBwd.Launch
public import proofs.«01_k».proof.Proof.Gen.FfnActBwd.Points
public import proofs.«01_k».proof.Proof.Gen.FfnActBwd.Frame
public import proofs.«01_k».proof.Proof.Gen.FfnActBwdIdeal
public import proofs.«01_k».proof.Proof.Gen.FfnActBwdIdeal.Skeleton
public import proofs.«01_k».proof.Proof.Gen.FfnActBwdIdeal.Launch
public import proofs.«01_k».proof.Proof.Gen.FfnActBwdIdeal.Points
public import proofs.«01_k».proof.Proof.Gen.FfnActBwdIdeal.Frame
public import proofs.«01_k».proof.Proof.Gen.FfnActBwdRefIdeal
public import proofs.«01_k».proof.Proof.Gen.FfnActFwd
public import proofs.«01_k».proof.Proof.Gen.FfnActFwd.Skeleton
public import proofs.«01_k».proof.Proof.Gen.FfnActFwd.Launch
public import proofs.«01_k».proof.Proof.Gen.FfnActFwd.Points
public import proofs.«01_k».proof.Proof.Gen.FfnActFwd.Frame
public import proofs.«01_k».proof.Proof.Gen.FfnActFwdIdeal
public import proofs.«01_k».proof.Proof.Gen.FfnActFwdIdeal.Skeleton
public import proofs.«01_k».proof.Proof.Gen.FfnActFwdIdeal.Launch
public import proofs.«01_k».proof.Proof.Gen.FfnActFwdIdeal.Points
public import proofs.«01_k».proof.Proof.Gen.FfnActFwdIdeal.Frame
public import proofs.«01_k».proof.Proof.Gen.FfnActFwdRefIdeal
public import proofs.«01_k».proof.Proof.Gen.ScActFwd
public import proofs.«01_k».proof.Proof.Gen.ScActFwd.Skeleton
public import proofs.«01_k».proof.Proof.Gen.ScActFwd.Launch
public import proofs.«01_k».proof.Proof.Gen.ScActFwd.Points
public import proofs.«01_k».proof.Proof.Gen.ScActFwd.Frame
public import proofs.«01_k».proof.Proof.Gen.ScActFwdIdeal
public import proofs.«01_k».proof.Proof.Gen.ScActFwdIdeal.Skeleton
public import proofs.«01_k».proof.Proof.Gen.ScActFwdIdeal.Launch
public import proofs.«01_k».proof.Proof.Gen.ScActFwdIdeal.Points
public import proofs.«01_k».proof.Proof.Gen.ScActFwdIdeal.Frame
public import proofs.«01_k».proof.Proof.Gen.ScActFwdRefIdeal
public import proofs.«01_k».proof.Proof.Gen.SsdConvFwd
public import proofs.«01_k».proof.Proof.Gen.SsdConvFwd.Skeleton
public import proofs.«01_k».proof.Proof.Gen.SsdConvFwd.Launch
public import proofs.«01_k».proof.Proof.Gen.SsdConvFwd.Points
public import proofs.«01_k».proof.Proof.Gen.SsdConvFwd.Frame
public import proofs.«01_k».proof.Proof.Gen.SsdConvFwdIdeal
public import proofs.«01_k».proof.Proof.Gen.SsdConvFwdIdeal.Skeleton
public import proofs.«01_k».proof.Proof.Gen.SsdConvFwdIdeal.Launch
public import proofs.«01_k».proof.Proof.Gen.SsdConvFwdIdeal.Points
public import proofs.«01_k».proof.Proof.Gen.SsdConvFwdIdeal.Frame
public import proofs.«01_k».proof.Proof.Gen.SsdConvFwdRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.AdamwSmall
public import proofs.«01_k».proof.Proof.Gen.AdamwSmall.Skeleton
public import proofs.«01_k».proof.Proof.Gen.AdamwSmall.Launch
public import proofs.«01_k».proof.Proof.Gen.AdamwSmall.Points
public import proofs.«01_k».proof.Proof.Gen.AdamwSmall.Frame
public import proofs.«01_k».proof.Proof.Gen.AdamwSmallIdeal
public import proofs.«01_k».proof.Proof.Gen.AdamwSmallIdeal.Skeleton
public import proofs.«01_k».proof.Proof.Gen.AdamwSmallIdeal.Launch
public import proofs.«01_k».proof.Proof.Gen.AdamwSmallIdeal.Points
public import proofs.«01_k».proof.Proof.Gen.AdamwSmallIdeal.Frame
public import proofs.«01_k».proof.Proof.Gen.AdamwSmallRefIdeal
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.SsdConvBwd
public import proofs.«01_k».proof.Proof.Gen.SsdConvBwd.Skeleton
public import proofs.«01_k».proof.Proof.Gen.SsdConvBwd.Launch
public import proofs.«01_k».proof.Proof.Gen.SsdConvBwd.Points
public import proofs.«01_k».proof.Proof.Gen.SsdConvBwd.Frame
public import proofs.«01_k».proof.Proof.Gen.SsdConvBwdIdeal
public import proofs.«01_k».proof.Proof.Gen.SsdConvBwdIdeal.Skeleton
public import proofs.«01_k».proof.Proof.Gen.SsdConvBwdIdeal.Launch
public import proofs.«01_k».proof.Proof.Gen.SsdConvBwdIdeal.Points
public import proofs.«01_k».proof.Proof.Gen.SsdConvBwdIdeal.Frame
public import proofs.«01_k».proof.Proof.Gen.SsdConvBwdRefIdeal
public import proofs.«01_k».proof.Proof.Gen.SsdPutDdt
public import proofs.«01_k».proof.Proof.Gen.SsdPutDdt.Skeleton
public import proofs.«01_k».proof.Proof.Gen.SsdPutDdt.Launch
public import proofs.«01_k».proof.Proof.Gen.SsdPutDdt.Points
public import proofs.«01_k».proof.Proof.Gen.SsdPutDdt.Frame
public import proofs.«01_k».proof.Proof.Gen.SsdPutDdtIdeal
public import proofs.«01_k».proof.Proof.Gen.SsdPutDdtIdeal.Skeleton
public import proofs.«01_k».proof.Proof.Gen.SsdPutDdtIdeal.Launch
public import proofs.«01_k».proof.Proof.Gen.SsdPutDdtIdeal.Points
public import proofs.«01_k».proof.Proof.Gen.SsdPutDdtIdeal.Frame
public import proofs.«01_k».proof.Proof.Gen.SsdPutDdtRefIdeal
public import proofs.«01_k».proof.Proof.Gen.Pre_finite
public import proofs.«01_k».proof.Proof.Gen.Pre_finite_ffn
public import proofs.«01_k».proof.Proof.Gen.Pre_finite_ct
public import proofs.«01_k».proof.Proof.Products
public import proofs.«01_k».proof.Proof.ScEq
public import proofs.«01_k».proof.Proof.SsdValue
public import proofs.«01_k».proof.Proof.PutValue
public import proofs.«01_k».proof.Proof.ConvBwdValue
public import proofs.«01_k».proof.Proof.LossHeadValue
public import proofs.«01_k».proof.Proof.NormBwdValue
public import proofs.«01_k».proof.Proof.FfnValue
public import proofs.«01_k».proof.Proof.AdamValue
public import proofs.«01_k».proof.Proof.ScFwdValue
public import proofs.«01_k».proof.Proof.NormValue
public import proofs.«01_k».proof.Proof.ConvFwdValue
public import Idealize.ShloMosaic.Lib.Claim
public import Idealize.ShloMosaic.Adequacy
public import Idealize.ShloMosaic.Init

/-!
Every claim of the statement, assembled. The products are proved in Proof/Products.lean; the short convolution's
gradient is proved in Proof/ScEq.lean and the modules it imports, and stated as a claim here; the recurrence's gradient is
proved in Proof/SsdValue.lean and the modules it imports; the convolution and gate of the feed-forward layer in Proof/FfnValue.lean.
The other calls: Proof/ScFwdValue.lean, Proof/ConvFwdValue.lean, Proof/ConvBwdValue.lean, Proof/PutValue.lean, Proof/NormValue.lean, Proof/NormBwdValue.lean, Proof/LossHeadValue.lean and Proof/AdamValue.lean.
-/

@[expose] public section

set_option maxRecDepth 16384

noncomputable section

namespace Cert.Proof

open Idealize.ShloMosaic Idealize.SL.Sem

/-- The two results of the short convolution's gradient are the reference's, over the extended reals. -/
theorem ScActBwd_value : Cert.algebraic_ScActBwdIdeal_ScActBwdRefIdeal := by
  pair_intro
  · run_from Cert.ScActBwdIdeal.Gen.run_main m g
  · run_from Cert.ScActBwdRefIdeal.Value.run m' g'
    · obtain ⟨a0, a1, a2⟩ := hagree c
      refine (Cert.ScActBwdRefIdeal.Read.val_main_v80_eq m' c).trans (Eq.trans ?_ (Cert.ScActBwdIdeal.Value.planes_eq m c).symm)
      rw [a0, a1, a2]
    · exact (Cert.ScActBwdRefIdeal.Read.val_main_v65_eq _ _).trans (Cert.ScActBwdIdeal.Value.taps_eq m c).symm

theorem ScActBwd_ref : Cert.quiescent_ScActBwdRefIdeal := fun m ρ _ =>
  (θ_run Cert.ScActBwdRefIdeal.defs _ _).mono (fun r h => ⟨fun c => (h c).2.2, sem_eq_zero_of_no_sems rfl _⟩) (Cert.ScActBwdRefIdeal.Value.run m ρ)

theorem claim : Cert.Claim := ⟨Cert.ScActBwd.Gen.facts,
  Cert.ScActBwdIdeal.Gen.facts,
  Cert.ScActBwdRefIdeal.Gen.facts,
  Cert.FfnDown.Gen.facts,
  Cert.FfnDownIdeal.Gen.facts,
  Cert.FfnDownRefIdeal.Gen.facts,
  Cert.FfnDownDx.Gen.facts,
  Cert.FfnDownDxIdeal.Gen.facts,
  Cert.FfnDownDxRefIdeal.Gen.facts,
  Cert.FfnDownDw.Gen.facts,
  Cert.FfnDownDwIdeal.Gen.facts,
  Cert.FfnDownDwRefIdeal.Gen.facts,
  Cert.FfnUp.Gen.facts,
  Cert.FfnUpIdeal.Gen.facts,
  Cert.FfnUpRefIdeal.Gen.facts,
  Cert.FfnUpDw.Gen.facts,
  Cert.FfnUpDwIdeal.Gen.facts,
  Cert.FfnUpDwRefIdeal.Gen.facts,
  Cert.FfnUpDx.Gen.facts,
  Cert.FfnUpDxIdeal.Gen.facts,
  Cert.FfnUpDxRefIdeal.Gen.facts,
  Cert.SsdIn.Gen.facts,
  Cert.SsdInIdeal.Gen.facts,
  Cert.SsdInRefIdeal.Gen.facts,
  Cert.SsdOut.Gen.facts,
  Cert.SsdOutIdeal.Gen.facts,
  Cert.SsdOutRefIdeal.Gen.facts,
  Cert.SsdOutDx.Gen.facts,
  Cert.SsdOutDxIdeal.Gen.facts,
  Cert.SsdOutDxRefIdeal.Gen.facts,
  Cert.SsdOutDw.Gen.facts,
  Cert.SsdOutDwIdeal.Gen.facts,
  Cert.SsdOutDwRefIdeal.Gen.facts,
  Cert.SsdInDw.Gen.facts,
  Cert.SsdInDwIdeal.Gen.facts,
  Cert.SsdInDwRefIdeal.Gen.facts,
  Cert.SsdInDx.Gen.facts,
  Cert.SsdInDxIdeal.Gen.facts,
  Cert.SsdInDxRefIdeal.Gen.facts,
  Cert.ScIn.Gen.facts,
  Cert.ScInIdeal.Gen.facts,
  Cert.ScInRefIdeal.Gen.facts,
  Cert.ScOut.Gen.facts,
  Cert.ScOutIdeal.Gen.facts,
  Cert.ScOutRefIdeal.Gen.facts,
  Cert.ScOutDx.Gen.facts,
  Cert.ScOutDxIdeal.Gen.facts,
  Cert.ScOutDxRefIdeal.Gen.facts,
  Cert.ScOutDw.Gen.facts,
  Cert.ScOutDwIdeal.Gen.facts,
  Cert.ScOutDwRefIdeal.Gen.facts,
  Cert.ScInDw.Gen.facts,
  Cert.ScInDwIdeal.Gen.facts,
  Cert.ScInDwRefIdeal.Gen.facts,
  Cert.ScInDx.Gen.facts,
  Cert.ScInDxIdeal.Gen.facts,
  Cert.ScInDxRefIdeal.Gen.facts,
  Cert.SsdCoreBwd.Gen.facts,
  Cert.SsdCoreBwdIdeal.Gen.facts,
  Cert.SsdCoreBwdRefIdeal.Gen.facts,
  Cert.FfnActBwd.Gen.facts,
  Cert.FfnActBwdIdeal.Gen.facts,
  Cert.FfnActBwdRefIdeal.Gen.facts,
  Cert.FfnActFwd.Gen.facts,
  Cert.FfnActFwdIdeal.Gen.facts,
  Cert.FfnActFwdRefIdeal.Gen.facts,
  Cert.ScActFwd.Gen.facts,
  Cert.ScActFwdIdeal.Gen.facts,
  Cert.ScActFwdRefIdeal.Gen.facts,
  Cert.SsdConvFwd.Gen.facts,
  Cert.SsdConvFwdIdeal.Gen.facts,
  Cert.SsdConvFwdRefIdeal.Gen.facts,
  Cert.NormFwd.Gen.facts,
  Cert.NormFwdIdeal.Gen.facts,
  Cert.NormFwdRefIdeal.Gen.facts,
  Cert.AdamwSmall.Gen.facts,
  Cert.AdamwSmallIdeal.Gen.facts,
  Cert.AdamwSmallRefIdeal.Gen.facts,
  Cert.NormBwd.Gen.facts,
  Cert.NormBwdIdeal.Gen.facts,
  Cert.NormBwdRefIdeal.Gen.facts,
  Cert.LossHead.Gen.facts,
  Cert.LossHeadIdeal.Gen.facts,
  Cert.LossHeadRefIdeal.Gen.facts,
  Cert.SsdConvBwd.Gen.facts,
  Cert.SsdConvBwdIdeal.Gen.facts,
  Cert.SsdConvBwdRefIdeal.Gen.facts,
  Cert.SsdPutDdt.Gen.facts,
  Cert.SsdPutDdtIdeal.Gen.facts,
  Cert.SsdPutDdtRefIdeal.Gen.facts,
  Cert.Pre_finite.Gen.facts,
  Cert.Pre_finite_ffn.Gen.facts,
  Cert.Pre_finite_ct.Gen.facts,
  (fun m ρ _ => Cert.ScActBwd.Gen.frame m ρ),
  (fun m ρ _ => Cert.ScActBwdIdeal.Gen.frame m ρ),
  ScActBwd_ref,
  (fun m ρ _ => Cert.FfnDown.Gen.frame m ρ),
  (fun m ρ _ => Cert.FfnDownIdeal.Gen.frame m ρ),
  Products.FfnDown_ref,
  (fun m ρ _ => Cert.FfnDownDx.Gen.frame m ρ),
  (fun m ρ _ => Cert.FfnDownDxIdeal.Gen.frame m ρ),
  Products.FfnDownDx_ref,
  (fun m ρ _ => Cert.FfnDownDw.Gen.frame m ρ),
  (fun m ρ _ => Cert.FfnDownDwIdeal.Gen.frame m ρ),
  Products.FfnDownDw_ref,
  (fun m ρ _ => Cert.FfnUp.Gen.frame m ρ),
  (fun m ρ _ => Cert.FfnUpIdeal.Gen.frame m ρ),
  Products.FfnUp_ref,
  (fun m ρ _ => Cert.FfnUpDw.Gen.frame m ρ),
  (fun m ρ _ => Cert.FfnUpDwIdeal.Gen.frame m ρ),
  Products.FfnUpDw_ref,
  (fun m ρ _ => Cert.FfnUpDx.Gen.frame m ρ),
  (fun m ρ _ => Cert.FfnUpDxIdeal.Gen.frame m ρ),
  Products.FfnUpDx_ref,
  (fun m ρ _ => Cert.SsdIn.Gen.frame m ρ),
  (fun m ρ _ => Cert.SsdInIdeal.Gen.frame m ρ),
  Products.SsdIn_ref,
  (fun m ρ _ => Cert.SsdOut.Gen.frame m ρ),
  (fun m ρ _ => Cert.SsdOutIdeal.Gen.frame m ρ),
  Products.SsdOut_ref,
  (fun m ρ _ => Cert.SsdOutDx.Gen.frame m ρ),
  (fun m ρ _ => Cert.SsdOutDxIdeal.Gen.frame m ρ),
  Products.SsdOutDx_ref,
  (fun m ρ _ => Cert.SsdOutDw.Gen.frame m ρ),
  (fun m ρ _ => Cert.SsdOutDwIdeal.Gen.frame m ρ),
  Products.SsdOutDw_ref,
  (fun m ρ _ => Cert.SsdInDw.Gen.frame m ρ),
  (fun m ρ _ => Cert.SsdInDwIdeal.Gen.frame m ρ),
  Products.SsdInDw_ref,
  (fun m ρ _ => Cert.SsdInDx.Gen.frame m ρ),
  (fun m ρ _ => Cert.SsdInDxIdeal.Gen.frame m ρ),
  Products.SsdInDx_ref,
  (fun m ρ _ => Cert.ScIn.Gen.frame m ρ),
  (fun m ρ _ => Cert.ScInIdeal.Gen.frame m ρ),
  Products.ScIn_ref,
  (fun m ρ _ => Cert.ScOut.Gen.frame m ρ),
  (fun m ρ _ => Cert.ScOutIdeal.Gen.frame m ρ),
  Products.ScOut_ref,
  (fun m ρ _ => Cert.ScOutDx.Gen.frame m ρ),
  (fun m ρ _ => Cert.ScOutDxIdeal.Gen.frame m ρ),
  Products.ScOutDx_ref,
  (fun m ρ _ => Cert.ScOutDw.Gen.frame m ρ),
  (fun m ρ _ => Cert.ScOutDwIdeal.Gen.frame m ρ),
  Products.ScOutDw_ref,
  (fun m ρ _ => Cert.ScInDw.Gen.frame m ρ),
  (fun m ρ _ => Cert.ScInDwIdeal.Gen.frame m ρ),
  Products.ScInDw_ref,
  (fun m ρ _ => Cert.ScInDx.Gen.frame m ρ),
  (fun m ρ _ => Cert.ScInDxIdeal.Gen.frame m ρ),
  Products.ScInDx_ref,
  (fun m ρ _ => Cert.SsdCoreBwd.Gen.frame m ρ),
  (fun m ρ _ => Cert.SsdCoreBwdIdeal.Gen.frame m ρ),
  (fun m ρ _ => Cert.SsdCoreBwdIdeal.Gen.frame m ρ),
  SsdCoreBwd_ref,
  (fun m ρ _ => SsdCoreBwd_ref m ρ trivial),
  (fun m ρ _ => Cert.FfnActBwd.Gen.frame m ρ),
  (fun m ρ _ => Cert.FfnActBwdIdeal.Gen.frame m ρ),
  (fun m ρ _ => Cert.FfnActBwdIdeal.Gen.frame m ρ),
  FfnActBwd_ref,
  (fun m ρ _ => FfnActBwd_ref m ρ trivial),
  (fun m ρ _ => Cert.FfnActFwd.Gen.frame m ρ),
  (fun m ρ _ => Cert.FfnActFwdIdeal.Gen.frame m ρ),
  FfnActFwd_ref,
  (fun m ρ _ => Cert.ScActFwd.Gen.frame m ρ),
  (fun m ρ _ => Cert.ScActFwdIdeal.Gen.frame m ρ),
  ScActFwd_ref,
  (fun m ρ _ => Cert.SsdConvFwd.Gen.frame m ρ),
  (fun m ρ _ => Cert.SsdConvFwdIdeal.Gen.frame m ρ),
  SsdConvFwd_ref,
  (fun m ρ _ => Cert.NormFwd.Gen.frame m ρ),
  (fun m ρ _ => Cert.NormFwdIdeal.Gen.frame m ρ),
  NormFwd_ref,
  (fun m ρ _ => Cert.AdamwSmall.Gen.frame m ρ),
  (fun m ρ _ => Cert.AdamwSmallIdeal.Gen.frame m ρ),
  AdamwSmall_ref,
  (fun m ρ _ => Cert.NormBwd.Gen.frame m ρ),
  (fun m ρ _ => Cert.NormBwdIdeal.Gen.frame m ρ),
  NormBwd_ref,
  (fun m ρ _ => Cert.LossHead.Gen.frame m ρ),
  (fun m ρ _ => Cert.LossHeadIdeal.Gen.frame m ρ),
  LossHead_ref,
  (fun m ρ _ => Cert.SsdConvBwd.Gen.frame m ρ),
  (fun m ρ _ => Cert.SsdConvBwdIdeal.Gen.frame m ρ),
  (fun m ρ _ => Cert.SsdConvBwdIdeal.Gen.frame m ρ),
  SsdConvBwd_ref,
  (fun m ρ _ => SsdConvBwd_ref m ρ trivial),
  (fun m ρ _ => Cert.SsdPutDdt.Gen.frame m ρ),
  (fun m ρ _ => Cert.SsdPutDdtIdeal.Gen.frame m ρ),
  SsdPutDdt_ref,
  trivial,
  ScActBwd_value,
  trivial,
  Products.FfnDown_value,
  trivial,
  Products.FfnDownDx_value,
  trivial,
  Products.FfnDownDw_value,
  trivial,
  Products.FfnUp_value,
  trivial,
  Products.FfnUpDw_value,
  trivial,
  Products.FfnUpDx_value,
  trivial,
  Products.SsdIn_value,
  trivial,
  Products.SsdOut_value,
  trivial,
  Products.SsdOutDx_value,
  trivial,
  Products.SsdOutDw_value,
  trivial,
  Products.SsdInDw_value,
  trivial,
  Products.SsdInDx_value,
  trivial,
  Products.ScIn_value,
  trivial,
  Products.ScOut_value,
  trivial,
  Products.ScOutDx_value,
  trivial,
  Products.ScOutDw_value,
  trivial,
  Products.ScInDw_value,
  trivial,
  Products.ScInDx_value,
  SsdCoreBwd_preserves,
  SsdCoreBwd_value,
  trivial,
  FfnActBwd_value,
  trivial,
  FfnActFwd_value,
  trivial,
  ScActFwd_value,
  trivial,
  SsdConvFwd_value,
  trivial,
  NormFwd_value,
  trivial,
  AdamwSmall_value,
  trivial,
  NormBwd_value,
  trivial,
  LossHead_value,
  trivial,
  SsdConvBwd_value,
  trivial,
  SsdPutDdt_value⟩

end Cert.Proof

end
